-- ==== Defs.lean ====
def Pre_Select (m : (ℓ : Loc Cert.Select.nD Cert.Select.τ Cert.Select.sig) → Buf (Elt Bits) ℓ) : Prop :=
  True

def Pre_Select_admissible [hPre_admissible : Cert.Pre_admissible.Facts] (m : (ℓ : Loc Cert.Select.nD Cert.Select.τ Cert.Select.sig) → Buf (Elt Bits) ℓ) : Prop :=
  ∀ c : Dev Cert.Select.nD,
    (Cert.Pre_admissible.fn (F := Bits) (m ((c.tc : Thread Cert.Select.nD Cert.Select.τ).loc Cert.Select.main_arg0))) = (fun _ => 1#1)

def Pre_Threshold (m : (ℓ : Loc Cert.Threshold.nD Cert.Threshold.τ Cert.Threshold.sig) → Buf (Elt Bits) ℓ) : Prop :=
  True

def Pre_Threshold_admissible [hPre_admissible : Cert.Pre_admissible.Facts] (m : (ℓ : Loc Cert.Threshold.nD Cert.Threshold.τ Cert.Threshold.sig) → Buf (Elt Bits) ℓ) : Prop :=
  ∀ c : Dev Cert.Threshold.nD,
    (Cert.Pre_admissible.fn (F := Bits) (m ((c.tc : Thread Cert.Threshold.nD Cert.Threshold.τ).loc Cert.Threshold.main_arg0))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodedIdeal (m : (ℓ : Loc Cert.EncodedIdeal.nD Cert.EncodedIdeal.τ Cert.EncodedIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodedIdeal (m : (ℓ : Loc Cert.DecodedIdeal.nD Cert.DecodedIdeal.τ Cert.DecodedIdeal.sig) → Buf (Elt Ideal) ℓ) : Prop :=
  True

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (Cert.Select.threads (F := Bits)) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_Select_pre_admissible [hSelect : Cert.Select.Facts] [hPre_admissible : Cert.Pre_admissible.Facts] : Prop :=
  ∀ (m : (ℓ : Loc Cert.Select.nD Cert.Select.τ Cert.Select.sig) → Buf (Elt Bits) ℓ) (g : Dev Cert.Select.nD → PrngReg), Pre_Select_admissible m →
    θ_run (Cert.Select.defs (F := Bits)) (Cert.Select.threads (F := Bits)) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_Threshold [hThreshold : Cert.Threshold.Facts] : Prop :=
  ∀ (m : (ℓ : Loc Cert.Threshold.nD Cert.Threshold.τ Cert.Threshold.sig) → Buf (Elt Bits) ℓ) (g : Dev Cert.Threshold.nD → PrngReg), Pre_Threshold m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0))
      ∧ r.2.sem = fun _ => 0)

def quiescent_Threshold_pre_admissible [hThreshold : Cert.Threshold.Facts] [hPre_admissible : Cert.Pre_admissible.Facts] : Prop :=
  ∀ (m : (ℓ : Loc Cert.Threshold.nD Cert.Threshold.τ Cert.Threshold.sig) → Buf (Elt Bits) ℓ) (g : Dev Cert.Threshold.nD → PrngReg), Pre_Threshold_admissible m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ r.2.sem = fun _ => 0)

def quiescent_EncodedIdeal [hEncodedIdeal : Cert.EncodedIdeal.Facts] : Prop :=
  ∀ (m : (ℓ : Loc Cert.EncodedIdeal.nD Cert.EncodedIdeal.τ Cert.EncodedIdeal.sig) → Buf (Elt Ideal) ℓ) (g : Dev Cert.EncodedIdeal.nD → PrngReg), Pre_EncodedIdeal m →
    θ_run (Cert.EncodedIdeal.defs (F := Ideal)) (onTc (τ := Cert.EncodedIdeal.τ) (Cert.EncodedIdeal.main (F := Ideal))) ⟨m, fun _ => 0, g⟩ (fun r => (∀ c : Dev Cert.EncodedIdeal.nD,
      r.2.mem ((c.tc : Thread Cert.EncodedIdeal.nD Cert.EncodedIdeal.τ).loc Cert.EncodedIdeal.main_arg0) = m ((c.tc : Thread Cert.EncodedIdeal.nD Cert.EncodedIdeal.τ).loc Cert.EncodedIdeal.main_arg0)
      ∧ r.2.mem ((c.tc : Thread Cert.EncodedIdeal.nD Cert.EncodedIdeal.τ).loc Cert.EncodedIdeal.main_arg1) = m ((c.tc : Thread Cert.EncodedIdeal.nD Cert.EncodedIdeal.τ).loc Cert.EncodedIdeal.main_arg1)
      ∧ r.2.mem ((c.tc : Thread Cert.EncodedIdeal.nD Cert.EncodedIdeal.τ).loc Cert.EncodedIdeal.main_arg2) = m ((c.tc : Thread Cert.EncodedIdeal.nD Cert.EncodedIdeal.τ).loc Cert.EncodedIdeal.main_arg2)
      ∧ r.2.mem ((c.tc : Thread Cert.EncodedIdeal.nD Cert.EncodedIdeal.τ).loc Cert.EncodedIdeal.main_arg3) = m ((c.tc : Thread Cert.EncodedIdeal.nD Cert.EncodedIdeal.τ).loc Cert.EncodedIdeal.main_arg3))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodedIdeal [hDecodedIdeal : Cert.DecodedIdeal.Facts] : Prop :=
  ∀ (m : (ℓ : Loc Cert.DecodedIdeal.nD Cert.DecodedIdeal.τ Cert.DecodedIdeal.sig) → Buf (Elt Ideal) ℓ) (g : Dev Cert.DecodedIdeal.nD → PrngReg), Pre_DecodedIdeal m →
    θ_run (Cert.DecodedIdeal.defs (F := Ideal)) (onTc (τ := Cert.DecodedIdeal.τ) (Cert.DecodedIdeal.main (F := Ideal))) ⟨m, fun _ => 0, g⟩ (fun r => (∀ c : Dev Cert.DecodedIdeal.nD,
      r.2.mem ((c.tc : Thread Cert.DecodedIdeal.nD Cert.DecodedIdeal.τ).loc Cert.DecodedIdeal.main_arg0) = m ((c.tc : Thread Cert.DecodedIdeal.nD Cert.DecodedIdeal.τ).loc Cert.DecodedIdeal.main_arg0)
      ∧ r.2.mem ((c.tc : Thread Cert.DecodedIdeal.nD Cert.DecodedIdeal.τ).loc Cert.DecodedIdeal.main_arg1) = m ((c.tc : Thread Cert.DecodedIdeal.nD Cert.DecodedIdeal.τ).loc Cert.DecodedIdeal.main_arg1)
      ∧ r.2.mem ((c.tc : Thread Cert.DecodedIdeal.nD Cert.DecodedIdeal.τ).loc Cert.DecodedIdeal.main_arg2) = m ((c.tc : Thread Cert.DecodedIdeal.nD Cert.DecodedIdeal.τ).loc Cert.DecodedIdeal.main_arg2)
      ∧ r.2.mem ((c.tc : Thread Cert.DecodedIdeal.nD Cert.DecodedIdeal.τ).loc Cert.DecodedIdeal.main_arg3) = m ((c.tc : Thread Cert.DecodedIdeal.nD Cert.DecodedIdeal.τ).loc Cert.DecodedIdeal.main_arg3))
      ∧ r.2.sem = fun _ => 0)

def bitexact_Select_Threshold_pre_admissible [hSelect : Cert.Select.Facts] [hThreshold : Cert.Threshold.Facts] [hPre_admissible : Cert.Pre_admissible.Facts] : Prop :=
  ∀ (m : (ℓ : Loc Cert.Select.nD Cert.Select.τ Cert.Select.sig) → Buf (Elt Bits) ℓ) (g : Dev Cert.Select.nD → PrngReg)
    (m' : (ℓ : Loc Cert.Threshold.nD Cert.Threshold.τ Cert.Threshold.sig) → Buf (Elt Bits) ℓ) (g' : Dev Cert.Threshold.nD → PrngReg), Pre_Select_admissible m →
    (∀ c : Dev Cert.Select.nD,
      m' ((c.tc : Thread Cert.Threshold.nD Cert.Threshold.τ).loc Cert.Threshold.main_arg0) = m ((c.tc : Thread Cert.Select.nD Cert.Select.τ).loc Cert.Select.main_arg0)) →
    ∃ (v0 : (c : Dev Cert.Select.nD) → Buf (Elt Bits) ((c.tc : Thread Cert.Select.nD Cert.Select.τ).loc Cert.Select.main_v0)),
      θ_run (Cert.Select.defs (F := Bits)) (Cert.Select.threads (F := Bits)) ⟨m, fun _ => 0, g⟩ (fun r => ∀ c : Dev Cert.Select.nD,
          r.2.mem ((c.tc : Thread Cert.Select.nD Cert.Select.τ).loc Cert.Select.main_v0) = v0 c
          ∧ r.2.mem ((c.tc : Thread Cert.Select.nD Cert.Select.τ).loc Cert.Select.main_arg0) = m ((c.tc : Thread Cert.Select.nD Cert.Select.τ).loc Cert.Select.main_arg0))
      ∧ θ_run (Cert.Threshold.defs (F := Bits)) (onTc (τ := Cert.Threshold.τ) (Cert.Threshold.main (F := Bits))) ⟨m', fun _ => 0, g'⟩ (fun r => ∀ c : Dev Cert.Threshold.nD,
          r.2.mem ((c.tc : Thread Cert.Threshold.nD Cert.Threshold.τ).loc Cert.Threshold.main_v7) = v0 c
          ∧ r.2.mem ((c.tc : Thread Cert.Threshold.nD Cert.Threshold.τ).loc Cert.Threshold.main_arg0) = m' ((c.tc : Thread Cert.Threshold.nD Cert.Threshold.τ).loc Cert.Threshold.main_arg0))

def preserves_Encode_EncodeIdeal : Prop :=
  True

def algebraic_EncodeIdeal_EncodedIdeal [hEncodeIdeal : Cert.EncodeIdeal.Facts] [hEncodedIdeal : Cert.EncodedIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodedIdeal.nD Cert.EncodedIdeal.τ Cert.EncodedIdeal.sig) → Buf (Elt Ideal) ℓ) (g' : Dev Cert.EncodedIdeal.nD → PrngReg), Pre_EncodeIdeal m →
    (∀ c : Dev Cert.EncodeIdeal.nD,
      m' ((c.tc : Thread Cert.EncodedIdeal.nD Cert.EncodedIdeal.τ).loc Cert.EncodedIdeal.main_arg0) = m ((c.tc : Thread Cert.EncodeIdeal.nD Cert.EncodeIdeal.τ).loc Cert.EncodeIdeal.main_arg0)
      ∧ m' ((c.tc : Thread Cert.EncodedIdeal.nD Cert.EncodedIdeal.τ).loc Cert.EncodedIdeal.main_arg1) = m ((c.tc : Thread Cert.EncodeIdeal.nD Cert.EncodeIdeal.τ).loc Cert.EncodeIdeal.main_arg1)
      ∧ m' ((c.tc : Thread Cert.EncodedIdeal.nD Cert.EncodedIdeal.τ).loc Cert.EncodedIdeal.main_arg2) = m ((c.tc : Thread Cert.EncodeIdeal.nD Cert.EncodeIdeal.τ).loc Cert.EncodeIdeal.main_arg2)
      ∧ m' ((c.tc : Thread Cert.EncodedIdeal.nD Cert.EncodedIdeal.τ).loc Cert.EncodedIdeal.main_arg3) = m ((c.tc : Thread Cert.EncodeIdeal.nD Cert.EncodeIdeal.τ).loc Cert.EncodeIdeal.main_arg3)) →
    ∃ (v0 : (c : Dev Cert.EncodeIdeal.nD) → Buf (Elt Ideal) ((c.tc : Thread Cert.EncodeIdeal.nD Cert.EncodeIdeal.τ).loc Cert.EncodeIdeal.main_v0)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v0) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ θ_run (Cert.EncodedIdeal.defs (F := Ideal)) (onTc (τ := Cert.EncodedIdeal.τ) (Cert.EncodedIdeal.main (F := Ideal))) ⟨m', fun _ => 0, g'⟩ (fun r => ∀ c : Dev Cert.EncodedIdeal.nD,
          r.2.mem ((c.tc : Thread Cert.EncodedIdeal.nD Cert.EncodedIdeal.τ).loc Cert.EncodedIdeal.main_v7) = v0 c
          ∧ r.2.mem ((c.tc : Thread Cert.EncodedIdeal.nD Cert.EncodedIdeal.τ).loc Cert.EncodedIdeal.main_arg0) = m' ((c.tc : Thread Cert.EncodedIdeal.nD Cert.EncodedIdeal.τ).loc Cert.EncodedIdeal.main_arg0)
          ∧ r.2.mem ((c.tc : Thread Cert.EncodedIdeal.nD Cert.EncodedIdeal.τ).loc Cert.EncodedIdeal.main_arg1) = m' ((c.tc : Thread Cert.EncodedIdeal.nD Cert.EncodedIdeal.τ).loc Cert.EncodedIdeal.main_arg1)
          ∧ r.2.mem ((c.tc : Thread Cert.EncodedIdeal.nD Cert.EncodedIdeal.τ).loc Cert.EncodedIdeal.main_arg2) = m' ((c.tc : Thread Cert.EncodedIdeal.nD Cert.EncodedIdeal.τ).loc Cert.EncodedIdeal.main_arg2)
          ∧ r.2.mem ((c.tc : Thread Cert.EncodedIdeal.nD Cert.EncodedIdeal.τ).loc Cert.EncodedIdeal.main_arg3) = m' ((c.tc : Thread Cert.EncodedIdeal.nD Cert.EncodedIdeal.τ).loc Cert.EncodedIdeal.main_arg3))

def preserves_Decode_DecodeIdeal : Prop :=
  True

def algebraic_DecodeIdeal_DecodedIdeal [hDecodeIdeal : Cert.DecodeIdeal.Facts] [hDecodedIdeal : Cert.DecodedIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodedIdeal.nD Cert.DecodedIdeal.τ Cert.DecodedIdeal.sig) → Buf (Elt Ideal) ℓ) (g' : Dev Cert.DecodedIdeal.nD → PrngReg), Pre_DecodeIdeal m →
    (∀ c : Dev Cert.DecodeIdeal.nD,
      m' ((c.tc : Thread Cert.DecodedIdeal.nD Cert.DecodedIdeal.τ).loc Cert.DecodedIdeal.main_arg0) = m ((c.tc : Thread Cert.DecodeIdeal.nD Cert.DecodeIdeal.τ).loc Cert.DecodeIdeal.main_arg0)
      ∧ m' ((c.tc : Thread Cert.DecodedIdeal.nD Cert.DecodedIdeal.τ).loc Cert.DecodedIdeal.main_arg1) = m ((c.tc : Thread Cert.DecodeIdeal.nD Cert.DecodeIdeal.τ).loc Cert.DecodeIdeal.main_arg1)
      ∧ m' ((c.tc : Thread Cert.DecodedIdeal.nD Cert.DecodedIdeal.τ).loc Cert.DecodedIdeal.main_arg2) = m ((c.tc : Thread Cert.DecodeIdeal.nD Cert.DecodeIdeal.τ).loc Cert.DecodeIdeal.main_arg2)
      ∧ m' ((c.tc : Thread Cert.DecodedIdeal.nD Cert.DecodedIdeal.τ).loc Cert.DecodedIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v1_0)) (v1 : (c : Dev Cert.DecodeIdeal.nD) → Buf (Elt Ideal) ((c.tc : Thread Cert.DecodeIdeal.nD Cert.DecodeIdeal.τ).loc Cert.DecodeIdeal.main_v1_1)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v1_0) = v0 c
          ∧ r.2.mem ((c.tc : Thread Cert.DecodeIdeal.nD Cert.DecodeIdeal.τ).loc Cert.DecodeIdeal.main_v1_1) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodedIdeal.defs (F := Ideal)) (onTc (τ := Cert.DecodedIdeal.τ) (Cert.DecodedIdeal.main (F := Ideal))) ⟨m', fun _ => 0, g'⟩ (fun r => ∀ c : Dev Cert.DecodedIdeal.nD,
          r.2.mem ((c.tc : Thread Cert.DecodedIdeal.nD Cert.DecodedIdeal.τ).loc Cert.DecodedIdeal.main_v8) = v0 c
          ∧ r.2.mem ((c.tc : Thread Cert.DecodedIdeal.nD Cert.DecodedIdeal.τ).loc Cert.DecodedIdeal.main_v3) = v1 c
          ∧ r.2.mem ((c.tc : Thread Cert.DecodedIdeal.nD Cert.DecodedIdeal.τ).loc Cert.DecodedIdeal.main_arg0) = m' ((c.tc : Thread Cert.DecodedIdeal.nD Cert.DecodedIdeal.τ).loc Cert.DecodedIdeal.main_arg0)
          ∧ r.2.mem ((c.tc : Thread Cert.DecodedIdeal.nD Cert.DecodedIdeal.τ).loc Cert.DecodedIdeal.main_arg1) = m' ((c.tc : Thread Cert.DecodedIdeal.nD Cert.DecodedIdeal.τ).loc Cert.DecodedIdeal.main_arg1)
          ∧ r.2.mem ((c.tc : Thread Cert.DecodedIdeal.nD Cert.DecodedIdeal.τ).loc Cert.DecodedIdeal.main_arg2) = m' ((c.tc : Thread Cert.DecodedIdeal.nD Cert.DecodedIdeal.τ).loc Cert.DecodedIdeal.main_arg2)
          ∧ r.2.mem ((c.tc : Thread Cert.DecodedIdeal.nD Cert.DecodedIdeal.τ).loc Cert.DecodedIdeal.main_arg3) = m' ((c.tc : Thread Cert.DecodedIdeal.nD Cert.DecodedIdeal.τ).loc Cert.DecodedIdeal.main_arg3))

def Claim : Prop :=
  ∃ (hSelect : Cert.Select.Facts) (hThreshold : Cert.Threshold.Facts) (hEncode : Cert.Encode.Facts) (hEncodeIdeal : Cert.EncodeIdeal.Facts) (hEncodedIdeal : Cert.EncodedIdeal.Facts) (hDecode : Cert.Decode.Facts) (hDecodeIdeal : Cert.DecodeIdeal.Facts) (hDecodedIdeal : Cert.DecodedIdeal.Facts) (hPre_admissible : Cert.Pre_admissible.Facts),
    quiescent_Select (hSelect := hSelect)
    ∧ quiescent_Select_pre_admissible (hSelect := hSelect) (hPre_admissible := hPre_admissible)
    ∧ quiescent_Threshold (hThreshold := hThreshold)
    ∧ quiescent_Threshold_pre_admissible (hThreshold := hThreshold) (hPre_admissible := hPre_admissible)
    ∧ quiescent_Encode (hEncode := hEncode)
    ∧ quiescent_EncodeIdeal (hEncodeIdeal := hEncodeIdeal)
    ∧ quiescent_EncodedIdeal (hEncodedIdeal := hEncodedIdeal)
    ∧ quiescent_Decode (hDecode := hDecode)
    ∧ quiescent_DecodeIdeal (hDecodeIdeal := hDecodeIdeal)
    ∧ quiescent_DecodedIdeal (hDecodedIdeal := hDecodedIdeal)
    ∧ bitexact_Select_Threshold_pre_admissible (hSelect := hSelect) (hThreshold := hThreshold) (hPre_admissible := hPre_admissible)
    ∧ preserves_Encode_EncodeIdeal
    ∧ algebraic_EncodeIdeal_EncodedIdeal (hEncodeIdeal := hEncodeIdeal) (hEncodedIdeal := hEncodedIdeal)
    ∧ preserves_Decode_DecodeIdeal
    ∧ algebraic_DecodeIdeal_DecodedIdeal (hDecodeIdeal := hDecodeIdeal) (hDecodedIdeal := hDecodedIdeal)
-- ==== Pre_admissible.lean ====
abbrev S8192x16384 : Shape := ⟨2, ![8192, 16384]⟩
abbrev S_ : Shape := ⟨0, ![]⟩
abbrev S8192 : Shape := ⟨1, ![8192]⟩

class Facts : Prop where
  bcast_S_S8192x16384 : S_.BroadcastsInDim S8192x16384 (![] : Fin 0 → Fin S8192x16384.rank)
  natLt_1_32 : 1 < 32
  reducesTo_S8192x16384_S8192_d1 : S8192x16384.ReducesTo [1] S8192
  h_S_ : 0 < S_.numel
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [BitOps F] (main_v4 : IVec S8192 32) (main_v11 : IVec S8192 32) (main_v14 : IVec S_ 1) (main_v15 : IVec S8192 32) : IVec S_ 1 :=
  let main_v16 : IVec S8192 1 := cmpi .sge main_v4 main_v15
  let main_v17 : IVec S8192 32 := addi main_v4 main_v11
  let main_c_7 : IVec S_ 32 := constantI S_ 32 64#32
  let main_v18 : IVec S8192 32 := broadcastInDim S8192 ![] bcast_S_S8192 main_c_7
  let main_v19 : IVec S8192 1 := cmpi .slt main_v17 main_v18
  let main_v20 : IVec S8192 1 := ori main_v16 main_v19
  let main_c_8 : IVec S_ 1 := constantI S_ 1 1#1
  let main_v21 : IVec S_ 1 := (fun x v => Host.reduce IntOp.andi x v reducesTo_S8192_S_d0 h_S_) main_v20 main_c_8
  let main_v22 : IVec S_ 1 := andi main_v14 main_v21
  main_v22

def fn {F : FTy → Type} [BitOps F] (main_arg0 : FVec F S8192x16384 .f32) : IVec S_ 1 :=
  let main_v0 : IVec S8192x16384 32 := bitcastToInt main_arg0
  let main_c : IVec S_ 32 := constantI S_ 32 0#32
  let main_v1 : IVec S8192x16384 32 := broadcastInDim S8192x16384 ![] bcast_S_S8192x16384 main_c
  let main_v2 : IVec S8192x16384 1 := cmpi .sge main_v0 main_v1
  let main_v3 : IVec S8192x16384 32 := (extui 32 · natLt_1_32) main_v2
  let main_c_0 : IVec S_ 32 := constantI S_ 32 0#32
  let main_v4 : IVec S8192 32 := (fun x v => Host.reduce IntOp.addi x v reducesTo_S8192x16384_S8192_d1 h_S_) main_v3 main_c_0
  let main_c_1 : IVec S_ 32 := constantI S_ 32 2#32
  let main_v5 : IVec S8192x16384 32 := broadcastInDim S8192x16384 ![] bcast_S_S8192x16384 main_c_1
  let main_v6 : IVec S8192x16384 1 := cmpi .sge main_v0 main_v5
  let main_c_2 : IVec S_ 32 := constantI S_ 32 33554432#32
  let main_v7 : IVec S8192x16384 32 := broadcastInDim S8192x16384 ![] bcast_S_S8192x16384 main_c_2
  let main_v8 : IVec S8192x16384 1 := cmpi .slt main_v0 main_v7
  let main_v9 : IVec S8192x16384 1 := andi main_v6 main_v8
  let main_v10 : IVec S8192x16384 32 := (extui 32 · natLt_1_32) main_v9
  let main_c_3 : IVec S_ 32 := constantI S_ 32 0#32
  let main_v11 : IVec S8192 32 := (fun x v => Host.reduce IntOp.addi x v reducesTo_S8192x16384_S8192_d1 h_S_) main_v10 main_c_3
  let main_c_4 : IVec S_ 32 := constantI S_ 32 2147483647#32
  let main_v12 : IVec S8192x16384 32 := broadcastInDim S8192x16384 ![] bcast_S_S8192x16384 main_c_4
  let main_v13 : IVec S8192x16384 1 := cmpi .ne main_v0 main_v12
  let main_c_5 : IVec S_ 1 := constantI S_ 1 1#1
  let main_v14 : IVec S_ 1 := (fun x v => Host.reduce IntOp.andi x v reducesTo_S8192x16384_S_d0_1 h_S_) main_v13 main_c_5
  let main_c_6 : IVec S_ 32 := constantI S_ 32 64#32
  let main_v15 : IVec S8192 32 := broadcastInDim S8192 ![] bcast_S_S8192 main_c_6
  fn_part1 (F := F) main_v4 main_v11 main_v14 main_v15
-- ==== Select.lean ====
abbrev S8192x16384 : Shape := ⟨2, ![8192, 16384]⟩
abbrev S8192 : Shape := ⟨1, ![8192]⟩
abbrev S2x16384 : Shape := ⟨2, ![2, 16384]⟩
abbrev S2080 : Shape := ⟨1, ![2080]⟩
abbrev S16400 : Shape := ⟨1, ![16400]⟩
abbrev S256 : Shape := ⟨1, ![256]⟩
abbrev S16 : Shape := ⟨1, ![16]⟩
abbrev S_ : Shape := ⟨0, ![]⟩
abbrev S1x16384 : Shape := ⟨2, ![1, 16384]⟩
abbrev S16384 : Shape := ⟨1, ![16384]⟩
abbrev S1x16 : Shape := ⟨2, ![1, 16]⟩

abbrev nBuf : Table → Nat
  | .hbm => 2
  | .local .scVector .vmem => 5
  | _ => 0

abbrev bufTy : (tb : Table) → Fin (nBuf tb) → BufTy
  | .hbm, ⟨0, _⟩ => ⟨S8192x16384, .f32⟩
  | .hbm, ⟨1, _⟩ => ⟨S8192, .f32⟩
  | .local .scVector .vmem, ⟨0, _⟩ => ⟨S2x16384, .f32⟩
  | .local .scVector .vmem, ⟨1, _⟩ => ⟨S2080, .i32⟩
  | .local .scVector .vmem, ⟨2, _⟩ => ⟨S16400, .i32⟩
  | .local .scVector .vmem, ⟨3, _⟩ => ⟨S256, .f32⟩
  | .local .scVector .vmem, ⟨4, _⟩ => ⟨S16, .i32⟩
  | _, _ => ⟨S8192x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_0 : BitVec 32 := 0#32
  let c130_i32 : BitVec 32 := 130#32
  let v10 : BitVec 32 := Scalar.addi c0_i32_0 c130_i32
  let c1_i32_1 : BitVec 32 := 1#32
  ⟨c0_i32_0, v10, c1_i32_1⟩
def k0_off1 (k0_t1 : Fin k0_t1_loop.trips) : Fin 1 → Nat :=
  let c0_i32_18 : BitVec 32 := 0#32
  let c0_i32_0 : BitVec 32 := 0#32
  let c1_i32_1 : BitVec 32 := 1#32
  let arg11 : BitVec 32 := Scf.iv c0_i32_0 c1_i32_1 k0_t1
  let c1_i32_17 : BitVec 32 := 1#32
  let v30 : BitVec 32 := Scalar.muli arg11 c1_i32_17
  let v31 : BitVec 32 := Scalar.addi c0_i32_18 v30
  let c16_i32_19 : BitVec 32 := 16#32
  let v32 : BitVec 32 := Scalar.muli v31 c16_i32_19
  let v33 : Index := Scalar.indexCast v32
  ![v33.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1_i32_8 : BitVec 32 := 1#32
  let v19 : BitVec 32 := Scalar.addi v2 c1_i32_8
  let c0_i32_11 : BitVec 32 := 0#32
  ![v19.toNat, 0]
@[reducible] def k0_t2_loop : Scf.Loop 32 :=
  let c0_i32_14 : BitVec 32 := 0#32
  let c128_i32 : BitVec 32 := 128#32
  let v28 : BitVec 32 := Scalar.addi c0_i32_14 c128_i32
  let c1_i32_15 : BitVec 32 := 1#32
  ⟨c0_i32_14, v28, c1_i32_15⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_19 : BitVec 32 := 2#32
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let v32 : BitVec 32 := Scalar.muli c2_i32_19 v31
  let v33 : BitVec 32 := Scalar.addi v2 v32
  let c0_i32_22 : BitVec 32 := 0#32
  ![v33.toNat, 0]
@[reducible] def k0_t3_loop : Scf.Loop 32 :=
  let c0_i32_29 : BitVec 32 := 0#32
  let c1024_i32 : BitVec 32 := 1024#32
  let v49 : BitVec 32 := Scalar.addi c0_i32_29 c1024_i32
  let c1_i32_30 : BitVec 32 := 1#32
  ⟨c0_i32_29, v49, c1_i32_30⟩
def k0_off5 (k0_t3 : Fin k0_t3_loop.trips) : Fin 2 → Nat :=
  let c0_i32_924 : BitVec 32 := 0#32
  let v1575 : Index := Scalar.indexCast c0_i32_924
  let c0_i32_922 : BitVec 32 := 0#32
  let c0_i32_29 : BitVec 32 := 0#32
  let c1_i32_30 : BitVec 32 := 1#32
  let arg13 : BitVec 32 := Scf.iv c0_i32_29 c1_i32_30 k0_t3
  let c1_i32_921 : BitVec 32 := 1#32
  let v1572 : BitVec 32 := Scalar.muli arg13 c1_i32_921
  let v1573 : BitVec 32 := Scalar.addi c0_i32_922 v1572
  let c16_i32_923 : BitVec 32 := 16#32
  let v1574 : BitVec 32 := Scalar.muli v1573 c16_i32_923
  let v1576 : Index := Scalar.indexCast v1574
  ![0, v1576.toNat]

def k0_chk1 (v1581 : IVec S16 32) : Prop :=
  (∀ a x, ((![v1581] : Fin 1 → IVec S16 32) a x).toNat < S2080.size a)
theorem k0_idx1_inb : ∀ (v1581 : IVec S16 32) (k0_hw1 : k0_chk1 v1581), ∀ a x, ((![v1581] : Fin 1 → IVec S16 32) a x).toNat < S2080.size a := fun v1581 k0_hw1 => k0_hw1

def k0_chk2 (v1587 : IVec S16 32) : Prop :=
  (∀ a x, ((![v1587] : Fin 1 → IVec S16 32) a x).toNat < S16400.size a)
theorem k0_idx2_inb : ∀ (v1587 : IVec S16 32) (k0_hw2 : k0_chk2 v1587), ∀ a x, ((![v1587] : Fin 1 → IVec S16 32) a x).toNat < S16400.size a := fun v1587 k0_hw2 => k0_hw2

def k0_chk3 (v104 : IVec S16 32) : Prop :=
  (∀ a x, ((![v104] : Fin 1 → IVec S16 32) a x).toNat < S16.size a)
theorem k0_idx3_inb : ∀ (v104 : IVec S16 32) (k0_hw3 : k0_chk3 v104), ∀ a x, ((![v104] : Fin 1 → IVec S16 32) a x).toNat < S16.size a := fun v104 k0_hw3 => k0_hw3

def k0_chk4 (v189 : IVec S16 32) : Prop :=
  (∀ a x, ((![v189] : Fin 1 → IVec S16 32) a x).toNat < S16.size a)
theorem k0_idx4_inb : ∀ (v189 : IVec S16 32) (k0_hw4 : k0_chk4 v189), ∀ a x, ((![v189] : Fin 1 → IVec S16 32) a x).toNat < S16.size a := fun v189 k0_hw4 => k0_hw4

def k0_chk5 (v274 : IVec S16 32) : Prop :=
  (∀ a x, ((![v274] : Fin 1 → IVec S16 32) a x).toNat < S16.size a)
theorem k0_idx5_inb : ∀ (v274 : IVec S16 32) (k0_hw5 : k0_chk5 v274), ∀ a x, ((![v274] : Fin 1 → IVec S16 32) a x).toNat < S16.size a := fun v274 k0_hw5 => k0_hw5

def k0_chk6 (v359 : IVec S16 32) : Prop :=
  (∀ a x, ((![v359] : Fin 1 → IVec S16 32) a x).toNat < S16.size a)
theorem k0_idx6_inb : ∀ (v359 : IVec S16 32) (k0_hw6 : k0_chk6 v359), ∀ a x, ((![v359] : Fin 1 → IVec S16 32) a x).toNat < S16.size a := fun v359 k0_hw6 => k0_hw6
@[reducible] def k0_t4_loop : Scf.Loop 32 :=
  let c0_i32_921 : BitVec 32 := 0#32
  let c1024_i32_922 : BitVec 32 := 1024#32
  let v1572 : BitVec 32 := Scalar.addi c0_i32_921 c1024_i32_922
  let c1_i32_923 : BitVec 32 := 1#32
  ⟨c0_i32_921, v1572, c1_i32_923⟩
def k0_off6 (k0_t4 : Fin k0_t4_loop.trips) : Fin 2 → Nat :=
  let c0_i32_929 : BitVec 32 := 0#32
  let v1578 : Index := Scalar.indexCast c0_i32_929
  let c0_i32_927 : BitVec 32 := 0#32
  let c0_i32_921 : BitVec 32 := 0#32
  let c1_i32_923 : BitVec 32 := 1#32
  let arg13 : BitVec 32 := Scf.iv c0_i32_921 c1_i32_923 k0_t4
  let c1_i32_926 : BitVec 32 := 1#32
  let v1575 : BitVec 32 := Scalar.muli arg13 c1_i32_926
  let v1576 : BitVec 32 := Scalar.addi c0_i32_927 v1575
  let c16_i32_928 : BitVec 32 := 16#32
  let v1577 : BitVec 32 := Scalar.muli v1576 c16_i32_928
  let v1579 : Index := Scalar.indexCast v1577
  ![0, v1579.toNat]
def k0_cond1 (arg12 : BitVec 32) (v101 : BitVec 32) (v115 : BitVec 32) (v186 : BitVec 32) (v200 : BitVec 32) (v271 : BitVec 32) (v285 : BitVec 32) (v356 : BitVec 32) (v370 : BitVec 32) : BitVec 1 :=
  let false_61 : BitVec 1 := 0#1
  let v_false : BitVec 1 := 0#1
  let true_51 : BitVec 1 := 1#1
  let v116 : BitVec 1 := Scalar.xori v_false true_51
  let c0_i32_52 : BitVec 32 := 0#32
  let v117 : BitVec 32 := Scalar.addi c0_i32_52 v101
  let c64_i32_53 : BitVec 32 := 64#32
  let v118 : BitVec 1 := Scalar.cmpi .sge v117 c64_i32_53
  let c16_i32_54 : BitVec 32 := 16#32
  let v119 : BitVec 1 := Scalar.cmpi .slt v115 c16_i32_54
  let v120 : BitVec 1 := Scalar.andi v118 v119
  let v121 : BitVec 1 := Scalar.andi v116 v120
  let v134 : BitVec 1 := Scalar.ori false_61 v121
  let true_85 : BitVec 1 := 1#1
  let v201 : BitVec 1 := Scalar.xori v134 true_85
  let c0_i32_62 : BitVec 32 := 0#32
  let v135 : BitVec 32 := Scalar.addi c0_i32_62 v101
  let v202 : BitVec 32 := Scalar.addi v135 v186
  let c64_i32_86 : BitVec 32 := 64#32
  let v203 : BitVec 1 := Scalar.cmpi .sge v202 c64_i32_86
  let c16_i32_87 : BitVec 32 := 16#32
  let v204 : BitVec 1 := Scalar.cmpi .slt v200 c16_i32_87
  let v205 : BitVec 1 := Scalar.andi v203 v204
  let v206 : BitVec 1 := Scalar.andi v201 v205
  let v219 : BitVec 1 := Scalar.ori v134 v206
  let true_113 : BitVec 1 := 1#1
  let v286 : BitVec 1 := Scalar.xori v219 true_113
  let v220 : BitVec 32 := Scalar.addi v135 v186
  let v287 : BitVec 32 := Scalar.addi v220 v271
  let c64_i32_114 : BitVec 32 := 64#32
  let v288 : BitVec 1 := Scalar.cmpi .sge v287 c64_i32_114
  let c16_i32_115 : BitVec 32 := 16#32
  let v289 : BitVec 1 := Scalar.cmpi .slt v285 c16_i32_115
  let v290 : BitVec 1 := Scalar.andi v288 v289
  let v291 : BitVec 1 := Scalar.andi v286 v290
  let v304 : BitVec 1 := Scalar.ori v219 v291
  let true_142 : BitVec 1 := 1#1
  let v371 : BitVec 1 := Scalar.xori v304 true_142
  let v305 : BitVec 32 := Scalar.addi v220 v271
  let v372 : BitVec 32 := Scalar.addi v305 v356
  let c64_i32_143 : BitVec 32 := 64#32
  let v373 : BitVec 1 := Scalar.cmpi .sge v372 c64_i32_143
  let c16_i32_144 : BitVec 32 := 16#32
  let v374 : BitVec 1 := Scalar.cmpi .slt v370 c16_i32_144
  let v375 : BitVec 1 := Scalar.andi v373 v374
  let v376 : BitVec 1 := Scalar.andi v371 v375
  let c15_i32_145 : BitVec 32 := 15#32
  let v377 : BitVec 32 := Scalar.subi c15_i32_145 v370
  let c31_i32 : BitVec 32 := 31#32
  let v292 : BitVec 32 := Scalar.subi c31_i32 v285
  let c47_i32 : BitVec 32 := 47#32
  let v207 : BitVec 32 := Scalar.subi c47_i32 v200
  let c63_i32_55 : BitVec 32 := 63#32
  let v122 : BitVec 32 := Scalar.subi c63_i32_55 v115
  let c0_i32_59 : BitVec 32 := 0#32
  let v132 : BitVec 32 := Scalar.select v121 v122 c0_i32_59
  let v217 : BitVec 32 := Scalar.select v206 v207 v132
  let v302 : BitVec 32 := Scalar.select v291 v292 v217
  let v387 : BitVec 32 := Scalar.select v376 v377 v302
  let v399 : BitVec 1 := Scalar.cmpi .ne v387 arg12
  let v400 : BitVec 32 := Scalar.extui v399
  let c0_i32_156 : BitVec 32 := 0#32
  let v401 : BitVec 1 := Scalar.cmpi .ne v400 c0_i32_156
  v401

def k0_chk7 (arg12 : BitVec 32) (v101 : BitVec 32) (v115 : BitVec 32) (v186 : BitVec 32) (v200 : BitVec 32) (v271 : BitVec 32) (v285 : BitVec 32) (v356 : BitVec 32) (v370 : BitVec 32) (v1587 : IVec S16 32) : Prop :=
  (∀ (k0_h1 : k0_cond1 arg12 v101 v115 v186 v200 v271 v285 v356 v370 = 1#1), ∀ a x, ((![v1587] : Fin 1 → IVec S16 32) a x).toNat < S16400.size a)
theorem k0_idx7_inb : ∀ (arg12 : BitVec 32) (v101 : BitVec 32) (v115 : BitVec 32) (v186 : BitVec 32) (v200 : BitVec 32) (v271 : BitVec 32) (v285 : BitVec 32) (v356 : BitVec 32) (v370 : BitVec 32) (v1587 : IVec S16 32) (k0_hw7 : k0_chk7 arg12 v101 v115 v186 v200 v271 v285 v356 v370 v1587), ∀ (k0_h1 : k0_cond1 arg12 v101 v115 v186 v200 v271 v285 v356 v370 = 1#1), ∀ a x, ((![v1587] : Fin 1 → IVec S16 32) a x).toNat < S16400.size a := fun arg12 v101 v115 v186 v200 v271 v285 v356 v370 v1587 k0_hw7 k0_h1 => k0_hw7 k0_h1
@[reducible] def k0_t5_loop (v411 : BitVec 32) : Scf.Loop 32 :=
  let c0_i32_167 : BitVec 32 := 0#32
  let c0_i32_161 : BitVec 32 := 0#32
  let v419 : BitVec 32 := Scalar.subi v411 c0_i32_161
  let c1_i32_162 : BitVec 32 := 1#32
  let c1_i32_163 : BitVec 32 := 1#32
  let v420 : BitVec 32 := Scalar.subi c1_i32_162 c1_i32_163
  let v421 : BitVec 32 := Scalar.addi v419 v420
  let c1_i32_164 : BitVec 32 := 1#32
  let v422 : BitVec 32 := Scalar.divsi v421 c1_i32_164
  let v423 : BitVec 32 := Scalar.subi v422 c0_i32_167
  let c1_i32_168 : BitVec 32 := 1#32
  let v425 : BitVec 32 := Scalar.divsi v423 c1_i32_168
  let v426 : BitVec 32 := Scalar.muli v425 c1_i32_168
  let v427 : BitVec 32 := Scalar.addi c0_i32_167 v426
  let c1_i32_169 : BitVec 32 := 1#32
  ⟨c0_i32_167, v427, c1_i32_169⟩

def k0_off7 (v411 : BitVec 32) (k0_t5 : Fin (k0_t5_loop v411).trips) : Fin 1 → Nat :=
  let c0_i32_166 : BitVec 32 := 0#32
  let c0_i32_167 : BitVec 32 := 0#32
  let c1_i32_169 : BitVec 32 := 1#32
  let arg13 : BitVec 32 := Scf.iv c0_i32_167 c1_i32_169 k0_t5
  let c1_i32_165 : BitVec 32 := 1#32
  let v1572 : BitVec 32 := Scalar.muli arg13 c1_i32_165
  let v1573 : BitVec 32 := Scalar.addi c0_i32_166 v1572
  let c16_i32_921 : BitVec 32 := 16#32
  let v1574 : BitVec 32 := Scalar.muli v1573 c16_i32_921
  let v1575 : Index := Scalar.indexCast v1574
  ![v1575.toNat]
@[reducible] def k0_t6_loop (v411 : BitVec 32) : Scf.Loop 32 :=
  let c0_i32_167 : BitVec 32 := 0#32
  let c0_i32_161 : BitVec 32 := 0#32
  let v419 : BitVec 32 := Scalar.subi v411 c0_i32_161
  let c1_i32_162 : BitVec 32 := 1#32
  let c1_i32_163 : BitVec 32 := 1#32
  let v420 : BitVec 32 := Scalar.subi c1_i32_162 c1_i32_163
  let v421 : BitVec 32 := Scalar.addi v419 v420
  let c1_i32_164 : BitVec 32 := 1#32
  let v422 : BitVec 32 := Scalar.divsi v421 c1_i32_164
  let v423 : BitVec 32 := Scalar.subi v422 c0_i32_167
  let c1_i32_168 : BitVec 32 := 1#32
  let v425 : BitVec 32 := Scalar.divsi v423 c1_i32_168
  let v426 : BitVec 32 := Scalar.muli v425 c1_i32_168
  let v427 : BitVec 32 := Scalar.addi c0_i32_167 v426
  let v424 : BitVec 32 := Scalar.addi c0_i32_167 v423
  let c1_i32_170 : BitVec 32 := 1#32
  ⟨v427, v424, c1_i32_170⟩
def k0_off8 (v411 : BitVec 32) (k0_t6 : Fin (k0_t6_loop v411).trips) : Fin 1 → Nat :=
  let c0_i32_166 : BitVec 32 := 0#32
  let c0_i32_167 : BitVec 32 := 0#32
  let c0_i32_161 : BitVec 32 := 0#32
  let v419 : BitVec 32 := Scalar.subi v411 c0_i32_161
  let c1_i32_162 : BitVec 32 := 1#32
  let c1_i32_163 : BitVec 32 := 1#32
  let v420 : BitVec 32 := Scalar.subi c1_i32_162 c1_i32_163
  let v421 : BitVec 32 := Scalar.addi v419 v420
  let c1_i32_164 : BitVec 32 := 1#32
  let v422 : BitVec 32 := Scalar.divsi v421 c1_i32_164
  let v423 : BitVec 32 := Scalar.subi v422 c0_i32_167
  let c1_i32_168 : BitVec 32 := 1#32
  let v425 : BitVec 32 := Scalar.divsi v423 c1_i32_168
  let v426 : BitVec 32 := Scalar.muli v425 c1_i32_168
  let v427 : BitVec 32 := Scalar.addi c0_i32_167 v426
  let c1_i32_170 : BitVec 32 := 1#32
  let arg13 : BitVec 32 := Scf.iv v427 c1_i32_170 k0_t6
  let c1_i32_165 : BitVec 32 := 1#32
  let v1572 : BitVec 32 := Scalar.muli arg13 c1_i32_165
  let v1573 : BitVec 32 := Scalar.addi c0_i32_166 v1572
  let c16_i32_921 : BitVec 32 := 16#32
  let v1574 : BitVec 32 := Scalar.muli v1573 c16_i32_921
  let v1575 : Index := Scalar.indexCast v1574
  ![v1575.toNat]
@[reducible] def k0_t7_loop (v411 : BitVec 32) : Scf.Loop 32 :=
  let c0_i32_177 : BitVec 32 := 0#32
  let c0_i32_171 : BitVec 32 := 0#32
  let v434 : BitVec 32 := Scalar.subi v411 c0_i32_171
  let c1_i32_172 : BitVec 32 := 1#32
  let c1_i32_173 : BitVec 32 := 1#32
  let v435 : BitVec 32 := Scalar.subi c1_i32_172 c1_i32_173
  let v436 : BitVec 32 := Scalar.addi v434 v435
  let c1_i32_174 : BitVec 32 := 1#32
  let v437 : BitVec 32 := Scalar.divsi v436 c1_i32_174
  let v438 : BitVec 32 := Scalar.subi v437 c0_i32_177
  let c1_i32_178 : BitVec 32 := 1#32
  let v440 : BitVec 32 := Scalar.divsi v438 c1_i32_178
  let v441 : BitVec 32 := Scalar.muli v440 c1_i32_178
  let v442 : BitVec 32 := Scalar.addi c0_i32_177 v441
  let c1_i32_179 : BitVec 32 := 1#32
  ⟨c0_i32_177, v442, c1_i32_179⟩
def k0_off9 (v411 : BitVec 32) (k0_t7 : Fin (k0_t7_loop v411).trips) : Fin 1 → Nat :=
  let c0_i32_176 : BitVec 32 := 0#32
  let c0_i32_177 : BitVec 32 := 0#32
  let c1_i32_179 : BitVec 32 := 1#32
  let arg13 : BitVec 32 := Scf.iv c0_i32_177 c1_i32_179 k0_t7
  let c1_i32_175 : BitVec 32 := 1#32
  let v1572 : BitVec 32 := Scalar.muli arg13 c1_i32_175
  let v1573 : BitVec 32 := Scalar.addi c0_i32_176 v1572
  let c16_i32_921 : BitVec 32 := 16#32
  let v1574 : BitVec 32 := Scalar.muli v1573 c16_i32_921
  let v1575 : Index := Scalar.indexCast v1574
  ![v1575.toNat]
@[reducible] def k0_t8_loop (v411 : BitVec 32) : Scf.Loop 32 :=
  let c0_i32_177 : BitVec 32 := 0#32
  let c0_i32_171 : BitVec 32 := 0#32
  let v434 : BitVec 32 := Scalar.subi v411 c0_i32_171
  let c1_i32_172 : BitVec 32 := 1#32
  let c1_i32_173 : BitVec 32 := 1#32
  let v435 : BitVec 32 := Scalar.subi c1_i32_172 c1_i32_173
  let v436 : BitVec 32 := Scalar.addi v434 v435
  let c1_i32_174 : BitVec 32 := 1#32
  let v437 : BitVec 32 := Scalar.divsi v436 c1_i32_174
  let v438 : BitVec 32 := Scalar.subi v437 c0_i32_177
  let c1_i32_178 : BitVec 32 := 1#32
  let v440 : BitVec 32 := Scalar.divsi v438 c1_i32_178
  let v441 : BitVec 32 := Scalar.muli v440 c1_i32_178
  let v442 : BitVec 32 := Scalar.addi c0_i32_177 v441
  let v439 : BitVec 32 := Scalar.addi c0_i32_177 v438
  let c1_i32_180 : BitVec 32 := 1#32
  ⟨v442, v439, c1_i32_180⟩
def k0_off10 (v411 : BitVec 32) (k0_t8 : Fin (k0_t8_loop v411).trips) : Fin 1 → Nat :=
  let c0_i32_176 : BitVec 32 := 0#32
  let c0_i32_177 : BitVec 32 := 0#32
  let c0_i32_171 : BitVec 32 := 0#32
  let v434 : BitVec 32 := Scalar.subi v411 c0_i32_171
  let c1_i32_172 : BitVec 32 := 1#32
  let c1_i32_173 : BitVec 32 := 1#32
  let v435 : BitVec 32 := Scalar.subi c1_i32_172 c1_i32_173
  let v436 : BitVec 32 := Scalar.addi v434 v435
  let c1_i32_174 : BitVec 32 := 1#32
  let v437 : BitVec 32 := Scalar.divsi v436 c1_i32_174
  let v438 : BitVec 32 := Scalar.subi v437 c0_i32_177
  let c1_i32_178 : BitVec 32 := 1#32
  let v440 : BitVec 32 := Scalar.divsi v438 c1_i32_178
  let v441 : BitVec 32 := Scalar.muli v440 c1_i32_178
  let v442 : BitVec 32 := Scalar.addi c0_i32_177 v441
  let c1_i32_180 : BitVec 32 := 1#32
  let arg13 : BitVec 32 := Scf.iv v442 c1_i32_180 k0_t8
  let c1_i32_175 : BitVec 32 := 1#32
  let v1572 : BitVec 32 := Scalar.muli arg13 c1_i32_175
  let v1573 : BitVec 32 := Scalar.addi c0_i32_176 v1572
  let c16_i32_921 : BitVec 32 := 16#32
  let v1574 : BitVec 32 := Scalar.muli v1573 c16_i32_921
  let v1575 : Index := Scalar.indexCast v1574
  ![v1575.toNat]
@[reducible] def k0_t9_loop (v411 : BitVec 32) : Scf.Loop 32 :=
  let c0_i32_187 : BitVec 32 := 0#32
  let c0_i32_181 : BitVec 32 := 0#32
  let v449 : BitVec 32 := Scalar.subi v411 c0_i32_181
  let c1_i32_182 : BitVec 32 := 1#32
  let c1_i32_183 : BitVec 32 := 1#32
  let v450 : BitVec 32 := Scalar.subi c1_i32_182 c1_i32_183
  let v451 : BitVec 32 := Scalar.addi v449 v450
  let c1_i32_184 : BitVec 32 := 1#32
  let v452 : BitVec 32 := Scalar.divsi v451 c1_i32_184
  let v453 : BitVec 32 := Scalar.subi v452 c0_i32_187
  let c1_i32_188 : BitVec 32 := 1#32
  let v455 : BitVec 32 := Scalar.divsi v453 c1_i32_188
  let v456 : BitVec 32 := Scalar.muli v455 c1_i32_188
  let v457 : BitVec 32 := Scalar.addi c0_i32_187 v456
  let c1_i32_189 : BitVec 32 := 1#32
  ⟨c0_i32_187, v457, c1_i32_189⟩
def k0_off11 (v411 : BitVec 32) (k0_t9 : Fin (k0_t9_loop v411).trips) : Fin 1 → Nat :=
  let c0_i32_186 : BitVec 32 := 0#32
  let c0_i32_187 : BitVec 32 := 0#32
  let c1_i32_189 : BitVec 32 := 1#32
  let arg13 : BitVec 32 := Scf.iv c0_i32_187 c1_i32_189 k0_t9
  let c1_i32_185 : BitVec 32 := 1#32
  let v1572 : BitVec 32 := Scalar.muli arg13 c1_i32_185
  let v1573 : BitVec 32 := Scalar.addi c0_i32_186 v1572
  let c16_i32_921 : BitVec 32 := 16#32
  let v1574 : BitVec 32 := Scalar.muli v1573 c16_i32_921
  let v1575 : Index := Scalar.indexCast v1574
  ![v1575.toNat]
@[reducible] def k0_t10_loop (v411 : BitVec 32) : Scf.Loop 32 :=
  let c0_i32_187 : BitVec 32 := 0#32
  let c0_i32_181 : BitVec 32 := 0#32
  let v449 : BitVec 32 := Scalar.subi v411 c0_i32_181
  let c1_i32_182 : BitVec 32 := 1#32
  let c1_i32_183 : BitVec 32 := 1#32
  let v450 : BitVec 32 := Scalar.subi c1_i32_182 c1_i32_183
  let v451 : BitVec 32 := Scalar.addi v449 v450
  let c1_i32_184 : BitVec 32 := 1#32
  let v452 : BitVec 32 := Scalar.divsi v451 c1_i32_184
  let v453 : BitVec 32 := Scalar.subi v452 c0_i32_187
  let c1_i32_188 : BitVec 32 := 1#32
  let v455 : BitVec 32 := Scalar.divsi v453 c1_i32_188
  let v456 : BitVec 32 := Scalar.muli v455 c1_i32_188
  let v457 : BitVec 32 := Scalar.addi c0_i32_187 v456
  let v454 : BitVec 32 := Scalar.addi c0_i32_187 v453
  let c1_i32_190 : BitVec 32 := 1#32
  ⟨v457, v454, c1_i32_190⟩
def k0_off12 (v411 : BitVec 32) (k0_t10 : Fin (k0_t10_loop v411).trips) : Fin 1 → Nat :=
  let c0_i32_186 : BitVec 32 := 0#32
  let c0_i32_187 : BitVec 32 := 0#32
  let c0_i32_181 : BitVec 32 := 0#32
  let v449 : BitVec 32 := Scalar.subi v411 c0_i32_181
  let c1_i32_182 : BitVec 32 := 1#32
  let c1_i32_183 : BitVec 32 := 1#32
  let v450 : BitVec 32 := Scalar.subi c1_i32_182 c1_i32_183
  let v451 : BitVec 32 := Scalar.addi v449 v450
  let c1_i32_184 : BitVec 32 := 1#32
  let v452 : BitVec 32 := Scalar.divsi v451 c1_i32_184
  let v453 : BitVec 32 := Scalar.subi v452 c0_i32_187
  let c1_i32_188 : BitVec 32 := 1#32
  let v455 : BitVec 32 := Scalar.divsi v453 c1_i32_188
  let v456 : BitVec 32 := Scalar.muli v455 c1_i32_188
  let v457 : BitVec 32 := Scalar.addi c0_i32_187 v456
  let c1_i32_190 : BitVec 32 := 1#32
  let arg13 : BitVec 32 := Scf.iv v457 c1_i32_190 k0_t10
  let c1_i32_185 : BitVec 32 := 1#32
  let v1572 : BitVec 32 := Scalar.muli arg13 c1_i32_185
  let v1573 : BitVec 32 := Scalar.addi c0_i32_186 v1572
  let c16_i32_921 : BitVec 32 := 16#32
  let v1574 : BitVec 32 := Scalar.muli v1573 c16_i32_921
  let v1575 : Index := Scalar.indexCast v1574
  ![v1575.toNat]
@[reducible] def k0_t11_loop (v411 : BitVec 32) : Scf.Loop 32 :=
  let c0_i32_197 : BitVec 32 := 0#32
  let c0_i32_191 : BitVec 32 := 0#32
  let v464 : BitVec 32 := Scalar.subi v411 c0_i32_191
  let c1_i32_192 : BitVec 32 := 1#32
  let c1_i32_193 : BitVec 32 := 1#32
  let v465 : BitVec 32 := Scalar.subi c1_i32_192 c1_i32_193
  let v466 : BitVec 32 := Scalar.addi v464 v465
  let c1_i32_194 : BitVec 32 := 1#32
  let v467 : BitVec 32 := Scalar.divsi v466 c1_i32_194
  let v468 : BitVec 32 := Scalar.subi v467 c0_i32_197
  let c1_i32_198 : BitVec 32 := 1#32
  let v470 : BitVec 32 := Scalar.divsi v468 c1_i32_198
  let v471 : BitVec 32 := Scalar.muli v470 c1_i32_198
  let v472 : BitVec 32 := Scalar.addi c0_i32_197 v471
  let c1_i32_199 : BitVec 32 := 1#32
  ⟨c0_i32_197, v472, c1_i32_199⟩
def k0_off13 (v411 : BitVec 32) (k0_t11 : Fin (k0_t11_loop v411).trips) : Fin 1 → Nat :=
  let c0_i32_196 : BitVec 32 := 0#32
  let c0_i32_197 : BitVec 32 := 0#32
  let c1_i32_199 : BitVec 32 := 1#32
  let arg13 : BitVec 32 := Scf.iv c0_i32_197 c1_i32_199 k0_t11
  let c1_i32_195 : BitVec 32 := 1#32
  let v1572 : BitVec 32 := Scalar.muli arg13 c1_i32_195
  let v1573 : BitVec 32 := Scalar.addi c0_i32_196 v1572
  let c16_i32_921 : BitVec 32 := 16#32
  let v1574 : BitVec 32 := Scalar.muli v1573 c16_i32_921
  let v1575 : Index := Scalar.indexCast v1574
  ![v1575.toNat]
@[reducible] def k0_t12_loop (v411 : BitVec 32) : Scf.Loop 32 :=
  let c0_i32_197 : BitVec 32 := 0#32
  let c0_i32_191 : BitVec 32 := 0#32
  let v464 : BitVec 32 := Scalar.subi v411 c0_i32_191
  let c1_i32_192 : BitVec 32 := 1#32
  let c1_i32_193 : BitVec 32 := 1#32
  let v465 : BitVec 32 := Scalar.subi c1_i32_192 c1_i32_193
  let v466 : BitVec 32 := Scalar.addi v464 v465
  let c1_i32_194 : BitVec 32 := 1#32
  let v467 : BitVec 32 := Scalar.divsi v466 c1_i32_194
  let v468 : BitVec 32 := Scalar.subi v467 c0_i32_197
  let c1_i32_198 : BitVec 32 := 1#32
  let v470 : BitVec 32 := Scalar.divsi v468 c1_i32_198
  let v471 : BitVec 32 := Scalar.muli v470 c1_i32_198
  let v472 : BitVec 32 := Scalar.addi c0_i32_197 v471
  let v469 : BitVec 32 := Scalar.addi c0_i32_197 v468
  let c1_i32_200 : BitVec 32 := 1#32
  ⟨v472, v469, c1_i32_200⟩
def k0_off14 (v411 : BitVec 32) (k0_t12 : Fin (k0_t12_loop v411).trips) : Fin 1 → Nat :=
  let c0_i32_196 : BitVec 32 := 0#32
  let c0_i32_197 : BitVec 32 := 0#32
  let c0_i32_191 : BitVec 32 := 0#32
  let v464 : BitVec 32 := Scalar.subi v411 c0_i32_191
  let c1_i32_192 : BitVec 32 := 1#32
  let c1_i32_193 : BitVec 32 := 1#32
  let v465 : BitVec 32 := Scalar.subi c1_i32_192 c1_i32_193
  let v466 : BitVec 32 := Scalar.addi v464 v465
  let c1_i32_194 : BitVec 32 := 1#32
  let v467 : BitVec 32 := Scalar.divsi v466 c1_i32_194
  let v468 : BitVec 32 := Scalar.subi v467 c0_i32_197
  let c1_i32_198 : BitVec 32 := 1#32
  let v470 : BitVec 32 := Scalar.divsi v468 c1_i32_198
  let v471 : BitVec 32 := Scalar.muli v470 c1_i32_198
  let v472 : BitVec 32 := Scalar.addi c0_i32_197 v471
  let c1_i32_200 : BitVec 32 := 1#32
  let arg13 : BitVec 32 := Scf.iv v472 c1_i32_200 k0_t12
  let c1_i32_195 : BitVec 32 := 1#32
  let v1572 : BitVec 32 := Scalar.muli arg13 c1_i32_195
  let v1573 : BitVec 32 := Scalar.addi c0_i32_196 v1572
  let c16_i32_921 : BitVec 32 := 16#32
  let v1574 : BitVec 32 := Scalar.muli v1573 c16_i32_921
  let v1575 : Index := Scalar.indexCast v1574
  ![v1575.toNat]
@[reducible] def k0_t13_loop (v411 : BitVec 32) : Scf.Loop 32 :=
  let c0_i32_207 : BitVec 32 := 0#32
  let c0_i32_201 : BitVec 32 := 0#32
  let v479 : BitVec 32 := Scalar.subi v411 c0_i32_201
  let c1_i32_202 : BitVec 32 := 1#32
  let c1_i32_203 : BitVec 32 := 1#32
  let v480 : BitVec 32 := Scalar.subi c1_i32_202 c1_i32_203
  let v481 : BitVec 32 := Scalar.addi v479 v480
  let c1_i32_204 : BitVec 32 := 1#32
  let v482 : BitVec 32 := Scalar.divsi v481 c1_i32_204
  let v483 : BitVec 32 := Scalar.subi v482 c0_i32_207
  let c1_i32_208 : BitVec 32 := 1#32
  let v485 : BitVec 32 := Scalar.divsi v483 c1_i32_208
  let v486 : BitVec 32 := Scalar.muli v485 c1_i32_208
  let v487 : BitVec 32 := Scalar.addi c0_i32_207 v486
  let c1_i32_209 : BitVec 32 := 1#32
  ⟨c0_i32_207, v487, c1_i32_209⟩
def k0_off15 (v411 : BitVec 32) (k0_t13 : Fin (k0_t13_loop v411).trips) : Fin 1 → Nat :=
  let c0_i32_206 : BitVec 32 := 0#32
  let c0_i32_207 : BitVec 32 := 0#32
  let c1_i32_209 : BitVec 32 := 1#32
  let arg13 : BitVec 32 := Scf.iv c0_i32_207 c1_i32_209 k0_t13
  let c1_i32_205 : BitVec 32 := 1#32
  let v1572 : BitVec 32 := Scalar.muli arg13 c1_i32_205
  let v1573 : BitVec 32 := Scalar.addi c0_i32_206 v1572
  let c16_i32_921 : BitVec 32 := 16#32
  let v1574 : BitVec 32 := Scalar.muli v1573 c16_i32_921
  let v1575 : Index := Scalar.indexCast v1574
  ![v1575.toNat]
@[reducible] def k0_t14_loop (v411 : BitVec 32) : Scf.Loop 32 :=
  let c0_i32_207 : BitVec 32 := 0#32
  let c0_i32_201 : BitVec 32 := 0#32
  let v479 : BitVec 32 := Scalar.subi v411 c0_i32_201
  let c1_i32_202 : BitVec 32 := 1#32
  let c1_i32_203 : BitVec 32 := 1#32
  let v480 : BitVec 32 := Scalar.subi c1_i32_202 c1_i32_203
  let v481 : BitVec 32 := Scalar.addi v479 v480
  let c1_i32_204 : BitVec 32 := 1#32
  let v482 : BitVec 32 := Scalar.divsi v481 c1_i32_204
  let v483 : BitVec 32 := Scalar.subi v482 c0_i32_207
  let c1_i32_208 : BitVec 32 := 1#32
  let v485 : BitVec 32 := Scalar.divsi v483 c1_i32_208
  let v486 : BitVec 32 := Scalar.muli v485 c1_i32_208
  let v487 : BitVec 32 := Scalar.addi c0_i32_207 v486
  let v484 : BitVec 32 := Scalar.addi c0_i32_207 v483
  let c1_i32_210 : BitVec 32 := 1#32
  ⟨v487, v484, c1_i32_210⟩
def k0_off16 (v411 : BitVec 32) (k0_t14 : Fin (k0_t14_loop v411).trips) : Fin 1 → Nat :=
  let c0_i32_206 : BitVec 32 := 0#32
  let c0_i32_207 : BitVec 32 := 0#32
  let c0_i32_201 : BitVec 32 := 0#32
  let v479 : BitVec 32 := Scalar.subi v411 c0_i32_201
  let c1_i32_202 : BitVec 32 := 1#32
  let c1_i32_203 : BitVec 32 := 1#32
  let v480 : BitVec 32 := Scalar.subi c1_i32_202 c1_i32_203
  let v481 : BitVec 32 := Scalar.addi v479 v480
  let c1_i32_204 : BitVec 32 := 1#32
  let v482 : BitVec 32 := Scalar.divsi v481 c1_i32_204
  let v483 : BitVec 32 := Scalar.subi v482 c0_i32_207
  let c1_i32_208 : BitVec 32 := 1#32
  let v485 : BitVec 32 := Scalar.divsi v483 c1_i32_208
  let v486 : BitVec 32 := Scalar.muli v485 c1_i32_208
  let v487 : BitVec 32 := Scalar.addi c0_i32_207 v486
  let c1_i32_210 : BitVec 32 := 1#32
  let arg13 : BitVec 32 := Scf.iv v487 c1_i32_210 k0_t14
  let c1_i32_205 : BitVec 32 := 1#32
  let v1572 : BitVec 32 := Scalar.muli arg13 c1_i32_205
  let v1573 : BitVec 32 := Scalar.addi c0_i32_206 v1572
  let c16_i32_921 : BitVec 32 := 16#32
  let v1574 : BitVec 32 := Scalar.muli v1573 c16_i32_921
  let v1575 : Index := Scalar.indexCast v1574
  ![v1575.toNat]
@[reducible] def k0_t15_loop (v411 : BitVec 32) : Scf.Loop 32 :=
  let c0_i32_217 : BitVec 32 := 0#32
  let c0_i32_211 : BitVec 32 := 0#32
  let v494 : BitVec 32 := Scalar.subi v411 c0_i32_211
  let c1_i32_212 : BitVec 32 := 1#32
  let c1_i32_213 : BitVec 32 := 1#32
  let v495 : BitVec 32 := Scalar.subi c1_i32_212 c1_i32_213
  let v496 : BitVec 32 := Scalar.addi v494 v495
  let c1_i32_214 : BitVec 32 := 1#32
  let v497 : BitVec 32 := Scalar.divsi v496 c1_i32_214
  let v498 : BitVec 32 := Scalar.subi v497 c0_i32_217
  let c1_i32_218 : BitVec 32 := 1#32
  let v500 : BitVec 32 := Scalar.divsi v498 c1_i32_218
  let v501 : BitVec 32 := Scalar.muli v500 c1_i32_218
  let v502 : BitVec 32 := Scalar.addi c0_i32_217 v501
  let c1_i32_219 : BitVec 32 := 1#32
  ⟨c0_i32_217, v502, c1_i32_219⟩
def k0_off17 (v411 : BitVec 32) (k0_t15 : Fin (k0_t15_loop v411).trips) : Fin 1 → Nat :=
  let c0_i32_216 : BitVec 32 := 0#32
  let c0_i32_217 : BitVec 32 := 0#32
  let c1_i32_219 : BitVec 32 := 1#32
  let arg13 : BitVec 32 := Scf.iv c0_i32_217 c1_i32_219 k0_t15
  let c1_i32_215 : BitVec 32 := 1#32
  let v1572 : BitVec 32 := Scalar.muli arg13 c1_i32_215
  let v1573 : BitVec 32 := Scalar.addi c0_i32_216 v1572
  let c16_i32_921 : BitVec 32 := 16#32
  let v1574 : BitVec 32 := Scalar.muli v1573 c16_i32_921
  let v1575 : Index := Scalar.indexCast v1574
  ![v1575.toNat]
@[reducible] def k0_t16_loop (v411 : BitVec 32) : Scf.Loop 32 :=
  let c0_i32_217 : BitVec 32 := 0#32
  let c0_i32_211 : BitVec 32 := 0#32
  let v494 : BitVec 32 := Scalar.subi v411 c0_i32_211
  let c1_i32_212 : BitVec 32 := 1#32
  let c1_i32_213 : BitVec 32 := 1#32
  let v495 : BitVec 32 := Scalar.subi c1_i32_212 c1_i32_213
  let v496 : BitVec 32 := Scalar.addi v494 v495
  let c1_i32_214 : BitVec 32 := 1#32
  let v497 : BitVec 32 := Scalar.divsi v496 c1_i32_214
  let v498 : BitVec 32 := Scalar.subi v497 c0_i32_217
  let c1_i32_218 : BitVec 32 := 1#32
  let v500 : BitVec 32 := Scalar.divsi v498 c1_i32_218
  let v501 : BitVec 32 := Scalar.muli v500 c1_i32_218
  let v502 : BitVec 32 := Scalar.addi c0_i32_217 v501
  let v499 : BitVec 32 := Scalar.addi c0_i32_217 v498
  let c1_i32_220 : BitVec 32 := 1#32
  ⟨v502, v499, c1_i32_220⟩
def k0_off18 (v411 : BitVec 32) (k0_t16 : Fin (k0_t16_loop v411).trips) : Fin 1 → Nat :=
  let c0_i32_216 : BitVec 32 := 0#32
  let c0_i32_217 : BitVec 32 := 0#32
  let c0_i32_211 : BitVec 32 := 0#32
  let v494 : BitVec 32 := Scalar.subi v411 c0_i32_211
  let c1_i32_212 : BitVec 32 := 1#32
  let c1_i32_213 : BitVec 32 := 1#32
  let v495 : BitVec 32 := Scalar.subi c1_i32_212 c1_i32_213
  let v496 : BitVec 32 := Scalar.addi v494 v495
  let c1_i32_214 : BitVec 32 := 1#32
  let v497 : BitVec 32 := Scalar.divsi v496 c1_i32_214
  let v498 : BitVec 32 := Scalar.subi v497 c0_i32_217
  let c1_i32_218 : BitVec 32 := 1#32
  let v500 : BitVec 32 := Scalar.divsi v498 c1_i32_218
  let v501 : BitVec 32 := Scalar.muli v500 c1_i32_218
  let v502 : BitVec 32 := Scalar.addi c0_i32_217 v501
  let c1_i32_220 : BitVec 32 := 1#32
  let arg13 : BitVec 32 := Scf.iv v502 c1_i32_220 k0_t16
  let c1_i32_215 : BitVec 32 := 1#32
  let v1572 : BitVec 32 := Scalar.muli arg13 c1_i32_215
  let v1573 : BitVec 32 := Scalar.addi c0_i32_216 v1572
  let c16_i32_921 : BitVec 32 := 16#32
  let v1574 : BitVec 32 := Scalar.muli v1573 c16_i32_921
  let v1575 : Index := Scalar.indexCast v1574
  ![v1575.toNat]
@[reducible] def k0_t17_loop (v411 : BitVec 32) : Scf.Loop 32 :=
  let c0_i32_227 : BitVec 32 := 0#32
  let c0_i32_221 : BitVec 32 := 0#32
  let v509 : BitVec 32 := Scalar.subi v411 c0_i32_221
  let c1_i32_222 : BitVec 32 := 1#32
  let c1_i32_223 : BitVec 32 := 1#32
  let v510 : BitVec 32 := Scalar.subi c1_i32_222 c1_i32_223
  let v511 : BitVec 32 := Scalar.addi v509 v510
  let c1_i32_224 : BitVec 32 := 1#32
  let v512 : BitVec 32 := Scalar.divsi v511 c1_i32_224
  let v513 : BitVec 32 := Scalar.subi v512 c0_i32_227
  let c1_i32_228 : BitVec 32 := 1#32
  let v515 : BitVec 32 := Scalar.divsi v513 c1_i32_228
  let v516 : BitVec 32 := Scalar.muli v515 c1_i32_228
  let v517 : BitVec 32 := Scalar.addi c0_i32_227 v516
  let c1_i32_229 : BitVec 32 := 1#32
  ⟨c0_i32_227, v517, c1_i32_229⟩
def k0_off19 (v411 : BitVec 32) (k0_t17 : Fin (k0_t17_loop v411).trips) : Fin 1 → Nat :=
  let c0_i32_226 : BitVec 32 := 0#32
  let c0_i32_227 : BitVec 32 := 0#32
  let c1_i32_229 : BitVec 32 := 1#32
  let arg13 : BitVec 32 := Scf.iv c0_i32_227 c1_i32_229 k0_t17
  let c1_i32_225 : BitVec 32 := 1#32
  let v1572 : BitVec 32 := Scalar.muli arg13 c1_i32_225
  let v1573 : BitVec 32 := Scalar.addi c0_i32_226 v1572
  let c16_i32_921 : BitVec 32 := 16#32
  let v1574 : BitVec 32 := Scalar.muli v1573 c16_i32_921
  let v1575 : Index := Scalar.indexCast v1574
  ![v1575.toNat]
@[reducible] def k0_t18_loop (v411 : BitVec 32) : Scf.Loop 32 :=
  let c0_i32_227 : BitVec 32 := 0#32
  let c0_i32_221 : BitVec 32 := 0#32
  let v509 : BitVec 32 := Scalar.subi v411 c0_i32_221
  let c1_i32_222 : BitVec 32 := 1#32
  let c1_i32_223 : BitVec 32 := 1#32
  let v510 : BitVec 32 := Scalar.subi c1_i32_222 c1_i32_223
  let v511 : BitVec 32 := Scalar.addi v509 v510
  let c1_i32_224 : BitVec 32 := 1#32
  let v512 : BitVec 32 := Scalar.divsi v511 c1_i32_224
  let v513 : BitVec 32 := Scalar.subi v512 c0_i32_227
  let c1_i32_228 : BitVec 32 := 1#32
  let v515 : BitVec 32 := Scalar.divsi v513 c1_i32_228
  let v516 : BitVec 32 := Scalar.muli v515 c1_i32_228
  let v517 : BitVec 32 := Scalar.addi c0_i32_227 v516
  let v514 : BitVec 32 := Scalar.addi c0_i32_227 v513
  let c1_i32_230 : BitVec 32 := 1#32
  ⟨v517, v514, c1_i32_230⟩
def k0_off20 (v411 : BitVec 32) (k0_t18 : Fin (k0_t18_loop v411).trips) : Fin 1 → Nat :=
  let c0_i32_226 : BitVec 32 := 0#32
  let c0_i32_227 : BitVec 32 := 0#32
  let c0_i32_221 : BitVec 32 := 0#32
  let v509 : BitVec 32 := Scalar.subi v411 c0_i32_221
  let c1_i32_222 : BitVec 32 := 1#32
  let c1_i32_223 : BitVec 32 := 1#32
  let v510 : BitVec 32 := Scalar.subi c1_i32_222 c1_i32_223
  let v511 : BitVec 32 := Scalar.addi v509 v510
  let c1_i32_224 : BitVec 32 := 1#32
  let v512 : BitVec 32 := Scalar.divsi v511 c1_i32_224
  let v513 : BitVec 32 := Scalar.subi v512 c0_i32_227
  let c1_i32_228 : BitVec 32 := 1#32
  let v515 : BitVec 32 := Scalar.divsi v513 c1_i32_228
  let v516 : BitVec 32 := Scalar.muli v515 c1_i32_228
  let v517 : BitVec 32 := Scalar.addi c0_i32_227 v516
  let c1_i32_230 : BitVec 32 := 1#32
  let arg13 : BitVec 32 := Scf.iv v517 c1_i32_230 k0_t18
  let c1_i32_225 : BitVec 32 := 1#32
  let v1572 : BitVec 32 := Scalar.muli arg13 c1_i32_225
  let v1573 : BitVec 32 := Scalar.addi c0_i32_226 v1572
  let c16_i32_921 : BitVec 32 := 16#32
  let v1574 : BitVec 32 := Scalar.muli v1573 c16_i32_921
  let v1575 : Index := Scalar.indexCast v1574
  ![v1575.toNat]
@[reducible] def k0_t19_loop (v411 : BitVec 32) : Scf.Loop 32 :=
  let c0_i32_237 : BitVec 32 := 0#32
  let c0_i32_231 : BitVec 32 := 0#32
  let v524 : BitVec 32 := Scalar.subi v411 c0_i32_231
  let c1_i32_232 : BitVec 32 := 1#32
  let c1_i32_233 : BitVec 32 := 1#32
  let v525 : BitVec 32 := Scalar.subi c1_i32_232 c1_i32_233
  let v526 : BitVec 32 := Scalar.addi v524 v525
  let c1_i32_234 : BitVec 32 := 1#32
  let v527 : BitVec 32 := Scalar.divsi v526 c1_i32_234
  let v528 : BitVec 32 := Scalar.subi v527 c0_i32_237
  let c1_i32_238 : BitVec 32 := 1#32
  let v530 : BitVec 32 := Scalar.divsi v528 c1_i32_238
  let v531 : BitVec 32 := Scalar.muli v530 c1_i32_238
  let v532 : BitVec 32 := Scalar.addi c0_i32_237 v531
  let c1_i32_239 : BitVec 32 := 1#32
  ⟨c0_i32_237, v532, c1_i32_239⟩
def k0_off21 (v411 : BitVec 32) (k0_t19 : Fin (k0_t19_loop v411).trips) : Fin 1 → Nat :=
  let c0_i32_236 : BitVec 32 := 0#32
  let c0_i32_237 : BitVec 32 := 0#32
  let c1_i32_239 : BitVec 32 := 1#32
  let arg13 : BitVec 32 := Scf.iv c0_i32_237 c1_i32_239 k0_t19
  let c1_i32_235 : BitVec 32 := 1#32
  let v1572 : BitVec 32 := Scalar.muli arg13 c1_i32_235
  let v1573 : BitVec 32 := Scalar.addi c0_i32_236 v1572
  let c16_i32_921 : BitVec 32 := 16#32
  let v1574 : BitVec 32 := Scalar.muli v1573 c16_i32_921
  let v1575 : Index := Scalar.indexCast v1574
  ![v1575.toNat]
@[reducible] def k0_t20_loop (v411 : BitVec 32) : Scf.Loop 32 :=
  let c0_i32_237 : BitVec 32 := 0#32
  let c0_i32_231 : BitVec 32 := 0#32
  let v524 : BitVec 32 := Scalar.subi v411 c0_i32_231
  let c1_i32_232 : BitVec 32 := 1#32
  let c1_i32_233 : BitVec 32 := 1#32
  let v525 : BitVec 32 := Scalar.subi c1_i32_232 c1_i32_233
  let v526 : BitVec 32 := Scalar.addi v524 v525
  let c1_i32_234 : BitVec 32 := 1#32
  let v527 : BitVec 32 := Scalar.divsi v526 c1_i32_234
  let v528 : BitVec 32 := Scalar.subi v527 c0_i32_237
  let c1_i32_238 : BitVec 32 := 1#32
  let v530 : BitVec 32 := Scalar.divsi v528 c1_i32_238
  let v531 : BitVec 32 := Scalar.muli v530 c1_i32_238
  let v532 : BitVec 32 := Scalar.addi c0_i32_237 v531
  let v529 : BitVec 32 := Scalar.addi c0_i32_237 v528
  let c1_i32_240 : BitVec 32 := 1#32
  ⟨v532, v529, c1_i32_240⟩
def k0_off22 (v411 : BitVec 32) (k0_t20 : Fin (k0_t20_loop v411).trips) : Fin 1 → Nat :=
  let c0_i32_236 : BitVec 32 := 0#32
  let c0_i32_237 : BitVec 32 := 0#32
  let c0_i32_231 : BitVec 32 := 0#32
  let v524 : BitVec 32 := Scalar.subi v411 c0_i32_231
  let c1_i32_232 : BitVec 32 := 1#32
  let c1_i32_233 : BitVec 32 := 1#32
  let v525 : BitVec 32 := Scalar.subi c1_i32_232 c1_i32_233
  let v526 : BitVec 32 := Scalar.addi v524 v525
  let c1_i32_234 : BitVec 32 := 1#32
  let v527 : BitVec 32 := Scalar.divsi v526 c1_i32_234
  let v528 : BitVec 32 := Scalar.subi v527 c0_i32_237
  let c1_i32_238 : BitVec 32 := 1#32
  let v530 : BitVec 32 := Scalar.divsi v528 c1_i32_238
  let v531 : BitVec 32 := Scalar.muli v530 c1_i32_238
  let v532 : BitVec 32 := Scalar.addi c0_i32_237 v531
  let c1_i32_240 : BitVec 32 := 1#32
  let arg13 : BitVec 32 := Scf.iv v532 c1_i32_240 k0_t20
  let c1_i32_235 : BitVec 32 := 1#32
  let v1572 : BitVec 32 := Scalar.muli arg13 c1_i32_235
  let v1573 : BitVec 32 := Scalar.addi c0_i32_236 v1572
  let c16_i32_921 : BitVec 32 := 16#32
  let v1574 : BitVec 32 := Scalar.muli v1573 c16_i32_921
  let v1575 : Index := Scalar.indexCast v1574
  ![v1575.toNat]
@[reducible] def k0_t21_loop (v411 : BitVec 32) : Scf.Loop 32 :=
  let c0_i32_247 : BitVec 32 := 0#32
  let c0_i32_241 : BitVec 32 := 0#32
  let v539 : BitVec 32 := Scalar.subi v411 c0_i32_241
  let c1_i32_242 : BitVec 32 := 1#32
  let c1_i32_243 : BitVec 32 := 1#32
  let v540 : BitVec 32 := Scalar.subi c1_i32_242 c1_i32_243
  let v541 : BitVec 32 := Scalar.addi v539 v540
  let c1_i32_244 : BitVec 32 := 1#32
  let v542 : BitVec 32 := Scalar.divsi v541 c1_i32_244
  let v543 : BitVec 32 := Scalar.subi v542 c0_i32_247
  let c1_i32_248 : BitVec 32 := 1#32
  let v545 : BitVec 32 := Scalar.divsi v543 c1_i32_248
  let v546 : BitVec 32 := Scalar.muli v545 c1_i32_248
  let v547 : BitVec 32 := Scalar.addi c0_i32_247 v546
  let c1_i32_249 : BitVec 32 := 1#32
  ⟨c0_i32_247, v547, c1_i32_249⟩
def k0_off23 (v411 : BitVec 32) (k0_t21 : Fin (k0_t21_loop v411).trips) : Fin 1 → Nat :=
  let c0_i32_246 : BitVec 32 := 0#32
  let c0_i32_247 : BitVec 32 := 0#32
  let c1_i32_249 : BitVec 32 := 1#32
  let arg13 : BitVec 32 := Scf.iv c0_i32_247 c1_i32_249 k0_t21
  let c1_i32_245 : BitVec 32 := 1#32
  let v1572 : BitVec 32 := Scalar.muli arg13 c1_i32_245
  let v1573 : BitVec 32 := Scalar.addi c0_i32_246 v1572
  let c16_i32_921 : BitVec 32 := 16#32
  let v1574 : BitVec 32 := Scalar.muli v1573 c16_i32_921
  let v1575 : Index := Scalar.indexCast v1574
  ![v1575.toNat]
@[reducible] def k0_t22_loop (v411 : BitVec 32) : Scf.Loop 32 :=
  let c0_i32_247 : BitVec 32 := 0#32
  let c0_i32_241 : BitVec 32 := 0#32
  let v539 : BitVec 32 := Scalar.subi v411 c0_i32_241
  let c1_i32_242 : BitVec 32 := 1#32
  let c1_i32_243 : BitVec 32 := 1#32
  let v540 : BitVec 32 := Scalar.subi c1_i32_242 c1_i32_243
  let v541 : BitVec 32 := Scalar.addi v539 v540
  let c1_i32_244 : BitVec 32 := 1#32
  let v542 : BitVec 32 := Scalar.divsi v541 c1_i32_244
  let v543 : BitVec 32 := Scalar.subi v542 c0_i32_247
  let c1_i32_248 : BitVec 32 := 1#32
  let v545 : BitVec 32 := Scalar.divsi v543 c1_i32_248
  let v546 : BitVec 32 := Scalar.muli v545 c1_i32_248
  let v547 : BitVec 32 := Scalar.addi c0_i32_247 v546
  let v544 : BitVec 32 := Scalar.addi c0_i32_247 v543
  let c1_i32_250 : BitVec 32 := 1#32
  ⟨v547, v544, c1_i32_250⟩
def k0_off24 (v411 : BitVec 32) (k0_t22 : Fin (k0_t22_loop v411).trips) : Fin 1 → Nat :=
  let c0_i32_246 : BitVec 32 := 0#32
  let c0_i32_247 : BitVec 32 := 0#32
  let c0_i32_241 : BitVec 32 := 0#32
  let v539 : BitVec 32 := Scalar.subi v411 c0_i32_241
  let c1_i32_242 : BitVec 32 := 1#32
  let c1_i32_243 : BitVec 32 := 1#32
  let v540 : BitVec 32 := Scalar.subi c1_i32_242 c1_i32_243
  let v541 : BitVec 32 := Scalar.addi v539 v540
  let c1_i32_244 : BitVec 32 := 1#32
  let v542 : BitVec 32 := Scalar.divsi v541 c1_i32_244
  let v543 : BitVec 32 := Scalar.subi v542 c0_i32_247
  let c1_i32_248 : BitVec 32 := 1#32
  let v545 : BitVec 32 := Scalar.divsi v543 c1_i32_248
  let v546 : BitVec 32 := Scalar.muli v545 c1_i32_248
  let v547 : BitVec 32 := Scalar.addi c0_i32_247 v546
  let c1_i32_250 : BitVec 32 := 1#32
  let arg13 : BitVec 32 := Scf.iv v547 c1_i32_250 k0_t22
  let c1_i32_245 : BitVec 32 := 1#32
  let v1572 : BitVec 32 := Scalar.muli arg13 c1_i32_245
  let v1573 : BitVec 32 := Scalar.addi c0_i32_246 v1572
  let c16_i32_921 : BitVec 32 := 16#32
  let v1574 : BitVec 32 := Scalar.muli v1573 c16_i32_921
  let v1575 : Index := Scalar.indexCast v1574
  ![v1575.toNat]
@[reducible] def k0_t23_loop (v411 : BitVec 32) : Scf.Loop 32 :=
  let c0_i32_257 : BitVec 32 := 0#32
  let c0_i32_251 : BitVec 32 := 0#32
  let v554 : BitVec 32 := Scalar.subi v411 c0_i32_251
  let c1_i32_252 : BitVec 32 := 1#32
  let c1_i32_253 : BitVec 32 := 1#32
  let v555 : BitVec 32 := Scalar.subi c1_i32_252 c1_i32_253
  let v556 : BitVec 32 := Scalar.addi v554 v555
  let c1_i32_254 : BitVec 32 := 1#32
  let v557 : BitVec 32 := Scalar.divsi v556 c1_i32_254
  let v558 : BitVec 32 := Scalar.subi v557 c0_i32_257
  let c1_i32_258 : BitVec 32 := 1#32
  let v560 : BitVec 32 := Scalar.divsi v558 c1_i32_258
  let v561 : BitVec 32 := Scalar.muli v560 c1_i32_258
  let v562 : BitVec 32 := Scalar.addi c0_i32_257 v561
  let c1_i32_259 : BitVec 32 := 1#32
  ⟨c0_i32_257, v562, c1_i32_259⟩
def k0_off25 (v411 : BitVec 32) (k0_t23 : Fin (k0_t23_loop v411).trips) : Fin 1 → Nat :=
  let c0_i32_256 : BitVec 32 := 0#32
  let c0_i32_257 : BitVec 32 := 0#32
  let c1_i32_259 : BitVec 32 := 1#32
  let arg13 : BitVec 32 := Scf.iv c0_i32_257 c1_i32_259 k0_t23
  let c1_i32_255 : BitVec 32 := 1#32
  let v1572 : BitVec 32 := Scalar.muli arg13 c1_i32_255
  let v1573 : BitVec 32 := Scalar.addi c0_i32_256 v1572
  let c16_i32_921 : BitVec 32 := 16#32
  let v1574 : BitVec 32 := Scalar.muli v1573 c16_i32_921
  let v1575 : Index := Scalar.indexCast v1574
  ![v1575.toNat]
@[reducible] def k0_t24_loop (v411 : BitVec 32) : Scf.Loop 32 :=
  let c0_i32_257 : BitVec 32 := 0#32
  let c0_i32_251 : BitVec 32 := 0#32
  let v554 : BitVec 32 := Scalar.subi v411 c0_i32_251
  let c1_i32_252 : BitVec 32 := 1#32
  let c1_i32_253 : BitVec 32 := 1#32
  let v555 : BitVec 32 := Scalar.subi c1_i32_252 c1_i32_253
  let v556 : BitVec 32 := Scalar.addi v554 v555
  let c1_i32_254 : BitVec 32 := 1#32
  let v557 : BitVec 32 := Scalar.divsi v556 c1_i32_254
  let v558 : BitVec 32 := Scalar.subi v557 c0_i32_257
  let c1_i32_258 : BitVec 32 := 1#32
  let v560 : BitVec 32 := Scalar.divsi v558 c1_i32_258
  let v561 : BitVec 32 := Scalar.muli v560 c1_i32_258
  let v562 : BitVec 32 := Scalar.addi c0_i32_257 v561
  let v559 : BitVec 32 := Scalar.addi c0_i32_257 v558
  let c1_i32_260 : BitVec 32 := 1#32
  ⟨v562, v559, c1_i32_260⟩
def k0_off26 (v411 : BitVec 32) (k0_t24 : Fin (k0_t24_loop v411).trips) : Fin 1 → Nat :=
  let c0_i32_256 : BitVec 32 := 0#32
  let c0_i32_257 : BitVec 32 := 0#32
  let c0_i32_251 : BitVec 32 := 0#32
  let v554 : BitVec 32 := Scalar.subi v411 c0_i32_251
  let c1_i32_252 : BitVec 32 := 1#32
  let c1_i32_253 : BitVec 32 := 1#32
  let v555 : BitVec 32 := Scalar.subi c1_i32_252 c1_i32_253
  let v556 : BitVec 32 := Scalar.addi v554 v555
  let c1_i32_254 : BitVec 32 := 1#32
  let v557 : BitVec 32 := Scalar.divsi v556 c1_i32_254
  let v558 : BitVec 32 := Scalar.subi v557 c0_i32_257
  let c1_i32_258 : BitVec 32 := 1#32
  let v560 : BitVec 32 := Scalar.divsi v558 c1_i32_258
  let v561 : BitVec 32 := Scalar.muli v560 c1_i32_258
  let v562 : BitVec 32 := Scalar.addi c0_i32_257 v561
  let c1_i32_260 : BitVec 32 := 1#32
  let arg13 : BitVec 32 := Scf.iv v562 c1_i32_260 k0_t24
  let c1_i32_255 : BitVec 32 := 1#32
  let v1572 : BitVec 32 := Scalar.muli arg13 c1_i32_255
  let v1573 : BitVec 32 := Scalar.addi c0_i32_256 v1572
  let c16_i32_921 : BitVec 32 := 16#32
  let v1574 : BitVec 32 := Scalar.muli v1573 c16_i32_921
  let v1575 : Index := Scalar.indexCast v1574
  ![v1575.toNat]
@[reducible] def k0_t25_loop (v411 : BitVec 32) : Scf.Loop 32 :=
  let c0_i32_267 : BitVec 32 := 0#32
  let c0_i32_261 : BitVec 32 := 0#32
  let v569 : BitVec 32 := Scalar.subi v411 c0_i32_261
  let c1_i32_262 : BitVec 32 := 1#32
  let c1_i32_263 : BitVec 32 := 1#32
  let v570 : BitVec 32 := Scalar.subi c1_i32_262 c1_i32_263
  let v571 : BitVec 32 := Scalar.addi v569 v570
  let c1_i32_264 : BitVec 32 := 1#32
  let v572 : BitVec 32 := Scalar.divsi v571 c1_i32_264
  let v573 : BitVec 32 := Scalar.subi v572 c0_i32_267
  let c1_i32_268 : BitVec 32 := 1#32
  let v575 : BitVec 32 := Scalar.divsi v573 c1_i32_268
  let v576 : BitVec 32 := Scalar.muli v575 c1_i32_268
  let v577 : BitVec 32 := Scalar.addi c0_i32_267 v576
  let c1_i32_269 : BitVec 32 := 1#32
  ⟨c0_i32_267, v577, c1_i32_269⟩
def k0_off27 (v411 : BitVec 32) (k0_t25 : Fin (k0_t25_loop v411).trips) : Fin 1 → Nat :=
  let c0_i32_266 : BitVec 32 := 0#32
  let c0_i32_267 : BitVec 32 := 0#32
  let c1_i32_269 : BitVec 32 := 1#32
  let arg13 : BitVec 32 := Scf.iv c0_i32_267 c1_i32_269 k0_t25
  let c1_i32_265 : BitVec 32 := 1#32
  let v1572 : BitVec 32 := Scalar.muli arg13 c1_i32_265
  let v1573 : BitVec 32 := Scalar.addi c0_i32_266 v1572
  let c16_i32_921 : BitVec 32 := 16#32
  let v1574 : BitVec 32 := Scalar.muli v1573 c16_i32_921
  let v1575 : Index := Scalar.indexCast v1574
  ![v1575.toNat]
@[reducible] def k0_t26_loop (v411 : BitVec 32) : Scf.Loop 32 :=
  let c0_i32_267 : BitVec 32 := 0#32
  let c0_i32_261 : BitVec 32 := 0#32
  let v569 : BitVec 32 := Scalar.subi v411 c0_i32_261
  let c1_i32_262 : BitVec 32 := 1#32
  let c1_i32_263 : BitVec 32 := 1#32
  let v570 : BitVec 32 := Scalar.subi c1_i32_262 c1_i32_263
  let v571 : BitVec 32 := Scalar.addi v569 v570
  let c1_i32_264 : BitVec 32 := 1#32
  let v572 : BitVec 32 := Scalar.divsi v571 c1_i32_264
  let v573 : BitVec 32 := Scalar.subi v572 c0_i32_267
  let c1_i32_268 : BitVec 32 := 1#32
  let v575 : BitVec 32 := Scalar.divsi v573 c1_i32_268
  let v576 : BitVec 32 := Scalar.muli v575 c1_i32_268
  let v577 : BitVec 32 := Scalar.addi c0_i32_267 v576
  let v574 : BitVec 32 := Scalar.addi c0_i32_267 v573
  let c1_i32_270 : BitVec 32 := 1#32
  ⟨v577, v574, c1_i32_270⟩
def k0_off28 (v411 : BitVec 32) (k0_t26 : Fin (k0_t26_loop v411).trips) : Fin 1 → Nat :=
  let c0_i32_266 : BitVec 32 := 0#32
  let c0_i32_267 : BitVec 32 := 0#32
  let c0_i32_261 : BitVec 32 := 0#32
  let v569 : BitVec 32 := Scalar.subi v411 c0_i32_261
  let c1_i32_262 : BitVec 32 := 1#32
  let c1_i32_263 : BitVec 32 := 1#32
  let v570 : BitVec 32 := Scalar.subi c1_i32_262 c1_i32_263
  let v571 : BitVec 32 := Scalar.addi v569 v570
  let c1_i32_264 : BitVec 32 := 1#32
  let v572 : BitVec 32 := Scalar.divsi v571 c1_i32_264
  let v573 : BitVec 32 := Scalar.subi v572 c0_i32_267
  let c1_i32_268 : BitVec 32 := 1#32
  let v575 : BitVec 32 := Scalar.divsi v573 c1_i32_268
  let v576 : BitVec 32 := Scalar.muli v575 c1_i32_268
  let v577 : BitVec 32 := Scalar.addi c0_i32_267 v576
  let c1_i32_270 : BitVec 32 := 1#32
  let arg13 : BitVec 32 := Scf.iv v577 c1_i32_270 k0_t26
  let c1_i32_265 : BitVec 32 := 1#32
  let v1572 : BitVec 32 := Scalar.muli arg13 c1_i32_265
  let v1573 : BitVec 32 := Scalar.addi c0_i32_266 v1572
  let c16_i32_921 : BitVec 32 := 16#32
  let v1574 : BitVec 32 := Scalar.muli v1573 c16_i32_921
  let v1575 : Index := Scalar.indexCast v1574
  ![v1575.toNat]
@[reducible] def k0_t27_loop (v411 : BitVec 32) : Scf.Loop 32 :=
  let c0_i32_277 : BitVec 32 := 0#32
  let c0_i32_271 : BitVec 32 := 0#32
  let v584 : BitVec 32 := Scalar.subi v411 c0_i32_271
  let c1_i32_272 : BitVec 32 := 1#32
  let c1_i32_273 : BitVec 32 := 1#32
  let v585 : BitVec 32 := Scalar.subi c1_i32_272 c1_i32_273
  let v586 : BitVec 32 := Scalar.addi v584 v585
  let c1_i32_274 : BitVec 32 := 1#32
  let v587 : BitVec 32 := Scalar.divsi v586 c1_i32_274
  let v588 : BitVec 32 := Scalar.subi v587 c0_i32_277
  let c1_i32_278 : BitVec 32 := 1#32
  let v590 : BitVec 32 := Scalar.divsi v588 c1_i32_278
  let v591 : BitVec 32 := Scalar.muli v590 c1_i32_278
  let v592 : BitVec 32 := Scalar.addi c0_i32_277 v591
  let c1_i32_279 : BitVec 32 := 1#32
  ⟨c0_i32_277, v592, c1_i32_279⟩
def k0_off29 (v411 : BitVec 32) (k0_t27 : Fin (k0_t27_loop v411).trips) : Fin 1 → Nat :=
  let c0_i32_276 : BitVec 32 := 0#32
  let c0_i32_277 : BitVec 32 := 0#32
  let c1_i32_279 : BitVec 32 := 1#32
  let arg13 : BitVec 32 := Scf.iv c0_i32_277 c1_i32_279 k0_t27
  let c1_i32_275 : BitVec 32 := 1#32
  let v1572 : BitVec 32 := Scalar.muli arg13 c1_i32_275
  let v1573 : BitVec 32 := Scalar.addi c0_i32_276 v1572
  let c16_i32_921 : BitVec 32 := 16#32
  let v1574 : BitVec 32 := Scalar.muli v1573 c16_i32_921
  let v1575 : Index := Scalar.indexCast v1574
  ![v1575.toNat]
@[reducible] def k0_t28_loop (v411 : BitVec 32) : Scf.Loop 32 :=
  let c0_i32_277 : BitVec 32 := 0#32
  let c0_i32_271 : BitVec 32 := 0#32
  let v584 : BitVec 32 := Scalar.subi v411 c0_i32_271
  let c1_i32_272 : BitVec 32 := 1#32
  let c1_i32_273 : BitVec 32 := 1#32
  let v585 : BitVec 32 := Scalar.subi c1_i32_272 c1_i32_273
  let v586 : BitVec 32 := Scalar.addi v584 v585
  let c1_i32_274 : BitVec 32 := 1#32
  let v587 : BitVec 32 := Scalar.divsi v586 c1_i32_274
  let v588 : BitVec 32 := Scalar.subi v587 c0_i32_277
  let c1_i32_278 : BitVec 32 := 1#32
  let v590 : BitVec 32 := Scalar.divsi v588 c1_i32_278
  let v591 : BitVec 32 := Scalar.muli v590 c1_i32_278
  let v592 : BitVec 32 := Scalar.addi c0_i32_277 v591
  let v589 : BitVec 32 := Scalar.addi c0_i32_277 v588
  let c1_i32_280 : BitVec 32 := 1#32
  ⟨v592, v589, c1_i32_280⟩
def k0_off30 (v411 : BitVec 32) (k0_t28 : Fin (k0_t28_loop v411).trips) : Fin 1 → Nat :=
  let c0_i32_276 : BitVec 32 := 0#32
  let c0_i32_277 : BitVec 32 := 0#32
  let c0_i32_271 : BitVec 32 := 0#32
  let v584 : BitVec 32 := Scalar.subi v411 c0_i32_271
  let c1_i32_272 : BitVec 32 := 1#32
  let c1_i32_273 : BitVec 32 := 1#32
  let v585 : BitVec 32 := Scalar.subi c1_i32_272 c1_i32_273
  let v586 : BitVec 32 := Scalar.addi v584 v585
  let c1_i32_274 : BitVec 32 := 1#32
  let v587 : BitVec 32 := Scalar.divsi v586 c1_i32_274
  let v588 : BitVec 32 := Scalar.subi v587 c0_i32_277
  let c1_i32_278 : BitVec 32 := 1#32
  let v590 : BitVec 32 := Scalar.divsi v588 c1_i32_278
  let v591 : BitVec 32 := Scalar.muli v590 c1_i32_278
  let v592 : BitVec 32 := Scalar.addi c0_i32_277 v591
  let c1_i32_280 : BitVec 32 := 1#32
  let arg13 : BitVec 32 := Scf.iv v592 c1_i32_280 k0_t28
  let c1_i32_275 : BitVec 32 := 1#32
  let v1572 : BitVec 32 := Scalar.muli arg13 c1_i32_275
  let v1573 : BitVec 32 := Scalar.addi c0_i32_276 v1572
  let c16_i32_921 : BitVec 32 := 16#32
  let v1574 : BitVec 32 := Scalar.muli v1573 c16_i32_921
  let v1575 : Index := Scalar.indexCast v1574
  ![v1575.toNat]
@[reducible] def k0_t29_loop (v411 : BitVec 32) : Scf.Loop 32 :=
  let c0_i32_287 : BitVec 32 := 0#32
  let c0_i32_281 : BitVec 32 := 0#32
  let v599 : BitVec 32 := Scalar.subi v411 c0_i32_281
  let c1_i32_282 : BitVec 32 := 1#32
  let c1_i32_283 : BitVec 32 := 1#32
  let v600 : BitVec 32 := Scalar.subi c1_i32_282 c1_i32_283
  let v601 : BitVec 32 := Scalar.addi v599 v600
  let c1_i32_284 : BitVec 32 := 1#32
  let v602 : BitVec 32 := Scalar.divsi v601 c1_i32_284
  let v603 : BitVec 32 := Scalar.subi v602 c0_i32_287
  let c1_i32_288 : BitVec 32 := 1#32
  let v605 : BitVec 32 := Scalar.divsi v603 c1_i32_288
  let v606 : BitVec 32 := Scalar.muli v605 c1_i32_288
  let v607 : BitVec 32 := Scalar.addi c0_i32_287 v606
  let c1_i32_289 : BitVec 32 := 1#32
  ⟨c0_i32_287, v607, c1_i32_289⟩
def k0_off31 (v411 : BitVec 32) (k0_t29 : Fin (k0_t29_loop v411).trips) : Fin 1 → Nat :=
  let c0_i32_286 : BitVec 32 := 0#32
  let c0_i32_287 : BitVec 32 := 0#32
  let c1_i32_289 : BitVec 32 := 1#32
  let arg13 : BitVec 32 := Scf.iv c0_i32_287 c1_i32_289 k0_t29
  let c1_i32_285 : BitVec 32 := 1#32
  let v1572 : BitVec 32 := Scalar.muli arg13 c1_i32_285
  let v1573 : BitVec 32 := Scalar.addi c0_i32_286 v1572
  let c16_i32_921 : BitVec 32 := 16#32
  let v1574 : BitVec 32 := Scalar.muli v1573 c16_i32_921
  let v1575 : Index := Scalar.indexCast v1574
  ![v1575.toNat]
@[reducible] def k0_t30_loop (v411 : BitVec 32) : Scf.Loop 32 :=
  let c0_i32_287 : BitVec 32 := 0#32
  let c0_i32_281 : BitVec 32 := 0#32
  let v599 : BitVec 32 := Scalar.subi v411 c0_i32_281
  let c1_i32_282 : BitVec 32 := 1#32
  let c1_i32_283 : BitVec 32 := 1#32
  let v600 : BitVec 32 := Scalar.subi c1_i32_282 c1_i32_283
  let v601 : BitVec 32 := Scalar.addi v599 v600
  let c1_i32_284 : BitVec 32 := 1#32
  let v602 : BitVec 32 := Scalar.divsi v601 c1_i32_284
  let v603 : BitVec 32 := Scalar.subi v602 c0_i32_287
  let c1_i32_288 : BitVec 32 := 1#32
  let v605 : BitVec 32 := Scalar.divsi v603 c1_i32_288
  let v606 : BitVec 32 := Scalar.muli v605 c1_i32_288
  let v607 : BitVec 32 := Scalar.addi c0_i32_287 v606
  let v604 : BitVec 32 := Scalar.addi c0_i32_287 v603
  let c1_i32_290 : BitVec 32 := 1#32
  ⟨v607, v604, c1_i32_290⟩
def k0_off32 (v411 : BitVec 32) (k0_t30 : Fin (k0_t30_loop v411).trips) : Fin 1 → Nat :=
  let c0_i32_286 : BitVec 32 := 0#32
  let c0_i32_287 : BitVec 32 := 0#32
  let c0_i32_281 : BitVec 32 := 0#32
  let v599 : BitVec 32 := Scalar.subi v411 c0_i32_281
  let c1_i32_282 : BitVec 32 := 1#32
  let c1_i32_283 : BitVec 32 := 1#32
  let v600 : BitVec 32 := Scalar.subi c1_i32_282 c1_i32_283
  let v601 : BitVec 32 := Scalar.addi v599 v600
  let c1_i32_284 : BitVec 32 := 1#32
  let v602 : BitVec 32 := Scalar.divsi v601 c1_i32_284
  let v603 : BitVec 32 := Scalar.subi v602 c0_i32_287
  let c1_i32_288 : BitVec 32 := 1#32
  let v605 : BitVec 32 := Scalar.divsi v603 c1_i32_288
  let v606 : BitVec 32 := Scalar.muli v605 c1_i32_288
  let v607 : BitVec 32 := Scalar.addi c0_i32_287 v606
  let c1_i32_290 : BitVec 32 := 1#32
  let arg13 : BitVec 32 := Scf.iv v607 c1_i32_290 k0_t30
  let c1_i32_285 : BitVec 32 := 1#32
  let v1572 : BitVec 32 := Scalar.muli arg13 c1_i32_285
  let v1573 : BitVec 32 := Scalar.addi c0_i32_286 v1572
  let c16_i32_921 : BitVec 32 := 16#32
  let v1574 : BitVec 32 := Scalar.muli v1573 c16_i32_921
  let v1575 : Index := Scalar.indexCast v1574
  ![v1575.toNat]
@[reducible] def k0_t31_loop (v411 : BitVec 32) : Scf.Loop 32 :=
  let c0_i32_297 : BitVec 32 := 0#32
  let c0_i32_291 : BitVec 32 := 0#32
  let v614 : BitVec 32 := Scalar.subi v411 c0_i32_291
  let c1_i32_292 : BitVec 32 := 1#32
  let c1_i32_293 : BitVec 32 := 1#32
  let v615 : BitVec 32 := Scalar.subi c1_i32_292 c1_i32_293
  let v616 : BitVec 32 := Scalar.addi v614 v615
  let c1_i32_294 : BitVec 32 := 1#32
  let v617 : BitVec 32 := Scalar.divsi v616 c1_i32_294
  let v618 : BitVec 32 := Scalar.subi v617 c0_i32_297
  let c1_i32_298 : BitVec 32 := 1#32
  let v620 : BitVec 32 := Scalar.divsi v618 c1_i32_298
  let v621 : BitVec 32 := Scalar.muli v620 c1_i32_298
  let v622 : BitVec 32 := Scalar.addi c0_i32_297 v621
  let c1_i32_299 : BitVec 32 := 1#32
  ⟨c0_i32_297, v622, c1_i32_299⟩
def k0_off33 (v411 : BitVec 32) (k0_t31 : Fin (k0_t31_loop v411).trips) : Fin 1 → Nat :=
  let c0_i32_296 : BitVec 32 := 0#32
  let c0_i32_297 : BitVec 32 := 0#32
  let c1_i32_299 : BitVec 32 := 1#32
  let arg13 : BitVec 32 := Scf.iv c0_i32_297 c1_i32_299 k0_t31
  let c1_i32_295 : BitVec 32 := 1#32
  let v1572 : BitVec 32 := Scalar.muli arg13 c1_i32_295
  let v1573 : BitVec 32 := Scalar.addi c0_i32_296 v1572
  let c16_i32_921 : BitVec 32 := 16#32
  let v1574 : BitVec 32 := Scalar.muli v1573 c16_i32_921
  let v1575 : Index := Scalar.indexCast v1574
  ![v1575.toNat]
@[reducible] def k0_t32_loop (v411 : BitVec 32) : Scf.Loop 32 :=
  let c0_i32_297 : BitVec 32 := 0#32
  let c0_i32_291 : BitVec 32 := 0#32
  let v614 : BitVec 32 := Scalar.subi v411 c0_i32_291
  let c1_i32_292 : BitVec 32 := 1#32
  let c1_i32_293 : BitVec 32 := 1#32
  let v615 : BitVec 32 := Scalar.subi c1_i32_292 c1_i32_293
  let v616 : BitVec 32 := Scalar.addi v614 v615
  let c1_i32_294 : BitVec 32 := 1#32
  let v617 : BitVec 32 := Scalar.divsi v616 c1_i32_294
  let v618 : BitVec 32 := Scalar.subi v617 c0_i32_297
  let c1_i32_298 : BitVec 32 := 1#32
  let v620 : BitVec 32 := Scalar.divsi v618 c1_i32_298
  let v621 : BitVec 32 := Scalar.muli v620 c1_i32_298
  let v622 : BitVec 32 := Scalar.addi c0_i32_297 v621
  let v619 : BitVec 32 := Scalar.addi c0_i32_297 v618
  let c1_i32_300 : BitVec 32 := 1#32
  ⟨v622, v619, c1_i32_300⟩
def k0_off34 (v411 : BitVec 32) (k0_t32 : Fin (k0_t32_loop v411).trips) : Fin 1 → Nat :=
  let c0_i32_296 : BitVec 32 := 0#32
  let c0_i32_297 : BitVec 32 := 0#32
  let c0_i32_291 : BitVec 32 := 0#32
  let v614 : BitVec 32 := Scalar.subi v411 c0_i32_291
  let c1_i32_292 : BitVec 32 := 1#32
  let c1_i32_293 : BitVec 32 := 1#32
  let v615 : BitVec 32 := Scalar.subi c1_i32_292 c1_i32_293
  let v616 : BitVec 32 := Scalar.addi v614 v615
  let c1_i32_294 : BitVec 32 := 1#32
  let v617 : BitVec 32 := Scalar.divsi v616 c1_i32_294
  let v618 : BitVec 32 := Scalar.subi v617 c0_i32_297
  let c1_i32_298 : BitVec 32 := 1#32
  let v620 : BitVec 32 := Scalar.divsi v618 c1_i32_298
  let v621 : BitVec 32 := Scalar.muli v620 c1_i32_298
  let v622 : BitVec 32 := Scalar.addi c0_i32_297 v621
  let c1_i32_300 : BitVec 32 := 1#32
  let arg13 : BitVec 32 := Scf.iv v622 c1_i32_300 k0_t32
  let c1_i32_295 : BitVec 32 := 1#32
  let v1572 : BitVec 32 := Scalar.muli arg13 c1_i32_295
  let v1573 : BitVec 32 := Scalar.addi c0_i32_296 v1572
  let c16_i32_921 : BitVec 32 := 16#32
  let v1574 : BitVec 32 := Scalar.muli v1573 c16_i32_921
  let v1575 : Index := Scalar.indexCast v1574
  ![v1575.toNat]
@[reducible] def k0_t33_loop (v411 : BitVec 32) : Scf.Loop 32 :=
  let c0_i32_308 : BitVec 32 := 0#32
  let c0_i32_302 : BitVec 32 := 0#32
  let v629 : BitVec 32 := Scalar.subi v411 c0_i32_302
  let c1_i32_303 : BitVec 32 := 1#32
  let c1_i32_304 : BitVec 32 := 1#32
  let v630 : BitVec 32 := Scalar.subi c1_i32_303 c1_i32_304
  let v631 : BitVec 32 := Scalar.addi v629 v630
  let c1_i32_305 : BitVec 32 := 1#32
  let v632 : BitVec 32 := Scalar.divsi v631 c1_i32_305
  let v633 : BitVec 32 := Scalar.subi v632 c0_i32_308
  let c1_i32_309 : BitVec 32 := 1#32
  let v635 : BitVec 32 := Scalar.divsi v633 c1_i32_309
  let v636 : BitVec 32 := Scalar.muli v635 c1_i32_309
  let v637 : BitVec 32 := Scalar.addi c0_i32_308 v636
  let c1_i32_310 : BitVec 32 := 1#32
  ⟨c0_i32_308, v637, c1_i32_310⟩
def k0_off35 (v411 : BitVec 32) (k0_t33 : Fin (k0_t33_loop v411).trips) : Fin 1 → Nat :=
  let c0_i32_307 : BitVec 32 := 0#32
  let c0_i32_308 : BitVec 32 := 0#32
  let c1_i32_310 : BitVec 32 := 1#32
  let arg13 : BitVec 32 := Scf.iv c0_i32_308 c1_i32_310 k0_t33
  let c1_i32_306 : BitVec 32 := 1#32
  let v1572 : BitVec 32 := Scalar.muli arg13 c1_i32_306
  let v1573 : BitVec 32 := Scalar.addi c0_i32_307 v1572
  let c16_i32_921 : BitVec 32 := 16#32
  let v1574 : BitVec 32 := Scalar.muli v1573 c16_i32_921
  let v1575 : Index := Scalar.indexCast v1574
  ![v1575.toNat]
@[reducible] def k0_t34_loop (v411 : BitVec 32) : Scf.Loop 32 :=
  let c0_i32_308 : BitVec 32 := 0#32
  let c0_i32_302 : BitVec 32 := 0#32
  let v629 : BitVec 32 := Scalar.subi v411 c0_i32_302
  let c1_i32_303 : BitVec 32 := 1#32
  let c1_i32_304 : BitVec 32 := 1#32
  let v630 : BitVec 32 := Scalar.subi c1_i32_303 c1_i32_304
  let v631 : BitVec 32 := Scalar.addi v629 v630
  let c1_i32_305 : BitVec 32 := 1#32
  let v632 : BitVec 32 := Scalar.divsi v631 c1_i32_305
  let v633 : BitVec 32 := Scalar.subi v632 c0_i32_308
  let c1_i32_309 : BitVec 32 := 1#32
  let v635 : BitVec 32 := Scalar.divsi v633 c1_i32_309
  let v636 : BitVec 32 := Scalar.muli v635 c1_i32_309
  let v637 : BitVec 32 := Scalar.addi c0_i32_308 v636
  let v634 : BitVec 32 := Scalar.addi c0_i32_308 v633
  let c1_i32_311 : BitVec 32 := 1#32
  ⟨v637, v634, c1_i32_311⟩
def k0_off36 (v411 : BitVec 32) (k0_t34 : Fin (k0_t34_loop v411).trips) : Fin 1 → Nat :=
  let c0_i32_307 : BitVec 32 := 0#32
  let c0_i32_308 : BitVec 32 := 0#32
  let c0_i32_302 : BitVec 32 := 0#32
  let v629 : BitVec 32 := Scalar.subi v411 c0_i32_302
  let c1_i32_303 : BitVec 32 := 1#32
  let c1_i32_304 : BitVec 32 := 1#32
  let v630 : BitVec 32 := Scalar.subi c1_i32_303 c1_i32_304
  let v631 : BitVec 32 := Scalar.addi v629 v630
  let c1_i32_305 : BitVec 32 := 1#32
  let v632 : BitVec 32 := Scalar.divsi v631 c1_i32_305
  let v633 : BitVec 32 := Scalar.subi v632 c0_i32_308
  let c1_i32_309 : BitVec 32 := 1#32
  let v635 : BitVec 32 := Scalar.divsi v633 c1_i32_309
  let v636 : BitVec 32 := Scalar.muli v635 c1_i32_309
  let v637 : BitVec 32 := Scalar.addi c0_i32_308 v636
  let c1_i32_311 : BitVec 32 := 1#32
  let arg13 : BitVec 32 := Scf.iv v637 c1_i32_311 k0_t34
  let c1_i32_306 : BitVec 32 := 1#32
  let v1572 : BitVec 32 := Scalar.muli arg13 c1_i32_306
  let v1573 : BitVec 32 := Scalar.addi c0_i32_307 v1572
  let c16_i32_921 : BitVec 32 := 16#32
  let v1574 : BitVec 32 := Scalar.muli v1573 c16_i32_921
  let v1575 : Index := Scalar.indexCast v1574
  ![v1575.toNat]
@[reducible] def k0_t35_loop (v411 : BitVec 32) : Scf.Loop 32 :=
  let c0_i32_318 : BitVec 32 := 0#32
  let c0_i32_312 : BitVec 32 := 0#32
  let v644 : BitVec 32 := Scalar.subi v411 c0_i32_312
  let c1_i32_313 : BitVec 32 := 1#32
  let c1_i32_314 : BitVec 32 := 1#32
  let v645 : BitVec 32 := Scalar.subi c1_i32_313 c1_i32_314
  let v646 : BitVec 32 := Scalar.addi v644 v645
  let c1_i32_315 : BitVec 32 := 1#32
  let v647 : BitVec 32 := Scalar.divsi v646 c1_i32_315
  let v648 : BitVec 32 := Scalar.subi v647 c0_i32_318
  let c1_i32_319 : BitVec 32 := 1#32
  let v650 : BitVec 32 := Scalar.divsi v648 c1_i32_319
  let v651 : BitVec 32 := Scalar.muli v650 c1_i32_319
  let v652 : BitVec 32 := Scalar.addi c0_i32_318 v651
  let c1_i32_320 : BitVec 32 := 1#32
  ⟨c0_i32_318, v652, c1_i32_320⟩
def k0_off37 (v411 : BitVec 32) (k0_t35 : Fin (k0_t35_loop v411).trips) : Fin 1 → Nat :=
  let c0_i32_317 : BitVec 32 := 0#32
  let c0_i32_318 : BitVec 32 := 0#32
  let c1_i32_320 : BitVec 32 := 1#32
  let arg13 : BitVec 32 := Scf.iv c0_i32_318 c1_i32_320 k0_t35
  let c1_i32_316 : BitVec 32 := 1#32
  let v1572 : BitVec 32 := Scalar.muli arg13 c1_i32_316
  let v1573 : BitVec 32 := Scalar.addi c0_i32_317 v1572
  let c16_i32_921 : BitVec 32 := 16#32
  let v1574 : BitVec 32 := Scalar.muli v1573 c16_i32_921
  let v1575 : Index := Scalar.indexCast v1574
  ![v1575.toNat]
@[reducible] def k0_t36_loop (v411 : BitVec 32) : Scf.Loop 32 :=
  let c0_i32_318 : BitVec 32 := 0#32
  let c0_i32_312 : BitVec 32 := 0#32
  let v644 : BitVec 32 := Scalar.subi v411 c0_i32_312
  let c1_i32_313 : BitVec 32 := 1#32
  let c1_i32_314 : BitVec 32 := 1#32
  let v645 : BitVec 32 := Scalar.subi c1_i32_313 c1_i32_314
  let v646 : BitVec 32 := Scalar.addi v644 v645
  let c1_i32_315 : BitVec 32 := 1#32
  let v647 : BitVec 32 := Scalar.divsi v646 c1_i32_315
  let v648 : BitVec 32 := Scalar.subi v647 c0_i32_318
  let c1_i32_319 : BitVec 32 := 1#32
  let v650 : BitVec 32 := Scalar.divsi v648 c1_i32_319
  let v651 : BitVec 32 := Scalar.muli v650 c1_i32_319
  let v652 : BitVec 32 := Scalar.addi c0_i32_318 v651
  let v649 : BitVec 32 := Scalar.addi c0_i32_318 v648
  let c1_i32_321 : BitVec 32 := 1#32
  ⟨v652, v649, c1_i32_321⟩
def k0_off38 (v411 : BitVec 32) (k0_t36 : Fin (k0_t36_loop v411).trips) : Fin 1 → Nat :=
  let c0_i32_317 : BitVec 32 := 0#32
  let c0_i32_318 : BitVec 32 := 0#32
  let c0_i32_312 : BitVec 32 := 0#32
  let v644 : BitVec 32 := Scalar.subi v411 c0_i32_312
  let c1_i32_313 : BitVec 32 := 1#32
  let c1_i32_314 : BitVec 32 := 1#32
  let v645 : BitVec 32 := Scalar.subi c1_i32_313 c1_i32_314
  let v646 : BitVec 32 := Scalar.addi v644 v645
  let c1_i32_315 : BitVec 32 := 1#32
  let v647 : BitVec 32 := Scalar.divsi v646 c1_i32_315
  let v648 : BitVec 32 := Scalar.subi v647 c0_i32_318
  let c1_i32_319 : BitVec 32 := 1#32
  let v650 : BitVec 32 := Scalar.divsi v648 c1_i32_319
  let v651 : BitVec 32 := Scalar.muli v650 c1_i32_319
  let v652 : BitVec 32 := Scalar.addi c0_i32_318 v651
  let c1_i32_321 : BitVec 32 := 1#32
  let arg13 : BitVec 32 := Scf.iv v652 c1_i32_321 k0_t36
  let c1_i32_316 : BitVec 32 := 1#32
  let v1572 : BitVec 32 := Scalar.muli arg13 c1_i32_316
  let v1573 : BitVec 32 := Scalar.addi c0_i32_317 v1572
  let c16_i32_921 : BitVec 32 := 16#32
  let v1574 : BitVec 32 := Scalar.muli v1573 c16_i32_921
  let v1575 : Index := Scalar.indexCast v1574
  ![v1575.toNat]
@[reducible] def k0_t37_loop (v411 : BitVec 32) : Scf.Loop 32 :=
  let c0_i32_329 : BitVec 32 := 0#32
  let c0_i32_323 : BitVec 32 := 0#32
  let v659 : BitVec 32 := Scalar.subi v411 c0_i32_323
  let c1_i32_324 : BitVec 32 := 1#32
  let c1_i32_325 : BitVec 32 := 1#32
  let v660 : BitVec 32 := Scalar.subi c1_i32_324 c1_i32_325
  let v661 : BitVec 32 := Scalar.addi v659 v660
  let c1_i32_326 : BitVec 32 := 1#32
  let v662 : BitVec 32 := Scalar.divsi v661 c1_i32_326
  let v663 : BitVec 32 := Scalar.subi v662 c0_i32_329
  let c1_i32_330 : BitVec 32 := 1#32
  let v665 : BitVec 32 := Scalar.divsi v663 c1_i32_330
  let v666 : BitVec 32 := Scalar.muli v665 c1_i32_330
  let v667 : BitVec 32 := Scalar.addi c0_i32_329 v666
  let c1_i32_331 : BitVec 32 := 1#32
  ⟨c0_i32_329, v667, c1_i32_331⟩
def k0_off39 (v411 : BitVec 32) (k0_t37 : Fin (k0_t37_loop v411).trips) : Fin 1 → Nat :=
  let c0_i32_328 : BitVec 32 := 0#32
  let c0_i32_329 : BitVec 32 := 0#32
  let c1_i32_331 : BitVec 32 := 1#32
  let arg13 : BitVec 32 := Scf.iv c0_i32_329 c1_i32_331 k0_t37
  let c1_i32_327 : BitVec 32 := 1#32
  let v1572 : BitVec 32 := Scalar.muli arg13 c1_i32_327
  let v1573 : BitVec 32 := Scalar.addi c0_i32_328 v1572
  let c16_i32_921 : BitVec 32 := 16#32
  let v1574 : BitVec 32 := Scalar.muli v1573 c16_i32_921
  let v1575 : Index := Scalar.indexCast v1574
  ![v1575.toNat]
@[reducible] def k0_t38_loop (v411 : BitVec 32) : Scf.Loop 32 :=
  let c0_i32_329 : BitVec 32 := 0#32
  let c0_i32_323 : BitVec 32 := 0#32
  let v659 : BitVec 32 := Scalar.subi v411 c0_i32_323
  let c1_i32_324 : BitVec 32 := 1#32
  let c1_i32_325 : BitVec 32 := 1#32
  let v660 : BitVec 32 := Scalar.subi c1_i32_324 c1_i32_325
  let v661 : BitVec 32 := Scalar.addi v659 v660
  let c1_i32_326 : BitVec 32 := 1#32
  let v662 : BitVec 32 := Scalar.divsi v661 c1_i32_326
  let v663 : BitVec 32 := Scalar.subi v662 c0_i32_329
  let c1_i32_330 : BitVec 32 := 1#32
  let v665 : BitVec 32 := Scalar.divsi v663 c1_i32_330
  let v666 : BitVec 32 := Scalar.muli v665 c1_i32_330
  let v667 : BitVec 32 := Scalar.addi c0_i32_329 v666
  let v664 : BitVec 32 := Scalar.addi c0_i32_329 v663
  let c1_i32_332 : BitVec 32 := 1#32
  ⟨v667, v664, c1_i32_332⟩
def k0_off40 (v411 : BitVec 32) (k0_t38 : Fin (k0_t38_loop v411).trips) : Fin 1 → Nat :=
  let c0_i32_328 : BitVec 32 := 0#32
  let c0_i32_329 : BitVec 32 := 0#32
  let c0_i32_323 : BitVec 32 := 0#32
  let v659 : BitVec 32 := Scalar.subi v411 c0_i32_323
  let c1_i32_324 : BitVec 32 := 1#32
  let c1_i32_325 : BitVec 32 := 1#32
  let v660 : BitVec 32 := Scalar.subi c1_i32_324 c1_i32_325
  let v661 : BitVec 32 := Scalar.addi v659 v660
  let c1_i32_326 : BitVec 32 := 1#32
  let v662 : BitVec 32 := Scalar.divsi v661 c1_i32_326
  let v663 : BitVec 32 := Scalar.subi v662 c0_i32_329
  let c1_i32_330 : BitVec 32 := 1#32
  let v665 : BitVec 32 := Scalar.divsi v663 c1_i32_330
  let v666 : BitVec 32 := Scalar.muli v665 c1_i32_330
  let v667 : BitVec 32 := Scalar.addi c0_i32_329 v666
  let c1_i32_332 : BitVec 32 := 1#32
  let arg13 : BitVec 32 := Scf.iv v667 c1_i32_332 k0_t38
  let c1_i32_327 : BitVec 32 := 1#32
  let v1572 : BitVec 32 := Scalar.muli arg13 c1_i32_327
  let v1573 : BitVec 32 := Scalar.addi c0_i32_328 v1572
  let c16_i32_921 : BitVec 32 := 16#32
  let v1574 : BitVec 32 := Scalar.muli v1573 c16_i32_921
  let v1575 : Index := Scalar.indexCast v1574
  ![v1575.toNat]
@[reducible] def k0_t39_loop (v411 : BitVec 32) : Scf.Loop 32 :=
  let c0_i32_340 : BitVec 32 := 0#32
  let c0_i32_334 : BitVec 32 := 0#32
  let v674 : BitVec 32 := Scalar.subi v411 c0_i32_334
  let c1_i32_335 : BitVec 32 := 1#32
  let c1_i32_336 : BitVec 32 := 1#32
  let v675 : BitVec 32 := Scalar.subi c1_i32_335 c1_i32_336
  let v676 : BitVec 32 := Scalar.addi v674 v675
  let c1_i32_337 : BitVec 32 := 1#32
  let v677 : BitVec 32 := Scalar.divsi v676 c1_i32_337
  let v678 : BitVec 32 := Scalar.subi v677 c0_i32_340
  let c1_i32_341 : BitVec 32 := 1#32
  let v680 : BitVec 32 := Scalar.divsi v678 c1_i32_341
  let v681 : BitVec 32 := Scalar.muli v680 c1_i32_341
  let v682 : BitVec 32 := Scalar.addi c0_i32_340 v681
  let c1_i32_342 : BitVec 32 := 1#32
  ⟨c0_i32_340, v682, c1_i32_342⟩
def k0_off41 (v411 : BitVec 32) (k0_t39 : Fin (k0_t39_loop v411).trips) : Fin 1 → Nat :=
  let c0_i32_339 : BitVec 32 := 0#32
  let c0_i32_340 : BitVec 32 := 0#32
  let c1_i32_342 : BitVec 32 := 1#32
  let arg13 : BitVec 32 := Scf.iv c0_i32_340 c1_i32_342 k0_t39
  let c1_i32_338 : BitVec 32 := 1#32
  let v1572 : BitVec 32 := Scalar.muli arg13 c1_i32_338
  let v1573 : BitVec 32 := Scalar.addi c0_i32_339 v1572
  let c16_i32_921 : BitVec 32 := 16#32
  let v1574 : BitVec 32 := Scalar.muli v1573 c16_i32_921
  let v1575 : Index := Scalar.indexCast v1574
  ![v1575.toNat]
@[reducible] def k0_t40_loop (v411 : BitVec 32) : Scf.Loop 32 :=
  let c0_i32_340 : BitVec 32 := 0#32
  let c0_i32_334 : BitVec 32 := 0#32
  let v674 : BitVec 32 := Scalar.subi v411 c0_i32_334
  let c1_i32_335 : BitVec 32 := 1#32
  let c1_i32_336 : BitVec 32 := 1#32
  let v675 : BitVec 32 := Scalar.subi c1_i32_335 c1_i32_336
  let v676 : BitVec 32 := Scalar.addi v674 v675
  let c1_i32_337 : BitVec 32 := 1#32
  let v677 : BitVec 32 := Scalar.divsi v676 c1_i32_337
  let v678 : BitVec 32 := Scalar.subi v677 c0_i32_340
  let c1_i32_341 : BitVec 32 := 1#32
  let v680 : BitVec 32 := Scalar.divsi v678 c1_i32_341
  let v681 : BitVec 32 := Scalar.muli v680 c1_i32_341
  let v682 : BitVec 32 := Scalar.addi c0_i32_340 v681
  let v679 : BitVec 32 := Scalar.addi c0_i32_340 v678
  let c1_i32_343 : BitVec 32 := 1#32
  ⟨v682, v679, c1_i32_343⟩
def k0_off42 (v411 : BitVec 32) (k0_t40 : Fin (k0_t40_loop v411).trips) : Fin 1 → Nat :=
  let c0_i32_339 : BitVec 32 := 0#32
  let c0_i32_340 : BitVec 32 := 0#32
  let c0_i32_334 : BitVec 32 := 0#32
  let v674 : BitVec 32 := Scalar.subi v411 c0_i32_334
  let c1_i32_335 : BitVec 32 := 1#32
  let c1_i32_336 : BitVec 32 := 1#32
  let v675 : BitVec 32 := Scalar.subi c1_i32_335 c1_i32_336
  let v676 : BitVec 32 := Scalar.addi v674 v675
  let c1_i32_337 : BitVec 32 := 1#32
  let v677 : BitVec 32 := Scalar.divsi v676 c1_i32_337
  let v678 : BitVec 32 := Scalar.subi v677 c0_i32_340
  let c1_i32_341 : BitVec 32 := 1#32
  let v680 : BitVec 32 := Scalar.divsi v678 c1_i32_341
  let v681 : BitVec 32 := Scalar.muli v680 c1_i32_341
  let v682 : BitVec 32 := Scalar.addi c0_i32_340 v681
  let c1_i32_343 : BitVec 32 := 1#32
  let arg13 : BitVec 32 := Scf.iv v682 c1_i32_343 k0_t40
  let c1_i32_338 : BitVec 32 := 1#32
  let v1572 : BitVec 32 := Scalar.muli arg13 c1_i32_338
  let v1573 : BitVec 32 := Scalar.addi c0_i32_339 v1572
  let c16_i32_921 : BitVec 32 := 16#32
  let v1574 : BitVec 32 := Scalar.muli v1573 c16_i32_921
  let v1575 : Index := Scalar.indexCast v1574
  ![v1575.toNat]
@[reducible] def k0_t41_loop (v411 : BitVec 32) : Scf.Loop 32 :=
  let c0_i32_351 : BitVec 32 := 0#32
  let c0_i32_345 : BitVec 32 := 0#32
  let v689 : BitVec 32 := Scalar.subi v411 c0_i32_345
  let c1_i32_346 : BitVec 32 := 1#32
  let c1_i32_347 : BitVec 32 := 1#32
  let v690 : BitVec 32 := Scalar.subi c1_i32_346 c1_i32_347
  let v691 : BitVec 32 := Scalar.addi v689 v690
  let c1_i32_348 : BitVec 32 := 1#32
  let v692 : BitVec 32 := Scalar.divsi v691 c1_i32_348
  let v693 : BitVec 32 := Scalar.subi v692 c0_i32_351
  let c1_i32_352 : BitVec 32 := 1#32
  let v695 : BitVec 32 := Scalar.divsi v693 c1_i32_352
  let v696 : BitVec 32 := Scalar.muli v695 c1_i32_352
  let v697 : BitVec 32 := Scalar.addi c0_i32_351 v696
  let c1_i32_353 : BitVec 32 := 1#32
  ⟨c0_i32_351, v697, c1_i32_353⟩
def k0_off43 (v411 : BitVec 32) (k0_t41 : Fin (k0_t41_loop v411).trips) : Fin 1 → Nat :=
  let c0_i32_350 : BitVec 32 := 0#32
  let c0_i32_351 : BitVec 32 := 0#32
  let c1_i32_353 : BitVec 32 := 1#32
  let arg13 : BitVec 32 := Scf.iv c0_i32_351 c1_i32_353 k0_t41
  let c1_i32_349 : BitVec 32 := 1#32
  let v1572 : BitVec 32 := Scalar.muli arg13 c1_i32_349
  let v1573 : BitVec 32 := Scalar.addi c0_i32_350 v1572
  let c16_i32_921 : BitVec 32 := 16#32
  let v1574 : BitVec 32 := Scalar.muli v1573 c16_i32_921
  let v1575 : Index := Scalar.indexCast v1574
  ![v1575.toNat]
@[reducible] def k0_t42_loop (v411 : BitVec 32) : Scf.Loop 32 :=
  let c0_i32_351 : BitVec 32 := 0#32
  let c0_i32_345 : BitVec 32 := 0#32
  let v689 : BitVec 32 := Scalar.subi v411 c0_i32_345
  let c1_i32_346 : BitVec 32 := 1#32
  let c1_i32_347 : BitVec 32 := 1#32
  let v690 : BitVec 32 := Scalar.subi c1_i32_346 c1_i32_347
  let v691 : BitVec 32 := Scalar.addi v689 v690
  let c1_i32_348 : BitVec 32 := 1#32
  let v692 : BitVec 32 := Scalar.divsi v691 c1_i32_348
  let v693 : BitVec 32 := Scalar.subi v692 c0_i32_351
  let c1_i32_352 : BitVec 32 := 1#32
  let v695 : BitVec 32 := Scalar.divsi v693 c1_i32_352
  let v696 : BitVec 32 := Scalar.muli v695 c1_i32_352
  let v697 : BitVec 32 := Scalar.addi c0_i32_351 v696
  let v694 : BitVec 32 := Scalar.addi c0_i32_351 v693
  let c1_i32_354 : BitVec 32 := 1#32
  ⟨v697, v694, c1_i32_354⟩
def k0_off44 (v411 : BitVec 32) (k0_t42 : Fin (k0_t42_loop v411).trips) : Fin 1 → Nat :=
  let c0_i32_350 : BitVec 32 := 0#32
  let c0_i32_351 : BitVec 32 := 0#32
  let c0_i32_345 : BitVec 32 := 0#32
  let v689 : BitVec 32 := Scalar.subi v411 c0_i32_345
  let c1_i32_346 : BitVec 32 := 1#32
  let c1_i32_347 : BitVec 32 := 1#32
  let v690 : BitVec 32 := Scalar.subi c1_i32_346 c1_i32_347
  let v691 : BitVec 32 := Scalar.addi v689 v690
  let c1_i32_348 : BitVec 32 := 1#32
  let v692 : BitVec 32 := Scalar.divsi v691 c1_i32_348
  let v693 : BitVec 32 := Scalar.subi v692 c0_i32_351
  let c1_i32_352 : BitVec 32 := 1#32
  let v695 : BitVec 32 := Scalar.divsi v693 c1_i32_352
  let v696 : BitVec 32 := Scalar.muli v695 c1_i32_352
  let v697 : BitVec 32 := Scalar.addi c0_i32_351 v696
  let c1_i32_354 : BitVec 32 := 1#32
  let arg13 : BitVec 32 := Scf.iv v697 c1_i32_354 k0_t42
  let c1_i32_349 : BitVec 32 := 1#32
  let v1572 : BitVec 32 := Scalar.muli arg13 c1_i32_349
  let v1573 : BitVec 32 := Scalar.addi c0_i32_350 v1572
  let c16_i32_921 : BitVec 32 := 16#32
  let v1574 : BitVec 32 := Scalar.muli v1573 c16_i32_921
  let v1575 : Index := Scalar.indexCast v1574
  ![v1575.toNat]
@[reducible] def k0_t43_loop (v411 : BitVec 32) : Scf.Loop 32 :=
  let c0_i32_362 : BitVec 32 := 0#32
  let c0_i32_356 : BitVec 32 := 0#32
  let v704 : BitVec 32 := Scalar.subi v411 c0_i32_356
  let c1_i32_357 : BitVec 32 := 1#32
  let c1_i32_358 : BitVec 32 := 1#32
  let v705 : BitVec 32 := Scalar.subi c1_i32_357 c1_i32_358
  let v706 : BitVec 32 := Scalar.addi v704 v705
  let c1_i32_359 : BitVec 32 := 1#32
  let v707 : BitVec 32 := Scalar.divsi v706 c1_i32_359
  let v708 : BitVec 32 := Scalar.subi v707 c0_i32_362
  let c1_i32_363 : BitVec 32 := 1#32
  let v710 : BitVec 32 := Scalar.divsi v708 c1_i32_363
  let v711 : BitVec 32 := Scalar.muli v710 c1_i32_363
  let v712 : BitVec 32 := Scalar.addi c0_i32_362 v711
  let c1_i32_364 : BitVec 32 := 1#32
  ⟨c0_i32_362, v712, c1_i32_364⟩
def k0_off45 (v411 : BitVec 32) (k0_t43 : Fin (k0_t43_loop v411).trips) : Fin 1 → Nat :=
  let c0_i32_361 : BitVec 32 := 0#32
  let c0_i32_362 : BitVec 32 := 0#32
  let c1_i32_364 : BitVec 32 := 1#32
  let arg13 : BitVec 32 := Scf.iv c0_i32_362 c1_i32_364 k0_t43
  let c1_i32_360 : BitVec 32 := 1#32
  let v1572 : BitVec 32 := Scalar.muli arg13 c1_i32_360
  let v1573 : BitVec 32 := Scalar.addi c0_i32_361 v1572
  let c16_i32_921 : BitVec 32 := 16#32
  let v1574 : BitVec 32 := Scalar.muli v1573 c16_i32_921
  let v1575 : Index := Scalar.indexCast v1574
  ![v1575.toNat]
@[reducible] def k0_t44_loop (v411 : BitVec 32) : Scf.Loop 32 :=
  let c0_i32_362 : BitVec 32 := 0#32
  let c0_i32_356 : BitVec 32 := 0#32
  let v704 : BitVec 32 := Scalar.subi v411 c0_i32_356
  let c1_i32_357 : BitVec 32 := 1#32
  let c1_i32_358 : BitVec 32 := 1#32
  let v705 : BitVec 32 := Scalar.subi c1_i32_357 c1_i32_358
  let v706 : BitVec 32 := Scalar.addi v704 v705
  let c1_i32_359 : BitVec 32 := 1#32
  let v707 : BitVec 32 := Scalar.divsi v706 c1_i32_359
  let v708 : BitVec 32 := Scalar.subi v707 c0_i32_362
  let c1_i32_363 : BitVec 32 := 1#32
  let v710 : BitVec 32 := Scalar.divsi v708 c1_i32_363
  let v711 : BitVec 32 := Scalar.muli v710 c1_i32_363
  let v712 : BitVec 32 := Scalar.addi c0_i32_362 v711
  let v709 : BitVec 32 := Scalar.addi c0_i32_362 v708
  let c1_i32_365 : BitVec 32 := 1#32
  ⟨v712, v709, c1_i32_365⟩
def k0_off46 (v411 : BitVec 32) (k0_t44 : Fin (k0_t44_loop v411).trips) : Fin 1 → Nat :=
  let c0_i32_361 : BitVec 32 := 0#32
  let c0_i32_362 : BitVec 32 := 0#32
  let c0_i32_356 : BitVec 32 := 0#32
  let v704 : BitVec 32 := Scalar.subi v411 c0_i32_356
  let c1_i32_357 : BitVec 32 := 1#32
  let c1_i32_358 : BitVec 32 := 1#32
  let v705 : BitVec 32 := Scalar.subi c1_i32_357 c1_i32_358
  let v706 : BitVec 32 := Scalar.addi v704 v705
  let c1_i32_359 : BitVec 32 := 1#32
  let v707 : BitVec 32 := Scalar.divsi v706 c1_i32_359
  let v708 : BitVec 32 := Scalar.subi v707 c0_i32_362
  let c1_i32_363 : BitVec 32 := 1#32
  let v710 : BitVec 32 := Scalar.divsi v708 c1_i32_363
  let v711 : BitVec 32 := Scalar.muli v710 c1_i32_363
  let v712 : BitVec 32 := Scalar.addi c0_i32_362 v711
  let c1_i32_365 : BitVec 32 := 1#32
  let arg13 : BitVec 32 := Scf.iv v712 c1_i32_365 k0_t44
  let c1_i32_360 : BitVec 32 := 1#32
  let v1572 : BitVec 32 := Scalar.muli arg13 c1_i32_360
  let v1573 : BitVec 32 := Scalar.addi c0_i32_361 v1572
  let c16_i32_921 : BitVec 32 := 16#32
  let v1574 : BitVec 32 := Scalar.muli v1573 c16_i32_921
  let v1575 : Index := Scalar.indexCast v1574
  ![v1575.toNat]
@[reducible] def k0_t45_loop (v411 : BitVec 32) : Scf.Loop 32 :=
  let c0_i32_373 : BitVec 32 := 0#32
  let c0_i32_367 : BitVec 32 := 0#32
  let v719 : BitVec 32 := Scalar.subi v411 c0_i32_367
  let c1_i32_368 : BitVec 32 := 1#32
  let c1_i32_369 : BitVec 32 := 1#32
  let v720 : BitVec 32 := Scalar.subi c1_i32_368 c1_i32_369
  let v721 : BitVec 32 := Scalar.addi v719 v720
  let c1_i32_370 : BitVec 32 := 1#32
  let v722 : BitVec 32 := Scalar.divsi v721 c1_i32_370
  let v723 : BitVec 32 := Scalar.subi v722 c0_i32_373
  let c1_i32_374 : BitVec 32 := 1#32
  let v725 : BitVec 32 := Scalar.divsi v723 c1_i32_374
  let v726 : BitVec 32 := Scalar.muli v725 c1_i32_374
  let v727 : BitVec 32 := Scalar.addi c0_i32_373 v726
  let c1_i32_375 : BitVec 32 := 1#32
  ⟨c0_i32_373, v727, c1_i32_375⟩
def k0_off47 (v411 : BitVec 32) (k0_t45 : Fin (k0_t45_loop v411).trips) : Fin 1 → Nat :=
  let c0_i32_372 : BitVec 32 := 0#32
  let c0_i32_373 : BitVec 32 := 0#32
  let c1_i32_375 : BitVec 32 := 1#32
  let arg13 : BitVec 32 := Scf.iv c0_i32_373 c1_i32_375 k0_t45
  let c1_i32_371 : BitVec 32 := 1#32
  let v1572 : BitVec 32 := Scalar.muli arg13 c1_i32_371
  let v1573 : BitVec 32 := Scalar.addi c0_i32_372 v1572
  let c16_i32_921 : BitVec 32 := 16#32
  let v1574 : BitVec 32 := Scalar.muli v1573 c16_i32_921
  let v1575 : Index := Scalar.indexCast v1574
  ![v1575.toNat]
@[reducible] def k0_t46_loop (v411 : BitVec 32) : Scf.Loop 32 :=
  let c0_i32_373 : BitVec 32 := 0#32
  let c0_i32_367 : BitVec 32 := 0#32
  let v719 : BitVec 32 := Scalar.subi v411 c0_i32_367
  let c1_i32_368 : BitVec 32 := 1#32
  let c1_i32_369 : BitVec 32 := 1#32
  let v720 : BitVec 32 := Scalar.subi c1_i32_368 c1_i32_369
  let v721 : BitVec 32 := Scalar.addi v719 v720
  let c1_i32_370 : BitVec 32 := 1#32
  let v722 : BitVec 32 := Scalar.divsi v721 c1_i32_370
  let v723 : BitVec 32 := Scalar.subi v722 c0_i32_373
  let c1_i32_374 : BitVec 32 := 1#32
  let v725 : BitVec 32 := Scalar.divsi v723 c1_i32_374
  let v726 : BitVec 32 := Scalar.muli v725 c1_i32_374
  let v727 : BitVec 32 := Scalar.addi c0_i32_373 v726
  let v724 : BitVec 32 := Scalar.addi c0_i32_373 v723
  let c1_i32_376 : BitVec 32 := 1#32
  ⟨v727, v724, c1_i32_376⟩
def k0_off48 (v411 : BitVec 32) (k0_t46 : Fin (k0_t46_loop v411).trips) : Fin 1 → Nat :=
  let c0_i32_372 : BitVec 32 := 0#32
  let c0_i32_373 : BitVec 32 := 0#32
  let c0_i32_367 : BitVec 32 := 0#32
  let v719 : BitVec 32 := Scalar.subi v411 c0_i32_367
  let c1_i32_368 : BitVec 32 := 1#32
  let c1_i32_369 : BitVec 32 := 1#32
  let v720 : BitVec 32 := Scalar.subi c1_i32_368 c1_i32_369
  let v721 : BitVec 32 := Scalar.addi v719 v720
  let c1_i32_370 : BitVec 32 := 1#32
  let v722 : BitVec 32 := Scalar.divsi v721 c1_i32_370
  let v723 : BitVec 32 := Scalar.subi v722 c0_i32_373
  let c1_i32_374 : BitVec 32 := 1#32
  let v725 : BitVec 32 := Scalar.divsi v723 c1_i32_374
  let v726 : BitVec 32 := Scalar.muli v725 c1_i32_374
  let v727 : BitVec 32 := Scalar.addi c0_i32_373 v726
  let c1_i32_376 : BitVec 32 := 1#32
  let arg13 : BitVec 32 := Scf.iv v727 c1_i32_376 k0_t46
  let c1_i32_371 : BitVec 32 := 1#32
  let v1572 : BitVec 32 := Scalar.muli arg13 c1_i32_371
  let v1573 : BitVec 32 := Scalar.addi c0_i32_372 v1572
  let c16_i32_921 : BitVec 32 := 16#32
  let v1574 : BitVec 32 := Scalar.muli v1573 c16_i32_921
  let v1575 : Index := Scalar.indexCast v1574
  ![v1575.toNat]
@[reducible] def k0_t47_loop (v411 : BitVec 32) : Scf.Loop 32 :=
  let c0_i32_383 : BitVec 32 := 0#32
  let c0_i32_377 : BitVec 32 := 0#32
  let v734 : BitVec 32 := Scalar.subi v411 c0_i32_377
  let c1_i32_378 : BitVec 32 := 1#32
  let c1_i32_379 : BitVec 32 := 1#32
  let v735 : BitVec 32 := Scalar.subi c1_i32_378 c1_i32_379
  let v736 : BitVec 32 := Scalar.addi v734 v735
  let c1_i32_380 : BitVec 32 := 1#32
  let v737 : BitVec 32 := Scalar.divsi v736 c1_i32_380
  let v738 : BitVec 32 := Scalar.subi v737 c0_i32_383
  let c1_i32_384 : BitVec 32 := 1#32
  let v740 : BitVec 32 := Scalar.divsi v738 c1_i32_384
  let v741 : BitVec 32 := Scalar.muli v740 c1_i32_384
  let v742 : BitVec 32 := Scalar.addi c0_i32_383 v741
  let c1_i32_385 : BitVec 32 := 1#32
  ⟨c0_i32_383, v742, c1_i32_385⟩
def k0_off49 (v411 : BitVec 32) (k0_t47 : Fin (k0_t47_loop v411).trips) : Fin 1 → Nat :=
  let c0_i32_382 : BitVec 32 := 0#32
  let c0_i32_383 : BitVec 32 := 0#32
  let c1_i32_385 : BitVec 32 := 1#32
  let arg13 : BitVec 32 := Scf.iv c0_i32_383 c1_i32_385 k0_t47
  let c1_i32_381 : BitVec 32 := 1#32
  let v1572 : BitVec 32 := Scalar.muli arg13 c1_i32_381
  let v1573 : BitVec 32 := Scalar.addi c0_i32_382 v1572
  let c16_i32_921 : BitVec 32 := 16#32
  let v1574 : BitVec 32 := Scalar.muli v1573 c16_i32_921
  let v1575 : Index := Scalar.indexCast v1574
  ![v1575.toNat]
@[reducible] def k0_t48_loop (v411 : BitVec 32) : Scf.Loop 32 :=
  let c0_i32_383 : BitVec 32 := 0#32
  let c0_i32_377 : BitVec 32 := 0#32
  let v734 : BitVec 32 := Scalar.subi v411 c0_i32_377
  let c1_i32_378 : BitVec 32 := 1#32
  let c1_i32_379 : BitVec 32 := 1#32
  let v735 : BitVec 32 := Scalar.subi c1_i32_378 c1_i32_379
  let v736 : BitVec 32 := Scalar.addi v734 v735
  let c1_i32_380 : BitVec 32 := 1#32
  let v737 : BitVec 32 := Scalar.divsi v736 c1_i32_380
  let v738 : BitVec 32 := Scalar.subi v737 c0_i32_383
  let c1_i32_384 : BitVec 32 := 1#32
  let v740 : BitVec 32 := Scalar.divsi v738 c1_i32_384
  let v741 : BitVec 32 := Scalar.muli v740 c1_i32_384
  let v742 : BitVec 32 := Scalar.addi c0_i32_383 v741
  let v739 : BitVec 32 := Scalar.addi c0_i32_383 v738
  let c1_i32_386 : BitVec 32 := 1#32
  ⟨v742, v739, c1_i32_386⟩
def k0_off50 (v411 : BitVec 32) (k0_t48 : Fin (k0_t48_loop v411).trips) : Fin 1 → Nat :=
  let c0_i32_382 : BitVec 32 := 0#32
  let c0_i32_383 : BitVec 32 := 0#32
  let c0_i32_377 : BitVec 32 := 0#32
  let v734 : BitVec 32 := Scalar.subi v411 c0_i32_377
  let c1_i32_378 : BitVec 32 := 1#32
  let c1_i32_379 : BitVec 32 := 1#32
  let v735 : BitVec 32 := Scalar.subi c1_i32_378 c1_i32_379
  let v736 : BitVec 32 := Scalar.addi v734 v735
  let c1_i32_380 : BitVec 32 := 1#32
  let v737 : BitVec 32 := Scalar.divsi v736 c1_i32_380
  let v738 : BitVec 32 := Scalar.subi v737 c0_i32_383
  let c1_i32_384 : BitVec 32 := 1#32
  let v740 : BitVec 32 := Scalar.divsi v738 c1_i32_384
  let v741 : BitVec 32 := Scalar.muli v740 c1_i32_384
  let v742 : BitVec 32 := Scalar.addi c0_i32_383 v741
  let c1_i32_386 : BitVec 32 := 1#32
  let arg13 : BitVec 32 := Scf.iv v742 c1_i32_386 k0_t48
  let c1_i32_381 : BitVec 32 := 1#32
  let v1572 : BitVec 32 := Scalar.muli arg13 c1_i32_381
  let v1573 : BitVec 32 := Scalar.addi c0_i32_382 v1572
  let c16_i32_921 : BitVec 32 := 16#32
  let v1574 : BitVec 32 := Scalar.muli v1573 c16_i32_921
  let v1575 : Index := Scalar.indexCast v1574
  ![v1575.toNat]
@[reducible] def k0_t49_loop (v411 : BitVec 32) : Scf.Loop 32 :=
  let c0_i32_394 : BitVec 32 := 0#32
  let c0_i32_388 : BitVec 32 := 0#32
  let v749 : BitVec 32 := Scalar.subi v411 c0_i32_388
  let c1_i32_389 : BitVec 32 := 1#32
  let c1_i32_390 : BitVec 32 := 1#32
  let v750 : BitVec 32 := Scalar.subi c1_i32_389 c1_i32_390
  let v751 : BitVec 32 := Scalar.addi v749 v750
  let c1_i32_391 : BitVec 32 := 1#32
  let v752 : BitVec 32 := Scalar.divsi v751 c1_i32_391
  let v753 : BitVec 32 := Scalar.subi v752 c0_i32_394
  let c1_i32_395 : BitVec 32 := 1#32
  let v755 : BitVec 32 := Scalar.divsi v753 c1_i32_395
  let v756 : BitVec 32 := Scalar.muli v755 c1_i32_395
  let v757 : BitVec 32 := Scalar.addi c0_i32_394 v756
  let c1_i32_396 : BitVec 32 := 1#32
  ⟨c0_i32_394, v757, c1_i32_396⟩
def k0_off51 (v411 : BitVec 32) (k0_t49 : Fin (k0_t49_loop v411).trips) : Fin 1 → Nat :=
  let c0_i32_393 : BitVec 32 := 0#32
  let c0_i32_394 : BitVec 32 := 0#32
  let c1_i32_396 : BitVec 32 := 1#32
  let arg13 : BitVec 32 := Scf.iv c0_i32_394 c1_i32_396 k0_t49
  let c1_i32_392 : BitVec 32 := 1#32
  let v1572 : BitVec 32 := Scalar.muli arg13 c1_i32_392
  let v1573 : BitVec 32 := Scalar.addi c0_i32_393 v1572
  let c16_i32_921 : BitVec 32 := 16#32
  let v1574 : BitVec 32 := Scalar.muli v1573 c16_i32_921
  let v1575 : Index := Scalar.indexCast v1574
  ![v1575.toNat]
@[reducible] def k0_t50_loop (v411 : BitVec 32) : Scf.Loop 32 :=
  let c0_i32_394 : BitVec 32 := 0#32
  let c0_i32_388 : BitVec 32 := 0#32
  let v749 : BitVec 32 := Scalar.subi v411 c0_i32_388
  let c1_i32_389 : BitVec 32 := 1#32
  let c1_i32_390 : BitVec 32 := 1#32
  let v750 : BitVec 32 := Scalar.subi c1_i32_389 c1_i32_390
  let v751 : BitVec 32 := Scalar.addi v749 v750
  let c1_i32_391 : BitVec 32 := 1#32
  let v752 : BitVec 32 := Scalar.divsi v751 c1_i32_391
  let v753 : BitVec 32 := Scalar.subi v752 c0_i32_394
  let c1_i32_395 : BitVec 32 := 1#32
  let v755 : BitVec 32 := Scalar.divsi v753 c1_i32_395
  let v756 : BitVec 32 := Scalar.muli v755 c1_i32_395
  let v757 : BitVec 32 := Scalar.addi c0_i32_394 v756
  let v754 : BitVec 32 := Scalar.addi c0_i32_394 v753
  let c1_i32_397 : BitVec 32 := 1#32
  ⟨v757, v754, c1_i32_397⟩
def k0_off52 (v411 : BitVec 32) (k0_t50 : Fin (k0_t50_loop v411).trips) : Fin 1 → Nat :=
  let c0_i32_393 : BitVec 32 := 0#32
  let c0_i32_394 : BitVec 32 := 0#32
  let c0_i32_388 : BitVec 32 := 0#32
  let v749 : BitVec 32 := Scalar.subi v411 c0_i32_388
  let c1_i32_389 : BitVec 32 := 1#32
  let c1_i32_390 : BitVec 32 := 1#32
  let v750 : BitVec 32 := Scalar.subi c1_i32_389 c1_i32_390
  let v751 : BitVec 32 := Scalar.addi v749 v750
  let c1_i32_391 : BitVec 32 := 1#32
  let v752 : BitVec 32 := Scalar.divsi v751 c1_i32_391
  let v753 : BitVec 32 := Scalar.subi v752 c0_i32_394
  let c1_i32_395 : BitVec 32 := 1#32
  let v755 : BitVec 32 := Scalar.divsi v753 c1_i32_395
  let v756 : BitVec 32 := Scalar.muli v755 c1_i32_395
  let v757 : BitVec 32 := Scalar.addi c0_i32_394 v756
  let c1_i32_397 : BitVec 32 := 1#32
  let arg13 : BitVec 32 := Scf.iv v757 c1_i32_397 k0_t50
  let c1_i32_392 : BitVec 32 := 1#32
  let v1572 : BitVec 32 := Scalar.muli arg13 c1_i32_392
  let v1573 : BitVec 32 := Scalar.addi c0_i32_393 v1572
  let c16_i32_921 : BitVec 32 := 16#32
  let v1574 : BitVec 32 := Scalar.muli v1573 c16_i32_921
  let v1575 : Index := Scalar.indexCast v1574
  ![v1575.toNat]
@[reducible] def k0_t51_loop (v411 : BitVec 32) : Scf.Loop 32 :=
  let c0_i32_405 : BitVec 32 := 0#32
  let c0_i32_399 : BitVec 32 := 0#32
  let v764 : BitVec 32 := Scalar.subi v411 c0_i32_399
  let c1_i32_400 : BitVec 32 := 1#32
  let c1_i32_401 : BitVec 32 := 1#32
  let v765 : BitVec 32 := Scalar.subi c1_i32_400 c1_i32_401
  let v766 : BitVec 32 := Scalar.addi v764 v765
  let c1_i32_402 : BitVec 32 := 1#32
  let v767 : BitVec 32 := Scalar.divsi v766 c1_i32_402
  let v768 : BitVec 32 := Scalar.subi v767 c0_i32_405
  let c1_i32_406 : BitVec 32 := 1#32
  let v770 : BitVec 32 := Scalar.divsi v768 c1_i32_406
  let v771 : BitVec 32 := Scalar.muli v770 c1_i32_406
  let v772 : BitVec 32 := Scalar.addi c0_i32_405 v771
  let c1_i32_407 : BitVec 32 := 1#32
  ⟨c0_i32_405, v772, c1_i32_407⟩
def k0_off53 (v411 : BitVec 32) (k0_t51 : Fin (k0_t51_loop v411).trips) : Fin 1 → Nat :=
  let c0_i32_404 : BitVec 32 := 0#32
  let c0_i32_405 : BitVec 32 := 0#32
  let c1_i32_407 : BitVec 32 := 1#32
  let arg13 : BitVec 32 := Scf.iv c0_i32_405 c1_i32_407 k0_t51
  let c1_i32_403 : BitVec 32 := 1#32
  let v1572 : BitVec 32 := Scalar.muli arg13 c1_i32_403
  let v1573 : BitVec 32 := Scalar.addi c0_i32_404 v1572
  let c16_i32_921 : BitVec 32 := 16#32
  let v1574 : BitVec 32 := Scalar.muli v1573 c16_i32_921
  let v1575 : Index := Scalar.indexCast v1574
  ![v1575.toNat]
@[reducible] def k0_t52_loop (v411 : BitVec 32) : Scf.Loop 32 :=
  let c0_i32_405 : BitVec 32 := 0#32
  let c0_i32_399 : BitVec 32 := 0#32
  let v764 : BitVec 32 := Scalar.subi v411 c0_i32_399
  let c1_i32_400 : BitVec 32 := 1#32
  let c1_i32_401 : BitVec 32 := 1#32
  let v765 : BitVec 32 := Scalar.subi c1_i32_400 c1_i32_401
  let v766 : BitVec 32 := Scalar.addi v764 v765
  let c1_i32_402 : BitVec 32 := 1#32
  let v767 : BitVec 32 := Scalar.divsi v766 c1_i32_402
  let v768 : BitVec 32 := Scalar.subi v767 c0_i32_405
  let c1_i32_406 : BitVec 32 := 1#32
  let v770 : BitVec 32 := Scalar.divsi v768 c1_i32_406
  let v771 : BitVec 32 := Scalar.muli v770 c1_i32_406
  let v772 : BitVec 32 := Scalar.addi c0_i32_405 v771
  let v769 : BitVec 32 := Scalar.addi c0_i32_405 v768
  let c1_i32_408 : BitVec 32 := 1#32
  ⟨v772, v769, c1_i32_408⟩
def k0_off54 (v411 : BitVec 32) (k0_t52 : Fin (k0_t52_loop v411).trips) : Fin 1 → Nat :=
  let c0_i32_404 : BitVec 32 := 0#32
  let c0_i32_405 : BitVec 32 := 0#32
  let c0_i32_399 : BitVec 32 := 0#32
  let v764 : BitVec 32 := Scalar.subi v411 c0_i32_399
  let c1_i32_400 : BitVec 32 := 1#32
  let c1_i32_401 : BitVec 32 := 1#32
  let v765 : BitVec 32 := Scalar.subi c1_i32_400 c1_i32_401
  let v766 : BitVec 32 := Scalar.addi v764 v765
  let c1_i32_402 : BitVec 32 := 1#32
  let v767 : BitVec 32 := Scalar.divsi v766 c1_i32_402
  let v768 : BitVec 32 := Scalar.subi v767 c0_i32_405
  let c1_i32_406 : BitVec 32 := 1#32
  let v770 : BitVec 32 := Scalar.divsi v768 c1_i32_406
  let v771 : BitVec 32 := Scalar.muli v770 c1_i32_406
  let v772 : BitVec 32 := Scalar.addi c0_i32_405 v771
  let c1_i32_408 : BitVec 32 := 1#32
  let arg13 : BitVec 32 := Scf.iv v772 c1_i32_408 k0_t52
  let c1_i32_403 : BitVec 32 := 1#32
  let v1572 : BitVec 32 := Scalar.muli arg13 c1_i32_403
  let v1573 : BitVec 32 := Scalar.addi c0_i32_404 v1572
  let c16_i32_921 : BitVec 32 := 16#32
  let v1574 : BitVec 32 := Scalar.muli v1573 c16_i32_921
  let v1575 : Index := Scalar.indexCast v1574
  ![v1575.toNat]
@[reducible] def k0_t53_loop (v411 : BitVec 32) : Scf.Loop 32 :=
  let c0_i32_416 : BitVec 32 := 0#32
  let c0_i32_410 : BitVec 32 := 0#32
  let v779 : BitVec 32 := Scalar.subi v411 c0_i32_410
  let c1_i32_411 : BitVec 32 := 1#32
  let c1_i32_412 : BitVec 32 := 1#32
  let v780 : BitVec 32 := Scalar.subi c1_i32_411 c1_i32_412
  let v781 : BitVec 32 := Scalar.addi v779 v780
  let c1_i32_413 : BitVec 32 := 1#32
  let v782 : BitVec 32 := Scalar.divsi v781 c1_i32_413
  let v783 : BitVec 32 := Scalar.subi v782 c0_i32_416
  let c1_i32_417 : BitVec 32 := 1#32
  let v785 : BitVec 32 := Scalar.divsi v783 c1_i32_417
  let v786 : BitVec 32 := Scalar.muli v785 c1_i32_417
  let v787 : BitVec 32 := Scalar.addi c0_i32_416 v786
  let c1_i32_418 : BitVec 32 := 1#32
  ⟨c0_i32_416, v787, c1_i32_418⟩
def k0_off55 (v411 : BitVec 32) (k0_t53 : Fin (k0_t53_loop v411).trips) : Fin 1 → Nat :=
  let c0_i32_415 : BitVec 32 := 0#32
  let c0_i32_416 : BitVec 32 := 0#32
  let c1_i32_418 : BitVec 32 := 1#32
  let arg13 : BitVec 32 := Scf.iv c0_i32_416 c1_i32_418 k0_t53
  let c1_i32_414 : BitVec 32 := 1#32
  let v1572 : BitVec 32 := Scalar.muli arg13 c1_i32_414
  let v1573 : BitVec 32 := Scalar.addi c0_i32_415 v1572
  let c16_i32_921 : BitVec 32 := 16#32
  let v1574 : BitVec 32 := Scalar.muli v1573 c16_i32_921
  let v1575 : Index := Scalar.indexCast v1574
  ![v1575.toNat]
@[reducible] def k0_t54_loop (v411 : BitVec 32) : Scf.Loop 32 :=
  let c0_i32_416 : BitVec 32 := 0#32
  let c0_i32_410 : BitVec 32 := 0#32
  let v779 : BitVec 32 := Scalar.subi v411 c0_i32_410
  let c1_i32_411 : BitVec 32 := 1#32
  let c1_i32_412 : BitVec 32 := 1#32
  let v780 : BitVec 32 := Scalar.subi c1_i32_411 c1_i32_412
  let v781 : BitVec 32 := Scalar.addi v779 v780
  let c1_i32_413 : BitVec 32 := 1#32
  let v782 : BitVec 32 := Scalar.divsi v781 c1_i32_413
  let v783 : BitVec 32 := Scalar.subi v782 c0_i32_416
  let c1_i32_417 : BitVec 32 := 1#32
  let v785 : BitVec 32 := Scalar.divsi v783 c1_i32_417
  let v786 : BitVec 32 := Scalar.muli v785 c1_i32_417
  let v787 : BitVec 32 := Scalar.addi c0_i32_416 v786
  let v784 : BitVec 32 := Scalar.addi c0_i32_416 v783
  let c1_i32_419 : BitVec 32 := 1#32
  ⟨v787, v784, c1_i32_419⟩
def k0_off56 (v411 : BitVec 32) (k0_t54 : Fin (k0_t54_loop v411).trips) : Fin 1 → Nat :=
  let c0_i32_415 : BitVec 32 := 0#32
  let c0_i32_416 : BitVec 32 := 0#32
  let c0_i32_410 : BitVec 32 := 0#32
  let v779 : BitVec 32 := Scalar.subi v411 c0_i32_410
  let c1_i32_411 : BitVec 32 := 1#32
  let c1_i32_412 : BitVec 32 := 1#32
  let v780 : BitVec 32 := Scalar.subi c1_i32_411 c1_i32_412
  let v781 : BitVec 32 := Scalar.addi v779 v780
  let c1_i32_413 : BitVec 32 := 1#32
  let v782 : BitVec 32 := Scalar.divsi v781 c1_i32_413
  let v783 : BitVec 32 := Scalar.subi v782 c0_i32_416
  let c1_i32_417 : BitVec 32 := 1#32
  let v785 : BitVec 32 := Scalar.divsi v783 c1_i32_417
  let v786 : BitVec 32 := Scalar.muli v785 c1_i32_417
  let v787 : BitVec 32 := Scalar.addi c0_i32_416 v786
  let c1_i32_419 : BitVec 32 := 1#32
  let arg13 : BitVec 32 := Scf.iv v787 c1_i32_419 k0_t54
  let c1_i32_414 : BitVec 32 := 1#32
  let v1572 : BitVec 32 := Scalar.muli arg13 c1_i32_414
  let v1573 : BitVec 32 := Scalar.addi c0_i32_415 v1572
  let c16_i32_921 : BitVec 32 := 16#32
  let v1574 : BitVec 32 := Scalar.muli v1573 c16_i32_921
  let v1575 : Index := Scalar.indexCast v1574
  ![v1575.toNat]

def k0_chk8_0 (v411 : BitVec 32) : Prop :=
  ((k0_t5_loop v411).OK) ∧
  (∀ k0_t5 : Fin (k0_t5_loop v411).trips, ∀ a, (k0_off7 v411 k0_t5) a + S16.size a ≤ S16400.size a) ∧
  ((k0_t6_loop v411).OK) ∧
  (∀ k0_t6 : Fin (k0_t6_loop v411).trips, ∀ a, (k0_off8 v411 k0_t6) a + S16.size a ≤ S16400.size a) ∧
  ((k0_t7_loop v411).OK) ∧
  (∀ k0_t7 : Fin (k0_t7_loop v411).trips, ∀ a, (k0_off9 v411 k0_t7) a + S16.size a ≤ S16400.size a) ∧
  ((k0_t8_loop v411).OK) ∧
  (∀ k0_t8 : Fin (k0_t8_loop v411).trips, ∀ a, (k0_off10 v411 k0_t8) a + S16.size a ≤ S16400.size a) ∧
  ((k0_t9_loop v411).OK) ∧
  (∀ k0_t9 : Fin (k0_t9_loop v411).trips, ∀ a, (k0_off11 v411 k0_t9) a + S16.size a ≤ S16400.size a) ∧
  ((k0_t10_loop v411).OK) ∧
  (∀ k0_t10 : Fin (k0_t10_loop v411).trips, ∀ a, (k0_off12 v411 k0_t10) a + S16.size a ≤ S16400.size a) ∧
  ((k0_t11_loop v411).OK) ∧
  (∀ k0_t11 : Fin (k0_t11_loop v411).trips, ∀ a, (k0_off13 v411 k0_t11) a + S16.size a ≤ S16400.size a) ∧
  ((k0_t12_loop v411).OK) ∧
  (∀ k0_t12 : Fin (k0_t12_loop v411).trips, ∀ a, (k0_off14 v411 k0_t12) a + S16.size a ≤ S16400.size a) ∧
  ((k0_t13_loop v411).OK) ∧
  (∀ k0_t13 : Fin (k0_t13_loop v411).trips, ∀ a, (k0_off15 v411 k0_t13) a + S16.size a ≤ S16400.size a) ∧
  ((k0_t14_loop v411).OK) ∧
  (∀ k0_t14 : Fin (k0_t14_loop v411).trips, ∀ a, (k0_off16 v411 k0_t14) a + S16.size a ≤ S16400.size a) ∧
  ((k0_t15_loop v411).OK) ∧
  (∀ k0_t15 : Fin (k0_t15_loop v411).trips, ∀ a, (k0_off17 v411 k0_t15) a + S16.size a ≤ S16400.size a) ∧
  ((k0_t16_loop v411).OK) ∧
  (∀ k0_t16 : Fin (k0_t16_loop v411).trips, ∀ a, (k0_off18 v411 k0_t16) a + S16.size a ≤ S16400.size a) ∧
  ((k0_t17_loop v411).OK) ∧
  (∀ k0_t17 : Fin (k0_t17_loop v411).trips, ∀ a, (k0_off19 v411 k0_t17) a + S16.size a ≤ S16400.size a) ∧
  ((k0_t18_loop v411).OK) ∧
  (∀ k0_t18 : Fin (k0_t18_loop v411).trips, ∀ a, (k0_off20 v411 k0_t18) a + S16.size a ≤ S16400.size a) ∧
  ((k0_t19_loop v411).OK) ∧
  (∀ k0_t19 : Fin (k0_t19_loop v411).trips, ∀ a, (k0_off21 v411 k0_t19) a + S16.size a ≤ S16400.size a) ∧
  ((k0_t20_loop v411).OK) ∧
  (∀ k0_t20 : Fin (k0_t20_loop v411).trips, ∀ a, (k0_off22 v411 k0_t20) a + S16.size a ≤ S16400.size a)
def k0_chk8_1 (v411 : BitVec 32) : Prop :=
  ((k0_t21_loop v411).OK) ∧
  (∀ k0_t21 : Fin (k0_t21_loop v411).trips, ∀ a, (k0_off23 v411 k0_t21) a + S16.size a ≤ S16400.size a) ∧
  ((k0_t22_loop v411).OK) ∧
  (∀ k0_t22 : Fin (k0_t22_loop v411).trips, ∀ a, (k0_off24 v411 k0_t22) a + S16.size a ≤ S16400.size a) ∧
  ((k0_t23_loop v411).OK) ∧
  (∀ k0_t23 : Fin (k0_t23_loop v411).trips, ∀ a, (k0_off25 v411 k0_t23) a + S16.size a ≤ S16400.size a) ∧
  ((k0_t24_loop v411).OK) ∧
  (∀ k0_t24 : Fin (k0_t24_loop v411).trips, ∀ a, (k0_off26 v411 k0_t24) a + S16.size a ≤ S16400.size a) ∧
  ((k0_t25_loop v411).OK) ∧
  (∀ k0_t25 : Fin (k0_t25_loop v411).trips, ∀ a, (k0_off27 v411 k0_t25) a + S16.size a ≤ S16400.size a) ∧
  ((k0_t26_loop v411).OK) ∧
  (∀ k0_t26 : Fin (k0_t26_loop v411).trips, ∀ a, (k0_off28 v411 k0_t26) a + S16.size a ≤ S16400.size a) ∧
  ((k0_t27_loop v411).OK) ∧
  (∀ k0_t27 : Fin (k0_t27_loop v411).trips, ∀ a, (k0_off29 v411 k0_t27) a + S16.size a ≤ S16400.size a) ∧
  ((k0_t28_loop v411).OK) ∧
  (∀ k0_t28 : Fin (k0_t28_loop v411).trips, ∀ a, (k0_off30 v411 k0_t28) a + S16.size a ≤ S16400.size a) ∧
  ((k0_t29_loop v411).OK) ∧
  (∀ k0_t29 : Fin (k0_t29_loop v411).trips, ∀ a, (k0_off31 v411 k0_t29) a + S16.size a ≤ S16400.size a) ∧
  ((k0_t30_loop v411).OK) ∧
  (∀ k0_t30 : Fin (k0_t30_loop v411).trips, ∀ a, (k0_off32 v411 k0_t30) a + S16.size a ≤ S16400.size a) ∧
  ((k0_t31_loop v411).OK) ∧
  (∀ k0_t31 : Fin (k0_t31_loop v411).trips, ∀ a, (k0_off33 v411 k0_t31) a + S16.size a ≤ S16400.size a) ∧
  ((k0_t32_loop v411).OK) ∧
  (∀ k0_t32 : Fin (k0_t32_loop v411).trips, ∀ a, (k0_off34 v411 k0_t32) a + S16.size a ≤ S16400.size a) ∧
  ((k0_t33_loop v411).OK) ∧
  (∀ k0_t33 : Fin (k0_t33_loop v411).trips, ∀ a, (k0_off35 v411 k0_t33) a + S16.size a ≤ S16400.size a) ∧
  ((k0_t34_loop v411).OK) ∧
  (∀ k0_t34 : Fin (k0_t34_loop v411).trips, ∀ a, (k0_off36 v411 k0_t34) a + S16.size a ≤ S16400.size a) ∧
  ((k0_t35_loop v411).OK) ∧
  (∀ k0_t35 : Fin (k0_t35_loop v411).trips, ∀ a, (k0_off37 v411 k0_t35) a + S16.size a ≤ S16400.size a) ∧
  ((k0_t36_loop v411).OK) ∧
  (∀ k0_t36 : Fin (k0_t36_loop v411).trips, ∀ a, (k0_off38 v411 k0_t36) a + S16.size a ≤ S16400.size a)
def k0_chk8_2 (v411 : BitVec 32) : Prop :=
  ((k0_t37_loop v411).OK) ∧
  (∀ k0_t37 : Fin (k0_t37_loop v411).trips, ∀ a, (k0_off39 v411 k0_t37) a + S16.size a ≤ S16400.size a) ∧
  ((k0_t38_loop v411).OK) ∧
  (∀ k0_t38 : Fin (k0_t38_loop v411).trips, ∀ a, (k0_off40 v411 k0_t38) a + S16.size a ≤ S16400.size a) ∧
  ((k0_t39_loop v411).OK) ∧
  (∀ k0_t39 : Fin (k0_t39_loop v411).trips, ∀ a, (k0_off41 v411 k0_t39) a + S16.size a ≤ S16400.size a) ∧
  ((k0_t40_loop v411).OK) ∧
  (∀ k0_t40 : Fin (k0_t40_loop v411).trips, ∀ a, (k0_off42 v411 k0_t40) a + S16.size a ≤ S16400.size a) ∧
  ((k0_t41_loop v411).OK) ∧
  (∀ k0_t41 : Fin (k0_t41_loop v411).trips, ∀ a, (k0_off43 v411 k0_t41) a + S16.size a ≤ S16400.size a) ∧
  ((k0_t42_loop v411).OK) ∧
  (∀ k0_t42 : Fin (k0_t42_loop v411).trips, ∀ a, (k0_off44 v411 k0_t42) a + S16.size a ≤ S16400.size a) ∧
  ((k0_t43_loop v411).OK) ∧
  (∀ k0_t43 : Fin (k0_t43_loop v411).trips, ∀ a, (k0_off45 v411 k0_t43) a + S16.size a ≤ S16400.size a) ∧
  ((k0_t44_loop v411).OK) ∧
  (∀ k0_t44 : Fin (k0_t44_loop v411).trips, ∀ a, (k0_off46 v411 k0_t44) a + S16.size a ≤ S16400.size a) ∧
  ((k0_t45_loop v411).OK) ∧
  (∀ k0_t45 : Fin (k0_t45_loop v411).trips, ∀ a, (k0_off47 v411 k0_t45) a + S16.size a ≤ S16400.size a) ∧
  ((k0_t46_loop v411).OK) ∧
  (∀ k0_t46 : Fin (k0_t46_loop v411).trips, ∀ a, (k0_off48 v411 k0_t46) a + S16.size a ≤ S16400.size a) ∧
  ((k0_t47_loop v411).OK) ∧
  (∀ k0_t47 : Fin (k0_t47_loop v411).trips, ∀ a, (k0_off49 v411 k0_t47) a + S16.size a ≤ S16400.size a) ∧
  ((k0_t48_loop v411).OK) ∧
  (∀ k0_t48 : Fin (k0_t48_loop v411).trips, ∀ a, (k0_off50 v411 k0_t48) a + S16.size a ≤ S16400.size a) ∧
  ((k0_t49_loop v411).OK) ∧
  (∀ k0_t49 : Fin (k0_t49_loop v411).trips, ∀ a, (k0_off51 v411 k0_t49) a + S16.size a ≤ S16400.size a) ∧
  ((k0_t50_loop v411).OK) ∧
  (∀ k0_t50 : Fin (k0_t50_loop v411).trips, ∀ a, (k0_off52 v411 k0_t50) a + S16.size a ≤ S16400.size a) ∧
  ((k0_t51_loop v411).OK) ∧
  (∀ k0_t51 : Fin (k0_t51_loop v411).trips, ∀ a, (k0_off53 v411 k0_t51) a + S16.size a ≤ S16400.size a) ∧
  ((k0_t52_loop v411).OK) ∧
  (∀ k0_t52 : Fin (k0_t52_loop v411).trips, ∀ a, (k0_off54 v411 k0_t52) a + S16.size a ≤ S16400.size a)
def k0_chk8_3 (v411 : BitVec 32) : Prop :=
  ((k0_t53_loop v411).OK) ∧
  (∀ k0_t53 : Fin (k0_t53_loop v411).trips, ∀ a, (k0_off55 v411 k0_t53) a + S16.size a ≤ S16400.size a) ∧
  ((k0_t54_loop v411).OK) ∧
  (∀ k0_t54 : Fin (k0_t54_loop v411).trips, ∀ a, (k0_off56 v411 k0_t54) a + S16.size a ≤ S16400.size a)
def k0_chk8 (v411 : BitVec 32) : Prop :=
  k0_chk8_0 v411 ∧
  k0_chk8_1 v411 ∧
  k0_chk8_2 v411 ∧
  k0_chk8_3 v411
theorem k0_t5_ok : ∀ (v411 : BitVec 32) (k0_hw8 : k0_chk8 v411), (k0_t5_loop v411).OK := fun v411 k0_hw8 => k0_hw8.1.1
theorem k0_off7_inb : ∀ (v411 : BitVec 32) (k0_hw8 : k0_chk8 v411) (k0_t5 : Fin (k0_t5_loop v411).trips), ∀ a, (k0_off7 v411 k0_t5) a + S16.size a ≤ S16400.size a := fun v411 k0_hw8 k0_t5 => k0_hw8.1.2.1 k0_t5
theorem k0_t6_ok : ∀ (v411 : BitVec 32) (k0_hw8 : k0_chk8 v411), (k0_t6_loop v411).OK := fun v411 k0_hw8 => k0_hw8.1.2.2.1
theorem k0_off8_inb : ∀ (v411 : BitVec 32) (k0_hw8 : k0_chk8 v411) (k0_t6 : Fin (k0_t6_loop v411).trips), ∀ a, (k0_off8 v411 k0_t6) a + S16.size a ≤ S16400.size a := fun v411 k0_hw8 k0_t6 => k0_hw8.1.2.2.2.1 k0_t6
theorem k0_t7_ok : ∀ (v411 : BitVec 32) (k0_hw8 : k0_chk8 v411), (k0_t7_loop v411).OK := fun v411 k0_hw8 => k0_hw8.1.2.2.2.2.1
theorem k0_off9_inb : ∀ (v411 : BitVec 32) (k0_hw8 : k0_chk8 v411) (k0_t7 : Fin (k0_t7_loop v411).trips), ∀ a, (k0_off9 v411 k0_t7) a + S16.size a ≤ S16400.size a := fun v411 k0_hw8 k0_t7 => k0_hw8.1.2.2.2.2.2.1 k0_t7
theorem k0_t8_ok : ∀ (v411 : BitVec 32) (k0_hw8 : k0_chk8 v411), (k0_t8_loop v411).OK := fun v411 k0_hw8 => k0_hw8.1.2.2.2.2.2.2.1
theorem k0_off10_inb : ∀ (v411 : BitVec 32) (k0_hw8 : k0_chk8 v411) (k0_t8 : Fin (k0_t8_loop v411).trips), ∀ a, (k0_off10 v411 k0_t8) a + S16.size a ≤ S16400.size a := fun v411 k0_hw8 k0_t8 => k0_hw8.1.2.2.2.2.2.2.2.1 k0_t8
theorem k0_t9_ok : ∀ (v411 : BitVec 32) (k0_hw8 : k0_chk8 v411), (k0_t9_loop v411).OK := fun v411 k0_hw8 => k0_hw8.1.2.2.2.2.2.2.2.2.1
theorem k0_off11_inb : ∀ (v411 : BitVec 32) (k0_hw8 : k0_chk8 v411) (k0_t9 : Fin (k0_t9_loop v411).trips), ∀ a, (k0_off11 v411 k0_t9) a + S16.size a ≤ S16400.size a := fun v411 k0_hw8 k0_t9 => k0_hw8.1.2.2.2.2.2.2.2.2.2.1 k0_t9
theorem k0_t10_ok : ∀ (v411 : BitVec 32) (k0_hw8 : k0_chk8 v411), (k0_t10_loop v411).OK := fun v411 k0_hw8 => k0_hw8.1.2.2.2.2.2.2.2.2.2.2.1
theorem k0_off12_inb : ∀ (v411 : BitVec 32) (k0_hw8 : k0_chk8 v411) (k0_t10 : Fin (k0_t10_loop v411).trips), ∀ a, (k0_off12 v411 k0_t10) a + S16.size a ≤ S16400.size a := fun v411 k0_hw8 k0_t10 => k0_hw8.1.2.2.2.2.2.2.2.2.2.2.2.1 k0_t10
theorem k0_t11_ok : ∀ (v411 : BitVec 32) (k0_hw8 : k0_chk8 v411), (k0_t11_loop v411).OK := fun v411 k0_hw8 => k0_hw8.1.2.2.2.2.2.2.2.2.2.2.2.2.1
theorem k0_off13_inb : ∀ (v411 : BitVec 32) (k0_hw8 : k0_chk8 v411) (k0_t11 : Fin (k0_t11_loop v411).trips), ∀ a, (k0_off13 v411 k0_t11) a + S16.size a ≤ S16400.size a := fun v411 k0_hw8 k0_t11 => k0_hw8.1.2.2.2.2.2.2.2.2.2.2.2.2.2.1 k0_t11
theorem k0_t12_ok : ∀ (v411 : BitVec 32) (k0_hw8 : k0_chk8 v411), (k0_t12_loop v411).OK := fun v411 k0_hw8 => k0_hw8.1.2.2.2.2.2.2.2.2.2.2.2.2.2.2.1
theorem k0_off14_inb : ∀ (v411 : BitVec 32) (k0_hw8 : k0_chk8 v411) (k0_t12 : Fin (k0_t12_loop v411).trips), ∀ a, (k0_off14 v411 k0_t12) a + S16.size a ≤ S16400.size a := fun v411 k0_hw8 k0_t12 => k0_hw8.1.2.2.2.2.2.2.2.2.2.2.2.2.2.2.2.1 k0_t12
theorem k0_t13_ok : ∀ (v411 : BitVec 32) (k0_hw8 : k0_chk8 v411), (k0_t13_loop v411).OK := fun v411 k0_hw8 => k0_hw8.1.2.2.2.2.2.2.2.2.2.2.2.2.2.2.2.2.1
theorem k0_off15_inb : ∀ (v411 : BitVec 32) (k0_hw8 : k0_chk8 v411) (k0_t13 : Fin (k0_t13_loop v411).trips), ∀ a, (k0_off15 v411 k0_t13) a + S16.size a ≤ S16400.size a := fun v411 k0_hw8 k0_t13 => k0_hw8.1.2.2.2.2.2.2.2.2.2.2.2.2.2.2.2.2.2.1 k0_t13
theorem k0_t14_ok : ∀ (v411 : BitVec 32) (k0_hw8 : k0_chk8 v411), (k0_t14_loop v411).OK := fun v411 k0_hw8 => k0_hw8.1.2.2.2.2.2.2.2.2.2.2.2.2.2.2.2.2.2.2.1
theorem k0_off16_inb : ∀ (v411 : BitVec 32) (k0_hw8 : k0_chk8 v411) (k0_t14 : Fin (k0_t14_loop v411).trips), ∀ a, (k0_off16 v411 k0_t14) a + S16.size a ≤ S16400.size a := fun v411 k0_hw8 k0_t14 => k0_hw8.1.2.2.2.2.2.2.2.2.2.2.2.2.2.2.2.2.2.2.2.1 k0_t14
theorem k0_t15_ok : ∀ (v411 : BitVec 32) (k0_hw8 : k0_chk8 v411), (k0_t15_loop v411).OK := fun v411 k0_hw8 => k0_hw8.1.2.2.2.2.2.2.2.2.2.2.2.2.2.2.2.2.2.2.2.2.1
theorem k0_off17_inb : ∀ (v411 : BitVec 32) (k0_hw8 : k0_chk8 v411) (k0_t15 : Fin (k0_t15_loop v411).trips), ∀ a, (k0_off17 v411 k0_t15) a + S16.size a ≤ S16400.size a := fun v411 k0_hw8 k0_t15 => k0_hw8.1.2.2.2.2.2.2.2.2.2.2.2.2.2.2.2.2.2.2.2.2.2.1 k0_t15
theorem k0_t16_ok : ∀ (v411 : BitVec 32) (k0_hw8 : k0_chk8 v411), (k0_t16_loop v411).OK := fun v411 k0_hw8 => k0_hw8.1.2.2.2.2.2.2.2.2.2.2.2.2.2.2.2.2.2.2.2.2.2.2.1
theorem k0_off18_inb : ∀ (v411 : BitVec 32) (k0_hw8 : k0_chk8 v411) (k0_t16 : Fin (k0_t16_loop v411).trips), ∀ a, (k0_off18 v411 k0_t16) a + S16.size a ≤ S16400.size a := fun v411 k0_hw8 k0_t16 => k0_hw8.1.2.2.2.2.2.2.2.2.2.2.2.2.2.2.2.2.2.2.2.2.2.2.2.1 k0_t16
theorem k0_t17_ok : ∀ (v411 : BitVec 32) (k0_hw8 : k0_chk8 v411), (k0_t17_loop v411).OK := fun v411 k0_hw8 => k0_hw8.1.2.2.2.2.2.2.2.2.2.2.2.2.2.2.2.2.2.2.2.2.2.2.2.2.1
theorem k0_off19_inb : ∀ (v411 : BitVec 32) (k0_hw8 : k0_chk8 v411) (k0_t17 : Fin (k0_t17_loop v411).trips), ∀ a, (k0_off19 v411 k0_t17) a + S16.size a ≤ S16400.size a := fun v411 k0_hw8 k0_t17 => k0_hw8.1.2.2.2.2.2.2.2.2.2.2.2.2.2.2.2.2.2.2.2.2.2.2.2.2.2.1 k0_t17
theorem k0_t18_ok : ∀ (v411 : BitVec 32) (k0_hw8 : k0_chk8 v411), (k0_t18_loop v411).OK := fun v411 k0_hw8 => k0_hw8.1.2.2.2.2.2.2.2.2.2.2.2.2.2.2.2.2.2.2.2.2.2.2.2.2.2.2.1
theorem k0_off20_inb : ∀ (v411 : BitVec 32) (k0_hw8 : k0_chk8 v411) (k0_t18 : Fin (k0_t18_loop v411).trips), ∀ a, (k0_off20 v411 k0_t18) a + S16.size a ≤ S16400.size a := fun v411 k0_hw8 k0_t18 => k0_hw8.1.2.2.2.2.2.2.2.2.2.2.2.2.2.2.2.2.2.2.2.2.2.2.2.2.2.2.2.1 k0_t18
theorem k0_t19_ok : ∀ (v411 : BitVec 32) (k0_hw8 : k0_chk8 v411), (k0_t19_loop v411).OK := fun v411 k0_hw8 => k0_hw8.1.2.2.2.2.2.2.2.2.2.2.2.2.2.2.2.2.2.2.2.2.2.2.2.2.2.2.2.2.1
theorem k0_off21_inb : ∀ (v411 : BitVec 32) (k0_hw8 : k0_chk8 v411) (k0_t19 : Fin (k0_t19_loop v411).trips), ∀ a, (k0_off21 v411 k0_t19) a + S16.size a ≤ S16400.size a := fun v411 k0_hw8 k0_t19 => k0_hw8.1.2.2.2.2.2.2.2.2.2.2.2.2.2.2.2.2.2.2.2.2.2.2.2.2.2.2.2.2.2.1 k0_t19
theorem k0_t20_ok : ∀ (v411 : BitVec 32) (k0_hw8 : k0_chk8 v411), (k0_t20_loop v411).OK := fun v411 k0_hw8 => k0_hw8.1.2.2.2.2.2.2.2.2.2.2.2.2.2.2.2.2.2.2.2.2.2.2.2.2.2.2.2.2.2.2.1
theorem k0_off22_inb : ∀ (v411 : BitVec 32) (k0_hw8 : k0_chk8 v411) (k0_t20 : Fin (k0_t20_loop v411).trips), ∀ a, (k0_off22 v411 k0_t20) a + S16.size a ≤ S16400.size a := fun v411 k0_hw8 k0_t20 => k0_hw8.1.2.2.2.2.2.2.2.2.2.2.2.2.2.2.2.2.2.2.2.2.2.2.2.2.2.2.2.2.2.2.2 k0_t20
theorem k0_t21_ok : ∀ (v411 : BitVec 32) (k0_hw8 : k0_chk8 v411), (k0_t21_loop v411).OK := fun v411 k0_hw8 => k0_hw8.2.1.1
theorem k0_off23_inb : ∀ (v411 : BitVec 32) (k0_hw8 : k0_chk8 v411) (k0_t21 : Fin (k0_t21_loop v411).trips), ∀ a, (k0_off23 v411 k0_t21) a + S16.size a ≤ S16400.size a := fun v411 k0_hw8 k0_t21 => k0_hw8.2.1.2.1 k0_t21
theorem k0_t22_ok : ∀ (v411 : BitVec 32) (k0_hw8 : k0_chk8 v411), (k0_t22_loop v411).OK := fun v411 k0_hw8 => k0_hw8.2.1.2.2.1
theorem k0_off24_inb : ∀ (v411 : BitVec 32) (k0_hw8 : k0_chk8 v411) (k0_t22 : Fin (k0_t22_loop v411).trips), ∀ a, (k0_off24 v411 k0_t22) a + S16.size a ≤ S16400.size a := fun v411 k0_hw8 k0_t22 => k0_hw8.2.1.2.2.2.1 k0_t22
theorem k0_t23_ok : ∀ (v411 : BitVec 32) (k0_hw8 : k0_chk8 v411), (k0_t23_loop v411).OK := fun v411 k0_hw8 => k0_hw8.2.1.2.2.2.2.1
theorem k0_off25_inb : ∀ (v411 : BitVec 32) (k0_hw8 : k0_chk8 v411) (k0_t23 : Fin (k0_t23_loop v411).trips), ∀ a, (k0_off25 v411 k0_t23) a + S16.size a ≤ S16400.size a := fun v411 k0_hw8 k0_t23 => k0_hw8.2.1.2.2.2.2.2.1 k0_t23
theorem k0_t24_ok : ∀ (v411 : BitVec 32) (k0_hw8 : k0_chk8 v411), (k0_t24_loop v411).OK := fun v411 k0_hw8 => k0_hw8.2.1.2.2.2.2.2.2.1
theorem k0_off26_inb : ∀ (v411 : BitVec 32) (k0_hw8 : k0_chk8 v411) (k0_t24 : Fin (k0_t24_loop v411).trips), ∀ a, (k0_off26 v411 k0_t24) a + S16.size a ≤ S16400.size a := fun v411 k0_hw8 k0_t24 => k0_hw8.2.1.2.2.2.2.2.2.2.1 k0_t24
theorem k0_t25_ok : ∀ (v411 : BitVec 32) (k0_hw8 : k0_chk8 v411), (k0_t25_loop v411).OK := fun v411 k0_hw8 => k0_hw8.2.1.2.2.2.2.2.2.2.2.1
theorem k0_off27_inb : ∀ (v411 : BitVec 32) (k0_hw8 : k0_chk8 v411) (k0_t25 : Fin (k0_t25_loop v411).trips), ∀ a, (k0_off27 v411 k0_t25) a + S16.size a ≤ S16400.size a := fun v411 k0_hw8 k0_t25 => k0_hw8.2.1.2.2.2.2.2.2.2.2.2.1 k0_t25
theorem k0_t26_ok : ∀ (v411 : BitVec 32) (k0_hw8 : k0_chk8 v411), (k0_t26_loop v411).OK := fun v411 k0_hw8 => k0_hw8.2.1.2.2.2.2.2.2.2.2.2.2.1
theorem k0_off28_inb : ∀ (v411 : BitVec 32) (k0_hw8 : k0_chk8 v411) (k0_t26 : Fin (k0_t26_loop v411).trips), ∀ a, (k0_off28 v411 k0_t26) a + S16.size a ≤ S16400.size a := fun v411 k0_hw8 k0_t26 => k0_hw8.2.1.2.2.2.2.2.2.2.2.2.2.2.1 k0_t26
theorem k0_t27_ok : ∀ (v411 : BitVec 32) (k0_hw8 : k0_chk8 v411), (k0_t27_loop v411).OK := fun v411 k0_hw8 => k0_hw8.2.1.2.2.2.2.2.2.2.2.2.2.2.2.1
theorem k0_off29_inb : ∀ (v411 : BitVec 32) (k0_hw8 : k0_chk8 v411) (k0_t27 : Fin (k0_t27_loop v411).trips), ∀ a, (k0_off29 v411 k0_t27) a + S16.size a ≤ S16400.size a := fun v411 k0_hw8 k0_t27 => k0_hw8.2.1.2.2.2.2.2.2.2.2.2.2.2.2.2.1 k0_t27
theorem k0_t28_ok : ∀ (v411 : BitVec 32) (k0_hw8 : k0_chk8 v411), (k0_t28_loop v411).OK := fun v411 k0_hw8 => k0_hw8.2.1.2.2.2.2.2.2.2.2.2.2.2.2.2.2.1
theorem k0_off30_inb : ∀ (v411 : BitVec 32) (k0_hw8 : k0_chk8 v411) (k0_t28 : Fin (k0_t28_loop v411).trips), ∀ a, (k0_off30 v411 k0_t28) a + S16.size a ≤ S16400.size a := fun v411 k0_hw8 k0_t28 => k0_hw8.2.1.2.2.2.2.2.2.2.2.2.2.2.2.2.2.2.1 k0_t28
theorem k0_t29_ok : ∀ (v411 : BitVec 32) (k0_hw8 : k0_chk8 v411), (k0_t29_loop v411).OK := fun v411 k0_hw8 => k0_hw8.2.1.2.2.2.2.2.2.2.2.2.2.2.2.2.2.2.2.1
theorem k0_off31_inb : ∀ (v411 : BitVec 32) (k0_hw8 : k0_chk8 v411) (k0_t29 : Fin (k0_t29_loop v411).trips), ∀ a, (k0_off31 v411 k0_t29) a + S16.size a ≤ S16400.size a := fun v411 k0_hw8 k0_t29 => k0_hw8.2.1.2.2.2.2.2.2.2.2.2.2.2.2.2.2.2.2.2.1 k0_t29
theorem k0_t30_ok : ∀ (v411 : BitVec 32) (k0_hw8 : k0_chk8 v411), (k0_t30_loop v411).OK := fun v411 k0_hw8 => k0_hw8.2.1.2.2.2.2.2.2.2.2.2.2.2.2.2.2.2.2.2.2.1
theorem k0_off32_inb : ∀ (v411 : BitVec 32) (k0_hw8 : k0_chk8 v411) (k0_t30 : Fin (k0_t30_loop v411).trips), ∀ a, (k0_off32 v411 k0_t30) a + S16.size a ≤ S16400.size a := fun v411 k0_hw8 k0_t30 => k0_hw8.2.1.2.2.2.2.2.2.2.2.2.2.2.2.2.2.2.2.2.2.2.1 k0_t30
theorem k0_t31_ok : ∀ (v411 : BitVec 32) (k0_hw8 : k0_chk8 v411), (k0_t31_loop v411).OK := fun v411 k0_hw8 => k0_hw8.2.1.2.2.2.2.2.2.2.2.2.2.2.2.2.2.2.2.2.2.2.2.1
theorem k0_off33_inb : ∀ (v411 : BitVec 32) (k0_hw8 : k0_chk8 v411) (k0_t31 : Fin (k0_t31_loop v411).trips), ∀ a, (k0_off33 v411 k0_t31) a + S16.size a ≤ S16400.size a := fun v411 k0_hw8 k0_t31 => k0_hw8.2.1.2.2.2.2.2.2.2.2.2.2.2.2.2.2.2.2.2.2.2.2.2.1 k0_t31
theorem k0_t32_ok : ∀ (v411 : BitVec 32) (k0_hw8 : k0_chk8 v411), (k0_t32_loop v411).OK := fun v411 k0_hw8 => k0_hw8.2.1.2.2.2.2.2.2.2.2.2.2.2.2.2.2.2.2.2.2.2.2.2.2.1
theorem k0_off34_inb : ∀ (v411 : BitVec 32) (k0_hw8 : k0_chk8 v411) (k0_t32 : Fin (k0_t32_loop v411).trips), ∀ a, (k0_off34 v411 k0_t32) a + S16.size a ≤ S16400.size a := fun v411 k0_hw8 k0_t32 => k0_hw8.2.1.2.2.2.2.2.2.2.2.2.2.2.2.2.2.2.2.2.2.2.2.2.2.2.1 k0_t32
theorem k0_t33_ok : ∀ (v411 : BitVec 32) (k0_hw8 : k0_chk8 v411), (k0_t33_loop v411).OK := fun v411 k0_hw8 => k0_hw8.2.1.2.2.2.2.2.2.2.2.2.2.2.2.2.2.2.2.2.2.2.2.2.2.2.2.1
theorem k0_off35_inb : ∀ (v411 : BitVec 32) (k0_hw8 : k0_chk8 v411) (k0_t33 : Fin (k0_t33_loop v411).trips), ∀ a, (k0_off35 v411 k0_t33) a + S16.size a ≤ S16400.size a := fun v411 k0_hw8 k0_t33 => k0_hw8.2.1.2.2.2.2.2.2.2.2.2.2.2.2.2.2.2.2.2.2.2.2.2.2.2.2.2.1 k0_t33
theorem k0_t34_ok : ∀ (v411 : BitVec 32) (k0_hw8 : k0_chk8 v411), (k0_t34_loop v411).OK := fun v411 k0_hw8 => k0_hw8.2.1.2.2.2.2.2.2.2.2.2.2.2.2.2.2.2.2.2.2.2.2.2.2.2.2.2.2.1
theorem k0_off36_inb : ∀ (v411 : BitVec 32) (k0_hw8 : k0_chk8 v411) (k0_t34 : Fin (k0_t34_loop v411).trips), ∀ a, (k0_off36 v411 k0_t34) a + S16.size a ≤ S16400.size a := fun v411 k0_hw8 k0_t34 => k0_hw8.2.1.2.2.2.2.2.2.2.2.2.2.2.2.2.2.2.2.2.2.2.2.2.2.2.2.2.2.2.1 k0_t34
theorem k0_t35_ok : ∀ (v411 : BitVec 32) (k0_hw8 : k0_chk8 v411), (k0_t35_loop v411).OK := fun v411 k0_hw8 => k0_hw8.2.1.2.2.2.2.2.2.2.2.2.2.2.2.2.2.2.2.2.2.2.2.2.2.2.2.2.2.2.2.1
theorem k0_off37_inb : ∀ (v411 : BitVec 32) (k0_hw8 : k0_chk8 v411) (k0_t35 : Fin (k0_t35_loop v411).trips), ∀ a, (k0_off37 v411 k0_t35) a + S16.size a ≤ S16400.size a := fun v411 k0_hw8 k0_t35 => k0_hw8.2.1.2.2.2.2.2.2.2.2.2.2.2.2.2.2.2.2.2.2.2.2.2.2.2.2.2.2.2.2.2.1 k0_t35
theorem k0_t36_ok : ∀ (v411 : BitVec 32) (k0_hw8 : k0_chk8 v411), (k0_t36_loop v411).OK := fun v411 k0_hw8 => k0_hw8.2.1.2.2.2.2.2.2.2.2.2.2.2.2.2.2.2.2.2.2.2.2.2.2.2.2.2.2.2.2.2.2.1
theorem k0_off38_inb : ∀ (v411 : BitVec 32) (k0_hw8 : k0_chk8 v411) (k0_t36 : Fin (k0_t36_loop v411).trips), ∀ a, (k0_off38 v411 k0_t36) a + S16.size a ≤ S16400.size a := fun v411 k0_hw8 k0_t36 => k0_hw8.2.1.2.2.2.2.2.2.2.2.2.2.2.2.2.2.2.2.2.2.2.2.2.2.2.2.2.2.2.2.2.2.2 k0_t36
theorem k0_t37_ok : ∀ (v411 : BitVec 32) (k0_hw8 : k0_chk8 v411), (k0_t37_loop v411).OK := fun v411 k0_hw8 => k0_hw8.2.2.1.1
theorem k0_off39_inb : ∀ (v411 : BitVec 32) (k0_hw8 : k0_chk8 v411) (k0_t37 : Fin (k0_t37_loop v411).trips), ∀ a, (k0_off39 v411 k0_t37) a + S16.size a ≤ S16400.size a := fun v411 k0_hw8 k0_t37 => k0_hw8.2.2.1.2.1 k0_t37
theorem k0_t38_ok : ∀ (v411 : BitVec 32) (k0_hw8 : k0_chk8 v411), (k0_t38_loop v411).OK := fun v411 k0_hw8 => k0_hw8.2.2.1.2.2.1
theorem k0_off40_inb : ∀ (v411 : BitVec 32) (k0_hw8 : k0_chk8 v411) (k0_t38 : Fin (k0_t38_loop v411).trips), ∀ a, (k0_off40 v411 k0_t38) a + S16.size a ≤ S16400.size a := fun v411 k0_hw8 k0_t38 => k0_hw8.2.2.1.2.2.2.1 k0_t38
theorem k0_t39_ok : ∀ (v411 : BitVec 32) (k0_hw8 : k0_chk8 v411), (k0_t39_loop v411).OK := fun v411 k0_hw8 => k0_hw8.2.2.1.2.2.2.2.1
theorem k0_off41_inb : ∀ (v411 : BitVec 32) (k0_hw8 : k0_chk8 v411) (k0_t39 : Fin (k0_t39_loop v411).trips), ∀ a, (k0_off41 v411 k0_t39) a + S16.size a ≤ S16400.size a := fun v411 k0_hw8 k0_t39 => k0_hw8.2.2.1.2.2.2.2.2.1 k0_t39
theorem k0_t40_ok : ∀ (v411 : BitVec 32) (k0_hw8 : k0_chk8 v411), (k0_t40_loop v411).OK := fun v411 k0_hw8 => k0_hw8.2.2.1.2.2.2.2.2.2.1
theorem k0_off42_inb : ∀ (v411 : BitVec 32) (k0_hw8 : k0_chk8 v411) (k0_t40 : Fin (k0_t40_loop v411).trips), ∀ a, (k0_off42 v411 k0_t40) a + S16.size a ≤ S16400.size a := fun v411 k0_hw8 k0_t40 => k0_hw8.2.2.1.2.2.2.2.2.2.2.1 k0_t40
theorem k0_t41_ok : ∀ (v411 : BitVec 32) (k0_hw8 : k0_chk8 v411), (k0_t41_loop v411).OK := fun v411 k0_hw8 => k0_hw8.2.2.1.2.2.2.2.2.2.2.2.1
theorem k0_off43_inb : ∀ (v411 : BitVec 32) (k0_hw8 : k0_chk8 v411) (k0_t41 : Fin (k0_t41_loop v411).trips), ∀ a, (k0_off43 v411 k0_t41) a + S16.size a ≤ S16400.size a := fun v411 k0_hw8 k0_t41 => k0_hw8.2.2.1.2.2.2.2.2.2.2.2.2.1 k0_t41
theorem k0_t42_ok : ∀ (v411 : BitVec 32) (k0_hw8 : k0_chk8 v411), (k0_t42_loop v411).OK := fun v411 k0_hw8 => k0_hw8.2.2.1.2.2.2.2.2.2.2.2.2.2.1
theorem k0_off44_inb : ∀ (v411 : BitVec 32) (k0_hw8 : k0_chk8 v411) (k0_t42 : Fin (k0_t42_loop v411).trips), ∀ a, (k0_off44 v411 k0_t42) a + S16.size a ≤ S16400.size a := fun v411 k0_hw8 k0_t42 => k0_hw8.2.2.1.2.2.2.2.2.2.2.2.2.2.2.1 k0_t42
theorem k0_t43_ok : ∀ (v411 : BitVec 32) (k0_hw8 : k0_chk8 v411), (k0_t43_loop v411).OK := fun v411 k0_hw8 => k0_hw8.2.2.1.2.2.2.2.2.2.2.2.2.2.2.2.1
theorem k0_off45_inb : ∀ (v411 : BitVec 32) (k0_hw8 : k0_chk8 v411) (k0_t43 : Fin (k0_t43_loop v411).trips), ∀ a, (k0_off45 v411 k0_t43) a + S16.size a ≤ S16400.size a := fun v411 k0_hw8 k0_t43 => k0_hw8.2.2.1.2.2.2.2.2.2.2.2.2.2.2.2.2.1 k0_t43
theorem k0_t44_ok : ∀ (v411 : BitVec 32) (k0_hw8 : k0_chk8 v411), (k0_t44_loop v411).OK := fun v411 k0_hw8 => k0_hw8.2.2.1.2.2.2.2.2.2.2.2.2.2.2.2.2.2.1
theorem k0_off46_inb : ∀ (v411 : BitVec 32) (k0_hw8 : k0_chk8 v411) (k0_t44 : Fin (k0_t44_loop v411).trips), ∀ a, (k0_off46 v411 k0_t44) a + S16.size a ≤ S16400.size a := fun v411 k0_hw8 k0_t44 => k0_hw8.2.2.1.2.2.2.2.2.2.2.2.2.2.2.2.2.2.2.1 k0_t44
theorem k0_t45_ok : ∀ (v411 : BitVec 32) (k0_hw8 : k0_chk8 v411), (k0_t45_loop v411).OK := fun v411 k0_hw8 => k0_hw8.2.2.1.2.2.2.2.2.2.2.2.2.2.2.2.2.2.2.2.1
theorem k0_off47_inb : ∀ (v411 : BitVec 32) (k0_hw8 : k0_chk8 v411) (k0_t45 : Fin (k0_t45_loop v411).trips), ∀ a, (k0_off47 v411 k0_t45) a + S16.size a ≤ S16400.size a := fun v411 k0_hw8 k0_t45 => k0_hw8.2.2.1.2.2.2.2.2.2.2.2.2.2.2.2.2.2.2.2.2.1 k0_t45
theorem k0_t46_ok : ∀ (v411 : BitVec 32) (k0_hw8 : k0_chk8 v411), (k0_t46_loop v411).OK := fun v411 k0_hw8 => k0_hw8.2.2.1.2.2.2.2.2.2.2.2.2.2.2.2.2.2.2.2.2.2.1
theorem k0_off48_inb : ∀ (v411 : BitVec 32) (k0_hw8 : k0_chk8 v411) (k0_t46 : Fin (k0_t46_loop v411).trips), ∀ a, (k0_off48 v411 k0_t46) a + S16.size a ≤ S16400.size a := fun v411 k0_hw8 k0_t46 => k0_hw8.2.2.1.2.2.2.2.2.2.2.2.2.2.2.2.2.2.2.2.2.2.2.1 k0_t46
theorem k0_t47_ok : ∀ (v411 : BitVec 32) (k0_hw8 : k0_chk8 v411), (k0_t47_loop v411).OK := fun v411 k0_hw8 => k0_hw8.2.2.1.2.2.2.2.2.2.2.2.2.2.2.2.2.2.2.2.2.2.2.2.1
theorem k0_off49_inb : ∀ (v411 : BitVec 32) (k0_hw8 : k0_chk8 v411) (k0_t47 : Fin (k0_t47_loop v411).trips), ∀ a, (k0_off49 v411 k0_t47) a + S16.size a ≤ S16400.size a := fun v411 k0_hw8 k0_t47 => k0_hw8.2.2.1.2.2.2.2.2.2.2.2.2.2.2.2.2.2.2.2.2.2.2.2.2.1 k0_t47
theorem k0_t48_ok : ∀ (v411 : BitVec 32) (k0_hw8 : k0_chk8 v411), (k0_t48_loop v411).OK := fun v411 k0_hw8 => k0_hw8.2.2.1.2.2.2.2.2.2.2.2.2.2.2.2.2.2.2.2.2.2.2.2.2.2.1
theorem k0_off50_inb : ∀ (v411 : BitVec 32) (k0_hw8 : k0_chk8 v411) (k0_t48 : Fin (k0_t48_loop v411).trips), ∀ a, (k0_off50 v411 k0_t48) a + S16.size a ≤ S16400.size a := fun v411 k0_hw8 k0_t48 => k0_hw8.2.2.1.2.2.2.2.2.2.2.2.2.2.2.2.2.2.2.2.2.2.2.2.2.2.2.1 k0_t48
theorem k0_t49_ok : ∀ (v411 : BitVec 32) (k0_hw8 : k0_chk8 v411), (k0_t49_loop v411).OK := fun v411 k0_hw8 => k0_hw8.2.2.1.2.2.2.2.2.2.2.2.2.2.2.2.2.2.2.2.2.2.2.2.2.2.2.2.1
theorem k0_off51_inb : ∀ (v411 : BitVec 32) (k0_hw8 : k0_chk8 v411) (k0_t49 : Fin (k0_t49_loop v411).trips), ∀ a, (k0_off51 v411 k0_t49) a + S16.size a ≤ S16400.size a := fun v411 k0_hw8 k0_t49 => k0_hw8.2.2.1.2.2.2.2.2.2.2.2.2.2.2.2.2.2.2.2.2.2.2.2.2.2.2.2.2.1 k0_t49
theorem k0_t50_ok : ∀ (v411 : BitVec 32) (k0_hw8 : k0_chk8 v411), (k0_t50_loop v411).OK := fun v411 k0_hw8 => k0_hw8.2.2.1.2.2.2.2.2.2.2.2.2.2.2.2.2.2.2.2.2.2.2.2.2.2.2.2.2.2.1
theorem k0_off52_inb : ∀ (v411 : BitVec 32) (k0_hw8 : k0_chk8 v411) (k0_t50 : Fin (k0_t50_loop v411).trips), ∀ a, (k0_off52 v411 k0_t50) a + S16.size a ≤ S16400.size a := fun v411 k0_hw8 k0_t50 => k0_hw8.2.2.1.2.2.2.2.2.2.2.2.2.2.2.2.2.2.2.2.2.2.2.2.2.2.2.2.2.2.2.1 k0_t50
theorem k0_t51_ok : ∀ (v411 : BitVec 32) (k0_hw8 : k0_chk8 v411), (k0_t51_loop v411).OK := fun v411 k0_hw8 => k0_hw8.2.2.1.2.2.2.2.2.2.2.2.2.2.2.2.2.2.2.2.2.2.2.2.2.2.2.2.2.2.2.2.1
theorem k0_off53_inb : ∀ (v411 : BitVec 32) (k0_hw8 : k0_chk8 v411) (k0_t51 : Fin (k0_t51_loop v411).trips), ∀ a, (k0_off53 v411 k0_t51) a + S16.size a ≤ S16400.size a := fun v411 k0_hw8 k0_t51 => k0_hw8.2.2.1.2.2.2.2.2.2.2.2.2.2.2.2.2.2.2.2.2.2.2.2.2.2.2.2.2.2.2.2.2.1 k0_t51
theorem k0_t52_ok : ∀ (v411 : BitVec 32) (k0_hw8 : k0_chk8 v411), (k0_t52_loop v411).OK := fun v411 k0_hw8 => k0_hw8.2.2.1.2.2.2.2.2.2.2.2.2.2.2.2.2.2.2.2.2.2.2.2.2.2.2.2.2.2.2.2.2.2.1
theorem k0_off54_inb : ∀ (v411 : BitVec 32) (k0_hw8 : k0_chk8 v411) (k0_t52 : Fin (k0_t52_loop v411).trips), ∀ a, (k0_off54 v411 k0_t52) a + S16.size a ≤ S16400.size a := fun v411 k0_hw8 k0_t52 => k0_hw8.2.2.1.2.2.2.2.2.2.2.2.2.2.2.2.2.2.2.2.2.2.2.2.2.2.2.2.2.2.2.2.2.2.2 k0_t52
theorem k0_t53_ok : ∀ (v411 : BitVec 32) (k0_hw8 : k0_chk8 v411), (k0_t53_loop v411).OK := fun v411 k0_hw8 => k0_hw8.2.2.2.1
theorem k0_off55_inb : ∀ (v411 : BitVec 32) (k0_hw8 : k0_chk8 v411) (k0_t53 : Fin (k0_t53_loop v411).trips), ∀ a, (k0_off55 v411 k0_t53) a + S16.size a ≤ S16400.size a := fun v411 k0_hw8 k0_t53 => k0_hw8.2.2.2.2.1 k0_t53
theorem k0_t54_ok : ∀ (v411 : BitVec 32) (k0_hw8 : k0_chk8 v411), (k0_t54_loop v411).OK := fun v411 k0_hw8 => k0_hw8.2.2.2.2.2.1
theorem k0_off56_inb : ∀ (v411 : BitVec 32) (k0_hw8 : k0_chk8 v411) (k0_t54 : Fin (k0_t54_loop v411).trips), ∀ a, (k0_off56 v411 k0_t54) a + S16.size a ≤ S16400.size a := fun v411 k0_hw8 k0_t54 => k0_hw8.2.2.2.2.2.2 k0_t54

def k0_chk9 (v796 : IVec S16 32) : Prop :=
  (∀ a x, ((![v796] : Fin 1 → IVec S16 32) a x).toNat < S256.size a)
theorem k0_idx8_inb : ∀ (v796 : IVec S16 32) (k0_hw9 : k0_chk9 v796), ∀ a x, ((![v796] : Fin 1 → IVec S16 32) a x).toNat < S256.size a := fun v796 k0_hw9 => k0_hw9
def k0_cond2 (k0_t2 : Fin k0_t2_loop.trips) : BitVec 1 :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let c127_i32 : BitVec 32 := 127#32
  let v799 : BitVec 1 := Scalar.cmpi .slt v31 c127_i32
  let v800 : BitVec 32 := Scalar.extui v799
  let c0_i32_422 : BitVec 32 := 0#32
  let v801 : BitVec 1 := Scalar.cmpi .ne v800 c0_i32_422
  v801

def k0_off57 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_19 : BitVec 32 := 2#32
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let v32 : BitVec 32 := Scalar.muli c2_i32_19 v31
  let v33 : BitVec 32 := Scalar.addi v2 v32
  let c2_i32_921 : BitVec 32 := 2#32
  let v1572 : BitVec 32 := Scalar.addi v33 c2_i32_921
  let c0_i32_924 : BitVec 32 := 0#32
  ![v1572.toNat, 0]
def k0_off58 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_19 : BitVec 32 := 2#32
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let v32 : BitVec 32 := Scalar.muli c2_i32_19 v31
  let v33 : BitVec 32 := Scalar.addi v2 v32
  let c1_i32_423 : BitVec 32 := 1#32
  let v802 : BitVec 32 := Scalar.addi v33 c1_i32_423
  let c0_i32_426 : BitVec 32 := 0#32
  ![v802.toNat, 0]
@[reducible] def k0_t55_loop : Scf.Loop 32 :=
  let c0_i32_437 : BitVec 32 := 0#32
  let c1024_i32_438 : BitVec 32 := 1024#32
  let v819 : BitVec 32 := Scalar.addi c0_i32_437 c1024_i32_438
  let c1_i32_439 : BitVec 32 := 1#32
  ⟨c0_i32_437, v819, c1_i32_439⟩
def k0_off59 (k0_t55 : Fin k0_t55_loop.trips) : Fin 2 → Nat :=
  let c1_i32_924 : BitVec 32 := 1#32
  let v1575 : Index := Scalar.indexCast c1_i32_924
  let c0_i32_922 : BitVec 32 := 0#32
  let c0_i32_437 : BitVec 32 := 0#32
  let c1_i32_439 : BitVec 32 := 1#32
  let arg13 : BitVec 32 := Scf.iv c0_i32_437 c1_i32_439 k0_t55
  let c1_i32_921 : BitVec 32 := 1#32
  let v1572 : BitVec 32 := Scalar.muli arg13 c1_i32_921
  let v1573 : BitVec 32 := Scalar.addi c0_i32_922 v1572
  let c16_i32_923 : BitVec 32 := 16#32
  let v1574 : BitVec 32 := Scalar.muli v1573 c16_i32_923
  let v1576 : Index := Scalar.indexCast v1574
  ![1, v1576.toNat]

def k0_chk10 (v1581 : IVec S16 32) : Prop :=
  (∀ a x, ((![v1581] : Fin 1 → IVec S16 32) a x).toNat < S2080.size a)
theorem k0_idx9_inb : ∀ (v1581 : IVec S16 32) (k0_hw10 : k0_chk10 v1581), ∀ a x, ((![v1581] : Fin 1 → IVec S16 32) a x).toNat < S2080.size a := fun v1581 k0_hw10 => k0_hw10

def k0_chk11 (v1587 : IVec S16 32) : Prop :=
  (∀ a x, ((![v1587] : Fin 1 → IVec S16 32) a x).toNat < S16400.size a)
theorem k0_idx10_inb : ∀ (v1587 : IVec S16 32) (k0_hw11 : k0_chk11 v1587), ∀ a x, ((![v1587] : Fin 1 → IVec S16 32) a x).toNat < S16400.size a := fun v1587 k0_hw11 => k0_hw11

def k0_chk12 (v874 : IVec S16 32) : Prop :=
  (∀ a x, ((![v874] : Fin 1 → IVec S16 32) a x).toNat < S16.size a)
theorem k0_idx11_inb : ∀ (v874 : IVec S16 32) (k0_hw12 : k0_chk12 v874), ∀ a x, ((![v874] : Fin 1 → IVec S16 32) a x).toNat < S16.size a := fun v874 k0_hw12 => k0_hw12

def k0_chk13 (v959 : IVec S16 32) : Prop :=
  (∀ a x, ((![v959] : Fin 1 → IVec S16 32) a x).toNat < S16.size a)
theorem k0_idx12_inb : ∀ (v959 : IVec S16 32) (k0_hw13 : k0_chk13 v959), ∀ a x, ((![v959] : Fin 1 → IVec S16 32) a x).toNat < S16.size a := fun v959 k0_hw13 => k0_hw13

def k0_chk14 (v1044 : IVec S16 32) : Prop :=
  (∀ a x, ((![v1044] : Fin 1 → IVec S16 32) a x).toNat < S16.size a)
theorem k0_idx13_inb : ∀ (v1044 : IVec S16 32) (k0_hw14 : k0_chk14 v1044), ∀ a x, ((![v1044] : Fin 1 → IVec S16 32) a x).toNat < S16.size a := fun v1044 k0_hw14 => k0_hw14

def k0_chk15 (v1129 : IVec S16 32) : Prop :=
  (∀ a x, ((![v1129] : Fin 1 → IVec S16 32) a x).toNat < S16.size a)
theorem k0_idx14_inb : ∀ (v1129 : IVec S16 32) (k0_hw15 : k0_chk15 v1129), ∀ a x, ((![v1129] : Fin 1 → IVec S16 32) a x).toNat < S16.size a := fun v1129 k0_hw15 => k0_hw15
@[reducible] def k0_t56_loop : Scf.Loop 32 :=
  let c0_i32_921 : BitVec 32 := 0#32
  let c1024_i32_922 : BitVec 32 := 1024#32
  let v1572 : BitVec 32 := Scalar.addi c0_i32_921 c1024_i32_922
  let c1_i32_923 : BitVec 32 := 1#32
  ⟨c0_i32_921, v1572, c1_i32_923⟩
def k0_off60 (k0_t56 : Fin k0_t56_loop.trips) : Fin 2 → Nat :=
  let c1_i32_929 : BitVec 32 := 1#32
  let v1578 : Index := Scalar.indexCast c1_i32_929
  let c0_i32_927 : BitVec 32 := 0#32
  let c0_i32_921 : BitVec 32 := 0#32
  let c1_i32_923 : BitVec 32 := 1#32
  let arg13 : BitVec 32 := Scf.iv c0_i32_921 c1_i32_923 k0_t56
  let c1_i32_926 : BitVec 32 := 1#32
  let v1575 : BitVec 32 := Scalar.muli arg13 c1_i32_926
  let v1576 : BitVec 32 := Scalar.addi c0_i32_927 v1575
  let c16_i32_928 : BitVec 32 := 16#32
  let v1577 : BitVec 32 := Scalar.muli v1576 c16_i32_928
  let v1579 : Index := Scalar.indexCast v1577
  ![1, v1579.toNat]
def k0_cond3 (v101 : BitVec 32) (v115 : BitVec 32) (v186 : BitVec 32) (v200 : BitVec 32) (v271 : BitVec 32) (v285 : BitVec 32) (v356 : BitVec 32) (v370 : BitVec 32) (v871 : BitVec 32) (v885 : BitVec 32) (v956 : BitVec 32) (v970 : BitVec 32) (v1041 : BitVec 32) (v1055 : BitVec 32) (v1126 : BitVec 32) (v1140 : BitVec 32) : BitVec 1 :=
  let false_492 : BitVec 1 := 0#1
  let false_480 : BitVec 1 := 0#1
  let true_481 : BitVec 1 := 1#1
  let v886 : BitVec 1 := Scalar.xori false_480 true_481
  let c0_i32_482 : BitVec 32 := 0#32
  let v887 : BitVec 32 := Scalar.addi c0_i32_482 v871
  let c64_i32_483 : BitVec 32 := 64#32
  let v888 : BitVec 1 := Scalar.cmpi .sge v887 c64_i32_483
  let c16_i32_484 : BitVec 32 := 16#32
  let v889 : BitVec 1 := Scalar.cmpi .slt v885 c16_i32_484
  let v890 : BitVec 1 := Scalar.andi v888 v889
  let v891 : BitVec 1 := Scalar.andi v886 v890
  let v904 : BitVec 1 := Scalar.ori false_492 v891
  let true_532 : BitVec 1 := 1#1
  let v971 : BitVec 1 := Scalar.xori v904 true_532
  let c0_i32_493 : BitVec 32 := 0#32
  let v905 : BitVec 32 := Scalar.addi c0_i32_493 v871
  let v972 : BitVec 32 := Scalar.addi v905 v956
  let c64_i32_533 : BitVec 32 := 64#32
  let v973 : BitVec 1 := Scalar.cmpi .sge v972 c64_i32_533
  let c16_i32_534 : BitVec 32 := 16#32
  let v974 : BitVec 1 := Scalar.cmpi .slt v970 c16_i32_534
  let v975 : BitVec 1 := Scalar.andi v973 v974
  let v976 : BitVec 1 := Scalar.andi v971 v975
  let v989 : BitVec 1 := Scalar.ori v904 v976
  let true_577 : BitVec 1 := 1#1
  let v1056 : BitVec 1 := Scalar.xori v989 true_577
  let v990 : BitVec 32 := Scalar.addi v905 v956
  let v1057 : BitVec 32 := Scalar.addi v990 v1041
  let c64_i32_578 : BitVec 32 := 64#32
  let v1058 : BitVec 1 := Scalar.cmpi .sge v1057 c64_i32_578
  let c16_i32_579 : BitVec 32 := 16#32
  let v1059 : BitVec 1 := Scalar.cmpi .slt v1055 c16_i32_579
  let v1060 : BitVec 1 := Scalar.andi v1058 v1059
  let v1061 : BitVec 1 := Scalar.andi v1056 v1060
  let v1074 : BitVec 1 := Scalar.ori v989 v1061
  let true_622 : BitVec 1 := 1#1
  let v1141 : BitVec 1 := Scalar.xori v1074 true_622
  let v1075 : BitVec 32 := Scalar.addi v990 v1041
  let v1142 : BitVec 32 := Scalar.addi v1075 v1126
  let c64_i32_623 : BitVec 32 := 64#32
  let v1143 : BitVec 1 := Scalar.cmpi .sge v1142 c64_i32_623
  let c16_i32_624 : BitVec 32 := 16#32
  let v1144 : BitVec 1 := Scalar.cmpi .slt v1140 c16_i32_624
  let v1145 : BitVec 1 := Scalar.andi v1143 v1144
  let v1146 : BitVec 1 := Scalar.andi v1141 v1145
  let c15_i32_625 : BitVec 32 := 15#32
  let v1147 : BitVec 32 := Scalar.subi c15_i32_625 v1140
  let c31_i32_580 : BitVec 32 := 31#32
  let v1062 : BitVec 32 := Scalar.subi c31_i32_580 v1055
  let c47_i32_535 : BitVec 32 := 47#32
  let v977 : BitVec 32 := Scalar.subi c47_i32_535 v970
  let c63_i32_485 : BitVec 32 := 63#32
  let v892 : BitVec 32 := Scalar.subi c63_i32_485 v885
  let c0_i32_490 : BitVec 32 := 0#32
  let v902 : BitVec 32 := Scalar.select v891 v892 c0_i32_490
  let v987 : BitVec 32 := Scalar.select v976 v977 v902
  let v1072 : BitVec 32 := Scalar.select v1061 v1062 v987
  let v1157 : BitVec 32 := Scalar.select v1146 v1147 v1072
  let false_61 : BitVec 1 := 0#1
  let v_false : BitVec 1 := 0#1
  let true_51 : BitVec 1 := 1#1
  let v116 : BitVec 1 := Scalar.xori v_false true_51
  let c0_i32_52 : BitVec 32 := 0#32
  let v117 : BitVec 32 := Scalar.addi c0_i32_52 v101
  let c64_i32_53 : BitVec 32 := 64#32
  let v118 : BitVec 1 := Scalar.cmpi .sge v117 c64_i32_53
  let c16_i32_54 : BitVec 32 := 16#32
  let v119 : BitVec 1 := Scalar.cmpi .slt v115 c16_i32_54
  let v120 : BitVec 1 := Scalar.andi v118 v119
  let v121 : BitVec 1 := Scalar.andi v116 v120
  let v134 : BitVec 1 := Scalar.ori false_61 v121
  let true_85 : BitVec 1 := 1#1
  let v201 : BitVec 1 := Scalar.xori v134 true_85
  let c0_i32_62 : BitVec 32 := 0#32
  let v135 : BitVec 32 := Scalar.addi c0_i32_62 v101
  let v202 : BitVec 32 := Scalar.addi v135 v186
  let c64_i32_86 : BitVec 32 := 64#32
  let v203 : BitVec 1 := Scalar.cmpi .sge v202 c64_i32_86
  let c16_i32_87 : BitVec 32 := 16#32
  let v204 : BitVec 1 := Scalar.cmpi .slt v200 c16_i32_87
  let v205 : BitVec 1 := Scalar.andi v203 v204
  let v206 : BitVec 1 := Scalar.andi v201 v205
  let v219 : BitVec 1 := Scalar.ori v134 v206
  let true_113 : BitVec 1 := 1#1
  let v286 : BitVec 1 := Scalar.xori v219 true_113
  let v220 : BitVec 32 := Scalar.addi v135 v186
  let v287 : BitVec 32 := Scalar.addi v220 v271
  let c64_i32_114 : BitVec 32 := 64#32
  let v288 : BitVec 1 := Scalar.cmpi .sge v287 c64_i32_114
  let c16_i32_115 : BitVec 32 := 16#32
  let v289 : BitVec 1 := Scalar.cmpi .slt v285 c16_i32_115
  let v290 : BitVec 1 := Scalar.andi v288 v289
  let v291 : BitVec 1 := Scalar.andi v286 v290
  let v304 : BitVec 1 := Scalar.ori v219 v291
  let true_142 : BitVec 1 := 1#1
  let v371 : BitVec 1 := Scalar.xori v304 true_142
  let v305 : BitVec 32 := Scalar.addi v220 v271
  let v372 : BitVec 32 := Scalar.addi v305 v356
  let c64_i32_143 : BitVec 32 := 64#32
  let v373 : BitVec 1 := Scalar.cmpi .sge v372 c64_i32_143
  let c16_i32_144 : BitVec 32 := 16#32
  let v374 : BitVec 1 := Scalar.cmpi .slt v370 c16_i32_144
  let v375 : BitVec 1 := Scalar.andi v373 v374
  let v376 : BitVec 1 := Scalar.andi v371 v375
  let c15_i32_145 : BitVec 32 := 15#32
  let v377 : BitVec 32 := Scalar.subi c15_i32_145 v370
  let c31_i32 : BitVec 32 := 31#32
  let v292 : BitVec 32 := Scalar.subi c31_i32 v285
  let c47_i32 : BitVec 32 := 47#32
  let v207 : BitVec 32 := Scalar.subi c47_i32 v200
  let c63_i32_55 : BitVec 32 := 63#32
  let v122 : BitVec 32 := Scalar.subi c63_i32_55 v115
  let c0_i32_59 : BitVec 32 := 0#32
  let v132 : BitVec 32 := Scalar.select v121 v122 c0_i32_59
  let v217 : BitVec 32 := Scalar.select v206 v207 v132
  let v302 : BitVec 32 := Scalar.select v291 v292 v217
  let v387 : BitVec 32 := Scalar.select v376 v377 v302
  let v1169 : BitVec 1 := Scalar.cmpi .ne v1157 v387
  let v1170 : BitVec 32 := Scalar.extui v1169
  let c0_i32_636 : BitVec 32 := 0#32
  let v1171 : BitVec 1 := Scalar.cmpi .ne v1170 c0_i32_636
  v1171

def k0_chk16 (v101 : BitVec 32) (v115 : BitVec 32) (v186 : BitVec 32) (v200 : BitVec 32) (v271 : BitVec 32) (v285 : BitVec 32) (v356 : BitVec 32) (v370 : BitVec 32) (v871 : BitVec 32) (v885 : BitVec 32) (v956 : BitVec 32) (v970 : BitVec 32) (v1041 : BitVec 32) (v1055 : BitVec 32) (v1126 : BitVec 32) (v1140 : BitVec 32) (v1587 : IVec S16 32) : Prop :=
  (∀ (k0_h3 : k0_cond3 v101 v115 v186 v200 v271 v285 v356 v370 v871 v885 v956 v970 v1041 v1055 v1126 v1140 = 1#1), ∀ a x, ((![v1587] : Fin 1 → IVec S16 32) a x).toNat < S16400.size a)
theorem k0_idx15_inb : ∀ (v101 : BitVec 32) (v115 : BitVec 32) (v186 : BitVec 32) (v200 : BitVec 32) (v271 : BitVec 32) (v285 : BitVec 32) (v356 : BitVec 32) (v370 : BitVec 32) (v871 : BitVec 32) (v885 : BitVec 32) (v956 : BitVec 32) (v970 : BitVec 32) (v1041 : BitVec 32) (v1055 : BitVec 32) (v1126 : BitVec 32) (v1140 : BitVec 32) (v1587 : IVec S16 32) (k0_hw16 : k0_chk16 v101 v115 v186 v200 v271 v285 v356 v370 v871 v885 v956 v970 v1041 v1055 v1126 v1140 v1587), ∀ (k0_h3 : k0_cond3 v101 v115 v186 v200 v271 v285 v356 v370 v871 v885 v956 v970 v1041 v1055 v1126 v1140 = 1#1), ∀ a x, ((![v1587] : Fin 1 → IVec S16 32) a x).toNat < S16400.size a := fun v101 v115 v186 v200 v271 v285 v356 v370 v871 v885 v956 v970 v1041 v1055 v1126 v1140 v1587 k0_hw16 k0_h3 => k0_hw16 k0_h3
@[reducible] def k0_t57_loop (v1181 : BitVec 32) : Scf.Loop 32 :=
  let c0_i32_649 : BitVec 32 := 0#32
  let c0_i32_643 : BitVec 32 := 0#32
  let v1189 : BitVec 32 := Scalar.subi v1181 c0_i32_643
  let c1_i32_644 : BitVec 32 := 1#32
  let c1_i32_645 : BitVec 32 := 1#32
  let v1190 : BitVec 32 := Scalar.subi c1_i32_644 c1_i32_645
  let v1191 : BitVec 32 := Scalar.addi v1189 v1190
  let c1_i32_646 : BitVec 32 := 1#32
  let v1192 : BitVec 32 := Scalar.divsi v1191 c1_i32_646
  let v1193 : BitVec 32 := Scalar.subi v1192 c0_i32_649
  let c1_i32_650 : BitVec 32 := 1#32
  let v1195 : BitVec 32 := Scalar.divsi v1193 c1_i32_650
  let v1196 : BitVec 32 := Scalar.muli v1195 c1_i32_650
  let v1197 : BitVec 32 := Scalar.addi c0_i32_649 v1196
  let c1_i32_651 : BitVec 32 := 1#32
  ⟨c0_i32_649, v1197, c1_i32_651⟩

def k0_off61 (v1181 : BitVec 32) (k0_t57 : Fin (k0_t57_loop v1181).trips) : Fin 1 → Nat :=
  let c0_i32_648 : BitVec 32 := 0#32
  let c0_i32_649 : BitVec 32 := 0#32
  let c1_i32_651 : BitVec 32 := 1#32
  let arg13 : BitVec 32 := Scf.iv c0_i32_649 c1_i32_651 k0_t57
  let c1_i32_647 : BitVec 32 := 1#32
  let v1572 : BitVec 32 := Scalar.muli arg13 c1_i32_647
  let v1573 : BitVec 32 := Scalar.addi c0_i32_648 v1572
  let c16_i32_921 : BitVec 32 := 16#32
  let v1574 : BitVec 32 := Scalar.muli v1573 c16_i32_921
  let v1575 : Index := Scalar.indexCast v1574
  ![v1575.toNat]
@[reducible] def k0_t58_loop (v1181 : BitVec 32) : Scf.Loop 32 :=
  let c0_i32_649 : BitVec 32 := 0#32
  let c0_i32_643 : BitVec 32 := 0#32
  let v1189 : BitVec 32 := Scalar.subi v1181 c0_i32_643
  let c1_i32_644 : BitVec 32 := 1#32
  let c1_i32_645 : BitVec 32 := 1#32
  let v1190 : BitVec 32 := Scalar.subi c1_i32_644 c1_i32_645
  let v1191 : BitVec 32 := Scalar.addi v1189 v1190
  let c1_i32_646 : BitVec 32 := 1#32
  let v1192 : BitVec 32 := Scalar.divsi v1191 c1_i32_646
  let v1193 : BitVec 32 := Scalar.subi v1192 c0_i32_649
  let c1_i32_650 : BitVec 32 := 1#32
  let v1195 : BitVec 32 := Scalar.divsi v1193 c1_i32_650
  let v1196 : BitVec 32 := Scalar.muli v1195 c1_i32_650
  let v1197 : BitVec 32 := Scalar.addi c0_i32_649 v1196
  let v1194 : BitVec 32 := Scalar.addi c0_i32_649 v1193
  let c1_i32_652 : BitVec 32 := 1#32
  ⟨v1197, v1194, c1_i32_652⟩
def k0_off62 (v1181 : BitVec 32) (k0_t58 : Fin (k0_t58_loop v1181).trips) : Fin 1 → Nat :=
  let c0_i32_648 : BitVec 32 := 0#32
  let c0_i32_649 : BitVec 32 := 0#32
  let c0_i32_643 : BitVec 32 := 0#32
  let v1189 : BitVec 32 := Scalar.subi v1181 c0_i32_643
  let c1_i32_644 : BitVec 32 := 1#32
  let c1_i32_645 : BitVec 32 := 1#32
  let v1190 : BitVec 32 := Scalar.subi c1_i32_644 c1_i32_645
  let v1191 : BitVec 32 := Scalar.addi v1189 v1190
  let c1_i32_646 : BitVec 32 := 1#32
  let v1192 : BitVec 32 := Scalar.divsi v1191 c1_i32_646
  let v1193 : BitVec 32 := Scalar.subi v1192 c0_i32_649
  let c1_i32_650 : BitVec 32 := 1#32
  let v1195 : BitVec 32 := Scalar.divsi v1193 c1_i32_650
  let v1196 : BitVec 32 := Scalar.muli v1195 c1_i32_650
  let v1197 : BitVec 32 := Scalar.addi c0_i32_649 v1196
  let c1_i32_652 : BitVec 32 := 1#32
  let arg13 : BitVec 32 := Scf.iv v1197 c1_i32_652 k0_t58
  let c1_i32_647 : BitVec 32 := 1#32
  let v1572 : BitVec 32 := Scalar.muli arg13 c1_i32_647
  let v1573 : BitVec 32 := Scalar.addi c0_i32_648 v1572
  let c16_i32_921 : BitVec 32 := 16#32
  let v1574 : BitVec 32 := Scalar.muli v1573 c16_i32_921
  let v1575 : Index := Scalar.indexCast v1574
  ![v1575.toNat]
@[reducible] def k0_t59_loop (v1181 : BitVec 32) : Scf.Loop 32 :=
  let c0_i32_660 : BitVec 32 := 0#32
  let c0_i32_654 : BitVec 32 := 0#32
  let v1204 : BitVec 32 := Scalar.subi v1181 c0_i32_654
  let c1_i32_655 : BitVec 32 := 1#32
  let c1_i32_656 : BitVec 32 := 1#32
  let v1205 : BitVec 32 := Scalar.subi c1_i32_655 c1_i32_656
  let v1206 : BitVec 32 := Scalar.addi v1204 v1205
  let c1_i32_657 : BitVec 32 := 1#32
  let v1207 : BitVec 32 := Scalar.divsi v1206 c1_i32_657
  let v1208 : BitVec 32 := Scalar.subi v1207 c0_i32_660
  let c1_i32_661 : BitVec 32 := 1#32
  let v1210 : BitVec 32 := Scalar.divsi v1208 c1_i32_661
  let v1211 : BitVec 32 := Scalar.muli v1210 c1_i32_661
  let v1212 : BitVec 32 := Scalar.addi c0_i32_660 v1211
  let c1_i32_662 : BitVec 32 := 1#32
  ⟨c0_i32_660, v1212, c1_i32_662⟩
def k0_off63 (v1181 : BitVec 32) (k0_t59 : Fin (k0_t59_loop v1181).trips) : Fin 1 → Nat :=
  let c0_i32_659 : BitVec 32 := 0#32
  let c0_i32_660 : BitVec 32 := 0#32
  let c1_i32_662 : BitVec 32 := 1#32
  let arg13 : BitVec 32 := Scf.iv c0_i32_660 c1_i32_662 k0_t59
  let c1_i32_658 : BitVec 32 := 1#32
  let v1572 : BitVec 32 := Scalar.muli arg13 c1_i32_658
  let v1573 : BitVec 32 := Scalar.addi c0_i32_659 v1572
  let c16_i32_921 : BitVec 32 := 16#32
  let v1574 : BitVec 32 := Scalar.muli v1573 c16_i32_921
  let v1575 : Index := Scalar.indexCast v1574
  ![v1575.toNat]
@[reducible] def k0_t60_loop (v1181 : BitVec 32) : Scf.Loop 32 :=
  let c0_i32_660 : BitVec 32 := 0#32
  let c0_i32_654 : BitVec 32 := 0#32
  let v1204 : BitVec 32 := Scalar.subi v1181 c0_i32_654
  let c1_i32_655 : BitVec 32 := 1#32
  let c1_i32_656 : BitVec 32 := 1#32
  let v1205 : BitVec 32 := Scalar.subi c1_i32_655 c1_i32_656
  let v1206 : BitVec 32 := Scalar.addi v1204 v1205
  let c1_i32_657 : BitVec 32 := 1#32
  let v1207 : BitVec 32 := Scalar.divsi v1206 c1_i32_657
  let v1208 : BitVec 32 := Scalar.subi v1207 c0_i32_660
  let c1_i32_661 : BitVec 32 := 1#32
  let v1210 : BitVec 32 := Scalar.divsi v1208 c1_i32_661
  let v1211 : BitVec 32 := Scalar.muli v1210 c1_i32_661
  let v1212 : BitVec 32 := Scalar.addi c0_i32_660 v1211
  let v1209 : BitVec 32 := Scalar.addi c0_i32_660 v1208
  let c1_i32_663 : BitVec 32 := 1#32
  ⟨v1212, v1209, c1_i32_663⟩
def k0_off64 (v1181 : BitVec 32) (k0_t60 : Fin (k0_t60_loop v1181).trips) : Fin 1 → Nat :=
  let c0_i32_659 : BitVec 32 := 0#32
  let c0_i32_660 : BitVec 32 := 0#32
  let c0_i32_654 : BitVec 32 := 0#32
  let v1204 : BitVec 32 := Scalar.subi v1181 c0_i32_654
  let c1_i32_655 : BitVec 32 := 1#32
  let c1_i32_656 : BitVec 32 := 1#32
  let v1205 : BitVec 32 := Scalar.subi c1_i32_655 c1_i32_656
  let v1206 : BitVec 32 := Scalar.addi v1204 v1205
  let c1_i32_657 : BitVec 32 := 1#32
  let v1207 : BitVec 32 := Scalar.divsi v1206 c1_i32_657
  let v1208 : BitVec 32 := Scalar.subi v1207 c0_i32_660
  let c1_i32_661 : BitVec 32 := 1#32
  let v1210 : BitVec 32 := Scalar.divsi v1208 c1_i32_661
  let v1211 : BitVec 32 := Scalar.muli v1210 c1_i32_661
  let v1212 : BitVec 32 := Scalar.addi c0_i32_660 v1211
  let c1_i32_663 : BitVec 32 := 1#32
  let arg13 : BitVec 32 := Scf.iv v1212 c1_i32_663 k0_t60
  let c1_i32_658 : BitVec 32 := 1#32
  let v1572 : BitVec 32 := Scalar.muli arg13 c1_i32_658
  let v1573 : BitVec 32 := Scalar.addi c0_i32_659 v1572
  let c16_i32_921 : BitVec 32 := 16#32
  let v1574 : BitVec 32 := Scalar.muli v1573 c16_i32_921
  let v1575 : Index := Scalar.indexCast v1574
  ![v1575.toNat]
@[reducible] def k0_t61_loop (v1181 : BitVec 32) : Scf.Loop 32 :=
  let c0_i32_671 : BitVec 32 := 0#32
  let c0_i32_665 : BitVec 32 := 0#32
  let v1219 : BitVec 32 := Scalar.subi v1181 c0_i32_665
  let c1_i32_666 : BitVec 32 := 1#32
  let c1_i32_667 : BitVec 32 := 1#32
  let v1220 : BitVec 32 := Scalar.subi c1_i32_666 c1_i32_667
  let v1221 : BitVec 32 := Scalar.addi v1219 v1220
  let c1_i32_668 : BitVec 32 := 1#32
  let v1222 : BitVec 32 := Scalar.divsi v1221 c1_i32_668
  let v1223 : BitVec 32 := Scalar.subi v1222 c0_i32_671
  let c1_i32_672 : BitVec 32 := 1#32
  let v1225 : BitVec 32 := Scalar.divsi v1223 c1_i32_672
  let v1226 : BitVec 32 := Scalar.muli v1225 c1_i32_672
  let v1227 : BitVec 32 := Scalar.addi c0_i32_671 v1226
  let c1_i32_673 : BitVec 32 := 1#32
  ⟨c0_i32_671, v1227, c1_i32_673⟩
def k0_off65 (v1181 : BitVec 32) (k0_t61 : Fin (k0_t61_loop v1181).trips) : Fin 1 → Nat :=
  let c0_i32_670 : BitVec 32 := 0#32
  let c0_i32_671 : BitVec 32 := 0#32
  let c1_i32_673 : BitVec 32 := 1#32
  let arg13 : BitVec 32 := Scf.iv c0_i32_671 c1_i32_673 k0_t61
  let c1_i32_669 : BitVec 32 := 1#32
  let v1572 : BitVec 32 := Scalar.muli arg13 c1_i32_669
  let v1573 : BitVec 32 := Scalar.addi c0_i32_670 v1572
  let c16_i32_921 : BitVec 32 := 16#32
  let v1574 : BitVec 32 := Scalar.muli v1573 c16_i32_921
  let v1575 : Index := Scalar.indexCast v1574
  ![v1575.toNat]
@[reducible] def k0_t62_loop (v1181 : BitVec 32) : Scf.Loop 32 :=
  let c0_i32_671 : BitVec 32 := 0#32
  let c0_i32_665 : BitVec 32 := 0#32
  let v1219 : BitVec 32 := Scalar.subi v1181 c0_i32_665
  let c1_i32_666 : BitVec 32 := 1#32
  let c1_i32_667 : BitVec 32 := 1#32
  let v1220 : BitVec 32 := Scalar.subi c1_i32_666 c1_i32_667
  let v1221 : BitVec 32 := Scalar.addi v1219 v1220
  let c1_i32_668 : BitVec 32 := 1#32
  let v1222 : BitVec 32 := Scalar.divsi v1221 c1_i32_668
  let v1223 : BitVec 32 := Scalar.subi v1222 c0_i32_671
  let c1_i32_672 : BitVec 32 := 1#32
  let v1225 : BitVec 32 := Scalar.divsi v1223 c1_i32_672
  let v1226 : BitVec 32 := Scalar.muli v1225 c1_i32_672
  let v1227 : BitVec 32 := Scalar.addi c0_i32_671 v1226
  let v1224 : BitVec 32 := Scalar.addi c0_i32_671 v1223
  let c1_i32_674 : BitVec 32 := 1#32
  ⟨v1227, v1224, c1_i32_674⟩
def k0_off66 (v1181 : BitVec 32) (k0_t62 : Fin (k0_t62_loop v1181).trips) : Fin 1 → Nat :=
  let c0_i32_670 : BitVec 32 := 0#32
  let c0_i32_671 : BitVec 32 := 0#32
  let c0_i32_665 : BitVec 32 := 0#32
  let v1219 : BitVec 32 := Scalar.subi v1181 c0_i32_665
  let c1_i32_666 : BitVec 32 := 1#32
  let c1_i32_667 : BitVec 32 := 1#32
  let v1220 : BitVec 32 := Scalar.subi c1_i32_666 c1_i32_667
  let v1221 : BitVec 32 := Scalar.addi v1219 v1220
  let c1_i32_668 : BitVec 32 := 1#32
  let v1222 : BitVec 32 := Scalar.divsi v1221 c1_i32_668
  let v1223 : BitVec 32 := Scalar.subi v1222 c0_i32_671
  let c1_i32_672 : BitVec 32 := 1#32
  let v1225 : BitVec 32 := Scalar.divsi v1223 c1_i32_672
  let v1226 : BitVec 32 := Scalar.muli v1225 c1_i32_672
  let v1227 : BitVec 32 := Scalar.addi c0_i32_671 v1226
  let c1_i32_674 : BitVec 32 := 1#32
  let arg13 : BitVec 32 := Scf.iv v1227 c1_i32_674 k0_t62
  let c1_i32_669 : BitVec 32 := 1#32
  let v1572 : BitVec 32 := Scalar.muli arg13 c1_i32_669
  let v1573 : BitVec 32 := Scalar.addi c0_i32_670 v1572
  let c16_i32_921 : BitVec 32 := 16#32
  let v1574 : BitVec 32 := Scalar.muli v1573 c16_i32_921
  let v1575 : Index := Scalar.indexCast v1574
  ![v1575.toNat]
@[reducible] def k0_t63_loop (v1181 : BitVec 32) : Scf.Loop 32 :=
  let c0_i32_682 : BitVec 32 := 0#32
  let c0_i32_676 : BitVec 32 := 0#32
  let v1234 : BitVec 32 := Scalar.subi v1181 c0_i32_676
  let c1_i32_677 : BitVec 32 := 1#32
  let c1_i32_678 : BitVec 32 := 1#32
  let v1235 : BitVec 32 := Scalar.subi c1_i32_677 c1_i32_678
  let v1236 : BitVec 32 := Scalar.addi v1234 v1235
  let c1_i32_679 : BitVec 32 := 1#32
  let v1237 : BitVec 32 := Scalar.divsi v1236 c1_i32_679
  let v1238 : BitVec 32 := Scalar.subi v1237 c0_i32_682
  let c1_i32_683 : BitVec 32 := 1#32
  let v1240 : BitVec 32 := Scalar.divsi v1238 c1_i32_683
  let v1241 : BitVec 32 := Scalar.muli v1240 c1_i32_683
  let v1242 : BitVec 32 := Scalar.addi c0_i32_682 v1241
  let c1_i32_684 : BitVec 32 := 1#32
  ⟨c0_i32_682, v1242, c1_i32_684⟩
def k0_off67 (v1181 : BitVec 32) (k0_t63 : Fin (k0_t63_loop v1181).trips) : Fin 1 → Nat :=
  let c0_i32_681 : BitVec 32 := 0#32
  let c0_i32_682 : BitVec 32 := 0#32
  let c1_i32_684 : BitVec 32 := 1#32
  let arg13 : BitVec 32 := Scf.iv c0_i32_682 c1_i32_684 k0_t63
  let c1_i32_680 : BitVec 32 := 1#32
  let v1572 : BitVec 32 := Scalar.muli arg13 c1_i32_680
  let v1573 : BitVec 32 := Scalar.addi c0_i32_681 v1572
  let c16_i32_921 : BitVec 32 := 16#32
  let v1574 : BitVec 32 := Scalar.muli v1573 c16_i32_921
  let v1575 : Index := Scalar.indexCast v1574
  ![v1575.toNat]
@[reducible] def k0_t64_loop (v1181 : BitVec 32) : Scf.Loop 32 :=
  let c0_i32_682 : BitVec 32 := 0#32
  let c0_i32_676 : BitVec 32 := 0#32
  let v1234 : BitVec 32 := Scalar.subi v1181 c0_i32_676
  let c1_i32_677 : BitVec 32 := 1#32
  let c1_i32_678 : BitVec 32 := 1#32
  let v1235 : BitVec 32 := Scalar.subi c1_i32_677 c1_i32_678
  let v1236 : BitVec 32 := Scalar.addi v1234 v1235
  let c1_i32_679 : BitVec 32 := 1#32
  let v1237 : BitVec 32 := Scalar.divsi v1236 c1_i32_679
  let v1238 : BitVec 32 := Scalar.subi v1237 c0_i32_682
  let c1_i32_683 : BitVec 32 := 1#32
  let v1240 : BitVec 32 := Scalar.divsi v1238 c1_i32_683
  let v1241 : BitVec 32 := Scalar.muli v1240 c1_i32_683
  let v1242 : BitVec 32 := Scalar.addi c0_i32_682 v1241
  let v1239 : BitVec 32 := Scalar.addi c0_i32_682 v1238
  let c1_i32_685 : BitVec 32 := 1#32
  ⟨v1242, v1239, c1_i32_685⟩
def k0_off68 (v1181 : BitVec 32) (k0_t64 : Fin (k0_t64_loop v1181).trips) : Fin 1 → Nat :=
  let c0_i32_681 : BitVec 32 := 0#32
  let c0_i32_682 : BitVec 32 := 0#32
  let c0_i32_676 : BitVec 32 := 0#32
  let v1234 : BitVec 32 := Scalar.subi v1181 c0_i32_676
  let c1_i32_677 : BitVec 32 := 1#32
  let c1_i32_678 : BitVec 32 := 1#32
  let v1235 : BitVec 32 := Scalar.subi c1_i32_677 c1_i32_678
  let v1236 : BitVec 32 := Scalar.addi v1234 v1235
  let c1_i32_679 : BitVec 32 := 1#32
  let v1237 : BitVec 32 := Scalar.divsi v1236 c1_i32_679
  let v1238 : BitVec 32 := Scalar.subi v1237 c0_i32_682
  let c1_i32_683 : BitVec 32 := 1#32
  let v1240 : BitVec 32 := Scalar.divsi v1238 c1_i32_683
  let v1241 : BitVec 32 := Scalar.muli v1240 c1_i32_683
  let v1242 : BitVec 32 := Scalar.addi c0_i32_682 v1241
  let c1_i32_685 : BitVec 32 := 1#32
  let arg13 : BitVec 32 := Scf.iv v1242 c1_i32_685 k0_t64
  let c1_i32_680 : BitVec 32 := 1#32
  let v1572 : BitVec 32 := Scalar.muli arg13 c1_i32_680
  let v1573 : BitVec 32 := Scalar.addi c0_i32_681 v1572
  let c16_i32_921 : BitVec 32 := 16#32
  let v1574 : BitVec 32 := Scalar.muli v1573 c16_i32_921
  let v1575 : Index := Scalar.indexCast v1574
  ![v1575.toNat]
@[reducible] def k0_t65_loop (v1181 : BitVec 32) : Scf.Loop 32 :=
  let c0_i32_693 : BitVec 32 := 0#32
  let c0_i32_687 : BitVec 32 := 0#32
  let v1249 : BitVec 32 := Scalar.subi v1181 c0_i32_687
  let c1_i32_688 : BitVec 32 := 1#32
  let c1_i32_689 : BitVec 32 := 1#32
  let v1250 : BitVec 32 := Scalar.subi c1_i32_688 c1_i32_689
  let v1251 : BitVec 32 := Scalar.addi v1249 v1250
  let c1_i32_690 : BitVec 32 := 1#32
  let v1252 : BitVec 32 := Scalar.divsi v1251 c1_i32_690
  let v1253 : BitVec 32 := Scalar.subi v1252 c0_i32_693
  let c1_i32_694 : BitVec 32 := 1#32
  let v1255 : BitVec 32 := Scalar.divsi v1253 c1_i32_694
  let v1256 : BitVec 32 := Scalar.muli v1255 c1_i32_694
  let v1257 : BitVec 32 := Scalar.addi c0_i32_693 v1256
  let c1_i32_695 : BitVec 32 := 1#32
  ⟨c0_i32_693, v1257, c1_i32_695⟩
def k0_off69 (v1181 : BitVec 32) (k0_t65 : Fin (k0_t65_loop v1181).trips) : Fin 1 → Nat :=
  let c0_i32_692 : BitVec 32 := 0#32
  let c0_i32_693 : BitVec 32 := 0#32
  let c1_i32_695 : BitVec 32 := 1#32
  let arg13 : BitVec 32 := Scf.iv c0_i32_693 c1_i32_695 k0_t65
  let c1_i32_691 : BitVec 32 := 1#32
  let v1572 : BitVec 32 := Scalar.muli arg13 c1_i32_691
  let v1573 : BitVec 32 := Scalar.addi c0_i32_692 v1572
  let c16_i32_921 : BitVec 32 := 16#32
  let v1574 : BitVec 32 := Scalar.muli v1573 c16_i32_921
  let v1575 : Index := Scalar.indexCast v1574
  ![v1575.toNat]
@[reducible] def k0_t66_loop (v1181 : BitVec 32) : Scf.Loop 32 :=
  let c0_i32_693 : BitVec 32 := 0#32
  let c0_i32_687 : BitVec 32 := 0#32
  let v1249 : BitVec 32 := Scalar.subi v1181 c0_i32_687
  let c1_i32_688 : BitVec 32 := 1#32
  let c1_i32_689 : BitVec 32 := 1#32
  let v1250 : BitVec 32 := Scalar.subi c1_i32_688 c1_i32_689
  let v1251 : BitVec 32 := Scalar.addi v1249 v1250
  let c1_i32_690 : BitVec 32 := 1#32
  let v1252 : BitVec 32 := Scalar.divsi v1251 c1_i32_690
  let v1253 : BitVec 32 := Scalar.subi v1252 c0_i32_693
  let c1_i32_694 : BitVec 32 := 1#32
  let v1255 : BitVec 32 := Scalar.divsi v1253 c1_i32_694
  let v1256 : BitVec 32 := Scalar.muli v1255 c1_i32_694
  let v1257 : BitVec 32 := Scalar.addi c0_i32_693 v1256
  let v1254 : BitVec 32 := Scalar.addi c0_i32_693 v1253
  let c1_i32_696 : BitVec 32 := 1#32
  ⟨v1257, v1254, c1_i32_696⟩
def k0_off70 (v1181 : BitVec 32) (k0_t66 : Fin (k0_t66_loop v1181).trips) : Fin 1 → Nat :=
  let c0_i32_692 : BitVec 32 := 0#32
  let c0_i32_693 : BitVec 32 := 0#32
  let c0_i32_687 : BitVec 32 := 0#32
  let v1249 : BitVec 32 := Scalar.subi v1181 c0_i32_687
  let c1_i32_688 : BitVec 32 := 1#32
  let c1_i32_689 : BitVec 32 := 1#32
  let v1250 : BitVec 32 := Scalar.subi c1_i32_688 c1_i32_689
  let v1251 : BitVec 32 := Scalar.addi v1249 v1250
  let c1_i32_690 : BitVec 32 := 1#32
  let v1252 : BitVec 32 := Scalar.divsi v1251 c1_i32_690
  let v1253 : BitVec 32 := Scalar.subi v1252 c0_i32_693
  let c1_i32_694 : BitVec 32 := 1#32
  let v1255 : BitVec 32 := Scalar.divsi v1253 c1_i32_694
  let v1256 : BitVec 32 := Scalar.muli v1255 c1_i32_694
  let v1257 : BitVec 32 := Scalar.addi c0_i32_693 v1256
  let c1_i32_696 : BitVec 32 := 1#32
  let arg13 : BitVec 32 := Scf.iv v1257 c1_i32_696 k0_t66
  let c1_i32_691 : BitVec 32 := 1#32
  let v1572 : BitVec 32 := Scalar.muli arg13 c1_i32_691
  let v1573 : BitVec 32 := Scalar.addi c0_i32_692 v1572
  let c16_i32_921 : BitVec 32 := 16#32
  let v1574 : BitVec 32 := Scalar.muli v1573 c16_i32_921
  let v1575 : Index := Scalar.indexCast v1574
  ![v1575.toNat]
@[reducible] def k0_t67_loop (v1181 : BitVec 32) : Scf.Loop 32 :=
  let c0_i32_704 : BitVec 32 := 0#32
  let c0_i32_698 : BitVec 32 := 0#32
  let v1264 : BitVec 32 := Scalar.subi v1181 c0_i32_698
  let c1_i32_699 : BitVec 32 := 1#32
  let c1_i32_700 : BitVec 32 := 1#32
  let v1265 : BitVec 32 := Scalar.subi c1_i32_699 c1_i32_700
  let v1266 : BitVec 32 := Scalar.addi v1264 v1265
  let c1_i32_701 : BitVec 32 := 1#32
  let v1267 : BitVec 32 := Scalar.divsi v1266 c1_i32_701
  let v1268 : BitVec 32 := Scalar.subi v1267 c0_i32_704
  let c1_i32_705 : BitVec 32 := 1#32
  let v1270 : BitVec 32 := Scalar.divsi v1268 c1_i32_705
  let v1271 : BitVec 32 := Scalar.muli v1270 c1_i32_705
  let v1272 : BitVec 32 := Scalar.addi c0_i32_704 v1271
  let c1_i32_706 : BitVec 32 := 1#32
  ⟨c0_i32_704, v1272, c1_i32_706⟩
def k0_off71 (v1181 : BitVec 32) (k0_t67 : Fin (k0_t67_loop v1181).trips) : Fin 1 → Nat :=
  let c0_i32_703 : BitVec 32 := 0#32
  let c0_i32_704 : BitVec 32 := 0#32
  let c1_i32_706 : BitVec 32 := 1#32
  let arg13 : BitVec 32 := Scf.iv c0_i32_704 c1_i32_706 k0_t67
  let c1_i32_702 : BitVec 32 := 1#32
  let v1572 : BitVec 32 := Scalar.muli arg13 c1_i32_702
  let v1573 : BitVec 32 := Scalar.addi c0_i32_703 v1572
  let c16_i32_921 : BitVec 32 := 16#32
  let v1574 : BitVec 32 := Scalar.muli v1573 c16_i32_921
  let v1575 : Index := Scalar.indexCast v1574
  ![v1575.toNat]
@[reducible] def k0_t68_loop (v1181 : BitVec 32) : Scf.Loop 32 :=
  let c0_i32_704 : BitVec 32 := 0#32
  let c0_i32_698 : BitVec 32 := 0#32
  let v1264 : BitVec 32 := Scalar.subi v1181 c0_i32_698
  let c1_i32_699 : BitVec 32 := 1#32
  let c1_i32_700 : BitVec 32 := 1#32
  let v1265 : BitVec 32 := Scalar.subi c1_i32_699 c1_i32_700
  let v1266 : BitVec 32 := Scalar.addi v1264 v1265
  let c1_i32_701 : BitVec 32 := 1#32
  let v1267 : BitVec 32 := Scalar.divsi v1266 c1_i32_701
  let v1268 : BitVec 32 := Scalar.subi v1267 c0_i32_704
  let c1_i32_705 : BitVec 32 := 1#32
  let v1270 : BitVec 32 := Scalar.divsi v1268 c1_i32_705
  let v1271 : BitVec 32 := Scalar.muli v1270 c1_i32_705
  let v1272 : BitVec 32 := Scalar.addi c0_i32_704 v1271
  let v1269 : BitVec 32 := Scalar.addi c0_i32_704 v1268
  let c1_i32_707 : BitVec 32 := 1#32
  ⟨v1272, v1269, c1_i32_707⟩
def k0_off72 (v1181 : BitVec 32) (k0_t68 : Fin (k0_t68_loop v1181).trips) : Fin 1 → Nat :=
  let c0_i32_703 : BitVec 32 := 0#32
  let c0_i32_704 : BitVec 32 := 0#32
  let c0_i32_698 : BitVec 32 := 0#32
  let v1264 : BitVec 32 := Scalar.subi v1181 c0_i32_698
  let c1_i32_699 : BitVec 32 := 1#32
  let c1_i32_700 : BitVec 32 := 1#32
  let v1265 : BitVec 32 := Scalar.subi c1_i32_699 c1_i32_700
  let v1266 : BitVec 32 := Scalar.addi v1264 v1265
  let c1_i32_701 : BitVec 32 := 1#32
  let v1267 : BitVec 32 := Scalar.divsi v1266 c1_i32_701
  let v1268 : BitVec 32 := Scalar.subi v1267 c0_i32_704
  let c1_i32_705 : BitVec 32 := 1#32
  let v1270 : BitVec 32 := Scalar.divsi v1268 c1_i32_705
  let v1271 : BitVec 32 := Scalar.muli v1270 c1_i32_705
  let v1272 : BitVec 32 := Scalar.addi c0_i32_704 v1271
  let c1_i32_707 : BitVec 32 := 1#32
  let arg13 : BitVec 32 := Scf.iv v1272 c1_i32_707 k0_t68
  let c1_i32_702 : BitVec 32 := 1#32
  let v1572 : BitVec 32 := Scalar.muli arg13 c1_i32_702
  let v1573 : BitVec 32 := Scalar.addi c0_i32_703 v1572
  let c16_i32_921 : BitVec 32 := 16#32
  let v1574 : BitVec 32 := Scalar.muli v1573 c16_i32_921
  let v1575 : Index := Scalar.indexCast v1574
  ![v1575.toNat]
@[reducible] def k0_t69_loop (v1181 : BitVec 32) : Scf.Loop 32 :=
  let c0_i32_715 : BitVec 32 := 0#32
  let c0_i32_709 : BitVec 32 := 0#32
  let v1279 : BitVec 32 := Scalar.subi v1181 c0_i32_709
  let c1_i32_710 : BitVec 32 := 1#32
  let c1_i32_711 : BitVec 32 := 1#32
  let v1280 : BitVec 32 := Scalar.subi c1_i32_710 c1_i32_711
  let v1281 : BitVec 32 := Scalar.addi v1279 v1280
  let c1_i32_712 : BitVec 32 := 1#32
  let v1282 : BitVec 32 := Scalar.divsi v1281 c1_i32_712
  let v1283 : BitVec 32 := Scalar.subi v1282 c0_i32_715
  let c1_i32_716 : BitVec 32 := 1#32
  let v1285 : BitVec 32 := Scalar.divsi v1283 c1_i32_716
  let v1286 : BitVec 32 := Scalar.muli v1285 c1_i32_716
  let v1287 : BitVec 32 := Scalar.addi c0_i32_715 v1286
  let c1_i32_717 : BitVec 32 := 1#32
  ⟨c0_i32_715, v1287, c1_i32_717⟩
def k0_off73 (v1181 : BitVec 32) (k0_t69 : Fin (k0_t69_loop v1181).trips) : Fin 1 → Nat :=
  let c0_i32_714 : BitVec 32 := 0#32
  let c0_i32_715 : BitVec 32 := 0#32
  let c1_i32_717 : BitVec 32 := 1#32
  let arg13 : BitVec 32 := Scf.iv c0_i32_715 c1_i32_717 k0_t69
  let c1_i32_713 : BitVec 32 := 1#32
  let v1572 : BitVec 32 := Scalar.muli arg13 c1_i32_713
  let v1573 : BitVec 32 := Scalar.addi c0_i32_714 v1572
  let c16_i32_921 : BitVec 32 := 16#32
  let v1574 : BitVec 32 := Scalar.muli v1573 c16_i32_921
  let v1575 : Index := Scalar.indexCast v1574
  ![v1575.toNat]
@[reducible] def k0_t70_loop (v1181 : BitVec 32) : Scf.Loop 32 :=
  let c0_i32_715 : BitVec 32 := 0#32
  let c0_i32_709 : BitVec 32 := 0#32
  let v1279 : BitVec 32 := Scalar.subi v1181 c0_i32_709
  let c1_i32_710 : BitVec 32 := 1#32
  let c1_i32_711 : BitVec 32 := 1#32
  let v1280 : BitVec 32 := Scalar.subi c1_i32_710 c1_i32_711
  let v1281 : BitVec 32 := Scalar.addi v1279 v1280
  let c1_i32_712 : BitVec 32 := 1#32
  let v1282 : BitVec 32 := Scalar.divsi v1281 c1_i32_712
  let v1283 : BitVec 32 := Scalar.subi v1282 c0_i32_715
  let c1_i32_716 : BitVec 32 := 1#32
  let v1285 : BitVec 32 := Scalar.divsi v1283 c1_i32_716
  let v1286 : BitVec 32 := Scalar.muli v1285 c1_i32_716
  let v1287 : BitVec 32 := Scalar.addi c0_i32_715 v1286
  let v1284 : BitVec 32 := Scalar.addi c0_i32_715 v1283
  let c1_i32_718 : BitVec 32 := 1#32
  ⟨v1287, v1284, c1_i32_718⟩
def k0_off74 (v1181 : BitVec 32) (k0_t70 : Fin (k0_t70_loop v1181).trips) : Fin 1 → Nat :=
  let c0_i32_714 : BitVec 32 := 0#32
  let c0_i32_715 : BitVec 32 := 0#32
  let c0_i32_709 : BitVec 32 := 0#32
  let v1279 : BitVec 32 := Scalar.subi v1181 c0_i32_709
  let c1_i32_710 : BitVec 32 := 1#32
  let c1_i32_711 : BitVec 32 := 1#32
  let v1280 : BitVec 32 := Scalar.subi c1_i32_710 c1_i32_711
  let v1281 : BitVec 32 := Scalar.addi v1279 v1280
  let c1_i32_712 : BitVec 32 := 1#32
  let v1282 : BitVec 32 := Scalar.divsi v1281 c1_i32_712
  let v1283 : BitVec 32 := Scalar.subi v1282 c0_i32_715
  let c1_i32_716 : BitVec 32 := 1#32
  let v1285 : BitVec 32 := Scalar.divsi v1283 c1_i32_716
  let v1286 : BitVec 32 := Scalar.muli v1285 c1_i32_716
  let v1287 : BitVec 32 := Scalar.addi c0_i32_715 v1286
  let c1_i32_718 : BitVec 32 := 1#32
  let arg13 : BitVec 32 := Scf.iv v1287 c1_i32_718 k0_t70
  let c1_i32_713 : BitVec 32 := 1#32
  let v1572 : BitVec 32 := Scalar.muli arg13 c1_i32_713
  let v1573 : BitVec 32 := Scalar.addi c0_i32_714 v1572
  let c16_i32_921 : BitVec 32 := 16#32
  let v1574 : BitVec 32 := Scalar.muli v1573 c16_i32_921
  let v1575 : Index := Scalar.indexCast v1574
  ![v1575.toNat]
@[reducible] def k0_t71_loop (v1181 : BitVec 32) : Scf.Loop 32 :=
  let c0_i32_726 : BitVec 32 := 0#32
  let c0_i32_720 : BitVec 32 := 0#32
  let v1294 : BitVec 32 := Scalar.subi v1181 c0_i32_720
  let c1_i32_721 : BitVec 32 := 1#32
  let c1_i32_722 : BitVec 32 := 1#32
  let v1295 : BitVec 32 := Scalar.subi c1_i32_721 c1_i32_722
  let v1296 : BitVec 32 := Scalar.addi v1294 v1295
  let c1_i32_723 : BitVec 32 := 1#32
  let v1297 : BitVec 32 := Scalar.divsi v1296 c1_i32_723
  let v1298 : BitVec 32 := Scalar.subi v1297 c0_i32_726
  let c1_i32_727 : BitVec 32 := 1#32
  let v1300 : BitVec 32 := Scalar.divsi v1298 c1_i32_727
  let v1301 : BitVec 32 := Scalar.muli v1300 c1_i32_727
  let v1302 : BitVec 32 := Scalar.addi c0_i32_726 v1301
  let c1_i32_728 : BitVec 32 := 1#32
  ⟨c0_i32_726, v1302, c1_i32_728⟩
def k0_off75 (v1181 : BitVec 32) (k0_t71 : Fin (k0_t71_loop v1181).trips) : Fin 1 → Nat :=
  let c0_i32_725 : BitVec 32 := 0#32
  let c0_i32_726 : BitVec 32 := 0#32
  let c1_i32_728 : BitVec 32 := 1#32
  let arg13 : BitVec 32 := Scf.iv c0_i32_726 c1_i32_728 k0_t71
  let c1_i32_724 : BitVec 32 := 1#32
  let v1572 : BitVec 32 := Scalar.muli arg13 c1_i32_724
  let v1573 : BitVec 32 := Scalar.addi c0_i32_725 v1572
  let c16_i32_921 : BitVec 32 := 16#32
  let v1574 : BitVec 32 := Scalar.muli v1573 c16_i32_921
  let v1575 : Index := Scalar.indexCast v1574
  ![v1575.toNat]
@[reducible] def k0_t72_loop (v1181 : BitVec 32) : Scf.Loop 32 :=
  let c0_i32_726 : BitVec 32 := 0#32
  let c0_i32_720 : BitVec 32 := 0#32
  let v1294 : BitVec 32 := Scalar.subi v1181 c0_i32_720
  let c1_i32_721 : BitVec 32 := 1#32
  let c1_i32_722 : BitVec 32 := 1#32
  let v1295 : BitVec 32 := Scalar.subi c1_i32_721 c1_i32_722
  let v1296 : BitVec 32 := Scalar.addi v1294 v1295
  let c1_i32_723 : BitVec 32 := 1#32
  let v1297 : BitVec 32 := Scalar.divsi v1296 c1_i32_723
  let v1298 : BitVec 32 := Scalar.subi v1297 c0_i32_726
  let c1_i32_727 : BitVec 32 := 1#32
  let v1300 : BitVec 32 := Scalar.divsi v1298 c1_i32_727
  let v1301 : BitVec 32 := Scalar.muli v1300 c1_i32_727
  let v1302 : BitVec 32 := Scalar.addi c0_i32_726 v1301
  let v1299 : BitVec 32 := Scalar.addi c0_i32_726 v1298
  let c1_i32_729 : BitVec 32 := 1#32
  ⟨v1302, v1299, c1_i32_729⟩
def k0_off76 (v1181 : BitVec 32) (k0_t72 : Fin (k0_t72_loop v1181).trips) : Fin 1 → Nat :=
  let c0_i32_725 : BitVec 32 := 0#32
  let c0_i32_726 : BitVec 32 := 0#32
  let c0_i32_720 : BitVec 32 := 0#32
  let v1294 : BitVec 32 := Scalar.subi v1181 c0_i32_720
  let c1_i32_721 : BitVec 32 := 1#32
  let c1_i32_722 : BitVec 32 := 1#32
  let v1295 : BitVec 32 := Scalar.subi c1_i32_721 c1_i32_722
  let v1296 : BitVec 32 := Scalar.addi v1294 v1295
  let c1_i32_723 : BitVec 32 := 1#32
  let v1297 : BitVec 32 := Scalar.divsi v1296 c1_i32_723
  let v1298 : BitVec 32 := Scalar.subi v1297 c0_i32_726
  let c1_i32_727 : BitVec 32 := 1#32
  let v1300 : BitVec 32 := Scalar.divsi v1298 c1_i32_727
  let v1301 : BitVec 32 := Scalar.muli v1300 c1_i32_727
  let v1302 : BitVec 32 := Scalar.addi c0_i32_726 v1301
  let c1_i32_729 : BitVec 32 := 1#32
  let arg13 : BitVec 32 := Scf.iv v1302 c1_i32_729 k0_t72
  let c1_i32_724 : BitVec 32 := 1#32
  let v1572 : BitVec 32 := Scalar.muli arg13 c1_i32_724
  let v1573 : BitVec 32 := Scalar.addi c0_i32_725 v1572
  let c16_i32_921 : BitVec 32 := 16#32
  let v1574 : BitVec 32 := Scalar.muli v1573 c16_i32_921
  let v1575 : Index := Scalar.indexCast v1574
  ![v1575.toNat]
@[reducible] def k0_t73_loop (v1181 : BitVec 32) : Scf.Loop 32 :=
  let c0_i32_737 : BitVec 32 := 0#32
  let c0_i32_731 : BitVec 32 := 0#32
  let v1309 : BitVec 32 := Scalar.subi v1181 c0_i32_731
  let c1_i32_732 : BitVec 32 := 1#32
  let c1_i32_733 : BitVec 32 := 1#32
  let v1310 : BitVec 32 := Scalar.subi c1_i32_732 c1_i32_733
  let v1311 : BitVec 32 := Scalar.addi v1309 v1310
  let c1_i32_734 : BitVec 32 := 1#32
  let v1312 : BitVec 32 := Scalar.divsi v1311 c1_i32_734
  let v1313 : BitVec 32 := Scalar.subi v1312 c0_i32_737
  let c1_i32_738 : BitVec 32 := 1#32
  let v1315 : BitVec 32 := Scalar.divsi v1313 c1_i32_738
  let v1316 : BitVec 32 := Scalar.muli v1315 c1_i32_738
  let v1317 : BitVec 32 := Scalar.addi c0_i32_737 v1316
  let c1_i32_739 : BitVec 32 := 1#32
  ⟨c0_i32_737, v1317, c1_i32_739⟩
def k0_off77 (v1181 : BitVec 32) (k0_t73 : Fin (k0_t73_loop v1181).trips) : Fin 1 → Nat :=
  let c0_i32_736 : BitVec 32 := 0#32
  let c0_i32_737 : BitVec 32 := 0#32
  let c1_i32_739 : BitVec 32 := 1#32
  let arg13 : BitVec 32 := Scf.iv c0_i32_737 c1_i32_739 k0_t73
  let c1_i32_735 : BitVec 32 := 1#32
  let v1572 : BitVec 32 := Scalar.muli arg13 c1_i32_735
  let v1573 : BitVec 32 := Scalar.addi c0_i32_736 v1572
  let c16_i32_921 : BitVec 32 := 16#32
  let v1574 : BitVec 32 := Scalar.muli v1573 c16_i32_921
  let v1575 : Index := Scalar.indexCast v1574
  ![v1575.toNat]
@[reducible] def k0_t74_loop (v1181 : BitVec 32) : Scf.Loop 32 :=
  let c0_i32_737 : BitVec 32 := 0#32
  let c0_i32_731 : BitVec 32 := 0#32
  let v1309 : BitVec 32 := Scalar.subi v1181 c0_i32_731
  let c1_i32_732 : BitVec 32 := 1#32
  let c1_i32_733 : BitVec 32 := 1#32
  let v1310 : BitVec 32 := Scalar.subi c1_i32_732 c1_i32_733
  let v1311 : BitVec 32 := Scalar.addi v1309 v1310
  let c1_i32_734 : BitVec 32 := 1#32
  let v1312 : BitVec 32 := Scalar.divsi v1311 c1_i32_734
  let v1313 : BitVec 32 := Scalar.subi v1312 c0_i32_737
  let c1_i32_738 : BitVec 32 := 1#32
  let v1315 : BitVec 32 := Scalar.divsi v1313 c1_i32_738
  let v1316 : BitVec 32 := Scalar.muli v1315 c1_i32_738
  let v1317 : BitVec 32 := Scalar.addi c0_i32_737 v1316
  let v1314 : BitVec 32 := Scalar.addi c0_i32_737 v1313
  let c1_i32_740 : BitVec 32 := 1#32
  ⟨v1317, v1314, c1_i32_740⟩
def k0_off78 (v1181 : BitVec 32) (k0_t74 : Fin (k0_t74_loop v1181).trips) : Fin 1 → Nat :=
  let c0_i32_736 : BitVec 32 := 0#32
  let c0_i32_737 : BitVec 32 := 0#32
  let c0_i32_731 : BitVec 32 := 0#32
  let v1309 : BitVec 32 := Scalar.subi v1181 c0_i32_731
  let c1_i32_732 : BitVec 32 := 1#32
  let c1_i32_733 : BitVec 32 := 1#32
  let v1310 : BitVec 32 := Scalar.subi c1_i32_732 c1_i32_733
  let v1311 : BitVec 32 := Scalar.addi v1309 v1310
  let c1_i32_734 : BitVec 32 := 1#32
  let v1312 : BitVec 32 := Scalar.divsi v1311 c1_i32_734
  let v1313 : BitVec 32 := Scalar.subi v1312 c0_i32_737
  let c1_i32_738 : BitVec 32 := 1#32
  let v1315 : BitVec 32 := Scalar.divsi v1313 c1_i32_738
  let v1316 : BitVec 32 := Scalar.muli v1315 c1_i32_738
  let v1317 : BitVec 32 := Scalar.addi c0_i32_737 v1316
  let c1_i32_740 : BitVec 32 := 1#32
  let arg13 : BitVec 32 := Scf.iv v1317 c1_i32_740 k0_t74
  let c1_i32_735 : BitVec 32 := 1#32
  let v1572 : BitVec 32 := Scalar.muli arg13 c1_i32_735
  let v1573 : BitVec 32 := Scalar.addi c0_i32_736 v1572
  let c16_i32_921 : BitVec 32 := 16#32
  let v1574 : BitVec 32 := Scalar.muli v1573 c16_i32_921
  let v1575 : Index := Scalar.indexCast v1574
  ![v1575.toNat]
@[reducible] def k0_t75_loop (v1181 : BitVec 32) : Scf.Loop 32 :=
  let c0_i32_748 : BitVec 32 := 0#32
  let c0_i32_742 : BitVec 32 := 0#32
  let v1324 : BitVec 32 := Scalar.subi v1181 c0_i32_742
  let c1_i32_743 : BitVec 32 := 1#32
  let c1_i32_744 : BitVec 32 := 1#32
  let v1325 : BitVec 32 := Scalar.subi c1_i32_743 c1_i32_744
  let v1326 : BitVec 32 := Scalar.addi v1324 v1325
  let c1_i32_745 : BitVec 32 := 1#32
  let v1327 : BitVec 32 := Scalar.divsi v1326 c1_i32_745
  let v1328 : BitVec 32 := Scalar.subi v1327 c0_i32_748
  let c1_i32_749 : BitVec 32 := 1#32
  let v1330 : BitVec 32 := Scalar.divsi v1328 c1_i32_749
  let v1331 : BitVec 32 := Scalar.muli v1330 c1_i32_749
  let v1332 : BitVec 32 := Scalar.addi c0_i32_748 v1331
  let c1_i32_750 : BitVec 32 := 1#32
  ⟨c0_i32_748, v1332, c1_i32_750⟩
def k0_off79 (v1181 : BitVec 32) (k0_t75 : Fin (k0_t75_loop v1181).trips) : Fin 1 → Nat :=
  let c0_i32_747 : BitVec 32 := 0#32
  let c0_i32_748 : BitVec 32 := 0#32
  let c1_i32_750 : BitVec 32 := 1#32
  let arg13 : BitVec 32 := Scf.iv c0_i32_748 c1_i32_750 k0_t75
  let c1_i32_746 : BitVec 32 := 1#32
  let v1572 : BitVec 32 := Scalar.muli arg13 c1_i32_746
  let v1573 : BitVec 32 := Scalar.addi c0_i32_747 v1572
  let c16_i32_921 : BitVec 32 := 16#32
  let v1574 : BitVec 32 := Scalar.muli v1573 c16_i32_921
  let v1575 : Index := Scalar.indexCast v1574
  ![v1575.toNat]
@[reducible] def k0_t76_loop (v1181 : BitVec 32) : Scf.Loop 32 :=
  let c0_i32_748 : BitVec 32 := 0#32
  let c0_i32_742 : BitVec 32 := 0#32
  let v1324 : BitVec 32 := Scalar.subi v1181 c0_i32_742
  let c1_i32_743 : BitVec 32 := 1#32
  let c1_i32_744 : BitVec 32 := 1#32
  let v1325 : BitVec 32 := Scalar.subi c1_i32_743 c1_i32_744
  let v1326 : BitVec 32 := Scalar.addi v1324 v1325
  let c1_i32_745 : BitVec 32 := 1#32
  let v1327 : BitVec 32 := Scalar.divsi v1326 c1_i32_745
  let v1328 : BitVec 32 := Scalar.subi v1327 c0_i32_748
  let c1_i32_749 : BitVec 32 := 1#32
  let v1330 : BitVec 32 := Scalar.divsi v1328 c1_i32_749
  let v1331 : BitVec 32 := Scalar.muli v1330 c1_i32_749
  let v1332 : BitVec 32 := Scalar.addi c0_i32_748 v1331
  let v1329 : BitVec 32 := Scalar.addi c0_i32_748 v1328
  let c1_i32_751 : BitVec 32 := 1#32
  ⟨v1332, v1329, c1_i32_751⟩
def k0_off80 (v1181 : BitVec 32) (k0_t76 : Fin (k0_t76_loop v1181).trips) : Fin 1 → Nat :=
  let c0_i32_747 : BitVec 32 := 0#32
  let c0_i32_748 : BitVec 32 := 0#32
  let c0_i32_742 : BitVec 32 := 0#32
  let v1324 : BitVec 32 := Scalar.subi v1181 c0_i32_742
  let c1_i32_743 : BitVec 32 := 1#32
  let c1_i32_744 : BitVec 32 := 1#32
  let v1325 : BitVec 32 := Scalar.subi c1_i32_743 c1_i32_744
  let v1326 : BitVec 32 := Scalar.addi v1324 v1325
  let c1_i32_745 : BitVec 32 := 1#32
  let v1327 : BitVec 32 := Scalar.divsi v1326 c1_i32_745
  let v1328 : BitVec 32 := Scalar.subi v1327 c0_i32_748
  let c1_i32_749 : BitVec 32 := 1#32
  let v1330 : BitVec 32 := Scalar.divsi v1328 c1_i32_749
  let v1331 : BitVec 32 := Scalar.muli v1330 c1_i32_749
  let v1332 : BitVec 32 := Scalar.addi c0_i32_748 v1331
  let c1_i32_751 : BitVec 32 := 1#32
  let arg13 : BitVec 32 := Scf.iv v1332 c1_i32_751 k0_t76
  let c1_i32_746 : BitVec 32 := 1#32
  let v1572 : BitVec 32 := Scalar.muli arg13 c1_i32_746
  let v1573 : BitVec 32 := Scalar.addi c0_i32_747 v1572
  let c16_i32_921 : BitVec 32 := 16#32
  let v1574 : BitVec 32 := Scalar.muli v1573 c16_i32_921
  let v1575 : Index := Scalar.indexCast v1574
  ![v1575.toNat]
@[reducible] def k0_t77_loop (v1181 : BitVec 32) : Scf.Loop 32 :=
  let c0_i32_759 : BitVec 32 := 0#32
  let c0_i32_753 : BitVec 32 := 0#32
  let v1339 : BitVec 32 := Scalar.subi v1181 c0_i32_753
  let c1_i32_754 : BitVec 32 := 1#32
  let c1_i32_755 : BitVec 32 := 1#32
  let v1340 : BitVec 32 := Scalar.subi c1_i32_754 c1_i32_755
  let v1341 : BitVec 32 := Scalar.addi v1339 v1340
  let c1_i32_756 : BitVec 32 := 1#32
  let v1342 : BitVec 32 := Scalar.divsi v1341 c1_i32_756
  let v1343 : BitVec 32 := Scalar.subi v1342 c0_i32_759
  let c1_i32_760 : BitVec 32 := 1#32
  let v1345 : BitVec 32 := Scalar.divsi v1343 c1_i32_760
  let v1346 : BitVec 32 := Scalar.muli v1345 c1_i32_760
  let v1347 : BitVec 32 := Scalar.addi c0_i32_759 v1346
  let c1_i32_761 : BitVec 32 := 1#32
  ⟨c0_i32_759, v1347, c1_i32_761⟩
def k0_off81 (v1181 : BitVec 32) (k0_t77 : Fin (k0_t77_loop v1181).trips) : Fin 1 → Nat :=
  let c0_i32_758 : BitVec 32 := 0#32
  let c0_i32_759 : BitVec 32 := 0#32
  let c1_i32_761 : BitVec 32 := 1#32
  let arg13 : BitVec 32 := Scf.iv c0_i32_759 c1_i32_761 k0_t77
  let c1_i32_757 : BitVec 32 := 1#32
  let v1572 : BitVec 32 := Scalar.muli arg13 c1_i32_757
  let v1573 : BitVec 32 := Scalar.addi c0_i32_758 v1572
  let c16_i32_921 : BitVec 32 := 16#32
  let v1574 : BitVec 32 := Scalar.muli v1573 c16_i32_921
  let v1575 : Index := Scalar.indexCast v1574
  ![v1575.toNat]
@[reducible] def k0_t78_loop (v1181 : BitVec 32) : Scf.Loop 32 :=
  let c0_i32_759 : BitVec 32 := 0#32
  let c0_i32_753 : BitVec 32 := 0#32
  let v1339 : BitVec 32 := Scalar.subi v1181 c0_i32_753
  let c1_i32_754 : BitVec 32 := 1#32
  let c1_i32_755 : BitVec 32 := 1#32
  let v1340 : BitVec 32 := Scalar.subi c1_i32_754 c1_i32_755
  let v1341 : BitVec 32 := Scalar.addi v1339 v1340
  let c1_i32_756 : BitVec 32 := 1#32
  let v1342 : BitVec 32 := Scalar.divsi v1341 c1_i32_756
  let v1343 : BitVec 32 := Scalar.subi v1342 c0_i32_759
  let c1_i32_760 : BitVec 32 := 1#32
  let v1345 : BitVec 32 := Scalar.divsi v1343 c1_i32_760
  let v1346 : BitVec 32 := Scalar.muli v1345 c1_i32_760
  let v1347 : BitVec 32 := Scalar.addi c0_i32_759 v1346
  let v1344 : BitVec 32 := Scalar.addi c0_i32_759 v1343
  let c1_i32_762 : BitVec 32 := 1#32
  ⟨v1347, v1344, c1_i32_762⟩
def k0_off82 (v1181 : BitVec 32) (k0_t78 : Fin (k0_t78_loop v1181).trips) : Fin 1 → Nat :=
  let c0_i32_758 : BitVec 32 := 0#32
  let c0_i32_759 : BitVec 32 := 0#32
  let c0_i32_753 : BitVec 32 := 0#32
  let v1339 : BitVec 32 := Scalar.subi v1181 c0_i32_753
  let c1_i32_754 : BitVec 32 := 1#32
  let c1_i32_755 : BitVec 32 := 1#32
  let v1340 : BitVec 32 := Scalar.subi c1_i32_754 c1_i32_755
  let v1341 : BitVec 32 := Scalar.addi v1339 v1340
  let c1_i32_756 : BitVec 32 := 1#32
  let v1342 : BitVec 32 := Scalar.divsi v1341 c1_i32_756
  let v1343 : BitVec 32 := Scalar.subi v1342 c0_i32_759
  let c1_i32_760 : BitVec 32 := 1#32
  let v1345 : BitVec 32 := Scalar.divsi v1343 c1_i32_760
  let v1346 : BitVec 32 := Scalar.muli v1345 c1_i32_760
  let v1347 : BitVec 32 := Scalar.addi c0_i32_759 v1346
  let c1_i32_762 : BitVec 32 := 1#32
  let arg13 : BitVec 32 := Scf.iv v1347 c1_i32_762 k0_t78
  let c1_i32_757 : BitVec 32 := 1#32
  let v1572 : BitVec 32 := Scalar.muli arg13 c1_i32_757
  let v1573 : BitVec 32 := Scalar.addi c0_i32_758 v1572
  let c16_i32_921 : BitVec 32 := 16#32
  let v1574 : BitVec 32 := Scalar.muli v1573 c16_i32_921
  let v1575 : Index := Scalar.indexCast v1574
  ![v1575.toNat]
@[reducible] def k0_t79_loop (v1181 : BitVec 32) : Scf.Loop 32 :=
  let c0_i32_770 : BitVec 32 := 0#32
  let c0_i32_764 : BitVec 32 := 0#32
  let v1354 : BitVec 32 := Scalar.subi v1181 c0_i32_764
  let c1_i32_765 : BitVec 32 := 1#32
  let c1_i32_766 : BitVec 32 := 1#32
  let v1355 : BitVec 32 := Scalar.subi c1_i32_765 c1_i32_766
  let v1356 : BitVec 32 := Scalar.addi v1354 v1355
  let c1_i32_767 : BitVec 32 := 1#32
  let v1357 : BitVec 32 := Scalar.divsi v1356 c1_i32_767
  let v1358 : BitVec 32 := Scalar.subi v1357 c0_i32_770
  let c1_i32_771 : BitVec 32 := 1#32
  let v1360 : BitVec 32 := Scalar.divsi v1358 c1_i32_771
  let v1361 : BitVec 32 := Scalar.muli v1360 c1_i32_771
  let v1362 : BitVec 32 := Scalar.addi c0_i32_770 v1361
  let c1_i32_772 : BitVec 32 := 1#32
  ⟨c0_i32_770, v1362, c1_i32_772⟩
def k0_off83 (v1181 : BitVec 32) (k0_t79 : Fin (k0_t79_loop v1181).trips) : Fin 1 → Nat :=
  let c0_i32_769 : BitVec 32 := 0#32
  let c0_i32_770 : BitVec 32 := 0#32
  let c1_i32_772 : BitVec 32 := 1#32
  let arg13 : BitVec 32 := Scf.iv c0_i32_770 c1_i32_772 k0_t79
  let c1_i32_768 : BitVec 32 := 1#32
  let v1572 : BitVec 32 := Scalar.muli arg13 c1_i32_768
  let v1573 : BitVec 32 := Scalar.addi c0_i32_769 v1572
  let c16_i32_921 : BitVec 32 := 16#32
  let v1574 : BitVec 32 := Scalar.muli v1573 c16_i32_921
  let v1575 : Index := Scalar.indexCast v1574
  ![v1575.toNat]
@[reducible] def k0_t80_loop (v1181 : BitVec 32) : Scf.Loop 32 :=
  let c0_i32_770 : BitVec 32 := 0#32
  let c0_i32_764 : BitVec 32 := 0#32
  let v1354 : BitVec 32 := Scalar.subi v1181 c0_i32_764
  let c1_i32_765 : BitVec 32 := 1#32
  let c1_i32_766 : BitVec 32 := 1#32
  let v1355 : BitVec 32 := Scalar.subi c1_i32_765 c1_i32_766
  let v1356 : BitVec 32 := Scalar.addi v1354 v1355
  let c1_i32_767 : BitVec 32 := 1#32
  let v1357 : BitVec 32 := Scalar.divsi v1356 c1_i32_767
  let v1358 : BitVec 32 := Scalar.subi v1357 c0_i32_770
  let c1_i32_771 : BitVec 32 := 1#32
  let v1360 : BitVec 32 := Scalar.divsi v1358 c1_i32_771
  let v1361 : BitVec 32 := Scalar.muli v1360 c1_i32_771
  let v1362 : BitVec 32 := Scalar.addi c0_i32_770 v1361
  let v1359 : BitVec 32 := Scalar.addi c0_i32_770 v1358
  let c1_i32_773 : BitVec 32 := 1#32
  ⟨v1362, v1359, c1_i32_773⟩
def k0_off84 (v1181 : BitVec 32) (k0_t80 : Fin (k0_t80_loop v1181).trips) : Fin 1 → Nat :=
  let c0_i32_769 : BitVec 32 := 0#32
  let c0_i32_770 : BitVec 32 := 0#32
  let c0_i32_764 : BitVec 32 := 0#32
  let v1354 : BitVec 32 := Scalar.subi v1181 c0_i32_764
  let c1_i32_765 : BitVec 32 := 1#32
  let c1_i32_766 : BitVec 32 := 1#32
  let v1355 : BitVec 32 := Scalar.subi c1_i32_765 c1_i32_766
  let v1356 : BitVec 32 := Scalar.addi v1354 v1355
  let c1_i32_767 : BitVec 32 := 1#32
  let v1357 : BitVec 32 := Scalar.divsi v1356 c1_i32_767
  let v1358 : BitVec 32 := Scalar.subi v1357 c0_i32_770
  let c1_i32_771 : BitVec 32 := 1#32
  let v1360 : BitVec 32 := Scalar.divsi v1358 c1_i32_771
  let v1361 : BitVec 32 := Scalar.muli v1360 c1_i32_771
  let v1362 : BitVec 32 := Scalar.addi c0_i32_770 v1361
  let c1_i32_773 : BitVec 32 := 1#32
  let arg13 : BitVec 32 := Scf.iv v1362 c1_i32_773 k0_t80
  let c1_i32_768 : BitVec 32 := 1#32
  let v1572 : BitVec 32 := Scalar.muli arg13 c1_i32_768
  let v1573 : BitVec 32 := Scalar.addi c0_i32_769 v1572
  let c16_i32_921 : BitVec 32 := 16#32
  let v1574 : BitVec 32 := Scalar.muli v1573 c16_i32_921
  let v1575 : Index := Scalar.indexCast v1574
  ![v1575.toNat]
@[reducible] def k0_t81_loop (v1181 : BitVec 32) : Scf.Loop 32 :=
  let c0_i32_781 : BitVec 32 := 0#32
  let c0_i32_775 : BitVec 32 := 0#32
  let v1369 : BitVec 32 := Scalar.subi v1181 c0_i32_775
  let c1_i32_776 : BitVec 32 := 1#32
  let c1_i32_777 : BitVec 32 := 1#32
  let v1370 : BitVec 32 := Scalar.subi c1_i32_776 c1_i32_777
  let v1371 : BitVec 32 := Scalar.addi v1369 v1370
  let c1_i32_778 : BitVec 32 := 1#32
  let v1372 : BitVec 32 := Scalar.divsi v1371 c1_i32_778
  let v1373 : BitVec 32 := Scalar.subi v1372 c0_i32_781
  let c1_i32_782 : BitVec 32 := 1#32
  let v1375 : BitVec 32 := Scalar.divsi v1373 c1_i32_782
  let v1376 : BitVec 32 := Scalar.muli v1375 c1_i32_782
  let v1377 : BitVec 32 := Scalar.addi c0_i32_781 v1376
  let c1_i32_783 : BitVec 32 := 1#32
  ⟨c0_i32_781, v1377, c1_i32_783⟩
def k0_off85 (v1181 : BitVec 32) (k0_t81 : Fin (k0_t81_loop v1181).trips) : Fin 1 → Nat :=
  let c0_i32_780 : BitVec 32 := 0#32
  let c0_i32_781 : BitVec 32 := 0#32
  let c1_i32_783 : BitVec 32 := 1#32
  let arg13 : BitVec 32 := Scf.iv c0_i32_781 c1_i32_783 k0_t81
  let c1_i32_779 : BitVec 32 := 1#32
  let v1572 : BitVec 32 := Scalar.muli arg13 c1_i32_779
  let v1573 : BitVec 32 := Scalar.addi c0_i32_780 v1572
  let c16_i32_921 : BitVec 32 := 16#32
  let v1574 : BitVec 32 := Scalar.muli v1573 c16_i32_921
  let v1575 : Index := Scalar.indexCast v1574
  ![v1575.toNat]
@[reducible] def k0_t82_loop (v1181 : BitVec 32) : Scf.Loop 32 :=
  let c0_i32_781 : BitVec 32 := 0#32
  let c0_i32_775 : BitVec 32 := 0#32
  let v1369 : BitVec 32 := Scalar.subi v1181 c0_i32_775
  let c1_i32_776 : BitVec 32 := 1#32
  let c1_i32_777 : BitVec 32 := 1#32
  let v1370 : BitVec 32 := Scalar.subi c1_i32_776 c1_i32_777
  let v1371 : BitVec 32 := Scalar.addi v1369 v1370
  let c1_i32_778 : BitVec 32 := 1#32
  let v1372 : BitVec 32 := Scalar.divsi v1371 c1_i32_778
  let v1373 : BitVec 32 := Scalar.subi v1372 c0_i32_781
  let c1_i32_782 : BitVec 32 := 1#32
  let v1375 : BitVec 32 := Scalar.divsi v1373 c1_i32_782
  let v1376 : BitVec 32 := Scalar.muli v1375 c1_i32_782
  let v1377 : BitVec 32 := Scalar.addi c0_i32_781 v1376
  let v1374 : BitVec 32 := Scalar.addi c0_i32_781 v1373
  let c1_i32_784 : BitVec 32 := 1#32
  ⟨v1377, v1374, c1_i32_784⟩
def k0_off86 (v1181 : BitVec 32) (k0_t82 : Fin (k0_t82_loop v1181).trips) : Fin 1 → Nat :=
  let c0_i32_780 : BitVec 32 := 0#32
  let c0_i32_781 : BitVec 32 := 0#32
  let c0_i32_775 : BitVec 32 := 0#32
  let v1369 : BitVec 32 := Scalar.subi v1181 c0_i32_775
  let c1_i32_776 : BitVec 32 := 1#32
  let c1_i32_777 : BitVec 32 := 1#32
  let v1370 : BitVec 32 := Scalar.subi c1_i32_776 c1_i32_777
  let v1371 : BitVec 32 := Scalar.addi v1369 v1370
  let c1_i32_778 : BitVec 32 := 1#32
  let v1372 : BitVec 32 := Scalar.divsi v1371 c1_i32_778
  let v1373 : BitVec 32 := Scalar.subi v1372 c0_i32_781
  let c1_i32_782 : BitVec 32 := 1#32
  let v1375 : BitVec 32 := Scalar.divsi v1373 c1_i32_782
  let v1376 : BitVec 32 := Scalar.muli v1375 c1_i32_782
  let v1377 : BitVec 32 := Scalar.addi c0_i32_781 v1376
  let c1_i32_784 : BitVec 32 := 1#32
  let arg13 : BitVec 32 := Scf.iv v1377 c1_i32_784 k0_t82
  let c1_i32_779 : BitVec 32 := 1#32
  let v1572 : BitVec 32 := Scalar.muli arg13 c1_i32_779
  let v1573 : BitVec 32 := Scalar.addi c0_i32_780 v1572
  let c16_i32_921 : BitVec 32 := 16#32
  let v1574 : BitVec 32 := Scalar.muli v1573 c16_i32_921
  let v1575 : Index := Scalar.indexCast v1574
  ![v1575.toNat]
@[reducible] def k0_t83_loop (v1181 : BitVec 32) : Scf.Loop 32 :=
  let c0_i32_792 : BitVec 32 := 0#32
  let c0_i32_786 : BitVec 32 := 0#32
  let v1384 : BitVec 32 := Scalar.subi v1181 c0_i32_786
  let c1_i32_787 : BitVec 32 := 1#32
  let c1_i32_788 : BitVec 32 := 1#32
  let v1385 : BitVec 32 := Scalar.subi c1_i32_787 c1_i32_788
  let v1386 : BitVec 32 := Scalar.addi v1384 v1385
  let c1_i32_789 : BitVec 32 := 1#32
  let v1387 : BitVec 32 := Scalar.divsi v1386 c1_i32_789
  let v1388 : BitVec 32 := Scalar.subi v1387 c0_i32_792
  let c1_i32_793 : BitVec 32 := 1#32
  let v1390 : BitVec 32 := Scalar.divsi v1388 c1_i32_793
  let v1391 : BitVec 32 := Scalar.muli v1390 c1_i32_793
  let v1392 : BitVec 32 := Scalar.addi c0_i32_792 v1391
  let c1_i32_794 : BitVec 32 := 1#32
  ⟨c0_i32_792, v1392, c1_i32_794⟩
def k0_off87 (v1181 : BitVec 32) (k0_t83 : Fin (k0_t83_loop v1181).trips) : Fin 1 → Nat :=
  let c0_i32_791 : BitVec 32 := 0#32
  let c0_i32_792 : BitVec 32 := 0#32
  let c1_i32_794 : BitVec 32 := 1#32
  let arg13 : BitVec 32 := Scf.iv c0_i32_792 c1_i32_794 k0_t83
  let c1_i32_790 : BitVec 32 := 1#32
  let v1572 : BitVec 32 := Scalar.muli arg13 c1_i32_790
  let v1573 : BitVec 32 := Scalar.addi c0_i32_791 v1572
  let c16_i32_921 : BitVec 32 := 16#32
  let v1574 : BitVec 32 := Scalar.muli v1573 c16_i32_921
  let v1575 : Index := Scalar.indexCast v1574
  ![v1575.toNat]
@[reducible] def k0_t84_loop (v1181 : BitVec 32) : Scf.Loop 32 :=
  let c0_i32_792 : BitVec 32 := 0#32
  let c0_i32_786 : BitVec 32 := 0#32
  let v1384 : BitVec 32 := Scalar.subi v1181 c0_i32_786
  let c1_i32_787 : BitVec 32 := 1#32
  let c1_i32_788 : BitVec 32 := 1#32
  let v1385 : BitVec 32 := Scalar.subi c1_i32_787 c1_i32_788
  let v1386 : BitVec 32 := Scalar.addi v1384 v1385
  let c1_i32_789 : BitVec 32 := 1#32
  let v1387 : BitVec 32 := Scalar.divsi v1386 c1_i32_789
  let v1388 : BitVec 32 := Scalar.subi v1387 c0_i32_792
  let c1_i32_793 : BitVec 32 := 1#32
  let v1390 : BitVec 32 := Scalar.divsi v1388 c1_i32_793
  let v1391 : BitVec 32 := Scalar.muli v1390 c1_i32_793
  let v1392 : BitVec 32 := Scalar.addi c0_i32_792 v1391
  let v1389 : BitVec 32 := Scalar.addi c0_i32_792 v1388
  let c1_i32_795 : BitVec 32 := 1#32
  ⟨v1392, v1389, c1_i32_795⟩
def k0_off88 (v1181 : BitVec 32) (k0_t84 : Fin (k0_t84_loop v1181).trips) : Fin 1 → Nat :=
  let c0_i32_791 : BitVec 32 := 0#32
  let c0_i32_792 : BitVec 32 := 0#32
  let c0_i32_786 : BitVec 32 := 0#32
  let v1384 : BitVec 32 := Scalar.subi v1181 c0_i32_786
  let c1_i32_787 : BitVec 32 := 1#32
  let c1_i32_788 : BitVec 32 := 1#32
  let v1385 : BitVec 32 := Scalar.subi c1_i32_787 c1_i32_788
  let v1386 : BitVec 32 := Scalar.addi v1384 v1385
  let c1_i32_789 : BitVec 32 := 1#32
  let v1387 : BitVec 32 := Scalar.divsi v1386 c1_i32_789
  let v1388 : BitVec 32 := Scalar.subi v1387 c0_i32_792
  let c1_i32_793 : BitVec 32 := 1#32
  let v1390 : BitVec 32 := Scalar.divsi v1388 c1_i32_793
  let v1391 : BitVec 32 := Scalar.muli v1390 c1_i32_793
  let v1392 : BitVec 32 := Scalar.addi c0_i32_792 v1391
  let c1_i32_795 : BitVec 32 := 1#32
  let arg13 : BitVec 32 := Scf.iv v1392 c1_i32_795 k0_t84
  let c1_i32_790 : BitVec 32 := 1#32
  let v1572 : BitVec 32 := Scalar.muli arg13 c1_i32_790
  let v1573 : BitVec 32 := Scalar.addi c0_i32_791 v1572
  let c16_i32_921 : BitVec 32 := 16#32
  let v1574 : BitVec 32 := Scalar.muli v1573 c16_i32_921
  let v1575 : Index := Scalar.indexCast v1574
  ![v1575.toNat]
@[reducible] def k0_t85_loop (v1181 : BitVec 32) : Scf.Loop 32 :=
  let c0_i32_803 : BitVec 32 := 0#32
  let c0_i32_797 : BitVec 32 := 0#32
  let v1399 : BitVec 32 := Scalar.subi v1181 c0_i32_797
  let c1_i32_798 : BitVec 32 := 1#32
  let c1_i32_799 : BitVec 32 := 1#32
  let v1400 : BitVec 32 := Scalar.subi c1_i32_798 c1_i32_799
  let v1401 : BitVec 32 := Scalar.addi v1399 v1400
  let c1_i32_800 : BitVec 32 := 1#32
  let v1402 : BitVec 32 := Scalar.divsi v1401 c1_i32_800
  let v1403 : BitVec 32 := Scalar.subi v1402 c0_i32_803
  let c1_i32_804 : BitVec 32 := 1#32
  let v1405 : BitVec 32 := Scalar.divsi v1403 c1_i32_804
  let v1406 : BitVec 32 := Scalar.muli v1405 c1_i32_804
  let v1407 : BitVec 32 := Scalar.addi c0_i32_803 v1406
  let c1_i32_805 : BitVec 32 := 1#32
  ⟨c0_i32_803, v1407, c1_i32_805⟩
def k0_off89 (v1181 : BitVec 32) (k0_t85 : Fin (k0_t85_loop v1181).trips) : Fin 1 → Nat :=
  let c0_i32_802 : BitVec 32 := 0#32
  let c0_i32_803 : BitVec 32 := 0#32
  let c1_i32_805 : BitVec 32 := 1#32
  let arg13 : BitVec 32 := Scf.iv c0_i32_803 c1_i32_805 k0_t85
  let c1_i32_801 : BitVec 32 := 1#32
  let v1572 : BitVec 32 := Scalar.muli arg13 c1_i32_801
  let v1573 : BitVec 32 := Scalar.addi c0_i32_802 v1572
  let c16_i32_921 : BitVec 32 := 16#32
  let v1574 : BitVec 32 := Scalar.muli v1573 c16_i32_921
  let v1575 : Index := Scalar.indexCast v1574
  ![v1575.toNat]
@[reducible] def k0_t86_loop (v1181 : BitVec 32) : Scf.Loop 32 :=
  let c0_i32_803 : BitVec 32 := 0#32
  let c0_i32_797 : BitVec 32 := 0#32
  let v1399 : BitVec 32 := Scalar.subi v1181 c0_i32_797
  let c1_i32_798 : BitVec 32 := 1#32
  let c1_i32_799 : BitVec 32 := 1#32
  let v1400 : BitVec 32 := Scalar.subi c1_i32_798 c1_i32_799
  let v1401 : BitVec 32 := Scalar.addi v1399 v1400
  let c1_i32_800 : BitVec 32 := 1#32
  let v1402 : BitVec 32 := Scalar.divsi v1401 c1_i32_800
  let v1403 : BitVec 32 := Scalar.subi v1402 c0_i32_803
  let c1_i32_804 : BitVec 32 := 1#32
  let v1405 : BitVec 32 := Scalar.divsi v1403 c1_i32_804
  let v1406 : BitVec 32 := Scalar.muli v1405 c1_i32_804
  let v1407 : BitVec 32 := Scalar.addi c0_i32_803 v1406
  let v1404 : BitVec 32 := Scalar.addi c0_i32_803 v1403
  let c1_i32_806 : BitVec 32 := 1#32
  ⟨v1407, v1404, c1_i32_806⟩
def k0_off90 (v1181 : BitVec 32) (k0_t86 : Fin (k0_t86_loop v1181).trips) : Fin 1 → Nat :=
  let c0_i32_802 : BitVec 32 := 0#32
  let c0_i32_803 : BitVec 32 := 0#32
  let c0_i32_797 : BitVec 32 := 0#32
  let v1399 : BitVec 32 := Scalar.subi v1181 c0_i32_797
  let c1_i32_798 : BitVec 32 := 1#32
  let c1_i32_799 : BitVec 32 := 1#32
  let v1400 : BitVec 32 := Scalar.subi c1_i32_798 c1_i32_799
  let v1401 : BitVec 32 := Scalar.addi v1399 v1400
  let c1_i32_800 : BitVec 32 := 1#32
  let v1402 : BitVec 32 := Scalar.divsi v1401 c1_i32_800
  let v1403 : BitVec 32 := Scalar.subi v1402 c0_i32_803
  let c1_i32_804 : BitVec 32 := 1#32
  let v1405 : BitVec 32 := Scalar.divsi v1403 c1_i32_804
  let v1406 : BitVec 32 := Scalar.muli v1405 c1_i32_804
  let v1407 : BitVec 32 := Scalar.addi c0_i32_803 v1406
  let c1_i32_806 : BitVec 32 := 1#32
  let arg13 : BitVec 32 := Scf.iv v1407 c1_i32_806 k0_t86
  let c1_i32_801 : BitVec 32 := 1#32
  let v1572 : BitVec 32 := Scalar.muli arg13 c1_i32_801
  let v1573 : BitVec 32 := Scalar.addi c0_i32_802 v1572
  let c16_i32_921 : BitVec 32 := 16#32
  let v1574 : BitVec 32 := Scalar.muli v1573 c16_i32_921
  let v1575 : Index := Scalar.indexCast v1574
  ![v1575.toNat]
@[reducible] def k0_t87_loop (v1181 : BitVec 32) : Scf.Loop 32 :=
  let c0_i32_814 : BitVec 32 := 0#32
  let c0_i32_808 : BitVec 32 := 0#32
  let v1414 : BitVec 32 := Scalar.subi v1181 c0_i32_808
  let c1_i32_809 : BitVec 32 := 1#32
  let c1_i32_810 : BitVec 32 := 1#32
  let v1415 : BitVec 32 := Scalar.subi c1_i32_809 c1_i32_810
  let v1416 : BitVec 32 := Scalar.addi v1414 v1415
  let c1_i32_811 : BitVec 32 := 1#32
  let v1417 : BitVec 32 := Scalar.divsi v1416 c1_i32_811
  let v1418 : BitVec 32 := Scalar.subi v1417 c0_i32_814
  let c1_i32_815 : BitVec 32 := 1#32
  let v1420 : BitVec 32 := Scalar.divsi v1418 c1_i32_815
  let v1421 : BitVec 32 := Scalar.muli v1420 c1_i32_815
  let v1422 : BitVec 32 := Scalar.addi c0_i32_814 v1421
  let c1_i32_816 : BitVec 32 := 1#32
  ⟨c0_i32_814, v1422, c1_i32_816⟩
def k0_off91 (v1181 : BitVec 32) (k0_t87 : Fin (k0_t87_loop v1181).trips) : Fin 1 → Nat :=
  let c0_i32_813 : BitVec 32 := 0#32
  let c0_i32_814 : BitVec 32 := 0#32
  let c1_i32_816 : BitVec 32 := 1#32
  let arg13 : BitVec 32 := Scf.iv c0_i32_814 c1_i32_816 k0_t87
  let c1_i32_812 : BitVec 32 := 1#32
  let v1572 : BitVec 32 := Scalar.muli arg13 c1_i32_812
  let v1573 : BitVec 32 := Scalar.addi c0_i32_813 v1572
  let c16_i32_921 : BitVec 32 := 16#32
  let v1574 : BitVec 32 := Scalar.muli v1573 c16_i32_921
  let v1575 : Index := Scalar.indexCast v1574
  ![v1575.toNat]
@[reducible] def k0_t88_loop (v1181 : BitVec 32) : Scf.Loop 32 :=
  let c0_i32_814 : BitVec 32 := 0#32
  let c0_i32_808 : BitVec 32 := 0#32
  let v1414 : BitVec 32 := Scalar.subi v1181 c0_i32_808
  let c1_i32_809 : BitVec 32 := 1#32
  let c1_i32_810 : BitVec 32 := 1#32
  let v1415 : BitVec 32 := Scalar.subi c1_i32_809 c1_i32_810
  let v1416 : BitVec 32 := Scalar.addi v1414 v1415
  let c1_i32_811 : BitVec 32 := 1#32
  let v1417 : BitVec 32 := Scalar.divsi v1416 c1_i32_811
  let v1418 : BitVec 32 := Scalar.subi v1417 c0_i32_814
  let c1_i32_815 : BitVec 32 := 1#32
  let v1420 : BitVec 32 := Scalar.divsi v1418 c1_i32_815
  let v1421 : BitVec 32 := Scalar.muli v1420 c1_i32_815
  let v1422 : BitVec 32 := Scalar.addi c0_i32_814 v1421
  let v1419 : BitVec 32 := Scalar.addi c0_i32_814 v1418
  let c1_i32_817 : BitVec 32 := 1#32
  ⟨v1422, v1419, c1_i32_817⟩
def k0_off92 (v1181 : BitVec 32) (k0_t88 : Fin (k0_t88_loop v1181).trips) : Fin 1 → Nat :=
  let c0_i32_813 : BitVec 32 := 0#32
  let c0_i32_814 : BitVec 32 := 0#32
  let c0_i32_808 : BitVec 32 := 0#32
  let v1414 : BitVec 32 := Scalar.subi v1181 c0_i32_808
  let c1_i32_809 : BitVec 32 := 1#32
  let c1_i32_810 : BitVec 32 := 1#32
  let v1415 : BitVec 32 := Scalar.subi c1_i32_809 c1_i32_810
  let v1416 : BitVec 32 := Scalar.addi v1414 v1415
  let c1_i32_811 : BitVec 32 := 1#32
  let v1417 : BitVec 32 := Scalar.divsi v1416 c1_i32_811
  let v1418 : BitVec 32 := Scalar.subi v1417 c0_i32_814
  let c1_i32_815 : BitVec 32 := 1#32
  let v1420 : BitVec 32 := Scalar.divsi v1418 c1_i32_815
  let v1421 : BitVec 32 := Scalar.muli v1420 c1_i32_815
  let v1422 : BitVec 32 := Scalar.addi c0_i32_814 v1421
  let c1_i32_817 : BitVec 32 := 1#32
  let arg13 : BitVec 32 := Scf.iv v1422 c1_i32_817 k0_t88
  let c1_i32_812 : BitVec 32 := 1#32
  let v1572 : BitVec 32 := Scalar.muli arg13 c1_i32_812
  let v1573 : BitVec 32 := Scalar.addi c0_i32_813 v1572
  let c16_i32_921 : BitVec 32 := 16#32
  let v1574 : BitVec 32 := Scalar.muli v1573 c16_i32_921
  let v1575 : Index := Scalar.indexCast v1574
  ![v1575.toNat]
@[reducible] def k0_t89_loop (v1181 : BitVec 32) : Scf.Loop 32 :=
  let c0_i32_825 : BitVec 32 := 0#32
  let c0_i32_819 : BitVec 32 := 0#32
  let v1429 : BitVec 32 := Scalar.subi v1181 c0_i32_819
  let c1_i32_820 : BitVec 32 := 1#32
  let c1_i32_821 : BitVec 32 := 1#32
  let v1430 : BitVec 32 := Scalar.subi c1_i32_820 c1_i32_821
  let v1431 : BitVec 32 := Scalar.addi v1429 v1430
  let c1_i32_822 : BitVec 32 := 1#32
  let v1432 : BitVec 32 := Scalar.divsi v1431 c1_i32_822
  let v1433 : BitVec 32 := Scalar.subi v1432 c0_i32_825
  let c1_i32_826 : BitVec 32 := 1#32
  let v1435 : BitVec 32 := Scalar.divsi v1433 c1_i32_826
  let v1436 : BitVec 32 := Scalar.muli v1435 c1_i32_826
  let v1437 : BitVec 32 := Scalar.addi c0_i32_825 v1436
  let c1_i32_827 : BitVec 32 := 1#32
  ⟨c0_i32_825, v1437, c1_i32_827⟩
def k0_off93 (v1181 : BitVec 32) (k0_t89 : Fin (k0_t89_loop v1181).trips) : Fin 1 → Nat :=
  let c0_i32_824 : BitVec 32 := 0#32
  let c0_i32_825 : BitVec 32 := 0#32
  let c1_i32_827 : BitVec 32 := 1#32
  let arg13 : BitVec 32 := Scf.iv c0_i32_825 c1_i32_827 k0_t89
  let c1_i32_823 : BitVec 32 := 1#32
  let v1572 : BitVec 32 := Scalar.muli arg13 c1_i32_823
  let v1573 : BitVec 32 := Scalar.addi c0_i32_824 v1572
  let c16_i32_921 : BitVec 32 := 16#32
  let v1574 : BitVec 32 := Scalar.muli v1573 c16_i32_921
  let v1575 : Index := Scalar.indexCast v1574
  ![v1575.toNat]
@[reducible] def k0_t90_loop (v1181 : BitVec 32) : Scf.Loop 32 :=
  let c0_i32_825 : BitVec 32 := 0#32
  let c0_i32_819 : BitVec 32 := 0#32
  let v1429 : BitVec 32 := Scalar.subi v1181 c0_i32_819
  let c1_i32_820 : BitVec 32 := 1#32
  let c1_i32_821 : BitVec 32 := 1#32
  let v1430 : BitVec 32 := Scalar.subi c1_i32_820 c1_i32_821
  let v1431 : BitVec 32 := Scalar.addi v1429 v1430
  let c1_i32_822 : BitVec 32 := 1#32
  let v1432 : BitVec 32 := Scalar.divsi v1431 c1_i32_822
  let v1433 : BitVec 32 := Scalar.subi v1432 c0_i32_825
  let c1_i32_826 : BitVec 32 := 1#32
  let v1435 : BitVec 32 := Scalar.divsi v1433 c1_i32_826
  let v1436 : BitVec 32 := Scalar.muli v1435 c1_i32_826
  let v1437 : BitVec 32 := Scalar.addi c0_i32_825 v1436
  let v1434 : BitVec 32 := Scalar.addi c0_i32_825 v1433
  let c1_i32_828 : BitVec 32 := 1#32
  ⟨v1437, v1434, c1_i32_828⟩
def k0_off94 (v1181 : BitVec 32) (k0_t90 : Fin (k0_t90_loop v1181).trips) : Fin 1 → Nat :=
  let c0_i32_824 : BitVec 32 := 0#32
  let c0_i32_825 : BitVec 32 := 0#32
  let c0_i32_819 : BitVec 32 := 0#32
  let v1429 : BitVec 32 := Scalar.subi v1181 c0_i32_819
  let c1_i32_820 : BitVec 32 := 1#32
  let c1_i32_821 : BitVec 32 := 1#32
  let v1430 : BitVec 32 := Scalar.subi c1_i32_820 c1_i32_821
  let v1431 : BitVec 32 := Scalar.addi v1429 v1430
  let c1_i32_822 : BitVec 32 := 1#32
  let v1432 : BitVec 32 := Scalar.divsi v1431 c1_i32_822
  let v1433 : BitVec 32 := Scalar.subi v1432 c0_i32_825
  let c1_i32_826 : BitVec 32 := 1#32
  let v1435 : BitVec 32 := Scalar.divsi v1433 c1_i32_826
  let v1436 : BitVec 32 := Scalar.muli v1435 c1_i32_826
  let v1437 : BitVec 32 := Scalar.addi c0_i32_825 v1436
  let c1_i32_828 : BitVec 32 := 1#32
  let arg13 : BitVec 32 := Scf.iv v1437 c1_i32_828 k0_t90
  let c1_i32_823 : BitVec 32 := 1#32
  let v1572 : BitVec 32 := Scalar.muli arg13 c1_i32_823
  let v1573 : BitVec 32 := Scalar.addi c0_i32_824 v1572
  let c16_i32_921 : BitVec 32 := 16#32
  let v1574 : BitVec 32 := Scalar.muli v1573 c16_i32_921
  let v1575 : Index := Scalar.indexCast v1574
  ![v1575.toNat]
@[reducible] def k0_t91_loop (v1181 : BitVec 32) : Scf.Loop 32 :=
  let c0_i32_836 : BitVec 32 := 0#32
  let c0_i32_830 : BitVec 32 := 0#32
  let v1444 : BitVec 32 := Scalar.subi v1181 c0_i32_830
  let c1_i32_831 : BitVec 32 := 1#32
  let c1_i32_832 : BitVec 32 := 1#32
  let v1445 : BitVec 32 := Scalar.subi c1_i32_831 c1_i32_832
  let v1446 : BitVec 32 := Scalar.addi v1444 v1445
  let c1_i32_833 : BitVec 32 := 1#32
  let v1447 : BitVec 32 := Scalar.divsi v1446 c1_i32_833
  let v1448 : BitVec 32 := Scalar.subi v1447 c0_i32_836
  let c1_i32_837 : BitVec 32 := 1#32
  let v1450 : BitVec 32 := Scalar.divsi v1448 c1_i32_837
  let v1451 : BitVec 32 := Scalar.muli v1450 c1_i32_837
  let v1452 : BitVec 32 := Scalar.addi c0_i32_836 v1451
  let c1_i32_838 : BitVec 32 := 1#32
  ⟨c0_i32_836, v1452, c1_i32_838⟩
def k0_off95 (v1181 : BitVec 32) (k0_t91 : Fin (k0_t91_loop v1181).trips) : Fin 1 → Nat :=
  let c0_i32_835 : BitVec 32 := 0#32
  let c0_i32_836 : BitVec 32 := 0#32
  let c1_i32_838 : BitVec 32 := 1#32
  let arg13 : BitVec 32 := Scf.iv c0_i32_836 c1_i32_838 k0_t91
  let c1_i32_834 : BitVec 32 := 1#32
  let v1572 : BitVec 32 := Scalar.muli arg13 c1_i32_834
  let v1573 : BitVec 32 := Scalar.addi c0_i32_835 v1572
  let c16_i32_921 : BitVec 32 := 16#32
  let v1574 : BitVec 32 := Scalar.muli v1573 c16_i32_921
  let v1575 : Index := Scalar.indexCast v1574
  ![v1575.toNat]
@[reducible] def k0_t92_loop (v1181 : BitVec 32) : Scf.Loop 32 :=
  let c0_i32_836 : BitVec 32 := 0#32
  let c0_i32_830 : BitVec 32 := 0#32
  let v1444 : BitVec 32 := Scalar.subi v1181 c0_i32_830
  let c1_i32_831 : BitVec 32 := 1#32
  let c1_i32_832 : BitVec 32 := 1#32
  let v1445 : BitVec 32 := Scalar.subi c1_i32_831 c1_i32_832
  let v1446 : BitVec 32 := Scalar.addi v1444 v1445
  let c1_i32_833 : BitVec 32 := 1#32
  let v1447 : BitVec 32 := Scalar.divsi v1446 c1_i32_833
  let v1448 : BitVec 32 := Scalar.subi v1447 c0_i32_836
  let c1_i32_837 : BitVec 32 := 1#32
  let v1450 : BitVec 32 := Scalar.divsi v1448 c1_i32_837
  let v1451 : BitVec 32 := Scalar.muli v1450 c1_i32_837
  let v1452 : BitVec 32 := Scalar.addi c0_i32_836 v1451
  let v1449 : BitVec 32 := Scalar.addi c0_i32_836 v1448
  let c1_i32_839 : BitVec 32 := 1#32
  ⟨v1452, v1449, c1_i32_839⟩
def k0_off96 (v1181 : BitVec 32) (k0_t92 : Fin (k0_t92_loop v1181).trips) : Fin 1 → Nat :=
  let c0_i32_835 : BitVec 32 := 0#32
  let c0_i32_836 : BitVec 32 := 0#32
  let c0_i32_830 : BitVec 32 := 0#32
  let v1444 : BitVec 32 := Scalar.subi v1181 c0_i32_830
  let c1_i32_831 : BitVec 32 := 1#32
  let c1_i32_832 : BitVec 32 := 1#32
  let v1445 : BitVec 32 := Scalar.subi c1_i32_831 c1_i32_832
  let v1446 : BitVec 32 := Scalar.addi v1444 v1445
  let c1_i32_833 : BitVec 32 := 1#32
  let v1447 : BitVec 32 := Scalar.divsi v1446 c1_i32_833
  let v1448 : BitVec 32 := Scalar.subi v1447 c0_i32_836
  let c1_i32_837 : BitVec 32 := 1#32
  let v1450 : BitVec 32 := Scalar.divsi v1448 c1_i32_837
  let v1451 : BitVec 32 := Scalar.muli v1450 c1_i32_837
  let v1452 : BitVec 32 := Scalar.addi c0_i32_836 v1451
  let c1_i32_839 : BitVec 32 := 1#32
  let arg13 : BitVec 32 := Scf.iv v1452 c1_i32_839 k0_t92
  let c1_i32_834 : BitVec 32 := 1#32
  let v1572 : BitVec 32 := Scalar.muli arg13 c1_i32_834
  let v1573 : BitVec 32 := Scalar.addi c0_i32_835 v1572
  let c16_i32_921 : BitVec 32 := 16#32
  let v1574 : BitVec 32 := Scalar.muli v1573 c16_i32_921
  let v1575 : Index := Scalar.indexCast v1574
  ![v1575.toNat]
@[reducible] def k0_t93_loop (v1181 : BitVec 32) : Scf.Loop 32 :=
  let c0_i32_847 : BitVec 32 := 0#32
  let c0_i32_841 : BitVec 32 := 0#32
  let v1459 : BitVec 32 := Scalar.subi v1181 c0_i32_841
  let c1_i32_842 : BitVec 32 := 1#32
  let c1_i32_843 : BitVec 32 := 1#32
  let v1460 : BitVec 32 := Scalar.subi c1_i32_842 c1_i32_843
  let v1461 : BitVec 32 := Scalar.addi v1459 v1460
  let c1_i32_844 : BitVec 32 := 1#32
  let v1462 : BitVec 32 := Scalar.divsi v1461 c1_i32_844
  let v1463 : BitVec 32 := Scalar.subi v1462 c0_i32_847
  let c1_i32_848 : BitVec 32 := 1#32
  let v1465 : BitVec 32 := Scalar.divsi v1463 c1_i32_848
  let v1466 : BitVec 32 := Scalar.muli v1465 c1_i32_848
  let v1467 : BitVec 32 := Scalar.addi c0_i32_847 v1466
  let c1_i32_849 : BitVec 32 := 1#32
  ⟨c0_i32_847, v1467, c1_i32_849⟩
def k0_off97 (v1181 : BitVec 32) (k0_t93 : Fin (k0_t93_loop v1181).trips) : Fin 1 → Nat :=
  let c0_i32_846 : BitVec 32 := 0#32
  let c0_i32_847 : BitVec 32 := 0#32
  let c1_i32_849 : BitVec 32 := 1#32
  let arg13 : BitVec 32 := Scf.iv c0_i32_847 c1_i32_849 k0_t93
  let c1_i32_845 : BitVec 32 := 1#32
  let v1572 : BitVec 32 := Scalar.muli arg13 c1_i32_845
  let v1573 : BitVec 32 := Scalar.addi c0_i32_846 v1572
  let c16_i32_921 : BitVec 32 := 16#32
  let v1574 : BitVec 32 := Scalar.muli v1573 c16_i32_921
  let v1575 : Index := Scalar.indexCast v1574
  ![v1575.toNat]
@[reducible] def k0_t94_loop (v1181 : BitVec 32) : Scf.Loop 32 :=
  let c0_i32_847 : BitVec 32 := 0#32
  let c0_i32_841 : BitVec 32 := 0#32
  let v1459 : BitVec 32 := Scalar.subi v1181 c0_i32_841
  let c1_i32_842 : BitVec 32 := 1#32
  let c1_i32_843 : BitVec 32 := 1#32
  let v1460 : BitVec 32 := Scalar.subi c1_i32_842 c1_i32_843
  let v1461 : BitVec 32 := Scalar.addi v1459 v1460
  let c1_i32_844 : BitVec 32 := 1#32
  let v1462 : BitVec 32 := Scalar.divsi v1461 c1_i32_844
  let v1463 : BitVec 32 := Scalar.subi v1462 c0_i32_847
  let c1_i32_848 : BitVec 32 := 1#32
  let v1465 : BitVec 32 := Scalar.divsi v1463 c1_i32_848
  let v1466 : BitVec 32 := Scalar.muli v1465 c1_i32_848
  let v1467 : BitVec 32 := Scalar.addi c0_i32_847 v1466
  let v1464 : BitVec 32 := Scalar.addi c0_i32_847 v1463
  let c1_i32_850 : BitVec 32 := 1#32
  ⟨v1467, v1464, c1_i32_850⟩
def k0_off98 (v1181 : BitVec 32) (k0_t94 : Fin (k0_t94_loop v1181).trips) : Fin 1 → Nat :=
  let c0_i32_846 : BitVec 32 := 0#32
  let c0_i32_847 : BitVec 32 := 0#32
  let c0_i32_841 : BitVec 32 := 0#32
  let v1459 : BitVec 32 := Scalar.subi v1181 c0_i32_841
  let c1_i32_842 : BitVec 32 := 1#32
  let c1_i32_843 : BitVec 32 := 1#32
  let v1460 : BitVec 32 := Scalar.subi c1_i32_842 c1_i32_843
  let v1461 : BitVec 32 := Scalar.addi v1459 v1460
  let c1_i32_844 : BitVec 32 := 1#32
  let v1462 : BitVec 32 := Scalar.divsi v1461 c1_i32_844
  let v1463 : BitVec 32 := Scalar.subi v1462 c0_i32_847
  let c1_i32_848 : BitVec 32 := 1#32
  let v1465 : BitVec 32 := Scalar.divsi v1463 c1_i32_848
  let v1466 : BitVec 32 := Scalar.muli v1465 c1_i32_848
  let v1467 : BitVec 32 := Scalar.addi c0_i32_847 v1466
  let c1_i32_850 : BitVec 32 := 1#32
  let arg13 : BitVec 32 := Scf.iv v1467 c1_i32_850 k0_t94
  let c1_i32_845 : BitVec 32 := 1#32
  let v1572 : BitVec 32 := Scalar.muli arg13 c1_i32_845
  let v1573 : BitVec 32 := Scalar.addi c0_i32_846 v1572
  let c16_i32_921 : BitVec 32 := 16#32
  let v1574 : BitVec 32 := Scalar.muli v1573 c16_i32_921
  let v1575 : Index := Scalar.indexCast v1574
  ![v1575.toNat]
@[reducible] def k0_t95_loop (v1181 : BitVec 32) : Scf.Loop 32 :=
  let c0_i32_858 : BitVec 32 := 0#32
  let c0_i32_852 : BitVec 32 := 0#32
  let v1474 : BitVec 32 := Scalar.subi v1181 c0_i32_852
  let c1_i32_853 : BitVec 32 := 1#32
  let c1_i32_854 : BitVec 32 := 1#32
  let v1475 : BitVec 32 := Scalar.subi c1_i32_853 c1_i32_854
  let v1476 : BitVec 32 := Scalar.addi v1474 v1475
  let c1_i32_855 : BitVec 32 := 1#32
  let v1477 : BitVec 32 := Scalar.divsi v1476 c1_i32_855
  let v1478 : BitVec 32 := Scalar.subi v1477 c0_i32_858
  let c1_i32_859 : BitVec 32 := 1#32
  let v1480 : BitVec 32 := Scalar.divsi v1478 c1_i32_859
  let v1481 : BitVec 32 := Scalar.muli v1480 c1_i32_859
  let v1482 : BitVec 32 := Scalar.addi c0_i32_858 v1481
  let c1_i32_860 : BitVec 32 := 1#32
  ⟨c0_i32_858, v1482, c1_i32_860⟩
def k0_off99 (v1181 : BitVec 32) (k0_t95 : Fin (k0_t95_loop v1181).trips) : Fin 1 → Nat :=
  let c0_i32_857 : BitVec 32 := 0#32
  let c0_i32_858 : BitVec 32 := 0#32
  let c1_i32_860 : BitVec 32 := 1#32
  let arg13 : BitVec 32 := Scf.iv c0_i32_858 c1_i32_860 k0_t95
  let c1_i32_856 : BitVec 32 := 1#32
  let v1572 : BitVec 32 := Scalar.muli arg13 c1_i32_856
  let v1573 : BitVec 32 := Scalar.addi c0_i32_857 v1572
  let c16_i32_921 : BitVec 32 := 16#32
  let v1574 : BitVec 32 := Scalar.muli v1573 c16_i32_921
  let v1575 : Index := Scalar.indexCast v1574
  ![v1575.toNat]
@[reducible] def k0_t96_loop (v1181 : BitVec 32) : Scf.Loop 32 :=
  let c0_i32_858 : BitVec 32 := 0#32
  let c0_i32_852 : BitVec 32 := 0#32
  let v1474 : BitVec 32 := Scalar.subi v1181 c0_i32_852
  let c1_i32_853 : BitVec 32 := 1#32
  let c1_i32_854 : BitVec 32 := 1#32
  let v1475 : BitVec 32 := Scalar.subi c1_i32_853 c1_i32_854
  let v1476 : BitVec 32 := Scalar.addi v1474 v1475
  let c1_i32_855 : BitVec 32 := 1#32
  let v1477 : BitVec 32 := Scalar.divsi v1476 c1_i32_855
  let v1478 : BitVec 32 := Scalar.subi v1477 c0_i32_858
  let c1_i32_859 : BitVec 32 := 1#32
  let v1480 : BitVec 32 := Scalar.divsi v1478 c1_i32_859
  let v1481 : BitVec 32 := Scalar.muli v1480 c1_i32_859
  let v1482 : BitVec 32 := Scalar.addi c0_i32_858 v1481
  let v1479 : BitVec 32 := Scalar.addi c0_i32_858 v1478
  let c1_i32_861 : BitVec 32 := 1#32
  ⟨v1482, v1479, c1_i32_861⟩
def k0_off100 (v1181 : BitVec 32) (k0_t96 : Fin (k0_t96_loop v1181).trips) : Fin 1 → Nat :=
  let c0_i32_857 : BitVec 32 := 0#32
  let c0_i32_858 : BitVec 32 := 0#32
  let c0_i32_852 : BitVec 32 := 0#32
  let v1474 : BitVec 32 := Scalar.subi v1181 c0_i32_852
  let c1_i32_853 : BitVec 32 := 1#32
  let c1_i32_854 : BitVec 32 := 1#32
  let v1475 : BitVec 32 := Scalar.subi c1_i32_853 c1_i32_854
  let v1476 : BitVec 32 := Scalar.addi v1474 v1475
  let c1_i32_855 : BitVec 32 := 1#32
  let v1477 : BitVec 32 := Scalar.divsi v1476 c1_i32_855
  let v1478 : BitVec 32 := Scalar.subi v1477 c0_i32_858
  let c1_i32_859 : BitVec 32 := 1#32
  let v1480 : BitVec 32 := Scalar.divsi v1478 c1_i32_859
  let v1481 : BitVec 32 := Scalar.muli v1480 c1_i32_859
  let v1482 : BitVec 32 := Scalar.addi c0_i32_858 v1481
  let c1_i32_861 : BitVec 32 := 1#32
  let arg13 : BitVec 32 := Scf.iv v1482 c1_i32_861 k0_t96
  let c1_i32_856 : BitVec 32 := 1#32
  let v1572 : BitVec 32 := Scalar.muli arg13 c1_i32_856
  let v1573 : BitVec 32 := Scalar.addi c0_i32_857 v1572
  let c16_i32_921 : BitVec 32 := 16#32
  let v1574 : BitVec 32 := Scalar.muli v1573 c16_i32_921
  let v1575 : Index := Scalar.indexCast v1574
  ![v1575.toNat]
@[reducible] def k0_t97_loop (v1181 : BitVec 32) : Scf.Loop 32 :=
  let c0_i32_869 : BitVec 32 := 0#32
  let c0_i32_863 : BitVec 32 := 0#32
  let v1489 : BitVec 32 := Scalar.subi v1181 c0_i32_863
  let c1_i32_864 : BitVec 32 := 1#32
  let c1_i32_865 : BitVec 32 := 1#32
  let v1490 : BitVec 32 := Scalar.subi c1_i32_864 c1_i32_865
  let v1491 : BitVec 32 := Scalar.addi v1489 v1490
  let c1_i32_866 : BitVec 32 := 1#32
  let v1492 : BitVec 32 := Scalar.divsi v1491 c1_i32_866
  let v1493 : BitVec 32 := Scalar.subi v1492 c0_i32_869
  let c1_i32_870 : BitVec 32 := 1#32
  let v1495 : BitVec 32 := Scalar.divsi v1493 c1_i32_870
  let v1496 : BitVec 32 := Scalar.muli v1495 c1_i32_870
  let v1497 : BitVec 32 := Scalar.addi c0_i32_869 v1496
  let c1_i32_871 : BitVec 32 := 1#32
  ⟨c0_i32_869, v1497, c1_i32_871⟩
def k0_off101 (v1181 : BitVec 32) (k0_t97 : Fin (k0_t97_loop v1181).trips) : Fin 1 → Nat :=
  let c0_i32_868 : BitVec 32 := 0#32
  let c0_i32_869 : BitVec 32 := 0#32
  let c1_i32_871 : BitVec 32 := 1#32
  let arg13 : BitVec 32 := Scf.iv c0_i32_869 c1_i32_871 k0_t97
  let c1_i32_867 : BitVec 32 := 1#32
  let v1572 : BitVec 32 := Scalar.muli arg13 c1_i32_867
  let v1573 : BitVec 32 := Scalar.addi c0_i32_868 v1572
  let c16_i32_921 : BitVec 32 := 16#32
  let v1574 : BitVec 32 := Scalar.muli v1573 c16_i32_921
  let v1575 : Index := Scalar.indexCast v1574
  ![v1575.toNat]
@[reducible] def k0_t98_loop (v1181 : BitVec 32) : Scf.Loop 32 :=
  let c0_i32_869 : BitVec 32 := 0#32
  let c0_i32_863 : BitVec 32 := 0#32
  let v1489 : BitVec 32 := Scalar.subi v1181 c0_i32_863
  let c1_i32_864 : BitVec 32 := 1#32
  let c1_i32_865 : BitVec 32 := 1#32
  let v1490 : BitVec 32 := Scalar.subi c1_i32_864 c1_i32_865
  let v1491 : BitVec 32 := Scalar.addi v1489 v1490
  let c1_i32_866 : BitVec 32 := 1#32
  let v1492 : BitVec 32 := Scalar.divsi v1491 c1_i32_866
  let v1493 : BitVec 32 := Scalar.subi v1492 c0_i32_869
  let c1_i32_870 : BitVec 32 := 1#32
  let v1495 : BitVec 32 := Scalar.divsi v1493 c1_i32_870
  let v1496 : BitVec 32 := Scalar.muli v1495 c1_i32_870
  let v1497 : BitVec 32 := Scalar.addi c0_i32_869 v1496
  let v1494 : BitVec 32 := Scalar.addi c0_i32_869 v1493
  let c1_i32_872 : BitVec 32 := 1#32
  ⟨v1497, v1494, c1_i32_872⟩
def k0_off102 (v1181 : BitVec 32) (k0_t98 : Fin (k0_t98_loop v1181).trips) : Fin 1 → Nat :=
  let c0_i32_868 : BitVec 32 := 0#32
  let c0_i32_869 : BitVec 32 := 0#32
  let c0_i32_863 : BitVec 32 := 0#32
  let v1489 : BitVec 32 := Scalar.subi v1181 c0_i32_863
  let c1_i32_864 : BitVec 32 := 1#32
  let c1_i32_865 : BitVec 32 := 1#32
  let v1490 : BitVec 32 := Scalar.subi c1_i32_864 c1_i32_865
  let v1491 : BitVec 32 := Scalar.addi v1489 v1490
  let c1_i32_866 : BitVec 32 := 1#32
  let v1492 : BitVec 32 := Scalar.divsi v1491 c1_i32_866
  let v1493 : BitVec 32 := Scalar.subi v1492 c0_i32_869
  let c1_i32_870 : BitVec 32 := 1#32
  let v1495 : BitVec 32 := Scalar.divsi v1493 c1_i32_870
  let v1496 : BitVec 32 := Scalar.muli v1495 c1_i32_870
  let v1497 : BitVec 32 := Scalar.addi c0_i32_869 v1496
  let c1_i32_872 : BitVec 32 := 1#32
  let arg13 : BitVec 32 := Scf.iv v1497 c1_i32_872 k0_t98
  let c1_i32_867 : BitVec 32 := 1#32
  let v1572 : BitVec 32 := Scalar.muli arg13 c1_i32_867
  let v1573 : BitVec 32 := Scalar.addi c0_i32_868 v1572
  let c16_i32_921 : BitVec 32 := 16#32
  let v1574 : BitVec 32 := Scalar.muli v1573 c16_i32_921
  let v1575 : Index := Scalar.indexCast v1574
  ![v1575.toNat]
@[reducible] def k0_t99_loop (v1181 : BitVec 32) : Scf.Loop 32 :=
  let c0_i32_880 : BitVec 32 := 0#32
  let c0_i32_874 : BitVec 32 := 0#32
  let v1504 : BitVec 32 := Scalar.subi v1181 c0_i32_874
  let c1_i32_875 : BitVec 32 := 1#32
  let c1_i32_876 : BitVec 32 := 1#32
  let v1505 : BitVec 32 := Scalar.subi c1_i32_875 c1_i32_876
  let v1506 : BitVec 32 := Scalar.addi v1504 v1505
  let c1_i32_877 : BitVec 32 := 1#32
  let v1507 : BitVec 32 := Scalar.divsi v1506 c1_i32_877
  let v1508 : BitVec 32 := Scalar.subi v1507 c0_i32_880
  let c1_i32_881 : BitVec 32 := 1#32
  let v1510 : BitVec 32 := Scalar.divsi v1508 c1_i32_881
  let v1511 : BitVec 32 := Scalar.muli v1510 c1_i32_881
  let v1512 : BitVec 32 := Scalar.addi c0_i32_880 v1511
  let c1_i32_882 : BitVec 32 := 1#32
  ⟨c0_i32_880, v1512, c1_i32_882⟩
def k0_off103 (v1181 : BitVec 32) (k0_t99 : Fin (k0_t99_loop v1181).trips) : Fin 1 → Nat :=
  let c0_i32_879 : BitVec 32 := 0#32
  let c0_i32_880 : BitVec 32 := 0#32
  let c1_i32_882 : BitVec 32 := 1#32
  let arg13 : BitVec 32 := Scf.iv c0_i32_880 c1_i32_882 k0_t99
  let c1_i32_878 : BitVec 32 := 1#32
  let v1572 : BitVec 32 := Scalar.muli arg13 c1_i32_878
  let v1573 : BitVec 32 := Scalar.addi c0_i32_879 v1572
  let c16_i32_921 : BitVec 32 := 16#32
  let v1574 : BitVec 32 := Scalar.muli v1573 c16_i32_921
  let v1575 : Index := Scalar.indexCast v1574
  ![v1575.toNat]
@[reducible] def k0_t100_loop (v1181 : BitVec 32) : Scf.Loop 32 :=
  let c0_i32_880 : BitVec 32 := 0#32
  let c0_i32_874 : BitVec 32 := 0#32
  let v1504 : BitVec 32 := Scalar.subi v1181 c0_i32_874
  let c1_i32_875 : BitVec 32 := 1#32
  let c1_i32_876 : BitVec 32 := 1#32
  let v1505 : BitVec 32 := Scalar.subi c1_i32_875 c1_i32_876
  let v1506 : BitVec 32 := Scalar.addi v1504 v1505
  let c1_i32_877 : BitVec 32 := 1#32
  let v1507 : BitVec 32 := Scalar.divsi v1506 c1_i32_877
  let v1508 : BitVec 32 := Scalar.subi v1507 c0_i32_880
  let c1_i32_881 : BitVec 32 := 1#32
  let v1510 : BitVec 32 := Scalar.divsi v1508 c1_i32_881
  let v1511 : BitVec 32 := Scalar.muli v1510 c1_i32_881
  let v1512 : BitVec 32 := Scalar.addi c0_i32_880 v1511
  let v1509 : BitVec 32 := Scalar.addi c0_i32_880 v1508
  let c1_i32_883 : BitVec 32 := 1#32
  ⟨v1512, v1509, c1_i32_883⟩
def k0_off104 (v1181 : BitVec 32) (k0_t100 : Fin (k0_t100_loop v1181).trips) : Fin 1 → Nat :=
  let c0_i32_879 : BitVec 32 := 0#32
  let c0_i32_880 : BitVec 32 := 0#32
  let c0_i32_874 : BitVec 32 := 0#32
  let v1504 : BitVec 32 := Scalar.subi v1181 c0_i32_874
  let c1_i32_875 : BitVec 32 := 1#32
  let c1_i32_876 : BitVec 32 := 1#32
  let v1505 : BitVec 32 := Scalar.subi c1_i32_875 c1_i32_876
  let v1506 : BitVec 32 := Scalar.addi v1504 v1505
  let c1_i32_877 : BitVec 32 := 1#32
  let v1507 : BitVec 32 := Scalar.divsi v1506 c1_i32_877
  let v1508 : BitVec 32 := Scalar.subi v1507 c0_i32_880
  let c1_i32_881 : BitVec 32 := 1#32
  let v1510 : BitVec 32 := Scalar.divsi v1508 c1_i32_881
  let v1511 : BitVec 32 := Scalar.muli v1510 c1_i32_881
  let v1512 : BitVec 32 := Scalar.addi c0_i32_880 v1511
  let c1_i32_883 : BitVec 32 := 1#32
  let arg13 : BitVec 32 := Scf.iv v1512 c1_i32_883 k0_t100
  let c1_i32_878 : BitVec 32 := 1#32
  let v1572 : BitVec 32 := Scalar.muli arg13 c1_i32_878
  let v1573 : BitVec 32 := Scalar.addi c0_i32_879 v1572
  let c16_i32_921 : BitVec 32 := 16#32
  let v1574 : BitVec 32 := Scalar.muli v1573 c16_i32_921
  let v1575 : Index := Scalar.indexCast v1574
  ![v1575.toNat]
@[reducible] def k0_t101_loop (v1181 : BitVec 32) : Scf.Loop 32 :=
  let c0_i32_891 : BitVec 32 := 0#32
  let c0_i32_885 : BitVec 32 := 0#32
  let v1519 : BitVec 32 := Scalar.subi v1181 c0_i32_885
  let c1_i32_886 : BitVec 32 := 1#32
  let c1_i32_887 : BitVec 32 := 1#32
  let v1520 : BitVec 32 := Scalar.subi c1_i32_886 c1_i32_887
  let v1521 : BitVec 32 := Scalar.addi v1519 v1520
  let c1_i32_888 : BitVec 32 := 1#32
  let v1522 : BitVec 32 := Scalar.divsi v1521 c1_i32_888
  let v1523 : BitVec 32 := Scalar.subi v1522 c0_i32_891
  let c1_i32_892 : BitVec 32 := 1#32
  let v1525 : BitVec 32 := Scalar.divsi v1523 c1_i32_892
  let v1526 : BitVec 32 := Scalar.muli v1525 c1_i32_892
  let v1527 : BitVec 32 := Scalar.addi c0_i32_891 v1526
  let c1_i32_893 : BitVec 32 := 1#32
  ⟨c0_i32_891, v1527, c1_i32_893⟩
def k0_off105 (v1181 : BitVec 32) (k0_t101 : Fin (k0_t101_loop v1181).trips) : Fin 1 → Nat :=
  let c0_i32_890 : BitVec 32 := 0#32
  let c0_i32_891 : BitVec 32 := 0#32
  let c1_i32_893 : BitVec 32 := 1#32
  let arg13 : BitVec 32 := Scf.iv c0_i32_891 c1_i32_893 k0_t101
  let c1_i32_889 : BitVec 32 := 1#32
  let v1572 : BitVec 32 := Scalar.muli arg13 c1_i32_889
  let v1573 : BitVec 32 := Scalar.addi c0_i32_890 v1572
  let c16_i32_921 : BitVec 32 := 16#32
  let v1574 : BitVec 32 := Scalar.muli v1573 c16_i32_921
  let v1575 : Index := Scalar.indexCast v1574
  ![v1575.toNat]
@[reducible] def k0_t102_loop (v1181 : BitVec 32) : Scf.Loop 32 :=
  let c0_i32_891 : BitVec 32 := 0#32
  let c0_i32_885 : BitVec 32 := 0#32
  let v1519 : BitVec 32 := Scalar.subi v1181 c0_i32_885
  let c1_i32_886 : BitVec 32 := 1#32
  let c1_i32_887 : BitVec 32 := 1#32
  let v1520 : BitVec 32 := Scalar.subi c1_i32_886 c1_i32_887
  let v1521 : BitVec 32 := Scalar.addi v1519 v1520
  let c1_i32_888 : BitVec 32 := 1#32
  let v1522 : BitVec 32 := Scalar.divsi v1521 c1_i32_888
  let v1523 : BitVec 32 := Scalar.subi v1522 c0_i32_891
  let c1_i32_892 : BitVec 32 := 1#32
  let v1525 : BitVec 32 := Scalar.divsi v1523 c1_i32_892
  let v1526 : BitVec 32 := Scalar.muli v1525 c1_i32_892
  let v1527 : BitVec 32 := Scalar.addi c0_i32_891 v1526
  let v1524 : BitVec 32 := Scalar.addi c0_i32_891 v1523
  let c1_i32_894 : BitVec 32 := 1#32
  ⟨v1527, v1524, c1_i32_894⟩
def k0_off106 (v1181 : BitVec 32) (k0_t102 : Fin (k0_t102_loop v1181).trips) : Fin 1 → Nat :=
  let c0_i32_890 : BitVec 32 := 0#32
  let c0_i32_891 : BitVec 32 := 0#32
  let c0_i32_885 : BitVec 32 := 0#32
  let v1519 : BitVec 32 := Scalar.subi v1181 c0_i32_885
  let c1_i32_886 : BitVec 32 := 1#32
  let c1_i32_887 : BitVec 32 := 1#32
  let v1520 : BitVec 32 := Scalar.subi c1_i32_886 c1_i32_887
  let v1521 : BitVec 32 := Scalar.addi v1519 v1520
  let c1_i32_888 : BitVec 32 := 1#32
  let v1522 : BitVec 32 := Scalar.divsi v1521 c1_i32_888
  let v1523 : BitVec 32 := Scalar.subi v1522 c0_i32_891
  let c1_i32_892 : BitVec 32 := 1#32
  let v1525 : BitVec 32 := Scalar.divsi v1523 c1_i32_892
  let v1526 : BitVec 32 := Scalar.muli v1525 c1_i32_892
  let v1527 : BitVec 32 := Scalar.addi c0_i32_891 v1526
  let c1_i32_894 : BitVec 32 := 1#32
  let arg13 : BitVec 32 := Scf.iv v1527 c1_i32_894 k0_t102
  let c1_i32_889 : BitVec 32 := 1#32
  let v1572 : BitVec 32 := Scalar.muli arg13 c1_i32_889
  let v1573 : BitVec 32 := Scalar.addi c0_i32_890 v1572
  let c16_i32_921 : BitVec 32 := 16#32
  let v1574 : BitVec 32 := Scalar.muli v1573 c16_i32_921
  let v1575 : Index := Scalar.indexCast v1574
  ![v1575.toNat]
@[reducible] def k0_t103_loop (v1181 : BitVec 32) : Scf.Loop 32 :=
  let c0_i32_902 : BitVec 32 := 0#32
  let c0_i32_896 : BitVec 32 := 0#32
  let v1534 : BitVec 32 := Scalar.subi v1181 c0_i32_896
  let c1_i32_897 : BitVec 32 := 1#32
  let c1_i32_898 : BitVec 32 := 1#32
  let v1535 : BitVec 32 := Scalar.subi c1_i32_897 c1_i32_898
  let v1536 : BitVec 32 := Scalar.addi v1534 v1535
  let c1_i32_899 : BitVec 32 := 1#32
  let v1537 : BitVec 32 := Scalar.divsi v1536 c1_i32_899
  let v1538 : BitVec 32 := Scalar.subi v1537 c0_i32_902
  let c1_i32_903 : BitVec 32 := 1#32
  let v1540 : BitVec 32 := Scalar.divsi v1538 c1_i32_903
  let v1541 : BitVec 32 := Scalar.muli v1540 c1_i32_903
  let v1542 : BitVec 32 := Scalar.addi c0_i32_902 v1541
  let c1_i32_904 : BitVec 32 := 1#32
  ⟨c0_i32_902, v1542, c1_i32_904⟩
def k0_off107 (v1181 : BitVec 32) (k0_t103 : Fin (k0_t103_loop v1181).trips) : Fin 1 → Nat :=
  let c0_i32_901 : BitVec 32 := 0#32
  let c0_i32_902 : BitVec 32 := 0#32
  let c1_i32_904 : BitVec 32 := 1#32
  let arg13 : BitVec 32 := Scf.iv c0_i32_902 c1_i32_904 k0_t103
  let c1_i32_900 : BitVec 32 := 1#32
  let v1572 : BitVec 32 := Scalar.muli arg13 c1_i32_900
  let v1573 : BitVec 32 := Scalar.addi c0_i32_901 v1572
  let c16_i32_921 : BitVec 32 := 16#32
  let v1574 : BitVec 32 := Scalar.muli v1573 c16_i32_921
  let v1575 : Index := Scalar.indexCast v1574
  ![v1575.toNat]
@[reducible] def k0_t104_loop (v1181 : BitVec 32) : Scf.Loop 32 :=
  let c0_i32_902 : BitVec 32 := 0#32
  let c0_i32_896 : BitVec 32 := 0#32
  let v1534 : BitVec 32 := Scalar.subi v1181 c0_i32_896
  let c1_i32_897 : BitVec 32 := 1#32
  let c1_i32_898 : BitVec 32 := 1#32
  let v1535 : BitVec 32 := Scalar.subi c1_i32_897 c1_i32_898
  let v1536 : BitVec 32 := Scalar.addi v1534 v1535
  let c1_i32_899 : BitVec 32 := 1#32
  let v1537 : BitVec 32 := Scalar.divsi v1536 c1_i32_899
  let v1538 : BitVec 32 := Scalar.subi v1537 c0_i32_902
  let c1_i32_903 : BitVec 32 := 1#32
  let v1540 : BitVec 32 := Scalar.divsi v1538 c1_i32_903
  let v1541 : BitVec 32 := Scalar.muli v1540 c1_i32_903
  let v1542 : BitVec 32 := Scalar.addi c0_i32_902 v1541
  let v1539 : BitVec 32 := Scalar.addi c0_i32_902 v1538
  let c1_i32_905 : BitVec 32 := 1#32
  ⟨v1542, v1539, c1_i32_905⟩
def k0_off108 (v1181 : BitVec 32) (k0_t104 : Fin (k0_t104_loop v1181).trips) : Fin 1 → Nat :=
  let c0_i32_901 : BitVec 32 := 0#32
  let c0_i32_902 : BitVec 32 := 0#32
  let c0_i32_896 : BitVec 32 := 0#32
  let v1534 : BitVec 32 := Scalar.subi v1181 c0_i32_896
  let c1_i32_897 : BitVec 32 := 1#32
  let c1_i32_898 : BitVec 32 := 1#32
  let v1535 : BitVec 32 := Scalar.subi c1_i32_897 c1_i32_898
  let v1536 : BitVec 32 := Scalar.addi v1534 v1535
  let c1_i32_899 : BitVec 32 := 1#32
  let v1537 : BitVec 32 := Scalar.divsi v1536 c1_i32_899
  let v1538 : BitVec 32 := Scalar.subi v1537 c0_i32_902
  let c1_i32_903 : BitVec 32 := 1#32
  let v1540 : BitVec 32 := Scalar.divsi v1538 c1_i32_903
  let v1541 : BitVec 32 := Scalar.muli v1540 c1_i32_903
  let v1542 : BitVec 32 := Scalar.addi c0_i32_902 v1541
  let c1_i32_905 : BitVec 32 := 1#32
  let arg13 : BitVec 32 := Scf.iv v1542 c1_i32_905 k0_t104
  let c1_i32_900 : BitVec 32 := 1#32
  let v1572 : BitVec 32 := Scalar.muli arg13 c1_i32_900
  let v1573 : BitVec 32 := Scalar.addi c0_i32_901 v1572
  let c16_i32_921 : BitVec 32 := 16#32
  let v1574 : BitVec 32 := Scalar.muli v1573 c16_i32_921
  let v1575 : Index := Scalar.indexCast v1574
  ![v1575.toNat]
@[reducible] def k0_t105_loop (v1181 : BitVec 32) : Scf.Loop 32 :=
  let c0_i32_913 : BitVec 32 := 0#32
  let c0_i32_907 : BitVec 32 := 0#32
  let v1549 : BitVec 32 := Scalar.subi v1181 c0_i32_907
  let c1_i32_908 : BitVec 32 := 1#32
  let c1_i32_909 : BitVec 32 := 1#32
  let v1550 : BitVec 32 := Scalar.subi c1_i32_908 c1_i32_909
  let v1551 : BitVec 32 := Scalar.addi v1549 v1550
  let c1_i32_910 : BitVec 32 := 1#32
  let v1552 : BitVec 32 := Scalar.divsi v1551 c1_i32_910
  let v1553 : BitVec 32 := Scalar.subi v1552 c0_i32_913
  let c1_i32_914 : BitVec 32 := 1#32
  let v1555 : BitVec 32 := Scalar.divsi v1553 c1_i32_914
  let v1556 : BitVec 32 := Scalar.muli v1555 c1_i32_914
  let v1557 : BitVec 32 := Scalar.addi c0_i32_913 v1556
  let c1_i32_915 : BitVec 32 := 1#32
  ⟨c0_i32_913, v1557, c1_i32_915⟩
def k0_off109 (v1181 : BitVec 32) (k0_t105 : Fin (k0_t105_loop v1181).trips) : Fin 1 → Nat :=
  let c0_i32_912 : BitVec 32 := 0#32
  let c0_i32_913 : BitVec 32 := 0#32
  let c1_i32_915 : BitVec 32 := 1#32
  let arg13 : BitVec 32 := Scf.iv c0_i32_913 c1_i32_915 k0_t105
  let c1_i32_911 : BitVec 32 := 1#32
  let v1572 : BitVec 32 := Scalar.muli arg13 c1_i32_911
  let v1573 : BitVec 32 := Scalar.addi c0_i32_912 v1572
  let c16_i32_921 : BitVec 32 := 16#32
  let v1574 : BitVec 32 := Scalar.muli v1573 c16_i32_921
  let v1575 : Index := Scalar.indexCast v1574
  ![v1575.toNat]
@[reducible] def k0_t106_loop (v1181 : BitVec 32) : Scf.Loop 32 :=
  let c0_i32_913 : BitVec 32 := 0#32
  let c0_i32_907 : BitVec 32 := 0#32
  let v1549 : BitVec 32 := Scalar.subi v1181 c0_i32_907
  let c1_i32_908 : BitVec 32 := 1#32
  let c1_i32_909 : BitVec 32 := 1#32
  let v1550 : BitVec 32 := Scalar.subi c1_i32_908 c1_i32_909
  let v1551 : BitVec 32 := Scalar.addi v1549 v1550
  let c1_i32_910 : BitVec 32 := 1#32
  let v1552 : BitVec 32 := Scalar.divsi v1551 c1_i32_910
  let v1553 : BitVec 32 := Scalar.subi v1552 c0_i32_913
  let c1_i32_914 : BitVec 32 := 1#32
  let v1555 : BitVec 32 := Scalar.divsi v1553 c1_i32_914
  let v1556 : BitVec 32 := Scalar.muli v1555 c1_i32_914
  let v1557 : BitVec 32 := Scalar.addi c0_i32_913 v1556
  let v1554 : BitVec 32 := Scalar.addi c0_i32_913 v1553
  let c1_i32_916 : BitVec 32 := 1#32
  ⟨v1557, v1554, c1_i32_916⟩
def k0_off110 (v1181 : BitVec 32) (k0_t106 : Fin (k0_t106_loop v1181).trips) : Fin 1 → Nat :=
  let c0_i32_912 : BitVec 32 := 0#32
  let c0_i32_913 : BitVec 32 := 0#32
  let c0_i32_907 : BitVec 32 := 0#32
  let v1549 : BitVec 32 := Scalar.subi v1181 c0_i32_907
  let c1_i32_908 : BitVec 32 := 1#32
  let c1_i32_909 : BitVec 32 := 1#32
  let v1550 : BitVec 32 := Scalar.subi c1_i32_908 c1_i32_909
  let v1551 : BitVec 32 := Scalar.addi v1549 v1550
  let c1_i32_910 : BitVec 32 := 1#32
  let v1552 : BitVec 32 := Scalar.divsi v1551 c1_i32_910
  let v1553 : BitVec 32 := Scalar.subi v1552 c0_i32_913
  let c1_i32_914 : BitVec 32 := 1#32
  let v1555 : BitVec 32 := Scalar.divsi v1553 c1_i32_914
  let v1556 : BitVec 32 := Scalar.muli v1555 c1_i32_914
  let v1557 : BitVec 32 := Scalar.addi c0_i32_913 v1556
  let c1_i32_916 : BitVec 32 := 1#32
  let arg13 : BitVec 32 := Scf.iv v1557 c1_i32_916 k0_t106
  let c1_i32_911 : BitVec 32 := 1#32
  let v1572 : BitVec 32 := Scalar.muli arg13 c1_i32_911
  let v1573 : BitVec 32 := Scalar.addi c0_i32_912 v1572
  let c16_i32_921 : BitVec 32 := 16#32
  let v1574 : BitVec 32 := Scalar.muli v1573 c16_i32_921
  let v1575 : Index := Scalar.indexCast v1574
  ![v1575.toNat]

def k0_chk17_0 (v1181 : BitVec 32) : Prop :=
  ((k0_t57_loop v1181).OK) ∧
  (∀ k0_t57 : Fin (k0_t57_loop v1181).trips, ∀ a, (k0_off61 v1181 k0_t57) a + S16.size a ≤ S16400.size a) ∧
  ((k0_t58_loop v1181).OK) ∧
  (∀ k0_t58 : Fin (k0_t58_loop v1181).trips, ∀ a, (k0_off62 v1181 k0_t58) a + S16.size a ≤ S16400.size a) ∧
  ((k0_t59_loop v1181).OK) ∧
  (∀ k0_t59 : Fin (k0_t59_loop v1181).trips, ∀ a, (k0_off63 v1181 k0_t59) a + S16.size a ≤ S16400.size a) ∧
  ((k0_t60_loop v1181).OK) ∧
  (∀ k0_t60 : Fin (k0_t60_loop v1181).trips, ∀ a, (k0_off64 v1181 k0_t60) a + S16.size a ≤ S16400.size a) ∧
  ((k0_t61_loop v1181).OK) ∧
  (∀ k0_t61 : Fin (k0_t61_loop v1181).trips, ∀ a, (k0_off65 v1181 k0_t61) a + S16.size a ≤ S16400.size a) ∧
  ((k0_t62_loop v1181).OK) ∧
  (∀ k0_t62 : Fin (k0_t62_loop v1181).trips, ∀ a, (k0_off66 v1181 k0_t62) a + S16.size a ≤ S16400.size a) ∧
  ((k0_t63_loop v1181).OK) ∧
  (∀ k0_t63 : Fin (k0_t63_loop v1181).trips, ∀ a, (k0_off67 v1181 k0_t63) a + S16.size a ≤ S16400.size a) ∧
  ((k0_t64_loop v1181).OK) ∧
  (∀ k0_t64 : Fin (k0_t64_loop v1181).trips, ∀ a, (k0_off68 v1181 k0_t64) a + S16.size a ≤ S16400.size a) ∧
  ((k0_t65_loop v1181).OK) ∧
  (∀ k0_t65 : Fin (k0_t65_loop v1181).trips, ∀ a, (k0_off69 v1181 k0_t65) a + S16.size a ≤ S16400.size a) ∧
  ((k0_t66_loop v1181).OK) ∧
  (∀ k0_t66 : Fin (k0_t66_loop v1181).trips, ∀ a, (k0_off70 v1181 k0_t66) a + S16.size a ≤ S16400.size a) ∧
  ((k0_t67_loop v1181).OK) ∧
  (∀ k0_t67 : Fin (k0_t67_loop v1181).trips, ∀ a, (k0_off71 v1181 k0_t67) a + S16.size a ≤ S16400.size a) ∧
  ((k0_t68_loop v1181).OK) ∧
  (∀ k0_t68 : Fin (k0_t68_loop v1181).trips, ∀ a, (k0_off72 v1181 k0_t68) a + S16.size a ≤ S16400.size a) ∧
  ((k0_t69_loop v1181).OK) ∧
  (∀ k0_t69 : Fin (k0_t69_loop v1181).trips, ∀ a, (k0_off73 v1181 k0_t69) a + S16.size a ≤ S16400.size a) ∧
  ((k0_t70_loop v1181).OK) ∧
  (∀ k0_t70 : Fin (k0_t70_loop v1181).trips, ∀ a, (k0_off74 v1181 k0_t70) a + S16.size a ≤ S16400.size a) ∧
  ((k0_t71_loop v1181).OK) ∧
  (∀ k0_t71 : Fin (k0_t71_loop v1181).trips, ∀ a, (k0_off75 v1181 k0_t71) a + S16.size a ≤ S16400.size a) ∧
  ((k0_t72_loop v1181).OK) ∧
  (∀ k0_t72 : Fin (k0_t72_loop v1181).trips, ∀ a, (k0_off76 v1181 k0_t72) a + S16.size a ≤ S16400.size a)
def k0_chk17_1 (v1181 : BitVec 32) : Prop :=
  ((k0_t73_loop v1181).OK) ∧
  (∀ k0_t73 : Fin (k0_t73_loop v1181).trips, ∀ a, (k0_off77 v1181 k0_t73) a + S16.size a ≤ S16400.size a) ∧
  ((k0_t74_loop v1181).OK) ∧
  (∀ k0_t74 : Fin (k0_t74_loop v1181).trips, ∀ a, (k0_off78 v1181 k0_t74) a + S16.size a ≤ S16400.size a) ∧
  ((k0_t75_loop v1181).OK) ∧
  (∀ k0_t75 : Fin (k0_t75_loop v1181).trips, ∀ a, (k0_off79 v1181 k0_t75) a + S16.size a ≤ S16400.size a) ∧
  ((k0_t76_loop v1181).OK) ∧
  (∀ k0_t76 : Fin (k0_t76_loop v1181).trips, ∀ a, (k0_off80 v1181 k0_t76) a + S16.size a ≤ S16400.size a) ∧
  ((k0_t77_loop v1181).OK) ∧
  (∀ k0_t77 : Fin (k0_t77_loop v1181).trips, ∀ a, (k0_off81 v1181 k0_t77) a + S16.size a ≤ S16400.size a) ∧
  ((k0_t78_loop v1181).OK) ∧
  (∀ k0_t78 : Fin (k0_t78_loop v1181).trips, ∀ a, (k0_off82 v1181 k0_t78) a + S16.size a ≤ S16400.size a) ∧
  ((k0_t79_loop v1181).OK) ∧
  (∀ k0_t79 : Fin (k0_t79_loop v1181).trips, ∀ a, (k0_off83 v1181 k0_t79) a + S16.size a ≤ S16400.size a) ∧
  ((k0_t80_loop v1181).OK) ∧
  (∀ k0_t80 : Fin (k0_t80_loop v1181).trips, ∀ a, (k0_off84 v1181 k0_t80) a + S16.size a ≤ S16400.size a) ∧
  ((k0_t81_loop v1181).OK) ∧
  (∀ k0_t81 : Fin (k0_t81_loop v1181).trips, ∀ a, (k0_off85 v1181 k0_t81) a + S16.size a ≤ S16400.size a) ∧
  ((k0_t82_loop v1181).OK) ∧
  (∀ k0_t82 : Fin (k0_t82_loop v1181).trips, ∀ a, (k0_off86 v1181 k0_t82) a + S16.size a ≤ S16400.size a) ∧
  ((k0_t83_loop v1181).OK) ∧
  (∀ k0_t83 : Fin (k0_t83_loop v1181).trips, ∀ a, (k0_off87 v1181 k0_t83) a + S16.size a ≤ S16400.size a) ∧
  ((k0_t84_loop v1181).OK) ∧
  (∀ k0_t84 : Fin (k0_t84_loop v1181).trips, ∀ a, (k0_off88 v1181 k0_t84) a + S16.size a ≤ S16400.size a) ∧
  ((k0_t85_loop v1181).OK) ∧
  (∀ k0_t85 : Fin (k0_t85_loop v1181).trips, ∀ a, (k0_off89 v1181 k0_t85) a + S16.size a ≤ S16400.size a) ∧
  ((k0_t86_loop v1181).OK) ∧
  (∀ k0_t86 : Fin (k0_t86_loop v1181).trips, ∀ a, (k0_off90 v1181 k0_t86) a + S16.size a ≤ S16400.size a) ∧
  ((k0_t87_loop v1181).OK) ∧
  (∀ k0_t87 : Fin (k0_t87_loop v1181).trips, ∀ a, (k0_off91 v1181 k0_t87) a + S16.size a ≤ S16400.size a) ∧
  ((k0_t88_loop v1181).OK) ∧
  (∀ k0_t88 : Fin (k0_t88_loop v1181).trips, ∀ a, (k0_off92 v1181 k0_t88) a + S16.size a ≤ S16400.size a)
def k0_chk17_2 (v1181 : BitVec 32) : Prop :=
  ((k0_t89_loop v1181).OK) ∧
  (∀ k0_t89 : Fin (k0_t89_loop v1181).trips, ∀ a, (k0_off93 v1181 k0_t89) a + S16.size a ≤ S16400.size a) ∧
  ((k0_t90_loop v1181).OK) ∧
  (∀ k0_t90 : Fin (k0_t90_loop v1181).trips, ∀ a, (k0_off94 v1181 k0_t90) a + S16.size a ≤ S16400.size a) ∧
  ((k0_t91_loop v1181).OK) ∧
  (∀ k0_t91 : Fin (k0_t91_loop v1181).trips, ∀ a, (k0_off95 v1181 k0_t91) a + S16.size a ≤ S16400.size a) ∧
  ((k0_t92_loop v1181).OK) ∧
  (∀ k0_t92 : Fin (k0_t92_loop v1181).trips, ∀ a, (k0_off96 v1181 k0_t92) a + S16.size a ≤ S16400.size a) ∧
  ((k0_t93_loop v1181).OK) ∧
  (∀ k0_t93 : Fin (k0_t93_loop v1181).trips, ∀ a, (k0_off97 v1181 k0_t93) a + S16.size a ≤ S16400.size a) ∧
  ((k0_t94_loop v1181).OK) ∧
  (∀ k0_t94 : Fin (k0_t94_loop v1181).trips, ∀ a, (k0_off98 v1181 k0_t94) a + S16.size a ≤ S16400.size a) ∧
  ((k0_t95_loop v1181).OK) ∧
  (∀ k0_t95 : Fin (k0_t95_loop v1181).trips, ∀ a, (k0_off99 v1181 k0_t95) a + S16.size a ≤ S16400.size a) ∧
  ((k0_t96_loop v1181).OK) ∧
  (∀ k0_t96 : Fin (k0_t96_loop v1181).trips, ∀ a, (k0_off100 v1181 k0_t96) a + S16.size a ≤ S16400.size a) ∧
  ((k0_t97_loop v1181).OK) ∧
  (∀ k0_t97 : Fin (k0_t97_loop v1181).trips, ∀ a, (k0_off101 v1181 k0_t97) a + S16.size a ≤ S16400.size a) ∧
  ((k0_t98_loop v1181).OK) ∧
  (∀ k0_t98 : Fin (k0_t98_loop v1181).trips, ∀ a, (k0_off102 v1181 k0_t98) a + S16.size a ≤ S16400.size a) ∧
  ((k0_t99_loop v1181).OK) ∧
  (∀ k0_t99 : Fin (k0_t99_loop v1181).trips, ∀ a, (k0_off103 v1181 k0_t99) a + S16.size a ≤ S16400.size a) ∧
  ((k0_t100_loop v1181).OK) ∧
  (∀ k0_t100 : Fin (k0_t100_loop v1181).trips, ∀ a, (k0_off104 v1181 k0_t100) a + S16.size a ≤ S16400.size a) ∧
  ((k0_t101_loop v1181).OK) ∧
  (∀ k0_t101 : Fin (k0_t101_loop v1181).trips, ∀ a, (k0_off105 v1181 k0_t101) a + S16.size a ≤ S16400.size a) ∧
  ((k0_t102_loop v1181).OK) ∧
  (∀ k0_t102 : Fin (k0_t102_loop v1181).trips, ∀ a, (k0_off106 v1181 k0_t102) a + S16.size a ≤ S16400.size a) ∧
  ((k0_t103_loop v1181).OK) ∧
  (∀ k0_t103 : Fin (k0_t103_loop v1181).trips, ∀ a, (k0_off107 v1181 k0_t103) a + S16.size a ≤ S16400.size a) ∧
  ((k0_t104_loop v1181).OK) ∧
  (∀ k0_t104 : Fin (k0_t104_loop v1181).trips, ∀ a, (k0_off108 v1181 k0_t104) a + S16.size a ≤ S16400.size a)
def k0_chk17_3 (v1181 : BitVec 32) : Prop :=
  ((k0_t105_loop v1181).OK) ∧
  (∀ k0_t105 : Fin (k0_t105_loop v1181).trips, ∀ a, (k0_off109 v1181 k0_t105) a + S16.size a ≤ S16400.size a) ∧
  ((k0_t106_loop v1181).OK) ∧
  (∀ k0_t106 : Fin (k0_t106_loop v1181).trips, ∀ a, (k0_off110 v1181 k0_t106) a + S16.size a ≤ S16400.size a)
def k0_chk17 (v1181 : BitVec 32) : Prop :=
  k0_chk17_0 v1181 ∧
  k0_chk17_1 v1181 ∧
  k0_chk17_2 v1181 ∧
  k0_chk17_3 v1181
theorem k0_t57_ok : ∀ (v1181 : BitVec 32) (k0_hw17 : k0_chk17 v1181), (k0_t57_loop v1181).OK := fun v1181 k0_hw17 => k0_hw17.1.1
theorem k0_off61_inb : ∀ (v1181 : BitVec 32) (k0_hw17 : k0_chk17 v1181) (k0_t57 : Fin (k0_t57_loop v1181).trips), ∀ a, (k0_off61 v1181 k0_t57) a + S16.size a ≤ S16400.size a := fun v1181 k0_hw17 k0_t57 => k0_hw17.1.2.1 k0_t57
theorem k0_t58_ok : ∀ (v1181 : BitVec 32) (k0_hw17 : k0_chk17 v1181), (k0_t58_loop v1181).OK := fun v1181 k0_hw17 => k0_hw17.1.2.2.1
theorem k0_off62_inb : ∀ (v1181 : BitVec 32) (k0_hw17 : k0_chk17 v1181) (k0_t58 : Fin (k0_t58_loop v1181).trips), ∀ a, (k0_off62 v1181 k0_t58) a + S16.size a ≤ S16400.size a := fun v1181 k0_hw17 k0_t58 => k0_hw17.1.2.2.2.1 k0_t58
theorem k0_t59_ok : ∀ (v1181 : BitVec 32) (k0_hw17 : k0_chk17 v1181), (k0_t59_loop v1181).OK := fun v1181 k0_hw17 => k0_hw17.1.2.2.2.2.1
theorem k0_off63_inb : ∀ (v1181 : BitVec 32) (k0_hw17 : k0_chk17 v1181) (k0_t59 : Fin (k0_t59_loop v1181).trips), ∀ a, (k0_off63 v1181 k0_t59) a + S16.size a ≤ S16400.size a := fun v1181 k0_hw17 k0_t59 => k0_hw17.1.2.2.2.2.2.1 k0_t59
theorem k0_t60_ok : ∀ (v1181 : BitVec 32) (k0_hw17 : k0_chk17 v1181), (k0_t60_loop v1181).OK := fun v1181 k0_hw17 => k0_hw17.1.2.2.2.2.2.2.1
theorem k0_off64_inb : ∀ (v1181 : BitVec 32) (k0_hw17 : k0_chk17 v1181) (k0_t60 : Fin (k0_t60_loop v1181).trips), ∀ a, (k0_off64 v1181 k0_t60) a + S16.size a ≤ S16400.size a := fun v1181 k0_hw17 k0_t60 => k0_hw17.1.2.2.2.2.2.2.2.1 k0_t60
theorem k0_t61_ok : ∀ (v1181 : BitVec 32) (k0_hw17 : k0_chk17 v1181), (k0_t61_loop v1181).OK := fun v1181 k0_hw17 => k0_hw17.1.2.2.2.2.2.2.2.2.1
theorem k0_off65_inb : ∀ (v1181 : BitVec 32) (k0_hw17 : k0_chk17 v1181) (k0_t61 : Fin (k0_t61_loop v1181).trips), ∀ a, (k0_off65 v1181 k0_t61) a + S16.size a ≤ S16400.size a := fun v1181 k0_hw17 k0_t61 => k0_hw17.1.2.2.2.2.2.2.2.2.2.1 k0_t61
theorem k0_t62_ok : ∀ (v1181 : BitVec 32) (k0_hw17 : k0_chk17 v1181), (k0_t62_loop v1181).OK := fun v1181 k0_hw17 => k0_hw17.1.2.2.2.2.2.2.2.2.2.2.1
theorem k0_off66_inb : ∀ (v1181 : BitVec 32) (k0_hw17 : k0_chk17 v1181) (k0_t62 : Fin (k0_t62_loop v1181).trips), ∀ a, (k0_off66 v1181 k0_t62) a + S16.size a ≤ S16400.size a := fun v1181 k0_hw17 k0_t62 => k0_hw17.1.2.2.2.2.2.2.2.2.2.2.2.1 k0_t62
theorem k0_t63_ok : ∀ (v1181 : BitVec 32) (k0_hw17 : k0_chk17 v1181), (k0_t63_loop v1181).OK := fun v1181 k0_hw17 => k0_hw17.1.2.2.2.2.2.2.2.2.2.2.2.2.1
theorem k0_off67_inb : ∀ (v1181 : BitVec 32) (k0_hw17 : k0_chk17 v1181) (k0_t63 : Fin (k0_t63_loop v1181).trips), ∀ a, (k0_off67 v1181 k0_t63) a + S16.size a ≤ S16400.size a := fun v1181 k0_hw17 k0_t63 => k0_hw17.1.2.2.2.2.2.2.2.2.2.2.2.2.2.1 k0_t63
theorem k0_t64_ok : ∀ (v1181 : BitVec 32) (k0_hw17 : k0_chk17 v1181), (k0_t64_loop v1181).OK := fun v1181 k0_hw17 => k0_hw17.1.2.2.2.2.2.2.2.2.2.2.2.2.2.2.1
theorem k0_off68_inb : ∀ (v1181 : BitVec 32) (k0_hw17 : k0_chk17 v1181) (k0_t64 : Fin (k0_t64_loop v1181).trips), ∀ a, (k0_off68 v1181 k0_t64) a + S16.size a ≤ S16400.size a := fun v1181 k0_hw17 k0_t64 => k0_hw17.1.2.2.2.2.2.2.2.2.2.2.2.2.2.2.2.1 k0_t64
theorem k0_t65_ok : ∀ (v1181 : BitVec 32) (k0_hw17 : k0_chk17 v1181), (k0_t65_loop v1181).OK := fun v1181 k0_hw17 => k0_hw17.1.2.2.2.2.2.2.2.2.2.2.2.2.2.2.2.2.1
theorem k0_off69_inb : ∀ (v1181 : BitVec 32) (k0_hw17 : k0_chk17 v1181) (k0_t65 : Fin (k0_t65_loop v1181).trips), ∀ a, (k0_off69 v1181 k0_t65) a + S16.size a ≤ S16400.size a := fun v1181 k0_hw17 k0_t65 => k0_hw17.1.2.2.2.2.2.2.2.2.2.2.2.2.2.2.2.2.2.1 k0_t65
theorem k0_t66_ok : ∀ (v1181 : BitVec 32) (k0_hw17 : k0_chk17 v1181), (k0_t66_loop v1181).OK := fun v1181 k0_hw17 => k0_hw17.1.2.2.2.2.2.2.2.2.2.2.2.2.2.2.2.2.2.2.1
theorem k0_off70_inb : ∀ (v1181 : BitVec 32) (k0_hw17 : k0_chk17 v1181) (k0_t66 : Fin (k0_t66_loop v1181).trips), ∀ a, (k0_off70 v1181 k0_t66) a + S16.size a ≤ S16400.size a := fun v1181 k0_hw17 k0_t66 => k0_hw17.1.2.2.2.2.2.2.2.2.2.2.2.2.2.2.2.2.2.2.2.1 k0_t66
theorem k0_t67_ok : ∀ (v1181 : BitVec 32) (k0_hw17 : k0_chk17 v1181), (k0_t67_loop v1181).OK := fun v1181 k0_hw17 => k0_hw17.1.2.2.2.2.2.2.2.2.2.2.2.2.2.2.2.2.2.2.2.2.1
theorem k0_off71_inb : ∀ (v1181 : BitVec 32) (k0_hw17 : k0_chk17 v1181) (k0_t67 : Fin (k0_t67_loop v1181).trips), ∀ a, (k0_off71 v1181 k0_t67) a + S16.size a ≤ S16400.size a := fun v1181 k0_hw17 k0_t67 => k0_hw17.1.2.2.2.2.2.2.2.2.2.2.2.2.2.2.2.2.2.2.2.2.2.1 k0_t67
theorem k0_t68_ok : ∀ (v1181 : BitVec 32) (k0_hw17 : k0_chk17 v1181), (k0_t68_loop v1181).OK := fun v1181 k0_hw17 => k0_hw17.1.2.2.2.2.2.2.2.2.2.2.2.2.2.2.2.2.2.2.2.2.2.2.1
theorem k0_off72_inb : ∀ (v1181 : BitVec 32) (k0_hw17 : k0_chk17 v1181) (k0_t68 : Fin (k0_t68_loop v1181).trips), ∀ a, (k0_off72 v1181 k0_t68) a + S16.size a ≤ S16400.size a := fun v1181 k0_hw17 k0_t68 => k0_hw17.1.2.2.2.2.2.2.2.2.2.2.2.2.2.2.2.2.2.2.2.2.2.2.2.1 k0_t68
theorem k0_t69_ok : ∀ (v1181 : BitVec 32) (k0_hw17 : k0_chk17 v1181), (k0_t69_loop v1181).OK := fun v1181 k0_hw17 => k0_hw17.1.2.2.2.2.2.2.2.2.2.2.2.2.2.2.2.2.2.2.2.2.2.2.2.2.1
theorem k0_off73_inb : ∀ (v1181 : BitVec 32) (k0_hw17 : k0_chk17 v1181) (k0_t69 : Fin (k0_t69_loop v1181).trips), ∀ a, (k0_off73 v1181 k0_t69) a + S16.size a ≤ S16400.size a := fun v1181 k0_hw17 k0_t69 => k0_hw17.1.2.2.2.2.2.2.2.2.2.2.2.2.2.2.2.2.2.2.2.2.2.2.2.2.2.1 k0_t69
theorem k0_t70_ok : ∀ (v1181 : BitVec 32) (k0_hw17 : k0_chk17 v1181), (k0_t70_loop v1181).OK := fun v1181 k0_hw17 => k0_hw17.1.2.2.2.2.2.2.2.2.2.2.2.2.2.2.2.2.2.2.2.2.2.2.2.2.2.2.1
theorem k0_off74_inb : ∀ (v1181 : BitVec 32) (k0_hw17 : k0_chk17 v1181) (k0_t70 : Fin (k0_t70_loop v1181).trips), ∀ a, (k0_off74 v1181 k0_t70) a + S16.size a ≤ S16400.size a := fun v1181 k0_hw17 k0_t70 => k0_hw17.1.2.2.2.2.2.2.2.2.2.2.2.2.2.2.2.2.2.2.2.2.2.2.2.2.2.2.2.1 k0_t70
theorem k0_t71_ok : ∀ (v1181 : BitVec 32) (k0_hw17 : k0_chk17 v1181), (k0_t71_loop v1181).OK := fun v1181 k0_hw17 => k0_hw17.1.2.2.2.2.2.2.2.2.2.2.2.2.2.2.2.2.2.2.2.2.2.2.2.2.2.2.2.2.1
theorem k0_off75_inb : ∀ (v1181 : BitVec 32) (k0_hw17 : k0_chk17 v1181) (k0_t71 : Fin (k0_t71_loop v1181).trips), ∀ a, (k0_off75 v1181 k0_t71) a + S16.size a ≤ S16400.size a := fun v1181 k0_hw17 k0_t71 => k0_hw17.1.2.2.2.2.2.2.2.2.2.2.2.2.2.2.2.2.2.2.2.2.2.2.2.2.2.2.2.2.2.1 k0_t71
theorem k0_t72_ok : ∀ (v1181 : BitVec 32) (k0_hw17 : k0_chk17 v1181), (k0_t72_loop v1181).OK := fun v1181 k0_hw17 => k0_hw17.1.2.2.2.2.2.2.2.2.2.2.2.2.2.2.2.2.2.2.2.2.2.2.2.2.2.2.2.2.2.2.1
theorem k0_off76_inb : ∀ (v1181 : BitVec 32) (k0_hw17 : k0_chk17 v1181) (k0_t72 : Fin (k0_t72_loop v1181).trips), ∀ a, (k0_off76 v1181 k0_t72) a + S16.size a ≤ S16400.size a := fun v1181 k0_hw17 k0_t72 => k0_hw17.1.2.2.2.2.2.2.2.2.2.2.2.2.2.2.2.2.2.2.2.2.2.2.2.2.2.2.2.2.2.2.2 k0_t72
theorem k0_t73_ok : ∀ (v1181 : BitVec 32) (k0_hw17 : k0_chk17 v1181), (k0_t73_loop v1181).OK := fun v1181 k0_hw17 => k0_hw17.2.1.1
theorem k0_off77_inb : ∀ (v1181 : BitVec 32) (k0_hw17 : k0_chk17 v1181) (k0_t73 : Fin (k0_t73_loop v1181).trips), ∀ a, (k0_off77 v1181 k0_t73) a + S16.size a ≤ S16400.size a := fun v1181 k0_hw17 k0_t73 => k0_hw17.2.1.2.1 k0_t73
theorem k0_t74_ok : ∀ (v1181 : BitVec 32) (k0_hw17 : k0_chk17 v1181), (k0_t74_loop v1181).OK := fun v1181 k0_hw17 => k0_hw17.2.1.2.2.1
theorem k0_off78_inb : ∀ (v1181 : BitVec 32) (k0_hw17 : k0_chk17 v1181) (k0_t74 : Fin (k0_t74_loop v1181).trips), ∀ a, (k0_off78 v1181 k0_t74) a + S16.size a ≤ S16400.size a := fun v1181 k0_hw17 k0_t74 => k0_hw17.2.1.2.2.2.1 k0_t74
theorem k0_t75_ok : ∀ (v1181 : BitVec 32) (k0_hw17 : k0_chk17 v1181), (k0_t75_loop v1181).OK := fun v1181 k0_hw17 => k0_hw17.2.1.2.2.2.2.1
theorem k0_off79_inb : ∀ (v1181 : BitVec 32) (k0_hw17 : k0_chk17 v1181) (k0_t75 : Fin (k0_t75_loop v1181).trips), ∀ a, (k0_off79 v1181 k0_t75) a + S16.size a ≤ S16400.size a := fun v1181 k0_hw17 k0_t75 => k0_hw17.2.1.2.2.2.2.2.1 k0_t75
theorem k0_t76_ok : ∀ (v1181 : BitVec 32) (k0_hw17 : k0_chk17 v1181), (k0_t76_loop v1181).OK := fun v1181 k0_hw17 => k0_hw17.2.1.2.2.2.2.2.2.1
theorem k0_off80_inb : ∀ (v1181 : BitVec 32) (k0_hw17 : k0_chk17 v1181) (k0_t76 : Fin (k0_t76_loop v1181).trips), ∀ a, (k0_off80 v1181 k0_t76) a + S16.size a ≤ S16400.size a := fun v1181 k0_hw17 k0_t76 => k0_hw17.2.1.2.2.2.2.2.2.2.1 k0_t76
theorem k0_t77_ok : ∀ (v1181 : BitVec 32) (k0_hw17 : k0_chk17 v1181), (k0_t77_loop v1181).OK := fun v1181 k0_hw17 => k0_hw17.2.1.2.2.2.2.2.2.2.2.1
theorem k0_off81_inb : ∀ (v1181 : BitVec 32) (k0_hw17 : k0_chk17 v1181) (k0_t77 : Fin (k0_t77_loop v1181).trips), ∀ a, (k0_off81 v1181 k0_t77) a + S16.size a ≤ S16400.size a := fun v1181 k0_hw17 k0_t77 => k0_hw17.2.1.2.2.2.2.2.2.2.2.2.1 k0_t77
theorem k0_t78_ok : ∀ (v1181 : BitVec 32) (k0_hw17 : k0_chk17 v1181), (k0_t78_loop v1181).OK := fun v1181 k0_hw17 => k0_hw17.2.1.2.2.2.2.2.2.2.2.2.2.1
theorem k0_off82_inb : ∀ (v1181 : BitVec 32) (k0_hw17 : k0_chk17 v1181) (k0_t78 : Fin (k0_t78_loop v1181).trips), ∀ a, (k0_off82 v1181 k0_t78) a + S16.size a ≤ S16400.size a := fun v1181 k0_hw17 k0_t78 => k0_hw17.2.1.2.2.2.2.2.2.2.2.2.2.2.1 k0_t78
theorem k0_t79_ok : ∀ (v1181 : BitVec 32) (k0_hw17 : k0_chk17 v1181), (k0_t79_loop v1181).OK := fun v1181 k0_hw17 => k0_hw17.2.1.2.2.2.2.2.2.2.2.2.2.2.2.1
theorem k0_off83_inb : ∀ (v1181 : BitVec 32) (k0_hw17 : k0_chk17 v1181) (k0_t79 : Fin (k0_t79_loop v1181).trips), ∀ a, (k0_off83 v1181 k0_t79) a + S16.size a ≤ S16400.size a := fun v1181 k0_hw17 k0_t79 => k0_hw17.2.1.2.2.2.2.2.2.2.2.2.2.2.2.2.1 k0_t79
theorem k0_t80_ok : ∀ (v1181 : BitVec 32) (k0_hw17 : k0_chk17 v1181), (k0_t80_loop v1181).OK := fun v1181 k0_hw17 => k0_hw17.2.1.2.2.2.2.2.2.2.2.2.2.2.2.2.2.1
theorem k0_off84_inb : ∀ (v1181 : BitVec 32) (k0_hw17 : k0_chk17 v1181) (k0_t80 : Fin (k0_t80_loop v1181).trips), ∀ a, (k0_off84 v1181 k0_t80) a + S16.size a ≤ S16400.size a := fun v1181 k0_hw17 k0_t80 => k0_hw17.2.1.2.2.2.2.2.2.2.2.2.2.2.2.2.2.2.1 k0_t80
theorem k0_t81_ok : ∀ (v1181 : BitVec 32) (k0_hw17 : k0_chk17 v1181), (k0_t81_loop v1181).OK := fun v1181 k0_hw17 => k0_hw17.2.1.2.2.2.2.2.2.2.2.2.2.2.2.2.2.2.2.1
theorem k0_off85_inb : ∀ (v1181 : BitVec 32) (k0_hw17 : k0_chk17 v1181) (k0_t81 : Fin (k0_t81_loop v1181).trips), ∀ a, (k0_off85 v1181 k0_t81) a + S16.size a ≤ S16400.size a := fun v1181 k0_hw17 k0_t81 => k0_hw17.2.1.2.2.2.2.2.2.2.2.2.2.2.2.2.2.2.2.2.1 k0_t81
theorem k0_t82_ok : ∀ (v1181 : BitVec 32) (k0_hw17 : k0_chk17 v1181), (k0_t82_loop v1181).OK := fun v1181 k0_hw17 => k0_hw17.2.1.2.2.2.2.2.2.2.2.2.2.2.2.2.2.2.2.2.2.1
theorem k0_off86_inb : ∀ (v1181 : BitVec 32) (k0_hw17 : k0_chk17 v1181) (k0_t82 : Fin (k0_t82_loop v1181).trips), ∀ a, (k0_off86 v1181 k0_t82) a + S16.size a ≤ S16400.size a := fun v1181 k0_hw17 k0_t82 => k0_hw17.2.1.2.2.2.2.2.2.2.2.2.2.2.2.2.2.2.2.2.2.2.1 k0_t82
theorem k0_t83_ok : ∀ (v1181 : BitVec 32) (k0_hw17 : k0_chk17 v1181), (k0_t83_loop v1181).OK := fun v1181 k0_hw17 => k0_hw17.2.1.2.2.2.2.2.2.2.2.2.2.2.2.2.2.2.2.2.2.2.2.1
theorem k0_off87_inb : ∀ (v1181 : BitVec 32) (k0_hw17 : k0_chk17 v1181) (k0_t83 : Fin (k0_t83_loop v1181).trips), ∀ a, (k0_off87 v1181 k0_t83) a + S16.size a ≤ S16400.size a := fun v1181 k0_hw17 k0_t83 => k0_hw17.2.1.2.2.2.2.2.2.2.2.2.2.2.2.2.2.2.2.2.2.2.2.2.1 k0_t83
theorem k0_t84_ok : ∀ (v1181 : BitVec 32) (k0_hw17 : k0_chk17 v1181), (k0_t84_loop v1181).OK := fun v1181 k0_hw17 => k0_hw17.2.1.2.2.2.2.2.2.2.2.2.2.2.2.2.2.2.2.2.2.2.2.2.2.1
theorem k0_off88_inb : ∀ (v1181 : BitVec 32) (k0_hw17 : k0_chk17 v1181) (k0_t84 : Fin (k0_t84_loop v1181).trips), ∀ a, (k0_off88 v1181 k0_t84) a + S16.size a ≤ S16400.size a := fun v1181 k0_hw17 k0_t84 => k0_hw17.2.1.2.2.2.2.2.2.2.2.2.2.2.2.2.2.2.2.2.2.2.2.2.2.2.1 k0_t84
theorem k0_t85_ok : ∀ (v1181 : BitVec 32) (k0_hw17 : k0_chk17 v1181), (k0_t85_loop v1181).OK := fun v1181 k0_hw17 => k0_hw17.2.1.2.2.2.2.2.2.2.2.2.2.2.2.2.2.2.2.2.2.2.2.2.2.2.2.1
theorem k0_off89_inb : ∀ (v1181 : BitVec 32) (k0_hw17 : k0_chk17 v1181) (k0_t85 : Fin (k0_t85_loop v1181).trips), ∀ a, (k0_off89 v1181 k0_t85) a + S16.size a ≤ S16400.size a := fun v1181 k0_hw17 k0_t85 => k0_hw17.2.1.2.2.2.2.2.2.2.2.2.2.2.2.2.2.2.2.2.2.2.2.2.2.2.2.2.1 k0_t85
theorem k0_t86_ok : ∀ (v1181 : BitVec 32) (k0_hw17 : k0_chk17 v1181), (k0_t86_loop v1181).OK := fun v1181 k0_hw17 => k0_hw17.2.1.2.2.2.2.2.2.2.2.2.2.2.2.2.2.2.2.2.2.2.2.2.2.2.2.2.2.1
theorem k0_off90_inb : ∀ (v1181 : BitVec 32) (k0_hw17 : k0_chk17 v1181) (k0_t86 : Fin (k0_t86_loop v1181).trips), ∀ a, (k0_off90 v1181 k0_t86) a + S16.size a ≤ S16400.size a := fun v1181 k0_hw17 k0_t86 => k0_hw17.2.1.2.2.2.2.2.2.2.2.2.2.2.2.2.2.2.2.2.2.2.2.2.2.2.2.2.2.2.1 k0_t86
theorem k0_t87_ok : ∀ (v1181 : BitVec 32) (k0_hw17 : k0_chk17 v1181), (k0_t87_loop v1181).OK := fun v1181 k0_hw17 => k0_hw17.2.1.2.2.2.2.2.2.2.2.2.2.2.2.2.2.2.2.2.2.2.2.2.2.2.2.2.2.2.2.1
theorem k0_off91_inb : ∀ (v1181 : BitVec 32) (k0_hw17 : k0_chk17 v1181) (k0_t87 : Fin (k0_t87_loop v1181).trips), ∀ a, (k0_off91 v1181 k0_t87) a + S16.size a ≤ S16400.size a := fun v1181 k0_hw17 k0_t87 => k0_hw17.2.1.2.2.2.2.2.2.2.2.2.2.2.2.2.2.2.2.2.2.2.2.2.2.2.2.2.2.2.2.2.1 k0_t87
theorem k0_t88_ok : ∀ (v1181 : BitVec 32) (k0_hw17 : k0_chk17 v1181), (k0_t88_loop v1181).OK := fun v1181 k0_hw17 => k0_hw17.2.1.2.2.2.2.2.2.2.2.2.2.2.2.2.2.2.2.2.2.2.2.2.2.2.2.2.2.2.2.2.2.1
theorem k0_off92_inb : ∀ (v1181 : BitVec 32) (k0_hw17 : k0_chk17 v1181) (k0_t88 : Fin (k0_t88_loop v1181).trips), ∀ a, (k0_off92 v1181 k0_t88) a + S16.size a ≤ S16400.size a := fun v1181 k0_hw17 k0_t88 => k0_hw17.2.1.2.2.2.2.2.2.2.2.2.2.2.2.2.2.2.2.2.2.2.2.2.2.2.2.2.2.2.2.2.2.2 k0_t88
theorem k0_t89_ok : ∀ (v1181 : BitVec 32) (k0_hw17 : k0_chk17 v1181), (k0_t89_loop v1181).OK := fun v1181 k0_hw17 => k0_hw17.2.2.1.1
theorem k0_off93_inb : ∀ (v1181 : BitVec 32) (k0_hw17 : k0_chk17 v1181) (k0_t89 : Fin (k0_t89_loop v1181).trips), ∀ a, (k0_off93 v1181 k0_t89) a + S16.size a ≤ S16400.size a := fun v1181 k0_hw17 k0_t89 => k0_hw17.2.2.1.2.1 k0_t89
theorem k0_t90_ok : ∀ (v1181 : BitVec 32) (k0_hw17 : k0_chk17 v1181), (k0_t90_loop v1181).OK := fun v1181 k0_hw17 => k0_hw17.2.2.1.2.2.1
theorem k0_off94_inb : ∀ (v1181 : BitVec 32) (k0_hw17 : k0_chk17 v1181) (k0_t90 : Fin (k0_t90_loop v1181).trips), ∀ a, (k0_off94 v1181 k0_t90) a + S16.size a ≤ S16400.size a := fun v1181 k0_hw17 k0_t90 => k0_hw17.2.2.1.2.2.2.1 k0_t90
theorem k0_t91_ok : ∀ (v1181 : BitVec 32) (k0_hw17 : k0_chk17 v1181), (k0_t91_loop v1181).OK := fun v1181 k0_hw17 => k0_hw17.2.2.1.2.2.2.2.1
theorem k0_off95_inb : ∀ (v1181 : BitVec 32) (k0_hw17 : k0_chk17 v1181) (k0_t91 : Fin (k0_t91_loop v1181).trips), ∀ a, (k0_off95 v1181 k0_t91) a + S16.size a ≤ S16400.size a := fun v1181 k0_hw17 k0_t91 => k0_hw17.2.2.1.2.2.2.2.2.1 k0_t91
theorem k0_t92_ok : ∀ (v1181 : BitVec 32) (k0_hw17 : k0_chk17 v1181), (k0_t92_loop v1181).OK := fun v1181 k0_hw17 => k0_hw17.2.2.1.2.2.2.2.2.2.1
theorem k0_off96_inb : ∀ (v1181 : BitVec 32) (k0_hw17 : k0_chk17 v1181) (k0_t92 : Fin (k0_t92_loop v1181).trips), ∀ a, (k0_off96 v1181 k0_t92) a + S16.size a ≤ S16400.size a := fun v1181 k0_hw17 k0_t92 => k0_hw17.2.2.1.2.2.2.2.2.2.2.1 k0_t92
theorem k0_t93_ok : ∀ (v1181 : BitVec 32) (k0_hw17 : k0_chk17 v1181), (k0_t93_loop v1181).OK := fun v1181 k0_hw17 => k0_hw17.2.2.1.2.2.2.2.2.2.2.2.1
theorem k0_off97_inb : ∀ (v1181 : BitVec 32) (k0_hw17 : k0_chk17 v1181) (k0_t93 : Fin (k0_t93_loop v1181).trips), ∀ a, (k0_off97 v1181 k0_t93) a + S16.size a ≤ S16400.size a := fun v1181 k0_hw17 k0_t93 => k0_hw17.2.2.1.2.2.2.2.2.2.2.2.2.1 k0_t93
theorem k0_t94_ok : ∀ (v1181 : BitVec 32) (k0_hw17 : k0_chk17 v1181), (k0_t94_loop v1181).OK := fun v1181 k0_hw17 => k0_hw17.2.2.1.2.2.2.2.2.2.2.2.2.2.1
theorem k0_off98_inb : ∀ (v1181 : BitVec 32) (k0_hw17 : k0_chk17 v1181) (k0_t94 : Fin (k0_t94_loop v1181).trips), ∀ a, (k0_off98 v1181 k0_t94) a + S16.size a ≤ S16400.size a := fun v1181 k0_hw17 k0_t94 => k0_hw17.2.2.1.2.2.2.2.2.2.2.2.2.2.2.1 k0_t94
theorem k0_t95_ok : ∀ (v1181 : BitVec 32) (k0_hw17 : k0_chk17 v1181), (k0_t95_loop v1181).OK := fun v1181 k0_hw17 => k0_hw17.2.2.1.2.2.2.2.2.2.2.2.2.2.2.2.1
theorem k0_off99_inb : ∀ (v1181 : BitVec 32) (k0_hw17 : k0_chk17 v1181) (k0_t95 : Fin (k0_t95_loop v1181).trips), ∀ a, (k0_off99 v1181 k0_t95) a + S16.size a ≤ S16400.size a := fun v1181 k0_hw17 k0_t95 => k0_hw17.2.2.1.2.2.2.2.2.2.2.2.2.2.2.2.2.1 k0_t95
theorem k0_t96_ok : ∀ (v1181 : BitVec 32) (k0_hw17 : k0_chk17 v1181), (k0_t96_loop v1181).OK := fun v1181 k0_hw17 => k0_hw17.2.2.1.2.2.2.2.2.2.2.2.2.2.2.2.2.2.1
theorem k0_off100_inb : ∀ (v1181 : BitVec 32) (k0_hw17 : k0_chk17 v1181) (k0_t96 : Fin (k0_t96_loop v1181).trips), ∀ a, (k0_off100 v1181 k0_t96) a + S16.size a ≤ S16400.size a := fun v1181 k0_hw17 k0_t96 => k0_hw17.2.2.1.2.2.2.2.2.2.2.2.2.2.2.2.2.2.2.1 k0_t96
theorem k0_t97_ok : ∀ (v1181 : BitVec 32) (k0_hw17 : k0_chk17 v1181), (k0_t97_loop v1181).OK := fun v1181 k0_hw17 => k0_hw17.2.2.1.2.2.2.2.2.2.2.2.2.2.2.2.2.2.2.2.1
theorem k0_off101_inb : ∀ (v1181 : BitVec 32) (k0_hw17 : k0_chk17 v1181) (k0_t97 : Fin (k0_t97_loop v1181).trips), ∀ a, (k0_off101 v1181 k0_t97) a + S16.size a ≤ S16400.size a := fun v1181 k0_hw17 k0_t97 => k0_hw17.2.2.1.2.2.2.2.2.2.2.2.2.2.2.2.2.2.2.2.2.1 k0_t97
theorem k0_t98_ok : ∀ (v1181 : BitVec 32) (k0_hw17 : k0_chk17 v1181), (k0_t98_loop v1181).OK := fun v1181 k0_hw17 => k0_hw17.2.2.1.2.2.2.2.2.2.2.2.2.2.2.2.2.2.2.2.2.2.1
theorem k0_off102_inb : ∀ (v1181 : BitVec 32) (k0_hw17 : k0_chk17 v1181) (k0_t98 : Fin (k0_t98_loop v1181).trips), ∀ a, (k0_off102 v1181 k0_t98) a + S16.size a ≤ S16400.size a := fun v1181 k0_hw17 k0_t98 => k0_hw17.2.2.1.2.2.2.2.2.2.2.2.2.2.2.2.2.2.2.2.2.2.2.1 k0_t98
theorem k0_t99_ok : ∀ (v1181 : BitVec 32) (k0_hw17 : k0_chk17 v1181), (k0_t99_loop v1181).OK := fun v1181 k0_hw17 => k0_hw17.2.2.1.2.2.2.2.2.2.2.2.2.2.2.2.2.2.2.2.2.2.2.2.1
theorem k0_off103_inb : ∀ (v1181 : BitVec 32) (k0_hw17 : k0_chk17 v1181) (k0_t99 : Fin (k0_t99_loop v1181).trips), ∀ a, (k0_off103 v1181 k0_t99) a + S16.size a ≤ S16400.size a := fun v1181 k0_hw17 k0_t99 => k0_hw17.2.2.1.2.2.2.2.2.2.2.2.2.2.2.2.2.2.2.2.2.2.2.2.2.1 k0_t99
theorem k0_t100_ok : ∀ (v1181 : BitVec 32) (k0_hw17 : k0_chk17 v1181), (k0_t100_loop v1181).OK := fun v1181 k0_hw17 => k0_hw17.2.2.1.2.2.2.2.2.2.2.2.2.2.2.2.2.2.2.2.2.2.2.2.2.2.1
theorem k0_off104_inb : ∀ (v1181 : BitVec 32) (k0_hw17 : k0_chk17 v1181) (k0_t100 : Fin (k0_t100_loop v1181).trips), ∀ a, (k0_off104 v1181 k0_t100) a + S16.size a ≤ S16400.size a := fun v1181 k0_hw17 k0_t100 => k0_hw17.2.2.1.2.2.2.2.2.2.2.2.2.2.2.2.2.2.2.2.2.2.2.2.2.2.2.1 k0_t100
theorem k0_t101_ok : ∀ (v1181 : BitVec 32) (k0_hw17 : k0_chk17 v1181), (k0_t101_loop v1181).OK := fun v1181 k0_hw17 => k0_hw17.2.2.1.2.2.2.2.2.2.2.2.2.2.2.2.2.2.2.2.2.2.2.2.2.2.2.2.1
theorem k0_off105_inb : ∀ (v1181 : BitVec 32) (k0_hw17 : k0_chk17 v1181) (k0_t101 : Fin (k0_t101_loop v1181).trips), ∀ a, (k0_off105 v1181 k0_t101) a + S16.size a ≤ S16400.size a := fun v1181 k0_hw17 k0_t101 => k0_hw17.2.2.1.2.2.2.2.2.2.2.2.2.2.2.2.2.2.2.2.2.2.2.2.2.2.2.2.2.1 k0_t101
theorem k0_t102_ok : ∀ (v1181 : BitVec 32) (k0_hw17 : k0_chk17 v1181), (k0_t102_loop v1181).OK := fun v1181 k0_hw17 => k0_hw17.2.2.1.2.2.2.2.2.2.2.2.2.2.2.2.2.2.2.2.2.2.2.2.2.2.2.2.2.2.1
theorem k0_off106_inb : ∀ (v1181 : BitVec 32) (k0_hw17 : k0_chk17 v1181) (k0_t102 : Fin (k0_t102_loop v1181).trips), ∀ a, (k0_off106 v1181 k0_t102) a + S16.size a ≤ S16400.size a := fun v1181 k0_hw17 k0_t102 => k0_hw17.2.2.1.2.2.2.2.2.2.2.2.2.2.2.2.2.2.2.2.2.2.2.2.2.2.2.2.2.2.2.1 k0_t102
theorem k0_t103_ok : ∀ (v1181 : BitVec 32) (k0_hw17 : k0_chk17 v1181), (k0_t103_loop v1181).OK := fun v1181 k0_hw17 => k0_hw17.2.2.1.2.2.2.2.2.2.2.2.2.2.2.2.2.2.2.2.2.2.2.2.2.2.2.2.2.2.2.2.1
theorem k0_off107_inb : ∀ (v1181 : BitVec 32) (k0_hw17 : k0_chk17 v1181) (k0_t103 : Fin (k0_t103_loop v1181).trips), ∀ a, (k0_off107 v1181 k0_t103) a + S16.size a ≤ S16400.size a := fun v1181 k0_hw17 k0_t103 => k0_hw17.2.2.1.2.2.2.2.2.2.2.2.2.2.2.2.2.2.2.2.2.2.2.2.2.2.2.2.2.2.2.2.2.1 k0_t103
theorem k0_t104_ok : ∀ (v1181 : BitVec 32) (k0_hw17 : k0_chk17 v1181), (k0_t104_loop v1181).OK := fun v1181 k0_hw17 => k0_hw17.2.2.1.2.2.2.2.2.2.2.2.2.2.2.2.2.2.2.2.2.2.2.2.2.2.2.2.2.2.2.2.2.2.1
theorem k0_off108_inb : ∀ (v1181 : BitVec 32) (k0_hw17 : k0_chk17 v1181) (k0_t104 : Fin (k0_t104_loop v1181).trips), ∀ a, (k0_off108 v1181 k0_t104) a + S16.size a ≤ S16400.size a := fun v1181 k0_hw17 k0_t104 => k0_hw17.2.2.1.2.2.2.2.2.2.2.2.2.2.2.2.2.2.2.2.2.2.2.2.2.2.2.2.2.2.2.2.2.2.2 k0_t104
theorem k0_t105_ok : ∀ (v1181 : BitVec 32) (k0_hw17 : k0_chk17 v1181), (k0_t105_loop v1181).OK := fun v1181 k0_hw17 => k0_hw17.2.2.2.1
theorem k0_off109_inb : ∀ (v1181 : BitVec 32) (k0_hw17 : k0_chk17 v1181) (k0_t105 : Fin (k0_t105_loop v1181).trips), ∀ a, (k0_off109 v1181 k0_t105) a + S16.size a ≤ S16400.size a := fun v1181 k0_hw17 k0_t105 => k0_hw17.2.2.2.2.1 k0_t105
theorem k0_t106_ok : ∀ (v1181 : BitVec 32) (k0_hw17 : k0_chk17 v1181), (k0_t106_loop v1181).OK := fun v1181 k0_hw17 => k0_hw17.2.2.2.2.2.1
theorem k0_off110_inb : ∀ (v1181 : BitVec 32) (k0_hw17 : k0_chk17 v1181) (k0_t106 : Fin (k0_t106_loop v1181).trips), ∀ a, (k0_off110 v1181 k0_t106) a + S16.size a ≤ S16400.size a := fun v1181 k0_hw17 k0_t106 => k0_hw17.2.2.2.2.2.2 k0_t106

def k0_chk18 (v1566 : IVec S16 32) : Prop :=
  (∀ a x, ((![v1566] : Fin 1 → IVec S16 32) a x).toNat < S256.size a)
theorem k0_idx16_inb : ∀ (v1566 : IVec S16 32) (k0_hw18 : k0_chk18 v1566), ∀ a x, ((![v1566] : Fin 1 → IVec S16 32) a x).toNat < S256.size a := fun v1566 k0_hw18 => k0_hw18
def k0_cond4 (k0_t2 : Fin k0_t2_loop.trips) : BitVec 1 :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let c127_i32_919 : BitVec 32 := 127#32
  let v1569 : BitVec 1 := Scalar.cmpi .slt v31 c127_i32_919
  let v1570 : BitVec 32 := Scalar.extui v1569
  let c0_i32_920 : BitVec 32 := 0#32
  let v1571 : BitVec 1 := Scalar.cmpi .ne v1570 c0_i32_920
  v1571

def k0_off111 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_19 : BitVec 32 := 2#32
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v30 : BitVec 32 := Scalar.muli arg11 c1_i32_17
  let v31 : BitVec 32 := Scalar.addi c0_i32_18 v30
  let v32 : BitVec 32 := Scalar.muli c2_i32_19 v31
  let v33 : BitVec 32 := Scalar.addi v2 v32
  let c3_i32 : BitVec 32 := 3#32
  let v1572 : BitVec 32 := Scalar.addi v33 c3_i32
  let c0_i32_923 : BitVec 32 := 0#32
  ![v1572.toNat, 0]
def k0_off112 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Threshold.lean ====
abbrev S8192x16384 : Shape := ⟨2, ![8192, 16384]⟩
abbrev S_ : Shape := ⟨0, ![]⟩
abbrev S8192x64 : Shape := ⟨2, ![8192, 64]⟩
abbrev S8192x1 : Shape := ⟨2, ![8192, 1]⟩
abbrev S8192 : Shape := ⟨1, ![8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x16384, .i32⟩
  | .hbm, ⟨2, _⟩ => ⟨S_, .i32⟩
  | .hbm, ⟨3, _⟩ => ⟨S8192x16384, .i32⟩
  | .hbm, ⟨4, _⟩ => ⟨S8192x16384, .i32⟩
  | .hbm, ⟨5, _⟩ => ⟨S_, .i32⟩
  | .hbm, ⟨6, _⟩ => ⟨S8192x16384, .i32⟩
  | .hbm, ⟨7, _⟩ => ⟨S8192x16384, .i1⟩
  | .hbm, ⟨8, _⟩ => ⟨S8192x16384, .i1⟩
  | .hbm, ⟨9, _⟩ => ⟨S_, .f32⟩
  | .hbm, ⟨10, _⟩ => ⟨S_, .f32⟩
  | .hbm, ⟨11, _⟩ => ⟨S8192x16384, .f32⟩
  | .hbm, ⟨12, _⟩ => ⟨S8192x16384, .f32⟩
  | .hbm, ⟨13, _⟩ => ⟨S8192x64, .f32⟩
  | .hbm, ⟨14, _⟩ => ⟨S8192x64, .i32⟩
  | .hbm, ⟨15, _⟩ => ⟨S8192x1, .f32⟩
  | .hbm, ⟨16, _⟩ => ⟨S8192, .f32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_c : Ref sig .tc := ⟨.hbm, 2, rfl⟩
abbrev main_call0_v1 : Ref sig .tc := ⟨.hbm, 3, rfl⟩
abbrev main_call0_v2 : Ref sig .tc := ⟨.hbm, 4, rfl⟩
abbrev main_call0_c_0 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_values : Ref sig .tc := ⟨.hbm, 13, rfl⟩
abbrev main_indices : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [BitOps F]
-- ==== Encode.lean ====
abbrev S8192x768 : Shape := ⟨2, ![8192, 768]⟩
abbrev S768 : Shape := ⟨1, ![768]⟩
abbrev S16384x768 : Shape := ⟨2, ![16384, 768]⟩
abbrev S16384 : Shape := ⟨1, ![16384]⟩
abbrev S8192x16384 : Shape := ⟨2, ![8192, 16384]⟩
abbrev S1024x768 : Shape := ⟨2, ![1024, 768]⟩
abbrev S2048x768 : Shape := ⟨2, ![2048, 768]⟩
abbrev S2048 : Shape := ⟨1, ![2048]⟩
abbrev S1024x2048 : Shape := ⟨2, ![1024, 2048]⟩
abbrev S1x768 : Shape := ⟨2, ![1, 768]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S768, .f32⟩
  | .hbm, ⟨2, _⟩ => ⟨S16384x768, .f32⟩
  | .hbm, ⟨3, _⟩ => ⟨S16384, .f32⟩
  | .hbm, ⟨4, _⟩ => ⟨S8192x16384, .f32⟩
  | .local _ .vmem, ⟨0, _⟩ => ⟨S1024x768, .f32⟩
  | .local _ .vmem, ⟨1, _⟩ => ⟨S1024x768, .f32⟩
  | .local _ .vmem, ⟨2, _⟩ => ⟨S768, .f32⟩
  | .local _ .vmem, ⟨3, _⟩ => ⟨S2048x768, .f32⟩
  | .local _ .vmem, ⟨4, _⟩ => ⟨S2048x768, .f32⟩
  | .local _ .vmem, ⟨5, _⟩ => ⟨S2048, .f32⟩
  | .local _ .vmem, ⟨6, _⟩ => ⟨S2048, .f32⟩
  | .local _ .vmem, ⟨7, _⟩ => ⟨S1024x2048, .f32⟩
  | .local _ .vmem, ⟨8, _⟩ => ⟨S1024x2048, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EncodedIdeal.lean ====
abbrev S8192x768 : Shape := ⟨2, ![8192, 768]⟩
abbrev S768 : Shape := ⟨1, ![768]⟩
abbrev S16384x768 : Shape := ⟨2, ![16384, 768]⟩
abbrev S16384 : Shape := ⟨1, ![16384]⟩
abbrev S1x768 : Shape := ⟨2, ![1, 768]⟩
abbrev S768x16384 : Shape := ⟨2, ![768, 16384]⟩
abbrev S8192x16384 : Shape := ⟨2, ![8192, 16384]⟩
abbrev S1x16384 : Shape := ⟨2, ![1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768, .f32⟩
  | .hbm, ⟨2, _⟩ => ⟨S16384x768, .f32⟩
  | .hbm, ⟨3, _⟩ => ⟨S16384, .f32⟩
  | .hbm, ⟨4, _⟩ => ⟨S1x768, .f32⟩
  | .hbm, ⟨5, _⟩ => ⟨S8192x768, .f32⟩
  | .hbm, ⟨6, _⟩ => ⟨S8192x768, .f32⟩
  | .hbm, ⟨7, _⟩ => ⟨S768x16384, .f32⟩
  | .hbm, ⟨8, _⟩ => ⟨S8192x16384, .f32⟩
  | .hbm, ⟨9, _⟩ => ⟨S1x16384, .f32⟩
  | .hbm, ⟨10, _⟩ => ⟨S8192x16384, .f32⟩
  | .hbm, ⟨11, _⟩ => ⟨S8192x16384, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Decode.lean ====
abbrev S8192x16384 : Shape := ⟨2, ![8192, 16384]⟩
abbrev S8192 : Shape := ⟨1, ![8192]⟩
abbrev S768x16384 : Shape := ⟨2, ![768, 16384]⟩
abbrev S768 : Shape := ⟨1, ![768]⟩
abbrev S8192x1 : Shape := ⟨2, ![8192, 1]⟩
abbrev S8192x768 : Shape := ⟨2, ![8192, 768]⟩
abbrev S1024x1024 : Shape := ⟨2, ![1024, 1024]⟩
abbrev S1024x1 : Shape := ⟨2, ![1024, 1]⟩
abbrev S768x1024 : Shape := ⟨2, ![768, 1024]⟩
abbrev S1024x768 : Shape := ⟨2, ![1024, 768]⟩
abbrev S1x768 : Shape := ⟨2, ![1, 768]⟩

abbrev nBuf : Space → Nat
  | .hbm => 7
  | .vmem => 11
  | .smem => 0
  | _ => 0

abbrev bufTy : (tb : Table) → Fin (tcTables nBuf tb) → BufTy
  | .hbm, ⟨0, _⟩ => ⟨S8192x16384, .f32⟩
  | .hbm, ⟨1, _⟩ => ⟨S8192, .f32⟩
  | .hbm, ⟨2, _⟩ => ⟨S768x16384, .f32⟩
  | .hbm, ⟨3, _⟩ => ⟨S768, .f32⟩
  | .hbm, ⟨4, _⟩ => ⟨S8192x1, .f32⟩
  | .hbm, ⟨5, _⟩ => ⟨S8192x768, .f32⟩
  | .hbm, ⟨6, _⟩ => ⟨S8192x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S768x1024, .f32⟩
  | .local _ .vmem, ⟨5, _⟩ => ⟨S768x1024, .f32⟩
  | .local _ .vmem, ⟨6, _⟩ => ⟨S768, .f32⟩
  | .local _ .vmem, ⟨7, _⟩ => ⟨S1024x768, .f32⟩
  | .local _ .vmem, ⟨8, _⟩ => ⟨S1024x768, .f32⟩
  | .local _ .vmem, ⟨9, _⟩ => ⟨S1024x1024, .f32⟩
  | .local _ .vmem, ⟨10, _⟩ => ⟨S1024x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_10 : BitVec 32 := 0#32
  let v13 : BitVec 1 := Scalar.cmpi .ne v12 c0_i32_10
  v13

def k0_cond2 (i : grid0.Coords) : BitVec 1 :=
  let arg1 : BitVec 32 := BitVec.ofNat 32 (i 1).val
  let c0_i32_11 : BitVec 32 := 0#32
  let v14 : BitVec 1 := Scalar.cmpi .sgt arg1 c0_i32_11
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DecodedIdeal.lean ====
abbrev S8192x16384 : Shape := ⟨2, ![8192, 16384]⟩
abbrev S8192 : Shape := ⟨1, ![8192]⟩
abbrev S768x16384 : Shape := ⟨2, ![768, 16384]⟩
abbrev S768 : Shape := ⟨1, ![768]⟩
abbrev S8192x1 : Shape := ⟨2, ![8192, 1]⟩
abbrev S_ : Shape := ⟨0, ![]⟩
abbrev S16384x768 : Shape := ⟨2, ![16384, 768]⟩
abbrev S8192x768 : Shape := ⟨2, ![8192, 768]⟩
abbrev S1x768 : Shape := ⟨2, ![1, 768]⟩

abbrev nBuf : Space → Nat
  | .hbm => 16
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192, .f32⟩
  | .hbm, ⟨2, _⟩ => ⟨S768x16384, .f32⟩
  | .hbm, ⟨3, _⟩ => ⟨S768, .f32⟩
  | .hbm, ⟨4, _⟩ => ⟨S8192x1, .f32⟩
  | .hbm, ⟨5, _⟩ => ⟨S8192x16384, .f32⟩
  | .hbm, ⟨6, _⟩ => ⟨S8192x16384, .i1⟩
  | .hbm, ⟨7, _⟩ => ⟨S_, .f32⟩
  | .hbm, ⟨8, _⟩ => ⟨S_, .f32⟩
  | .hbm, ⟨9, _⟩ => ⟨S8192x16384, .f32⟩
  | .hbm, ⟨10, _⟩ => ⟨S8192x16384, .f32⟩
  | .hbm, ⟨11, _⟩ => ⟨S16384x768, .f32⟩
  | .hbm, ⟨12, _⟩ => ⟨S8192x768, .f32⟩
  | .hbm, ⟨13, _⟩ => ⟨S1x768, .f32⟩
  | .hbm, ⟨14, _⟩ => ⟨S8192x768, .f32⟩
  | .hbm, ⟨15, _⟩ => ⟨S8192x768, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Base.lean ====
/-
  The setting of the proof about `Select`: the program as the launch theorem sees it, the thread of one
  tile, and what a tile's own buffers hold between two operations of its body.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Select
public import proofs.«01_k».proof.Proof.Gen.Select.Skeleton

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

/-! ## The program as the launch theorem sees it -/

abbrev ΛP : Labels := Pipeline.Sig Λ₀ (Fin 0) fun p => (pcfgs (F := Bits) p).Adm
abbrev K : SparseCore.Cfg τ sig ΛP 1 := sc (F := Bits)
abbrev D : Defs nD τ sig (Elt Bits) ΛP := Pipeline.defs pcfgs defs₀
abbrev 𝒱₀ : Variants := Variants.none
abbrev 𝒱 : Variants := 𝒱₀.lift
abbrev v₀ : 𝒱.V := Sum.inl none

theorem scFacts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources the proof runs over. -/
abbrev 𝕄 : Type := MT nD τ sig (HIx 1) (Elt Bits) ℕ UU ℕ

abbrev EH : Emb UH 𝕄 := embL

/-- The thread of the tile at coordinates `i`. -/
abbrev VT (d : Dev nD) (i : grid0.Coords) : Thread nD τ := SparseCore.V d ((i 0).castLE hcore0) ((i 1).castLE hsub0)

/-- A program of the tile at coordinates `i`. -/
abbrev TP (i : grid0.Coords) (α : Type) : Type 1 :=
  Prog (TpuEff nD τ sig (Elt Bits) Λ₀ (.scVector ((i 0).castLE hcore0) ((i 1).castLE hsub0))) α

/-- The weakest precondition of a program of the tile. -/
abbrev tw {α : Type} (d : Dev nD) (i : grid0.Coords) (p : TP i α) (Q : α → sProp 𝕄) : sProp 𝕄 :=
  wp frame (wpE (defs₀ (F := Bits)) 𝒱₀ (VT d i) none) Set.univ p Q

/-! ## What a buffer of the tile holds -/

section Buffer

variable (d : Dev nD) (i : grid0.Coords)

/-- A whole buffer of the tile, at some contents of which `P` is true. -/
def Holds (b : Ref sig .scVector) (P : b.ty.Contents (Elt Bits) → Prop) : sProp 𝕄 :=
  iprop(∃ f : b.ty.Contents (Elt Bits), ⌜P f⌝ ∗ ((Memref.whole b).view.loc (VT d i) ↦{fullShare} f))

theorem Holds.mono {b : Ref sig .scVector} {P P' : b.ty.Contents (Elt Bits) → Prop} (h : ∀ f, P f → P' f) :
    Holds d i b P ⊢ Holds d i b P' := by
  unfold Holds
  iintro ⟨%f, %hf, H⟩
  iexists f
  isplitr [H]
  · ipureintro; exact h f hf
  · iexact H

/-- A buffer at contents of which `P` is true, beside anything. -/
theorem Holds.keep {κ : Type} {P : κ → Prop} {A : κ → sProp 𝕄} {Z : sProp 𝕄} {f : κ} (hf : P f) :
    iprop(A f ∗ Z) ⊢ iprop((∃ f, ⌜P f⌝ ∗ A f) ∗ Z) := by
  iintro ⟨H, Hz⟩
  isplitl [H]
  · iexists f
    isplitr [H]
    · ipureintro; exact hf
    · iexact H
  · iexact Hz

/-- A load reads what the buffer holds under the coordinates, and leaves it. -/
theorem Holds.load {α : Type} {Z : sProp 𝕄} {cs : CoreSpace} {sh : Shape} {e : EltTy} {m : Memref sig .scVector cs sh e}
    {r : LoadRect sh} {hl : m.view.LoadsAt r} {k : (r.shape.Idx → Elt Bits e) → TP i α} {Q : α → sProp 𝕄}
    {P : m.view.ty.Contents (Elt Bits) → Prop}
    (h : ∀ f, P f → (iprop((m.view.loc (VT d i) ↦{fullShare} f) ∗ Z) ⊢ tw d i (k (m.view.readAt (Elt Bits) r f)) Q)) :
    iprop((∃ f : m.view.ty.Contents (Elt Bits), ⌜P f⌝ ∗ (m.view.loc (VT d i) ↦{fullShare} f)) ∗ Z)
      ⊢ tw d i (Prog.lift (.load m r hl) >>= k) Q := by
  iintro ⟨⟨%f, %hf, H⟩, Hz⟩
  iapply (wp_load 𝒱₀ (VT d i) none Set.univ (hl := hl) (k := k) (Q := Q) (q := fullShare) (f := f) (S := Finset.univ) (Finset.subset_univ _)) $$ H
  iintro H
  iapply (h f hf)
  isplitl [H]
  · iexact H
  · iexact Hz

/-- An unmasked or masked store rewrites the buffer. -/
theorem Holds.store {α : Type} {Z : sProp 𝕄} {cs : CoreSpace} {sh : Shape} {e : EltTy} {m : Memref sig .scVector cs sh e}
    {r : Rect sh} {w : r.shape.Idx → Elt Bits e} {Mk : Finset r.shape.Idx} {hx : (m.access r).Stores Mk}
    {hm : Mk = Finset.univ ∨ ∀ a, r.stride a = 1} {k : PUnit → TP i α} {Q : α → sProp 𝕄}
    {P P' : m.view.ty.Contents (Elt Bits) → Prop} (hP : ∀ f, P f → P' ((m.access r).write (Elt Bits) f w Mk))
    (h : iprop((∃ f : m.view.ty.Contents (Elt Bits), ⌜P' f⌝ ∗ (m.view.loc (VT d i) ↦{fullShare} f)) ∗ Z) ⊢ tw d i (k ⟨⟩) Q) :
    iprop((∃ f : m.view.ty.Contents (Elt Bits), ⌜P f⌝ ∗ (m.view.loc (VT d i) ↦{fullShare} f)) ∗ Z)
      ⊢ tw d i (Prog.lift (.store m r w Mk hx hm) >>= k) Q := by
  iintro ⟨⟨%f, %hf, H⟩, Hz⟩
  iapply (wp_store 𝒱₀ (VT d i) none Set.univ (hx := hx) (hm := hm) (k := k) (Q := Q) (f := f) (S := Finset.univ) (Finset.subset_univ _)) $$ H
  iintro H
  iapply h
  isplitl [H]
  · iexists _
    isplitr [H]
    · ipureintro; exact hP f hf
    · iexact H
  · iexact Hz

/-- A scatter reads the buffer and rewrites it. -/
theorem Holds.storeIdx {α : Type} {Z : sProp 𝕄} {sh : Shape} {e : EltTy} {dd : Fin 1 → ℕ} {base : Memref sig .scVector .vmem sh e}
    {idxs : Fin sh.rank → IVec ⟨1, dd⟩ 32} {v : Vec Bits ⟨1, dd⟩ e} {mask : IVec ⟨1, dd⟩ 1} {add : Bool}
    {hi : ∀ a x, (idxs a x).toNat < sh.size a} {hs : (base.access (.whole sh)).Stores Finset.univ}
    {k : PUnit → TP i α} {Q : α → sProp 𝕄} {P P' : base.view.ty.Contents (Elt Bits) → Prop}
    (hP : ∀ f, P f → P' ((base.access (.whole sh)).write (Elt Bits) f
      (Idealize.ShloMosaic.storeIdx ((base.access (.whole sh)).read (Elt Bits) f) idxs v mask add hi) Finset.univ))
    (h : iprop((∃ f : base.view.ty.Contents (Elt Bits), ⌜P' f⌝ ∗ (base.view.loc (VT d i) ↦{fullShare} f)) ∗ Z) ⊢ tw d i (k ⟨⟩) Q) :
    iprop((∃ f : base.view.ty.Contents (Elt Bits), ⌜P f⌝ ∗ (base.view.loc (VT d i) ↦{fullShare} f)) ∗ Z)
      ⊢ tw d i (SparseCore.vectorStoreIdx base idxs v mask add hi hs >>= k) Q := by
  have e : (SparseCore.vectorStoreIdx base idxs v mask add hi hs >>= k : TP i α)
      = .op (.load base (.whole sh) (View.loadsAt_rect hs.loads))
        fun f' => .op (.store base (.whole sh) (Idealize.ShloMosaic.storeIdx f' idxs v mask add hi) Finset.univ hs (.inl rfl)) k :=
    rfl
  rw [e]
  refine Holds.load d i (hl := View.loadsAt_rect hs.loads)
    (k := fun f' => .op (.store base (.whole sh) (Idealize.ShloMosaic.storeIdx f' idxs v mask add hi) Finset.univ hs (.inl rfl)) k) ?_
  intro f hf
  have key := Holds.store d i (Z := Z) (hx := hs) (hm := .inl rfl) (k := k) (Q := Q) (P := fun g => g = f) (P' := P')
    (w := Idealize.ShloMosaic.storeIdx (base.view.readAt (Elt Bits) (Rect.whole sh).toLoadRect f) idxs v mask add hi)
    (by rintro g rfl; exact hP g hf) h
  refine BI.BIBase.Entails.trans ?_ key
  iintro ⟨H, Hz⟩
  isplitl [H]
  · iexists f
    isplitr [H]
    · ipureintro; rfl
    · iexact H
  · iexact Hz

/-- A gather out of a whole buffer reads it. -/
theorem Holds.loadIdx {α : Type} {Z : sProp 𝕄} {sh t : Shape} {e : EltTy} {base : Memref sig .scVector .vmem sh e}
    {idxs : Fin sh.rank → IVec t 32} {hi : ∀ a x, (idxs a x).toNat < sh.size a} {hl : base.view.Loads}
    {k : Vec Bits t e → TP i α} {Q : α → sProp 𝕄} {P : base.view.ty.Contents (Elt Bits) → Prop}
    (h : ∀ f, P f → (iprop((base.view.loc (VT d i) ↦{fullShare} f) ∗ Z)
      ⊢ tw d i (k (Idealize.ShloMosaic.loadIdx ((base.access (.whole sh)).read (Elt Bits) f) idxs hi)) Q)) :
    iprop((∃ f : base.view.ty.Contents (Elt Bits), ⌜P f⌝ ∗ (base.view.loc (VT d i) ↦{fullShare} f)) ∗ Z)
      ⊢ tw d i (SparseCore.vectorLoadIdx base idxs hi hl >>= k) Q := by
  have e : (SparseCore.vectorLoadIdx base idxs hi hl >>= k : TP i α)
      = .op (.load base (.whole sh) (View.loadsAt_whole hl)) fun f => k (Idealize.ShloMosaic.loadIdx f idxs hi) :=
    rfl
  rw [e]
  exact Holds.load d i (hl := View.loadsAt_whole hl) (k := fun f => k (Idealize.ShloMosaic.loadIdx f idxs hi)) h

/-- An assumed bound that holds is passed. -/
theorem assume_step {α : Type} {Z : sProp 𝕄} {R : Prop} {dec : Decidable R} {k : PLift R → TP i α} {Q : α → sProp 𝕄}
    (hR : R) (h : Z ⊢ tw d i (k ⟨hR⟩) Q) : Z ⊢ tw d i (Prog.lift (.assume R dec) >>= k) Q := by
  refine h.trans ?_
  show _ ⊢ tw d i (.op (.assume R dec) k) Q
  exact Entails.of_eq (wp_assume_of 𝒱₀ (VT d i) none Set.univ (d := dec) (k := k) (Q := Q) hR).symm

end Buffer

end Cert.Topk
end
-- ==== Proof.Vectors.lean ====
/-
  Vectors of 16 lanes and buffers of one axis, read at numbers: what a load of 16 consecutive words reads, what a store of
  them leaves, and what a scatter leaves at the places it names and at every other.
-/
module

public import proofs.«01_k».proof.Proof.Base

@[expose] public section

noncomputable section

namespace Cert.Topk

open Cert.Select Cert.Select.Gen
open Idealize.ShloMosaic

/-- The contents of a buffer of one axis at a number (`0` off its end). -/
def at1 {N : ℕ} (f : (⟨1, ![N]⟩ : Shape).Idx → BitVec 32) (n : ℕ) : BitVec 32 :=
  if h : n < N then f (Shape.ofLane (d := ![N]) ⟨n, h⟩) else 0

/-- The vector of 16 lanes with `g l` in lane `l`. -/
def lv (g : ℕ → BitVec 32) : IVec S16 32 := fun x => g (x 0).val

theorem at1_idx {N : ℕ} (f : (⟨1, ![N]⟩ : Shape).Idx → BitVec 32) (x : (⟨1, ![N]⟩ : Shape).Idx) :
    at1 f (x 0).val = f x := by
  have h : (x 0).val < N := (x 0).isLt
  rw [at1, dif_pos h]
  congr 1
  funext a
  obtain rfl : a = 0 := Subsingleton.elim _ _
  rfl

theorem at1_of_val {N : ℕ} (f : (⟨1, ![N]⟩ : Shape).Idx → BitVec 32) (x : (⟨1, ![N]⟩ : Shape).Idx) {n : ℕ} (h : (x 0).val = n) :
    f x = at1 f n := by rw [← h, at1_idx]

theorem at1_lane {N : ℕ} (f : (⟨1, ![N]⟩ : Shape).Idx → BitVec 32) {n : ℕ} (h : n < N) :
    at1 f n = f (Shape.ofLane (d := ![N]) ⟨n, h⟩) := by rw [at1, dif_pos h]

theorem lv_lane (f : IVec S16 32) : f = lv (at1 f) := by
  funext x; exact (at1_idx f x).symm

theorem at1_lv (g : ℕ → BitVec 32) {l : ℕ} (h : l < 16) : at1 (lv g) l = g l := by
  rw [at1_lane _ h]; rfl

theorem lv_congr {g g' : ℕ → BitVec 32} (h : ∀ l < 16, g l = g' l) : lv g = lv g' := by
  funext x; exact h _ (x 0).isLt

/-! ## Scatters -/

section Fold

variable {s : Shape} {e : EltTy}

/-- One lane's write of a scatter. -/
def putLane {d : Fin 1 → ℕ} (idxs : Fin s.rank → IVec ⟨1, d⟩ 32) (v : Vec Bits ⟨1, d⟩ e) (mask : IVec ⟨1, d⟩ 1) (add : Bool)
    (h : ∀ a x, (idxs a x).toNat < s.size a) (g : Vec Bits s e) (k : Fin (d 0)) : Vec Bits s e :=
  if mask (Shape.ofLane k) = 1 then
    fun j => if (∀ a, (j a).val = (idxAt idxs h (Shape.ofLane k) a).val) then
      (if add then Elt.idxAdd e (g (idxAt idxs h (Shape.ofLane k))) (v (Shape.ofLane k)) else v (Shape.ofLane k)) else g j
  else g

theorem storeIdx_eq_fold {d : Fin 1 → ℕ} (f : Vec Bits s e) (idxs : Fin s.rank → IVec ⟨1, d⟩ 32) (v : Vec Bits ⟨1, d⟩ e)
    (mask : IVec ⟨1, d⟩ 1) (add : Bool) (h : ∀ a x, (idxs a x).toNat < s.size a) :
    storeIdx f idxs v mask add h = (List.finRange (d 0)).foldl (putLane idxs v mask add h) f := by
  unfold storeIdx
  congr 1
  funext g k
  unfold putLane
  by_cases hm : mask (Shape.ofLane k) = 1
  · rw [if_pos hm, if_pos hm]
    funext j
    by_cases hc : ∀ a, (j a).val = (idxAt idxs h (Shape.ofLane k) a).val
    · rw [if_pos hc, if_pos hc]
    · rw [if_neg hc, if_neg hc]
  · rw [if_neg hm, if_neg hm]

variable {d : Fin 1 → ℕ} (idxs : Fin s.rank → IVec ⟨1, d⟩ 32) (v : Vec Bits ⟨1, d⟩ e) (mask : IVec ⟨1, d⟩ 1) (add : Bool)
  (h : ∀ a x, (idxs a x).toNat < s.size a)

theorem putLane_miss (g : Vec Bits s e) (k : Fin (d 0)) (j : s.Idx)
    (hj : mask (Shape.ofLane k) = 1 → j ≠ idxAt idxs h (Shape.ofLane k)) : putLane idxs v mask add h g k j = g j := by
  unfold putLane
  by_cases hm : mask (Shape.ofLane k) = 1
  · rw [if_pos hm]
    exact if_neg fun hh => hj hm (funext fun a => Fin.ext (hh a))
  · rw [if_neg hm]

theorem fold_miss (l : List (Fin (d 0))) (g : Vec Bits s e) (j : s.Idx)
    (hj : ∀ k ∈ l, mask (Shape.ofLane k) = 1 → j ≠ idxAt idxs h (Shape.ofLane k)) :
    l.foldl (putLane idxs v mask add h) g j = g j := by
  induction l generalizing g with
  | nil => rfl
  | cons k l ih =>
    rw [List.foldl_cons, ih _ fun k' hk' => hj k' (List.mem_cons_of_mem _ hk')]
    exact putLane_miss idxs v mask add h g k j (hj k List.mem_cons_self)

/-- A place no set lane names keeps its value. -/
theorem storeIdx_miss (f : Vec Bits s e) (j : s.Idx)
    (hj : ∀ k : Fin (d 0), mask (Shape.ofLane k) = 1 → j ≠ idxAt idxs h (Shape.ofLane k)) :
    storeIdx f idxs v mask add h j = f j := by
  rw [storeIdx_eq_fold]
  exact fold_miss idxs v mask add h _ f j fun k _ => hj k

/-- The place that exactly one set lane names takes its value, or has it added. -/
theorem storeIdx_hit (f : Vec Bits s e) (k : Fin (d 0)) (hm : mask (Shape.ofLane k) = 1)
    (hinj : ∀ k', mask (Shape.ofLane k') = 1 → idxAt idxs h (Shape.ofLane k') = idxAt idxs h (Shape.ofLane k) → k' = k) :
    storeIdx f idxs v mask add h (idxAt idxs h (Shape.ofLane k))
      = if add then Elt.idxAdd e (f (idxAt idxs h (Shape.ofLane k))) (v (Shape.ofLane k)) else v (Shape.ofLane k) := by
  rw [storeIdx_eq_fold]
  obtain ⟨l₁, l₂, hl⟩ := List.append_of_mem (List.mem_finRange k)
  have hnd : (l₁ ++ k :: l₂).Nodup := hl ▸ List.nodup_finRange _
  have h1 : k ∉ l₁ := fun hk => (List.nodup_append.1 hnd).2.2 k hk k List.mem_cons_self rfl
  have h2 : k ∉ l₂ := (List.nodup_cons.1 (List.nodup_append.1 hnd).2.1).1
  rw [hl, List.foldl_append, List.foldl_cons,
    fold_miss idxs v mask add h l₂ _ _ fun k' hk' hm' he => h2 (hinj k' hm' he.symm ▸ hk')]
  have hb : (l₁.foldl (putLane idxs v mask add h) f) (idxAt idxs h (Shape.ofLane k)) = f (idxAt idxs h (Shape.ofLane k)) :=
    fold_miss idxs v mask add h l₁ f _ fun k' hk' hm' he => h1 (hinj k' hm' he.symm ▸ hk')
  generalize l₁.foldl (putLane idxs v mask add h) f = g at hb ⊢
  unfold putLane
  rw [if_pos hm]
  refine (if_pos fun _ => rfl).trans ?_
  rw [hb]

end Fold

/-- A scatter into a buffer of one axis: the places are distinct lane by lane, so each set lane's place takes its value
    (or has it added), and every other place keeps what it had. -/
theorem at1_storeIdx {N : ℕ} (f : (⟨1, ![N]⟩ : Shape).Idx → BitVec 32) (ix : ℕ → ℕ) (idx : IVec S16 32) (v : IVec S16 32) (mask : IVec S16 1)
    (add : Bool) (h : ∀ a x, ((![idx] : Fin 1 → IVec S16 32) a x).toNat < (⟨1, ![N]⟩ : Shape).size a)
    (hix : ∀ l < 16, (at1 idx l).toNat = ix l) (hinj : ∀ l < 16, ∀ l' < 16, ix l = ix l' → l = l') :
    (∀ l, (hl : l < 16) → mask (Shape.ofLane (d := ![16]) ⟨l, hl⟩) = 1 →
      at1 (storeIdx (F := Bits) (e := .i32) f ![idx] v mask add h) (ix l) = if add then at1 f (ix l) + at1 v l else at1 v l) ∧
    (∀ n, (∀ l, (hl : l < 16) → mask (Shape.ofLane (d := ![16]) ⟨l, hl⟩) = 1 → n ≠ ix l) →
      at1 (storeIdx (F := Bits) (e := .i32) f ![idx] v mask add h) n = at1 f n) := by
  have hidx : ∀ k : Fin 16, ((idxAt (s := ⟨1, ![N]⟩) ![idx] h (Shape.ofLane (d := ![16]) k)) 0).val = ix k.val := by
    intro k
    rw [← hix k.val k.isLt, at1_lane _ k.isLt]
    rfl
  constructor
  · intro l hl hm
    have key := storeIdx_hit (e := .i32) (s := ⟨1, ![N]⟩) (d := ![16]) ![idx] v mask add h f ⟨l, hl⟩ hm (by
      intro k' _ hk'
      apply Fin.ext
      refine hinj _ k'.isLt _ hl ?_
      exact (hidx k').symm.trans ((congrArg (fun z : (⟨1, ![N]⟩ : Shape).Idx => (z 0).val) hk').trans (hidx ⟨l, hl⟩)))
    refine ((at1_of_val _ _ (hidx ⟨l, hl⟩)).symm.trans key).trans ?_
    have e1 := at1_of_val f _ (hidx ⟨l, hl⟩)
    have e2 := at1_lane v hl
    rw [e2]
    cases add
    · rfl
    · exact congrArg (· + v (Shape.ofLane (d := ![16]) ⟨l, hl⟩)) e1
  · intro n hn
    by_cases hN : n < N
    · rw [at1_lane _ hN, at1_lane _ hN]
      refine storeIdx_miss (e := .i32) (s := ⟨1, ![N]⟩) (d := ![16]) ![idx] v mask add h f _ fun k hm he => hn k.val k.isLt hm ?_
      rw [← hidx k, ← he]
      rfl
    · rw [at1, at1, dif_neg hN, dif_neg hN]

end Cert.Topk
end
-- ==== Proof.State.lean ====
/-
  What the tile's own buffers hold between two operations of the body, and the operations on them: the histogram's slices
  read and set to zero one by one, the vector of lane offsets stored and read.
-/
module

public import proofs.«01_k».proof.Proof.Vectors

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

abbrev mHist : Memref sig .scVector .vmem S2080 .i32 := Memref.whole cc0_scratch1
abbrev mCand : Memref sig .scVector .vmem S16400 .i32 := Memref.whole cc0_scratch2
abbrev mThr : Memref sig .scVector .vmem S256 .f32 := Memref.whole cc0_scratch3
abbrev mOff : Memref sig .scVector .vmem S16 .i32 := Memref.whole cc0_scratch4

variable (d : Dev nD) (i : grid0.Coords)

/-- The histogram buffer, at contents of which `P` is true. -/
def Hh (P : (S2080.Idx → BitVec 32) → Prop) : sProp 𝕄 :=
  iprop(∃ f : S2080.Idx → BitVec 32, ⌜P f⌝ ∗ (mHist.view.loc (VT d i) ↦{fullShare} f))
/-- The candidates' buffer. -/
def Hc (P : (S16400.Idx → BitVec 32) → Prop) : sProp 𝕄 :=
  iprop(∃ f : S16400.Idx → BitVec 32, ⌜P f⌝ ∗ (mCand.view.loc (VT d i) ↦{fullShare} f))
/-- The thresholds' buffer. -/
def Ht (P : (S256.Idx → BitVec 32) → Prop) : sProp 𝕄 :=
  iprop(∃ f : S256.Idx → BitVec 32, ⌜P f⌝ ∗ (mThr.view.loc (VT d i) ↦{fullShare} f))
/-- The lane offsets' buffer. -/
def Ho (P : (S16.Idx → BitVec 32) → Prop) : sProp 𝕄 :=
  iprop(∃ f : S16.Idx → BitVec 32, ⌜P f⌝ ∗ (mOff.view.loc (VT d i) ↦{fullShare} f))

/-! ## One axis: a load of 16 words, a store of 16 words -/

section Plain

variable {N : ℕ} {b : Ref sig .scVector}

theorem emb_unit1 {off : Fin 1 → ℕ} {inb : ∀ a, off a + S16.size a ≤ (⟨1, ![N]⟩ : Shape).size a} (x : S16.Idx) :
    (((Rect.unit (s := ⟨1, ![N]⟩) off S16.size inb).emb x) 0).val = off 0 + (x 0).val := by
  rw [Rect.emb_apply]; show off 0 + 1 * _ = _; omega

end Plain

/-! ## The histogram -/

/-- Lane `l`'s words in bins `16 c` to `16 c + 15`. -/
def rowVec (H : ℕ → ℕ → ℕ) (l c : ℕ) : IVec S16 32 := lv fun j => BitVec.ofNat 32 (H l (16 * c + j))

/-- The histogram `H` of the lower 64 bins in the buffer (bin `b` of lane `l` at word `129 l + b`), with the first `n` of its 64
    slices set to zero: slices go from bins 48–63 to bins 0–15, and within these from lane 0 to lane 15. -/
def HG (H : ℕ → ℕ → ℕ) (n : ℕ) (f : S2080.Idx → BitVec 32) : Prop :=
  ∀ l < 16, ∀ b < 64, at1 f (129 * l + b) = if 16 * (3 - b / 16) + l < n then 0 else BitVec.ofNat 32 (H l b)

theorem hist_read {H : ℕ → ℕ → ℕ} {n : ℕ} {f : S2080.Idx → BitVec 32} (hf : HG H n f) (hn : n < 64) {off : Fin 1 → ℕ}
    (hoff : off 0 = 129 * (n % 16) + 16 * (3 - n / 16)) {inb : ∀ a, off a + S16.size a ≤ S2080.size a} :
    mHist.view.readAt (Elt Bits) (Rect.unit (s := S2080) off S16.size inb).toLoadRect f = rowVec H (n % 16) (3 - n / 16) := by
  funext x
  have hx : (x 0).val < 16 := (x 0).isLt
  have e : mHist.view.readAt (Elt Bits) (Rect.unit (s := S2080) off S16.size inb).toLoadRect f x
      = f ((Rect.unit (s := S2080) off S16.size inb).emb x) := rfl
  rw [e, at1_of_val (N := 2080) f _ (emb_unit1 (N := 2080) x), hoff,
    show 129 * (n % 16) + 16 * (3 - n / 16) + (x 0).val = 129 * (n % 16) + (16 * (3 - n / 16) + (x 0).val) by omega,
    hf (n % 16) (by omega) _ (by omega), if_neg (by omega)]
  rfl

theorem hist_zero {H : ℕ → ℕ → ℕ} {n : ℕ} {f : S2080.Idx → BitVec 32} (hf : HG H n f) (hn : n < 64) {off : Fin 1 → ℕ}
    (hoff : off 0 = 129 * (n % 16) + 16 * (3 - n / 16)) {inb : ∀ a, off a + S16.size a ≤ S2080.size a}
    {w : S16.Idx → BitVec 32} (hw : ∀ x, w x = 0) :
    HG H (n + 1) ((mHist.access (Rect.unit (s := S2080) off S16.size inb)).write (Elt Bits) f w Finset.univ) := by
  intro l hl b hb
  have hN : 129 * l + b < 2080 := by omega
  rw [at1_lane (N := 2080) _ hN]
  by_cases hin : l = n % 16 ∧ b / 16 = 3 - n / 16
  · rw [if_pos (by omega)]
    have e : (Shape.ofLane (d := ![2080]) ⟨129 * l + b, hN⟩ : S2080.Idx)
        = (mHist.access (Rect.unit (s := S2080) off S16.size inb)).emb (Shape.ofLane (d := ![16]) ⟨b % 16, by show b % 16 < 16; omega⟩) := by
      funext a
      obtain rfl : a = 0 := Subsingleton.elim _ _
      apply Fin.ext
      refine Eq.trans ?_ (emb_unit1 (N := 2080) (inb := inb) _).symm
      rw [hoff]
      show 129 * l + b = _ + b % 16
      omega
    rw [e]
    refine (View.write_emb_of_mem _ _ (Finset.mem_univ _)).trans (hw _)
  · have e : (mHist.access (Rect.unit (s := S2080) off S16.size inb)).write (Elt Bits) f w Finset.univ
        (Shape.ofLane (d := ![2080]) ⟨129 * l + b, hN⟩) = f (Shape.ofLane (d := ![2080]) ⟨129 * l + b, hN⟩) := by
      refine View.write_of_not_mem _ _ _ fun hm => ?_
      obtain ⟨x, _, hx⟩ := Finset.mem_map.1 hm
      have hx0 : (x 0).val < 16 := (x 0).isLt
      have := congrArg (fun z : S2080.Idx => (z 0).val) hx
      have h2 := (emb_unit1 (N := 2080) (inb := inb) x).symm.trans this
      rw [hoff] at h2
      have h3 : 129 * (n % 16) + 16 * (3 - n / 16) + (x 0).val = 129 * l + b := h2
      omega
    rw [e, ← at1_lane (N := 2080) f hN, hf l hl b hb]
    by_cases h1 : 16 * (3 - b / 16) + l < n
    · rw [if_pos h1, if_pos (by omega)]
    · rw [if_neg h1, if_neg (by omega)]

variable {α : Type} {Q : α → sProp 𝕄} {Z : sProp 𝕄}

/-- A load of the next slice reads its counts. -/
theorem hload {H : ℕ → ℕ → ℕ} {n : ℕ} {off : Fin 1 → ℕ} {inb : ∀ a, off a + S16.size a ≤ S2080.size a} {hl}
    {k : Vec Bits S16 .i32 → TP i α} (hn : n < 64) (hoff : off 0 = 129 * (n % 16) + 16 * (3 - n / 16))
    (h : iprop(Hh d i (HG H n) ∗ Z) ⊢ tw d i (k (rowVec H (n % 16) (3 - n / 16))) Q) :
    iprop(Hh d i (HG H n) ∗ Z)
      ⊢ tw d i (Prog.lift (.load mHist (Rect.unit (s := S2080) off S16.size inb).toLoadRect hl) >>= k) Q := by
  refine Holds.load d i (m := mHist) (r := (Rect.unit (s := S2080) off S16.size inb).toLoadRect) (P := HG H n) (k := k) fun f hf => ?_
  rw [hist_read hf hn hoff]
  exact (Holds.keep hf).trans h

/-- A load whose result is not used. -/
theorem hskip {P : (S2080.Idx → BitVec 32) → Prop} {r : LoadRect S2080} {hl}
    {k : (r.shape.Idx → Elt Bits .i32) → TP i α}
    (h : ∀ v, iprop(Hh d i P ∗ Z) ⊢ tw d i (k v) Q) :
    iprop(Hh d i P ∗ Z) ⊢ tw d i (Prog.lift (.load mHist r hl) >>= k) Q := by
  refine Holds.load d i (m := mHist) (r := r) (P := P) (k := k) fun f hf => ?_
  exact (Holds.keep hf).trans (h _)

/-- A store of zeros to the next slice. -/
theorem hzero {H : ℕ → ℕ → ℕ} {n : ℕ} {off : Fin 1 → ℕ} {inb : ∀ a, off a + S16.size a ≤ S2080.size a} {hx} {hm}
    {k : PUnit → TP i α} (hn : n < 64) (hoff : off 0 = 129 * (n % 16) + 16 * (3 - n / 16))
    (h : iprop(Hh d i (HG H (n + 1)) ∗ Z) ⊢ tw d i (k ⟨⟩) Q) :
    iprop(Hh d i (HG H n) ∗ Z)
      ⊢ tw d i (Prog.lift (.store mHist (Rect.unit (s := S2080) off S16.size inb) k0_pay298 Finset.univ hx hm) >>= k) Q :=
  Holds.store d i (m := mHist) (r := Rect.unit (s := S2080) off S16.size inb) (P := HG H n) (P' := HG H (n + 1)) (k := k) (fun f hf => hist_zero hf hn hoff fun _ => rfl) h

end Cert.Topk
end
-- ==== Proof.Spec.lean ====
/-
  What one row's run computes, on the row's words: the counts of the histogram, the scan of its 64 lower bins in four chunks
  of 16 for the bin of the 64th largest, the words the compaction keeps, and the search of the 25 lower bits by counting.
-/
module

public import proofs.«01_k».proof.Proof.State
public import Mathlib.Data.Nat.Count
public import Mathlib.Algebra.BigOperators.Group.Finset.Basic
public import Mathlib.Tactic.IntervalCases

@[expose] public section

noncomputable section

namespace Cert.Topk

open Cert.Select Cert.Select.Gen
open Idealize.ShloMosaic

/-! ## The histogram and its four chunks -/

/-- How many of lane `l`'s first `n` words (word `v` of lane `l` being the row's word `16 v + l`) lie in bin `b`, the bin of a
    word being its upper seven bits. -/
def hc (w : ℕ → BitVec 32) (n l b : ℕ) : ℕ := Nat.count (fun v => (w (16 * v + l)).toNat / 2 ^ 25 = b) n

theorem hc_eq (w : ℕ → BitVec 32) (n l b : ℕ) : hc w n l b = Nat.count (fun v => (w (16 * v + l)).toNat / 2 ^ 25 = b) n := rfl
attribute [irreducible] hc

/-- The counts of chunk `c` (bins `16 c` to `16 c + 15`) over the first `n` lanes. -/
def psum (H : ℕ → ℕ → ℕ) (c : ℕ) : ℕ → IVec S16 32
  | 0 => k0_pay298
  | n + 1 => addi (psum H c n) (rowVec H n c)

/-- The counts of chunk `c` over all lanes. -/
def tots (H : ℕ → ℕ → ℕ) (c : ℕ) : IVec S16 32 := psum H c 16

/-- A vector's lanes in reverse. -/
def rev (T : IVec S16 32) : IVec S16 32 := lv fun j => at1 T (15 - j)

/-- The state of the search for the bin: the bin found, the count above it, whether it is found, and the count so far. -/
structure CS where
  bstar : BitVec 32
  abv : BitVec 32
  found : BitVec 1
  run : BitVec 32

def cs0 : CS := ⟨0#32, 0#32, 0#1, 0#32⟩

/-- The counts from the top down to each bin of a chunk (reversed), with the count `run` above the chunk. -/
def cumv (run : BitVec 32) (R : IVec S16 32) : IVec S16 32 := addi (scan .sum R) (broadcast S16 run)
/-- Which of them are below 64. -/
def okv (run : BitVec 32) (R : IVec S16 32) : IVec S16 1 := cmpi .slt (cumv run R) (broadcast S16 64#32)
/-- How many of them are below 64. -/
def nbv (run : BitVec 32) (R : IVec S16 32) : BitVec 32 :=
  extractAt ![15] (scan .sum (extui 32 (okv run R) natLt_1_32)) inpos_S16_p15
/-- The largest of them below 64. -/
def abvv (run : BitVec 32) (R : IVec S16 32) : BitVec 32 :=
  extractAt ![15] (xori (scan .max (xori (select (okv run R) (cumv run R) (broadcast S16 0#32)) (broadcast S16 2147483648#32)))
    (broadcast S16 2147483648#32)) inpos_S16_p15
/-- A chunk's total. -/
def tot15 (T : IVec S16 32) : BitVec 32 := extractAt ![15] (scan .sum T) inpos_S16_p15
/-- Whether the bin lies in this chunk. -/
def hitv (found : BitVec 1) (run : BitVec 32) (T : IVec S16 32) : BitVec 1 :=
  Scalar.andi (Scalar.xori found 1#1) (Scalar.andi (Scalar.cmpi .sge (Scalar.addi run (tot15 T)) 64#32)
    (Scalar.cmpi .slt (nbv run (rev T)) 16#32))

/-- One chunk of the search. -/
def chunkStep (base : BitVec 32) (T : IVec S16 32) (s : CS) : CS where
  bstar := Scalar.select (hitv s.found s.run T) (Scalar.subi base (nbv s.run (rev T))) s.bstar
  abv := Scalar.select (hitv s.found s.run T) (Scalar.maxsi s.run (abvv s.run (rev T))) s.abv
  found := Scalar.ori s.found (hitv s.found s.run T)
  run := Scalar.addi s.run (tot15 T)

def cs1 (H : ℕ → ℕ → ℕ) : CS := chunkStep 63#32 (tots H 3) cs0
def cs2 (H : ℕ → ℕ → ℕ) : CS := chunkStep 47#32 (tots H 2) (cs1 H)
def cs3 (H : ℕ → ℕ → ℕ) : CS := chunkStep 31#32 (tots H 1) (cs2 H)
def cs4 (H : ℕ → ℕ → ℕ) : CS := chunkStep 15#32 (tots H 0) (cs3 H)

/-- The bin found. -/
def bst (H : ℕ → ℕ → ℕ) : BitVec 32 := (cs4 H).bstar
/-- How many words of that bin are to be counted. -/
def krem (H : ℕ → ℕ → ℕ) : BitVec 32 := Scalar.subi 64#32 (Scalar.select (cs4 H).found (cs4 H).abv (cs4 H).run)
/-- The lower and the upper bound of a bin's words. -/
def lo (b : BitVec 32) : BitVec 32 := Scalar.maxsi (Scalar.shli b 25#32) 1#32
def hi (b : BitVec 32) : BitVec 32 := Scalar.select (Scalar.cmpi .slt b 63#32) (Scalar.shli (Scalar.addi b 1#32) 25#32) 2147483647#32

/-! ## The words kept, and the search of the lower bits -/

/-- A word lies within the bounds. -/
def keep (lo hi x : BitVec 32) : Bool := lo.sle x && x.slt hi

/-- How many of lane `l`'s first `n` words lie within the bounds. -/
def oc (w : ℕ → BitVec 32) (lo hi : BitVec 32) (n l : ℕ) : ℕ := Nat.count (fun v => keep lo hi (w (16 * v + l)) = true) n

theorem oc_eq (w : ℕ → BitVec 32) (lo hi : BitVec 32) (n l : ℕ) :
    oc w lo hi n l = Nat.count (fun v => keep lo hi (w (16 * v + l)) = true) n := rfl
attribute [irreducible] oc

/-- How many of the row's words lie within the bounds and are at least `T`. -/
def nn (w : ℕ → BitVec 32) (lo hi T : BitVec 32) : ℕ :=
  ∑ l ∈ Finset.range 16, Nat.count (fun v => keep lo hi (w (16 * v + l)) = true ∧ T.sle (w (16 * v + l)) = true) 1024

theorem nn_eq (w : ℕ → BitVec 32) (lo hi T : BitVec 32) : nn w lo hi T
    = ∑ l ∈ Finset.range 16, Nat.count (fun v => keep lo hi (w (16 * v + l)) = true ∧ T.sle (w (16 * v + l)) = true) 1024 := rfl
attribute [irreducible] nn

/-- The search's next word, for one bit. -/
def stp (w : ℕ → BitVec 32) (lo hi k R bit : BitVec 32) : BitVec 32 :=
  Scalar.select (IntOp.cmpi .sge (BitVec.ofNat 32 (nn w lo hi (IntOp.ori R bit))) k) (IntOp.ori R bit) R

/-- The search's word after `b` bits, from bit 24 down. -/
def rad (w : ℕ → BitVec 32) (lo hi k t0 : BitVec 32) : ℕ → BitVec 32
  | 0 => t0
  | b + 1 => stp w lo hi k (rad w lo hi k t0 b) (BitVec.ofNat 32 (2 ^ (24 - b)))

/-- The word of the threshold of a row. -/
def thrW (w : ℕ → BitVec 32) : BitVec 32 :=
  IntOp.maxsi (rad w (lo (bst (hc w 1024))) (hi (bst (hc w 1024))) (IntOp.addi 0#32 (krem (hc w 1024)))
    (IntOp.addi 0#32 (Scalar.shli (bst (hc w 1024)) 25#32)) 25) 1#32

/-! ## Sums and maxima along the lanes -/

/-- Lane `l`. -/
abbrev ln (l : ℕ) (h : l < 16) : S16.Idx := Shape.ofLane (d := ![16]) ⟨l, h⟩

/-- Lanes 0 to `j` combined by the step of a scan. -/
def cscan (kind : ScanKind) (v : IVec S16 32) : ℕ → BitVec 32
  | 0 => at1 v 0
  | j + 1 => kind.step (cscan kind v j) (at1 v (j + 1))

theorem scan_lane (kind : ScanKind) (v : IVec S16 32) : ∀ j, (h : j < 16) → scan kind v (ln j h) = cscan kind v j := by
  intro j h
  interval_cases j <;> rfl

theorem scan_eq (kind : ScanKind) (v : IVec S16 32) : scan kind v = lv (cscan kind v) := by
  funext x
  have h := scan_lane kind v (x 0).val (x 0).isLt
  refine Eq.trans ?_ h
  congr 1
  funext a
  obtain rfl : a = 0 := Subsingleton.elim _ _
  rfl

/-- The sum of lanes 0 to `j`. -/
abbrev csum (v : IVec S16 32) : ℕ → BitVec 32 := cscan .sum v

theorem extract15 (v : IVec S16 32) : extractAt ![15] v inpos_S16_p15 = at1 v 15 := at1_of_val v _ rfl

theorem csum_ofNat {v : IVec S16 32} {g : ℕ → ℕ} (h : ∀ l < 16, at1 v l = BitVec.ofNat 32 (g l)) :
    ∀ j < 16, csum v j = BitVec.ofNat 32 (∑ l ∈ Finset.range (j + 1), g l)
  | 0, _ => by rw [csum, cscan, h 0 (by omega), Finset.sum_range_one]
  | j + 1, hj => by
    rw [csum, cscan, show cscan .sum v j = _ from csum_ofNat h j (by omega), h (j + 1) hj, Finset.sum_range_succ _ (j + 1), BitVec.ofNat_add]; rfl

end Cert.Topk
end
-- ==== Proof.Passab.lean ====
/-
  The pass over a row's 16384 words, 16 at a time: it counts the words' bins, lane by lane, and keeps the words within the
  bounds, each in its lane's column of the candidates' buffer.
-/
module

public import proofs.«01_k».proof.Proof.Spec

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

abbrev mRow : Memref sig .scVector .vmem S2x16384 .f32 := Memref.whole cc0_scratch0

variable (d : Dev nD) (i : grid0.Coords)

/-- Word `(s, n)` of the two row slots. -/
def at2 (f : S2x16384.Idx → BitVec 32) (s n : ℕ) : BitVec 32 :=
  if h : s < 2 ∧ n < 16384 then f (fun a => match a with | 0 => ⟨s, h.1⟩ | 1 => ⟨n, h.2⟩) else 0

theorem at2_of_val (f : S2x16384.Idx → BitVec 32) (x : S2x16384.Idx) {s n : ℕ} (hs : (x 0).val = s) (hn : (x 1).val = n) :
    f x = at2 f s n := by
  subst hs hn
  have h0 : (x 0).val < 2 := (x 0).isLt
  have h1 : (x 1).val < 16384 := (x 1).isLt
  rw [at2, dif_pos ⟨h0, h1⟩]
  congr 1
  funext a
  match a with
  | 0 => rfl
  | 1 => rfl

/-- The elements `S` of the two row slots, row `s` of them being the words `w`. -/
def Hr (S : Finset S2x16384.Idx) (s : ℕ) (w : ℕ → BitVec 32) : sProp 𝕄 :=
  iprop(∃ f : S2x16384.Idx → BitVec 32, ⌜∀ n < 16384, at2 f s n = w n⌝ ∗ (mRow.view.loc (VT d i) ↦[S]{fullShare} f))

/-- Sixteen words of a row, as loaded. -/
def rowWord (w : ℕ → BitVec 32) (n : ℕ) : Vec Bits S1x16 .f32 := fun x => w (16 * n + (x 1).val)

theorem shapeCast_1x16 (x : S1x16.Idx → BitVec 32) (h : S1x16.ShapeCasts S16) (j : S16.Idx) :
    shapeCast S16 x h j = x (Fin.cons ⟨0, Nat.one_pos⟩ j : (a : Fin 2) → Fin (![1, 16] a)) := by
  rw [shapeCast]
  exact congrArg x (Shape.reshapeEquiv_cons_one (d := ![16]) h j)

/-- The words of sixteen lanes. -/
def rowV (w : ℕ → BitVec 32) (n : ℕ) : IVec S16 32 := lv fun l => w (16 * n + l)

theorem pay1_rowWord (w : ℕ → BitVec 32) (n : ℕ) : k0_pay1 (F := Bits) (rowWord w n) = rowV w n := by
  funext j
  exact shapeCast_1x16 (rowWord w n) _ j

variable {α : Type} {Q : α → sProp 𝕄} {Z : sProp 𝕄}

/-! ## Order of what is held -/

theorem swap1 {A B Z X : sProp 𝕄} (h : iprop(B ∗ (A ∗ Z)) ⊢ X) : iprop(A ∗ (B ∗ Z)) ⊢ X := by
  refine BI.BIBase.Entails.trans ?_ h
  iintro ⟨HA, HB, HZ⟩
  isplitl [HB]
  · iexact HB
  isplitl [HA]
  · iexact HA
  · iexact HZ

theorem swap2 {A B C Z X : sProp 𝕄} (h : iprop(C ∗ (A ∗ (B ∗ Z))) ⊢ X) : iprop(A ∗ (B ∗ (C ∗ Z))) ⊢ X := by
  refine BI.BIBase.Entails.trans ?_ h
  iintro ⟨HA, HB, HC, HZ⟩
  isplitl [HC]
  · iexact HC
  isplitl [HA]
  · iexact HA
  isplitl [HB]
  · iexact HB
  · iexact HZ

theorem unswap2 {A B C Z X : sProp 𝕄} (h : iprop(A ∗ (B ∗ (C ∗ Z))) ⊢ X) : iprop(C ∗ (A ∗ (B ∗ Z))) ⊢ X := by
  refine BI.BIBase.Entails.trans ?_ h
  iintro ⟨HC, HA, HB, HZ⟩
  isplitl [HA]
  · iexact HA
  isplitl [HB]
  · iexact HB
  isplitl [HC]
  · iexact HC
  · iexact HZ

/-! ## Returns and loops -/

theorem tw_ret {A : sProp 𝕄} {a b : α} (e : a = b) (h : A ⊢ Q b) : A ⊢ tw d i (pure a) Q := by
  subst e
  show A ⊢ tw d i (.ret a) Q
  unfold tw
  rw [wp_ret]
  refine h.trans ?_
  iintro H
  imodintro
  iexact H

/-- A loop whose carried value at each trip is known. -/
theorem tw_for {σ β : Type} {l : Scf.Loop 32} {ok : l.OK} {init : σ} {body : Fin l.trips → σ → TP i σ} {kk : σ → TP i β}
    {Q : β → sProp 𝕄} (A : ℕ → σ) (St : ℕ → sProp 𝕄) (h0 : init = A 0)
    (hbody : ∀ k : Fin l.trips, St k.val ⊢ tw d i (body k (A k.val)) (fun r => iprop(⌜r = A (k.val + 1)⌝ ∗ St (k.val + 1))))
    (h : St l.trips ⊢ tw d i (kk (A l.trips)) Q) :
    St 0 ⊢ tw d i (Scf.Loop.for l ok init body >>= kk) Q := by
  have key := Scf.wp_for_bind (M := 𝕄) frame (wpE (defs₀ (F := Bits)) 𝒱₀ (VT d i) none) Set.univ l.lb l.ub l.st ok init body
    (fun n acc => iprop(⌜acc = A n⌝ ∗ St n)) (by
      intro k acc
      iintro ⟨%e, H⟩
      subst e
      iapply (hbody k) $$ H) (kk := kk) (Q := Q)
  iintro H
  iapply key $$ [H]
  · isplitr [H]
    · ipureintro; exact h0
    · iexact H
  · iintro %acc ⟨%e, H⟩
    subst e
    iapply h $$ H

/-! ## The loads of a row -/

theorem off16 {n : ℕ} (hn : n < 1024) :
    (Scalar.indexCast (Scalar.muli (Scalar.addi 0#32 (Scalar.muli (Scf.iv 0#32 1#32 n) 1#32)) 16#32)).toNat = 16 * n := by
  have e : Scalar.indexCast (Scalar.muli (Scalar.addi 0#32 (Scalar.muli (Scf.iv 0#32 1#32 n) 1#32)) 16#32)
      = (0#32 + (0#32 + BitVec.ofNat 32 n * 1#32) * 1#32) * 16#32 := rfl
  rw [e]
  simp only [BitVec.toNat_mul, BitVec.toNat_add, BitVec.toNat_ofNat]
  omega

variable {S : Finset S2x16384.Idx} {s : ℕ} {w : ℕ → BitVec 32}

theorem row_emb {off : Fin 2 → ℕ} {inb : ∀ a, off a + S1x16.size a ≤ S2x16384.size a} (x : S1x16.Idx) :
    (((Rect.unit (s := S2x16384) off S1x16.size inb).emb x) 0).val = off 0
      ∧ (((Rect.unit (s := S2x16384) off S1x16.size inb).emb x) 1).val = off 1 + (x 1).val := by
  rw [Rect.emb_apply]
  have h0 : (x 0).val < 1 := (x 0).isLt
  constructor
  · show off 0 + 1 * (x 0).val = _; omega
  · show off 1 + 1 * (x 1).val = _; omega

theorem rload {off : Fin 2 → ℕ} {inb : ∀ a, off a + S1x16.size a ≤ S2x16384.size a} {hl} {n : ℕ}
    {k : Vec Bits S1x16 .f32 → TP i α} (hS : ∀ x : S2x16384.Idx, (x 0).val = s → x ∈ S) (h0 : off 0 = s) (h1 : off 1 = 16 * n)
    (hn : n < 1024) (h : iprop(Hr d i S s w ∗ Z) ⊢ tw d i (k (rowWord w n)) Q) :
    iprop(Hr d i S s w ∗ Z)
      ⊢ tw d i (Prog.lift (.load mRow (Rect.unit (s := S2x16384) off S1x16.size inb).toLoadRect hl) >>= k) Q := by
  unfold Hr at *
  iintro ⟨⟨%f, %hf, H⟩, Hz⟩
  have e : mRow.view.readAt (Elt Bits) (Rect.unit (s := S2x16384) off S1x16.size inb).toLoadRect f = rowWord w n := by
    funext x
    have hx : (x 1).val < 16 := (x 1).isLt
    refine (at2_of_val f ((Rect.unit (s := S2x16384) off S1x16.size inb).emb x) (row_emb x).1 (row_emb x).2).trans ?_
    rw [h0, h1, hf _ (by omega)]
    rfl
  iapply (wp_load 𝒱₀ (VT d i) none Set.univ (hl := hl) (k := k) (Q := Q) (q := fullShare) (f := f) (S := S) (by
    intro y hy
    obtain ⟨x, hx, rfl⟩ := Finset.mem_map.1 hy
    obtain ⟨j, hj, ej⟩ := (LoadRect.mem_set _).1 hx 0
    have hj' : j < 1 := hj
    have ej' : (x 0).val = off 0 + 1 * j := ej
    refine hS _ (show (x 0).val = s from ?_)
    omega)) $$ H
  iintro H
  rw [e]
  iapply h
  isplitl [H]
  · iexists f
    isplitr [H]
    · ipureintro; exact hf
    · iexact H
  · iexact Hz

/-! ## One trip of the pass -/

/-- The histogram of the row's first `16 n` words in its buffer. -/
def HistAt (w : ℕ → BitVec 32) (n : ℕ) (f : S2080.Idx → BitVec 32) : Prop := HG (hc w n) 0 f

/-- The words kept of the row's first `16 n`, in the candidates' buffer: the `k`-th of lane `l` at word `16 k + l`. -/
def CandAt (w : ℕ → BitVec 32) (lo hi : BitVec 32) (n : ℕ) (f : S16400.Idx → BitVec 32) : Prop :=
  ∀ l < 16, ∀ v < n, keep lo hi (w (16 * v + l)) = true → at1 f (16 * oc w lo hi v l + l) = w (16 * v + l)

/-- Where the next word kept of each lane goes. -/
def accV (w : ℕ → BitVec 32) (lo hi : BitVec 32) (n : ℕ) : IVec S16 32 := lv fun l => BitVec.ofNat 32 (16 * oc w lo hi n l)

/-- Which lanes' words are kept. -/
def maskV (lo hi : BitVec 32) (X : IVec S16 32) : IVec S16 1 :=
  andi (cmpi .sge X (broadcast S16 lo)) (cmpi .slt X (broadcast S16 hi))

/-- The next places after a trip. -/
def nextV (lo hi : BitVec 32) (acc X : IVec S16 32) : IVec S16 32 :=
  addi acc (select (maskV lo hi X) (broadcast S16 16#32) (broadcast S16 0#32))

theorem ofBool_eq_one {b : Bool} : BitVec.ofBool b = 1#1 ↔ b = true := by cases b <;> decide

theorem maskV_eq {lo hi : BitVec 32} {X : IVec S16 32} (x : S16.Idx) : maskV lo hi X x = BitVec.ofBool (keep lo hi (X x)) := by
  show BitVec.ofBool (lo.sle (X x)) &&& BitVec.ofBool ((X x).slt hi) = _
  rw [BitVec.ofBool_and_ofBool]; rfl

theorem oc_succ (w : ℕ → BitVec 32) (lo hi : BitVec 32) (n l : ℕ) :
    oc w lo hi (n + 1) l = oc w lo hi n l + if keep lo hi (w (16 * n + l)) = true then 1 else 0 := by
  rw [oc_eq, oc_eq]; exact Nat.count_succ _ _

theorem hc_succ (w : ℕ → BitVec 32) (n l b : ℕ) :
    hc w (n + 1) l b = hc w n l b + if (w (16 * n + l)).toNat / 2 ^ 25 = b then 1 else 0 := by
  rw [hc_eq, hc_eq]; exact Nat.count_succ _ _

theorem oc_le (w : ℕ → BitVec 32) (lo hi : BitVec 32) (n l : ℕ) : oc w lo hi n l ≤ n := by rw [oc_eq]; exact Nat.count_le _

theorem oc_mono (w : ℕ → BitVec 32) (lo hi : BitVec 32) (l : ℕ) {n m : ℕ} (h : n ≤ m) : oc w lo hi n l ≤ oc w lo hi m l := by
  rw [oc_eq, oc_eq]; exact Nat.count_monotone _ h

theorem nextV_acc (w : ℕ → BitVec 32) (lo hi : BitVec 32) (n : ℕ) :
    nextV lo hi (accV w lo hi n) (rowV w n) = accV w lo hi (n + 1) := by
  funext x
  show BitVec.ofNat 32 (16 * oc w lo hi n (x 0).val) + Scalar.select (maskV lo hi (rowV w n) x) 16#32 0#32
    = BitVec.ofNat 32 (16 * oc w lo hi (n + 1) (x 0).val)
  rw [maskV_eq, oc_succ, Nat.mul_add, BitVec.ofNat_add]
  congr 1
  show (if BitVec.ofBool (keep lo hi (w (16 * n + (x 0).val))) = 1#1 then _ else _) = _
  by_cases h : keep lo hi (w (16 * n + (x 0).val)) = true
  · rw [if_pos (ofBool_eq_one.2 h), if_pos h]
  · rw [if_neg fun e => h (ofBool_eq_one.1 e), if_neg h]

/-- Where each lane's word is counted. -/
def binV (X : IVec S16 32) : IVec S16 32 := addi (shrui X (broadcast S16 25#32)) k0_pay300

theorem binV_lane (w : ℕ → BitVec 32) (n : ℕ) {l : ℕ} (hl : l < 16) :
    (at1 (binV (rowV w n)) l).toNat = 129 * l + (w (16 * n + l)).toNat / 2 ^ 25 := by
  rw [at1_lane _ hl]
  have e : binV (rowV w n) (Shape.ofLane (d := ![16]) ⟨l, hl⟩) = (w (16 * n + l)) >>> (25#32) + BitVec.ofNat 32 (0 * 16 + l) * 129#32 := rfl
  rw [e]
  have h1 := (w (16 * n + l)).isLt
  simp only [BitVec.toNat_add, BitVec.toNat_mul, BitVec.toNat_ofNat, BitVec.ushiftRight_eq', BitVec.toNat_ushiftRight, Nat.shiftRight_eq_div_pow, Nat.reduceMod, Nat.reducePow]
  omega

theorem binV_chk (w : ℕ → BitVec 32) (n : ℕ) : ∀ a x, ((![binV (rowV w n)] : Fin 1 → IVec S16 32) a x).toNat < S2080.size a := by
  intro a x
  obtain rfl : a = 0 := Subsingleton.elim _ _
  have h := binV_lane w n (x 0).isLt
  have h1 := (w (16 * n + (x 0).val)).isLt
  have h2 : (x 0).val < 16 := (x 0).isLt
  have e : at1 (binV (rowV w n)) (x 0).val = binV (rowV w n) x := at1_idx _ x
  rw [e] at h
  show (binV (rowV w n) x).toNat < 2080
  rw [h]
  omega

theorem pay299_one (x : S16.Idx) : k0_pay299 x = 1 := by
  have h : ∀ l : Fin 16, BitVec.ofBool ((BitVec.ofNat 32 (0 * 16 + l.val)).slt 16#32) = 1#1 := by decide
  exact h (x 0)

theorem hist_step {n : ℕ} {f : S2080.Idx → BitVec 32} (hf : HistAt w n f)
    (h : ∀ a x, ((![binV (rowV w n)] : Fin 1 → IVec S16 32) a x).toNat < S2080.size a) :
    HistAt w (n + 1) (storeIdx (F := Bits) (e := .i32) f ![binV (rowV w n)] k0_pay297 k0_pay299 true h) := by
  have inj : ∀ l < 16, ∀ l' < 16, 129 * l + (w (16 * n + l)).toNat / 2 ^ 25 = 129 * l' + (w (16 * n + l')).toNat / 2 ^ 25 → l = l' := by
    intro l hl l' hl' e
    have h1 := (w (16 * n + l)).isLt
    have h2 := (w (16 * n + l')).isLt
    omega
  obtain ⟨hit, miss⟩ := at1_storeIdx f (fun l => 129 * l + (w (16 * n + l)).toNat / 2 ^ 25) (binV (rowV w n)) k0_pay297 k0_pay299 true h
    (fun l hl => binV_lane w n hl) (by first | exact fun l hl l' hl' e => inj l hl l' hl' e | exact fun l hl l' hl' _ _ e => inj l hl l' hl' e)
  intro l hl b hb
  rw [if_neg (by omega)]
  have old := hf l hl b hb
  rw [if_neg (by omega)] at old
  rw [hc_succ]
  by_cases hb' : (w (16 * n + l)).toNat / 2 ^ 25 = b
  · subst hb'
    rw [hit l hl (pay299_one _), if_pos rfl, if_pos rfl, old, BitVec.ofNat_add]
    congr 1
    rw [at1_lane _ hl]; rfl
  · rw [miss _ fun l' hl' _ e => hb' ?_, old, if_neg hb', Nat.add_zero]
    have h1 := (w (16 * n + l')).isLt
    obtain rfl : l = l' := by omega
    omega

/-- Where each lane's word goes if it is kept. -/
theorem putV_lane (w : ℕ → BitVec 32) (lo hi : BitVec 32) {n : ℕ} (hn : n < 1024) {l : ℕ} (hl : l < 16) :
    (at1 (addi (accV w lo hi n) (iota .scVector S16 32 [0] iota_S16_d0_w32_scVector)) l).toNat = 16 * oc w lo hi n l + l := by
  rw [at1_lane _ hl]
  have e : addi (accV w lo hi n) (iota .scVector S16 32 [0] iota_S16_d0_w32_scVector) (Shape.ofLane (d := ![16]) ⟨l, hl⟩)
      = BitVec.ofNat 32 (16 * oc w lo hi n l) + BitVec.ofNat 32 (0 * 16 + l) := rfl
  rw [e]
  have := oc_le w lo hi n l
  simp only [BitVec.toNat_add, BitVec.toNat_ofNat]
  omega

theorem putV_chk (w : ℕ → BitVec 32) (lo hi : BitVec 32) {n : ℕ} (hn : n < 1024) :
    ∀ a x, ((![addi (accV w lo hi n) (iota .scVector S16 32 [0] iota_S16_d0_w32_scVector)] : Fin 1 → IVec S16 32) a x).toNat < S16400.size a := by
  intro a x
  obtain rfl : a = 0 := Subsingleton.elim _ _
  have h := putV_lane w lo hi hn (x 0).isLt
  have h1 := oc_le w lo hi n (x 0).val
  have h2 : (x 0).val < 16 := (x 0).isLt
  rw [at1_idx (addi (accV w lo hi n) (iota .scVector S16 32 [0] iota_S16_d0_w32_scVector)) x] at h
  show (addi (accV w lo hi n) (iota .scVector S16 32 [0] iota_S16_d0_w32_scVector) x).toNat < 16400
  rw [h]
  omega

theorem cand_step {lo hi : BitVec 32} {n : ℕ} (hn : n < 1024) {f : S16400.Idx → BitVec 32} (hf : CandAt w lo hi n f)
    (h : ∀ a x, ((![addi (accV w lo hi n) (iota .scVector S16 32 [0] iota_S16_d0_w32_scVector)] : Fin 1 → IVec S16 32) a x).toNat < S16400.size a) :
    CandAt w lo hi (n + 1) (storeIdx (F := Bits) (e := .i32) f
      ![addi (accV w lo hi n) (iota .scVector S16 32 [0] iota_S16_d0_w32_scVector)] (rowV w n) (maskV lo hi (rowV w n)) false h) := by
  obtain ⟨hit, miss⟩ := at1_storeIdx f (fun l => 16 * oc w lo hi n l + l)
    (addi (accV w lo hi n) (iota .scVector S16 32 [0] iota_S16_d0_w32_scVector)) (rowV w n) (maskV lo hi (rowV w n)) false h
    (fun l hl => putV_lane w lo hi hn hl) (by first | exact fun l hl l' hl' e => by omega | exact fun l hl l' hl' _ _ e => by omega)
  have hm : ∀ l (hl : l < 16), maskV lo hi (rowV w n) (Shape.ofLane (d := ![16]) ⟨l, hl⟩) = BitVec.ofBool (keep lo hi (w (16 * n + l))) :=
    fun l hl => maskV_eq _
  intro l hl v hv hk
  rcases Nat.lt_or_ge v n with hvn | hvn
  · rw [miss _ fun l' hl' _ e => ?_]
    · exact hf l hl v hvn hk
    · obtain rfl : l = l' := by omega
      have e1 : oc w lo hi v l + 1 ≤ oc w lo hi n l := by
        have := oc_succ w lo hi v l
        rw [if_pos hk] at this
        rw [← this]
        exact oc_mono w lo hi l hvn
      omega
  · obtain rfl : v = n := by omega
    rw [hit l hl ((hm l hl).trans (ofBool_eq_one.2 hk)), if_neg (by decide), at1_lane _ hl]
    rfl

theorem hist_write (f g : S2080.Idx → BitVec 32) : (mHist.access (.whole S2080)).write (Elt Bits) f g Finset.univ = g :=
  Memref.write_access_whole_univ (Elt Bits) cc0_scratch1 f g
theorem hist_get (f : S2080.Idx → BitVec 32) : (mHist.access (.whole S2080)).read (Elt Bits) f = f :=
  Memref.read_access_whole (Elt Bits) cc0_scratch1 f
theorem cand_write (f g : S16400.Idx → BitVec 32) : (mCand.access (.whole S16400)).write (Elt Bits) f g Finset.univ = g :=
  Memref.write_access_whole_univ (Elt Bits) cc0_scratch2 f g
theorem cand_get (f : S16400.Idx → BitVec 32) : (mCand.access (.whole S16400)).read (Elt Bits) f = f :=
  Memref.read_access_whole (Elt Bits) cc0_scratch2 f

/-- The histogram's update in one trip. -/
theorem hadd {n : ℕ} {chk : ∀ a x, ((![binV (rowV w n)] : Fin 1 → IVec S16 32) a x).toNat < S2080.size a} {hs} {k : PUnit → TP i α}
    (h : iprop(Hh d i (HistAt w (n + 1)) ∗ Z) ⊢ tw d i (k ⟨⟩) Q) :
    iprop(Hh d i (HistAt w n) ∗ Z)
      ⊢ tw d i (SparseCore.vectorStoreIdx mHist ![binV (rowV w n)] k0_pay297 k0_pay299 true chk hs >>= k) Q :=
  Holds.storeIdx d i (base := mHist) (P := HistAt w n) (P' := HistAt w (n + 1)) (k := k) (fun f hf => by
    rw [hist_write, hist_get]
    exact hist_step hf chk) h

/-- The candidates' update in one trip. -/
theorem cput {n : ℕ} {lo hi : BitVec 32} (hn : n < 1024)
    {chk : ∀ a x, ((![addi (accV w lo hi n) (iota .scVector S16 32 [0] iota_S16_d0_w32_scVector)] : Fin 1 → IVec S16 32) a x).toNat < S16400.size a}
    {hs} {k : PUnit → TP i α} (h : iprop(Hc d i (CandAt w lo hi (n + 1)) ∗ Z) ⊢ tw d i (k ⟨⟩) Q) :
    iprop(Hc d i (CandAt w lo hi n) ∗ Z)
      ⊢ tw d i (SparseCore.vectorStoreIdx mCand ![addi (accV w lo hi n) (iota .scVector S16 32 [0] iota_S16_d0_w32_scVector)]
        (rowV w n) (maskV lo hi (rowV w n)) false chk hs >>= k) Q :=
  Holds.storeIdx d i (base := mCand) (P := CandAt w lo hi n) (P' := CandAt w lo hi (n + 1)) (k := k) (fun f hf => by
    rw [cand_write, cand_get]
    exact cand_step hn hf chk) h

end Cert.Topk
end
-- ==== Proof.Loops.lean ====
/-
  The loops of one row: the pass over the row, and the counting loop over the candidates.
-/
module

public import proofs.«01_k».proof.Proof.Passab

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords)
variable {α : Type} {Q : α → sProp 𝕄} {Z : sProp 𝕄}
variable {S : Finset S2x16384.Idx} {w : ℕ → BitVec 32}

abbrev laneV : IVec S16 32 := iota .scVector S16 32 [0] iota_S16_d0_w32_scVector

/-- What is held in the pass over the row in slot `s`, after `n` trips. -/
def PassSt (S : Finset S2x16384.Idx) (s : ℕ) (w : ℕ → BitVec 32) (lo hi : BitVec 32) (Z : sProp 𝕄) (n : ℕ) : sProp 𝕄 :=
  iprop(Hr d i S s w ∗ (Hh d i (HistAt w n) ∗ (Hc d i (CandAt w lo hi n) ∗ Z)))

/-- What is held in the pass that only keeps words. -/
def CompSt (S : Finset S2x16384.Idx) (s : ℕ) (w : ℕ → BitVec 32) (lo hi : BitVec 32) (Z : sProp 𝕄) (n : ℕ) : sProp 𝕄 :=
  iprop(Hr d i S s w ∗ (Hc d i (CandAt w lo hi n) ∗ Z))

/-- A returned value known by an equation. -/
theorem tw_ret_eq {A B : sProp 𝕄} {a b : α} (e : a = b) (h : A ⊢ B) : A ⊢ tw d i (pure a) (fun r => iprop(⌜r = b⌝ ∗ B)) := by
  refine tw_ret d i e ?_
  refine h.trans ?_
  iintro H
  isplitr [H]
  · ipureintro; rfl
  · iexact H

section Bodies

variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

theorem t3_body (hS : ∀ x : S2x16384.Idx, (x 0).val = 0 → x ∈ S) (v2 : BitVec 32) (k0_t2 : Fin k0_t2_loop.trips) (g : BitVec 32)
    (t : Fin k0_t3_loop.trips) :
    PassSt d i S 0 w (lo g) (hi g) Z t.val
      ⊢ tw d i (k0_t3_body i arg2 harg2 arg3 harg3 mRow harg4 mHist harg5 mCand harg6 mThr harg7 mOff harg8 arg9 arg10 v30_r0
          v2 laneV k0_pay297 k0_pay298 k0_pay299 k0_pay300 0#32 1#32 k0_t2 g t (accV w (lo g) (hi g) t.val))
        (fun r => iprop(⌜r = accV w (lo g) (hi g) (t.val + 1)⌝ ∗ PassSt d i S 0 w (lo g) (hi g) Z (t.val + 1))) := by
  have ht : t.val < 1024 := t.isLt
  unfold k0_t3_body PassSt
  refine rload d i hS rfl (off16 ht) ht ?_
  have e2 : k0_pay2 k0_pay300 (rowWord w t.val) = binV (rowV w t.val) := by rw [← pay1_rowWord]; rfl
  have e3 : k0_pay3 g (rowWord w t.val) = maskV (lo g) (hi g) (rowV w t.val) := by rw [← pay1_rowWord]; rfl
  have e4 : k0_pay4 g (accV w (lo g) (hi g) t.val) (rowWord w t.val) = nextV (lo g) (hi g) (accV w (lo g) (hi g) t.val) (rowV w t.val) := by
    rw [← pay1_rowWord]; rfl
  rw [e2, e3, e4, pay1_rowWord]
  refine assume_step d i (binV_chk w _) ?_
  refine swap1 (hadd d i (swap2 ?_))
  refine assume_step d i (putV_chk w _ _ ht) ?_
  refine cput d i ht (unswap2 (swap1 ?_))
  exact tw_ret_eq d i (nextV_acc w _ _ _) .rfl

/-- The pass over the row in slot 1. -/
theorem t55_body (hS : ∀ x : S2x16384.Idx, (x 0).val = 1 → x ∈ S) (g : BitVec 32) (t : Fin k0_t55_loop.trips) :
    PassSt d i S 1 w (lo g) (hi g) Z t.val
      ⊢ tw d i (k0_t55_body i arg2 harg2 arg3 harg3 mRow harg4 mHist harg5 mCand harg6 mThr harg7 mOff harg8 arg9 arg10 v30_r0
          laneV k0_pay297 k0_pay298 k0_pay299 k0_pay300 (lo g) (Scalar.cmpi .slt g 63#32) (Scalar.shli (Scalar.addi g 1#32) 25#32)
          t (accV w (lo g) (hi g) t.val))
        (fun r => iprop(⌜r = accV w (lo g) (hi g) (t.val + 1)⌝ ∗ PassSt d i S 1 w (lo g) (hi g) Z (t.val + 1))) := by
  have ht : t.val < 1024 := t.isLt
  unfold k0_t55_body PassSt
  refine rload d i hS rfl (off16 ht) ht ?_
  have e1 : k0_pay151 (F := Bits) (rowWord w t.val) = rowV w t.val := pay1_rowWord w t.val
  have e2 : k0_pay152 k0_pay300 (rowWord w t.val) = binV (rowV w t.val) := by rw [← pay1_rowWord]; rfl
  have e3 : k0_pay153 (lo g) (Scalar.cmpi .slt g 63#32) (Scalar.shli (Scalar.addi g 1#32) 25#32) (rowWord w t.val)
      = maskV (lo g) (hi g) (rowV w t.val) := by rw [← pay1_rowWord]; rfl
  have e4 : k0_pay154 (lo g) (Scalar.cmpi .slt g 63#32) (Scalar.shli (Scalar.addi g 1#32) 25#32) (accV w (lo g) (hi g) t.val)
      (rowWord w t.val) = nextV (lo g) (hi g) (accV w (lo g) (hi g) t.val) (rowV w t.val) := by rw [← pay1_rowWord]; rfl
  rw [e1, e2, e3, e4]
  refine assume_step d i (binV_chk w _) ?_
  refine swap1 (hadd d i (swap2 ?_))
  refine assume_step d i (putV_chk w _ _ ht) ?_
  refine cput d i ht (unswap2 (swap1 ?_))
  exact tw_ret_eq d i (nextV_acc w _ _ _) .rfl

/-- The second pass over the row in slot 0, which only keeps words. -/
theorem t4_body (hS : ∀ x : S2x16384.Idx, (x 0).val = 0 → x ∈ S) (l h : BitVec 32) {arg12 v50 v101 v115 v186 v200 v271 v285 v356 v370 v387 v398 v399 v400 c0}
    (h1 : k0_cond1 arg12 v101 v115 v186 v200 v271 v285 v356 v370 = 1#1) (t : Fin k0_t4_loop.trips) :
    CompSt d i S 0 w l h Z t.val
      ⊢ tw d i (k0_t4_body i arg2 harg2 arg3 harg3 mRow harg4 mHist harg5 mCand harg6 mThr harg7 mOff harg8 arg9 arg10 v30_r0
          laneV k0_pay298 arg12 v50 v101 v115 v186 v200 v271 v285 v356 v370 v387 l h v398 v399 v400 c0 h1 t (accV w l h t.val))
        (fun r => iprop(⌜r = accV w l h (t.val + 1)⌝ ∗ CompSt d i S 0 w l h Z (t.val + 1))) := by
  have ht : t.val < 1024 := t.isLt
  unfold k0_t4_body CompSt
  refine rload d i hS rfl (off16 ht) ht ?_
  have e1 : k0_pay41 (F := Bits) (rowWord w t.val) = rowV w t.val := pay1_rowWord w t.val
  have e3 : k0_pay42 l h (rowWord w t.val) = maskV l h (rowV w t.val) := by rw [← pay1_rowWord]; rfl
  have e4 : k0_pay43 l h (accV w l h t.val) (rowWord w t.val) = nextV l h (accV w l h t.val) (rowV w t.val) := by rw [← pay1_rowWord]; rfl
  rw [e1, e3, e4]
  refine assume_step d i (fun _ => putV_chk w _ _ ht) ?_
  refine swap1 (cput d i ht (swap1 ?_))
  exact tw_ret_eq d i (nextV_acc w _ _ _) .rfl

/-- The second pass over the row in slot 1. -/
theorem t56_body (hS : ∀ x : S2x16384.Idx, (x 0).val = 1 → x ∈ S) {b v101 v115 v186 v200 v271 v285 v356 v370 v387 v820 v871 v885 v956 v970 v1041 v1055
      v1072 v1073 v1074 v1075 v1126 v1140 v1146 v1147 v1151 v1152} (hb : Scalar.select v1146 v1147 v1072 = b)
    (h3 : k0_cond3 v101 v115 v186 v200 v271 v285 v356 v370 v871 v885 v956 v970 v1041 v1055 v1126 v1140 = 1#1) (t : Fin k0_t56_loop.trips) :
    CompSt d i S 1 w (lo b) (hi b) Z t.val
      ⊢ tw d i (k0_t56_body i arg2 harg2 arg3 harg3 mRow harg4 mHist harg5 mCand harg6 mThr harg7 mOff harg8 arg9 arg10 v30_r0
          laneV k0_pay298 v101 v115 v186 v200 v271 v285 v356 v370 v387 v820 v871 v885 v956 v970 v1041 v1055
          v1072 v1073 v1074 v1075 v1126 v1140 v1146 v1147 v1151 v1152 h3 t (accV w (lo b) (hi b) t.val))
        (fun r => iprop(⌜r = accV w (lo b) (hi b) (t.val + 1)⌝ ∗ CompSt d i S 1 w (lo b) (hi b) Z (t.val + 1))) := by
  have ht : t.val < 1024 := t.isLt
  subst hb
  unfold k0_t56_body CompSt
  refine rload d i hS rfl (off16 ht) ht ?_
  have e1 : k0_pay192 (F := Bits) (rowWord w t.val) = rowV w t.val := pay1_rowWord w t.val
  have e3 : k0_pay193 v1072 v1146 v1147 (rowWord w t.val) = maskV (lo (Scalar.select v1146 v1147 v1072)) (hi (Scalar.select v1146 v1147 v1072)) (rowV w t.val) := by
    rw [← pay1_rowWord]; rfl
  have e4 : k0_pay194 v1072 v1146 v1147 (accV w (lo (Scalar.select v1146 v1147 v1072)) (hi (Scalar.select v1146 v1147 v1072)) t.val) (rowWord w t.val)
      = nextV (lo (Scalar.select v1146 v1147 v1072)) (hi (Scalar.select v1146 v1147 v1072))
        (accV w (lo (Scalar.select v1146 v1147 v1072)) (hi (Scalar.select v1146 v1147 v1072)) t.val) (rowV w t.val) := by
    rw [← pay1_rowWord]; rfl
  rw [e1, e3, e4]
  refine assume_step d i (fun _ => putV_chk w _ _ ht) ?_
  refine swap1 (cput d i ht (swap1 ?_))
  exact tw_ret_eq d i (nextV_acc w _ _ _) .rfl

end Bodies

end Cert.Topk
end
-- ==== Proof.Count.lean ====
/-
  The counting loop over the candidates' buffer: how many of the words kept are at least a given word.
-/
module

public import proofs.«01_k».proof.Proof.Loops

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords)
variable {α : Type} {Q : α → sProp 𝕄} {Z : sProp 𝕄}

/-! ## The bounds of the counting loops -/

theorem divsi_one (x : BitVec 32) : Scalar.divsi x 1#32 = x := by
  show (if _ then _ else _) = x
  have h : ¬ IntOp.SDivCorner x 1#32 := by
    unfold IntOp.SDivCorner
    rintro (h | ⟨_, h⟩) <;> revert h <;> decide
  rw [if_neg h]
  exact BitVec.sdiv_one

/-- The bound of a counting loop, as computed from the largest count. -/
abbrev mainUb (v : BitVec 32) : BitVec 32 :=
  Scalar.addi 0#32 (Scalar.muli (Scalar.divsi (Scalar.subi (Scalar.divsi (Scalar.addi (Scalar.subi v 0#32) (Scalar.subi 1#32 1#32)) 1#32) 0#32) 1#32) 1#32)
abbrev remUb (v : BitVec 32) : BitVec 32 :=
  Scalar.addi 0#32 (Scalar.subi (Scalar.divsi (Scalar.addi (Scalar.subi v 0#32) (Scalar.subi 1#32 1#32)) 1#32) 0#32)
abbrev mainLoop (v : BitVec 32) : Scf.Loop 32 := ⟨0#32, mainUb v, 1#32⟩
abbrev remLoop (v : BitVec 32) : Scf.Loop 32 := ⟨mainUb v, remUb v, 1#32⟩

theorem mainUb_eq (v : BitVec 32) : mainUb v = v := by
  rw [mainUb, divsi_one, divsi_one]
  show 0#32 + (v - 0#32 + (1#32 - 1#32) - 0#32) * 1#32 = v
  simp

theorem remUb_eq (v : BitVec 32) : remUb v = v := by
  rw [remUb, divsi_one]
  show 0#32 + (v - 0#32 + (1#32 - 1#32) - 0#32) = v
  simp

theorem main_trips {v : BitVec 32} (hv : v.toNat ≤ 1024) : (mainLoop v).trips = v.toNat := by
  show Scf.trips 0#32 (mainUb v) 1#32 = _
  rw [mainUb_eq, Scf.trips, BitVec.toInt_eq_toNat_of_lt (by omega)]
  simp

theorem rem_trips (v : BitVec 32) : (remLoop v).trips = 0 := by
  show Scf.trips (mainUb v) (remUb v) 1#32 = _
  rw [mainUb_eq, remUb_eq, Scf.trips]
  simp

theorem mainOK {v : BitVec 32} (hv : v.toNat ≤ 1024) : (mainLoop v).OK := by
  refine ⟨show 0 < (1#32 : BitVec 32).toInt by decide, ?_⟩
  have := main_trips hv
  show (0#32 : BitVec 32).toInt + ((mainLoop v).trips : ℤ) * (1#32 : BitVec 32).toInt < _
  rw [this]
  simp
  omega

theorem remOK {v : BitVec 32} (hv : v.toNat ≤ 1024) : (remLoop v).OK := by
  refine ⟨show 0 < (1#32 : BitVec 32).toInt by decide, ?_⟩
  have := rem_trips v
  show (mainUb v).toInt + ((remLoop v).trips : ℤ) * (1#32 : BitVec 32).toInt < _
  rw [this, mainUb_eq, BitVec.toInt_eq_toNat_of_lt (by omega)]
  simp
  omega

/-- Where a trip of the counting loop reads. -/
abbrev cntOff (n : ℕ) : Fin 1 → ℕ :=
  ![(Scalar.indexCast (Scalar.muli (Scalar.addi 0#32 (Scalar.muli (Scf.iv 0#32 1#32 n) 1#32)) 16#32)).toNat]

theorem inbMain {v : BitVec 32} (hv : v.toNat ≤ 1024) (t : Fin (mainLoop v).trips) : ∀ a, cntOff t.val a + S16.size a ≤ S16400.size a := by
  have ht : t.val < v.toNat := lt_of_lt_of_eq t.isLt (main_trips hv)
  intro a
  obtain rfl : a = 0 := Subsingleton.elim _ _
  show (Scalar.indexCast (Scalar.muli (Scalar.addi 0#32 (Scalar.muli (Scf.iv 0#32 1#32 t.val) 1#32)) 16#32)).toNat + 16 ≤ 16400
  rw [off16 (by omega)]
  omega

theorem inbRem {v : BitVec 32} (off : Fin (remLoop v).trips → Fin 1 → ℕ) (t : Fin (remLoop v).trips) :
    ∀ a, off t a + S16.size a ≤ S16400.size a := by
  have ht : t.val < 0 := lt_of_lt_of_eq t.isLt (rem_trips v)
  exact absurd ht (Nat.not_lt_zero _)

theorem chk8 {v : BitVec 32} (hv : v.toNat ≤ 1024) : k0_chk8 v := by
  refine ⟨?_, ?_, ?_, ⟨mainOK hv, inbMain hv, remOK hv, inbRem _⟩⟩
  all_goals
    iterate 7 refine ⟨mainOK hv, inbMain hv, remOK hv, inbRem _, ?_⟩
    exact ⟨mainOK hv, inbMain hv, remOK hv, inbRem _⟩

theorem chk17 {v : BitVec 32} (hv : v.toNat ≤ 1024) : k0_chk17 v := by
  refine ⟨?_, ?_, ?_, ⟨mainOK hv, inbMain hv, remOK hv, inbRem _⟩⟩
  all_goals
    iterate 7 refine ⟨mainOK hv, inbMain hv, remOK hv, inbRem _, ?_⟩
    exact ⟨mainOK hv, inbMain hv, remOK hv, inbRem _⟩

/-! ## Counting -/

/-- Among the `n`-th steps of a run of marked places, the one more that the `n`-th marked place adds. -/
theorem count_step (p q : ℕ → Prop) [DecidablePred p] [DecidablePred q] (n : ℕ) (A : Prop) [Decidable A] :
    ∀ M, (∀ v < M, p v → Nat.count p v = n → (q v ↔ A)) →
      Nat.count (fun v => p v ∧ q v ∧ Nat.count p v < n + 1) M
        = Nat.count (fun v => p v ∧ q v ∧ Nat.count p v < n) M + if n < Nat.count p M ∧ A then 1 else 0
  | 0, _ => by simp
  | M + 1, h => by
    rw [Nat.count_succ, Nat.count_succ (fun v => p v ∧ q v ∧ Nat.count p v < n), count_step p q n A M fun v hv => h v (by omega)]
    have hM := h M (by omega)
    rw [Nat.count_succ p M]
    by_cases hp : p M
    · by_cases hc : Nat.count p M = n
      · have hA := hM hp hc
        by_cases ha : A
        · have hq := hA.2 ha
          simp [hp, hc, hq, ha]
        · have hq : ¬ q M := fun h => ha (hA.1 h)
          simp [hp, hc, hq, ha]
      · by_cases hlt : Nat.count p M < n
        · have h1 : Nat.count p M < n + 1 := by omega
          have h2 : ¬ n < Nat.count p M := by omega
          have h3 : ¬ n < Nat.count p M + 1 := by omega
          simp [hp, hlt, h1, h2, h3]
        · have h1 : ¬ Nat.count p M < n + 1 := by omega
          have h2 : n < Nat.count p M := by omega
          have h3 : n < Nat.count p M + 1 := by omega
          simp [hp, hlt, h1, h2, h3]
    · simp [hp]

variable {w : ℕ → BitVec 32} {lo hi : BitVec 32}

/-- How many of the words kept within each lane's first `n` places are at least `T`. -/
def pn (w : ℕ → BitVec 32) (lo hi T : BitVec 32) (n : ℕ) : ℕ :=
  ∑ l ∈ Finset.range 16,
    Nat.count (fun v => keep lo hi (w (16 * v + l)) = true ∧ T.sle (w (16 * v + l)) = true
      ∧ Nat.count (fun v => keep lo hi (w (16 * v + l)) = true) v < n) 1024

/-- One trip's sum of marks. -/
def cntV (T : BitVec 32) (V : IVec S16 32) (n : ℕ) (x : IVec S16 32) : IVec S16 32 :=
  extui 32 (andi (cmpi .sge x (broadcast S16 T)) (cmpi .sgt V (broadcast S16 (Scalar.addi 0#32 (Scalar.muli (Scf.iv 0#32 1#32 n) 1#32))))) natLt_1_32

/-- One trip of the counting loop. -/
def cntStep (T : BitVec 32) (V : IVec S16 32) (n : ℕ) (acc x : IVec S16 32) : IVec S16 32 :=
  addi acc (broadcast S16 (extractAt ![15] (scan .sum (cntV T V n x)) inpos_S16_p15))

/-- The counts of words kept, lane by lane. -/
def ocV (w : ℕ → BitVec 32) (lo hi : BitVec 32) : IVec S16 32 := lv fun l => BitVec.ofNat 32 (oc w lo hi 1024 l)

theorem cntV_lane {T : BitVec 32} {n : ℕ} (hn : n < 1024) {x : IVec S16 32} {l : ℕ} (hl : l < 16) :
    at1 (cntV T (ocV w lo hi) n x) l
      = BitVec.ofNat 32 (if n < oc w lo hi 1024 l ∧ T.sle (at1 x l) = true then 1 else 0) := by
  rw [at1_lane _ hl, at1_lane x hl]
  have e : cntV T (ocV w lo hi) n x (ln l hl)
      = (BitVec.ofBool (T.sle (x (ln l hl))) &&& BitVec.ofBool ((0#32 + (0#32 + BitVec.ofNat 32 n * 1#32) * 1#32).slt (BitVec.ofNat 32 (oc w lo hi 1024 l)))).setWidth 32 := rfl
  have e2 : (0#32 + (0#32 + BitVec.ofNat 32 n * 1#32) * 1#32) = BitVec.ofNat 32 n := by simp
  have ho := oc_le w lo hi 1024 l
  have e3 : (BitVec.ofNat 32 n).slt (BitVec.ofNat 32 (oc w lo hi 1024 l)) = decide (n < oc w lo hi 1024 l) := by
    rw [BitVec.slt]
    rw [BitVec.toInt_eq_toNat_of_lt (by rw [BitVec.toNat_ofNat]; omega), BitVec.toInt_eq_toNat_of_lt (by rw [BitVec.toNat_ofNat]; omega)]
    rw [BitVec.toNat_ofNat, BitVec.toNat_ofNat, Nat.mod_eq_of_lt (by omega), Nat.mod_eq_of_lt (by omega)]
    congr 1
    exact propext Int.ofNat_lt
  rw [show (Shape.ofLane (d := ![16]) ⟨l, hl⟩ : S16.Idx) = ln l hl from rfl, e, e2, e3]
  by_cases h1 : n < oc w lo hi 1024 l
  · by_cases h2 : T.sle (x (ln l hl)) = true
    · simp [h1, h2]
    · simp [h1, h2]
  · simp [h1]

theorem pn_succ {T : BitVec 32} {n : ℕ} (hn : n < 1024) {f : S16400.Idx → BitVec 32} (hf : CandAt w lo hi 1024 f) :
    pn w lo hi T (n + 1) = pn w lo hi T n
      + ∑ l ∈ Finset.range 16, if n < oc w lo hi 1024 l ∧ T.sle (at1 f (16 * n + l)) = true then 1 else 0 := by
  unfold pn
  rw [← Finset.sum_add_distrib]
  refine Finset.sum_congr rfl fun l hl => ?_
  have hl' : l < 16 := Finset.mem_range.1 hl
  refine Eq.trans ?_ (congrArg _ (if_congr (by rw [oc_eq]) rfl rfl))
  refine count_step (fun v => keep lo hi (w (16 * v + l)) = true) (fun v => T.sle (w (16 * v + l)) = true) n
    (T.sle (at1 f (16 * n + l)) = true) 1024 fun v hv hp hc => ?_
  have := hf l hl' v hv hp
  rw [oc_eq, hc] at this
  rw [this]

theorem pn_zero (T : BitVec 32) : pn w lo hi T 0 = 0 := by
  unfold pn
  refine Finset.sum_eq_zero fun l _ => ?_
  simp [Nat.count_eq_card_filter_range]

theorem pn_all {T : BitVec 32} {N : ℕ} (hN : ∀ l < 16, oc w lo hi 1024 l ≤ N) : pn w lo hi T N = nn w lo hi T := by
  rw [nn_eq]
  unfold pn
  refine Finset.sum_congr rfl fun l hl => ?_
  rw [Nat.count_eq_card_filter_range, Nat.count_eq_card_filter_range]
  congr 1
  refine Finset.filter_congr fun v hv => ?_
  have hv' : v < 1024 := Finset.mem_range.1 hv
  refine ⟨fun h => ⟨h.1, h.2.1⟩, fun h => ⟨h.1, h.2, ?_⟩⟩
  rw [← oc_eq]
  have h1 := oc_succ w lo hi v l
  rw [if_pos h.1] at h1
  have h2 : oc w lo hi (v + 1) l ≤ oc w lo hi 1024 l := oc_mono w lo hi l hv'
  have := hN l (Finset.mem_range.1 hl)
  omega

/-- Sixteen candidates, as loaded. -/
theorem cand_read {f : S16400.Idx → BitVec 32} {n : ℕ} {off : Fin 1 → ℕ} (hoff : off 0 = 16 * n)
    {inb : ∀ a, off a + S16.size a ≤ S16400.size a} {l : ℕ} (hl : l < 16) :
    at1 (mCand.view.readAt (Elt Bits) (Rect.unit (s := S16400) off S16.size inb).toLoadRect f : IVec S16 32) l = at1 f (16 * n + l) := by
  rw [at1_lane _ hl]
  have e : mCand.view.readAt (Elt Bits) (Rect.unit (s := S16400) off S16.size inb).toLoadRect f (Shape.ofLane (d := ![16]) ⟨l, hl⟩)
      = f ((Rect.unit (s := S16400) off S16.size inb).emb (ln l hl)) := rfl
  refine e.trans ?_
  rw [at1_of_val (N := 16400) f _ (emb_unit1 (N := 16400) (ln l hl)), hoff]
  rfl

theorem cnt_step {T : BitVec 32} {n : ℕ} (hn : n < 1024) {f : S16400.Idx → BitVec 32} (hf : CandAt w lo hi 1024 f) {x : IVec S16 32}
    (hx : ∀ l < 16, at1 x l = at1 f (16 * n + l)) :
    cntStep T (ocV w lo hi) n (broadcast S16 (BitVec.ofNat 32 (pn w lo hi T n))) x = broadcast S16 (BitVec.ofNat 32 (pn w lo hi T (n + 1))) := by
  have key : extractAt ![15] (scan .sum (cntV T (ocV w lo hi) n x)) inpos_S16_p15
      = BitVec.ofNat 32 (∑ l ∈ Finset.range 16, if n < oc w lo hi 1024 l ∧ T.sle (at1 f (16 * n + l)) = true then 1 else 0) := by
    rw [extract15, scan_eq, at1_lv _ (by omega)]
    refine csum_ofNat (fun l hl => ?_) 15 (by omega)
    rw [cntV_lane hn hl, hx l hl]
  unfold cntStep
  rw [key, pn_succ hn hf, BitVec.ofNat_add]
  rfl

/-- The counting loop. -/
theorem mainstep {T v : BitVec 32} {l : Scf.Loop 32} {ok : l.OK} {off : Fin l.trips → Fin 1 → ℕ} {inb : ∀ t a, off t a + S16.size a ≤ S16400.size a}
    {hl : ∀ t : Fin l.trips, mCand.view.LoadsAt (Rect.unit (s := S16400) (off t) S16.size (inb t)).toLoadRect}
    {init : IVec S16 32} {body : Fin l.trips → IVec S16 32 → TP i (IVec S16 32)} {kk : IVec S16 32 → TP i α}
    (hv : v.toNat ≤ 1024) (hlv : l = mainLoop v) (hN : ∀ l < 16, oc w lo hi 1024 l ≤ v.toNat) (hinit : init = k0_pay298)
    (hb : ∀ t acc, body t acc = (Prog.lift (.load mCand (Rect.unit (s := S16400) (off t) S16.size (inb t)).toLoadRect (hl t)) >>= fun (x : Vec Bits S16 .i32) =>
      (pure (cntStep T (ocV w lo hi) t.val acc x) : TP i (IVec S16 32))))
    (hoff : ∀ t, off t = cntOff t.val)
    (h : iprop(Hc d i (CandAt w lo hi 1024) ∗ Z) ⊢ tw d i (kk (broadcast S16 (BitVec.ofNat 32 (nn w lo hi T)))) Q) :
    iprop(Hc d i (CandAt w lo hi 1024) ∗ Z) ⊢ tw d i (Scf.Loop.for l ok init body >>= kk) Q := by
  subst hlv
  have ht := main_trips hv
  refine tw_for d i (fun n => broadcast S16 (BitVec.ofNat 32 (pn w lo hi T n))) (fun _ => iprop(Hc d i (CandAt w lo hi 1024) ∗ Z)) ?_ ?_ ?_
  · rw [hinit, pn_zero]; rfl
  · intro t
    have htt : t.val < 1024 := by have := t.isLt; omega
    rw [hb]
    refine Holds.load d i (m := mCand) (r := (Rect.unit (s := S16400) (off t) S16.size (inb t)).toLoadRect) (P := CandAt w lo hi 1024)
      (k := fun x => (pure (cntStep T (ocV w lo hi) t.val (broadcast S16 (BitVec.ofNat 32 (pn w lo hi T t.val))) x) : TP i (IVec S16 32))) fun f hf => ?_
    refine tw_ret_eq d i (cnt_step htt hf fun l hl => cand_read ((congrFun (hoff t) 0).trans (off16 htt)) hl) ?_
    exact Holds.keep hf
  · rw [ht, pn_all hN]
    exact h

/-- The counting loop's remainder, which has no trips. -/
theorem remstep {v : BitVec 32} {l : Scf.Loop 32} {ok : l.OK} {init : IVec S16 32} {body : Fin l.trips → IVec S16 32 → TP i (IVec S16 32)}
    {kk : IVec S16 32 → TP i α} (hlv : l = remLoop v) (h : Z ⊢ tw d i (kk init) Q) :
    Z ⊢ tw d i (Scf.Loop.for l ok init body >>= kk) Q := by
  subst hlv
  have ht := rem_trips v
  refine tw_for d i (fun _ => init) (fun _ => Z) rfl (fun t => ?_) h
  exact absurd (lt_of_lt_of_eq t.isLt ht) (Nat.not_lt_zero _)

end Cert.Topk
end
-- ==== Proof.Ops.lean ====
/-
  The operations between the loops of a row, on the buffers they are on: a slice of the histogram read and set to zero, the
  sixteen words of the offsets' buffer stored and read back in reverse, and the largest of sixteen words.
-/
module

public import proofs.«01_k».proof.Proof.Count

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords)
variable {α : Type} {Q : α → sProp 𝕄} {Y Z : sProp 𝕄}

/-- One slice of the histogram is read, and set to zero. -/
theorem hslice {H : ℕ → ℕ → ℕ} {n : ℕ} {off : Fin 1 → ℕ} {inb inb' inb'' : ∀ a, off a + S16.size a ≤ S2080.size a} {hl hl' hx hm}
    {k : Vec Bits S16 .i32 → TP i α} (hn : n < 64) (hoff : off 0 = 129 * (n % 16) + 16 * (3 - n / 16))
    (h : iprop(Hh d i (HG H (n + 1)) ∗ Z) ⊢ tw d i (k (rowVec H (n % 16) (3 - n / 16))) Q) :
    iprop(Hh d i (HG H n) ∗ Z)
      ⊢ tw d i (Prog.lift (.load mHist (Rect.unit (s := S2080) off S16.size inb).toLoadRect hl) >>= fun x =>
          Prog.lift (.load mHist (Rect.unit (s := S2080) off S16.size inb').toLoadRect hl') >>= fun _ =>
          Prog.lift (.store mHist (Rect.unit (s := S2080) off S16.size inb'') k0_pay298 Finset.univ hx hm) >>= fun _ => k x) Q := by
  refine hload d i hn hoff ?_
  refine hskip d i fun _ => ?_
  exact hzero d i hn hoff h

/-- The part of `hslice` after its first load. -/
theorem hclear {H : ℕ → ℕ → ℕ} {n : ℕ} {off : Fin 1 → ℕ} {inb' inb'' : ∀ a, off a + S16.size a ≤ S2080.size a} {hl' hx hm}
    {k : TP i α} (hn : n < 64) (hoff : off 0 = 129 * (n % 16) + 16 * (3 - n / 16))
    (h : iprop(Hh d i (HG H (n + 1)) ∗ Z) ⊢ tw d i k Q) :
    iprop(Hh d i (HG H n) ∗ Z)
      ⊢ tw d i (Prog.lift (.load mHist (Rect.unit (s := S2080) off S16.size inb').toLoadRect hl') >>= fun _ =>
          Prog.lift (.store mHist (Rect.unit (s := S2080) off S16.size inb'') k0_pay298 Finset.univ hx hm) >>= fun _ => k) Q := by
  refine hskip d i fun _ => ?_
  exact hzero d i hn hoff h

/-! ## The offsets' buffer -/

theorem off_write (f v : S16.Idx → BitVec 32) {inb : ∀ a, (![0] : Fin 1 → ℕ) a + S16.size a ≤ S16.size a} :
    (mOff.access (Rect.unit (s := S16) ![0] S16.size inb)).write (Elt Bits) f v Finset.univ = v := by
  funext (x : S16.Idx)
  have e : x = ((mOff.access (Rect.unit (s := S16) ![0] S16.size inb)).emb x : S16.Idx) := by
    funext (a : Fin 1)
    obtain rfl : a = (0 : Fin 1) := Subsingleton.elim (α := Fin 1) _ _
    apply Fin.ext
    refine Eq.trans ?_ (emb_unit1 (N := 16) (inb := inb) x).symm
    exact (Nat.zero_add _).symm
  conv_lhs => rw [e]
  exact View.write_emb_of_mem _ _ (Finset.mem_univ _)

theorem off_read (f : S16.Idx → BitVec 32) {inb : ∀ a, (![0] : Fin 1 → ℕ) a + S16.size a ≤ S16.size a} :
    mOff.view.readAt (Elt Bits) (Rect.unit (s := S16) ![0] S16.size inb).toLoadRect f = f := by
  funext x
  have e : mOff.view.readAt (Elt Bits) (Rect.unit (s := S16) ![0] S16.size inb).toLoadRect f x
      = f ((Rect.unit (s := S16) ![0] S16.size inb).emb x) := rfl
  rw [e]
  congr 1
  funext a
  obtain rfl : a = 0 := Subsingleton.elim _ _
  apply Fin.ext
  refine (emb_unit1 (N := 16) (inb := inb) x).trans ?_
  exact Nat.zero_add _

/-- A load of the buffer whose result is not used. -/
theorem oskip {P : (S16.Idx → BitVec 32) → Prop} {r : LoadRect S16} {hl} {k : (r.shape.Idx → Elt Bits .i32) → TP i α}
    (h : ∀ v, iprop(Y ∗ (Ho d i P ∗ Z)) ⊢ tw d i (k v) Q) :
    iprop(Y ∗ (Ho d i P ∗ Z)) ⊢ tw d i (Prog.lift (.load mOff r hl) >>= k) Q := by
  refine swap1 (Holds.load d i (m := mOff) (r := r) (P := P) (k := k) fun f hf => ?_)
  exact ((Holds.keep hf).trans (swap1 .rfl)).trans (h _)

/-- A load of the buffer reads what it holds. -/
theorem oload {v : IVec S16 32} {inb : ∀ a, (![0] : Fin 1 → ℕ) a + S16.size a ≤ S16.size a} {hl} {k : Vec Bits S16 .i32 → TP i α}
    (h : iprop(Y ∗ (Ho d i (· = v) ∗ Z)) ⊢ tw d i (k v) Q) :
    iprop(Y ∗ (Ho d i (· = v) ∗ Z)) ⊢ tw d i (Prog.lift (.load mOff (Rect.unit (s := S16) ![0] S16.size inb).toLoadRect hl) >>= k) Q := by
  refine swap1 (Holds.load d i (m := mOff) (r := (Rect.unit (s := S16) ![0] S16.size inb).toLoadRect) (P := (· = v)) (k := k) fun f hf => ?_)
  rw [off_read, hf]
  exact ((Holds.keep (P := (· = v)) rfl).trans (swap1 .rfl)).trans h

/-- A store of sixteen words. -/
theorem oput {P : (S16.Idx → BitVec 32) → Prop} {v : IVec S16 32} {inb : ∀ a, (![0] : Fin 1 → ℕ) a + S16.size a ≤ S16.size a} {hx hm}
    {k : PUnit → TP i α} (h : iprop(Y ∗ (Ho d i (· = v) ∗ Z)) ⊢ tw d i (k ⟨⟩) Q) :
    iprop(Y ∗ (Ho d i P ∗ Z)) ⊢ tw d i (Prog.lift (.store mOff (Rect.unit (s := S16) ![0] S16.size inb) v Finset.univ hx hm) >>= k) Q :=
  swap1 (Holds.store d i (m := mOff) (r := Rect.unit (s := S16) ![0] S16.size inb) (P := P) (P' := (· = v)) (k := k)
    (fun f _ => off_write f v) (swap1 h))

/-- The lanes in reverse. -/
abbrev revI : IVec S16 32 := k0_pay9 laneV

theorem revI_lane (x : S16.Idx) : (revI x).toNat = 15 - (x 0).val := by
  have h : ∀ l : Fin 16, (15#32 - BitVec.ofNat 32 (0 * 16 + l.val)).toNat = 15 - l.val := by decide
  exact h (x 0)

theorem revI_chk : ∀ a x, ((![revI] : Fin 1 → IVec S16 32) a x).toNat < S16.size a := by
  intro a x
  obtain rfl : a = 0 := Subsingleton.elim _ _
  show (revI x).toNat < 16
  rw [revI_lane]
  omega

/-- A gather of the buffer in reverse. -/
theorem ogather {v : IVec S16 32} {chk : ∀ a x, ((![revI] : Fin 1 → IVec S16 32) a x).toNat < S16.size a} {hl} {k : Vec Bits S16 .i32 → TP i α}
    (h : iprop(Y ∗ (Ho d i (· = v) ∗ Z)) ⊢ tw d i (k (rev v)) Q) :
    iprop(Y ∗ (Ho d i (· = v) ∗ Z)) ⊢ tw d i (SparseCore.vectorLoadIdx mOff ![revI] chk hl >>= k) Q := by
  refine swap1 (Holds.loadIdx d i (base := mOff) (P := (· = v)) (k := k) fun f hf => ?_)
  have e : loadIdx ((mOff.access (.whole S16)).read (Elt Bits) f) ![revI] chk = rev v := by
    rw [show (mOff.access (.whole S16)).read (Elt Bits) f = f from Memref.read_access_whole (Elt Bits) cc0_scratch4 f, hf]
    funext x
    exact at1_of_val v _ (revI_lane x)
  rw [e, hf]
  exact ((Holds.keep (P := (· = v)) rfl).trans (swap1 .rfl)).trans h

/-! ## The largest of sixteen words -/

/-- The largest lane of a vector of small words, found by a scan of the words with their upper bit turned over. -/
abbrev maxL (v : IVec S16 32) : BitVec 32 :=
  extractAt ![15] (xori (scan .max (xori v (broadcast S16 2147483648#32))) (broadcast S16 2147483648#32)) inpos_S16_p15

theorem flip_toNat {n : ℕ} (h : n < 2 ^ 31) : (BitVec.ofNat 32 n ^^^ 2147483648#32).toNat = n + 2 ^ 31 := by
  have e : n ^^^ 2 ^ 31 = n + 2 ^ 31 := by
    apply Nat.eq_of_testBit_eq
    intro j
    rw [Nat.testBit_xor, Nat.testBit_two_pow, Nat.add_comm n]
    rcases Nat.lt_trichotomy j 31 with hj | rfl | hj
    · rw [Nat.testBit_two_pow_add_gt hj, decide_eq_false (by omega), Bool.xor_false]
    · rw [Nat.testBit_two_pow_add_eq, decide_eq_true rfl, Bool.xor_true]
    · have h1 : n < 2 ^ j := lt_trans h (Nat.pow_lt_pow_right (by omega) hj)
      have h2 : 2 ^ 31 + n < 2 ^ j := lt_of_lt_of_le (by omega : _ < 2 ^ 32) (Nat.pow_le_pow_right (by omega) hj)
      rw [Nat.testBit_lt_two_pow h1, Nat.testBit_lt_two_pow h2, decide_eq_false (by omega)]
      rfl
  rw [BitVec.toNat_xor, BitVec.toNat_ofNat, Nat.mod_eq_of_lt (by omega)]
  exact e

theorem cmax_flip {v : IVec S16 32} {g : ℕ → ℕ} (h : ∀ l < 16, at1 v l = BitVec.ofNat 32 (g l)) (hg : ∀ l < 16, g l < 2 ^ 31) :
    ∀ j < 16, (cscan .max (xori v (broadcast S16 2147483648#32)) j).toNat = (Finset.range (j + 1)).sup g + 2 ^ 31
  | 0, _ => by
    rw [cscan, at1_lane _ (by omega)]
    show (v _ ^^^ 2147483648#32).toNat = _
    rw [← at1_lane v (n := 0) (by omega), h 0 (by omega), flip_toNat (hg 0 (by omega))]
    simp
  | j + 1, hj => by
    have ih := cmax_flip h hg j (by omega)
    have e : (at1 (xori v (broadcast S16 2147483648#32)) (j + 1)).toNat = g (j + 1) + 2 ^ 31 := by
      rw [at1_lane _ hj]
      show (v _ ^^^ 2147483648#32).toNat = _
      rw [← at1_lane v hj, h _ hj, flip_toNat (hg _ hj)]
    rw [cscan, Finset.range_add_one (n := j + 1), Finset.sup_insert]
    show (IntOp.maxui _ _).toNat = _
    unfold IntOp.maxui
    by_cases hc : (at1 (xori v (broadcast S16 2147483648#32)) (j + 1)).ult (cscan .max (xori v (broadcast S16 2147483648#32)) j) = true
    · rw [if_pos hc, ih]
      rw [BitVec.ult_iff_lt, BitVec.lt_def, ih, e] at hc
      have : max (g (j + 1)) ((Finset.range (j + 1)).sup g) = (Finset.range (j + 1)).sup g := max_eq_right (by omega)
      exact congrArg (· + 2 ^ 31) this.symm
    · rw [if_neg hc, e]
      rw [BitVec.ult_iff_lt, BitVec.lt_def, ih, e] at hc
      have : max (g (j + 1)) ((Finset.range (j + 1)).sup g) = g (j + 1) := max_eq_left (by omega)
      exact congrArg (· + 2 ^ 31) this.symm

theorem maxL_eq {v : IVec S16 32} {g : ℕ → ℕ} (h : ∀ l < 16, at1 v l = BitVec.ofNat 32 (g l)) (hg : ∀ l < 16, g l < 2 ^ 31) :
    maxL v = BitVec.ofNat 32 ((Finset.range 16).sup g) := by
  have key := cmax_flip h hg 15 (by omega)
  have hs : (Finset.range 16).sup g < 2 ^ 31 := (Finset.sup_lt_iff (by norm_num)).2 fun l hl => hg l (Finset.mem_range.1 hl)
  rw [maxL, extract15, at1_lane _ (by omega)]
  show scan .max (xori v (broadcast S16 2147483648#32)) (ln 15 (by omega)) ^^^ 2147483648#32 = _
  rw [scan_lane]
  have f := flip_toNat hs
  rw [← key] at f
  rw [← BitVec.toNat_inj.1 f, BitVec.xor_assoc, BitVec.xor_self, BitVec.xor_zero]

end Cert.Topk
end
-- ==== Proof.Turn.lean ====
/-
  Between the scan for the bin and the search of the lower bits: where the guessed bin was wrong, the row is gone over again and the words
  of the right bin kept; then the counts of words kept are taken out.
-/
module

public import proofs.«01_k».proof.Proof.Ops

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {Z : sProp 𝕄} {S : Finset S2x16384.Idx} {w : ℕ → BitVec 32} {H : ℕ → ℕ → ℕ}
variable {α : Type} {Q : α → sProp 𝕄}

theorem tw_bind {β : Type} {A : sProp 𝕄} {p : TP i β} {k : β → TP i α} (h : A ⊢ tw d i p (fun r => tw d i (k r) Q)) : A ⊢ tw d i (p >>= k) Q := by
  unfold tw
  rw [wp_bind]
  exact h

/-- The counts of words kept, out of the places the next ones would go to. -/
theorem accV_shr (w : ℕ → BitVec 32) (l h : BitVec 32) : shrui (accV w l h 1024) (broadcast S16 4#32) = ocV w l h := by
  funext x
  have ho := oc_le w l h 1024 (x 0).val
  have e : shrui (accV w l h 1024) (broadcast S16 4#32) x = (BitVec.ofNat 32 (16 * oc w l h 1024 (x 0).val)) >>> (4#32) := rfl
  rw [e]
  show _ = BitVec.ofNat 32 (oc w l h 1024 (x 0).val)
  apply BitVec.eq_of_toNat_eq
  rw [BitVec.ushiftRight_eq', BitVec.toNat_ushiftRight, Nat.shiftRight_eq_div_pow]
  simp only [BitVec.toNat_ofNat]
  rw [show 2 ^ (4 % 2 ^ 32) = 16 from rfl]
  omega

theorem ocV_max (w : ℕ → BitVec 32) (l h : BitVec 32) :
    (maxL (ocV w l h)).toNat ≤ 1024 ∧ ∀ j < 16, oc w l h 1024 j ≤ (maxL (ocV w l h)).toNat := by
  have hle : ∀ j, oc w l h 1024 j ≤ 1024 := oc_le w l h 1024
  have e : maxL (ocV w l h) = BitVec.ofNat 32 ((Finset.range 16).sup (oc w l h 1024)) :=
    maxL_eq (fun j hj => at1_lv _ hj) (fun j _ => by have := hle j; omega)
  have hs : (Finset.range 16).sup (oc w l h 1024) ≤ 1024 := Finset.sup_le fun j _ => hle j
  rw [e, BitVec.toNat_ofNat, Nat.mod_eq_of_lt (by omega)]
  exact ⟨hs, fun j hj => Finset.le_sup (Finset.mem_range.2 hj)⟩

theorem Ho_any {P : (S16.Idx → BitVec 32) → Prop} : Ho d i P ⊢ Ho d i (fun _ => True) := by
  unfold Ho
  iintro ⟨%f, -, HO⟩
  iexists f
  isplitr [HO]
  · ipureintro; trivial
  · iexact HO

theorem Hc_zero {P : (S16400.Idx → BitVec 32) → Prop} {l h : BitVec 32} : Hc d i P ⊢ Hc d i (CandAt w l h 0) := by
  unfold Hc
  iintro ⟨%f, -, HO⟩
  iexists f
  isplitr [HO]
  · ipureintro
    intro l _ v hv
    omega
  · iexact HO

theorem accV_zero (w : ℕ → BitVec 32) (l h : BitVec 32) : k0_pay298 = accV w l h 0 := by
  funext x
  show 0#32 = BitVec.ofNat 32 (16 * oc w l h 0 (x 0).val)
  rw [oc_eq, Nat.count_zero]

theorem ne_bit {a b : BitVec 32} (h : a ≠ b) : Scalar.cmpi .ne a b = 1#1 := by
  show BitVec.ofBool (a != b) = 1#1
  rw [bne_iff_ne.2 h]
  rfl

theorem eq_bit (a : BitVec 32) : Scalar.cmpi .ne a a = 0#1 := by
  show BitVec.ofBool (a != a) = 0#1
  rw [bne_self_eq_false]
  rfl

theorem pair_assoc {A B C : sProp 𝕄} : iprop(A ∗ (B ∗ C)) ⊢ iprop((A ∗ B) ∗ C) := by
  iintro ⟨HA, HB, HC⟩
  isplitl [HA HB]
  · isplitl [HA]
    · iexact HA
    · iexact HB
  · iexact HC

/-- What is held after the turn. -/
theorem turn_post {P : (S16.Idx → BitVec 32) → Prop} {A B : sProp 𝕄} :
    iprop((A ∗ B) ∗ (Ho d i P ∗ Z)) ⊢ iprop(B ∗ (A ∗ (Ho d i (fun _ => True) ∗ Z))) := by
  iintro ⟨⟨HA, HB⟩, HO, HZ⟩
  isplitl [HB]
  · iexact HB
  isplitl [HA]
  · iexact HA
  isplitl [HO]
  · iapply (Ho_any d i) $$ HO
  · iexact HZ

theorem comp_zero {P : (S16400.Idx → BitVec 32) → Prop} {A : sProp 𝕄} {l h : BitVec 32} :
    iprop(A ∗ (Hc d i P ∗ Z)) ⊢ iprop(A ∗ (Hc d i (CandAt w l h 0) ∗ Z)) := by
  iintro ⟨HA, HC, HZ⟩
  isplitl [HA]
  · iexact HA
  isplitl [HC]
  · iapply (Hc_zero d i (w := w)) $$ HC
  · iexact HZ

variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

theorem w12 {Q} (hS : ∀ x : S2x16384.Idx, (x 0).val = 0 → x ∈ S) (g b R1 : BitVec 32) (hb : b = bst H)
    (hR : R1 = stp w (lo b) (hi b) (IntOp.addi 0#32 (krem H)) (IntOp.addi 0#32 (Scalar.shli b 25#32)) 16777216#32)
    (h : ∀ v hw8 x, v.toNat ≤ 1024 → (∀ l < 16, oc w (lo b) (hi b) 1024 l ≤ v.toNat) →
      iprop(Hc d i (CandAt w (lo b) (hi b) 1024) ∗ (Hr d i S 0 w ∗ (Ho d i (fun _ => True) ∗ Z)))
        ⊢ Q ⟨ocV w (lo b) (hi b), v, hw8, broadcast S16 (IntOp.addi 0#32 (krem H)), broadcast S16 R1, broadcast S16 (IntOp.ori R1 8388608#32), x⟩) :
    iprop(Hr d i S 0 w ∗ (Hc d i (CandAt w (lo g) (hi g) 1024) ∗ (Ho d i (fun _ => True) ∗ Z)))
      ⊢ tw d i (k0_part12 i arg2 harg2 arg3 harg3 mRow harg4 mHist harg5 mCand harg6 mThr harg7 mOff harg8 arg9 arg10 v30_r0 laneV k0_pay298 g (accV w (lo g) (hi g) 1024)
        (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0)))
        b (lo b) (hi b) (krem H) (Scalar.cmpi .ne b g) (Scalar.extui (Scalar.cmpi .ne b g)) 0#32) Q := by
  subst hR
  rw [k0_part12_eq_skeleton]; unfold k0_part12_skel
  have hc1 : k0_cond1 g (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0)))
      = Scalar.cmpi .ne (Scalar.extui (Scalar.cmpi .ne (bst H) g)) 0#32 := rfl
  rw [← hb] at hc1
  obtain ⟨hv, hN⟩ := ocV_max w (lo b) (hi b)
  have pay : ∀ v402, Scalar.select (Scalar.cmpi .ne b g) v402 (accV w (lo g) (hi g) 1024) = accV w (lo b) (hi b) 1024 →
      k0_pay44 (F := Bits) (accV w (lo g) (hi g) 1024) (Scalar.cmpi .ne b g) v402 = ocV w (lo b) (hi b) := by
    intro v402 e
    rw [← accV_shr, ← e]
    rfl
  by_cases hg : b = g
  · obtain rfl := hg
    have h0 : ¬ k0_cond1 b (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0))) = 1#1 := by
      rw [hc1, eq_bit]; decide
    rw [dif_neg h0]
    refine pair_assoc.trans (oskip d i fun v402 => ?_)
    have hp := pay v402 (by rw [eq_bit]; rfl)
    have hv' : (maxL (k0_pay44 (F := Bits) (accV w (lo b) (hi b) 1024) (Scalar.cmpi .ne b b) v402)).toNat ≤ 1024 := by rw [hp]; exact hv
    have hN' : ∀ l < 16, oc w (lo b) (hi b) 1024 l ≤ (maxL (k0_pay44 (F := Bits) (accV w (lo b) (hi b) 1024) (Scalar.cmpi .ne b b) v402)).toNat := by
      rw [hp]; exact hN
    refine (turn_post d i).trans ?_
    refine assume_step d i (chk8 hv') ?_
    refine mainstep d i (T := IntOp.ori (IntOp.addi 0#32 (Scalar.shli b 25#32)) 16777216#32) hv' rfl hN' rfl
      (fun _ _ => by rw [← hp]; rfl) (fun _ => rfl) ?_
    refine remstep d i (v := maxL (k0_pay44 (F := Bits) (accV w (lo b) (hi b) 1024) (Scalar.cmpi .ne b b) v402)) rfl ?_
    have h' := fun x => h _ (chk8 hv') x hv' hN'
    rw [← hp] at h'
    exact tw_ret d i rfl (h' _)
  · have hb1 := ne_bit hg
    have h1 : k0_cond1 g (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0))) = 1#1 := by
      rw [hc1, hb1]; decide
    rw [dif_pos h1]
    refine (comp_zero d i (w := w) (l := lo b) (h := hi b)).trans ?_
    refine tw_for d i (fun n => accV w (lo b) (hi b) n) (fun n => CompSt d i S 0 w (lo b) (hi b) (iprop(Ho d i (fun _ => True) ∗ Z)) n)
      (accV_zero w _ _) (t4_body d i arg2 harg2 arg3 harg3 harg4 harg5 harg6 harg7 harg8 arg9 arg10 v30_r0 hS (lo b) (hi b) h1) ?_
    unfold CompSt
    refine pair_assoc.trans (oskip d i fun _ => ?_)
    refine oput d i (v := accV w (lo b) (hi b) 1024) ?_
    refine oload d i (v := accV w (lo b) (hi b) 1024) ?_
    have hp := pay (accV w (lo b) (hi b) 1024) (by rw [hb1]; rfl)
    have hv' : (maxL (k0_pay44 (F := Bits) (accV w (lo g) (hi g) 1024) (Scalar.cmpi .ne b g) (accV w (lo b) (hi b) 1024))).toNat ≤ 1024 := by rw [hp]; exact hv
    have hN' : ∀ l < 16, oc w (lo b) (hi b) 1024 l ≤ (maxL (k0_pay44 (F := Bits) (accV w (lo g) (hi g) 1024) (Scalar.cmpi .ne b g) (accV w (lo b) (hi b) 1024))).toNat := by
      rw [hp]; exact hN
    refine (turn_post d i).trans ?_
    refine assume_step d i (chk8 hv') ?_
    refine mainstep d i (T := IntOp.ori (IntOp.addi 0#32 (Scalar.shli b 25#32)) 16777216#32) hv' rfl hN' rfl
      (fun _ _ => by rw [← hp]; rfl) (fun _ => rfl) ?_
    refine remstep d i (v := maxL (k0_pay44 (F := Bits) (accV w (lo g) (hi g) 1024) (Scalar.cmpi .ne b g) (accV w (lo b) (hi b) 1024))) rfl ?_
    have h' := fun x => h _ (chk8 hv') x hv' hN'
    rw [← hp] at h'
    exact tw_ret d i rfl (h' _)

theorem w34 {Q} (hS : ∀ x : S2x16384.Idx, (x 0).val = 1 → x ∈ S) {H0 : ℕ → ℕ → ℕ} (g b : BitVec 32) (hb0 : g = bst H0) (hb : b = bst H)
    (h : ∀ v hw17 x, v.toNat ≤ 1024 → (∀ l < 16, oc w (lo b) (hi b) 1024 l ≤ v.toNat) →
      iprop(Hc d i (CandAt w (lo b) (hi b) 1024) ∗ (Hr d i S 1 w ∗ (Ho d i (fun _ => True) ∗ Z)))
        ⊢ Q ⟨b, ocV w (lo b) (hi b), v, hw17, broadcast S16 (IntOp.addi 0#32 (krem H)), broadcast S16 (IntOp.addi 0#32 (Scalar.shli b 25#32)),
          broadcast S16 (IntOp.ori (IntOp.addi 0#32 (Scalar.shli b 25#32)) 16777216#32), x⟩) :
    iprop(Hr d i S 1 w ∗ (Hc d i (CandAt w (lo g) (hi g) 1024) ∗ (Ho d i (fun _ => True) ∗ Z)))
      ⊢ tw d i (k0_part34 i arg2 harg2 arg3 harg3 mRow harg4 mHist harg5 mCand harg6 mThr harg7 mOff harg8 arg9 arg10 v30_r0 laneV k0_pay298
        (tot15 (tots H0 3)) (nbv 0#32 (rev (tots H0 3))) (tot15 (tots H0 2)) (nbv (cs1 H0).run (rev (tots H0 2)))
        (tot15 (tots H0 1)) (nbv (cs2 H0).run (rev (tots H0 1))) (tot15 (tots H0 0)) (nbv (cs3 H0).run (rev (tots H0 0)))
        g (accV w (lo g) (hi g) 1024)
        (tot15 (tots H 3)) (nbv 0#32 (rev (tots H 3))) (tot15 (tots H 2)) (nbv (cs1 H).run (rev (tots H 2)))
        (tot15 (tots H 1)) (nbv (cs2 H).run (rev (tots H 1))) (cs3 H).bstar (cs3 H).abv (cs3 H).found (cs3 H).run
        (tot15 (tots H 0)) (nbv (cs3 H).run (rev (tots H 0))) (hitv (cs3 H).found (cs3 H).run (tots H 0))
        (Scalar.subi 15#32 (nbv (cs3 H).run (rev (tots H 0)))) (broadcast S16 2147483648#32)
        (xori (select (okv (cs3 H).run (rev (tots H 0))) (cumv (cs3 H).run (rev (tots H 0))) (broadcast S16 0#32)) (broadcast S16 2147483648#32))) Q := by
  rw [k0_part34_eq_skeleton]; unfold k0_part34_skel
  have hc3 : k0_cond3 (tot15 (tots H0 3)) (nbv 0#32 (rev (tots H0 3))) (tot15 (tots H0 2)) (nbv (cs1 H0).run (rev (tots H0 2)))
        (tot15 (tots H0 1)) (nbv (cs2 H0).run (rev (tots H0 1))) (tot15 (tots H0 0)) (nbv (cs3 H0).run (rev (tots H0 0)))
        (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0)))
      = Scalar.cmpi .ne (Scalar.extui (Scalar.cmpi .ne (bst H) (bst H0))) 0#32 := rfl
  rw [← hb, ← hb0] at hc3
  have hb' : Scalar.select (hitv (cs3 H).found (cs3 H).run (tots H 0)) (Scalar.subi 15#32 (nbv (cs3 H).run (rev (tots H 0)))) (cs3 H).bstar = b := hb.symm
  obtain ⟨hv, hN⟩ := ocV_max w (lo b) (hi b)
  have pay : ∀ v402, Scalar.select (Scalar.cmpi .ne b g) v402 (accV w (lo g) (hi g) 1024) = accV w (lo b) (hi b) 1024 →
      k0_pay195 (F := Bits) g (accV w (lo g) (hi g) 1024) (cs3 H).bstar (hitv (cs3 H).found (cs3 H).run (tots H 0)) (Scalar.subi 15#32 (nbv (cs3 H).run (rev (tots H 0)))) v402 = ocV w (lo b) (hi b) := by
    intro v402 e
    rw [← accV_shr, ← e, hb]
    rfl
  rw [show Scalar.select (hitv (cs3 H).found (cs3 H).run (tots H 0)) (Scalar.subi 15#32 (nbv (cs3 H).run (rev (tots H 0)))) (cs3 H).bstar = b from hb']
  have e198 : k0_pay198 k0_pay298 (cs3 H).bstar (hitv (cs3 H).found (cs3 H).run (tots H 0)) (Scalar.subi 15#32 (nbv (cs3 H).run (rev (tots H 0))))
      = broadcast S16 (IntOp.addi 0#32 (Scalar.shli b 25#32)) := by rw [hb]; rfl
  have e199 : k0_pay199 k0_pay298 (cs3 H).bstar (hitv (cs3 H).found (cs3 H).run (tots H 0)) (Scalar.subi 15#32 (nbv (cs3 H).run (rev (tots H 0))))
      = broadcast S16 (IntOp.ori (IntOp.addi 0#32 (Scalar.shli b 25#32)) 16777216#32) := by rw [hb]; rfl
  rw [e198, e199]
  by_cases hg : b = g
  · subst hg
    have h0 : ¬ k0_cond3 (tot15 (tots H0 3)) (nbv 0#32 (rev (tots H0 3))) (tot15 (tots H0 2)) (nbv (cs1 H0).run (rev (tots H0 2)))
        (tot15 (tots H0 1)) (nbv (cs2 H0).run (rev (tots H0 1))) (tot15 (tots H0 0)) (nbv (cs3 H0).run (rev (tots H0 0)))
        (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0))) = 1#1 := by
      rw [hc3, eq_bit]; decide
    rw [dif_neg h0]
    refine pair_assoc.trans (oskip d i fun v402 => ?_)
    have hp := pay v402 (by rw [eq_bit]; rfl)
    have hv' : (maxL (k0_pay195 (F := Bits) b (accV w (lo b) (hi b) 1024) (cs3 H).bstar (hitv (cs3 H).found (cs3 H).run (tots H 0)) (Scalar.subi 15#32 (nbv (cs3 H).run (rev (tots H 0)))) v402)).toNat ≤ 1024 := by rw [hp]; exact hv
    have hN' : ∀ l < 16, oc w (lo b) (hi b) 1024 l ≤ (maxL (k0_pay195 (F := Bits) b (accV w (lo b) (hi b) 1024) (cs3 H).bstar (hitv (cs3 H).found (cs3 H).run (tots H 0)) (Scalar.subi 15#32 (nbv (cs3 H).run (rev (tots H 0)))) v402)).toNat := by
      rw [hp]; exact hN
    refine (turn_post d i).trans ?_
    refine assume_step d i (chk17 hv') ?_
    have h' := fun x => h _ (chk17 hv') x hv' hN'
    rw [← hp] at h'
    exact tw_ret d i rfl (h' _)

  · have hb1 := ne_bit hg
    have h1 : k0_cond3 (tot15 (tots H0 3)) (nbv 0#32 (rev (tots H0 3))) (tot15 (tots H0 2)) (nbv (cs1 H0).run (rev (tots H0 2)))
        (tot15 (tots H0 1)) (nbv (cs2 H0).run (rev (tots H0 1))) (tot15 (tots H0 0)) (nbv (cs3 H0).run (rev (tots H0 0)))
        (tot15 (tots H 3)) (nbv 0#32 (rev (tots H 3))) (tot15 (tots H 2)) (nbv (cs1 H).run (rev (tots H 2)))
        (tot15 (tots H 1)) (nbv (cs2 H).run (rev (tots H 1))) (tot15 (tots H 0)) (nbv (cs3 H).run (rev (tots H 0))) = 1#1 := by
      rw [hc3, hb1]; decide
    rw [dif_pos h1]
    refine (comp_zero d i (w := w) (l := lo b) (h := hi b)).trans ?_
    refine tw_for d i (fun n => accV w (lo b) (hi b) n) (fun n => CompSt d i S 1 w (lo b) (hi b) (iprop(Ho d i (fun _ => True) ∗ Z)) n)
      (accV_zero w _ _) (t56_body d i arg2 harg2 arg3 harg3 harg4 harg5 harg6 harg7 harg8 arg9 arg10 v30_r0 hS hb' h1) ?_
    unfold CompSt
    refine pair_assoc.trans (oskip d i fun _ => ?_)
    refine oput d i (v := accV w (lo b) (hi b) 1024) ?_
    refine oload d i (v := accV w (lo b) (hi b) 1024) ?_
    have hp := pay (accV w (lo b) (hi b) 1024) (by rw [hb1]; rfl)
    have hv' : (maxL (k0_pay195 (F := Bits) g (accV w (lo g) (hi g) 1024) (cs3 H).bstar (hitv (cs3 H).found (cs3 H).run (tots H 0)) (Scalar.subi 15#32 (nbv (cs3 H).run (rev (tots H 0)))) (accV w (lo b) (hi b) 1024))).toNat ≤ 1024 := by rw [hp]; exact hv
    have hN' : ∀ l < 16, oc w (lo b) (hi b) 1024 l ≤ (maxL (k0_pay195 (F := Bits) g (accV w (lo g) (hi g) 1024) (cs3 H).bstar (hitv (cs3 H).found (cs3 H).run (tots H 0)) (Scalar.subi 15#32 (nbv (cs3 H).run (rev (tots H 0)))) (accV w (lo b) (hi b) 1024))).toNat := by
      rw [hp]; exact hN
    refine (turn_post d i).trans ?_
    refine assume_step d i (chk17 hv') ?_
    have h' := fun x => h _ (chk17 hv') x hv' hN'
    rw [← hp] at h'
    exact tw_ret d i rfl (h' _)

end Cert.Topk
end
-- ==== Proof.Chunk0.lean ====
/-
  The scan for the bin, for the row in the first slot: from the histogram's first three slices on, window by window of the body.
-/
module

public import proofs.«01_k».proof.Proof.Ops

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {Z : sProp 𝕄} {H : ℕ → ℕ → ℕ} (s : CS)
variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

/-- What is held: the histogram with its first `n` slices read, the offsets' buffer at any words, and `Z`. -/
abbrev ChSt (H : ℕ → ℕ → ℕ) (Z : sProp 𝕄) (n : ℕ) : sProp 𝕄 := iprop(Hh d i (HG H n) ∗ (Ho d i (fun _ => True) ∗ Z))

/-- The same with the offsets' buffer at known words. -/
abbrev ChStO (H : ℕ → ℕ → ℕ) (Z : sProp 𝕄) (v : IVec S16 32) (n : ℕ) : sProp 𝕄 := iprop(Hh d i (HG H n) ∗ (Ho d i (· = v) ∗ Z))

theorem ChStO.drop {v : IVec S16 32} {n : ℕ} : ChStO d i H Z v n ⊢ ChSt d i H Z n := by
  unfold ChStO ChSt Ho
  iintro ⟨HH, ⟨%f, -, HO⟩, HZ⟩
  isplitl [HH]
  · iexact HH
  isplitl [HO]
  · iexists f
    isplitr [HO]
    · ipureintro; trivial
    · iexact HO
  · iexact HZ

theorem w2 {Q} (h : ChSt d i H Z 13 ⊢ Q (psum H 3 13)) :
    ChSt d i H Z 3 ⊢ tw d i (k0_part2 i arg2 harg2 arg3 harg3 mRow harg4 mHist harg5 mCand harg6 mThr harg7 mOff harg8 arg9 arg10 v30_r0 k0_pay298 (psum H 3 3)) Q := by
  rw [k0_part2_eq_skeleton]; unfold k0_part2_skel
  iterate 10 refine hslice d i (by decide) rfl ?_
  exact tw_ret d i rfl h

theorem w3 {Q} (h : ChSt d i H Z 16 ⊢ Q ⟨tot15 (tots H 3), nbv 0#32 (rev (tots H 3)), hitv 0#1 0#32 (tots H 3),
      Scalar.subi 63#32 (nbv 0#32 (rev (tots H 3))),
      select (okv 0#32 (rev (tots H 3))) (cumv 0#32 (rev (tots H 3))) (broadcast S16 0#32)⟩) :
    ChSt d i H Z 13 ⊢ tw d i (k0_part3 i arg2 harg2 arg3 harg3 mRow harg4 mHist harg5 mCand harg6 mThr harg7 mOff harg8 arg9 arg10 v30_r0 laneV k0_pay298 (psum H 3 13)) Q := by
  rw [k0_part3_eq_skeleton]; unfold k0_part3_skel
  iterate 3 refine hslice d i (by decide) rfl ?_
  refine oskip d i fun _ => ?_
  refine oput d i (v := tots H 3) ?_
  refine assume_step d i revI_chk ?_
  refine ogather d i (v := tots H 3) ?_
  exact tw_ret d i rfl ((ChStO.drop d i).trans h)

theorem w4 {Q} (h : ChSt d i H Z 23 ⊢ Q ⟨(cs1 H).bstar, (cs1 H).abv, (cs1 H).found, (cs1 H).run, psum H 2 7⟩) :
    ChSt d i H Z 16 ⊢ tw d i (k0_part4 i arg2 harg2 arg3 harg3 mRow harg4 mHist harg5 mCand harg6 mThr harg7 mOff harg8 arg9 arg10 v30_r0 k0_pay298 (tot15 (tots H 3)) (hitv 0#1 0#32 (tots H 3))
      (Scalar.subi 63#32 (nbv 0#32 (rev (tots H 3))))
      (select (okv 0#32 (rev (tots H 3))) (cumv 0#32 (rev (tots H 3))) (broadcast S16 0#32))) Q := by
  rw [k0_part4_eq_skeleton]; unfold k0_part4_skel
  iterate 7 refine hslice d i (by decide) rfl ?_
  exact tw_ret d i rfl h

theorem w5 {Q} (h : ChSt d i H Z 32 ⊢ Q ⟨tots H 2, tot15 (tots H 2)⟩) :
    ChSt d i H Z 23 ⊢ tw d i (k0_part5 i arg2 harg2 arg3 harg3 mRow harg4 mHist harg5 mCand harg6 mThr harg7 mOff harg8 arg9 arg10 v30_r0 k0_pay298 (psum H 2 7)) Q := by
  rw [k0_part5_eq_skeleton]; unfold k0_part5_skel
  iterate 9 refine hslice d i (by decide) rfl ?_
  refine oskip d i fun _ => ?_
  exact tw_ret d i rfl h

theorem w6 {Q} (h : ChSt d i H Z 34 ⊢ Q ⟨nbv s.run (rev (tots H 2)), (chunkStep 47#32 (tots H 2) s).bstar, (chunkStep 47#32 (tots H 2) s).abv,
      (chunkStep 47#32 (tots H 2) s).found, (chunkStep 47#32 (tots H 2) s).run, psum H 1 2, rowVec H 2 1⟩) :
    ChSt d i H Z 32 ⊢ tw d i (k0_part6 i arg2 harg2 arg3 harg3 mRow harg4 mHist harg5 mCand harg6 mThr harg7 mOff harg8 arg9 arg10 v30_r0 laneV k0_pay298 s.bstar s.abv s.found s.run (tots H 2) (tot15 (tots H 2))) Q := by
  rw [k0_part6_eq_skeleton]; unfold k0_part6_skel
  refine oput d i (v := tots H 2) ?_
  refine assume_step d i revI_chk ?_
  refine ogather d i (v := tots H 2) ?_
  iterate 2 refine hslice d i (by decide) rfl ?_
  refine hload d i (by decide) rfl ?_
  exact tw_ret d i rfl ((ChStO.drop d i).trans h)

theorem w7 {Q} (h : ChSt d i H Z 44 ⊢ Q ⟨psum H 1 12, rowVec H 12 1⟩) :
    ChSt d i H Z 34 ⊢ tw d i (k0_part7 i arg2 harg2 arg3 harg3 mRow harg4 mHist harg5 mCand harg6 mThr harg7 mOff harg8 arg9 arg10 v30_r0 k0_pay298 (psum H 1 2) (rowVec H 2 1)) Q := by
  rw [k0_part7_eq_skeleton]; unfold k0_part7_skel
  refine hclear d i (by decide) rfl ?_
  iterate 9 refine hslice d i (by decide) rfl ?_
  refine hload d i (by decide) rfl ?_
  exact tw_ret d i rfl h

theorem w8 {Q} (h : ChSt d i H Z 48 ⊢ Q ⟨tot15 (tots H 1), cumv s.run (rev (tots H 1)), okv s.run (rev (tots H 1)), nbv s.run (rev (tots H 1)),
      hitv s.found s.run (tots H 1), Scalar.subi 31#32 (nbv s.run (rev (tots H 1))), k0_pay31⟩) :
    ChSt d i H Z 44 ⊢ tw d i (k0_part8 i arg2 harg2 arg3 harg3 mRow harg4 mHist harg5 mCand harg6 mThr harg7 mOff harg8 arg9 arg10 v30_r0 laneV k0_pay298 s.found s.run (psum H 1 12) (rowVec H 12 1)) Q := by
  rw [k0_part8_eq_skeleton]; unfold k0_part8_skel
  refine hclear d i (by decide) rfl ?_
  iterate 3 refine hslice d i (by decide) rfl ?_
  refine oskip d i fun _ => ?_
  refine oput d i (v := tots H 1) ?_
  refine assume_step d i revI_chk ?_
  refine ogather d i (v := tots H 1) ?_
  exact tw_ret d i rfl ((ChStO.drop d i).trans h)

theorem w9 {Q} (h : ChSt d i H Z 55 ⊢ Q ⟨(chunkStep 31#32 (tots H 1) s).bstar, (chunkStep 31#32 (tots H 1) s).abv,
      (chunkStep 31#32 (tots H 1) s).found, (chunkStep 31#32 (tots H 1) s).run, psum H 0 8⟩) :
    ChSt d i H Z 48 ⊢ tw d i (k0_part9 i arg2 harg2 arg3 harg3 mRow harg4 mHist harg5 mCand harg6 mThr harg7 mOff harg8 arg9 arg10 v30_r0 k0_pay298 s.bstar s.abv s.found s.run (tot15 (tots H 1)) (cumv s.run (rev (tots H 1)))
      (okv s.run (rev (tots H 1))) (hitv s.found s.run (tots H 1)) (Scalar.subi 31#32 (nbv s.run (rev (tots H 1)))) k0_pay31) Q := by
  rw [k0_part9_eq_skeleton]; unfold k0_part9_skel
  iterate 7 refine hslice d i (by decide) rfl ?_
  refine hload d i (by decide) rfl ?_
  exact tw_ret d i rfl h

theorem w10 {Q} (h : ChStO d i H Z (tots H 0) 64 ⊢ Q ⟨tot15 (tots H 0), revI⟩) :
    ChSt d i H Z 55 ⊢ tw d i (k0_part10 i arg2 harg2 arg3 harg3 mRow harg4 mHist harg5 mCand harg6 mThr harg7 mOff harg8 arg9 arg10 v30_r0 laneV k0_pay298 (psum H 0 8)) Q := by
  rw [k0_part10_eq_skeleton]; unfold k0_part10_skel
  refine hclear d i (by decide) rfl ?_
  iterate 8 refine hslice d i (by decide) rfl ?_
  refine oskip d i fun _ => ?_
  refine oput d i (v := tots H 0) ?_
  exact tw_ret d i rfl h

theorem w11 {Q} (g : BitVec 32) (hs : s = cs3 H) (h : ChSt d i H Z 64 ⊢ Q ⟨nbv s.run (rev (tots H 0)), bst H, lo (bst H), hi (bst H), krem H,
      Scalar.cmpi .ne (bst H) g, Scalar.extui (Scalar.cmpi .ne (bst H) g), 0#32⟩) :
    ChStO d i H Z (tots H 0) 64 ⊢ tw d i (k0_part11 i arg2 harg2 arg3 harg3 mRow harg4 mHist harg5 mCand harg6 mThr harg7 mOff harg8 arg9 arg10 v30_r0 g s.bstar s.abv s.found s.run (tot15 (tots H 0)) revI) Q := by
  subst hs
  rw [k0_part11_eq_skeleton]; unfold k0_part11_skel
  refine assume_step d i revI_chk ?_
  refine ogather d i (v := tots H 0) ?_
  exact tw_ret d i rfl ((ChStO.drop d i).trans h)

end Cert.Topk
end
-- ==== Proof.Chunk1.lean ====
/-
  The scan for the bin, for the row in the second slot, window by window of the body.
-/
module

public import proofs.«01_k».proof.Proof.Chunk0

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {Z : sProp 𝕄} {H : ℕ → ℕ → ℕ} (s : CS)
variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

theorem w25 {Q} (h : ChSt d i H Z 16 ⊢ Q ⟨tot15 (tots H 3), scan .sum (rev (tots H 3)) , 0#32⟩) :
    ChSt d i H Z 8 ⊢ tw d i (k0_part25 i arg2 harg2 arg3 harg3 mRow harg4 mHist harg5 mCand harg6 mThr harg7 mOff harg8 arg9 arg10 v30_r0 laneV k0_pay298 (psum H 3 9)) Q := by
  rw [k0_part25_eq_skeleton]; unfold k0_part25_skel
  refine hclear d i (by decide) rfl ?_
  iterate 7 refine hslice d i (by decide) rfl ?_
  refine oskip d i fun _ => ?_
  refine oput d i (v := tots H 3) ?_
  refine assume_step d i revI_chk ?_
  refine ogather d i (v := tots H 3) ?_
  exact tw_ret d i rfl ((ChStO.drop d i).trans h)

theorem w26 {Q} (h : ChSt d i H Z 18 ⊢ Q ⟨nbv 0#32 (rev (tots H 3)), (cs1 H).bstar, (cs1 H).abv, (cs1 H).found, (cs1 H).run, psum H 2 3⟩) :
    ChSt d i H Z 16 ⊢ tw d i (k0_part26 i arg2 harg2 arg3 harg3 mRow harg4 mHist harg5 mCand harg6 mThr harg7 mOff harg8 arg9 arg10 v30_r0 k0_pay298 (tot15 (tots H 3)) (scan .sum (rev (tots H 3))) 0#32) Q := by
  rw [k0_part26_eq_skeleton]; unfold k0_part26_skel
  iterate 2 refine hslice d i (by decide) rfl ?_
  refine hload d i (by decide) rfl ?_
  exact tw_ret d i rfl h

theorem w27 {Q} (h : ChSt d i H Z 28 ⊢ Q (psum H 2 13)) :
    ChSt d i H Z 18 ⊢ tw d i (k0_part27 i arg2 harg2 arg3 harg3 mRow harg4 mHist harg5 mCand harg6 mThr harg7 mOff harg8 arg9 arg10 v30_r0 k0_pay298 (psum H 2 3)) Q := by
  rw [k0_part27_eq_skeleton]; unfold k0_part27_skel
  refine hclear d i (by decide) rfl ?_
  iterate 9 refine hslice d i (by decide) rfl ?_
  refine hload d i (by decide) rfl ?_
  exact tw_ret d i rfl h

theorem w28 {Q} (h : ChSt d i H Z 32 ⊢ Q ⟨tot15 (tots H 2), nbv s.run (rev (tots H 2)), hitv s.found s.run (tots H 2),
      Scalar.subi 47#32 (nbv s.run (rev (tots H 2))),
      select (okv s.run (rev (tots H 2))) (cumv s.run (rev (tots H 2))) (broadcast S16 0#32), 1#1⟩) :
    ChSt d i H Z 28 ⊢ tw d i (k0_part28 i arg2 harg2 arg3 harg3 mRow harg4 mHist harg5 mCand harg6 mThr harg7 mOff harg8 arg9 arg10 v30_r0 laneV k0_pay298 s.found s.run (psum H 2 13)) Q := by
  rw [k0_part28_eq_skeleton]; unfold k0_part28_skel
  refine hclear d i (by decide) rfl ?_
  iterate 3 refine hslice d i (by decide) rfl ?_
  refine oskip d i fun _ => ?_
  refine oput d i (v := tots H 2) ?_
  refine assume_step d i revI_chk ?_
  refine ogather d i (v := tots H 2) ?_
  exact tw_ret d i rfl ((ChStO.drop d i).trans h)

theorem w29 {Q} (h : ChSt d i H Z 40 ⊢ Q ⟨(chunkStep 47#32 (tots H 2) s).bstar, (chunkStep 47#32 (tots H 2) s).abv,
      (chunkStep 47#32 (tots H 2) s).found, (chunkStep 47#32 (tots H 2) s).run, psum H 1 8⟩) :
    ChSt d i H Z 32 ⊢ tw d i (k0_part29 i arg2 harg2 arg3 harg3 mRow harg4 mHist harg5 mCand harg6 mThr harg7 mOff harg8 arg9 arg10 v30_r0 k0_pay298 s.bstar s.abv s.found s.run (tot15 (tots H 2)) (hitv s.found s.run (tots H 2))
      (Scalar.subi 47#32 (nbv s.run (rev (tots H 2))))
      (select (okv s.run (rev (tots H 2))) (cumv s.run (rev (tots H 2))) (broadcast S16 0#32)) 1#1) Q := by
  rw [k0_part29_eq_skeleton]; unfold k0_part29_skel
  iterate 8 refine hslice d i (by decide) rfl ?_
  exact tw_ret d i rfl h

theorem w30 {Q} (h : ChSt d i H Z 48 ⊢ Q ⟨tot15 (tots H 1), rev (tots H 1)⟩) :
    ChSt d i H Z 40 ⊢ tw d i (k0_part30 i arg2 harg2 arg3 harg3 mRow harg4 mHist harg5 mCand harg6 mThr harg7 mOff harg8 arg9 arg10 v30_r0 laneV k0_pay298 (psum H 1 8)) Q := by
  rw [k0_part30_eq_skeleton]; unfold k0_part30_skel
  iterate 8 refine hslice d i (by decide) rfl ?_
  refine oskip d i fun _ => ?_
  refine oput d i (v := tots H 1) ?_
  refine assume_step d i revI_chk ?_
  refine ogather d i (v := tots H 1) ?_
  exact tw_ret d i rfl ((ChStO.drop d i).trans h)

theorem w31 {Q} (h : ChSt d i H Z 51 ⊢ Q ⟨nbv s.run (rev (tots H 1)), (chunkStep 31#32 (tots H 1) s).bstar, (chunkStep 31#32 (tots H 1) s).abv,
      (chunkStep 31#32 (tots H 1) s).found, (chunkStep 31#32 (tots H 1) s).run, psum H 0 3, rowVec H 3 0⟩) :
    ChSt d i H Z 48 ⊢ tw d i (k0_part31 i arg2 harg2 arg3 harg3 mRow harg4 mHist harg5 mCand harg6 mThr harg7 mOff harg8 arg9 arg10 v30_r0 k0_pay298 s.bstar s.abv s.found s.run (tot15 (tots H 1)) (rev (tots H 1))) Q := by
  rw [k0_part31_eq_skeleton]; unfold k0_part31_skel
  iterate 3 refine hslice d i (by decide) rfl ?_
  refine hload d i (by decide) rfl ?_
  exact tw_ret d i rfl h

theorem w32 {Q} (h : ChSt d i H Z 61 ⊢ Q ⟨psum H 0 13, rowVec H 13 0⟩) :
    ChSt d i H Z 51 ⊢ tw d i (k0_part32 i arg2 harg2 arg3 harg3 mRow harg4 mHist harg5 mCand harg6 mThr harg7 mOff harg8 arg9 arg10 v30_r0 k0_pay298 (psum H 0 3) (rowVec H 3 0)) Q := by
  rw [k0_part32_eq_skeleton]; unfold k0_part32_skel
  refine hclear d i (by decide) rfl ?_
  iterate 9 refine hslice d i (by decide) rfl ?_
  refine hload d i (by decide) rfl ?_
  exact tw_ret d i rfl h

theorem w33 {Q} (h : ChSt d i H Z 64 ⊢ Q ⟨tot15 (tots H 0), nbv s.run (rev (tots H 0)), hitv s.found s.run (tots H 0),
      Scalar.subi 15#32 (nbv s.run (rev (tots H 0))), broadcast S16 2147483648#32,
      xori (select (okv s.run (rev (tots H 0))) (cumv s.run (rev (tots H 0))) (broadcast S16 0#32)) (broadcast S16 2147483648#32)⟩) :
    ChSt d i H Z 61 ⊢ tw d i (k0_part33 i arg2 harg2 arg3 harg3 mRow harg4 mHist harg5 mCand harg6 mThr harg7 mOff harg8 arg9 arg10 v30_r0 laneV k0_pay298 s.found s.run (psum H 0 13) (rowVec H 13 0)) Q := by
  rw [k0_part33_eq_skeleton]; unfold k0_part33_skel
  refine hclear d i (by decide) rfl ?_
  iterate 2 refine hslice d i (by decide) rfl ?_
  refine oskip d i fun _ => ?_
  refine oput d i (v := tots H 0) ?_
  refine assume_step d i revI_chk ?_
  refine ogather d i (v := tots H 0) ?_
  exact tw_ret d i rfl ((ChStO.drop d i).trans h)

end Cert.Topk
end
-- ==== Proof.Bits0.lean ====
/-
  The search of the lower bits, for the row in the first slot: each window of the body settles two or three bits, by counting the words kept.
-/
module

public import proofs.«01_k».proof.Proof.Ops

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {Z : sProp 𝕄} {w : ℕ → BitVec 32} {lo hi k R : BitVec 32}
variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

variable {v : BitVec 32} (hw8 : k0_chk8 v) (hv : v.toNat ≤ 1024) (hN : ∀ l < 16, oc w lo hi 1024 l ≤ v.toNat)

include hv hN in
theorem w13 {Q} {R1 R2 : BitVec 32} (h1 : R1 = stp w lo hi k R 8388608#32) (h2 : R2 = stp w lo hi k R1 4194304#32) (x1 : BitVec 32)
    (h : ∀ x, iprop(Hc d i (CandAt w lo hi 1024) ∗ Z) ⊢ Q ⟨broadcast S16 R2, broadcast S16 (IntOp.ori R2 2097152#32), 1#32, 0#32, 0#32, x⟩) :
    iprop(Hc d i (CandAt w lo hi 1024) ∗ Z) ⊢ tw d i (k0_part13 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 8388608#32)) x1) Q := by
  subst h1 h2
  rw [k0_part13_eq_skeleton]; unfold k0_part13_skel
  refine mainstep d i (T := IntOp.ori R 8388608#32) hv rfl hN rfl (fun _ _ => rfl) (fun _ => rfl) ?_
  refine remstep d i (v := v) rfl ?_
  refine mainstep d i (T := IntOp.ori (stp w lo hi k R 8388608#32) 4194304#32) hv rfl hN rfl (fun _ _ => rfl) (fun _ => rfl) ?_
  refine remstep d i (v := v) rfl ?_
  exact tw_ret d i rfl (h _)

include hv hN in
theorem w14 {Q} {R1 R2 R3 : BitVec 32} (h1 : R1 = stp w lo hi k R 2097152#32) (h2 : R2 = stp w lo hi k R1 1048576#32) (h3 : R3 = stp w lo hi k R2 524288#32) (x1 : BitVec 32)
    (h : iprop(Hc d i (CandAt w lo hi 1024) ∗ Z) ⊢ Q ⟨broadcast S16 R3, 262144#32⟩) :
    iprop(Hc d i (CandAt w lo hi 1024) ∗ Z) ⊢ tw d i (k0_part14 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 2097152#32)) 1#32 0#32 0#32 x1) Q := by
  subst h1 h2 h3
  rw [k0_part14_eq_skeleton]; unfold k0_part14_skel
  refine mainstep d i (T := IntOp.ori R 2097152#32) hv rfl hN rfl (fun _ _ => rfl) (fun _ => rfl) ?_
  refine remstep d i (v := v) rfl ?_
  refine mainstep d i (T := IntOp.ori (stp w lo hi k R 2097152#32) 1048576#32) hv rfl hN rfl (fun _ _ => rfl) (fun _ => rfl) ?_
  refine remstep d i (v := v) rfl ?_
  refine mainstep d i (T := IntOp.ori (stp w lo hi k (stp w lo hi k R 2097152#32) 1048576#32) 524288#32) hv rfl hN rfl (fun _ _ => rfl) (fun _ => rfl) ?_
  refine remstep d i (v := v) rfl ?_
  exact tw_ret d i rfl h

include hv hN in
theorem w15 {Q} {R1 R2 : BitVec 32} (h1 : R1 = stp w lo hi k R 262144#32) (h2 : R2 = stp w lo hi k R1 131072#32)
    (h : ∀ x, iprop(Hc d i (CandAt w lo hi 1024) ∗ Z) ⊢ Q ⟨broadcast S16 R2, broadcast S16 (IntOp.ori R2 65536#32), x⟩) :
    iprop(Hc d i (CandAt w lo hi 1024) ∗ Z) ⊢ tw d i (k0_part15 i arg2 harg2 arg3 harg3 mRow harg4 mHist harg5 mCand harg6 mThr harg7 mOff harg8 arg9 arg10 v30_r0 k0_pay298 (ocV w lo hi) v hw8 (broadcast S16 k) (broadcast S16 R) 262144#32) Q := by
  subst h1 h2
  rw [k0_part15_eq_skeleton]; unfold k0_part15_skel
  refine mainstep d i (T := IntOp.ori R 262144#32) hv rfl hN rfl (fun _ _ => rfl) (fun _ => rfl) ?_
  refine remstep d i (v := v) rfl ?_
  refine mainstep d i (T := IntOp.ori (stp w lo hi k R 262144#32) 131072#32) hv rfl hN rfl (fun _ _ => rfl) (fun _ => rfl) ?_
  refine remstep d i (v := v) rfl ?_
  exact tw_ret d i rfl (h _)

include hv hN in
theorem w16 {Q} {R1 R2 : BitVec 32} (h1 : R1 = stp w lo hi k R 65536#32) (h2 : R2 = stp w lo hi k R1 32768#32) (x1 : BitVec 32)
    (h : ∀ x, iprop(Hc d i (CandAt w lo hi 1024) ∗ Z) ⊢ Q ⟨broadcast S16 R2, broadcast S16 (IntOp.ori R2 16384#32), 1#32, 0#32, 0#32, x, 1#32⟩) :
    iprop(Hc d i (CandAt w lo hi 1024) ∗ Z) ⊢ tw d i (k0_part16 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 65536#32)) x1) Q := by
  subst h1 h2
  rw [k0_part16_eq_skeleton]; unfold k0_part16_skel
  refine mainstep d i (T := IntOp.ori R 65536#32) hv rfl hN rfl (fun _ _ => rfl) (fun _ => rfl) ?_
  refine remstep d i (v := v) rfl ?_
  refine mainstep d i (T := IntOp.ori (stp w lo hi k R 65536#32) 32768#32) hv rfl hN rfl (fun _ _ => rfl) (fun _ => rfl) ?_
  refine remstep d i (v := v) rfl ?_
  exact tw_ret d i rfl (h _)

include hv hN in
theorem w17 {Q} {R1 R2 : BitVec 32} (h1 : R1 = stp w lo hi k R 16384#32) (h2 : R2 = stp w lo hi k R1 8192#32) (x1 : BitVec 32)
    (h : iprop(Hc d i (CandAt w lo hi 1024) ∗ Z) ⊢ Q ⟨broadcast S16 R2, broadcast S16 (IntOp.ori R2 4096#32), cmpi .sge (broadcast S16 (BitVec.ofNat 32 (nn w lo hi (IntOp.ori R2 4096#32)))) (broadcast S16 k)⟩) :
    iprop(Hc d i (CandAt w lo hi 1024) ∗ Z) ⊢ tw d i (k0_part17 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 16384#32)) 1#32 0#32 0#32 x1 1#32) Q := by
  subst h1 h2
  rw [k0_part17_eq_skeleton]; unfold k0_part17_skel
  refine mainstep d i (T := IntOp.ori R 16384#32) hv rfl hN rfl (fun _ _ => rfl) (fun _ => rfl) ?_
  refine remstep d i (v := v) rfl ?_
  refine mainstep d i (T := IntOp.ori (stp w lo hi k R 16384#32) 8192#32) hv rfl hN rfl (fun _ _ => rfl) (fun _ => rfl) ?_
  refine remstep d i (v := v) rfl ?_
  refine mainstep d i (T := IntOp.ori (stp w lo hi k (stp w lo hi k R 16384#32) 8192#32) 4096#32) hv rfl hN rfl (fun _ _ => rfl) (fun _ => rfl) ?_
  refine remstep d i (v := v) rfl ?_
  exact tw_ret d i rfl h

include hv hN in
theorem w18 {Q} {R1 R2 R3 : BitVec 32} (h1 : R1 = stp w lo hi k R 4096#32) (h2 : R2 = stp w lo hi k R1 2048#32) (h3 : R3 = stp w lo hi k R2 1024#32)
    (h : ∀ x, iprop(Hc d i (CandAt w lo hi 1024) ∗ Z) ⊢ Q ⟨broadcast S16 R3, broadcast S16 (IntOp.ori R3 512#32), x, 1#32, 1#32⟩) :
    iprop(Hc d i (CandAt w lo hi 1024) ∗ Z) ⊢ tw d i (k0_part18 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 4096#32)) (cmpi .sge (broadcast S16 (BitVec.ofNat 32 (nn w lo hi (IntOp.ori R 4096#32)))) (broadcast S16 k))) Q := by
  subst h1 h2 h3
  rw [k0_part18_eq_skeleton]; unfold k0_part18_skel
  refine mainstep d i (T := IntOp.ori (stp w lo hi k R 4096#32) 2048#32) hv rfl hN rfl (fun _ _ => rfl) (fun _ => rfl) ?_
  refine remstep d i (v := v) rfl ?_
  refine mainstep d i (T := IntOp.ori (stp w lo hi k (stp w lo hi k R 4096#32) 2048#32) 1024#32) hv rfl hN rfl (fun _ _ => rfl) (fun _ => rfl) ?_
  refine remstep d i (v := v) rfl ?_
  exact tw_ret d i rfl (h _)

include hv hN in
theorem w19 {Q} {R1 R2 : BitVec 32} (h1 : R1 = stp w lo hi k R 512#32) (h2 : R2 = stp w lo hi k R1 256#32) (x1 : BitVec 32)
    (h : ∀ x, iprop(Hc d i (CandAt w lo hi 1024) ∗ Z) ⊢ Q ⟨broadcast S16 R2, broadcast S16 (IntOp.ori R2 128#32), 1#32, 0#32, 0#32, x⟩) :
    iprop(Hc d i (CandAt w lo hi 1024) ∗ Z) ⊢ tw d i (k0_part19 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 512#32)) x1 1#32 1#32) Q := by
  subst h1 h2
  rw [k0_part19_eq_skeleton]; unfold k0_part19_skel
  refine mainstep d i (T := IntOp.ori R 512#32) hv rfl hN rfl (fun _ _ => rfl) (fun _ => rfl) ?_
  refine remstep d i (v := v) rfl ?_
  refine mainstep d i (T := IntOp.ori (stp w lo hi k R 512#32) 256#32) hv rfl hN rfl (fun _ _ => rfl) (fun _ => rfl) ?_
  refine remstep d i (v := v) rfl ?_
  exact tw_ret d i rfl (h _)

include hv hN in
theorem w20 {Q} {R1 R2 : BitVec 32} (h1 : R1 = stp w lo hi k R 128#32) (h2 : R2 = stp w lo hi k R1 64#32) (x1 : BitVec 32)
    (h : ∀ x, iprop(Hc d i (CandAt w lo hi 1024) ∗ Z) ⊢ Q ⟨broadcast S16 R2, broadcast S16 (IntOp.ori R2 32#32), 1#32, 0#32, x, broadcast S16 (BitVec.ofNat 32 (nn w lo hi (IntOp.ori R2 32#32))), 1#32⟩) :
    iprop(Hc d i (CandAt w lo hi 1024) ∗ Z) ⊢ tw d i (k0_part20 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 128#32)) 1#32 0#32 0#32 x1) Q := by
  subst h1 h2
  rw [k0_part20_eq_skeleton]; unfold k0_part20_skel
  refine mainstep d i (T := IntOp.ori R 128#32) hv rfl hN rfl (fun _ _ => rfl) (fun _ => rfl) ?_
  refine remstep d i (v := v) rfl ?_
  refine mainstep d i (T := IntOp.ori (stp w lo hi k R 128#32) 64#32) hv rfl hN rfl (fun _ _ => rfl) (fun _ => rfl) ?_
  refine remstep d i (v := v) rfl ?_
  refine mainstep d i (T := IntOp.ori (stp w lo hi k (stp w lo hi k R 128#32) 64#32) 32#32) hv rfl hN rfl (fun _ _ => rfl) (fun _ => rfl) ?_
  exact tw_ret d i rfl (h _)

include hv hN in
theorem w21 {Q} {R1 R2 R3 : BitVec 32} (h1 : R1 = stp w lo hi k R 32#32) (h2 : R2 = stp w lo hi k R1 16#32) (h3 : R3 = stp w lo hi k R2 8#32) (x1 : BitVec 32)
    (h : ∀ x, iprop(Hc d i (CandAt w lo hi 1024) ∗ Z) ⊢ Q ⟨broadcast S16 R3, broadcast S16 (IntOp.ori R3 4#32), x⟩) :
    iprop(Hc d i (CandAt w lo hi 1024) ∗ Z) ⊢ tw d i (k0_part21 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 32#32)) 1#32 0#32 x1 (broadcast S16 (BitVec.ofNat 32 (nn w lo hi (IntOp.ori R 32#32)))) 1#32) Q := by
  subst h1 h2 h3
  rw [k0_part21_eq_skeleton]; unfold k0_part21_skel
  refine remstep d i (v := v) rfl ?_
  refine mainstep d i (T := IntOp.ori (stp w lo hi k R 32#32) 16#32) hv rfl hN rfl (fun _ _ => rfl) (fun _ => rfl) ?_
  refine remstep d i (v := v) rfl ?_
  refine mainstep d i (T := IntOp.ori (stp w lo hi k (stp w lo hi k R 32#32) 16#32) 8#32) hv rfl hN rfl (fun _ _ => rfl) (fun _ => rfl) ?_
  refine remstep d i (v := v) rfl ?_
  exact tw_ret d i rfl (h _)

include hv hN in
theorem w22 {Q} {R1 R2 : BitVec 32} (h1 : R1 = stp w lo hi k R 4#32) (h2 : R2 = stp w lo hi k R1 2#32) (x1 : BitVec 32)
    (h : ∀ x, iprop(Hc d i (CandAt w lo hi 1024) ∗ Z) ⊢ Q ⟨broadcast S16 R2, broadcast S16 (IntOp.ori R2 1#32), x, 1#32, 0#32⟩) :
    iprop(Hc d i (CandAt w lo hi 1024) ∗ Z) ⊢ tw d i (k0_part22 i arg2 harg2 arg3 harg3 mRow harg4 mHist harg5 mCand harg6 mThr harg7 mOff harg8 arg9 arg10 v30_r0 k0_pay298 (ocV w lo hi) v hw8 (broadcast S16 k) (broadcast S16 R) (broadcast S16 (IntOp.ori R 4#32)) x1) Q := by
  subst h1 h2
  rw [k0_part22_eq_skeleton]; unfold k0_part22_skel
  refine mainstep d i (T := IntOp.ori R 4#32) hv rfl hN rfl (fun _ _ => rfl) (fun _ => rfl) ?_
  refine remstep d i (v := v) rfl ?_
  refine mainstep d i (T := IntOp.ori (stp w lo hi k R 4#32) 2#32) hv rfl hN rfl (fun _ _ => rfl) (fun _ => rfl) ?_
  refine remstep d i (v := v) rfl ?_
  exact tw_ret d i rfl (h _)

end Cert.Topk
end
-- ==== Proof.Bits1.lean ====
/-
  The search of the lower bits, for the row in the second slot.
-/
module

public import proofs.«01_k».proof.Proof.Ops

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {Z : sProp 𝕄} {w : ℕ → BitVec 32} {lo hi k R : BitVec 32}
variable (arg2 : Memref sig .scVector .hbm S8192x16384 .f32) (harg2 : arg2.IsWhole) (arg3 : Memref sig .scVector .hbm S8192 .f32) (harg3 : arg3.IsWhole)
  (harg4 : mRow.IsWhole) (harg5 : mHist.IsWhole) (harg6 : mCand.IsWhole) (harg7 : mThr.IsWhole) (harg8 : mOff.IsWhole)
  (arg9 arg10 v30_r0 : DmaSems sig S_)

variable {v : BitVec 32} (hw17 : k0_chk17 v) (hv : v.toNat ≤ 1024) (hN : ∀ l < 16, oc w lo hi 1024 l ≤ v.toNat)

include hv hN in
theorem w35 {Q} {R1 R2 : BitVec 32} (h1 : R1 = stp w lo hi k R 16777216#32) (h2 : R2 = stp w lo hi k R1 8388608#32) (x1 : BitVec 32)
    (h : ∀ x, iprop(Hc d i (CandAt w lo hi 1024) ∗ Z) ⊢ Q ⟨broadcast S16 R2, broadcast S16 (IntOp.ori R2 4194304#32), 1#32, 0#32, 0#32, x⟩) :
    iprop(Hc d i (CandAt w lo hi 1024) ∗ Z) ⊢ tw d i (k0_part35 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 16777216#32)) x1) Q := by
  subst h1 h2
  rw [k0_part35_eq_skeleton]; unfold k0_part35_skel
  refine mainstep d i (T := IntOp.ori R 16777216#32) hv rfl hN rfl (fun _ _ => rfl) (fun _ => rfl) ?_
  refine remstep d i (v := v) rfl ?_
  refine mainstep d i (T := IntOp.ori (stp w lo hi k R 16777216#32) 8388608#32) hv rfl hN rfl (fun _ _ => rfl) (fun _ => rfl) ?_
  refine remstep d i (v := v) rfl ?_
  exact tw_ret d i rfl (h _)

include hv hN in
theorem w36 {Q} {R1 R2 R3 : BitVec 32} (h1 : R1 = stp w lo hi k R 4194304#32) (h2 : R2 = stp w lo hi k R1 2097152#32) (h3 : R3 = stp w lo hi k R2 1048576#32) (x1 : BitVec 32)
    (h : iprop(Hc d i (CandAt w lo hi 1024) ∗ Z) ⊢ Q ⟨broadcast S16 R3, 524288#32⟩) :
    iprop(Hc d i (CandAt w lo hi 1024) ∗ Z) ⊢ tw d i (k0_part36 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 4194304#32)) 1#32 0#32 0#32 x1) Q := by
  subst h1 h2 h3
  rw [k0_part36_eq_skeleton]; unfold k0_part36_skel
  refine mainstep d i (T := IntOp.ori R 4194304#32) hv rfl hN rfl (fun _ _ => rfl) (fun _ => rfl) ?_
  refine remstep d i (v := v) rfl ?_
  refine mainstep d i (T := IntOp.ori (stp w lo hi k R 4194304#32) 2097152#32) hv rfl hN rfl (fun _ _ => rfl) (fun _ => rfl) ?_
  refine remstep d i (v := v) rfl ?_
  refine mainstep d i (T := IntOp.ori (stp w lo hi k (stp w lo hi k R 4194304#32) 2097152#32) 1048576#32) hv rfl hN rfl (fun _ _ => rfl) (fun _ => rfl) ?_
  refine remstep d i (v := v) rfl ?_
  exact tw_ret d i rfl h

include hv hN in
theorem w37 {Q} {R1 R2 : BitVec 32} (h1 : R1 = stp w lo hi k R 524288#32) (h2 : R2 = stp w lo hi k R1 262144#32)
    (h : ∀ x, iprop(Hc d i (CandAt w lo hi 1024) ∗ Z) ⊢ Q ⟨broadcast S16 R2, broadcast S16 (IntOp.ori R2 131072#32), x⟩) :
    iprop(Hc d i (CandAt w lo hi 1024) ∗ Z) ⊢ tw d i (k0_part37 i arg2 harg2 arg3 harg3 mRow harg4 mHist harg5 mCand harg6 mThr harg7 mOff harg8 arg9 arg10 v30_r0 k0_pay298 (ocV w lo hi) v hw17 (broadcast S16 k) (broadcast S16 R) 524288#32) Q := by
  subst h1 h2
  rw [k0_part37_eq_skeleton]; unfold k0_part37_skel
  refine mainstep d i (T := IntOp.ori R 524288#32) hv rfl hN rfl (fun _ _ => rfl) (fun _ => rfl) ?_
  refine remstep d i (v := v) rfl ?_
  refine mainstep d i (T := IntOp.ori (stp w lo hi k R 524288#32) 262144#32) hv rfl hN rfl (fun _ _ => rfl) (fun _ => rfl) ?_
  refine remstep d i (v := v) rfl ?_
  exact tw_ret d i rfl (h _)

include hv hN in
theorem w38 {Q} {R1 R2 : BitVec 32} (h1 : R1 = stp w lo hi k R 131072#32) (h2 : R2 = stp w lo hi k R1 65536#32) (x1 : BitVec 32)
    (h : ∀ x, iprop(Hc d i (CandAt w lo hi 1024) ∗ Z) ⊢ Q ⟨broadcast S16 R2, broadcast S16 (IntOp.ori R2 32768#32), 1#32, 0#32, 0#32, x, 1#32⟩) :
    iprop(Hc d i (CandAt w lo hi 1024) ∗ Z) ⊢ tw d i (k0_part38 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 131072#32)) x1) Q := by
  subst h1 h2
  rw [k0_part38_eq_skeleton]; unfold k0_part38_skel
  refine mainstep d i (T := IntOp.ori R 131072#32) hv rfl hN rfl (fun _ _ => rfl) (fun _ => rfl) ?_
  refine remstep d i (v := v) rfl ?_
  refine mainstep d i (T := IntOp.ori (stp w lo hi k R 131072#32) 65536#32) hv rfl hN rfl (fun _ _ => rfl) (fun _ => rfl) ?_
  refine remstep d i (v := v) rfl ?_
  exact tw_ret d i rfl (h _)

include hv hN in
theorem w39 {Q} {R1 R2 : BitVec 32} (h1 : R1 = stp w lo hi k R 32768#32) (h2 : R2 = stp w lo hi k R1 16384#32) (x1 : BitVec 32)
    (h : iprop(Hc d i (CandAt w lo hi 1024) ∗ Z) ⊢ Q ⟨broadcast S16 R2, broadcast S16 (IntOp.ori R2 8192#32), cmpi .sge (broadcast S16 (BitVec.ofNat 32 (nn w lo hi (IntOp.ori R2 8192#32)))) (broadcast S16 k)⟩) :
    iprop(Hc d i (CandAt w lo hi 1024) ∗ Z) ⊢ tw d i (k0_part39 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 32768#32)) 1#32 0#32 0#32 x1 1#32) Q := by
  subst h1 h2
  rw [k0_part39_eq_skeleton]; unfold k0_part39_skel
  refine mainstep d i (T := IntOp.ori R 32768#32) hv rfl hN rfl (fun _ _ => rfl) (fun _ => rfl) ?_
  refine remstep d i (v := v) rfl ?_
  refine mainstep d i (T := IntOp.ori (stp w lo hi k R 32768#32) 16384#32) hv rfl hN rfl (fun _ _ => rfl) (fun _ => rfl) ?_
  refine remstep d i (v := v) rfl ?_
  refine mainstep d i (T := IntOp.ori (stp w lo hi k (stp w lo hi k R 32768#32) 16384#32) 8192#32) hv rfl hN rfl (fun _ _ => rfl) (fun _ => rfl) ?_
  refine remstep d i (v := v) rfl ?_
  exact tw_ret d i rfl h

include hv hN in
theorem w40 {Q} {R1 R2 R3 : BitVec 32} (h1 : R1 = stp w lo hi k R 8192#32) (h2 : R2 = stp w lo hi k R1 4096#32) (h3 : R3 = stp w lo hi k R2 2048#32)
    (h : ∀ x, iprop(Hc d i (CandAt w lo hi 1024) ∗ Z) ⊢ Q ⟨broadcast S16 R3, broadcast S16 (IntOp.ori R3 1024#32), x, 1#32, 1#32⟩) :
    iprop(Hc d i (CandAt w lo hi 1024) ∗ Z) ⊢ tw d i (k0_part40 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 8192#32)) (cmpi .sge (broadcast S16 (BitVec.ofNat 32 (nn w lo hi (IntOp.ori R 8192#32)))) (broadcast S16 k))) Q := by
  subst h1 h2 h3
  rw [k0_part40_eq_skeleton]; unfold k0_part40_skel
  refine mainstep d i (T := IntOp.ori (stp w lo hi k R 8192#32) 4096#32) hv rfl hN rfl (fun _ _ => rfl) (fun _ => rfl) ?_
  refine remstep d i (v := v) rfl ?_
  refine mainstep d i (T := IntOp.ori (stp w lo hi k (stp w lo hi k R 8192#32) 4096#32) 2048#32) hv rfl hN rfl (fun _ _ => rfl) (fun _ => rfl) ?_
  refine remstep d i (v := v) rfl ?_
  exact tw_ret d i rfl (h _)

include hv hN in
theorem w41 {Q} {R1 R2 : BitVec 32} (h1 : R1 = stp w lo hi k R 1024#32) (h2 : R2 = stp w lo hi k R1 512#32) (x1 : BitVec 32)
    (h : ∀ x, iprop(Hc d i (CandAt w lo hi 1024) ∗ Z) ⊢ Q ⟨broadcast S16 R2, broadcast S16 (IntOp.ori R2 256#32), 1#32, 0#32, 0#32, x⟩) :
    iprop(Hc d i (CandAt w lo hi 1024) ∗ Z) ⊢ tw d i (k0_part41 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 1024#32)) x1 1#32 1#32) Q := by
  subst h1 h2
  rw [k0_part41_eq_skeleton]; unfold k0_part41_skel
  refine mainstep d i (T := IntOp.ori R 1024#32) hv rfl hN rfl (fun _ _ => rfl) (fun _ => rfl) ?_
  refine remstep d i (v := v) rfl ?_
  refine mainstep d i (T := IntOp.ori (stp w lo hi k R 1024#32) 512#32) hv rfl hN rfl (fun _ _ => rfl) (fun _ => rfl) ?_
  refine remstep d i (v := v) rfl ?_
  exact tw_ret d i rfl (h _)

include hv hN in
theorem w42 {Q} {R1 R2 : BitVec 32} (h1 : R1 = stp w lo hi k R 256#32) (h2 : R2 = stp w lo hi k R1 128#32) (x1 : BitVec 32)
    (h : ∀ x, iprop(Hc d i (CandAt w lo hi 1024) ∗ Z) ⊢ Q ⟨broadcast S16 R2, broadcast S16 (IntOp.ori R2 64#32), 1#32, 0#32, x, broadcast S16 (BitVec.ofNat 32 (nn w lo hi (IntOp.ori R2 64#32))), 1#32⟩) :
    iprop(Hc d i (CandAt w lo hi 1024) ∗ Z) ⊢ tw d i (k0_part42 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 256#32)) 1#32 0#32 0#32 x1) Q := by
  subst h1 h2
  rw [k0_part42_eq_skeleton]; unfold k0_part42_skel
  refine mainstep d i (T := IntOp.ori R 256#32) hv rfl hN rfl (fun _ _ => rfl) (fun _ => rfl) ?_
  refine remstep d i (v := v) rfl ?_
  refine mainstep d i (T := IntOp.ori (stp w lo hi k R 256#32) 128#32) hv rfl hN rfl (fun _ _ => rfl) (fun _ => rfl) ?_
  refine remstep d i (v := v) rfl ?_
  refine mainstep d i (T := IntOp.ori (stp w lo hi k (stp w lo hi k R 256#32) 128#32) 64#32) hv rfl hN rfl (fun _ _ => rfl) (fun _ => rfl) ?_
  exact tw_ret d i rfl (h _)

include hv hN in
theorem w43 {Q} {R1 R2 R3 : BitVec 32} (h1 : R1 = stp w lo hi k R 64#32) (h2 : R2 = stp w lo hi k R1 32#32) (h3 : R3 = stp w lo hi k R2 16#32) (x1 : BitVec 32)
    (h : ∀ x, iprop(Hc d i (CandAt w lo hi 1024) ∗ Z) ⊢ Q ⟨broadcast S16 R3, broadcast S16 (IntOp.ori R3 8#32), x⟩) :
    iprop(Hc d i (CandAt w lo hi 1024) ∗ Z) ⊢ tw d i (k0_part43 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 64#32)) 1#32 0#32 x1 (broadcast S16 (BitVec.ofNat 32 (nn w lo hi (IntOp.ori R 64#32)))) 1#32) Q := by
  subst h1 h2 h3
  rw [k0_part43_eq_skeleton]; unfold k0_part43_skel
  refine remstep d i (v := v) rfl ?_
  refine mainstep d i (T := IntOp.ori (stp w lo hi k R 64#32) 32#32) hv rfl hN rfl (fun _ _ => rfl) (fun _ => rfl) ?_
  refine remstep d i (v := v) rfl ?_
  refine mainstep d i (T := IntOp.ori (stp w lo hi k (stp w lo hi k R 64#32) 32#32) 16#32) hv rfl hN rfl (fun _ _ => rfl) (fun _ => rfl) ?_
  refine remstep d i (v := v) rfl ?_
  exact tw_ret d i rfl (h _)

include hv hN in
theorem w44 {Q} {R1 R2 : BitVec 32} (h1 : R1 = stp w lo hi k R 8#32) (h2 : R2 = stp w lo hi k R1 4#32) (x1 : BitVec 32)
    (h : ∀ x, iprop(Hc d i (CandAt w lo hi 1024) ∗ Z) ⊢ Q ⟨broadcast S16 R2, broadcast S16 (IntOp.ori R2 2#32), x, 1#32, 0#32⟩) :
    iprop(Hc d i (CandAt w lo hi 1024) ∗ Z) ⊢ tw d i (k0_part44 i arg2 harg2 arg3 harg3 mRow harg4 mHist harg5 mCand harg6 mThr harg7 mOff harg8 arg9 arg10 v30_r0 k0_pay298 (ocV w lo hi) v hw17 (broadcast S16 k) (broadcast S16 R) (broadcast S16 (IntOp.ori R 8#32)) x1) Q := by
  subst h1 h2
  rw [k0_part44_eq_skeleton]; unfold k0_part44_skel
  refine mainstep d i (T := IntOp.ori R 8#32) hv rfl hN rfl (fun _ _ => rfl) (fun _ => rfl) ?_
  refine remstep d i (v := v) rfl ?_
  refine mainstep d i (T := IntOp.ori (stp w lo hi k R 8#32) 4#32) hv rfl hN rfl (fun _ _ => rfl) (fun _ => rfl) ?_
  refine remstep d i (v := v) rfl ?_
  exact tw_ret d i rfl (h _)

end Cert.Topk
end
-- ==== Proof.Dma.lean ====
/-
  The copies of the rows into a tile's two slots: a row on its way, a row that has arrived, an idle slot.
-/
module

public import proofs.«01_k».proof.Proof.Turn
public import proofs.«01_k».proof.Proof.Chunk1
public import proofs.«01_k».proof.Proof.Bits0
public import proofs.«01_k».proof.Proof.Bits1

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}

/-- The argument and the result, as a tile sees them. -/
abbrev mA : Memref sig .scVector .hbm S8192x16384 .f32 := Memref.whole main_arg0_scv
abbrev mT : Memref sig .scVector .hbm S8192 .f32 := Memref.whole main_v0_scv

/-- The words of row `r` of the argument. -/
def ata (f : S8192x16384.Idx → BitVec 32) (r n : ℕ) : BitVec 32 :=
  if h : r < 8192 ∧ n < 16384 then f (fun a => match a with | 0 => ⟨r, h.1⟩ | 1 => ⟨n, h.2⟩) else 0

theorem ata_of_val (f : S8192x16384.Idx → BitVec 32) (x : S8192x16384.Idx) {r n : ℕ} (hr : (x 0).val = r) (hn : (x 1).val = n) :
    f x = ata f r n := by
  subst hr hn
  have h0 : (x 0).val < 8192 := (x 0).isLt
  have h1 : (x 1).val < 16384 := (x 1).isLt
  rw [ata, dif_pos ⟨h0, h1⟩]
  congr 1
  funext a
  match a with
  | 0 => rfl
  | 1 => rfl

/-- The words of slot `s`. -/
def Sl (s : ℕ) : Finset S2x16384.Idx := Finset.univ.filter fun x => (x 0).val = s

theorem mem_Sl {s : ℕ} (x : S2x16384.Idx) (h : (x 0).val = s) : x ∈ Sl s := Finset.mem_filter.2 ⟨Finset.mem_univ _, h⟩

/-- One row of the tile's rows' buffer, and one row of the argument, as the body slices them. -/
abbrev slotM (off : Fin 2 → ℕ) (inb : ∀ a, off a + S1x16384.size a ≤ S2x16384.size a) : Memref sig .scVector .vmem S16384 .f32 :=
  (mRow.slice (Rect.unit (s := S2x16384) off S1x16384.size inb) (fun _ => rfl)).squeeze S16384 squeezes_S1x16384_S16384
abbrev rowM (off : Fin 2 → ℕ) (inb : ∀ a, off a + S1x16384.size a ≤ S8192x16384.size a) : Memref sig .scVector .hbm S16384 .f32 :=
  (mA.slice (Rect.unit (s := S8192x16384) off S1x16384.size inb) (fun _ => rfl)).squeeze S16384 squeezes_S1x16384_S16384

/-- What one row's copy credits its counter with. -/
def rowN : ℕ := (slotM ![0, 0] inb_S2x16384_S1x16384_0_0).view.dmaCredit

theorem slot_emb {off : Fin 2 → ℕ} {inb : ∀ a, off a + S1x16384.size a ≤ S2x16384.size a} (x : S16384.Idx) :
    (((slotM off inb).view.emb x : S2x16384.Idx) 0).val = off 0 ∧ (((slotM off inb).view.emb x : S2x16384.Idx) 1).val = off 1 + (x 0).val := by
  have e : ((slotM off inb).view.emb x : S2x16384.Idx)
      = (Rect.unit (s := S2x16384) off S1x16384.size inb).emb (Fin.cons ⟨0, Nat.one_pos⟩ x : (a : Fin 2) → Fin (![1, 16384] a)) :=
    congrArg (Rect.unit (s := S2x16384) off S1x16384.size inb).emb (Shape.reshapeEquiv_cons_one (d := ![16384]) _ x)
  rw [e]
  constructor
  · show off 0 + 1 * 0 = off 0
    omega
  · show off 1 + 1 * (x 0).val = _
    omega

theorem argRow_emb {off : Fin 2 → ℕ} {inb : ∀ a, off a + S1x16384.size a ≤ S8192x16384.size a} (x : S16384.Idx) :
    (((rowM off inb).view.emb x : S8192x16384.Idx) 0).val = off 0 ∧ (((rowM off inb).view.emb x : S8192x16384.Idx) 1).val = off 1 + (x 0).val := by
  have e : ((rowM off inb).view.emb x : S8192x16384.Idx)
      = (Rect.unit (s := S8192x16384) off S1x16384.size inb).emb (Fin.cons ⟨0, Nat.one_pos⟩ x : (a : Fin 2) → Fin (![1, 16384] a)) :=
    congrArg (Rect.unit (s := S8192x16384) off S1x16384.size inb).emb (Shape.reshapeEquiv_cons_one (d := ![16384]) _ x)
  rw [e]
  constructor
  · show off 0 + 1 * 0 = off 0
    omega
  · show off 1 + 1 * (x 0).val = _
    omega

theorem slot_sub {s : ℕ} {off : Fin 2 → ℕ} {inb : ∀ a, off a + S1x16384.size a ≤ S2x16384.size a} (hs : off 0 = s) :
    (slotM off inb).view.set ⊆ Sl s := by
  intro y hy
  obtain ⟨x, -, rfl⟩ := Finset.mem_map.1 hy
  exact mem_Sl _ ((slot_emb x).1.trans hs)

/-- What a slot holds after a row has been copied to it. -/
theorem slot_write {s r : ℕ} {off : Fin 2 → ℕ} {inb : ∀ a, off a + S1x16384.size a ≤ S2x16384.size a} {off' : Fin 2 → ℕ}
    {inb' : ∀ a, off' a + S1x16384.size a ≤ S8192x16384.size a} (hs : off 0 = s) (h1 : off 1 = 0) (hr : off' 0 = r) (h1' : off' 1 = 0)
    (g : S2x16384.Idx → BitVec 32) (f : S8192x16384.Idx → BitVec 32) {n : ℕ} (hn : n < 16384) :
    at2 ((slotM off inb).view.write (Elt Bits) g ((rowM off' inb').view.read (Elt Bits) f) Finset.univ) s n = ata f r n := by
  let x : S16384.Idx := fun a => match a with | 0 => ⟨n, hn⟩
  have hx := slot_emb (off := off) (inb := inb) x
  have hy := argRow_emb (off := off') (inb := inb') x
  rw [← at2_of_val _ ((slotM off inb).view.emb x) (hx.1.trans hs) (hx.2.trans (by rw [h1]; exact Nat.zero_add n))]
  refine (View.write_emb_of_mem _ _ (Finset.mem_univ x)).trans ?_
  exact ata_of_val f ((rowM off' inb').view.emb x) (hy.1.trans hr) (hy.2.trans (by rw [h1']; exact Nat.zero_add n))

/-- A tile's part of the argument, and the counter of the copies to one slot, at zero. -/
def Sm (q : PosShare TreeShare) (f : S8192x16384.Idx → BitVec 32) (sem : DmaSem sig) : sProp 𝕄 :=
  iprop(semVal (VT d i, .dma sem) 0 ∗ (mA.view.loc (VT d i) ↦{q} f))

/-- Row `r` on its way to slot `s`. -/
def InFl (q : PosShare TreeShare) (f : S8192x16384.Idx → BitVec 32) (s : ℕ) (sem : DmaSem sig) (r : ℕ) : sProp 𝕄 :=
  iprop(∃ (g : S2x16384.Idx → BitVec 32) (T : Finset S8192x16384.Idx), ⌜∀ n < 16384, at2 g s n = ata f r n⌝
    ∗ (Transfers.Flight countersEmb (VT d i) (.dma sem) (default : SparseCore.Cfg.HIx 1) rowN
        iprop((mRow.view.loc (VT d i) ↦[Sl s]{fullShare} g) ∗ (mA.view.loc (VT d i) ↦[T]{q} f))
      ∗ (mA.view.loc (VT d i) ↦[Finset.univ \ T]{q} f)))

/-- What the tile owes, and may wait under. -/
def Ow (O : CellTallies nD τ sig (SparseCore.Cfg.HIx 1)) : sProp 𝕄 :=
  iprop(Transfers.MayWaits (VT d i) (default : SparseCore.Cfg.HIx 1) O ∗ ∃ W, owes (VT d i) O W)

/-- A row's copy is started. -/
theorem tissue {q : PosShare TreeShare} {f : S8192x16384.Idx → BitVec 32} {s r : ℕ} {sem : DmaSem sig} {w : ℕ → BitVec 32}
    {off : Fin 2 → ℕ} {inb : ∀ a, off a + S1x16384.size a ≤ S2x16384.size a} {off' : Fin 2 → ℕ}
    {inb' : ∀ a, off' a + S1x16384.size a ≤ S8192x16384.size a} {hsrc hdst hsem} {k : PUnit → TP i α}
    (hs : off 0 = s) (h1 : off 1 = 0) (hr : off' 0 = r) (h1' : off' 1 = 0)
    (h : iprop(InFl d i q f s sem r ∗ Z) ⊢ tw d i (k ⟨⟩) Q) :
    iprop(Hr d i (Sl s) s w ∗ (Sm d i q f sem ∗ Z))
      ⊢ tw d i (Prog.lift (.enqueueDma (rowM off' inb') (.here (slotM off inb)) (.dma sem) hsrc hdst hsem) >>= k) Q := by
  unfold Hr Sm
  iintro ⟨⟨%g, -, HR⟩, ⟨Hv, HA⟩, HZ⟩
  ihave HA' := (pointsTo_split_subset (Finset.subset_univ (rowM off' inb').view.set)).1 $$ HA
  icases HA' with ⟨HA, HA'⟩
  iapply (Transfers.wp_dmaLocal countersEmb 𝒱₀ (VT d i) none (src := rowM off' inb') (dst := slotM off inb) (sm := .dma sem) (k := k) (Q := Q)
    (fs := f) (fd := g) (Sd := Sl s) (default : SparseCore.Cfg.HIx 1) rowN rfl (show 0 < (slotM off inb).view.amount (.dma sem) from View.amount_pos _ _ (show 0 < S16384.numel by decide)) (slot_sub hs)) $$ [HR HA Hv]
  · isplitl [HA]
    · iexact HA
    isplitl [HR]
    · iexact HR
    · iexact Hv
  iintro HF
  iapply h
  isplitr [HZ]
  · unfold InFl
    iexists (slotM off inb).view.write (Elt Bits) g ((rowM off' inb').view.read (Elt Bits) f) Finset.univ
    iexists (rowM off' inb').view.set
    isplitr [HF HA']
    · ipureintro
      intro n hn
      exact slot_write hs h1 hr h1' g f hn
    isplitl [HF]
    · iexact HF
    · iexact HA'
  · iexact HZ

/-- A row's copy is waited for. -/
theorem twait {q : PosShare TreeShare} {f : S8192x16384.Idx → BitVec 32} {s r : ℕ} {sem : DmaSem sig} {O : CellTallies nD τ sig (SparseCore.Cfg.HIx 1)}
    {off : Fin 2 → ℕ} {inb : ∀ a, off a + S1x16384.size a ≤ S2x16384.size a}
    {src : Memref sig .scVector .hbm S16384 .f32} {hsrc hdst} {k : PUnit → TP i α}
    (h : iprop(Hr d i (Sl s) s (ata f r) ∗ (Sm d i q f sem ∗ (Ow d i O ∗ Z))) ⊢ tw d i (k ⟨⟩) Q) :
    iprop(InFl d i q f s sem r ∗ (Ow d i O ∗ Z)) ⊢ tw d i (Prog.lift (.waitDma2 sem src (slotM off inb) hsrc hdst) >>= k) Q := by
  unfold InFl Ow
  iintro ⟨⟨%g, %T, %hg, HF, HA'⟩, ⟨#Hmw, %W, HO⟩, HZ⟩
  ihave Hw := (Transfers.MayWaits.elim (.dma sem)) $$ Hmw
  iapply (Transfers.wp_waitLocalO countersEmb 𝒱₀ (VT d i) none (sem := sem) (srcw := src) (dstw := slotM off inb) (k := k) (Q := Q)
    (default : SparseCore.Cfg.HIx 1) (N := rowN) rfl) $$ [HF HO Hw]
  · isplitl [HF]
    · iexact HF
    isplitl [HO]
    · iexact HO
    · iexact Hw
  iintro ⟨⟨HR, HA⟩, Hv, HO⟩
  iapply h
  unfold Hr Sm Ow
  isplitl [HR]
  · iexists g
    isplitr [HR]
    · ipureintro; exact hg
    · iexact HR
  isplitl [Hv HA HA']
  · isplitl [Hv]
    · iexact Hv
    · iapply (pointsTo_split_subset (Finset.subset_univ T)).2
      isplitl [HA]
      · iexact HA
      · iexact HA'
  isplitl [HO]
  · isplitr [HO]
    · iexact Hmw
    · iexists _
      iexact HO
  · iexact HZ

end Cert.Topk
end
-- ==== Proof.Store.lean ====
/-
  The threshold's store, and what the words of the program that count rows and trips stand for.
-/
module

public import proofs.«01_k».proof.Proof.Dma

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}

/-! ## Rows and trips -/

/-- The first of a tile's 256 rows. -/
def rb (i : grid0.Coords) : ℕ := ((i 1).val * 2 + (i 0).val) * 256

theorem rb_le (i : grid0.Coords) : rb i + 256 ≤ 8192 := by
  have h0 : (i 0).val < 2 := (i 0).isLt
  have h1 : (i 1).val < 16 := (i 1).isLt
  unfold rb
  omega

/-- The first row, as the program computes it. -/
abbrev rbW (i : grid0.Coords) : BitVec 32 :=
  Scalar.muli (Scalar.addi (Scalar.muli (BitVec.ofNat 32 (i 1).val) 2#32) (BitVec.ofNat 32 (i 0).val)) 256#32

theorem rbW_toNat (i : grid0.Coords) : (rbW i).toNat = rb i := by
  have h0 : (i 0).val < 2 := (i 0).isLt
  have h1 : (i 1).val < 16 := (i 1).isLt
  show ((BitVec.ofNat 32 (i 1).val * 2#32 + BitVec.ofNat 32 (i 0).val) * 256#32).toNat = _
  simp only [BitVec.toNat_mul, BitVec.toNat_add, BitVec.toNat_ofNat, rb]
  omega

/-- The number of the trip, as the program computes it. -/
abbrev tripW {n : ℕ} (t : Fin n) : BitVec 32 := Scalar.addi 0#32 (Scalar.muli (Scf.iv 0#32 1#32 t.val) 1#32)

theorem tripW_eq {n : ℕ} (t : Fin n) : tripW t = BitVec.ofNat 32 t.val := by
  show 0#32 + (0#32 + BitVec.ofNat 32 t.val * 1#32) * 1#32 = _
  simp

theorem row_word (i : grid0.Coords) {t : ℕ} (ht : t < 128) (c : ℕ) (hc : c < 4) :
    (Scalar.addi (Scalar.addi (rbW i) (Scalar.muli 2#32 (BitVec.ofNat 32 t))) (BitVec.ofNat 32 c)).toNat = rb i + (2 * t + c) := by
  have hb := rbW_toNat i
  have hl := rb_le i
  show ((rbW i) + 2#32 * BitVec.ofNat 32 t + BitVec.ofNat 32 c).toNat = _
  simp only [BitVec.toNat_add, BitVec.toNat_mul, BitVec.toNat_ofNat, hb]
  omega

theorem off57_eq (i : grid0.Coords) (t : Fin k0_t2_loop.trips) : k0_off57 i t 0 = rb i + (2 * t.val + 2) := by
  have e : k0_off57 i t 0 = (Scalar.addi (Scalar.addi (rbW i) (Scalar.muli 2#32 (tripW t))) (BitVec.ofNat 32 2)).toNat := rfl
  rw [e, tripW_eq]
  exact row_word i t.isLt 2 (by omega)

theorem off111_eq (i : grid0.Coords) (t : Fin k0_t2_loop.trips) : k0_off111 i t 0 = rb i + (2 * t.val + 3) := by
  have e : k0_off111 i t 0 = (Scalar.addi (Scalar.addi (rbW i) (Scalar.muli 2#32 (tripW t))) (BitVec.ofNat 32 3)).toNat := rfl
  rw [e, tripW_eq]
  exact row_word i t.isLt 3 (by omega)

theorem off2_eq (i : grid0.Coords) : k0_off2 i 0 = rb i := rbW_toNat i

theorem off3_eq (i : grid0.Coords) : k0_off3 i 0 = rb i + 1 := by
  have e : k0_off3 i 0 = (rbW i + 1#32).toNat := rfl
  have hl := rb_le i
  rw [e, BitVec.toNat_add, rbW_toNat]
  show (rb i + 1) % 2 ^ 32 = _
  omega

theorem off112_eq (i : grid0.Coords) : k0_off112 i 0 = rb i := rbW_toNat i

theorem lt127 {t : ℕ} (ht : t < 128) : (BitVec.ofNat 32 t).slt 127#32 = decide (t < 127) := by
  have key : ∀ t : Fin 128, (BitVec.ofNat 32 t.val).slt 127#32 = decide (t.val < 127) := by decide
  exact key ⟨t, ht⟩

theorem more_iff {t : ℕ} (ht : t < 128) :
    Scalar.cmpi .ne (Scalar.extui (Scalar.cmpi .slt (BitVec.ofNat 32 t) 127#32)) 0#32 = 1#1 ↔ t < 127 := by
  have e : Scalar.cmpi .slt (BitVec.ofNat 32 t) 127#32 = BitVec.ofBool (decide (t < 127)) := congrArg BitVec.ofBool (lt127 ht)
  rw [e]
  by_cases h : t < 127
  · rw [decide_eq_true h]; exact ⟨fun _ => h, fun _ => rfl⟩
  · rw [decide_eq_false h]; exact ⟨fun hh => absurd hh (by decide), fun hh => absurd hh h⟩

theorem cond2_iff (t : Fin k0_t2_loop.trips) : k0_cond2 t = 1#1 ↔ t.val < 127 := by
  have e : k0_cond2 t = Scalar.cmpi .ne (Scalar.extui (Scalar.cmpi .slt (tripW t) 127#32)) 0#32 := rfl
  rw [e, tripW_eq]
  exact more_iff t.isLt

theorem cond4_iff (t : Fin k0_t2_loop.trips) : k0_cond4 t = 1#1 ↔ t.val < 127 := by
  have e : k0_cond4 t = Scalar.cmpi .ne (Scalar.extui (Scalar.cmpi .slt (tripW t) 127#32)) 0#32 := rfl
  rw [e, tripW_eq]
  exact more_iff t.isLt

/-! ## The thresholds -/

/-- The first `n` thresholds of the rows from `r` on. -/
def ThrAt (f : S8192x16384.Idx → BitVec 32) (r n : ℕ) (m : S256.Idx → BitVec 32) : Prop :=
  ∀ j < n, at1 m j = thrW (ata f (r + j))

theorem thr_write (f g : S256.Idx → BitVec 32) : (mThr.access (.whole S256)).write (Elt Bits) f g Finset.univ = g :=
  Memref.write_access_whole_univ (Elt Bits) cc0_scratch3 f g
theorem thr_get (f : S256.Idx → BitVec 32) : (mThr.access (.whole S256)).read (Elt Bits) f = f :=
  Memref.read_access_whole (Elt Bits) cc0_scratch3 f

theorem lane0 : (k0_pay305 : IVec S16 1) (ln 0 (by decide)) = 1 := rfl

theorem lane_pos {l : Fin 16} (h : (k0_pay305 : IVec S16 1) (Shape.ofLane (d := ![16]) l) = 1) : l = 0 := by
  have e : (k0_pay305 : IVec S16 1) (Shape.ofLane (d := ![16]) l) = BitVec.ofBool (BitVec.ofNat 32 l.val == 0#32) := by
    revert h
    fin_cases l <;> intro h <;> rfl
  have key : ∀ l : Fin 16, BitVec.ofBool (BitVec.ofNat 32 l.val == 0#32) = 1#1 → l = 0 := by decide
  exact key l (e.symm.trans h)

theorem thr_step {fa : S8192x16384.Idx → BitVec 32} {r n : ℕ} {f : S256.Idx → BitVec 32} {idx : IVec S16 32} {v : FVec Bits S16 .f32} (hn : n < 256)
    (hidx : ∀ x, (idx x).toNat = n) (hv : v (ln 0 (by decide)) = thrW (ata fa (r + n))) (hf : ThrAt fa r n f)
    (chk : ∀ a x, ((![idx] : Fin 1 → IVec S16 32) a x).toNat < S256.size a) :
    ThrAt fa r (n + 1) (storeIdx (F := Bits) (s := S256) (e := .f32) f ![idx] v k0_pay305 false chk) := by
  have hix : ∀ k : Fin 16, ((idxAt (s := S256) ![idx] chk (Shape.ofLane (d := ![16]) k)) 0).val = n := fun k => hidx _
  intro j hj
  by_cases h : j = n
  · subst h
    have key := storeIdx_hit (e := .f32) (s := S256) (d := ![16]) ![idx] v k0_pay305 false chk f (0 : Fin 16) lane0 fun k' hm _ => lane_pos hm
    exact ((at1_of_val (N := 256) _ _ (hix 0)).symm.trans key).trans hv
  · rw [← hf j (by omega), at1_lane (N := 256) _ (by omega), at1_lane (N := 256) _ (by omega)]
    refine storeIdx_miss (e := .f32) (s := S256) (d := ![16]) ![idx] v k0_pay305 false chk f _ fun k _ he => h ?_
    rw [← hix k, ← he]
    rfl

/-- The store of one row's threshold. -/
theorem tput {fa : S8192x16384.Idx → BitVec 32} {r n : ℕ} {idx : IVec S16 32} {v : FVec Bits S16 .f32} {mask : IVec S16 1}
    {chk : ∀ a x, ((![idx] : Fin 1 → IVec S16 32) a x).toNat < S256.size a} {hs} {k : PUnit → TP i α} (hn : n < 256) (hmask : mask = k0_pay305)
    (hidx : ∀ x, (idx x).toNat = n) (hv : v (ln 0 (by decide)) = thrW (ata fa (r + n)))
    (h : iprop(Ht d i (ThrAt fa r (n + 1)) ∗ Z) ⊢ tw d i (k ⟨⟩) Q) :
    iprop(Ht d i (ThrAt fa r n) ∗ Z) ⊢ tw d i (SparseCore.vectorStoreIdx mThr ![idx] v mask false chk hs >>= k) Q := by
  subst hmask
  refine Holds.storeIdx d i (base := mThr) (P := ThrAt fa r n) (P' := ThrAt fa r (n + 1)) (k := k) (fun f hf => ?_) h
  rw [thr_write, thr_get]
  exact thr_step hn hidx hv hf chk

/-- Where the thresholds of a trip's two rows go. -/
theorem pay149_toNat {t : ℕ} (ht : t < 128) (x : S16.Idx) :
    (k0_pay149 k0_pay298 (Scalar.muli 2#32 (BitVec.ofNat 32 t)) x).toNat = 2 * t := by
  show (0#32 + 2#32 * BitVec.ofNat 32 t).toNat = _
  simp only [BitVec.toNat_add, BitVec.toNat_mul, BitVec.toNat_ofNat]
  omega

theorem pay304_toNat {t : ℕ} (ht : t < 128) (x : S16.Idx) :
    (k0_pay304 (Scalar.addi (Scalar.muli 2#32 (BitVec.ofNat 32 t)) 1#32) x).toNat = 2 * t + 1 := by
  show (0#32 + (2#32 * BitVec.ofNat 32 t + 1#32)).toNat = _
  simp only [BitVec.toNat_add, BitVec.toNat_mul, BitVec.toNat_ofNat]
  omega

theorem chk_of_toNat {n : ℕ} (hn : n < 256) {idx : IVec S16 32} (hidx : ∀ x, (idx x).toNat = n) :
    ∀ a x, ((![idx] : Fin 1 → IVec S16 32) a x).toNat < S256.size a := by
  intro a x
  obtain rfl : a = 0 := Subsingleton.elim _ _
  show (idx x).toNat < 256
  rw [hidx]; exact hn

end Cert.Topk
end
-- ==== Proof.Win.lean ====
/-
  The parts of one trip that copy rows: the wait for the row in slot 0 and the pass over it; its threshold's store, the next copy to slot 0,
  the wait for the row in slot 1; the pass over that.
-/
module

public import proofs.«01_k».proof.Proof.Store

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}
variable {q : PosShare TreeShare} {f : S8192x16384.Idx → BitVec 32} {O : CellTallies nD τ sig (SparseCore.Cfg.HIx 1)}

theorem pass_start {P : (S16400.Idx → BitVec 32) → Prop} {A : sProp 𝕄} {w : ℕ → BitVec 32} {s : ℕ} {l h : BitVec 32} :
    iprop(Hr d i (Sl s) s w ∗ (A ∗ (Hh d i (HistAt w 0) ∗ (Hc d i P ∗ (Ho d i (fun _ => True) ∗ Z)))))
      ⊢ PassSt d i (Sl s) s w l h iprop(A ∗ (Ho d i (fun _ => True) ∗ Z)) 0 := by
  unfold PassSt
  iintro ⟨HR, HA, HH, HC, HO, HZ⟩
  isplitl [HR]
  · iexact HR
  isplitl [HH]
  · iexact HH
  isplitl [HC]
  · iapply (Hc_zero d i (w := w)) $$ HC
  isplitl [HA]
  · iexact HA
  isplitl [HO]
  · iexact HO
  · iexact HZ

/-- Three parts, the first two of the rest put together. -/
theorem pair_assoc2 {A B C D : sProp 𝕄} : iprop(A ∗ (B ∗ (C ∗ D))) ⊢ iprop(A ∗ ((B ∗ C) ∗ D)) := by
  iintro ⟨HA, HB, HC, HD⟩
  isplitl [HA]
  · iexact HA
  isplitl [HB HC]
  · isplitl [HB]
    · iexact HB
    · iexact HC
  · iexact HD

/-- What a copy's start needs, first. -/
theorem store_in {A B C D E : sProp 𝕄} : iprop(A ∗ (B ∗ (C ∗ (D ∗ E)))) ⊢ iprop(C ∗ (D ∗ (A ∗ (B ∗ E)))) := by
  iintro ⟨HA, HB, HC, HD, HE⟩
  isplitl [HC]
  · iexact HC
  isplitl [HD]
  · iexact HD
  isplitl [HA]
  · iexact HA
  isplitl [HB]
  · iexact HB
  · iexact HE

theorem pass_end {A : sProp 𝕄} {w : ℕ → BitVec 32} {s : ℕ} {l h : BitVec 32} :
    PassSt d i (Sl s) s w l h iprop(A ∗ (Ho d i (fun _ => True) ∗ Z)) 1024
      ⊢ ChSt d i (hc w 1024) iprop(Hr d i (Sl s) s w ∗ (Hc d i (CandAt w l h 1024) ∗ (A ∗ Z))) 0 := by
  unfold PassSt ChSt
  iintro ⟨HR, HH, HC, HA, HO, HZ⟩
  isplitl [HH]
  · iexact HH
  isplitl [HO]
  · iexact HO
  isplitl [HR]
  · iexact HR
  isplitl [HC]
  · iexact HC
  isplitl [HA]
  · iexact HA
  · iexact HZ

variable (harg2 : mA.IsWhole) (harg3 : mT.IsWhole)
  (harg4 : mRow.IsWhole) (harg5 : mHist.IsWhole) (harg6 : mCand.IsWhole) (harg7 : mThr.IsWhole) (harg8 : mOff.IsWhole)

theorem w1 {Q} {P : (S16400.Idx → BitVec 32) → Prop} {r : ℕ} (g : BitVec 32) (t : Fin k0_t2_loop.trips)
    (h : ChSt d i (hc (ata f r) 1024) iprop(Hr d i (Sl 0) 0 (ata f r) ∗ (Hc d i (CandAt (ata f r) (lo g) (hi g) 1024)
        ∗ (iprop(Sm d i q f cc0_scratch5.sem ∗ Ow d i O) ∗ Z))) 3
      ⊢ Q ⟨tripW t, Scalar.addi (rbW i) (Scalar.muli 2#32 (tripW t)), Scalar.muli 2#32 (tripW t), accV (ata f r) (lo g) (hi g) 1024, psum (hc (ata f r) 1024) 3 3⟩) :
    iprop(InFl d i q f 0 cc0_scratch5.sem r ∗ (Ow d i O ∗ (Hh d i (HistAt (ata f r) 0) ∗ (Hc d i P ∗ (Ho d i (fun _ => True) ∗ Z)))))
      ⊢ tw d i (k0_part1 i mA harg2 mT harg3 mRow harg4 mHist harg5 mCand harg6 mThr harg7 mOff harg8 cc0_scratch5 cc0_scratch6 cc0_scoped0 (rbW i) laneV k0_pay297 k0_pay298 k0_pay299 k0_pay300 0#32 1#32 t g) Q := by
  rw [k0_part1_eq_skeleton]; unfold k0_part1_skel
  refine twait d i (pair_assoc2.trans ((pass_start d i (l := lo g) (h := hi g)).trans ?_))
  refine tw_for d i (accV (ata f r) (lo g) (hi g)) (PassSt d i (Sl 0) 0 (ata f r) (lo g) (hi g) _) (accV_zero _ _ _)
    (fun t' => t3_body d i mA harg2 mT harg3 harg4 harg5 harg6 harg7 harg8 cc0_scratch5 cc0_scratch6 cc0_scoped0 (fun x hx => mem_Sl x hx) (rbW i) t g t') ?_
  refine (pass_end d i).trans ?_
  unfold ChSt
  iterate 3 refine hslice d i (by decide) rfl ?_
  exact tw_ret d i rfl h

theorem w24 {Q} {P : (S16400.Idx → BitVec 32) → Prop} {A : sProp 𝕄} {w : ℕ → BitVec 32} (g : BitVec 32)
    (h : ChSt d i (hc w 1024) iprop(Hr d i (Sl 1) 1 w ∗ (Hc d i (CandAt w (lo g) (hi g) 1024) ∗ (A ∗ Z))) 8
      ⊢ Q ⟨accV w (lo g) (hi g) 1024, psum (hc w 1024) 3 9⟩) :
    iprop(Hr d i (Sl 1) 1 w ∗ (A ∗ (Hh d i (HistAt w 0) ∗ (Hc d i P ∗ (Ho d i (fun _ => True) ∗ Z)))))
      ⊢ tw d i (k0_part24 i mA harg2 mT harg3 mRow harg4 mHist harg5 mCand harg6 mThr harg7 mOff harg8 cc0_scratch5 cc0_scratch6 cc0_scoped0 laneV k0_pay297 k0_pay298 k0_pay299 k0_pay300 (lo g) (Scalar.cmpi .slt g 63#32) (Scalar.shli (Scalar.addi g 1#32) 25#32)) Q := by
  rw [k0_part24_eq_skeleton]; unfold k0_part24_skel
  refine (pass_start d i (l := lo g) (h := hi g)).trans ?_
  refine tw_for d i (accV w (lo g) (hi g)) (PassSt d i (Sl 1) 1 w (lo g) (hi g) _) (accV_zero _ _ _)
    (fun t' => t55_body d i mA harg2 mT harg3 harg4 harg5 harg6 harg7 harg8 cc0_scratch5 cc0_scratch6 cc0_scoped0 (fun x hx => mem_Sl x hx) g t') ?_
  refine (pass_end d i).trans ?_
  unfold ChSt
  iterate 8 refine hslice d i (by decide) rfl ?_
  refine hload d i (by decide) rfl ?_
  exact tw_ret d i rfl h

section Store

/-- Slot `s` between two trips' uses of it: the next row on its way, or idle. -/
def Nxt (q : PosShare TreeShare) (f : S8192x16384.Idx → BitVec 32) (s : ℕ) (sem : DmaSem sig) (r : ℕ) (more : Prop) : sProp 𝕄 :=
  iprop((⌜more⌝ ∗ InFl d i q f s sem r) ∨ (⌜¬ more⌝ ∗ ((∃ w, Hr d i (Sl s) s w) ∗ Sm d i q f sem)))

variable {w : ℕ → BitVec 32} {v : BitVec 32} {lo hi k R : BitVec 32} {hw8 : k0_chk8 v}

theorem w23 {Q} {r0 r r1 : ℕ} {q1 : PosShare TreeShare} (t : Fin k0_t2_loop.trips) (hv : v.toNat ≤ 1024) (hN : ∀ l < 16, oc w lo hi 1024 l ≤ v.toNat) (x33 g x : BitVec 32)
    (hr : r = rb i + (2 * t.val + 2))
    (hthr : thrW (ata f (r0 + 2 * t.val)) = IntOp.maxsi (stp w lo hi k R 1#32) 1#32)
    (h : iprop(Hr d i (Sl 1) 1 (ata f r1) ∗ (iprop(Sm d i q1 f cc0_scratch6.sem ∗ Ow d i O) ∗ (Hc d i (CandAt w lo hi 1024) ∗ (Ht d i (ThrAt f r0 (2 * t.val + 1))
        ∗ (Nxt d i q f 0 cc0_scratch5.sem r (t.val < 127) ∗ Z)))))
      ⊢ Q ⟨Scalar.addi (Scalar.muli 2#32 (tripW t)) 1#32, Cert.Topk.lo g, Scalar.cmpi .slt g 63#32, Scalar.shli (Scalar.addi g 1#32) 25#32⟩) :
    iprop(Hc d i (CandAt w lo hi 1024) ∗ (Ht d i (ThrAt f r0 (2 * t.val)) ∗ (Hr d i (Sl 0) 0 w ∗ (Sm d i q f cc0_scratch5.sem
        ∗ (InFl d i q1 f 1 cc0_scratch6.sem r1 ∗ (Ow d i O ∗ Z))))))
      ⊢ tw d i (k0_part23 i mA harg2 mT harg3 mRow harg4 mHist harg5 mCand harg6 mThr harg7 mOff harg8 cc0_scratch5 cc0_scratch6 cc0_scoped0 laneV k0_pay298 t (tripW t) x33 (Scalar.muli 2#32 (tripW t)) g
        (ocV w lo hi) v hw8 (broadcast S16 k) (broadcast S16 R) (broadcast S16 (IntOp.ori R 1#32)) x 1#32 0#32) Q := by
  have ht : t.val < 128 := t.isLt
  rw [k0_part23_eq_skeleton]; unfold k0_part23_skel
  refine mainstep d i (T := IntOp.ori R 1#32) hv rfl hN rfl (fun _ _ => rfl) (fun _ => rfl) ?_
  refine remstep d i (v := v) rfl ?_
  have hidx : ∀ x, (k0_pay149 k0_pay298 (Scalar.muli 2#32 (tripW t)) x).toNat = 2 * t.val := by rw [tripW_eq]; exact pay149_toNat ht
  refine assume_step d i (chk_of_toNat (by omega) hidx) ?_
  refine swap1 (tput d i (r := r0) (by omega) rfl hidx ?_ ?_)
  · exact hthr.symm
  have cont : iprop(InFl d i q1 f 1 cc0_scratch6.sem r1 ∗ (Ow d i O ∗ (Hc d i (CandAt w lo hi 1024) ∗ (Ht d i (ThrAt f r0 (2 * t.val + 1))
        ∗ (Nxt d i q f 0 cc0_scratch5.sem r (t.val < 127) ∗ Z))))) ⊢ tw d i _ Q :=
    twait d i (src := rowM (k0_off58 i t) (k0_off58_inb i t)) (off := ![1, 0]) (inb := inb_S2x16384_S1x16384_1_0) (k := fun _ => _)
      (hsrc := (View.wordExact_bits rfl).reshape _ _) (hdst := (View.wordExact_bits rfl).reshape _ _) (pair_assoc2.trans (tw_ret d i rfl h))
  by_cases hm : t.val < 127
  · have hc : k0_cond2 t = 1#1 := (cond2_iff t).2 hm
    rw [dif_pos hc]
    refine store_in.trans (tissue d i rfl rfl ((off57_eq i t).trans hr.symm) rfl (BI.BIBase.Entails.trans ?_ cont))
    unfold Nxt
    iintro ⟨HF, HT, HC, H1, HO, HZ⟩
    isplitl [H1]
    · iexact H1
    isplitl [HO]
    · iexact HO
    isplitl [HC]
    · iexact HC
    isplitl [HT]
    · iexact HT
    isplitr [HZ]
    · ileft
      isplitr [HF]
      · ipureintro; exact hm
      · iexact HF
    · iexact HZ
  · have hc : ¬ k0_cond2 t = 1#1 := fun hc => hm ((cond2_iff t).1 hc)
    rw [dif_neg hc]
    refine BI.BIBase.Entails.trans ?_ cont
    unfold Nxt
    iintro ⟨HT, HC, HR, HS, H1, HO, HZ⟩
    isplitl [H1]
    · iexact H1
    isplitl [HO]
    · iexact HO
    isplitl [HC]
    · iexact HC
    isplitl [HT]
    · iexact HT
    isplitr [HZ]
    · iright
      isplitr [HR HS]
      · ipureintro; exact hm
      isplitl [HR]
      · iexists w
        iexact HR
      · iexact HS
    · iexact HZ

end Store

end Cert.Topk
end
-- ==== Proof.Trip.lean ====
/-
  One trip: the thresholds of two rows.
-/
module

public import proofs.«01_k».proof.Proof.Win

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}
variable {q q1 : PosShare TreeShare} {f : S8192x16384.Idx → BitVec 32} {O : CellTallies nD τ sig (SparseCore.Cfg.HIx 1)}

/-- The bin found in a row, and how many words of it are counted. -/
abbrev bw (w : ℕ → BitVec 32) : BitVec 32 := bst (hc w 1024)
abbrev kw (w : ℕ → BitVec 32) : BitVec 32 := IntOp.addi 0#32 (krem (hc w 1024))

/-- The search of a row, after `n` bits. -/
def rr (w : ℕ → BitVec 32) (n : ℕ) : BitVec 32 := rad w (lo (bw w)) (hi (bw w)) (kw w) (IntOp.addi 0#32 (Scalar.shli (bw w) 25#32)) n

theorem rr_succ (w : ℕ → BitVec 32) (n : ℕ) :
    rr w (n + 1) = stp w (lo (bw w)) (hi (bw w)) (kw w) (rr w n) (BitVec.ofNat 32 (2 ^ (24 - n))) := rfl

theorem thrW_eq (w : ℕ → BitVec 32) :
    thrW w = IntOp.maxsi (stp w (lo (bw w)) (hi (bw w)) (kw w) (rr w 24) 1#32) 1#32 := rfl

/-- The histogram, gone over, is the next row's at its start. -/
theorem hist_clear {H : ℕ → ℕ → ℕ} {w : ℕ → BitVec 32} : Hh d i (HG H 64) ⊢ Hh d i (HistAt w 0) := by
  unfold Hh
  iintro ⟨%f, %hf, H⟩
  iexists f
  isplitr [H]
  · ipureintro
    intro l hl b hb
    rw [hf l hl b hb, if_pos (by omega), if_neg (by omega), hc_eq, Nat.count_zero]
    rfl
  · iexact H

/-- After the scan: the row and the words kept, first. -/
theorem mid1 {A C O R X Z : sProp 𝕄} : iprop(A ∗ (O ∗ (R ∗ (C ∗ (X ∗ Z))))) ⊢ iprop(R ∗ (C ∗ (O ∗ (A ∗ (X ∗ Z))))) := by
  iintro ⟨HA, HO, HR, HC, HX, HZ⟩
  isplitl [HR]
  · iexact HR
  isplitl [HC]
  · iexact HC
  isplitl [HO]
  · iexact HO
  isplitl [HA]
  · iexact HA
  isplitl [HX]
  · iexact HX
  · iexact HZ

/-- Before the threshold's store. -/
theorem mid2 {A C F O R S T W : sProp 𝕄} : iprop(C ∗ (R ∗ (O ∗ (A ∗ ((S ∗ W) ∗ (T ∗ F)))))) ⊢ iprop(C ∗ (T ∗ (R ∗ (S ∗ (F ∗ (W ∗ (O ∗ A))))))) := by
  iintro ⟨HC, HR, HO, HA, ⟨HS, HW⟩, HT, HF⟩
  isplitl [HC]
  · iexact HC
  isplitl [HT]
  · iexact HT
  isplitl [HR]
  · iexact HR
  isplitl [HS]
  · iexact HS
  isplitl [HF]
  · iexact HF
  isplitl [HW]
  · iexact HW
  isplitl [HO]
  · iexact HO
  · iexact HA

/-- Before the pass over slot 1. -/
theorem mid3 {A B C N O R S T W : sProp 𝕄} (hA : A ⊢ B) : iprop(R ∗ ((S ∗ W) ∗ (C ∗ (T ∗ (N ∗ (O ∗ A)))))) ⊢ iprop(R ∗ ((S ∗ W) ∗ (B ∗ (C ∗ (O ∗ (T ∗ N)))))) := by
  iintro ⟨HR, ⟨HS, HW⟩, HC, HT, HN, HO, HA⟩
  isplitl [HR]
  · iexact HR
  isplitl [HS HW]
  · isplitl [HS]
    · iexact HS
    · iexact HW
  isplitl [HA]
  · iapply hA $$ HA
  isplitl [HC]
  · iexact HC
  isplitl [HO]
  · iexact HO
  isplitl [HT]
  · iexact HT
  · iexact HN

variable (harg2 : mA.IsWhole) (harg3 : mT.IsWhole)
  (harg4 : mRow.IsWhole) (harg5 : mHist.IsWhole) (harg6 : mCand.IsWhole) (harg7 : mThr.IsWhole) (harg8 : mOff.IsWhole)

set_option maxHeartbeats 4000000 in
theorem part45 {Q} {P : (S16400.Idx → BitVec 32) → Prop} {r r1 : ℕ} (g : BitVec 32) (t : Fin k0_t2_loop.trips) (hr : r = rb i + 2 * t.val)
    (h : ∀ v hw17, v.toNat ≤ 1024 → (∀ l < 16, oc (ata f r1) (lo (bw (ata f r1))) (hi (bw (ata f r1))) 1024 l ≤ v.toNat) →
      iprop(Hc d i (CandAt (ata f r1) (lo (bw (ata f r1))) (hi (bw (ata f r1))) 1024) ∗ (Hr d i (Sl 1) 1 (ata f r1) ∗ (Ho d i (fun _ => True)
        ∗ (Hh d i (HG (hc (ata f r1) 1024) 64) ∗ ((Sm d i q1 f cc0_scratch6.sem ∗ Ow d i O) ∗ (Ht d i (ThrAt f (rb i) (2 * t.val + 1))
        ∗ Nxt d i q f 0 cc0_scratch5.sem (rb i + (2 * t.val + 2)) (t.val < 127)))))))
      ⊢ Q ⟨tripW t, Scalar.addi (rbW i) (Scalar.muli 2#32 (tripW t)), Scalar.addi (Scalar.muli 2#32 (tripW t)) 1#32, bw (ata f r1),
        ocV (ata f r1) (lo (bw (ata f r1))) (hi (bw (ata f r1))), v, hw17, broadcast S16 (kw (ata f r1)),
        broadcast S16 (rr (ata f r1) 24), broadcast S16 (IntOp.ori (rr (ata f r1) 24) 1#32)⟩) :
    iprop(InFl d i q f 0 cc0_scratch5.sem r ∗ (Ow d i O ∗ (Hh d i (HistAt (ata f r) 0) ∗ (Hc d i P ∗ (Ho d i (fun _ => True)
        ∗ (Ht d i (ThrAt f (rb i) (2 * t.val)) ∗ InFl d i q1 f 1 cc0_scratch6.sem r1))))))
      ⊢ tw d i (k0_part45 i mA harg2 mT harg3 mRow harg4 mHist harg5 mCand harg6 mThr harg7 mOff harg8 cc0_scratch5 cc0_scratch6 cc0_scoped0 (rbW i) laneV k0_pay297 k0_pay298 k0_pay299 k0_pay300 0#32 1#32 t g) Q := by
  have hthr0 : thrW (ata f (rb i + 2 * t.val)) = IntOp.maxsi (stp (ata f r) (lo (bw (ata f r))) (hi (bw (ata f r))) (kw (ata f r)) (rr (ata f r) 24) 1#32) 1#32 := by
    rw [← hr]; exact thrW_eq _
  rw [k0_part45_eq_skeleton]; unfold k0_part45_skel
  refine tw_bind d i (w1 d i harg2 harg3 harg4 harg5 harg6 harg7 harg8 g t ?_)
  refine tw_bind d i (w2 d i mA harg2 mT harg3 harg4 harg5 harg6 harg7 harg8 cc0_scratch5 cc0_scratch6 cc0_scoped0 ?_)
  refine tw_bind d i (w3 d i mA harg2 mT harg3 harg4 harg5 harg6 harg7 harg8 cc0_scratch5 cc0_scratch6 cc0_scoped0 ?_)
  refine tw_bind d i (w4 d i mA harg2 mT harg3 harg4 harg5 harg6 harg7 harg8 cc0_scratch5 cc0_scratch6 cc0_scoped0 ?_)
  refine tw_bind d i (w5 d i mA harg2 mT harg3 harg4 harg5 harg6 harg7 harg8 cc0_scratch5 cc0_scratch6 cc0_scoped0 ?_)
  refine tw_bind d i (w6 d i (cs1 (hc (ata f r) 1024)) mA harg2 mT harg3 harg4 harg5 harg6 harg7 harg8 cc0_scratch5 cc0_scratch6 cc0_scoped0 ?_)
  refine tw_bind d i (w7 d i mA harg2 mT harg3 harg4 harg5 harg6 harg7 harg8 cc0_scratch5 cc0_scratch6 cc0_scoped0 ?_)
  refine tw_bind d i (w8 d i (cs2 (hc (ata f r) 1024)) mA harg2 mT harg3 harg4 harg5 harg6 harg7 harg8 cc0_scratch5 cc0_scratch6 cc0_scoped0 ?_)
  refine tw_bind d i (w9 d i (cs2 (hc (ata f r) 1024)) mA harg2 mT harg3 harg4 harg5 harg6 harg7 harg8 cc0_scratch5 cc0_scratch6 cc0_scoped0 ?_)
  refine tw_bind d i (w10 d i mA harg2 mT harg3 harg4 harg5 harg6 harg7 harg8 cc0_scratch5 cc0_scratch6 cc0_scoped0 ?_)
  refine tw_bind d i (w11 d i (cs3 (hc (ata f r) 1024)) mA harg2 mT harg3 harg4 harg5 harg6 harg7 harg8 cc0_scratch5 cc0_scratch6 cc0_scoped0 g rfl ?_)
  refine mid1.trans (tw_bind d i (w12 d i mA harg2 mT harg3 harg4 harg5 harg6 harg7 harg8 cc0_scratch5 cc0_scratch6 cc0_scoped0 (fun x hx => mem_Sl x hx) g (bw (ata f r)) (rr (ata f r) 1) rfl (rr_succ _ 0) fun v hw8 x hv hN => ?_))
  refine tw_bind d i (w13 d i (R := rr (ata f r) 1) (R1 := rr (ata f r) 2) (R2 := rr (ata f r) 3) mA harg2 mT harg3 harg4 harg5 harg6 harg7 harg8 cc0_scratch5 cc0_scratch6 cc0_scoped0 hw8 hv hN (rr_succ (ata f r) 1) (rr_succ (ata f r) 2) _ fun _ => ?_)
  refine tw_bind d i (w14 d i (R := rr (ata f r) 3) (R1 := rr (ata f r) 4) (R2 := rr (ata f r) 5) (R3 := rr (ata f r) 6) mA harg2 mT harg3 harg4 harg5 harg6 harg7 harg8 cc0_scratch5 cc0_scratch6 cc0_scoped0 hw8 hv hN (rr_succ (ata f r) 3) (rr_succ (ata f r) 4) (rr_succ (ata f r) 5) _ ?_)
  refine tw_bind d i (w15 d i (R := rr (ata f r) 6) (R1 := rr (ata f r) 7) (R2 := rr (ata f r) 8) mA harg2 mT harg3 harg4 harg5 harg6 harg7 harg8 cc0_scratch5 cc0_scratch6 cc0_scoped0 hw8 hv hN (rr_succ (ata f r) 6) (rr_succ (ata f r) 7) fun _ => ?_)
  refine tw_bind d i (w16 d i (R := rr (ata f r) 8) (R1 := rr (ata f r) 9) (R2 := rr (ata f r) 10) mA harg2 mT harg3 harg4 harg5 harg6 harg7 harg8 cc0_scratch5 cc0_scratch6 cc0_scoped0 hw8 hv hN (rr_succ (ata f r) 8) (rr_succ (ata f r) 9) _ fun _ => ?_)
  refine tw_bind d i (w17 d i (R := rr (ata f r) 10) (R1 := rr (ata f r) 11) (R2 := rr (ata f r) 12) mA harg2 mT harg3 harg4 harg5 harg6 harg7 harg8 cc0_scratch5 cc0_scratch6 cc0_scoped0 hw8 hv hN (rr_succ (ata f r) 10) (rr_succ (ata f r) 11) _ ?_)
  refine tw_bind d i (w18 d i (R := rr (ata f r) 12) (R1 := rr (ata f r) 13) (R2 := rr (ata f r) 14) (R3 := rr (ata f r) 15) mA harg2 mT harg3 harg4 harg5 harg6 harg7 harg8 cc0_scratch5 cc0_scratch6 cc0_scoped0 hw8 hv hN (rr_succ (ata f r) 12) (rr_succ (ata f r) 13) (rr_succ (ata f r) 14) fun _ => ?_)
  refine tw_bind d i (w19 d i (R := rr (ata f r) 15) (R1 := rr (ata f r) 16) (R2 := rr (ata f r) 17) mA harg2 mT harg3 harg4 harg5 harg6 harg7 harg8 cc0_scratch5 cc0_scratch6 cc0_scoped0 hw8 hv hN (rr_succ (ata f r) 15) (rr_succ (ata f r) 16) _ fun _ => ?_)
  refine tw_bind d i (w20 d i (R := rr (ata f r) 17) (R1 := rr (ata f r) 18) (R2 := rr (ata f r) 19) mA harg2 mT harg3 harg4 harg5 harg6 harg7 harg8 cc0_scratch5 cc0_scratch6 cc0_scoped0 hw8 hv hN (rr_succ (ata f r) 17) (rr_succ (ata f r) 18) _ fun _ => ?_)
  refine tw_bind d i (w21 d i (R := rr (ata f r) 19) (R1 := rr (ata f r) 20) (R2 := rr (ata f r) 21) (R3 := rr (ata f r) 22) mA harg2 mT harg3 harg4 harg5 harg6 harg7 harg8 cc0_scratch5 cc0_scratch6 cc0_scoped0 hw8 hv hN (rr_succ (ata f r) 19) (rr_succ (ata f r) 20) (rr_succ (ata f r) 21) _ fun _ => ?_)
  refine tw_bind d i (w22 d i (R := rr (ata f r) 22) (R1 := rr (ata f r) 23) (R2 := rr (ata f r) 24) mA harg2 mT harg3 harg4 harg5 harg6 harg7 harg8 cc0_scratch5 cc0_scratch6 cc0_scoped0 hw8 hv hN (rr_succ (ata f r) 22) (rr_succ (ata f r) 23) _ fun _ => ?_)
  refine mid2.trans (tw_bind d i (w23 d i (r0 := rb i) (r1 := r1) (R := rr (ata f r) 24) harg2 harg3 harg4 harg5 harg6 harg7 harg8 t hv hN _ (bw (ata f r)) _ rfl hthr0 ?_))
  refine (mid3 (hist_clear d i)).trans (tw_bind d i (w24 d i harg2 harg3 harg4 harg5 harg6 harg7 harg8 (w := ata f r1) (bw (ata f r)) ?_))
  refine tw_bind d i (w25 d i mA harg2 mT harg3 harg4 harg5 harg6 harg7 harg8 cc0_scratch5 cc0_scratch6 cc0_scoped0 ?_)
  refine tw_bind d i (w26 d i mA harg2 mT harg3 harg4 harg5 harg6 harg7 harg8 cc0_scratch5 cc0_scratch6 cc0_scoped0 ?_)
  refine tw_bind d i (w27 d i mA harg2 mT harg3 harg4 harg5 harg6 harg7 harg8 cc0_scratch5 cc0_scratch6 cc0_scoped0 ?_)
  refine tw_bind d i (w28 d i (cs1 (hc (ata f r1) 1024)) mA harg2 mT harg3 harg4 harg5 harg6 harg7 harg8 cc0_scratch5 cc0_scratch6 cc0_scoped0 ?_)
  refine tw_bind d i (w29 d i (cs1 (hc (ata f r1) 1024)) mA harg2 mT harg3 harg4 harg5 harg6 harg7 harg8 cc0_scratch5 cc0_scratch6 cc0_scoped0 ?_)
  refine tw_bind d i (w30 d i mA harg2 mT harg3 harg4 harg5 harg6 harg7 harg8 cc0_scratch5 cc0_scratch6 cc0_scoped0 ?_)
  refine tw_bind d i (w31 d i (cs2 (hc (ata f r1) 1024)) mA harg2 mT harg3 harg4 harg5 harg6 harg7 harg8 cc0_scratch5 cc0_scratch6 cc0_scoped0 ?_)
  refine tw_bind d i (w32 d i mA harg2 mT harg3 harg4 harg5 harg6 harg7 harg8 cc0_scratch5 cc0_scratch6 cc0_scoped0 ?_)
  refine tw_bind d i (w33 d i (cs3 (hc (ata f r1) 1024)) mA harg2 mT harg3 harg4 harg5 harg6 harg7 harg8 cc0_scratch5 cc0_scratch6 cc0_scoped0 ?_)
  refine mid1.trans (tw_bind d i (w34 d i mA harg2 mT harg3 harg4 harg5 harg6 harg7 harg8 cc0_scratch5 cc0_scratch6 cc0_scoped0 (fun x hx => mem_Sl x hx) (bw (ata f r)) (bw (ata f r1)) rfl rfl fun v1 hw17 x hv1 hN1 => ?_))
  refine tw_bind d i (w35 d i (R := rr (ata f r1) 0) (R1 := rr (ata f r1) 1) (R2 := rr (ata f r1) 2) mA harg2 mT harg3 harg4 harg5 harg6 harg7 harg8 cc0_scratch5 cc0_scratch6 cc0_scoped0 hw17 hv1 hN1 (rr_succ (ata f r1) 0) (rr_succ (ata f r1) 1) _ fun _ => ?_)
  refine tw_bind d i (w36 d i (R := rr (ata f r1) 2) (R1 := rr (ata f r1) 3) (R2 := rr (ata f r1) 4) (R3 := rr (ata f r1) 5) mA harg2 mT harg3 harg4 harg5 harg6 harg7 harg8 cc0_scratch5 cc0_scratch6 cc0_scoped0 hw17 hv1 hN1 (rr_succ (ata f r1) 2) (rr_succ (ata f r1) 3) (rr_succ (ata f r1) 4) _ ?_)
  refine tw_bind d i (w37 d i (R := rr (ata f r1) 5) (R1 := rr (ata f r1) 6) (R2 := rr (ata f r1) 7) mA harg2 mT harg3 harg4 harg5 harg6 harg7 harg8 cc0_scratch5 cc0_scratch6 cc0_scoped0 hw17 hv1 hN1 (rr_succ (ata f r1) 5) (rr_succ (ata f r1) 6) fun _ => ?_)
  refine tw_bind d i (w38 d i (R := rr (ata f r1) 7) (R1 := rr (ata f r1) 8) (R2 := rr (ata f r1) 9) mA harg2 mT harg3 harg4 harg5 harg6 harg7 harg8 cc0_scratch5 cc0_scratch6 cc0_scoped0 hw17 hv1 hN1 (rr_succ (ata f r1) 7) (rr_succ (ata f r1) 8) _ fun _ => ?_)
  refine tw_bind d i (w39 d i (R := rr (ata f r1) 9) (R1 := rr (ata f r1) 10) (R2 := rr (ata f r1) 11) mA harg2 mT harg3 harg4 harg5 harg6 harg7 harg8 cc0_scratch5 cc0_scratch6 cc0_scoped0 hw17 hv1 hN1 (rr_succ (ata f r1) 9) (rr_succ (ata f r1) 10) _ ?_)
  refine tw_bind d i (w40 d i (R := rr (ata f r1) 11) (R1 := rr (ata f r1) 12) (R2 := rr (ata f r1) 13) (R3 := rr (ata f r1) 14) mA harg2 mT harg3 harg4 harg5 harg6 harg7 harg8 cc0_scratch5 cc0_scratch6 cc0_scoped0 hw17 hv1 hN1 (rr_succ (ata f r1) 11) (rr_succ (ata f r1) 12) (rr_succ (ata f r1) 13) fun _ => ?_)
  refine tw_bind d i (w41 d i (R := rr (ata f r1) 14) (R1 := rr (ata f r1) 15) (R2 := rr (ata f r1) 16) mA harg2 mT harg3 harg4 harg5 harg6 harg7 harg8 cc0_scratch5 cc0_scratch6 cc0_scoped0 hw17 hv1 hN1 (rr_succ (ata f r1) 14) (rr_succ (ata f r1) 15) _ fun _ => ?_)
  refine tw_bind d i (w42 d i (R := rr (ata f r1) 16) (R1 := rr (ata f r1) 17) (R2 := rr (ata f r1) 18) mA harg2 mT harg3 harg4 harg5 harg6 harg7 harg8 cc0_scratch5 cc0_scratch6 cc0_scoped0 hw17 hv1 hN1 (rr_succ (ata f r1) 16) (rr_succ (ata f r1) 17) _ fun _ => ?_)
  refine tw_bind d i (w43 d i (R := rr (ata f r1) 18) (R1 := rr (ata f r1) 19) (R2 := rr (ata f r1) 20) (R3 := rr (ata f r1) 21) mA harg2 mT harg3 harg4 harg5 harg6 harg7 harg8 cc0_scratch5 cc0_scratch6 cc0_scoped0 hw17 hv1 hN1 (rr_succ (ata f r1) 18) (rr_succ (ata f r1) 19) (rr_succ (ata f r1) 20) _ fun _ => ?_)
  refine tw_bind d i (w44 d i (R := rr (ata f r1) 21) (R1 := rr (ata f r1) 22) (R2 := rr (ata f r1) 23) mA harg2 mT harg3 harg4 harg5 harg6 harg7 harg8 cc0_scratch5 cc0_scratch6 cc0_scoped0 hw17 hv1 hN1 (rr_succ (ata f r1) 21) (rr_succ (ata f r1) 22) _ fun _ => ?_)
  refine mainstep d i (T := IntOp.ori (rr (ata f r1) 23) 2#32) hv1 rfl hN1 rfl (fun _ _ => rfl) (fun _ => rfl) ?_
  refine remstep d i (v := v1) rfl ?_
  exact tw_ret d i rfl (h v1 hw17 hv1 hN1)

end Cert.Topk
end
-- ==== Proof.Body.lean ====
/-
  The whole body of a tile: the histogram zeroed, the first two copies, the 128 trips, the thresholds copied out.
-/
module

public import proofs.«01_k».proof.Proof.Trip

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}
variable {q q1 : PosShare TreeShare} {f : S8192x16384.Idx → BitVec 32} {O : CellTallies nD τ sig (SparseCore.Cfg.HIx 1)}

/-- Before the store of slot 1's threshold. -/
theorem trip_in {A C N O R S T W : sProp 𝕄} : iprop(C ∗ (R ∗ (O ∗ (A ∗ ((S ∗ W) ∗ (T ∗ N)))))) ⊢ iprop(T ∗ (R ∗ (S ∗ (C ∗ (O ∗ (A ∗ (W ∗ N))))))) := by
  iintro ⟨HC, HR, HO, HA, ⟨HS, HW⟩, HT, HN⟩
  isplitl [HT]
  · iexact HT
  isplitl [HR]
  · iexact HR
  isplitl [HS]
  · iexact HS
  isplitl [HC]
  · iexact HC
  isplitl [HO]
  · iexact HO
  isplitl [HA]
  · iexact HA
  isplitl [HW]
  · iexact HW
  · iexact HN

/-- After it, the buffers in the order of the loop's invariant. -/
theorem trip_end {A C M N O T W : sProp 𝕄} : iprop(M ∗ (N ∗ (C ∗ (O ∗ (A ∗ (T ∗ W)))))) ⊢ iprop(N ∗ (M ∗ (W ∗ (A ∗ (C ∗ (O ∗ T)))))) := by
  iintro ⟨HM, HN, HC, HO, HA, HT, HW⟩
  isplitl [HN]
  · iexact HN
  isplitl [HM]
  · iexact HM
  isplitl [HW]
  · iexact HW
  isplitl [HA]
  · iexact HA
  isplitl [HC]
  · iexact HC
  isplitl [HO]
  · iexact HO
  · iexact HT

/-- Before the copies' start: the zeroed histogram last. -/
theorem copy_in {A R S Z : sProp 𝕄} : iprop(A ∗ (R ∗ (S ∗ Z))) ⊢ iprop(R ∗ (S ∗ (A ∗ Z))) := by
  iintro ⟨HA, HR, HS, HZ⟩
  isplitl [HR]
  · iexact HR
  isplitl [HS]
  · iexact HS
  isplitl [HA]
  · iexact HA
  · iexact HZ

/-- After the first copy's start. -/
theorem copy_in1 {A I R S Z : sProp 𝕄} : iprop(I ∗ (A ∗ (R ∗ (S ∗ Z)))) ⊢ iprop(R ∗ (S ∗ (I ∗ (A ∗ Z)))) := by
  iintro ⟨HI, HA, HR, HS, HZ⟩
  isplitl [HR]
  · iexact HR
  isplitl [HS]
  · iexact HS
  isplitl [HI]
  · iexact HI
  isplitl [HA]
  · iexact HA
  · iexact HZ

/-- Before the trips. -/
theorem loop_in {A C M N O T W Z : sProp 𝕄} : iprop(M ∗ (N ∗ (A ∗ (C ∗ (O ∗ (T ∗ (W ∗ Z))))))) ⊢ iprop((N ∗ (M ∗ (W ∗ (A ∗ (C ∗ (O ∗ T)))))) ∗ Z) := by
  iintro ⟨HM, HN, HA, HC, HO, HT, HW, HZ⟩
  isplitl [HN HM HW HA HC HO HT]
  · isplitl [HN]
    · iexact HN
    isplitl [HM]
    · iexact HM
    isplitl [HW]
    · iexact HW
    isplitl [HA]
    · iexact HA
    isplitl [HC]
    · iexact HC
    isplitl [HO]
    · iexact HO
    · iexact HT
  · iexact HZ

/-- The bin guessed at trip `n`: the one found in the row before. -/
def gs (f : S8192x16384.Idx → BitVec 32) (r : ℕ) : ℕ → BitVec 32
  | 0 => 32#32
  | n + 1 => bw (ata f (r + 2 * n + 1))

/-- A histogram of zeros. -/
def HistZ (g : S2080.Idx → BitVec 32) : Prop := ∀ w : ℕ → BitVec 32, HistAt w 0 g

/-- What is held before trip `n`. -/
def TSt (q q1 : PosShare TreeShare) (f : S8192x16384.Idx → BitVec 32) (O : CellTallies nD τ sig (SparseCore.Cfg.HIx 1)) (n : ℕ) : sProp 𝕄 :=
  iprop(Nxt d i q f 0 cc0_scratch5.sem (rb i + 2 * n) (n < 128) ∗ (Nxt d i q1 f 1 cc0_scratch6.sem (rb i + 2 * n + 1) (n < 128)
    ∗ (Ow d i O ∗ (Hh d i HistZ ∗ (Hc d i (fun _ => True) ∗ (Ho d i (fun _ => True) ∗ Ht d i (ThrAt f (rb i) (2 * n))))))))

theorem Nxt_pos {s r : ℕ} {sem : DmaSem sig} {more : Prop} (h : more) : Nxt d i q f s sem r more ⊢ InFl d i q f s sem r := by
  unfold Nxt
  iintro (⟨-, H⟩ | ⟨%hn, -⟩)
  · iexact H
  · exact absurd h hn

theorem Nxt_neg {s r : ℕ} {sem : DmaSem sig} {more : Prop} (h : ¬ more) :
    Nxt d i q f s sem r more ⊢ iprop((∃ w, Hr d i (Sl s) s w) ∗ Sm d i q f sem) := by
  unfold Nxt
  iintro (⟨%hn, -⟩ | ⟨-, H⟩)
  · exact absurd hn h
  · iexact H

theorem Hh_mono {P P' : (S2080.Idx → BitVec 32) → Prop} (h : ∀ g, P g → P' g) : Hh d i P ⊢ Hh d i P' := Holds.mono d i (b := cc0_scratch1) h
theorem Ht_mono {P P' : (S256.Idx → BitVec 32) → Prop} (h : ∀ g, P g → P' g) : Ht d i P ⊢ Ht d i P' := Holds.mono d i (b := cc0_scratch3) h
theorem Hc_any {P : (S16400.Idx → BitVec 32) → Prop} : Hc d i P ⊢ Hc d i (fun _ => True) := Holds.mono d i (b := cc0_scratch2) fun _ _ => trivial

theorem clear_z {H : ℕ → ℕ → ℕ} {g : S2080.Idx → BitVec 32} (hg : HG H 64 g) : HistZ g := by
  intro w l hl b hb
  rw [hg l hl b hb, if_pos (by omega), if_neg (by omega), hc_eq, Nat.count_zero]
  rfl

theorem trip_start {n : ℕ} (hn : n < 128) : TSt d i q q1 f O n
    ⊢ iprop(InFl d i q f 0 cc0_scratch5.sem (rb i + 2 * n) ∗ (Ow d i O ∗ (Hh d i (HistAt (ata f (rb i + 2 * n)) 0) ∗ (Hc d i (fun _ => True)
        ∗ (Ho d i (fun _ => True) ∗ (Ht d i (ThrAt f (rb i) (2 * n)) ∗ InFl d i q1 f 1 cc0_scratch6.sem (rb i + 2 * n + 1))))))) := by
  unfold TSt
  iintro ⟨H0, H1, HW, HH, HC, HO, HT⟩
  isplitl [H0]
  · iapply (Nxt_pos d i hn) $$ H0
  isplitl [HW]
  · iexact HW
  isplitl [HH]
  · iapply (Hh_mono d i fun _ h => h _) $$ HH
  isplitl [HC]
  · iexact HC
  isplitl [HO]
  · iexact HO
  isplitl [HT]
  · iexact HT
  · iapply (Nxt_pos d i hn) $$ H1

theorem trip_stop {n r : ℕ} {P : (S16400.Idx → BitVec 32) → Prop} {H : ℕ → ℕ → ℕ} (hr : r = rb i + 2 * (n + 1) + 1) :
    iprop(Nxt d i q f 0 cc0_scratch5.sem (rb i + (2 * n + 2)) (n < 127) ∗ (Nxt d i q1 f 1 cc0_scratch6.sem r (n < 127) ∗ (Ow d i O ∗ (Hh d i (HG H 64)
      ∗ (Hc d i P ∗ (Ho d i (fun _ => True) ∗ Ht d i (ThrAt f (rb i) (2 * n + 1 + 1))))))))
    ⊢ TSt d i q q1 f O (n + 1) := by
  subst hr
  unfold TSt
  have e : (n + 1 < 128) = (n < 127) := propext ⟨fun h => by omega, fun h => by omega⟩
  rw [e, show 2 * (n + 1) = 2 * n + 2 by omega, show rb i + (2 * n + 2) + 1 = rb i + (2 * n + 2) + 1 from rfl]
  iintro ⟨H0, H1, HW, HH, HC, HO, HT⟩
  isplitl [H0]
  · iexact H0
  isplitl [H1]
  · iexact H1
  isplitl [HW]
  · iexact HW
  isplitl [HH]
  · iapply (Hh_mono d i fun _ h => clear_z h) $$ HH
  isplitl [HC]
  · iapply (Hc_any d i) $$ HC
  isplitl [HO]
  · iexact HO
  · iexact HT

variable (harg2 : mA.IsWhole) (harg3 : mT.IsWhole)
  (harg4 : mRow.IsWhole) (harg5 : mHist.IsWhole) (harg6 : mCand.IsWhole) (harg7 : mThr.IsWhole) (harg8 : mOff.IsWhole)

/-- Before the next copy to slot 1. -/
theorem store_in1 {R S T X : sProp 𝕄} : iprop(T ∗ (R ∗ (S ∗ X))) ⊢ iprop(R ∗ (S ∗ (T ∗ X))) := by
  iintro ⟨HT, HR, HS, HX⟩
  isplitl [HR]
  · iexact HR
  isplitl [HS]
  · iexact HS
  isplitl [HT]
  · iexact HT
  · iexact HX

/-- A loop's trip beside what it does not use. -/
theorem trip_keep {β : Type} {A B : sProp 𝕄} {p : TP i β} {b : β} (h : A ⊢ tw d i p (fun r => iprop(⌜r = b⌝ ∗ B))) :
    iprop(A ∗ Z) ⊢ tw d i p (fun r => iprop(⌜r = b⌝ ∗ (B ∗ Z))) := by
  refine (sep_mono_left h).trans ((wp_frame_r _ _ _).trans (wp_mono _ _ _ ?_))
  intro r
  iintro ⟨⟨%e, HB⟩, HZ⟩
  isplitr [HB HZ]
  · ipureintro; exact e
  isplitl [HB]
  · iexact HB
  · iexact HZ

/-- One trip. -/
theorem trip (t : Fin k0_t2_loop.trips) : TSt d i q q1 f O t.val
    ⊢ tw d i (k0_t2_body i mA harg2 mT harg3 mRow harg4 mHist harg5 mCand harg6 mThr harg7 mOff harg8 cc0_scratch5 cc0_scratch6 cc0_scoped0 (rbW i) laneV t (gs f (rb i) t.val)) (fun r => iprop(⌜r = gs f (rb i) (t.val + 1)⌝ ∗ TSt d i q q1 f O (t.val + 1))) := by
  have ht : t.val < 128 := t.isLt
  unfold k0_t2_body
  refine (trip_start d i ht).trans (tw_bind d i (part45 d i harg2 harg3 harg4 harg5 harg6 harg7 harg8 (gs f (rb i) t.val) t rfl fun v hw17 hv hN => ?_))
  refine mainstep d i (T := IntOp.ori (rr (ata f (rb i + 2 * t.val + 1)) 24) 1#32) hv rfl hN rfl (fun _ _ => rfl) (fun _ => rfl) ?_
  refine remstep d i (v := v) rfl ?_
  have hidx : ∀ x, (k0_pay304 (Scalar.addi (Scalar.muli 2#32 (tripW t)) 1#32) x).toNat = 2 * t.val + 1 := by rw [tripW_eq]; exact pay304_toNat ht
  refine assume_step d i (chk_of_toNat (by omega) hidx) ?_
  refine trip_in.trans (tput d i (r := rb i) (by omega) rfl hidx (thrW_eq (ata f (rb i + 2 * t.val + 1))).symm ?_)
  by_cases hm : t.val < 127
  · have hc : k0_cond4 t = 1#1 := (cond4_iff t).2 hm
    rw [dif_pos hc]
    refine store_in1.trans (tissue d i (r := rb i + (2 * t.val + 3)) rfl rfl (off111_eq i t) rfl (tw_ret_eq d i rfl (BI.BIBase.Entails.trans ?_ (trip_stop d i (n := t.val) (r := rb i + (2 * t.val + 3)) (H := Topk.hc (ata f (rb i + 2 * t.val + 1)) 1024)
      (P := CandAt (ata f (rb i + 2 * t.val + 1)) (lo (bw (ata f (rb i + 2 * t.val + 1)))) (hi (bw (ata f (rb i + 2 * t.val + 1)))) 1024) (by omega)))))
    refine BI.BIBase.Entails.trans ?_ trip_end
    iintro ⟨HI, HT, HX⟩
    isplitl [HI]
    · unfold Nxt
      ileft
      isplitr [HI]
      · ipureintro; exact hm
      · iexact HI
    icases HX with ⟨HC, HO, HA, HW, HN⟩
    isplitl [HN]
    · iexact HN
    isplitl [HC]
    · iexact HC
    isplitl [HO]
    · iexact HO
    isplitl [HA]
    · iexact HA
    isplitl [HT]
    · iexact HT
    · iexact HW
  · have hc : ¬ k0_cond4 t = 1#1 := fun hc => hm ((cond4_iff t).1 hc)
    rw [dif_neg hc]
    refine tw_ret_eq d i rfl (BI.BIBase.Entails.trans ?_ (trip_stop d i (n := t.val) (r := rb i + (2 * t.val + 3)) (H := Topk.hc (ata f (rb i + 2 * t.val + 1)) 1024)
      (P := CandAt (ata f (rb i + 2 * t.val + 1)) (lo (bw (ata f (rb i + 2 * t.val + 1)))) (hi (bw (ata f (rb i + 2 * t.val + 1)))) 1024) (by omega)))
    refine BI.BIBase.Entails.trans ?_ trip_end
    iintro ⟨HT, HR, HK, HC, HO, HA, HW, HN⟩
    isplitl [HR HK]
    · unfold Nxt
      iright
      isplitr [HR HK]
      · ipureintro; exact hm
      isplitl [HR]
      · iexists _
        iexact HR
      · iexact HK
    isplitl [HN]
    · iexact HN
    isplitl [HC]
    · iexact HC
    isplitl [HO]
    · iexact HO
    isplitl [HA]
    · iexact HA
    isplitl [HT]
    · iexact HT
    · iexact HW

/-- The first `16 n` words of the histogram zero. -/
def ZeroTo (n : ℕ) (g : S2080.Idx → BitVec 32) : Prop := ∀ j < 16 * n, at1 g j = 0

theorem zero_z {g : S2080.Idx → BitVec 32} (hg : ZeroTo 130 g) : HistZ g := by
  intro w l hl b hb
  rw [hg _ (by omega), if_neg (by omega), hc_eq, Nat.count_zero]
  rfl

theorem off1_eq (t : Fin k0_t1_loop.trips) : k0_off1 t 0 = 16 * t.val := by
  have ht : t.val < 130 := t.isLt
  have e : k0_off1 t 0 = (Scalar.muli (tripW t) 16#32).toNat := rfl
  rw [e, tripW_eq]
  show (BitVec.ofNat 32 t.val * 16#32).toNat = _
  rw [BitVec.toNat_mul, BitVec.toNat_ofNat]
  show t.val % 2 ^ 32 * 16 % 2 ^ 32 = _
  omega

theorem zero_step {n : ℕ} {g : S2080.Idx → BitVec 32} (hg : ZeroTo n g) {off : Fin 1 → ℕ} (hoff : off 0 = 16 * n)
    {inb : ∀ a, off a + S16.size a ≤ S2080.size a} :
    ZeroTo (n + 1) ((mHist.access (Rect.unit (s := S2080) off S16.size inb)).write (Elt Bits) g k0_pay298 Finset.univ) := by
  intro j hj
  by_cases hN : j < 2080
  · rw [at1_lane (N := 2080) _ hN]
    by_cases hin : 16 * n ≤ j
    · have e : (Shape.ofLane (d := ![2080]) ⟨j, hN⟩ : S2080.Idx)
          = (mHist.access (Rect.unit (s := S2080) off S16.size inb)).emb (Shape.ofLane (d := ![16]) ⟨j - 16 * n, by show _ < 16; omega⟩) := by
        funext a
        obtain rfl : a = 0 := Subsingleton.elim _ _
        apply Fin.ext
        refine Eq.trans ?_ (emb_unit1 (N := 2080) (inb := inb) _).symm
        rw [hoff]
        show j = _ + (j - 16 * n)
        omega
      rw [e]
      exact View.write_emb_of_mem _ _ (Finset.mem_univ _)
    · have e : (mHist.access (Rect.unit (s := S2080) off S16.size inb)).write (Elt Bits) g k0_pay298 Finset.univ
          (Shape.ofLane (d := ![2080]) ⟨j, hN⟩) = g (Shape.ofLane (d := ![2080]) ⟨j, hN⟩) := by
        refine View.write_of_not_mem _ _ _ fun hm => ?_
        obtain ⟨x, _, hx⟩ := Finset.mem_map.1 hm
        have h2 := (emb_unit1 (N := 2080) (inb := inb) x).symm.trans (congrArg (fun z : S2080.Idx => (z 0).val) hx)
        rw [hoff] at h2
        have h3 : 16 * n + (x 0).val = j := h2
        omega
      rw [e, ← at1_lane (N := 2080) g hN]
      exact hg j (by omega)
  · rw [at1, dif_neg hN]

theorem t1_step (t : Fin k0_t1_loop.trips) : iprop(Hh d i (ZeroTo t.val) ∗ Z)
    ⊢ tw d i (k0_t1_body i mA harg2 mT harg3 mRow harg4 mHist harg5 mCand harg6 mThr harg7 mOff harg8 cc0_scratch5 cc0_scratch6 cc0_scoped0 t ⟨⟩) (fun r => iprop(⌜r = ⟨⟩⌝ ∗ (Hh d i (ZeroTo (t.val + 1)) ∗ Z))) := by
  unfold k0_t1_body
  refine hskip d i fun _ => ?_
  refine Holds.store d i (m := mHist) (r := Rect.unit (s := S2080) (k0_off1 t) S16.size (k0_off1_inb t)) (P := ZeroTo t.val) (P' := ZeroTo (t.val + 1))
    (fun g hg => zero_step hg (off1_eq t)) ?_
  exact tw_ret_eq d i rfl .rfl

/-- The rows' buffer, its two slots apart. -/
theorem row_split {g : S2x16384.Idx → BitVec 32} : (mRow.view.loc (VT d i) ↦{fullShare} g : sProp 𝕄)
    ⊢ iprop(Hr d i (Sl 0) 0 (at2 g 0) ∗ Hr d i (Sl 1) 1 (at2 g 1)) := by
  have e : (Finset.univ \ Sl 0 : Finset S2x16384.Idx) = Sl 1 := by
    ext x
    have hx : (x 0).val < 2 := (x 0).isLt
    unfold Sl
    rw [Finset.mem_sdiff, Finset.mem_filter, Finset.mem_filter]
    constructor
    · rintro ⟨-, h⟩; exact ⟨Finset.mem_univ _, by have : ¬ (x 0).val = 0 := fun h0 => h ⟨Finset.mem_univ _, h0⟩; omega⟩
    · rintro ⟨-, h⟩; exact ⟨Finset.mem_univ _, fun h0 => by omega⟩
  unfold Hr
  iintro H
  ihave H' := (pointsTo_split_subset (Finset.subset_univ (Sl 0))).1 $$ H
  icases H' with ⟨H0, H1⟩
  isplitl [H0]
  · iexists g
    isplitr [H0]
    · ipureintro; intro _ _; rfl
    · iexact H0
  · iexists g
    isplitr [H1]
    · ipureintro; intro _ _; rfl
    · rw [← e]
      iexact H1

theorem row_join {w w' : ℕ → BitVec 32} : iprop(Hr d i (Sl 0) 0 w ∗ Hr d i (Sl 1) 1 w') ⊢ iprop(∃ g, (mRow.view.loc (VT d i) ↦{fullShare} g : sProp 𝕄)) := by
  have hd : Disjoint (Sl 0) (Sl 1) := Finset.disjoint_left.2 fun x h0 h1 => by
    have := (Finset.mem_filter.1 h0).2; have := (Finset.mem_filter.1 h1).2; omega
  have e : (Sl 0 ∪ Sl 1 : Finset S2x16384.Idx) = Finset.univ := by
    refine Finset.eq_univ_of_forall fun x => ?_
    have hx : (x 0).val < 2 := (x 0).isLt
    rw [Finset.mem_union]
    by_cases h : (x 0).val = 0
    · exact .inl (mem_Sl x h)
    · exact .inr (mem_Sl x (by omega))
  unfold Hr
  iintro ⟨⟨%g, -, H0⟩, ⟨%g', -, H1⟩⟩
  ihave H := (pointsTo_join (ℓ := mRow.view.loc (VT d i)) (I := Sl 0) (J := Sl 1) hd) $$ [H0 H1]
  · isplitl [H0]
    · iexact H0
    · iexact H1
  rw [e]
  iexists _
  iexact H

/-- The loops and the copies in. -/
theorem part46 {Q} {A : (S2080.Idx → BitVec 32) → Prop} {w0 w1 : ℕ → BitVec 32}
    (h : iprop(TSt d i q q1 f O 128 ∗ Z) ⊢ Q ⟨⟩) :
    iprop(Hh d i A ∗ (Hr d i (Sl 0) 0 w0 ∗ (Sm d i q f cc0_scratch5.sem ∗ (Hr d i (Sl 1) 1 w1 ∗ (Sm d i q1 f cc0_scratch6.sem
        ∗ (Hc d i (fun _ => True) ∗ (Ho d i (fun _ => True) ∗ (Ht d i (fun _ => True) ∗ (Ow d i O ∗ Z)))))))))
      ⊢ tw d i (k0_part46 i mA harg2 mT harg3 mRow harg4 mHist harg5 mCand harg6 mThr harg7 mOff harg8 cc0_scratch5 cc0_scratch6 cc0_scoped0) Q := by
  rw [k0_part46_eq_skeleton]; unfold k0_part46_skel
  have start : ∀ Y : sProp 𝕄, iprop(Hh d i A ∗ Y) ⊢ iprop(Hh d i (ZeroTo 0) ∗ Y) := by
    intro Y
    iintro ⟨HH, HY⟩
    isplitl [HH]
    · iapply (Hh_mono d i (P' := ZeroTo 0) fun _ _ j hj => absurd hj (Nat.not_lt_zero _)) $$ HH
    · iexact HY
  refine (start _).trans (tw_for d i (fun _ => ()) (fun n => iprop(Hh d i (ZeroTo n) ∗ _)) rfl (fun t => t1_step d i harg2 harg3 harg4 harg5 harg6 harg7 harg8 t) ?_)
  refine copy_in.trans (tissue d i rfl rfl (off2_eq i) rfl ?_)
  refine copy_in1.trans (tissue d i rfl rfl (off3_eq i) rfl ?_)
  refine BI.BIBase.Entails.trans ?_ (tw_for d i (gs f (rb i)) (fun n => iprop(TSt d i q q1 f O n ∗ Z)) rfl (fun t => ?_) (tw_ret d i rfl h))
  · refine BI.BIBase.Entails.trans ?_ loop_in
    iintro ⟨H1, H0, HH, HC, HO, HT, HW, HZ⟩
    isplitl [H1]
    · unfold Nxt
      ileft
      isplitr [H1]
      · ipureintro; decide
      · iexact H1
    isplitl [H0]
    · unfold Nxt
      ileft
      isplitr [H0]
      · ipureintro; decide
      · iexact H0
    isplitl [HH]
    · iapply (Hh_mono d i (P := ZeroTo k0_t1_loop.trips) (P' := HistZ) fun _ hg => zero_z hg) $$ HH
    isplitl [HC]
    · iexact HC
    isplitl [HO]
    · iexact HO
    isplitl [HT]
    · iapply (Ht_mono d i (P := fun _ => True) (P' := ThrAt f (rb i) 0) fun _ _ j hj => absurd hj (Nat.not_lt_zero _)) $$ HT
    isplitl [HW]
    · iexact HW
    · iexact HZ
  · exact trip_keep d i (trip d i harg2 harg3 harg4 harg5 harg6 harg7 harg8 t)

end Cert.Topk
end
-- ==== Proof.Tile.lean ====
/-
  A tile from what the launch deals it to what it hands back: the thresholds of its 256 rows in the result.
-/
module

public import proofs.«01_k».proof.Proof.Body

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable (d : Dev nD) (i : grid0.Coords) {α : Type} {Q : α → sProp 𝕄} {Z : sProp 𝕄}
variable {q q1 : PosShare TreeShare} {f : S8192x16384.Idx → BitVec 32} {O : CellTallies nD τ sig (SparseCore.Cfg.HIx 1)}

/-- What the launch gives a tile, in the order of the body. -/
theorem run_in {A B C H O R S S1 S2 T T0 W : sProp 𝕄} : iprop(A ∗ (B ∗ (T0 ∗ (R ∗ (H ∗ (C ∗ (T ∗ (O ∗ (S ∗ (S1 ∗ (S2 ∗ W))))))))))) ⊢ iprop(H ∗ (R ∗ (S ∗ (A ∗ (S1 ∗ (B ∗ (C ∗ (O ∗ (T ∗ (W ∗ (S2 ∗ T0))))))))))) := by
  iintro ⟨HA, HB, HT0, HR, HH, HC, HT, HO, HS, HS1, HS2, HW⟩
  isplitl [HH]
  · iexact HH
  isplitl [HR]
  · iexact HR
  isplitl [HS]
  · iexact HS
  isplitl [HA]
  · iexact HA
  isplitl [HS1]
  · iexact HS1
  isplitl [HB]
  · iexact HB
  isplitl [HC]
  · iexact HC
  isplitl [HO]
  · iexact HO
  isplitl [HT]
  · iexact HT
  isplitl [HW]
  · iexact HW
  isplitl [HS2]
  · iexact HS2
  · iexact HT0

/-- A tile's part of the result. -/
def Tr (r : ℕ) : Finset S8192.Idx := Finset.univ.filter fun x => r ≤ (x 0).val ∧ (x 0).val < r + 256

/-- A tile's part of the result as the body slices it. -/
abbrev outM (i : grid0.Coords) : Memref sig .scVector .hbm S256 .f32 :=
  mT.slice (Rect.unit (s := S8192) (k0_off112 i) S256.size (k0_off112_inb i)) (fun _ => rfl)

theorem out_emb (x : S256.Idx) : (((outM i).view.emb x : S8192.Idx) 0).val = rb i + (x 0).val := by
  rw [← off112_eq i]
  show k0_off112 i 0 + 1 * (x 0).val = _
  omega

theorem out_sub : (outM i).view.set ⊆ Tr (rb i) := by
  intro y hy
  obtain ⟨x, -, rfl⟩ := Finset.mem_map.1 hy
  have hx : (x 0).val < 256 := (x 0).isLt
  have e := out_emb i x
  exact Finset.mem_filter.2 ⟨Finset.mem_univ _, by omega, by omega⟩

/-- The result over a tile's part: the thresholds of its rows. -/
def Out (f : S8192x16384.Idx → BitVec 32) (r : ℕ) (g : S8192.Idx → BitVec 32) : Prop :=
  ∀ j < 256, at1 g (r + j) = thrW (ata f (r + j))

theorem out_write {g0 : S8192.Idx → BitVec 32} {g : S256.Idx → BitVec 32} (hg : ThrAt f (rb i) 256 g) :
    Out f (rb i) ((outM i).view.write (Elt Bits) g0 (mThr.view.read (Elt Bits) g) Finset.univ) := by
  intro j hj
  have e : (((outM i).view.emb (Shape.ofLane (d := ![256]) ⟨j, hj⟩) : S8192.Idx) 0).val = rb i + j := out_emb i (Shape.ofLane (d := ![256]) ⟨j, hj⟩)
  rw [← at1_of_val (N := 8192) _ ((outM i).view.emb (Shape.ofLane (d := ![256]) ⟨j, hj⟩)) e, ← hg j hj]
  refine (View.write_emb_of_mem _ _ (Finset.mem_univ _)).trans ?_
  exact (at1_lane (N := 256) g hj).symm

theorem mThr_set : mThr.view.set = (Finset.univ : Finset S256.Idx) := View.set_whole _

/-- The thresholds are copied out. -/
theorem tout {g0 : S8192.Idx → BitVec 32} {hsrc hdst hsem} {hsrc' hdst'} {k : PUnit → TP i α}
    (h : iprop((∃ g : S8192.Idx → BitVec 32, ⌜Out f (rb i) g⌝ ∗ (mT.view.loc (VT d i) ↦[Tr (rb i)]{fullShare} g)) ∗ (Ht d i (fun _ => True) ∗ (semVal (VT d i, .dma cc0_scoped0.sem) 0 ∗ (Ow d i O ∗ Z))))
      ⊢ tw d i (k ⟨⟩) Q) :
    iprop(Ht d i (ThrAt f (rb i) 256) ∗ ((semVal (VT d i, .dma cc0_scoped0.sem) 0 ∗ (mT.view.loc (VT d i) ↦[Tr (rb i)]{fullShare} g0)) ∗ (Ow d i O ∗ Z)))
      ⊢ tw d i (Prog.lift (.enqueueDma mThr (.here (outM i)) (.dma cc0_scoped0.sem) hsrc hdst hsem) >>= fun _ =>
          Prog.lift (.waitDma2 cc0_scoped0.sem mThr (outM i) hsrc' hdst') >>= k) Q := by
  unfold Ht Ow
  iintro ⟨⟨%g, %hg, HT⟩, ⟨Hv, HO⟩, ⟨#Hmw, %W, HW⟩, HZ⟩
  ihave HT' := (BIBase.Entails.of_eq (show (mThr.view.loc (VT d i) ↦{fullShare} g : sProp 𝕄) = (mThr.view.loc (VT d i) ↦[mThr.view.set]{fullShare} g) by rw [mThr_set])) $$ HT
  iapply (Transfers.wp_dmaLocal countersEmb 𝒱₀ (VT d i) none (src := mThr) (dst := outM i) (sm := .dma cc0_scoped0.sem) (Q := Q)
    (fs := g) (fd := g0) (Sd := Tr (rb i)) (default : SparseCore.Cfg.HIx 1) (outM i).view.dmaCredit rfl
    (show 0 < (outM i).view.amount (.dma cc0_scoped0.sem) from View.amount_pos _ _ (show 0 < S256.numel by decide)) (out_sub i)) $$ [HT' HO Hv]
  · isplitl [HT']
    · iexact HT'
    isplitl [HO]
    · iexact HO
    · iexact Hv
  iintro HF
  ihave Hw := (Transfers.MayWaits.elim (.dma cc0_scoped0.sem)) $$ Hmw
  iapply (Transfers.wp_waitLocalO countersEmb 𝒱₀ (VT d i) none (sem := cc0_scoped0.sem) (srcw := mThr) (dstw := outM i) (k := k) (Q := Q)
    (default : SparseCore.Cfg.HIx 1) (N := (outM i).view.dmaCredit) rfl) $$ [HF HW Hw]
  · isplitl [HF]
    · iexact HF
    isplitl [HW]
    · iexact HW
    · iexact Hw
  iintro ⟨⟨HO, HT⟩, Hv, HW⟩
  ihave HT' := (BIBase.Entails.of_eq (show (mThr.view.loc (VT d i) ↦[mThr.view.set]{fullShare} g : sProp 𝕄) = (mThr.view.loc (VT d i) ↦{fullShare} g) by rw [mThr_set])) $$ HT
  iapply h
  unfold Ht Ow
  isplitl [HO]
  · iexists (outM i).view.write (Elt Bits) g0 (mThr.view.read (Elt Bits) g) Finset.univ
    isplitr [HO]
    · ipureintro; exact out_write i hg
    · iexact HO
  isplitl [HT']
  · iexists g
    isplitr [HT']
    · ipureintro; trivial
    · iexact HT'
  isplitl [Hv]
  · iexact Hv
  isplitl [HW]
  · isplitr [HW]
    · iexact Hmw
    · iexists _
      iexact HW
  · iexact HZ

/-- What a tile holds when its trips are over. -/
theorem trips_over : iprop(TSt d i q q1 f O 128 ∗ Z)
    ⊢ iprop(Ht d i (ThrAt f (rb i) 256) ∗ (Z ∗ (Ow d i O ∗ ((∃ w, Hr d i (Sl 0) 0 w) ∗ ((∃ w, Hr d i (Sl 1) 1 w) ∗ (Sm d i q f cc0_scratch5.sem
      ∗ (Sm d i q1 f cc0_scratch6.sem ∗ (Hh d i (fun _ => True) ∗ (Hc d i (fun _ => True) ∗ Ho d i (fun _ => True)))))))))) := by
  unfold TSt
  iintro ⟨⟨H0, H1, HW, HH, HC, HO, HT⟩, HZ⟩
  ihave H0' := (Nxt_neg d i (Nat.lt_irrefl 128)) $$ H0
  ihave H1' := (Nxt_neg d i (Nat.lt_irrefl 128)) $$ H1
  icases H0' with ⟨HR0, HU0⟩
  icases H1' with ⟨HR1, HU1⟩
  isplitl [HT]
  · iexact HT
  isplitl [HZ]
  · iexact HZ
  isplitl [HW]
  · iexact HW
  isplitl [HR0]
  · iexact HR0
  isplitl [HR1]
  · iexact HR1
  isplitl [HU0]
  · iexact HU0
  isplitl [HU1]
  · iexact HU1
  isplitl [HH]
  · iapply (Hh_mono d i fun _ _ => trivial) $$ HH
  isplitl [HC]
  · iexact HC
  · iexact HO

/-- What a tile hands back. -/
theorem run_out : iprop((∃ g : S8192.Idx → BitVec 32, ⌜Out f (rb i) g⌝ ∗ (mT.view.loc (VT d i) ↦[Tr (rb i)]{fullShare} g)) ∗ (Ht d i (fun _ => True)
      ∗ (semVal (VT d i, .dma cc0_scoped0.sem) 0 ∗ (Ow d i O ∗ ((∃ w, Hr d i (Sl 0) 0 w) ∗ ((∃ w, Hr d i (Sl 1) 1 w) ∗ (Sm d i q f cc0_scratch5.sem
      ∗ (Sm d i q1 f cc0_scratch6.sem ∗ (Hh d i (fun _ => True) ∗ (Hc d i (fun _ => True) ∗ Ho d i (fun _ => True)))))))))))
    ⊢
    iprop((mA.view.loc (VT d i) ↦{q} f) ∗ ((mA.view.loc (VT d i) ↦{q1} f)
      ∗ ((∃ g : S8192.Idx → BitVec 32, ⌜Out f (rb i) g⌝ ∗ (mT.view.loc (VT d i) ↦[Tr (rb i)]{fullShare} g))
      ∗ ((∃ g, (mRow.view.loc (VT d i) ↦{fullShare} g)) ∗ (Hh d i (fun _ => True) ∗ (Hc d i (fun _ => True) ∗ (Ht d i (fun _ => True) ∗ (Ho d i (fun _ => True)
      ∗ (semVal (VT d i, .dma cc0_scratch5.sem) 0 ∗ (semVal (VT d i, .dma cc0_scratch6.sem) 0 ∗ (semVal (VT d i, .dma cc0_scoped0.sem) 0 ∗ Ow d i O))))))))))) := by
  iintro ⟨HO, HT, Hs2, HW, ⟨%w0, HR0⟩, ⟨%w1, HR1⟩, S0, S1, HH, HC, HF⟩
  unfold Sm
  icases S0 with ⟨Hs, HA⟩
  icases S1 with ⟨Hs1, HB⟩
  ihave HR := (row_join d i) $$ [HR0 HR1]
  · isplitl [HR0]
    · iexact HR0
    · iexact HR1
  iframe

variable (harg2 : mA.IsWhole) (harg3 : mT.IsWhole)
  (harg4 : mRow.IsWhole) (harg5 : mHist.IsWhole) (harg6 : mCand.IsWhole) (harg7 : mThr.IsWhole) (harg8 : mOff.IsWhole)

/-- The tile's run. -/
theorem tile_run {g0 : S8192.Idx → BitVec 32} :
    iprop((mA.view.loc (VT d i) ↦{q} f) ∗ ((mA.view.loc (VT d i) ↦{q1} f) ∗ ((mT.view.loc (VT d i) ↦[Tr (rb i)]{fullShare} g0)
      ∗ ((∃ g, (mRow.view.loc (VT d i) ↦{fullShare} g)) ∗ (Hh d i (fun _ => True) ∗ (Hc d i (fun _ => True) ∗ (Ht d i (fun _ => True) ∗ (Ho d i (fun _ => True)
      ∗ (semVal (VT d i, .dma cc0_scratch5.sem) 0 ∗ (semVal (VT d i, .dma cc0_scratch6.sem) 0 ∗ (semVal (VT d i, .dma cc0_scoped0.sem) 0 ∗ Ow d i O)))))))))))
    ⊢ tw d i (cc0__sc_body i mA harg2 mT harg3 mRow harg4 mHist harg5 mCand harg6 mThr harg7 mOff harg8 cc0_scratch5 cc0_scratch6 cc0_scoped0) (fun _ =>
    iprop((mA.view.loc (VT d i) ↦{q} f) ∗ ((mA.view.loc (VT d i) ↦{q1} f)
      ∗ ((∃ g : S8192.Idx → BitVec 32, ⌜Out f (rb i) g⌝ ∗ (mT.view.loc (VT d i) ↦[Tr (rb i)]{fullShare} g))
      ∗ ((∃ g, (mRow.view.loc (VT d i) ↦{fullShare} g)) ∗ (Hh d i (fun _ => True) ∗ (Hc d i (fun _ => True) ∗ (Ht d i (fun _ => True) ∗ (Ho d i (fun _ => True)
      ∗ (semVal (VT d i, .dma cc0_scratch5.sem) 0 ∗ (semVal (VT d i, .dma cc0_scratch6.sem) 0 ∗ (semVal (VT d i, .dma cc0_scoped0.sem) 0 ∗ Ow d i O)))))))))))) := by
  rw [cc0__sc_body_eq_skeleton]
  unfold cc0__sc_body_skel
  iintro ⟨HA, HB, HO, ⟨%g, HR⟩, HH, HC, HT, HF, Hs, Hs1, Hs2, HW⟩
  ihave HR' := (row_split d i) $$ HR
  icases HR' with ⟨HR0, HR1⟩
  iapply (tw_bind d i (part46 d i harg2 harg3 harg4 harg5 harg6 harg7 harg8 (q := q) (q1 := q1) (f := f) (O := O) (A := fun _ => True) (w0 := at2 g 0) (w1 := at2 g 1)
    (Z := iprop(semVal (VT d i, .dma cc0_scoped0.sem) 0 ∗ (mT.view.loc (VT d i) ↦[Tr (rb i)]{fullShare} g0)))
    ((trips_over d i).trans (tout d i (tw_ret d i rfl (run_out d i))))))
  unfold Sm
  iframe

end Cert.Topk
end
-- ==== Proof.Launch.lean ====
/-
  The launch: what the call hands each tile and gets back, and the run of the whole program from it.
-/
module

public import proofs.«01_k».proof.Proof.Tile

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.Rounds
open Idealize.ShloMosaic.SparseCore.Cfg (HIx Pay ownBufs ownSems0 ownCells ownRefs mem_ownCells)

variable (m : (ℓ : Loc nD τ sig) → Buf (Elt Bits) ℓ) (ρ : Dev nD → PrngReg)

/-! ## The arrays and the tiles' parts -/

abbrev aLoc (d : Dev nD) : Loc nD τ sig := (SparseCore.T d).loc main_arg0
abbrev oLoc (d : Dev nD) : Loc nD τ sig := (SparseCore.T d).loc main_v0

/-- The coordinates of tile `s` of core `c`. -/
def crd (c : Fin 2) (s : Fin 16) : grid0.Coords
  | 0 => c
  | 1 => s
  | ⟨_ + 2, h⟩ => absurd h (Nat.not_lt.2 (Nat.le_add_left _ _))

/-- The share of the argument tile `s` of core `c` reads with. -/
def tq (c : Fin 2) (s : Fin 16) : PosShare TreeShare := Transfers.shareTok fullShare (2 * 16) (finProdFinEquiv (c, s))

/-- What a tile is handed. -/
def Tgo (d : Dev nD) (c : Fin 2) (s : Fin 16) : sProp 𝕄 :=
  iprop((aLoc d ↦{tq c s} m (aLoc d)) ∗ (oLoc d ↦[Tr (rb (crd c s))]{fullShare} m (oLoc d)))

/-- What it brings back. -/
def Ttd (d : Dev nD) (c : Fin 2) (s : Fin 16) : sProp 𝕄 :=
  iprop((aLoc d ↦{tq c s} m (aLoc d)) ∗ ∃ g : S8192.Idx → BitVec 32, ⌜Out (m (aLoc d)) (rb (crd c s)) g⌝ ∗ (oLoc d ↦[Tr (rb (crd c s))]{fullShare} g))

instance Tgo_storable (d : Dev nD) (c : Fin 2) (s : Fin 16) : BI.Storable (upEmb : UEmb _ 𝕄) (Tgo m d c s) := by
  unfold Tgo; infer_instance
instance Ttd_storable (d : Dev nD) (c : Fin 2) (s : Fin 16) : BI.Storable (upEmb : UEmb _ 𝕄) (Ttd m d c s) := by
  unfold Ttd; infer_instance

/-- The call's handshakes: a core is handed what its tiles are handed. -/
def PP : K.Pay (nD := nD) (Val := Elt Bits) (Name := ℕ) (U := UU) where
  st := fun q d c => match q with | 0 => bigSep Finset.univ fun s : Fin 16 => Tgo m d c s
  dn := fun q d c => match q with | 0 => bigSep Finset.univ fun s : Fin 16 => Ttd m d c s
  go := fun q d c s => match q with | 0 => Tgo m d c s
  td := fun q d c s => match q with | 0 => Ttd m d c s
  x := fun _ _ => iprop(emp)

instance PP_storable : (PP m).IsStorable where
  st q d c := match q with
    | 0 => (inferInstance : BI.Storable (upEmb : UEmb _ 𝕄) (bigSep Finset.univ fun s : Fin 16 => Tgo m d c s))
  dn q d c := match q with
    | 0 => (inferInstance : BI.Storable (upEmb : UEmb _ 𝕄) (bigSep Finset.univ fun s : Fin 16 => Ttd m d c s))
  go q d c s := match q with
    | 0 => (inferInstance : BI.Storable (upEmb : UEmb _ 𝕄) (Tgo m d c s))
  td q d c s := match q with
    | 0 => (inferInstance : BI.Storable (upEmb : UEmb _ 𝕄) (Ttd m d c s))

/-! ## A tile's own buffers and counters -/

section Own

variable (d : Dev nD) (i : grid0.Coords)

/-- The tile's scratch buffers and its copies' counters, by number. -/
abbrev scr : Fin 5 → Ref sig .scVector := ![cc0_scratch0, cc0_scratch1, cc0_scratch2, cc0_scratch3, cc0_scratch4]
abbrev cel : Fin 3 → DmaSem sig := ![cc0_scratch5.sem, cc0_scratch6.sem, cc0_scoped0.sem]

theorem scr_inj : Function.Injective scr := by decide
theorem cel_inj : Function.Injective cel := by decide

/-- The processor of the tile. -/
abbrev prc (i : grid0.Coords) : Proc τ := .scVector ((i 0).castLE hcore0) ((i 1).castLE hsub0)

/-- The tile's other buffers. -/
def restB : sProp 𝕄 := bigSep (ownRefs (τ := τ) (prc i) \ Finset.univ.image fun k => (prc i).devRef (scr k)) fun b => iprop(∃ f, ((d, b) : Loc nD τ sig) ↦{fullShare} f)
/-- The tile's other counters. -/
def restC : sProp 𝕄 := bigSep (ownCells (VT d i) \ Finset.univ.image fun k => ((VT d i, .dma (cel k)) : GSem nD τ sig)) fun g => semVal g 0

theorem tile_bufs : (ownBufs (VT d i) : sProp 𝕄)
    = iprop(((∃ g, (mRow.view.loc (VT d i) ↦{fullShare} g)) ∗ (∃ g, (mHist.view.loc (VT d i) ↦{fullShare} g)) ∗ (∃ g, (mCand.view.loc (VT d i) ↦{fullShare} g))
        ∗ (∃ g, (mThr.view.loc (VT d i) ↦{fullShare} g)) ∗ (∃ g, (mOff.view.loc (VT d i) ↦{fullShare} g))) ∗ restB d i) := by
  unfold SparseCore.Cfg.ownBufs restB
  refine (SparseCore.bigSep_sdiff_split' (t := Finset.univ.image fun k => (prc i).devRef (scr k)) ?_).trans ?_
  · refine Finset.image_subset_iff.mpr fun k _ => SparseCore.Cfg.mem_ownRefs_of_owner (p := prc i) ?_
    match k with
    | 0 => rfl
    | 1 => rfl
    | 2 => rfl
    | 3 => rfl
    | 4 => rfl
  · rw [SparseCore.bigSep_image_of_injOn (fun a _ b _ h => scr_inj (Proc.devRef_injective _ h)),
      show (Finset.univ : Finset (Fin 5)) = {0, 1, 2, 3, 4} by decide,
      SparseCore.bigSep_insert' (by decide), SparseCore.bigSep_insert' (by decide), SparseCore.bigSep_insert' (by decide),
      SparseCore.bigSep_insert' (by decide), bigSep_singleton]
    rfl

theorem tile_cells : (ownSems0 (VT d i) : sProp 𝕄)
    = iprop((semVal (VT d i, .dma cc0_scratch5.sem) 0 ∗ semVal (VT d i, .dma cc0_scratch6.sem) 0 ∗ semVal (VT d i, .dma cc0_scoped0.sem) 0) ∗ restC d i) := by
  unfold SparseCore.Cfg.ownSems0 restC
  refine (SparseCore.bigSep_sdiff_split' (t := Finset.univ.image fun k => ((VT d i, .dma (cel k)) : GSem nD τ sig)) ?_).trans ?_
  · exact Finset.image_subset_iff.mpr fun k _ =>
      mem_ownCells.mpr ⟨rfl, (show ∀ s : DmaSem sig, (SemLoc.dma s : SemLoc sig).isScoped .scVector = true by decide) _⟩
  · rw [SparseCore.bigSep_image_of_injOn (fun a _ b _ h => cel_inj (by
        have e := congrArg (fun g : GSem nD τ sig => g.2) h
        simp only [SemLoc.dma.injEq] at e
        exact e)),
      show (Finset.univ : Finset (Fin 3)) = {0, 1, 2} by decide,
      SparseCore.bigSep_insert' (by decide), SparseCore.bigSep_insert' (by decide), bigSep_singleton]
    rfl

/-- A scratch buffer at some contents, as the run asks and leaves it. -/
theorem any_in {κ : Type} {A : κ → sProp 𝕄} : iprop(∃ g, A g) ⊢ iprop(∃ g, ⌜True⌝ ∗ A g) := by
  iintro ⟨%g, H⟩
  iexists g
  isplitr [H]
  · ipureintro; trivial
  · iexact H
theorem any_out {κ : Type} {A : κ → sProp 𝕄} : iprop(∃ g, ⌜True⌝ ∗ A g) ⊢ iprop(∃ g, A g) := by
  iintro ⟨%g, -, H⟩
  iexists g
  iexact H

end Own

/-! ## The tile's obligation -/

theorem tile_body (d : Dev nD) (c : Fin 2) (s : Fin 16) (O : CellTallies nD τ sig (HIx 1)) (W : Waits sig (HIx 1)) (hO : ∀ g, O g none = 0) :
    iprop(levAts K.L K.lev ∗ emp ∗ Tgo m d c s ∗ scopedBufs (VT d (crd c s)) ∗ scopedSems0 (VT d (crd c s)) ∗ owes (VT d (crd c s)) O W)
      ⊢ tw d (crd c s) (cc0__sc_body (crd c s) mA (Memref.isWhole_whole _) mT (Memref.isWhole_whole _) mRow (Memref.isWhole_whole _) mHist (Memref.isWhole_whole _)
          mCand (Memref.isWhole_whole _) mThr (Memref.isWhole_whole _) mOff (Memref.isWhole_whole _) cc0_scratch5 cc0_scratch6 cc0_scoped0)
        fun _ => iprop(Ttd m d c s ∗ scopedBufs (VT d (crd c s)) ∗ scopedSems0 (VT d (crd c s))
          ∗ ∃ W', ⌜∀ p ∈ W', p ∈ W ∨ p.2 = none ∨ p.2 = some (0 : Fin 1)⌝ ∗ owes (VT d (crd c s)) O W') := by
  rw [K.scopedBufs_V scFacts d _ _, SparseCore.Cfg.scopedSems0_V (Val := Elt Bits) d _ _, tile_cells, tile_bufs]
  unfold Tgo
  iintro ⟨#Hlv, -, ⟨Ha, Ho⟩, ⟨⟨H0, H1, H2, H3, H4⟩, HB⟩, ⟨⟨S0, S1, S2⟩, HC⟩, HO⟩
  ihave Hmw := (show levAts K.L K.lev ⊢ Transfers.MayWaits (VT d (crd c s)) (default : HIx 1) O from
    K.mayWaits_none (thr := VT d (crd c s)) hO) $$ Hlv
  ihave Ha' := (pointsTo_share (PosShare.mem_left_op_right (tq c s))).1 $$ Ha
  icases Ha' with ⟨Ha, Ha1⟩
  iapply (wp_wand_r frame (wpE (defs₀ (F := Bits)) 𝒱₀ (VT d (crd c s)) none) Set.univ)
  isplitr [HB HC]
  · iapply (tile_run d (crd c s) (Memref.isWhole_whole _) (Memref.isWhole_whole _) (Memref.isWhole_whole _) (Memref.isWhole_whole _) (Memref.isWhole_whole _)
      (Memref.isWhole_whole _) (Memref.isWhole_whole _) (q := (tq c s).left) (q1 := (tq c s).right) (f := m (aLoc d)) (O := O) (g0 := m (oLoc d)))
    unfold Hh Hc Ht Ho
    isplitl [Ha]
    · iexact Ha
    isplitl [Ha1]
    · iexact Ha1
    isplitl [Ho]
    · iexact Ho
    isplitl [H0]
    · iexact H0
    isplitl [H1]
    · iapply any_in $$ H1
    isplitl [H2]
    · iapply any_in $$ H2
    isplitl [H3]
    · iapply any_in $$ H3
    isplitl [H4]
    · iapply any_in $$ H4
    isplitl [S0]
    · iexact S0
    isplitl [S1]
    · iexact S1
    isplitl [S2]
    · iexact S2
    unfold Ow
    isplitr [HO]
    · iexact Hmw
    · iexists W
      iexact HO
  · iintro %_ ⟨Ha, Ha1, Ho, H0, H1, H2, H3, H4, S0, S1, S2, HW⟩
    unfold Ow Ttd Hh Hc Ht Ho
    icases HW with ⟨-, %W', HO⟩
    isplitl [Ha Ha1 Ho]
    · isplitr [Ho]
      · iapply (pointsTo_share (PosShare.mem_left_op_right (tq c s))).2
        isplitl [Ha]
        · iexact Ha
        · iexact Ha1
      · iexact Ho
    isplitl [H0 H1 H2 H3 H4 HB]
    · isplitr [HB]
      · isplitl [H0]
        · iexact H0
        isplitl [H1]
        · iapply any_out $$ H1
        isplitl [H2]
        · iapply any_out $$ H2
        isplitl [H3]
        · iapply any_out $$ H3
        · iapply any_out $$ H4
      · iexact HB
    isplitl [S0 S1 S2 HC]
    · isplitr [HC]
      · isplitl [S0]
        · iexact S0
        isplitl [S1]
        · iexact S1
        · iexact S2
      · iexact HC
    iexists W'
    isplitr [HO]
    · ipureintro
      intro p _
      rcases p.2 with _ | q
      · exact .inr (.inl rfl)
      · exact .inr (.inr (congrArg some (Subsingleton.elim q 0)))
    · iexact HO

theorem tile_defs (c : Fin τ.nSC) (s : Fin τ.nSub) :
    defs₀ (F := Bits) (.scVector c s) 0 ()
      = SparseCore.onTile hcore0 hsub0 (fun c s => cc0__sc_body (crd c s) mA (Memref.isWhole_whole _) mT (Memref.isWhole_whole _) mRow (Memref.isWhole_whole _) mHist (Memref.isWhole_whole _)
          mCand (Memref.isWhole_whole _) mThr (Memref.isWhole_whole _) mOff (Memref.isWhole_whole _) cc0_scratch5 cc0_scratch6 cc0_scoped0) ⟨⟩ c s := rfl

theorem tile_obl : K.TileObl D 𝒱 (PP m) v₀ 0 := by
  intro d c s O W hO _ _
  simp only [show (PP m).ox = fun _ _ => 0 from rfl, add_zero]
  have hcs : (K.core 0 c).val < grid0.bound 0 ∧ (K.sub 0 s).val < grid0.bound 1 := ⟨c.isLt, s.isLt⟩
  change _ ⊢ wp _ _ _ (Pipeline.liftProg (defs₀ (F := Bits) (.scVector (K.core 0 c) (K.sub 0 s)) 0 ())) _
  refine BI.BIBase.Entails.trans ?_ (Pipeline.wp_liftProg D (Pipeline.defs_kernel pcfgs defs₀) 𝒱₀ _ Set.univ none _ _)
  rw [tile_defs]
  simp only [SparseCore.onTile, hcs, and_self, ↓reduceDIte]
  exact tile_body m d ⟨_, hcs.1⟩ ⟨_, hcs.2⟩ O W hO

/-- A core's part is its tiles' parts, both ways. -/
theorem vec_split : K.VecSplit' (PP m) 0 := by
  intro d c
  show (bigSep Finset.univ fun s : Fin 16 => Tgo m d c s) ⊢ |={Set.univ}=> iprop((bigSep Finset.univ fun s : Fin 16 => Tgo m d c s)
      ∗ ((bigSep Finset.univ fun s : Fin 16 => Ttd m d c s) -∗ (bigSep Finset.univ fun s : Fin 16 => Ttd m d c s)))
  iintro H
  imodintro
  isplitl [H]
  · iexact H
  · iintro H
    iexact H

/-! ## All the parts -/

theorem Tr_disjoint : ∀ p ∈ (Finset.univ : Finset (Fin 2 × Fin 16)), ∀ p' ∈ (Finset.univ : Finset (Fin 2 × Fin 16)), p ≠ p' →
    Disjoint (Tr (rb (crd p.1 p.2))) (Tr (rb (crd p'.1 p'.2))) := by
  rintro ⟨c, s⟩ - ⟨c', s'⟩ - h
  refine Finset.disjoint_left.2 fun x hx hx' => h ?_
  have h1 : rb (crd c s) ≤ (x 0).val ∧ (x 0).val < rb (crd c s) + 256 := (Finset.mem_filter.1 hx).2
  have h2 : rb (crd c' s') ≤ (x 0).val ∧ (x 0).val < rb (crd c' s') + 256 := (Finset.mem_filter.1 hx').2
  have e1 : rb (crd c s) = (s.val * 2 + c.val) * 256 := rfl
  have e2 : rb (crd c' s') = (s'.val * 2 + c'.val) * 256 := rfl
  have hc := c.isLt
  have hc' := c'.isLt
  exact Prod.ext (Fin.ext (by show c.val = c'.val; omega)) (Fin.ext (by show s.val = s'.val; omega))

theorem Tr_cover : (Finset.univ : Finset (Fin 2 × Fin 16)).biUnion (fun p => Tr (rb (crd p.1 p.2))) = Finset.univ := by
  refine Finset.eq_univ_of_forall fun x => Finset.mem_biUnion.mpr ?_
  have h0 : (x 0).val < 8192 := (x 0).isLt
  refine ⟨(⟨(x 0).val / 256 % 2, by omega⟩, ⟨(x 0).val / 512, by omega⟩), Finset.mem_univ _, Finset.mem_filter.2 ⟨Finset.mem_univ _, ?_⟩⟩
  have e : rb (crd ⟨(x 0).val / 256 % 2, by omega⟩ ⟨(x 0).val / 512, by omega⟩) = ((x 0).val / 512 * 2 + (x 0).val / 256 % 2) * 256 := rfl
  show rb _ ≤ _ ∧ _ < rb _ + 256
  rw [e]
  omega

theorem arg_tiles (d : Dev nD) (f : Buf (Elt Bits) (aLoc d)) :
    (aLoc d ↦{fullShare} f : sProp 𝕄) ⊣⊢ iprop((aLoc d ↦{Transfers.shareDrop fullShare (2 * 16)} f)
      ∗ bigSep Finset.univ fun p : Fin 2 × Fin 16 => (aLoc d ↦{tq p.1 p.2} f : sProp 𝕄)) := by
  have e : (bigSep Finset.univ fun k : Fin (2 * 16) => (aLoc d ↦{Transfers.shareTok fullShare (2 * 16) k} f : sProp 𝕄))
      = bigSep Finset.univ fun p : Fin 2 × Fin 16 => (aLoc d ↦{tq p.1 p.2} f : sProp 𝕄) :=
    bigSep_univ_equiv finProdFinEquiv (fun k : Fin (2 * 16) => (aLoc d ↦{Transfers.shareTok fullShare (2 * 16) k} f : sProp 𝕄))
  rw [← e]
  exact Transfers.pointsTo_toks fullShare (2 * 16)

theorem out_tiles (d : Dev nD) (f : Buf (Elt Bits) (oLoc d)) :
    (oLoc d ↦{fullShare} f : sProp 𝕄) = bigSep Finset.univ fun p : Fin 2 × Fin 16 => (oLoc d ↦[Tr (rb (crd p.1 p.2))]{fullShare} f : sProp 𝕄) := by
  rw [← pointsTo_biUnion Finset.univ (ℓ := oLoc d) (fun p : Fin 2 × Fin 16 => Tr (rb (crd p.1 p.2))) Tr_disjoint, Tr_cover]
  try rfl

/-- What the whole result is to be. -/
def Res (f : S8192x16384.Idx → BitVec 32) (g : S8192.Idx → BitVec 32) : Prop := ∀ r < 8192, at1 g r = thrW (ata f r)

theorem res_of_parts {f : S8192x16384.Idx → BitVec 32} {fs : Fin 2 × Fin 16 → S8192.Idx → BitVec 32} {g : S8192.Idx → BitVec 32}
    (h : ∀ p, Out f (rb (crd p.1 p.2)) (fs p)) (hg : ∀ p ∈ (Finset.univ : Finset (Fin 2 × Fin 16)), ∀ x ∈ Tr (rb (crd p.1 p.2)), g x = fs p x) : Res f g := by
  intro r hr
  have hx : Shape.ofLane (d := ![8192]) ⟨r, hr⟩ ∈ (Finset.univ : Finset (Fin 2 × Fin 16)).biUnion (fun p => Tr (rb (crd p.1 p.2))) := by
    rw [Tr_cover]; exact Finset.mem_univ _
  obtain ⟨p, hp, hx⟩ := Finset.mem_biUnion.1 hx
  have hx' : rb (crd p.1 p.2) ≤ r ∧ r < rb (crd p.1 p.2) + 256 := (Finset.mem_filter.1 hx).2
  have key := h p (r - rb (crd p.1 p.2)) (by omega)
  rw [show rb (crd p.1 p.2) + (r - rb (crd p.1 p.2)) = r by omega] at key
  rw [← key, at1_lane (N := 8192) g hr, at1_lane (N := 8192) (fs p) hr]
  exact hg p hp _ hx

theorem all_pure {I : Type} [DecidableEq I] {φ : I → Prop} (S : Finset I) : (bigSep S fun p => (iprop(⌜φ p⌝) : sProp 𝕄)) ⊢ (iprop(⌜∀ p ∈ S, φ p⌝) : sProp 𝕄) := by
  induction S using Finset.induction_on with
  | empty =>
    iintro -
    ipureintro
    exact fun p hp => absurd hp (Finset.notMem_empty p)
  | insert a S ha ih =>
    rw [SparseCore.bigSep_insert' ha]
    iintro ⟨%h, H⟩
    ihave H' := ih $$ H
    icases H' with %h'
    ipureintro
    intro p hp
    rcases Finset.mem_insert.1 hp with rfl | hp
    · exact h
    · exact h' p hp

theorem parts_glue (d : Dev nD) (f : S8192x16384.Idx → BitVec 32) (fs : Fin 2 × Fin 16 → S8192.Idx → BitVec 32) :
    (bigSep Finset.univ fun p : Fin 2 × Fin 16 => (iprop(⌜Out f (rb (crd p.1 p.2)) (fs p)⌝ ∗ (oLoc d ↦[Tr (rb (crd p.1 p.2))]{fullShare} fs p)) : sProp 𝕄))
      ⊢ (iprop(∃ g : S8192.Idx → BitVec 32, ⌜Res f g⌝ ∗ (oLoc d ↦{fullShare} g)) : sProp 𝕄) := by
  refine (BIBase.Entails.of_eq (bigSep_sep' _ _ _)).trans ?_
  iintro ⟨Hp, H⟩
  ihave Hp' := (all_pure Finset.univ) $$ Hp
  icases Hp' with %hp
  ihave H' := (pointsTo_biUnion_join (ℓ := oLoc d) (q := fullShare) (Val := Elt Bits) Finset.univ (fun p : Fin 2 × Fin 16 => Tr (rb (crd p.1 p.2))) fs (fs (0, 0)) Tr_disjoint) $$ H
  icases H' with ⟨%g, %hg, Hg⟩
  rw [Tr_cover]
  iexists g
  isplitr [Hg]
  · ipureintro; exact res_of_parts (fun p => hp p (Finset.mem_univ _)) hg
  · iexact Hg

theorem parts_join (d : Dev nD) (f : S8192x16384.Idx → BitVec 32) :
    (bigSep Finset.univ fun p : Fin 2 × Fin 16 => iprop(∃ g : S8192.Idx → BitVec 32, ⌜Out f (rb (crd p.1 p.2)) g⌝ ∗ (oLoc d ↦[Tr (rb (crd p.1 p.2))]{fullShare} g)))
      ⊢ (iprop(∃ g : S8192.Idx → BitVec 32, ⌜Res f g⌝ ∗ (oLoc d ↦{fullShare} g)) : sProp 𝕄) := by
  refine (bigSep_exists_pi Finset.univ (fun (p : Fin 2 × Fin 16) (g : S8192.Idx → BitVec 32) =>
    (iprop(⌜Out f (rb (crd p.1 p.2)) g⌝ ∗ (oLoc d ↦[Tr (rb (crd p.1 p.2))]{fullShare} g)) : sProp 𝕄))).trans ?_
  iintro ⟨%fs, H⟩
  iapply (parts_glue d f fs) $$ H

end Cert.Topk
end
-- ==== Proof.Run.lean ====
/-
  The run of `Select`: its argument kept, every counter back at zero, and in the result each row's threshold word.
-/
module

public import proofs.«01_k».proof.Proof.Launch

@[expose] public section

noncomputable section

namespace Cert.Topk

open Cert.Select Cert.Select.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.Rounds
open Idealize.ShloMosaic.SparseCore.Cfg (HIx Pay)

variable (m : (ℓ : Loc nD τ sig) → Buf (Elt Bits) ℓ) (ρ : Dev nD → PrngReg)

/-- The launch's ghost state: the handshakes' rounds, no transfer. -/
def g₀ : UU := (initOf K.hsCells K.hsToks, 1)

theorem all_emp {I : Type} (S : Finset I) : (bigSep S fun _ => iprop(emp)) = (iprop(emp) : sProp 𝕄) := bigSep_emp_const S

theorem g₀_deal : (ownU g₀ : sProp 𝕄)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (PP m).x q thr) := by
  have e : (bigSep Finset.univ fun thr : Thread nD τ => bigSep Finset.univ fun q : Fin 1 => (PP m).x q thr) = (iprop(emp) : sProp 𝕄) :=
    (bigSep_congr fun _ _ => all_emp _).trans (all_emp _)
  rw [e, all_emp]
  unfold g₀
  iintro H
  ihave H' := (ownU_pair (initOf K.hsCells K.hsToks) (1 : Counters)) $$ H
  icases H' with ⟨H, -⟩
  imodintro
  isplitl [H]
  · iexact H
  isplitr
  · iempintro
  · iempintro

theorem main_bufs (d : Dev nD) (W : (b : Ref sig .tc) → Buf (Elt Bits) ((d.tc : Thread nD τ).loc b)) :
    (unscopedBufs d W : sProp 𝕄) = iprop((aLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes: every tile's part. -/
theorem call_in (d : Dev nD) : (bigSep Finset.univ fun c : Fin (K.nCore 0) => (PP m).st 0 d c)
    = (iprop((bigSep Finset.univ fun p : Fin 2 × Fin 16 => (aLoc d ↦{tq p.1 p.2} m (aLoc d) : sProp 𝕄)) ∗ (oLoc d ↦{fullShare} m (oLoc d))) : sProp 𝕄) := by
  rw [out_tiles, ← bigSep_sep', BI.bigSep_univ_prod]
  rfl

/-- What it gives back. -/
theorem call_out (d : Dev nD) : (bigSep Finset.univ fun c : Fin (K.nCore 0) => (PP m).dn 0 d c)
    ⊢ (iprop((bigSep Finset.univ fun p : Fin 2 × Fin 16 => (aLoc d ↦{tq p.1 p.2} m (aLoc d) : sProp 𝕄))
        ∗ ∃ g : S8192.Idx → BitVec 32, ⌜Res (m (aLoc d)) g⌝ ∗ (oLoc d ↦{fullShare} g)) : sProp 𝕄) := by
  have e : (bigSep Finset.univ fun c : Fin (K.nCore 0) => (PP m).dn 0 d c)
      = (bigSep Finset.univ fun p : Fin 2 × Fin 16 => (iprop((aLoc d ↦{tq p.1 p.2} m (aLoc d))
          ∗ ∃ g : S8192.Idx → BitVec 32, ⌜Out (m (aLoc d)) (rb (crd p.1 p.2)) g⌝ ∗ (oLoc d ↦[Tr (rb (crd p.1 p.2))]{fullShare} g)) : sProp 𝕄)) := by
    rw [BI.bigSep_univ_prod]
    rfl
  rw [e]
  refine (BIBase.Entails.of_eq (bigSep_sep' _ _ _)).trans ?_
  iintro ⟨Ha, Ho⟩
  isplitl [Ha]
  · iexact Ha
  · iapply (parts_join d (m (aLoc d))) $$ Ho

/-- What the program ends with. -/
def Fin' (d : Dev nD) : sProp 𝕄 :=
  iprop((aLoc d ↦{fullShare} m (aLoc d)) ∗ ∃ g : S8192.Idx → BitVec 32, ⌜Res (m (aLoc d)) g⌝ ∗ (oLoc d ↦{fullShare} g))

theorem main_run (κ : GSem nD τ sig → ℕ) (d : Dev nD) :
    iprop(K.ctx EH (PP m) κ ∗ K.tcSt EH d 0 ∗ K.tcRes m ρ d ∗ emp)
      ⊢ wp frame (wpE (K.defs D) 𝒱 (SparseCore.T d) none) Set.univ (main d)
          fun _ => iprop(K.tcSt EH d 1 ∗ Fin' m d ∗ K.tcEnd d) := by
  unfold SparseCore.Cfg.tcRes SparseCore.Cfg.tcEnd Fin'
  rw [main_bufs]
  simp only [main, wp_bind, wp_pure]
  iintro ⟨#Hctx, Hst, ⟨Hb, ⟨Ha, Ho⟩, Hts, -⟩, -⟩
  ihave Ha' := (arg_tiles d (m (aLoc d))).1 $$ Ha
  icases Ha' with ⟨Hr, Ha⟩
  iapply (K.wp_run D 𝒱 (EH := EH) (P := PP m) κ d 0) $$ [Hst Ha Ho Hr Hb Hts]
  isplitr
  · iexact Hctx
  isplitl [Hst]
  · iexact Hst
  isplitl [Ha Ho]
  · rw [call_in]
    isplitl [Ha]
    · iexact Ha
    · iexact Ho
  iintro ⟨Hst, Hdn⟩
  ihave Hdn' := (call_out m d) $$ Hdn
  icases Hdn' with ⟨Ha, Ho⟩
  imodintro
  isplitl [Hst]
  · iexact Hst
  isplitr [Hb Hts]
  · isplitr [Ho]
    · iapply (arg_tiles d (m (aLoc d))).2
      isplitl [Hr]
      · iexact Hr
      · iexact Ha
    · iexact Ho
  isplitl [Hb] <;> iassumption

/-- What a final memory shows. -/
def Ends (d : Dev nD) (s' : Phys nD τ sig (Elt Bits)) : Prop := s'.mem.mem (aLoc d) = m (aLoc d) ∧ Res (m (aLoc d)) (s'.mem.mem (oLoc d))

theorem main_ends (d : Dev nD) (s' : Phys nD τ sig (Elt Bits)) : iprop(Fin' m d ∗ SI s') ⊢ (⌜Ends m d s'⌝ : sProp 𝕄) := by
  unfold Fin'
  iintro ⟨⟨Ha, %g, %hg, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := g)) $$ [HSI Ho]
  · isplitl [HSI] <;> iassumption
  icases H with %h2
  ipureintro
  have e2 : s'.mem.mem (oLoc d) = g := funext fun (x : Idx (oLoc d)) => h2 x (Finset.mem_univ _)
  refine ⟨funext fun (x : Idx (aLoc d)) => h1 x (Finset.mem_univ _), ?_⟩
  rw [e2]
  exact hg

/-- The run. -/
theorem run_select : θ_run (Cert.Select.defs (F := Bits)) (Cert.Select.threads (F := Bits)) ⟨m, fun _ => 0, ρ⟩
    (fun r => (∀ d : Dev nD, r.2.mem (aLoc d) = m (aLoc d) ∧ Res (m (aLoc d)) (r.2.mem (oLoc d))) ∧ r.2.sem = fun _ => 0) :=
  SparseCore.Cfg.θ_run_sc_quiescent (K := K) (D := D) (𝒱 := 𝒱) (EH := EH) (P := PP m) (A := ∅) scFacts v₀
    (fun q hq => match q with | 0 => nomatch hq)
    (fun q _ => match q with | 0 => tile_obl m)
    (fun q _ => match q with | 0 => SparseCore.Cfg.VecSplit.of_plain (vec_split m))
    m ρ main (fun _ => iprop(emp)) (Fin' m) g₀ (sep_elim_left.trans (g₀_deal m)) (main_run m ρ) (Ends m) (main_ends m) _ (fun _ h hz => ⟨h, hz⟩)

end Cert.Topk
end
-- ==== Proof.Tally.lean ====
/-
  Counting places of a row: a row's count over 16 interleaved lanes, sums of counts of disjoint marks, and counts of marks that
  stop.
-/
module

public import Mathlib.Data.Nat.Count
public import Mathlib.Algebra.BigOperators.Group.Finset.Basic
public import Mathlib.Algebra.BigOperators.Intervals
public import Mathlib.Algebra.Order.BigOperators.Group.Finset

@[expose] public section

namespace Cert.Topk

/-- A count is the sum of its marks. -/
theorem count_eq_sum (p : ℕ → Prop) [DecidablePred p] (n : ℕ) : Nat.count p n = ∑ i ∈ Finset.range n, if p i then 1 else 0 := by
  rw [Nat.count_eq_card_filter_range, Finset.card_filter]

/-- Lane `l` holding the places `16 v + l`, the counts of the 16 lanes add up to the count of the row. -/
theorem count_lanes (p : ℕ → Prop) [DecidablePred p] (n : ℕ) :
    ∑ l ∈ Finset.range 16, Nat.count (fun v => p (16 * v + l)) n = Nat.count p (16 * n) := by
  induction n with
  | zero => simp
  | succ n ih =>
    rw [show 16 * (n + 1) = 16 * n + 16 from Nat.mul_succ 16 n, Nat.count_add, ← ih, count_eq_sum (fun k => p (16 * n + k)) 16, ← Finset.sum_add_distrib]
    refine Finset.sum_congr rfl fun l _ => ?_
    rw [Nat.count_succ]

/-- Marks that split into two disjoint kinds. -/
theorem count_split (p q r : ℕ → Prop) [DecidablePred p] [DecidablePred q] [DecidablePred r] (n : ℕ)
    (h : ∀ i < n, (r i ↔ p i ∨ q i) ∧ ¬ (p i ∧ q i)) : Nat.count r n = Nat.count p n + Nat.count q n := by
  rw [count_eq_sum, count_eq_sum, count_eq_sum, ← Finset.sum_add_distrib]
  refine Finset.sum_congr rfl fun i hi => ?_
  obtain ⟨h1, h2⟩ := h i (Finset.mem_range.1 hi)
  by_cases hp : p i <;> by_cases hq : q i
  · exact absurd ⟨hp, hq⟩ h2
  · rw [if_pos (h1.2 (Or.inl hp)), if_pos hp, if_neg hq]
  · rw [if_pos (h1.2 (Or.inr hq)), if_neg hp, if_pos hq]
  · rw [if_neg (fun hr => (h1.1 hr).elim hp hq), if_neg hp, if_neg hq]

/-- More marks, no smaller count. -/
theorem count_mono_of (p q : ℕ → Prop) [DecidablePred p] [DecidablePred q] (n : ℕ) (h : ∀ i < n, p i → q i) : Nat.count p n ≤ Nat.count q n := by
  rw [count_eq_sum, count_eq_sum]
  refine Finset.sum_le_sum fun i hi => ?_
  by_cases hp : p i
  · rw [if_pos hp, if_pos (h i (Finset.mem_range.1 hi) hp)]
  · rw [if_neg hp]; exact Nat.zero_le _

theorem count_congr_of (p q : ℕ → Prop) [DecidablePred p] [DecidablePred q] (n : ℕ) (h : ∀ i < n, p i ↔ q i) : Nat.count p n = Nat.count q n :=
  le_antisymm (count_mono_of p q n fun i hi => (h i hi).1) (count_mono_of q p n fun i hi => (h i hi).2)

/-- Marks that, once they stop, do not come back: a place is marked if and only if it comes before their count. -/
theorem lt_count_iff (p : ℕ → Prop) [DecidablePred p] (hp : ∀ i, p (i + 1) → p i) : ∀ n, ∀ j < n, p j ↔ j < Nat.count p n
  | 0, _, h => absurd h (Nat.not_lt_zero _)
  | n + 1, j, hj => by
    have hle := Nat.count_le (p := p) (n := n)
    have hdown : ∀ d i, p (i + d) → p i := by
      intro d
      induction d with
      | zero => exact fun i h => h
      | succ d ih => exact fun i h => ih i (hp _ h)
    rw [Nat.count_succ]
    by_cases hn : p n
    · have hall : ∀ i < n, p i := fun i hi => hdown (n - i) i (by rwa [show i + (n - i) = n by omega])
      have hc : Nat.count p n = n := Nat.count_iff_forall.2 fun i hi => hall i hi
      rw [if_pos hn, hc]
      refine ⟨fun _ => hj, fun _ => ?_⟩
      exact hdown (n - j) j (by rwa [show j + (n - j) = n by omega])
    · rw [if_neg hn, Nat.add_zero]
      by_cases h : j < n
      · exact lt_count_iff p hp n j h
      · obtain rfl : j = n := by omega
        exact ⟨fun h' => absurd h' hn, fun h' => by omega⟩

end Cert.Topk
end
-- ==== Proof.Find.lean ====
/-
  The search for the bin of the 64th largest: with `bins H b` words in bin `b` and `abo H b` in the bins from `b` up, the four
  chunks find the bin `b` with `64 ≤ abo H b` and `abo H (b + 1) < 64`, if there is one.
-/
module

public import proofs.«01_k».proof.Proof.Spec
public import proofs.«01_k».proof.Proof.Tally

@[expose] public section

noncomputable section

namespace Cert.Topk

open Cert.Select Cert.Select.Gen
open Idealize.ShloMosaic

theorem slt_ofNat {a b : ℕ} (ha : a < 2 ^ 31) (hb : b < 2 ^ 31) : (BitVec.ofNat 32 a).slt (BitVec.ofNat 32 b) = decide (a < b) := by
  rw [BitVec.slt]
  rw [BitVec.toInt_eq_toNat_of_lt (by rw [BitVec.toNat_ofNat]; omega), BitVec.toInt_eq_toNat_of_lt (by rw [BitVec.toNat_ofNat]; omega)]
  rw [BitVec.toNat_ofNat, BitVec.toNat_ofNat, Nat.mod_eq_of_lt (by omega), Nat.mod_eq_of_lt (by omega)]
  congr 1
  exact propext Int.ofNat_lt

theorem maxsi_ofNat {a b : ℕ} (ha : a < 2 ^ 31) (hb : b < 2 ^ 31) :
    IntOp.maxsi (BitVec.ofNat 32 a) (BitVec.ofNat 32 b) = BitVec.ofNat 32 (max a b) := by
  show (if (BitVec.ofNat 32 b).slt (BitVec.ofNat 32 a) then BitVec.ofNat 32 a else BitVec.ofNat 32 b) = _
  rw [slt_ofNat hb ha]
  by_cases h : b < a
  · rw [if_pos (decide_eq_true h), max_eq_left h.le]
  · rw [if_neg (by simpa using h), max_eq_right (by omega)]

theorem maxui_ofNat {a b : ℕ} (ha : a < 2 ^ 32) (hb : b < 2 ^ 32) :
    IntOp.maxui (BitVec.ofNat 32 a) (BitVec.ofNat 32 b) = BitVec.ofNat 32 (max a b) := by
  apply BitVec.eq_of_toNat_eq
  rw [BitVec.toNat_ofNat, Nat.mod_eq_of_lt (by omega)]
  unfold IntOp.maxui
  have e : (BitVec.ofNat 32 b).ult (BitVec.ofNat 32 a) = decide (b < a) := by
    rw [BitVec.ult, BitVec.toNat_ofNat, BitVec.toNat_ofNat, Nat.mod_eq_of_lt ha, Nat.mod_eq_of_lt hb]
  have e' : (BitVec.ofNat 32 a).ult (BitVec.ofNat 32 b) = decide (a < b) := by
    rw [BitVec.ult, BitVec.toNat_ofNat, BitVec.toNat_ofNat, Nat.mod_eq_of_lt ha, Nat.mod_eq_of_lt hb]
  simp only [e, e', decide_eq_true_eq]
  split_ifs <;> rw [BitVec.toNat_ofNat, Nat.mod_eq_of_lt (by omega)] <;> omega

/-- A word below `2 ^ 31` with its sign turned over. -/
theorem flip_ofNat {a : ℕ} (ha : a < 2 ^ 31) : BitVec.ofNat 32 a ^^^ 2147483648#32 = BitVec.ofNat 32 (2 ^ 31 + a) := by
  apply BitVec.eq_of_toNat_eq
  rw [BitVec.toNat_xor, BitVec.toNat_ofNat, BitVec.toNat_ofNat, BitVec.toNat_ofNat, Nat.mod_eq_of_lt (by omega), Nat.mod_eq_of_lt (by omega),
    Nat.mod_eq_of_lt (by omega)]
  have h := Nat.two_pow_add_eq_or_of_lt (i := 31) ha 1
  rw [Nat.mul_one] at h
  rw [h]
  apply Nat.eq_of_testBit_eq
  intro i
  rw [Nat.testBit_xor, Nat.testBit_or, show (2147483648 : ℕ) = 2 ^ 31 from rfl, Nat.testBit_two_pow]
  by_cases hi : 31 = i
  · subst hi
    rw [Nat.testBit_lt_two_pow ha]; rfl
  · simp [hi]

theorem unflip_ofNat {a : ℕ} (ha : a < 2 ^ 31) : BitVec.ofNat 32 (2 ^ 31 + a) ^^^ 2147483648#32 = BitVec.ofNat 32 a := by
  rw [← flip_ofNat ha, BitVec.xor_assoc, BitVec.xor_self, BitVec.xor_zero]

/-- The words of bin `b`, over all lanes. -/
def bins (H : ℕ → ℕ → ℕ) (b : ℕ) : ℕ := ∑ l ∈ Finset.range 16, H l b
/-- The words of the lower 64 bins from `b` up. -/
def abo (H : ℕ → ℕ → ℕ) (b : ℕ) : ℕ := ∑ c ∈ Finset.Ico b 64, bins H c

variable {H : ℕ → ℕ → ℕ}

theorem abo_succ {b : ℕ} (hb : b < 64) : abo H b = bins H b + abo H (b + 1) := by
  unfold abo; exact Finset.sum_eq_sum_Ico_succ_bot hb _

theorem abo_end : abo H 64 = 0 := by unfold abo; simp

theorem abo_anti {b c : ℕ} (h : b ≤ c) : abo H c ≤ abo H b := by
  unfold abo
  exact Finset.sum_le_sum_of_subset (Finset.Ico_subset_Ico_left h)

/-- The top `j + 1` bins of a chunk, above which the next chunk. -/
theorem abo_chunk {c : ℕ} (hc : c < 4) : ∀ j < 16,
    (∑ i ∈ Finset.range (j + 1), bins H (16 * c + (15 - i))) + abo H (16 * c + 16) = abo H (16 * c + 15 - j)
  | 0, _ => by
    rw [Finset.sum_range_one, Nat.sub_zero, Nat.sub_zero, abo_succ (b := 16 * c + 15) (by omega)]
  | j + 1, hj => by
    have ih := abo_chunk hc j (by omega)
    rw [Finset.sum_range_succ, abo_succ (b := 16 * c + 15 - (j + 1)) (by omega),
      show 16 * c + 15 - (j + 1) + 1 = 16 * c + 15 - j by omega, ← ih,
      show 16 * c + (15 - (j + 1)) = 16 * c + 15 - (j + 1) by omega]
    omega

/-! ## The vectors of one chunk -/

theorem psum_lane (c : ℕ) {j : ℕ} (hj : j < 16) : ∀ n, at1 (psum H c n) j = BitVec.ofNat 32 (∑ l ∈ Finset.range n, H l (16 * c + j))
  | 0 => by rw [psum, at1_lane _ hj]; rfl
  | n + 1 => by
    rw [psum, at1_lane _ hj, Finset.sum_range_succ, BitVec.ofNat_add, ← psum_lane c hj n, at1_lane _ hj]
    rfl

theorem tots_lane (c : ℕ) {j : ℕ} (hj : j < 16) : at1 (tots H c) j = BitVec.ofNat 32 (bins H (16 * c + j)) := psum_lane c hj 16

theorem rev_lane (c : ℕ) {j : ℕ} (hj : j < 16) : at1 (rev (tots H c)) j = BitVec.ofNat 32 (bins H (16 * c + (15 - j))) := by
  rw [rev, at1_lv _ hj, tots_lane c (by omega)]

variable {c : ℕ} (hc : c < 4)

include hc

theorem cumv_lane {j : ℕ} (hj : j < 16) :
    at1 (cumv (BitVec.ofNat 32 (abo H (16 * c + 16))) (rev (tots H c))) j = BitVec.ofNat 32 (abo H (16 * c + 15 - j)) := by
  rw [← abo_chunk hc j hj, BitVec.ofNat_add, ← csum_ofNat (v := rev (tots H c)) (fun l hl => rev_lane c hl) j hj, at1_lane _ hj, csum,
    ← scan_lane .sum _ j hj]
  rfl

theorem tot15_eq : Scalar.addi (BitVec.ofNat 32 (abo H (16 * c + 16))) (tot15 (tots H c)) = BitVec.ofNat 32 (abo H (16 * c)) := by
  rw [tot15, extract15, scan_eq, at1_lv _ (by omega),
    show cscan .sum (tots H c) 15 = _ from csum_ofNat (g := fun l => bins H (16 * c + l)) (fun l hl => tots_lane c hl) 15 (by omega)]
  show _ + _ = _
  rw [← BitVec.ofNat_add]
  refine congrArg (BitVec.ofNat 32) ?_
  have h := abo_chunk (H := H) hc 15 (by omega)
  rw [show 16 * c + 15 - 15 = 16 * c by omega] at h
  rw [← h, Nat.add_comm]
  refine congrArg (· + abo H (16 * c + 16)) ?_
  exact (Finset.sum_range_reflect (fun l => bins H (16 * c + l)) 16).symm

variable (hA : abo H 0 < 2 ^ 31)

include hA

omit hc in
theorem abo_lt (b : ℕ) : abo H b < 2 ^ 31 := lt_of_le_of_lt (abo_anti (Nat.zero_le b)) hA

/-- How many bins of the chunk, from the top, have fewer than 64 words from them up. -/
def below (H : ℕ → ℕ → ℕ) (c : ℕ) : ℕ := Nat.count (fun j => abo H (16 * c + 15 - j) < 64) 16

omit hc hA in
theorem below_le : below H c ≤ 16 := Nat.count_le _

omit hc hA in
theorem below_iff {j : ℕ} (hj : j < 16) : abo H (16 * c + 15 - j) < 64 ↔ j < below H c :=
  lt_count_iff (fun j => abo H (16 * c + 15 - j) < 64) (fun i h => lt_of_le_of_lt (abo_anti (by omega)) h) 16 j hj

theorem okv_lane {j : ℕ} (hj : j < 16) :
    okv (BitVec.ofNat 32 (abo H (16 * c + 16))) (rev (tots H c)) (ln j hj) = BitVec.ofBool (decide (abo H (16 * c + 15 - j) < 64)) := by
  have h := cumv_lane (H := H) hc hj
  rw [at1_lane _ hj] at h
  show BitVec.ofBool (BitVec.slt (cumv _ _ (ln j hj)) (BitVec.ofNat 32 64)) = _
  rw [show cumv _ _ (ln j hj) = _ from h, slt_ofNat (abo_lt hA _) (by omega)]

theorem nbv_eq : nbv (BitVec.ofNat 32 (abo H (16 * c + 16))) (rev (tots H c)) = BitVec.ofNat 32 (below H c) := by
  rw [nbv, extract15, scan_eq, at1_lv _ (by omega),
    show cscan .sum (extui 32 (okv (BitVec.ofNat 32 (abo H (16 * c + 16))) (rev (tots H c))) natLt_1_32) 15 = _ from
      csum_ofNat (g := fun j => if abo H (16 * c + 15 - j) < 64 then 1 else 0) (fun l hl => ?_) 15 (by omega)]
  · rw [below, count_eq_sum]
  · rw [at1_lane _ hl]
    show (okv _ _ (ln l hl)).setWidth 32 = _
    rw [okv_lane hc hA hl]
    by_cases h : abo H (16 * c + 15 - l) < 64
    · rw [if_pos h, decide_eq_true h]; rfl
    · rw [if_neg h, decide_eq_false h]; rfl

omit hc hA in
/-- The largest of lanes 0 to `j`, their signs turned over. -/
theorem cmax_ofNat {v : IVec S16 32} {g : ℕ → ℕ} (hg : ∀ l < 16, g l < 2 ^ 31) (h : ∀ l < 16, at1 v l = BitVec.ofNat 32 (2 ^ 31 + g l)) :
    ∀ j < 16, ∃ M, cscan .max v j = BitVec.ofNat 32 (2 ^ 31 + M) ∧ (∀ l ≤ j, g l ≤ M) ∧ ∃ l ≤ j, M = g l
  | 0, _ => ⟨g 0, h 0 (by omega), fun l hl => by obtain rfl : l = 0 := by omega
                                                 exact le_rfl, 0, le_rfl, rfl⟩
  | j + 1, hj => by
    obtain ⟨M, e, hM, l0, hl0, e0⟩ := cmax_ofNat hg h j (by omega)
    have h0 := hg l0 (by omega)
    have h1 := hg (j + 1) hj
    refine ⟨max M (g (j + 1)), ?_, fun l hl => ?_, ?_⟩
    · show IntOp.maxui (cscan .max v j) (at1 v (j + 1)) = _
      rw [e, h (j + 1) hj, maxui_ofNat (by omega) (by omega)]
      refine congrArg (BitVec.ofNat 32) ?_
      omega
    · by_cases hl' : l ≤ j
      · exact (hM l hl').trans (le_max_left _ _)
      · obtain rfl : l = j + 1 := by omega
        exact le_max_right _ _
    · by_cases hle : M ≤ g (j + 1)
      · exact ⟨j + 1, le_rfl, max_eq_right hle⟩
      · exact ⟨l0, by omega, by rw [max_eq_left (by omega), e0]⟩

/-- The largest count below 64, or the count above the chunk: the words above the bin found. -/
theorem abvv_eq : Scalar.maxsi (BitVec.ofNat 32 (abo H (16 * c + 16))) (abvv (BitVec.ofNat 32 (abo H (16 * c + 16))) (rev (tots H c)))
    = BitVec.ofNat 32 (abo H (16 * c + 16 - below H c)) := by
  have hb := below_le (H := H) (c := c)
  obtain ⟨M, e, hM, l0, hl0, e0⟩ := cmax_ofNat
    (v := xori (select (okv (BitVec.ofNat 32 (abo H (16 * c + 16))) (rev (tots H c))) (cumv (BitVec.ofNat 32 (abo H (16 * c + 16))) (rev (tots H c)))
      (broadcast S16 0#32)) (broadcast S16 2147483648#32))
    (g := fun j => if abo H (16 * c + 15 - j) < 64 then abo H (16 * c + 15 - j) else 0)
    (fun l _ => by have := abo_lt hA (16 * c + 15 - l); show (if _ then _ else _) < _; split_ifs <;> omega)
    (fun l hl => by
      have h := cumv_lane (H := H) hc hl
      rw [at1_lane _ hl] at h
      have := abo_lt hA (16 * c + 15 - l)
      rw [at1_lane _ hl]
      show (if okv _ _ (ln l hl) = 1#1 then cumv _ _ (ln l hl) else 0#32) ^^^ 2147483648#32 = _
      rw [okv_lane hc hA hl, show cumv _ _ (ln l hl) = _ from h]
      by_cases h : abo H (16 * c + 15 - l) < 64
      · rw [decide_eq_true h, if_pos (show BitVec.ofBool true = 1#1 from rfl), if_pos h, flip_ofNat this]
      · rw [decide_eq_false h, if_neg (by decide), if_neg h]; rfl) 15 (by omega)
  have hM' : M < 2 ^ 31 := by
    have := abo_lt hA (16 * c + 15 - l0)
    rw [e0]; show (if _ then _ else _) < _; split_ifs <;> omega
  rw [abvv, extract15]
  have ex : ∀ s : IVec S16 32, at1 (xori s (broadcast S16 2147483648#32)) 15 = at1 s 15 ^^^ 2147483648#32 := fun s => by
    rw [at1_lane _ (show 15 < 16 by omega), at1_lane s (show 15 < 16 by omega)]; rfl
  rw [ex, scan_eq, at1_lv _ (by omega), e, unflip_ofNat hM']
  refine (maxsi_ofNat (abo_lt hA _) hM').trans (congrArg (BitVec.ofNat 32) ?_)
  refine le_antisymm (max_le (abo_anti (by omega)) ?_) ?_
  · rw [e0]
    show (if _ then _ else _) ≤ _
    split_ifs with hlt
    · have := (below_iff (H := H) (c := c) (j := l0) (by omega)).1 hlt
      exact abo_anti (by omega)
    · exact Nat.zero_le _
  · by_cases h0 : below H c = 0
    · rw [h0]; exact le_max_left _ _
    · refine le_trans ?_ (le_max_right _ _)
      have hm := hM (below H c - 1) (by omega)
      have hlt := (below_iff (H := H) (c := c) (j := below H c - 1) (by omega)).2 (by omega)
      rw [if_pos hlt] at hm
      rwa [show 16 * c + 16 - below H c = 16 * c + 15 - (below H c - 1) by omega]

/-! ## The search -/

omit hc hA in
/-- The state of the search above bin `b`. -/
def At (H : ℕ → ℕ → ℕ) (b : ℕ) (s : CS) : Prop :=
  s.run = BitVec.ofNat 32 (abo H b) ∧
    ((s.found = 0#1 ∧ s.bstar = 0#32 ∧ abo H b < 64)
      ∨ (s.found = 1#1 ∧ ∃ b < 64, s.bstar = BitVec.ofNat 32 b ∧ 64 ≤ abo H b ∧ abo H (b + 1) < 64 ∧ s.abv = BitVec.ofNat 32 (abo H (b + 1))))

theorem step_at {s : CS} (hs : At H (16 * c + 16) s) : At H (16 * c) (chunkStep (BitVec.ofNat 32 (16 * c + 15)) (tots H c) s) := by
  obtain ⟨hr, hcase⟩ := hs
  have hrun : (chunkStep (BitVec.ofNat 32 (16 * c + 15)) (tots H c) s).run = BitVec.ofNat 32 (abo H (16 * c)) := by
    show Scalar.addi s.run (tot15 (tots H c)) = _
    rw [hr, tot15_eq hc]
  refine ⟨hrun, ?_⟩
  have hb := below_le (H := H) (c := c)
  have h15 := below_iff (H := H) (c := c) (j := 15) (by omega)
  rw [show 16 * c + 15 - 15 = 16 * c by omega] at h15
  have hit : hitv s.found s.run (tots H c) = (s.found ^^^ 1#1) &&& BitVec.ofBool (decide (64 ≤ abo H (16 * c))) := by
    show (s.found ^^^ 1#1) &&& (BitVec.ofBool ((BitVec.ofNat 32 64).sle (Scalar.addi s.run (tot15 (tots H c)))) &&&
      BitVec.ofBool ((nbv s.run (rev (tots H c))).slt (BitVec.ofNat 32 16))) = _
    rw [hr, tot15_eq hc, nbv_eq hc hA, slt_ofNat (by omega) (by omega), BitVec.sle_eq_not_slt, slt_ofNat (abo_lt hA _) (by omega)]
    by_cases h : 64 ≤ abo H (16 * c)
    · have : below H c < 16 := by omega
      have h' : ¬ abo H (16 * c) < 64 := by omega
      rw [decide_eq_true h, decide_eq_true this, decide_eq_false h']; rfl
    · have : ¬ below H c < 16 := by omega
      have h' : abo H (16 * c) < 64 := by omega
      rw [decide_eq_false h, decide_eq_false this, decide_eq_true h']; rfl
  rcases hcase with ⟨hf, hbs, _⟩ | ⟨hf, hrest⟩
  · by_cases h : 64 ≤ abo H (16 * c)
    · have hit1 : hitv s.found s.run (tots H c) = 1#1 := by rw [hit, hf, decide_eq_true h]; rfl
      have hlt : below H c < 16 := by omega
      refine Or.inr ⟨?_, 16 * c + 15 - below H c, by omega, ?_, ?_, ?_, ?_⟩
      · show Scalar.ori s.found (hitv s.found s.run (tots H c)) = _
        rw [hit1, hf]; rfl
      · show Scalar.select (hitv s.found s.run (tots H c)) (Scalar.subi (BitVec.ofNat 32 (16 * c + 15)) (nbv s.run (rev (tots H c)))) s.bstar = _
        rw [hit1, hr, nbv_eq hc hA]
        show BitVec.ofNat 32 (16 * c + 15) - BitVec.ofNat 32 (below H c) = _
        apply BitVec.eq_of_toNat_eq
        rw [BitVec.toNat_sub, BitVec.toNat_ofNat, BitVec.toNat_ofNat, BitVec.toNat_ofNat]
        omega
      · have := below_iff (H := H) (c := c) (j := below H c) hlt
        omega
      · by_cases h0 : below H c = 0
        · rw [h0, Nat.sub_zero]; assumption
        · have := (below_iff (H := H) (c := c) (j := below H c - 1) (by omega)).2 (by omega)
          rwa [show 16 * c + 15 - below H c + 1 = 16 * c + 15 - (below H c - 1) by omega]
      · show Scalar.select (hitv s.found s.run (tots H c)) (Scalar.maxsi s.run (abvv s.run (rev (tots H c)))) s.abv = _
        rw [hit1, hr, abvv_eq hc hA, show 16 * c + 15 - below H c + 1 = 16 * c + 16 - below H c by omega]
        rfl
    · have hit0 : hitv s.found s.run (tots H c) = 0#1 := by rw [hit, hf, decide_eq_false h]; rfl
      refine Or.inl ⟨?_, ?_, by omega⟩
      · show Scalar.ori s.found (hitv s.found s.run (tots H c)) = _
        rw [hit0, hf]; rfl
      · show Scalar.select (hitv s.found s.run (tots H c)) _ s.bstar = _
        rw [hit0]; exact hbs
  · have hit0 : hitv s.found s.run (tots H c) = 0#1 := by
      rw [hit, hf, show (1#1 ^^^ 1#1 : BitVec 1) = 0#1 from rfl, BitVec.zero_and]
    refine Or.inr ⟨?_, ?_⟩
    · show Scalar.ori s.found (hitv s.found s.run (tots H c)) = _
      rw [hit0, hf]; rfl
    · have e1 : (chunkStep (BitVec.ofNat 32 (16 * c + 15)) (tots H c) s).bstar = s.bstar := by
        show Scalar.select (hitv s.found s.run (tots H c)) _ s.bstar = _
        rw [hit0]; rfl
      have e2 : (chunkStep (BitVec.ofNat 32 (16 * c + 15)) (tots H c) s).abv = s.abv := by
        show Scalar.select (hitv s.found s.run (tots H c)) _ s.abv = _
        rw [hit0]; rfl
      rw [e1, e2]; exact hrest

omit hc in
theorem search_at : At H 0 (cs4 H) := by
  have h0 : At H 64 cs0 := ⟨by rw [abo_end]; rfl, Or.inl ⟨rfl, rfl, by rw [abo_end]; omega⟩⟩
  have h1 : At H 48 (cs1 H) := step_at (c := 3) (by omega) hA h0
  have h2 : At H 32 (cs2 H) := step_at (c := 2) (by omega) hA h1
  have h3 : At H 16 (cs3 H) := step_at (c := 1) (by omega) hA h2
  exact step_at (c := 0) (by omega) hA h3

omit hc in
/-- The bin found, and how many of its words are to be counted; or that fewer than 64 words lie in the lower 64 bins. -/
theorem search_result :
    (∃ b < 64, bst H = BitVec.ofNat 32 b ∧ krem H = BitVec.ofNat 32 (64 - abo H (b + 1)) ∧ 64 ≤ abo H b ∧ abo H (b + 1) < 64)
      ∨ (bst H = 0#32 ∧ krem H = BitVec.ofNat 32 (64 - abo H 0) ∧ abo H 0 < 64) := by
  obtain ⟨hr, h⟩ := search_at hA
  have hsub : ∀ a < 64, (64#32 - BitVec.ofNat 32 a : BitVec 32) = BitVec.ofNat 32 (64 - a) := by
    intro a ha
    apply BitVec.eq_of_toNat_eq
    rw [BitVec.toNat_sub, BitVec.toNat_ofNat, BitVec.toNat_ofNat, BitVec.toNat_ofNat]
    omega
  rcases h with ⟨hf, hb, hlt⟩ | ⟨hf, b, hb, e, h1, h2, h3⟩
  · refine Or.inr ⟨hb, ?_, hlt⟩
    rw [krem, hf, hr]
    exact hsub _ hlt
  · refine Or.inl ⟨b, hb, e, ?_, h1, h2⟩
    rw [krem, hf, h3]
    exact hsub _ h2

end Cert.Topk
end
-- ==== Proof.Radix.lean ====
/-
  The search of a bin's lower 25 bits by counting, and what the whole selection finds on a row: with `cge w x` the row's words of
  clear sign that are at least `x`, a word `R` such that `x ≤ R` exactly when `64 ≤ cge w x`, for every `x` from 2 on. The word 0
  and the word 1 are not told apart by it; the selection then takes the larger of `R` and 1.
-/
module

public import proofs.«01_k».proof.Proof.Find

@[expose] public section

noncomputable section

namespace Cert.Topk

open Cert.Select Cert.Select.Gen
open Idealize.ShloMosaic

/-- How many of a row's words have a clear sign and are at least `x`. -/
def cge (w : ℕ → BitVec 32) (x : ℕ) : ℕ := Nat.count (fun n => x ≤ (w n).toNat ∧ (w n).toNat < 2 ^ 31) 16384

/-- What the selection looks for: the word `R` (up to 0 or 1) that has 64 words from it up, and not 64 above it. -/
def Kth (w : ℕ → BitVec 32) (R : ℕ) : Prop := R < 2 ^ 31 ∧ ∀ x, 2 ≤ x → x < 2 ^ 31 → (x ≤ R ↔ 64 ≤ cge w x)

/-- It is one word, up to 0 or 1. -/
theorem Kth.unique {w : ℕ → BitVec 32} {R R' : ℕ} (h : Kth w R) (h' : Kth w R') : max R 1 = max R' 1 := by
  obtain ⟨hR, h⟩ := h
  obtain ⟨hR', h'⟩ := h'
  by_contra hne
  by_cases hlt : max R 1 < max R' 1
  · have : R' ≤ R := (h R' (by omega) hR').2 ((h' R' (by omega) hR').1 le_rfl)
    omega
  · have : R ≤ R' := (h' R (by omega) hR).2 ((h R (by omega) hR).1 le_rfl)
    omega

theorem cge_anti (w : ℕ → BitVec 32) {x y : ℕ} (h : x ≤ y) : cge w y ≤ cge w x :=
  count_mono_of _ _ _ fun _ _ hh => ⟨h.trans hh.1, hh.2⟩

/-! ## Bins as counts over the row -/

theorem bins_hc (w : ℕ → BitVec 32) (b : ℕ) : bins (hc w 1024) b = Nat.count (fun n => (w n).toNat / 2 ^ 25 = b) 16384 := by
  rw [bins, ← count_lanes (fun n => (w n).toNat / 2 ^ 25 = b) 1024]
  exact Finset.sum_congr rfl fun l _ => hc_eq w 1024 l b

theorem abo_hc (w : ℕ → BitVec 32) : ∀ d ≤ 64, abo (hc w 1024) (64 - d) = cge w ((64 - d) * 2 ^ 25)
  | 0, _ => by
    rw [Nat.sub_zero, abo_end, cge]
    symm
    rw [count_eq_sum]
    refine Finset.sum_eq_zero fun i _ => if_neg ?_
    omega
  | d + 1, hd => by
    rw [abo_succ (by omega), show 64 - (d + 1) + 1 = 64 - d by omega, abo_hc w d (by omega), bins_hc, cge, cge]
    symm
    refine count_split _ _ _ _ fun i _ => ?_
    have := Nat.div_add_mod (w i).toNat (2 ^ 25)
    have := Nat.mod_lt (w i).toNat (show 0 < 2 ^ 25 by omega)
    constructor
    · omega
    · omega

theorem abo_eq (w : ℕ → BitVec 32) {b : ℕ} (hb : b ≤ 64) : abo (hc w 1024) b = cge w (b * 2 ^ 25) := by
  have h := abo_hc w (64 - b) (by omega)
  rwa [show 64 - (64 - b) = b by omega] at h

/-! ## The words kept -/

theorem sle_iff {a : ℕ} (ha : a < 2 ^ 31) (x : BitVec 32) : (BitVec.ofNat 32 a).sle x = true ↔ a ≤ x.toNat ∧ x.toNat < 2 ^ 31 := by
  have hx := x.isLt
  rw [BitVec.sle, decide_eq_true_eq, BitVec.toInt_eq_toNat_of_lt (by rw [BitVec.toNat_ofNat]; omega), BitVec.toNat_ofNat,
    Nat.mod_eq_of_lt (by omega), BitVec.toInt]
  split_ifs <;> omega

theorem slt_iff {a : ℕ} (ha : a < 2 ^ 31) {x : BitVec 32} (hx : x.toNat < 2 ^ 31) : x.slt (BitVec.ofNat 32 a) = true ↔ x.toNat < a := by
  rw [BitVec.slt, decide_eq_true_eq, BitVec.toInt_eq_toNat_of_lt (x := x) (by omega),
    BitVec.toInt_eq_toNat_of_lt (x := BitVec.ofNat 32 a) (by rw [BitVec.toNat_ofNat]; omega), BitVec.toNat_ofNat, Nat.mod_eq_of_lt (by omega)]
  omega

theorem shl25 {b : ℕ} (hb : b < 64) : Scalar.shli (BitVec.ofNat 32 b) 25#32 = BitVec.ofNat 32 (b * 2 ^ 25) := by
  unfold Scalar.shli IntOp.shli
  rw [if_pos (by decide)]
  apply BitVec.eq_of_toNat_eq
  rw [BitVec.shiftLeft_eq', BitVec.toNat_shiftLeft, BitVec.toNat_ofNat, BitVec.toNat_ofNat, BitVec.toNat_ofNat,
    show 25 % 2 ^ 32 = 25 from rfl, Nat.shiftLeft_eq, Nat.mod_eq_of_lt (show b < 2 ^ 32 by omega)]

theorem lo_eq {b : ℕ} (hb : b < 64) : lo (BitVec.ofNat 32 b) = BitVec.ofNat 32 (max (b * 2 ^ 25) 1) := by
  rw [lo, shl25 hb]
  exact maxsi_ofNat (by omega) (by omega)

theorem hi_eq {b : ℕ} (hb : b < 64) : hi (BitVec.ofNat 32 b) = BitVec.ofNat 32 (if b < 63 then (b + 1) * 2 ^ 25 else 2 ^ 31 - 1) := by
  show (if BitVec.ofBool ((BitVec.ofNat 32 b).slt (BitVec.ofNat 32 63)) = 1#1 then
    Scalar.shli (BitVec.ofNat 32 b + BitVec.ofNat 32 1) 25#32 else 2147483647#32) = _
  rw [slt_ofNat (by omega) (by omega), ← BitVec.ofNat_add]
  by_cases h : b < 63
  · rw [decide_eq_true h, if_pos (show BitVec.ofBool true = 1#1 from rfl), if_pos h, shl25 (by omega)]
  · rw [decide_eq_false h, if_neg (by decide), if_neg h]; rfl

/-- The words of bin `b` that are at least `T` (and not 0). -/
def inbin (w : ℕ → BitVec 32) (b T : ℕ) : ℕ :=
  Nat.count (fun n => T ≤ (w n).toNat ∧ 1 ≤ (w n).toNat ∧ b * 2 ^ 25 ≤ (w n).toNat ∧ (w n).toNat < (b + 1) * 2 ^ 25) 16384

theorem inbin_anti (w : ℕ → BitVec 32) (b : ℕ) {x y : ℕ} (h : x ≤ y) : inbin w b y ≤ inbin w b x :=
  count_mono_of _ _ _ fun _ _ hh => ⟨h.trans hh.1, hh.2⟩

variable {w : ℕ → BitVec 32} (hw : ∀ n < 16384, w n ≠ 0x7FFFFFFF#32)

include hw

theorem nn_inbin {b T : ℕ} (hb : b < 64) (hT : T < 2 ^ 31) :
    nn w (lo (BitVec.ofNat 32 b)) (hi (BitVec.ofNat 32 b)) (BitVec.ofNat 32 T) = inbin w b T := by
  rw [nn_eq, count_lanes (fun n => keep (lo (BitVec.ofNat 32 b)) (hi (BitVec.ofNat 32 b)) (w n) = true ∧ (BitVec.ofNat 32 T).sle (w n) = true) 1024,
    inbin]
  refine count_congr_of _ _ _ fun n hn => ?_
  have hne : (w n).toNat ≠ 2 ^ 31 - 1 := fun h => hw n hn (BitVec.eq_of_toNat_eq h)
  rw [keep, Bool.and_eq_true, lo_eq hb, hi_eq hb, sle_iff (by omega), sle_iff hT]
  constructor
  · rintro ⟨⟨h1, h2⟩, h3⟩
    rw [slt_iff (by split_ifs <;> omega) h1.2] at h2
    split_ifs at h2 <;> omega
  · intro h
    have hx : (w n).toNat < 2 ^ 31 := by omega
    refine ⟨⟨⟨by omega, hx⟩, ?_⟩, by omega, hx⟩
    rw [slt_iff (by split_ifs <;> omega) hx]
    split_ifs <;> omega

/-! ## The search of the bits -/

omit hw in
theorem or_bit {R i : ℕ} (hR : R < 2 ^ 31) (hi : i < 31) (hd : 2 ^ (i + 1) ∣ R) :
    IntOp.ori (BitVec.ofNat 32 R) (BitVec.ofNat 32 (2 ^ i)) = BitVec.ofNat 32 (R + 2 ^ i) := by
  obtain ⟨a, rfl⟩ := hd
  have hlt : 2 ^ i < 2 ^ (i + 1) := Nat.pow_lt_pow_right (by omega) (by omega)
  have hle : 2 ^ i < 2 ^ 31 := Nat.pow_lt_pow_right (by omega) hi
  apply BitVec.eq_of_toNat_eq
  show (BitVec.ofNat 32 (2 ^ (i + 1) * a) ||| BitVec.ofNat 32 (2 ^ i)).toNat = _
  rw [BitVec.toNat_or, BitVec.toNat_ofNat, BitVec.toNat_ofNat, BitVec.toNat_ofNat, Nat.mod_eq_of_lt (by omega), Nat.mod_eq_of_lt (by omega),
    Nat.mod_eq_of_lt (by omega), Nat.two_pow_add_eq_or_of_lt hlt]

/-- The search ends at the largest word of the bin with `k` words of the bin from it up, or at the bin's first word. -/
theorem rad_spec {b k : ℕ} (hb : b < 64) (hk : k < 2 ^ 31) : ∀ n ≤ 25, ∃ R,
    rad w (lo (BitVec.ofNat 32 b)) (hi (BitVec.ofNat 32 b)) (BitVec.ofNat 32 k) (BitVec.ofNat 32 (b * 2 ^ 25)) n = BitVec.ofNat 32 R
      ∧ b * 2 ^ 25 ≤ R ∧ R + 2 ^ (25 - n) ≤ (b + 1) * 2 ^ 25 ∧ 2 ^ (25 - n) ∣ R ∧ (R = b * 2 ^ 25 ∨ k ≤ inbin w b R)
      ∧ (∀ x, R + 2 ^ (25 - n) ≤ x → x < (b + 1) * 2 ^ 25 → inbin w b x < k)
  | 0, _ => ⟨b * 2 ^ 25, rfl, le_rfl, by omega, Dvd.intro_left b rfl, Or.inl rfl, fun x h1 h2 => by omega⟩
  | n + 1, hn => by
    obtain ⟨R, e, h1, h2, h3, h4, h5⟩ := rad_spec hb hk n (by omega)
    have hs : 2 ^ (25 - n) = 2 ^ (25 - (n + 1)) + 2 ^ (25 - (n + 1)) := by
      rw [show 25 - n = 25 - (n + 1) + 1 by omega, pow_succ]; omega
    have hd : 2 ^ (25 - (n + 1)) ∣ 2 ^ (25 - n) := Nat.pow_dvd_pow 2 (by omega)
    have hp : 0 < 2 ^ (25 - (n + 1)) := Nat.pos_of_ne_zero (by positivity)
    have hor := or_bit (R := R) (i := 24 - n) (by omega) (by omega) (by rwa [show 24 - n + 1 = 25 - n by omega])
    rw [show 24 - n = 25 - (n + 1) by omega] at hor
    have hcount : inbin w b (R + 2 ^ (25 - (n + 1))) < 2 ^ 31 := lt_of_le_of_lt (Nat.count_le _) (by omega)
    have est : rad w (lo (BitVec.ofNat 32 b)) (hi (BitVec.ofNat 32 b)) (BitVec.ofNat 32 k) (BitVec.ofNat 32 (b * 2 ^ 25)) (n + 1)
        = if k ≤ inbin w b (R + 2 ^ (25 - (n + 1))) then BitVec.ofNat 32 (R + 2 ^ (25 - (n + 1))) else BitVec.ofNat 32 R := by
      rw [rad, stp, e, show 24 - n = 25 - (n + 1) by omega, hor, nn_inbin hw hb (by omega)]
      show (if BitVec.ofBool ((BitVec.ofNat 32 k).sle (BitVec.ofNat 32 _)) = 1#1 then _ else _) = _
      rw [BitVec.sle_eq_not_slt, slt_ofNat hcount hk]
      by_cases h : k ≤ inbin w b (R + 2 ^ (25 - (n + 1)))
      · rw [if_pos h, decide_eq_false (by omega)]; rfl
      · rw [if_neg h, decide_eq_true (by omega)]; rfl
    by_cases h : k ≤ inbin w b (R + 2 ^ (25 - (n + 1)))
    · refine ⟨R + 2 ^ (25 - (n + 1)), by rw [est, if_pos h], by omega, by omega, (Nat.dvd_add_right (hd.trans h3)).2 dvd_rfl, Or.inr h, ?_⟩
      intro x hx hx'
      exact h5 x (by omega) hx'
    · refine ⟨R, by rw [est, if_neg h], h1, by omega, hd.trans h3, h4, ?_⟩
      intro x hx hx'
      exact lt_of_le_of_lt (inbin_anti w b hx) (by omega)

/-- The words a row holds of clear sign are fewer than 64 together with those from 2 to `2 ^ 25 - 1`, or at least 64. -/
theorem thrW_spec (hc : 64 ≤ cge w 0 ∨ cge w 0 + Nat.count (fun n => 2 ≤ (w n).toNat ∧ (w n).toNat < 2 ^ 25) 16384 < 64) :
    ∃ R, Kth w R ∧ thrW w = BitVec.ofNat 32 (max R 1) := by
  have hA : abo (Topk.hc w 1024) 0 < 2 ^ 31 := by
    rw [abo_eq w (by omega)]
    exact lt_of_le_of_lt (Nat.count_le _) (by omega)
  have hz : ∀ x : BitVec 32, IntOp.addi 0#32 x = x := fun x => BitVec.zero_add x
  have fin : ∀ {R : ℕ}, R < 2 ^ 31 → IntOp.maxsi (BitVec.ofNat 32 R) 1#32 = BitVec.ofNat 32 (max R 1) := fun h => maxsi_ofNat h (by omega)
  rcases search_result hA with ⟨b, hb, e1, e2, h64, hlt⟩ | ⟨e1, e2, hlt⟩
  · obtain ⟨R, e, h1, h2, _, h4, h5⟩ := rad_spec hw hb (k := 64 - abo (Topk.hc w 1024) (b + 1)) (by omega) 25 le_rfl
    rw [abo_eq w (by omega)] at h64
    rw [abo_eq w (show b + 1 ≤ 64 by omega)] at hlt e2 e h4 h5
    have hsum : ∀ x, 1 ≤ x → b * 2 ^ 25 ≤ x → x < (b + 1) * 2 ^ 25 → cge w x = inbin w b x + cge w ((b + 1) * 2 ^ 25) := by
      intro x hx hx1 hx2
      refine count_split _ _ _ _ fun i _ => ?_
      constructor <;> omega
    refine ⟨R, ⟨by omega, fun x hx hx' => ⟨fun h => ?_, fun h => ?_⟩⟩, ?_⟩
    · refine le_trans ?_ (cge_anti w h)
      rcases h4 with h4 | h4
      · rw [h4]; exact h64
      · rw [hsum R (by omega) h1 (by omega)]; omega
    · by_contra hn
      by_cases hx2 : x < (b + 1) * 2 ^ 25
      · have := h5 x (by omega) hx2
        rw [hsum x (by omega) (by omega) hx2] at h
        omega
      · exact absurd (h.trans (cge_anti w (Nat.le_of_not_lt hx2))) (Nat.not_le.2 hlt)
    · rw [thrW, e1, e2, hz, hz, shl25 hb, e, fin (by omega)]
  · obtain ⟨R, e, h1, h2, _, h4, h5⟩ := rad_spec hw (b := 0) (k := 64 - abo (Topk.hc w 1024) 0) (by omega) (by omega) 25 le_rfl
    rw [abo_eq w (by omega), Nat.zero_mul] at hlt
    rw [abo_eq w (by omega), Nat.zero_mul] at e h4 h5 e2
    have hR : R ≤ 1 := by
      by_contra hR
      have hin : inbin w 0 R ≤ Nat.count (fun n => 2 ≤ (w n).toNat ∧ (w n).toNat < 2 ^ 25) 16384 :=
        count_mono_of _ _ _ fun i _ hh => by omega
      omega
    refine ⟨R, ⟨by omega, fun x hx hx' => ⟨fun h => by omega, fun h => ?_⟩⟩, ?_⟩
    · exact absurd (h.trans (cge_anti w (Nat.zero_le x))) (Nat.not_le.2 hlt)
    · have es : Scalar.shli 0#32 25#32 = BitVec.ofNat 32 0 := shl25 (b := 0) (by omega)
      rw [thrW, e1, e2, hz, hz, es, show (0#32 : BitVec 32) = BitVec.ofNat 32 0 from rfl, e, fin (by omega)]

end Cert.Topk
end
-- ==== Proof.Rank.lean ====
/-
  The reference's top-k on a row: position 63 of the row in descending order is the word with 64 words from it up and not 64
  above it.
-/
module

public import proofs.«01_k».proof.Proof.Radix
public import proofs.«01_k».proof.Proof.Dma
public import proofs.«01_k».proof.Proof.Gen.Threshold.Run
public import Idealize.ShloMosaic.Lib.SortFacts
public import Idealize.ShloMosaic.Lib.SortKey
public import Idealize.ShloMosaic.Lib.Pointwise

@[expose] public section

noncomputable section

namespace Cert.Topk

open Idealize.ShloMosaic
open Cert.Threshold (S8192x16384 S8192x64 S8192x1 S8192 S_)

/-! ## A position of a descending order -/

/-- The element a descending order puts at position `j` is at least `x` exactly when more than `j` elements are. -/
theorem sorted_at {n : ℕ} (key : Fin n → ℕ) (before : Fin n → Fin n → Bool) (hb : ∀ k k', before k k' = decide (key k' < key k))
    (j : Fin n) (x : ℕ) : x ≤ key (sortedFrom before j) ↔ j.val < (Finset.univ.filter fun k => x ≤ key k).card := by
  have hdesc : ∀ i i' : Fin n, i ≤ i' → key (sortedFrom before i') ≤ key (sortedFrom before i) := by
    intro i i' h
    rcases eq_or_lt_of_le h with rfl | h
    · exact le_rfl
    · have := sortedFrom_noInversion before before (fun a b h => by rw [hb, decide_eq_true_eq] at h; rw [hb, decide_eq_false_iff_not]; omega)
        (fun a b h => h) (fun a b c h h' => by
          rw [hb, decide_eq_false_iff_not] at h h' ⊢; omega) i i' h
      rw [hb, decide_eq_false_iff_not] at this
      omega
  have hinj := sortedFrom_injective before
  have hsurj := sortedFrom_surjective before
  constructor
  · intro h
    have hsub : (Finset.univ.filter fun i : Fin n => i ≤ j).map ⟨sortedFrom before, hinj⟩ ⊆ Finset.univ.filter fun k => x ≤ key k := by
      intro k hk
      obtain ⟨i, hi, rfl⟩ := Finset.mem_map.1 hk
      have hi' : i ≤ j := (Finset.mem_filter.1 hi).2
      exact Finset.mem_filter.2 ⟨Finset.mem_univ _, h.trans (hdesc i j hi')⟩
    have hc := Finset.card_le_card hsub
    rw [Finset.card_map, show (Finset.univ.filter fun i : Fin n => i ≤ j) = Finset.Iic j from by ext; simp, Fin.card_Iic] at hc
    omega
  · intro h
    by_contra hn
    have hsub : (Finset.univ.filter fun k => x ≤ key k) ⊆ (Finset.univ.filter fun i : Fin n => i < j).map ⟨sortedFrom before, hinj⟩ := by
      intro k hk
      have hk' : x ≤ key k := (Finset.mem_filter.1 hk).2
      obtain ⟨i, rfl⟩ := hsurj k
      refine Finset.mem_map.2 ⟨i, Finset.mem_filter.2 ⟨Finset.mem_univ _, ?_⟩, rfl⟩
      by_contra hij
      exact hn (hk'.trans (hdesc j i (not_lt.1 hij)))
    have hc := Finset.card_le_card hsub
    rw [Finset.card_map, show (Finset.univ.filter fun i : Fin n => i < j) = Finset.Iio j from by ext; simp, Fin.card_Iio] at hc
    omega

/-- Marks over `Fin n` counted. -/
theorem card_fin (p : ℕ → Prop) [DecidablePred p] (n : ℕ) : (Finset.univ.filter fun k : Fin n => p k.val).card = Nat.count p n := by
  rw [Finset.card_filter, count_eq_sum, Fin.sum_univ_eq_sum_range (fun i => if p i then 1 else 0) n]

/-! ## The reference's words -/

/-- A word with its sign set is taken as 0. -/
def relu (x : BitVec 32) : BitVec 32 := if x.msb then 0#32 else x

theorem relu_msb (x : BitVec 32) : (relu x).msb = false := by
  unfold relu
  by_cases h : x.msb = true
  · rw [if_pos h]; rfl
  · rw [if_neg h]; simpa using h

theorem sign_ne (x : BitVec 32) : IntOp.cmpi .ne (IntOp.shrsi .host x 31#32) 0#32 = BitVec.ofBool x.msb := by
  unfold IntOp.shrsi
  rw [if_pos (by decide)]
  show BitVec.ofBool (BitVec.sshiftRight' x 31#32 != 0#32) = _
  congr 1
  rw [show BitVec.sshiftRight' x 31#32 = x.sshiftRight 31 from rfl]
  cases h : x.msb
  · have := sortableKey_of_msb_false x h
    rw [BitVec.sshiftRight_eq_of_msb_false h, bne_eq_false_iff_eq]
    have hx : x.toNat < 2 ^ 31 := by
      have := BitVec.msb_eq_false_iff_two_mul_lt.mp h
      omega
    apply BitVec.eq_of_toNat_eq
    rw [BitVec.toNat_ushiftRight, Nat.shiftRight_eq_div_pow, Nat.div_eq_of_lt hx]
    rfl
  · rw [BitVec.sshiftRight_eq_of_msb_true h, bne_iff_ne]
    intro he
    have hx : 2 ^ 31 ≤ x.toNat := by
      have := BitVec.msb_eq_true_iff_two_mul_ge.mp h
      omega
    have hlt := x.isLt
    have := congrArg BitVec.toNat he
    rw [BitVec.toNat_not, BitVec.toNat_ushiftRight, BitVec.toNat_not, Nat.shiftRight_eq_div_pow, BitVec.toNat_ofNat] at this
    omega

/-- The total order of two words of clear sign. -/
theorem gt_relu (a b : BitVec 32) : (FloatOps.cmpfTotal (F := Bits) (φ := .f32) .gt (relu a) (relu b) == 1#1) = decide ((relu b).toNat < (relu a).toNat) := by
  rw [cmpfTotal_f32_eq_cmpi_sortableKey, sortableKey_of_msb_false _ (relu_msb a), sortableKey_of_msb_false _ (relu_msb b)]
  show (BitVec.ofBool ((relu b).slt (relu a)) == 1#1) = _
  have ha := BitVec.msb_eq_false_iff_two_mul_lt.mp (relu_msb a)
  have hb := BitVec.msb_eq_false_iff_two_mul_lt.mp (relu_msb b)
  have e : (relu b).slt (relu a) = decide ((relu b).toNat < (relu a).toNat) := by
    rw [BitVec.slt, BitVec.toInt_eq_toNat_of_lt ha, BitVec.toInt_eq_toNat_of_lt hb]
    congr 1
    exact propext Int.ofNat_lt
  rw [e]
  cases decide ((relu b).toNat < (relu a).toNat) <;> rfl

/-- The words the reference ranks: those of its argument, with a 0 for each of set sign. -/
def ranked (A : S8192x16384.Idx → BitVec 32) : S8192x16384.Idx → BitVec 32 := fun i => relu (A i)

/-- Place `k` of row `r`. -/
abbrev pl (r : Fin 8192) (k : Fin 16384) : S8192x16384.Idx := fun a => match a with | 0 => r | 1 => k

theorem along_pl (J : S8192x16384.Idx) (r : Fin 8192) (hr : J 0 = r) (k : Fin 16384) : J.along 1 k = pl r k := by
  subst hr
  funext a
  match a with
  | 0 => rfl
  | 1 => rfl

theorem sort2_at {α β : Type} (cmp : α × β → α × β → BitVec 1) (x : S8192x16384.Idx → α) (y : S8192x16384.Idx → β) (J : S8192x16384.Idx)
    (r : Fin 8192) (hr : J 0 = r) (p : Fin 16384) (hp : J 1 = p) :
    (Host.sort2 S8192x16384 1 cmp x y).1 J
      = x (pl r (sortedFrom (fun k k' => cmp (x (pl r k), y (pl r k)) (x (pl r k'), y (pl r k')) == 1#1) p)) := by
  unfold Host.sort2
  rw [dif_pos (by decide)]
  subst hp
  simp only [← along_pl J r hr]
  rfl

theorem topK_fst {α : Type} (gt : α → α → BitVec 1) (x : S8192x16384.Idx → α) (h : S8192x16384.Slices (fun _ => 0) S8192x64) :
    (Host.topK S8192x64 1 gt x h).1 = extractStridedSlice S8192x64 (fun _ => 0) (Host.sort2 S8192x16384 1 (fun l r => gt l.1 r.1) x
      (fun i => if hd : 1 < S8192x16384.rank then iotaInDim S8192x16384 32 ⟨1, hd⟩ i else 0#32)).1 h := rfl

/-- The reference's 64th largest of each row. -/
theorem topk_at (A : S8192x16384.Idx → BitVec 32) (h : S8192x16384.Slices (fun _ => 0) S8192x64) (j : S8192x64.Idx) (r : ℕ) (hr : (j 0).val = r)
    (hj : (j 1).val = 63) :
    Kth (ata A r) ((Host.topK S8192x64 1 (FloatOps.cmpfTotal (F := Bits) (φ := .f32) .gt) (ranked A) h).1 j).toNat := by
  subst hr
  have hlt : (j 0).val < 8192 := (j 0).isLt
  have hp : ∀ k, ranked A (pl ⟨(j 0).val, hlt⟩ k) = relu (ata A (j 0).val k.val) := fun k => by
    show relu (A _) = _
    rw [ata_of_val A (pl ⟨(j 0).val, hlt⟩ k) rfl rfl]
  have he : (Host.topK S8192x64 1 (FloatOps.cmpfTotal (F := Bits) (φ := .f32) .gt) (ranked A) h).1 j
      = relu (ata A (j 0).val (sortedFrom (fun k k' : Fin 16384 => FloatOps.cmpfTotal (F := Bits) (φ := .f32) .gt (relu (ata A (j 0).val k.val))
          (relu (ata A (j 0).val k'.val)) == 1#1) ⟨63, by omega⟩).val) := by
    rw [topK_fst, extractStridedSlice]
    rw [sort2_at _ (ranked A) _ _ ⟨(j 0).val, hlt⟩ (Fin.ext (Nat.zero_add _)) ⟨63, by omega⟩ (Fin.ext ((Nat.zero_add _).trans hj))]
    simp only [hp]
  rw [he]
  have hb := sorted_at (fun k : Fin 16384 => (relu (ata A (j 0).val k.val)).toNat)
    (fun k k' => FloatOps.cmpfTotal (F := Bits) (φ := .f32) .gt (relu (ata A (j 0).val k.val)) (relu (ata A (j 0).val k'.val)) == 1#1)
    (fun k k' => gt_relu _ _) ⟨63, by omega⟩
  refine ⟨?_, fun x hx hx' => ?_⟩
  · have := BitVec.msb_eq_false_iff_two_mul_lt.mp (relu_msb (ata A (j 0).val (sortedFrom (fun k k' : Fin 16384 =>
      FloatOps.cmpfTotal (F := Bits) (φ := .f32) .gt (relu (ata A (j 0).val k.val)) (relu (ata A (j 0).val k'.val)) == 1#1) ⟨63, by omega⟩).val))
    omega
  · refine (hb x).trans ?_
    rw [card_fin (fun k => x ≤ (relu (ata A (j 0).val k)).toNat) 16384, cge]
    rw [count_congr_of (fun k => x ≤ (relu (ata A (j 0).val k)).toNat) (fun n => x ≤ (ata A (j 0).val n).toNat ∧ (ata A (j 0).val n).toNat < 2 ^ 31) 16384
      fun n _ => ?_]
    · exact Iff.rfl
    · unfold relu
      by_cases hm : (ata A (j 0).val n).msb = true
      · have := BitVec.msb_eq_true_iff_two_mul_ge.mp hm
        rw [if_pos hm, BitVec.toNat_ofNat]
        omega
      · have := BitVec.msb_eq_false_iff_two_mul_lt.mp (by simpa using hm : (ata A (j 0).val n).msb = false)
        rw [if_neg hm]
        omega

/-! ## The reference's result -/

/-- What the reference returns on the argument `A`. -/
abbrev refOut (A : S8192x16384.Idx → BitVec 32) : S8192.Idx → BitVec 32 :=
  bitcastToFloat (F := Bits) .f32 (maxsi (bitcastToInt (F := Bits) (φ := .f32) (shapeCast _ (extractStridedSlice S8192x1 ![0, 63] ((Host.topK S8192x64 1 (FloatOps.cmpfTotal (F := Bits) (φ := .f32) .gt)
    (select (id (cmpi .ne (Host.shrsi (bitcastToInt (F := Bits) (φ := .f32) A) (broadcastInDim S8192x16384 ![] Cert.Threshold.Gen.facts.bcast_S_S8192x16384 (constantI S_ 32 31#32)))
        (broadcastInDim S8192x16384 ![] Cert.Threshold.Gen.facts.bcast_S_S8192x16384 (constantI S_ 32 0#32))))
      (broadcastInDim S8192x16384 ![] Cert.Threshold.Gen.facts.bcast_S_S8192x16384 (id (constant (F := Bits) S_ .f32 0x00000000#32))) A)
    Cert.Threshold.Gen.facts.sliceFits_S8192x16384_S8192x64).1) Cert.Threshold.Gen.facts.slices_S8192x64_S8192x1_0_63)
    Cert.Threshold.Gen.facts.shapeCasts_S8192x1_S8192)) (broadcastInDim S8192 ![] Cert.Threshold.Gen.facts.bcast_S_S8192 (constantI S_ 32 1#32)))

theorem ranked_eq (A : S8192x16384.Idx → BitVec 32) :
    (select (id (cmpi .ne (Host.shrsi (bitcastToInt (F := Bits) (φ := .f32) A) (broadcastInDim S8192x16384 ![] Cert.Threshold.Gen.facts.bcast_S_S8192x16384 (constantI S_ 32 31#32)))
        (broadcastInDim S8192x16384 ![] Cert.Threshold.Gen.facts.bcast_S_S8192x16384 (constantI S_ 32 0#32))))
      (broadcastInDim S8192x16384 ![] Cert.Threshold.Gen.facts.bcast_S_S8192x16384 (id (constant (F := Bits) S_ .f32 0x00000000#32))) A
      : S8192x16384.Idx → Bits .f32) = ranked A := by
  funext i
  show Scalar.select (IntOp.cmpi .ne (IntOp.shrsi .host (A i) 31#32) 0#32) (0#32 : BitVec 32) (A i) = relu (A i)
  rw [sign_ne]
  unfold Scalar.select relu
  cases (A i).msb
  · rw [if_neg (by decide), if_neg (by decide)]
  · rw [if_pos (by decide), if_pos rfl]

theorem cast_at {α : Type} (v : S8192x1.Idx → α) (h : S8192x1.ShapeCasts S8192) (x : S8192.Idx) :
    shapeCast S8192 v h x = v (fun a => match a with | 0 => x 0 | 1 => (0 : Fin 1)) := by
  unfold shapeCast
  refine congrArg v ((Shape.reshapeEquiv_eq_of_rowMajor h ?_))
  rw [Shape.rowMajor_val_one, Shape.rowMajor_val_two]
  show (x 0).val * 1 + 0 = (x 0).val
  omega

/-- The row's last column. -/
def lastCol (x : S8192.Idx) : S8192x64.Idx := fun a => match a with | 0 => x 0 | 1 => (⟨63, by omega⟩ : Fin 64)

/-- The last column taken out of any table, raised to 1. -/
theorem col_at (T : S8192x64.Idx → BitVec 32) (hs : S8192x64.Slices ![0, 63] S8192x1) (h : S8192x1.ShapeCasts S8192)
    (hb : S_.BroadcastsInDim S8192 (![] : Fin 0 → Fin S8192.rank)) (x : S8192.Idx) :
    (bitcastToFloat (F := Bits) .f32 (maxsi (bitcastToInt (F := Bits) (φ := .f32) (shapeCast S8192 (extractStridedSlice S8192x1 ![0, 63] T hs) h))
      (broadcastInDim S8192 ![] hb (constantI S_ 32 1#32))) x : BitVec 32) = IntOp.maxsi (T (lastCol x)) 1#32 := by
  have e : shapeCast S8192 (extractStridedSlice S8192x1 ![0, 63] T hs) h x = T (lastCol x) := by
    rw [cast_at]
    unfold extractStridedSlice
    refine congrArg T (funext fun a => ?_)
    match a with
    | 0 => exact Fin.ext (Nat.zero_add _)
    | 1 => rfl
  rw [← e]
  rfl

/-- On every row the reference returns the larger of 1 and the word looked for. -/
theorem refOut_at (A : S8192x16384.Idx → BitVec 32) (x : S8192.Idx) :
    ∃ t, Kth (ata A (x 0).val) t ∧ refOut A x = BitVec.ofNat 32 (max t 1) := by
  have hk := topk_at A Cert.Threshold.Gen.facts.sliceFits_S8192x16384_S8192x64 (lastCol x) (x 0).val rfl rfl
  refine ⟨_, hk, ?_⟩
  unfold refOut
  rw [ranked_eq, col_at]
  generalize (Host.topK S8192x64 1 (FloatOps.cmpfTotal (F := Bits) (φ := .f32) .gt) (ranked A)
      Cert.Threshold.Gen.facts.sliceFits_S8192x16384_S8192x64).1 (lastCol x) = y at hk ⊢
  have h := maxsi_ofNat (a := BitVec.toNat y) (b := 1) hk.1 (by omega)
  rwa [BitVec.ofNat_toNat, BitVec.setWidth_eq] at h

end Cert.Topk
end
-- ==== Proof.Admit.lean ====
/-
  The precondition read at a row: no word is `0x7FFFFFFF`, and either 64 words have a clear sign, or fewer than 64 do even with those from 2 to
  `2 ^ 25 - 1` counted twice.
-/
module

public import proofs.«01_k».proof.Proof.Radix
public import proofs.«01_k».proof.Proof.Rank
public import proofs.«01_k».proof.Proof.Gen.Pre_admissible
public import Idealize.ShloMosaic.Lib.ReduceAll
public import Idealize.ShloMosaic.Lib.StableHlo.Predicate

@[expose] public section

noncomputable section

namespace Cert.Topk

open Idealize.ShloMosaic
open Cert.Pre_admissible (S8192x16384 S8192 S_)

theorem and_one {a b : BitVec 1} (h : a &&& b = 1#1) : a = 1#1 ∧ b = 1#1 := by
  revert a b; decide

theorem or_one {a b : BitVec 1} (h : a ||| b = 1#1) : a = 1#1 ∨ b = 1#1 := by
  revert a b; decide

theorem ofBool_one {b : Bool} (h : BitVec.ofBool b = 1#1) : b = true := by
  cases b
  · exact absurd h (by decide)
  · rfl

theorem clear_mark (w : BitVec 32) : IntOp.cmpi .sge w 0#32 = 1#1 ↔ 0 ≤ w.toNat ∧ w.toNat < 2 ^ 31 := by
  rw [← sle_iff (a := 0) (by omega) w]
  exact ⟨ofBool_one, fun h => congrArg BitVec.ofBool h⟩

theorem tiny_mark (w : BitVec 32) : IntOp.cmpi .sge w 2#32 &&& IntOp.cmpi .slt w 33554432#32 = 1#1 ↔ 2 ≤ w.toNat ∧ w.toNat < 2 ^ 25 := by
  constructor
  · intro h
    obtain ⟨ha, hb⟩ := and_one h
    have ha := (sle_iff (a := 2) (by omega) w).1 (ofBool_one ha)
    exact ⟨ha.1, (slt_iff (a := 33554432) (by omega) ha.2).1 (ofBool_one hb)⟩
  · rintro ⟨ha, hb⟩
    have ha' := (sle_iff (a := 2) (by omega) w).2 ⟨ha, by omega⟩
    have hb' := (slt_iff (a := 33554432) (x := w) (by omega) (by omega)).2 (by omega)
    have ea : IntOp.cmpi .sge w 2#32 = 1#1 := congrArg BitVec.ofBool ha'
    have eb : IntOp.cmpi .slt w 33554432#32 = 1#1 := congrArg BitVec.ofBool hb'
    rw [ea, eb]
    rfl

theorem many {a : BitVec 32} (h : IntOp.cmpi .sge a 64#32 = 1#1) : 64 ≤ a.toNat :=
  ((sle_iff (a := 64) (by omega) a).1 (ofBool_one h)).1

theorem sum_lt {a b : BitVec 32} (ha : a.toNat ≤ 16384) (hb : b.toNat ≤ 16384) (h : IntOp.cmpi .slt (a + b) 64#32 = 1#1) : a.toNat + b.toNat < 64 := by
  have hab : (a + b).toNat = a.toNat + b.toNat := by rw [BitVec.toNat_add]; omega
  have := (slt_iff (a := 64) (x := a + b) (by omega) (by omega)).1 (ofBool_one h)
  omega

/-- A row's count of marks, as the host adds it. -/
theorem row_count (m : IVec S8192x16384 1) (h : S8192x16384.ReducesTo [1] S8192) (hw : 1 < 32) (hu : 0 < S_.numel) (x : S8192.Idx)
    (p : ℕ → Prop) [DecidablePred p] (hp : ∀ q : Fin 16384, m (StableHlo.Predicate.ij (x 0) q) = 1#1 ↔ p q.val) :
    (Host.reduce IntOp.addi (extui 32 m hw) (constantI S_ 32 0#32) h hu x).toNat = Nat.count p 16384 := by
  rw [StableHlo.Predicate.toNat_reduce_count_cols (by omega) m hw h hu x, ← card_fin p 16384]
  exact congrArg Finset.card (Finset.filter_congr fun q _ => hp q)

variable {A : S8192x16384.Idx → BitVec 32}

theorem ij_row (A : S8192x16384.Idx → BitVec 32) (x : S8192.Idx) (q : Fin 16384) : A (StableHlo.Predicate.ij (x 0) q) = ata A (x 0).val q.val :=
  ata_of_val A _ rfl rfl

theorem admit_at [Cert.Pre_admissible.Facts] (h : Cert.Pre_admissible.fn (F := Bits) A = fun _ => 1#1) (x : S8192.Idx) :
    (∀ n < 16384, ata A (x 0).val n ≠ 0x7FFFFFFF#32) ∧
      (64 ≤ cge (ata A (x 0).val) 0 ∨ cge (ata A (x 0).val) 0
        + Nat.count (fun n => 2 ≤ (ata A (x 0).val n).toNat ∧ (ata A (x 0).val n).toNat < 2 ^ 25) 16384 < 64) := by
  have h0 := congrFun h (fun a => a.elim0)
  unfold Cert.Pre_admissible.fn Cert.Pre_admissible.fn_part1 at h0
  obtain ⟨h1, h2⟩ := and_one h0
  haveI : Subsingleton S_.Idx := ⟨fun a b => funext fun i => i.elim0⟩
  have hn := Host.reduce_andi_all _ _ _ _ _ h1
  have hc := Host.reduce_andi_all _ _ _ _ _ h2 x
  refine ⟨fun n hn' he => ?_, ?_⟩
  · have := ofBool_one (hn (StableHlo.Predicate.ij (x 0) ⟨n, hn'⟩))
    have e : A (StableHlo.Predicate.ij (x 0) ⟨n, hn'⟩) = 2147483647#32 := (ij_row A x ⟨n, hn'⟩).trans he
    have : (A (StableHlo.Predicate.ij (x 0) ⟨n, hn'⟩) != 2147483647#32) = true := this
    rw [e] at this
    exact absurd this (by decide)
  · have hclear : (Host.reduce IntOp.addi (extui 32 (cmpi .sge (bitcastToInt (F := Bits) (φ := .f32) A) (broadcastInDim S8192x16384 ![] Cert.Pre_admissible.Facts.bcast_S_S8192x16384 (constantI S_ 32 0#32)))
        Cert.Pre_admissible.Facts.natLt_1_32) (constantI S_ 32 0#32) Cert.Pre_admissible.Facts.reducesTo_S8192x16384_S8192_d1 Cert.Pre_admissible.Facts.h_S_ x).toNat
        = cge (ata A (x 0).val) 0 := by
      refine row_count _ _ _ _ x _ fun q => ?_
      rw [← ij_row A x q]
      exact clear_mark _
    have htiny : (Host.reduce IntOp.addi (extui 32 (andi (cmpi .sge (bitcastToInt (F := Bits) (φ := .f32) A) (broadcastInDim S8192x16384 ![] Cert.Pre_admissible.Facts.bcast_S_S8192x16384 (constantI S_ 32 2#32)))
          (cmpi .slt (bitcastToInt (F := Bits) (φ := .f32) A) (broadcastInDim S8192x16384 ![] Cert.Pre_admissible.Facts.bcast_S_S8192x16384 (constantI S_ 32 33554432#32))))
        Cert.Pre_admissible.Facts.natLt_1_32) (constantI S_ 32 0#32) Cert.Pre_admissible.Facts.reducesTo_S8192x16384_S8192_d1 Cert.Pre_admissible.Facts.h_S_ x).toNat
        = Nat.count (fun n => 2 ≤ (ata A (x 0).val n).toNat ∧ (ata A (x 0).val n).toNat < 2 ^ 25) 16384 := by
      refine row_count _ _ _ _ x _ fun q => ?_
      rw [← ij_row A x q]
      exact tiny_mark _
    have hcl : cge (ata A (x 0).val) 0 ≤ 16384 := Nat.count_le _
    have hti := Nat.count_le (fun n => 2 ≤ (ata A (x 0).val n).toNat ∧ (ata A (x 0).val n).toNat < 2 ^ 25) (n := 16384)
    rcases or_one hc with hc | hc
    · refine Or.inl ?_
      rw [← hclear]
      exact many hc
    · refine Or.inr ?_
      rw [← hclear, ← htiny]
      rw [← hclear] at hcl
      rw [← htiny] at hti
      exact sum_lt hcl hti hc

end Cert.Topk
end
-- ==== Proof.Agree.lean ====
/-
  The two programs side by side: on an admissible array the thresholds that the kernel leaves are the ones that the reference returns.
-/
module

public import proofs.«01_k».proof.Proof.Run
public import proofs.«01_k».proof.Proof.Rank
public import proofs.«01_k».proof.Proof.Admit
public import proofs.«01_k».proof.Defs
public import Idealize.ShloMosaic.Lib.Quiescent

@[expose] public section

noncomputable section

namespace Cert.Topk

open Idealize.ShloMosaic Idealize.SL.Sem
open Cert.Threshold (S8192x16384 S8192)

/-- Row by row, the kernel's threshold is the reference's. -/
theorem res_eq [Cert.Pre_admissible.Facts] {A : S8192x16384.Idx → BitVec 32} (h : Cert.Pre_admissible.fn (F := Bits) A = fun _ => 1#1)
    {g : S8192.Idx → BitVec 32} (hg : Res A g) : g = refOut A := by
  funext x
  obtain ⟨hw, hc⟩ := admit_at h x
  obtain ⟨R, hR, he⟩ := thrW_spec hw hc
  obtain ⟨t, ht, hr⟩ := refOut_at A x
  rw [at1_of_val g x rfl, hg _ (x 0).isLt, he, hr, Kth.unique hR ht]

theorem run_threshold (m : (ℓ : Loc Cert.Threshold.nD Cert.Threshold.τ Cert.Threshold.sig) → Buf (Elt Bits) ℓ) (g : Dev Cert.Threshold.nD → PrngReg) :
    θ_run (Cert.Threshold.defs (F := Bits)) (onTc (τ := Cert.Threshold.τ) (Cert.Threshold.main (F := Bits))) ⟨m, fun _ => 0, g⟩
      (fun r => (∀ c : Dev Cert.Threshold.nD,
        r.2.mem ((c.tc : Thread Cert.Threshold.nD Cert.Threshold.τ).loc Cert.Threshold.main_arg0)
          = m ((c.tc : Thread Cert.Threshold.nD Cert.Threshold.τ).loc Cert.Threshold.main_arg0)) ∧ r.2.sem = fun _ => 0) :=
  (θ_run _ _ _).mono (fun r h => ⟨fun c => (h c).2, sem_eq_zero_of_no_sems rfl r.2⟩) (Cert.Threshold.Value.run m g)

end Cert.Topk
end
-- ==== Proof.EncValue.lean ====
/-
  The encoder: every point of its grid writes a block of one array, the pre-activations that the reference computes; the blocks cover the array.
-/
module

public import proofs.«01_k».proof.Proof.Gen.EncodeIdeal.Value
public import proofs.«01_k».proof.Proof.Gen.EncodedIdeal.Read
public import Idealize.ShloMosaic.Lib.MatmulPlain
public import Idealize.ShloMosaic.Lib.ValueIdx
public import Idealize.ShloMosaic.Lib.ValueLayout

@[expose] public section

noncomputable section

namespace Cert.Enc

open Cert.EncodeIdeal Cert.EncodeIdeal.Gen Idealize.ShloMosaic Idealize.ShloMosaic.TcCoe Idealize.SL.Sem Idealize.ShloMosaic.ValueIdx

/-- An entry of the pre-activations: the row of `x`, less the bias taken off before, times the row of the weights, plus the bias. -/
def entry (x : S8192x768.Idx → Ideal .f32) (b : S768.Idx → Ideal .f32) (w : S16384x768.Idx → Ideal .f32) (e : S16384.Idx → Ideal .f32)
    (r : Fin 8192) (n : Fin 16384) : Ideal .f32 :=
  (∑ k : Fin 768, (x (ix2 r k) - b (ix1 k)) * w (ix2 n k)) + e (ix1 n)

/-- The array of them. -/
def pre (x : S8192x768.Idx → Ideal .f32) (b : S768.Idx → Ideal .f32) (w : S16384x768.Idx → Ideal .f32) (e : S16384.Idx → Ideal .f32) :
    S8192x16384.Idx → Ideal .f32 := fun i => entry x b w e (i 0) (i 1)

/-! ## The reference -/

theorem ref_eq (x : S8192x768.Idx → Ideal .f32) (b : S768.Idx → Ideal .f32) (w : S16384x768.Idx → Ideal .f32) (e : S16384.Idx → Ideal .f32) :
    Cert.EncodedIdeal.Read.val_main_v7 (F := Ideal) x b w e = pre x b w e := by
  funext i
  unfold pre entry
  rw [Cert.EncodedIdeal.Read.val_main_v7_apply, Cert.EncodedIdeal.Read.val_main_v4_apply, Cert.EncodedIdeal.Read.val_main_v6_apply,
    Cert.EncodedIdeal.Read.val_main_v5_apply]
  refine congrArg₂ (· + ·) (Finset.sum_congr rfl fun k _ => ?_) (congrArg e (eq_ix1 _))
  rw [Cert.EncodedIdeal.Read.val_main_v2_apply, Cert.EncodedIdeal.Read.val_main_v1_apply, Cert.EncodedIdeal.Read.val_main_v0_apply,
    Cert.EncodedIdeal.Read.val_main_v3_apply]
  exact congrArg₂ (· * ·) (congrArg₂ (· - ·) (congrArg x (eq_ix2 _)) (congrArg b (eq_ix1 _))) (congrArg w (eq_ix2 _))

/-! ## A block -/

/-- What the body stores, read at an index of the block. -/
theorem pay_apply (v0 : Vec Ideal S1024x768 .f32) (v1 : Vec Ideal S768 .f32) (v5 : Vec Ideal S2048x768 .f32) (v7 : Vec Ideal S2048 .f32)
    (r : Fin 1024) (n : Fin 2048) :
    k0_pay1 v0 v1 v5 v7 (ix2 r n) = (∑ k : Fin 768, (v0 (ix2 r k) - v1 (ix1 k)) * v5 (ix2 n k)) + v7 (ix1 n) := by
  unfold k0_pay1
  rw [addf_apply, broadcastTo_1b_ab_apply, shapeCast_a_1a_apply]
  refine congrArg (· + v7 (ix1 n)) ?_
  refine (Ideal.matmul_transposedRhs_apply (M := 1024) (K := 768) (N := 2048) none _ v5 _ r n).trans ?_
  rw [constant_apply, Ideal.ofBits_zero_f32, zero_add]
  refine Finset.sum_congr rfl fun k _ => ?_
  rw [subf_apply, broadcastTo_1b_ab_apply, shapeCast_a_1a_apply]

theorem hz1 : (![0] : Fin 1 → Nat) = fun _ => 0 := funext fun a => by fin_cases a; rfl
theorem hz2 : (![0, 0] : Fin 2 → Nat) = fun _ => 0 := funext fun a => by fin_cases a <;> rfl

theorem out_eq (x0 : Vec Ideal S1024x768 .f32) (x1 : Vec Ideal S768 .f32) (x2 : Vec Ideal S2048x768 .f32) (x3 : Vec Ideal S2048 .f32) :
    out0_4 x0 x1 x2 x3 = k0_pay1 x0 x1 x2 x3 := by
  unfold out0_4
  rw [View.canon_unit_zero hz2, View.ld_unit_zero hz2, View.ld_unit_zero hz1, View.ld_unit_zero hz2, View.ld_unit_zero hz1]

/-! ## Where the blocks lie -/

/-- The blocks that a point reads and the block that it writes: rows and columns move together. -/
theorem idx_facts : ∀ t : Fin cfg0.N, win0_0.index t (0 : Fin 2) = win0_4.index t (0 : Fin 2) ∧ win0_0.index t (1 : Fin 2) = 0
    ∧ win0_1.index t (0 : Fin 1) = 0 ∧ win0_2.index t (0 : Fin 2) = win0_4.index t (1 : Fin 2) ∧ win0_2.index t (1 : Fin 2) = 0
    ∧ win0_3.index t (0 : Fin 1) = win0_4.index t (1 : Fin 2) :=
  (by decide +kernel : ∀ t : Fin grid0.N, _)

/-- Every block of the result is some point's. -/
theorem idx_onto : ∀ p q : Fin 8, ∃ t : Fin cfg0.N, win0_4.index t = ![p.val, q.val] :=
  (by decide +kernel : ∀ p q : Fin 8, ∃ t : Fin grid0.N, win0_4.index t = ![p.val, q.val])

theorem mem_blk (t : Fin cfg0.N) (i : S8192x16384.Idx) : i ∈ ((cfg0.win 4).blk t).view.set ↔
    ∀ a : Fin 2, win0_4.index t a * S1024x2048.size a ≤ (i a).val ∧ (i a).val < win0_4.index t a * S1024x2048.size a + S1024x2048.size a := by
  show i ∈ ((View.whole main_v0).slice (win0_4.rect t)).set ↔ _
  rw [View.set_slice_whole, Rect.mem_set_unit]
  exact Iff.rfl

variable (m : (ℓ : Loc nD τ sig) → Buf (Elt Ideal) ℓ) (ρ : Dev nD → PrngReg)

/-- What a point writes back is its block of the array. -/
theorem flushed_eq (c : Dev nD) (t : Fin cfg0.N) : (dats m 0 c).flushed 4 t = ((cfg0.win 4).blk t).view.read (Elt Ideal)
    (pre (V m c main_arg0) (V m c main_arg1) (V m c main_arg2) (V m c main_arg3)) := by
  rw [Cert.EncodeIdeal.Value.flushed4, out_eq]
  obtain ⟨e00, e01, e10, e20, e21, e30⟩ := idx_facts t
  funext (j : S1024x2048.Idx)
  show k0_pay1 (iblk m c 0 t) (iblk m c 1 t) (iblk m c 2 t) (iblk m c 3 t) j
    = pre (V m c main_arg0) (V m c main_arg1) (V m c main_arg2) (V m c main_arg3) (((cfg0.win 4).blk t).view.emb j)
  refine ((congrArg _ (eq_ix2 (n0 := 1024) (n1 := 2048) j)).trans (pay_apply _ _ _ _ (j 0) (j 1))).trans ?_
  unfold pre entry
  refine congrArg₂ (· + ·) (Finset.sum_congr rfl fun k _ => ?_) ?_
  · refine congrArg₂ (· * ·) (congrArg₂ (· - ·) ?_ ?_) ?_
    · show V m c main_arg0 (((cfg0.win 0).blk t).view.emb (ix2 (j 0) k)) = _
      refine congrArg (V m c main_arg0) (funext fun a => Fin.ext ?_)
      match a with
      | ⟨0, _⟩ => show win0_0.index t (0 : Fin 2) * 1024 + 1 * (j 0).val = win0_4.index t (0 : Fin 2) * 1024 + 1 * (j 0).val; rw [e00]
      | ⟨1, _⟩ => show win0_0.index t (1 : Fin 2) * 768 + 1 * k.val = k.val; omega
    · show V m c main_arg1 (((cfg0.win 1).blk t).view.emb (ix1 k)) = _
      refine congrArg (V m c main_arg1) (funext fun a => Fin.ext ?_)
      match a with
      | ⟨0, _⟩ => show win0_1.index t (0 : Fin 1) * 768 + 1 * k.val = k.val; omega
    · show V m c main_arg2 (((cfg0.win 2).blk t).view.emb (ix2 (j 1) k)) = _
      refine congrArg (V m c main_arg2) (funext fun a => Fin.ext ?_)
      match a with
      | ⟨0, _⟩ => show win0_2.index t (0 : Fin 2) * 2048 + 1 * (j 1).val = win0_4.index t (1 : Fin 2) * 2048 + 1 * (j 1).val; rw [e20]
      | ⟨1, _⟩ => show win0_2.index t (1 : Fin 2) * 768 + 1 * k.val = k.val; omega
  · show V m c main_arg3 (((cfg0.win 3).blk t).view.emb (ix1 (j 1))) = _
    refine congrArg (V m c main_arg3) (funext fun a => Fin.ext ?_)
    match a with
    | ⟨0, _⟩ => show win0_3.index t (0 : Fin 1) * 2048 + 1 * (j 1).val = win0_4.index t (1 : Fin 2) * 2048 + 1 * (j 1).val; rw [e30]

theorem covered (i : S8192x16384.Idx) : ∃ t : Fin cfg0.N, (cfg0.win 4).flush t = true ∧ i ∈ ((cfg0.win 4).blk t).view.set := by
  have h0 : (i 0).val < 8192 := (i 0).isLt
  have h1 : (i 1).val < 16384 := (i 1).isLt
  obtain ⟨t, ht⟩ := idx_onto ⟨(i 0).val / 1024, by omega⟩ ⟨(i 1).val / 2048, by omega⟩
  have f0 : win0_4.index t (0 : Fin 2) = (i 0).val / 1024 := congrFun ht 0
  have f1 : win0_4.index t (1 : Fin 2) = (i 1).val / 2048 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

theorem final (c : Dev nD) : (dats m 0 c).arrAt 4 cfg0.N = pre (m ((c : Thread nD τ).loc main_arg0)) (m ((c : Thread nD τ).loc main_arg1))
    (m ((c : Thread nD τ).loc main_arg2)) (m ((c : Thread nD τ).loc main_arg3)) :=
  ((dats m 0 c).arrAt_eq_of_cover 4 (pre (V m c main_arg0) (V m c main_arg1) (V m c main_arg2) (V m c main_arg3)) (fun t _ => flushed_eq m c t) covered).trans
    (by rw [V_main_arg0, V_main_arg1, V_main_arg2, V_main_arg3])

end Cert.Enc
end
-- ==== Proof.DecBody.lean ====
/-
  The decoder's body: what it leaves in the block of the kept activations, and what it leaves in the block of the sums, which it carries along a row of the grid.
-/
module

public import proofs.«01_k».proof.Proof.Gen.DecodeIdeal.Value
public import Idealize.ShloMosaic.Lib.MatmulPlain
public import Idealize.ShloMosaic.Lib.ValueIdx
public import Idealize.ShloMosaic.Lib.ValueLayout

@[expose] public section

noncomputable section

namespace Cert.Dec

open Cert.DecodeIdeal Cert.DecodeIdeal.Gen Idealize.ShloMosaic Idealize.ShloMosaic.TcCoe Idealize.SL.Sem Idealize.ShloMosaic.ValueIdx

/-- An activation that reaches its row's threshold is kept; another becomes zero. -/
def keep (p q : Ideal .f32) : Ideal .f32 := Scalar.select (FloatOps.cmpf .oge p q) p (FloatOps.ofBits .f32 0x00000000#32)

theorem column_apply (v : S1024x1.Idx → Ideal .f32) (r k : Fin 1024) :
    broadcastTo S1024x1024 v broadcasts_S1024x1_S1024x1024 (ix2 r k) = v (ix2 r 0) :=
  broadcastTo_apply v _ _ _ fun a => match a with
    | ⟨0, _⟩ => by show r.val = if (1024 : Nat) = 1 then 0 else r.val; rw [if_neg (by decide)]
    | ⟨1, _⟩ => by show 0 = if (1 : Nat) = 1 then 0 else k.val; rw [if_pos rfl]

/-- The block of kept activations. -/
theorem kept_apply (v0 : Vec Ideal S1024x1024 .f32) (v1 : Vec Ideal S1024x1 .f32) (r k : Fin 1024) :
    k0_pay1 v0 v1 v0 (ix2 r k) = keep (v0 (ix2 r k)) (v1 (ix2 r 0)) := by
  unfold k0_pay1
  rw [shapeCast_self]
  exact congrArg (keep (v0 (ix2 r k))) (column_apply v1 r k)

/-- The product of that block with a block of the weights. -/
theorem prod_apply (v0 : Vec Ideal S1024x1024 .f32) (v1 : Vec Ideal S1024x1 .f32) (v9 : Vec Ideal S768x1024 .f32) (r : Fin 1024) (n : Fin 768) :
    k0_pay2 v0 v1 v0 v9 (ix2 r n) = ∑ k : Fin 1024, keep (v0 (ix2 r k)) (v1 (ix2 r 0)) * v9 (ix2 n k) := by
  unfold k0_pay2
  refine (Ideal.matmul_transposedRhs_apply (M := 1024) (K := 1024) (N := 768) none _ v9 _ r n).trans ?_
  rw [constant_apply, Ideal.ofBits_zero_f32, zero_add]
  exact Finset.sum_congr rfl fun k _ => congrArg (· * v9 (ix2 n k)) (kept_apply v0 v1 r k)

/-- At the start of a row the block of sums is the product and the bias. -/
theorem first_apply (v0 : Vec Ideal S1024x1024 .f32) (v1 : Vec Ideal S1024x1 .f32) (v9 : Vec Ideal S768x1024 .f32) (v17 : Vec Ideal S768 .f32)
    (r : Fin 1024) (n : Fin 768) :
    k0_pay3 v0 v1 v0 v9 v17 (ix2 r n) = (∑ k : Fin 1024, keep (v0 (ix2 r k)) (v1 (ix2 r 0)) * v9 (ix2 n k)) + v17 (ix1 n) := by
  unfold k0_pay3
  rw [addf_apply, broadcastTo_1b_ab_apply, shapeCast_a_1a_apply, prod_apply]

/-- Further on the product is added to what is there. -/
theorem next_apply (v0 : Vec Ideal S1024x1024 .f32) (v1 : Vec Ideal S1024x1 .f32) (v9 : Vec Ideal S768x1024 .f32) (v17 : Vec Ideal S1024x768 .f32)
    (r : Fin 1024) (n : Fin 768) :
    k0_pay4 v0 v1 v0 v9 v17 (ix2 r n) = v17 (ix2 r n) + ∑ k : Fin 1024, keep (v0 (ix2 r k)) (v1 (ix2 r 0)) * v9 (ix2 n k) := by
  unfold k0_pay4
  rw [addf_apply, shapeCast_self, prod_apply]

/-! ## What the two cases leave -/

theorem hz1 : (![0] : Fin 1 → Nat) = fun _ => 0 := funext fun a => by fin_cases a; rfl
theorem hz2 : (![0, 0] : Fin 2 → Nat) = fun _ => 0 := funext fun a => by fin_cases a <;> rfl

section Cases

variable (c : Dev nD) (i : grid0.Coords) (a2 : Memref sig .tc .vmem S1024x1024 .f32) (h2 : a2.IsWhole) (a3 : Memref sig .tc .vmem S1024x1 .f32) (h3 : a3.IsWhole)
  (a4 : Memref sig .tc .vmem S768x1024 .f32) (h4 : a4.IsWhole) (a5 : Memref sig .tc .vmem S768 .f32) (h5 : a5.IsWhole)
  (a6 : Memref sig .tc .vmem S1024x768 .f32) (h6 : a6.IsWhole) (a7 : Memref sig .tc .vmem S1024x1024 .f32) (h7 : a7.IsWhole)
  (x0 : Vec Ideal S1024x1024 .f32) (x1 : Vec Ideal S1024x1 .f32) (x2 : Vec Ideal S768x1024 .f32) (x3 : Vec Ideal S768 .f32) (xo : Vec Ideal S1024x768 .f32)

theorem sums_first (hc0 : cond0_0 i) (hc1 : ¬cond0_1 i) :
    out0_A_4 c i a2 h2 a3 h3 a4 h4 a5 h5 a6 h6 a7 h7 hc0 hc1 x0 x1 x2 x3 = k0_pay3 x0 x1 x0 x2 x3 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  rw [View.canon_unit_zero hz2]
  simp only [View.readAt_eq_ld, h2.read_unread, h3.read_unread, h4.read_unread, h5.read_unread, View.ld_unit_zero (S := S1024x1024) hz2, View.ld_unit_zero (S := S1024x1) hz2,
    View.ld_unit_zero (S := S768x1024) hz2, View.ld_unit_zero (S := S768) hz1]

theorem sums_next (hc0 : ¬cond0_0 i) (hc1 : cond0_1 i) :
    out0_B_4 c i a2 h2 a3 h3 a4 h4 a5 h5 a6 h6 a7 h7 hc0 hc1 x0 x1 x2 x3 xo = k0_pay4 x0 x1 x0 x2 xo := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  rw [View.canon_unit_zero hz2]
  simp only [View.readAt_eq_ld, h2.read_unread, h3.read_unread, h4.read_unread, h6.read_unread, View.ld_unit_zero (S := S1024x1024) hz2, View.ld_unit_zero (S := S1024x1) hz2,
    View.ld_unit_zero (S := S768x1024) hz2, View.ld_unit_zero (S := S1024x768) hz2]

theorem kept_first (hc0 : cond0_0 i) (hc1 : ¬cond0_1 i) :
    out0_A_5 c i a2 h2 a3 h3 a4 h4 a5 h5 a6 h6 a7 h7 hc0 hc1 x0 x1 x2 x3 = k0_pay1 x0 x1 x0 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  rw [View.canon_unit_zero hz2]
  simp only [View.readAt_eq_ld, h2.read_unread, h3.read_unread, View.ld_unit_zero (S := S1024x1024) hz2, View.ld_unit_zero (S := S1024x1) hz2]

theorem kept_next (hc0 : ¬cond0_0 i) (hc1 : cond0_1 i) :
    out0_B_5 c i a2 h2 a3 h3 a4 h4 a5 h5 a6 h6 a7 h7 hc0 hc1 x0 x1 x2 x3 xo = k0_pay1 x0 x1 x0 := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  rw [View.canon_unit_zero hz2]
  simp only [View.readAt_eq_ld, h2.read_unread, h3.read_unread, View.ld_unit_zero (S := S1024x1024) hz2, View.ld_unit_zero (S := S1024x1) hz2]

end Cases

end Cert.Dec
end
-- ==== Proof.DecValue.lean ====
/-
  The decoder: along a row of the grid the block of sums gathers the products of the column blocks, so that at the row's end it holds the whole sums that the
  reference computes; the kept activations are written block by block.
-/
module

public import proofs.«01_k».proof.Proof.DecBody
public import proofs.«01_k».proof.Proof.Gen.DecodedIdeal.Read

@[expose] public section

noncomputable section

namespace Cert.Dec

open Cert.DecodeIdeal Cert.DecodeIdeal.Gen Idealize.ShloMosaic Idealize.ShloMosaic.TcCoe Idealize.SL.Sem Idealize.ShloMosaic.ValueIdx

/-- The kept activations. -/
def kept (a : S8192x16384.Idx → Ideal .f32) (q : S8192.Idx → Ideal .f32) : S8192x16384.Idx → Ideal .f32 := fun i => keep (a i) (q (ix1 (i 0)))

/-- A term of the sum for a row and a column of the reconstruction, its place given by a number. -/
def term (a : S8192x16384.Idx → Ideal .f32) (q : S8192.Idx → Ideal .f32) (w : S768x16384.Idx → Ideal .f32) (r : Fin 8192) (n : Fin 768) (k : ℕ) : Ideal .f32 :=
  if h : k < 16384 then keep (a (ix2 r ⟨k, h⟩)) (q (ix1 r)) * w (ix2 n ⟨k, h⟩) else 0

/-- The reconstruction: the sums of the terms, and the bias. -/
def recon (a : S8192x16384.Idx → Ideal .f32) (q : S8192.Idx → Ideal .f32) (w : S768x16384.Idx → Ideal .f32) (d : S768.Idx → Ideal .f32) :
    S8192x768.Idx → Ideal .f32 := fun i => (∑ k ∈ Finset.range 16384, term a q w (i 0) (i 1) k) + d (ix1 (i 1))

/-! ## The reference -/

theorem ref_kept (a : S8192x16384.Idx → Ideal .f32) (q : S8192.Idx → Ideal .f32) : Cert.DecodedIdeal.Read.val_main_v3 (F := Ideal) a q = kept a q := by
  funext i
  unfold kept
  rw [Cert.DecodedIdeal.Read.val_main_v3_apply, Cert.DecodedIdeal.Read.val_main_v2_apply, Cert.DecodedIdeal.Read.val_main_v1_apply,
    Cert.DecodedIdeal.Read.val_main_v0_apply, Cert.DecodedIdeal.Read.val_main_call0_v1_apply, Cert.DecodedIdeal.Read.val_main_call0_v0_apply,
    Cert.DecodedIdeal.Read.val_main_cst_apply]
  exact congrArg (fun j => keep (a i) (q j)) (eq_ix1 _)

theorem ref_recon (a : S8192x16384.Idx → Ideal .f32) (q : S8192.Idx → Ideal .f32) (w : S768x16384.Idx → Ideal .f32) (d : S768.Idx → Ideal .f32) :
    Cert.DecodedIdeal.Read.val_main_v8 (F := Ideal) a q w d = recon a q w d := by
  funext i
  unfold recon
  rw [Cert.DecodedIdeal.Read.val_main_v8_apply, Cert.DecodedIdeal.Read.val_main_v5_apply, Cert.DecodedIdeal.Read.val_main_v7_apply,
    Cert.DecodedIdeal.Read.val_main_v6_apply, Finset.sum_range]
  refine congrArg₂ (· + ·) (Finset.sum_congr rfl fun k _ => ?_) (congrArg d (eq_ix1 _))
  rw [Cert.DecodedIdeal.Read.val_main_v4_apply, ref_kept]
  unfold term
  rw [dif_pos k.isLt]
  exact congrArg₂ (· * ·) (congrArg (kept a q) (eq_ix2 _)) (congrArg w (eq_ix2 _))

/-! ## Where the blocks lie -/

/-- The block that each window has at a point: the grid goes along a row of the blocks before it goes to the next. -/
theorem idx_facts : ∀ t : Fin cfg0.N, (win0_0.index t (0 : Fin 2) = t.val / 16 ∧ win0_0.index t (1 : Fin 2) = t.val % 16)
    ∧ (win0_1.index t (0 : Fin 2) = t.val / 16 ∧ win0_1.index t (1 : Fin 2) = 0) ∧ (win0_2.index t (0 : Fin 2) = 0 ∧ win0_2.index t (1 : Fin 2) = t.val % 16)
    ∧ win0_3.index t (0 : Fin 1) = 0 ∧ (win0_4.index t (0 : Fin 2) = t.val / 16 ∧ win0_4.index t (1 : Fin 2) = 0)
    ∧ win0_5.index t (0 : Fin 2) = t.val / 16 ∧ win0_5.index t (1 : Fin 2) = t.val % 16 :=
  (by decide +kernel : ∀ t : Fin grid0.N, _)

theorem points (t : Fin cfg0.N) : t.val < 128 := Nat.lt_of_lt_of_eq t.isLt N_0

/-- The row of the arrays that a row of a point's blocks is. -/
def row (t : Fin cfg0.N) (r : Fin 1024) : Fin 8192 := ⟨t.val / 16 * 1024 + r.val, by have := points t; omega⟩

/-- The column of the activations that a column of a point's block is. -/
def col (t : Fin cfg0.N) (k : Fin 1024) : Fin 16384 := ⟨t.val % 16 * 1024 + k.val, by omega⟩

variable (m : (ℓ : Loc nD τ sig) → Buf (Elt Ideal) ℓ) (ρ : Dev nD → PrngReg) (c : Dev nD)

/-- The thresholds reach the body as a column. -/
theorem V_thr (r : Fin 8192) : (V m c main_v0 : S8192x1.Idx → Ideal .f32) (ix2 r 0) = m ((c : Thread nD τ).loc main_arg1) (ix1 r) := by
  have e : (V m c main_v0 : S8192x1.Idx → Ideal .f32) = shapeCast S8192x1 (m ((c : Thread nD τ).loc main_arg1)) shapeCasts_S8192_S8192x1 := by
    show StableHlo.after hostOps0 (fun b => m (c, b)) (Proc.devRef .tc main_v0) = _
    rw [StableHlo.after_cons, StableHlo.after_nil, StableHlo.reshape_result]
    rfl
  rw [e]
  refine shapeCast_apply (s := S8192) (t := S8192x1) _ shapeCasts_S8192_S8192x1 (ix2 r 0) (ix1 r) ?_
  rw [Shape.rowMajor_val_two, Shape.rowMajor_val_one]
  show r.val = r.val * 1 + 0
  omega

theorem act_at (t : Fin cfg0.N) (r k : Fin 1024) : (iblk m c 0 t : S1024x1024.Idx → Ideal .f32) (ix2 r k) = m ((c : Thread nD τ).loc main_arg0) (ix2 (row t r) (col t k)) := by
  obtain ⟨⟨e0, e1⟩, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 1024 + 1 * r.val = t.val / 16 * 1024 + r.val; omega
  | ⟨1, _⟩ => show win0_0.index t (1 : Fin 2) * 1024 + 1 * k.val = t.val % 16 * 1024 + k.val; omega

theorem thr_at (t : Fin cfg0.N) (r : Fin 1024) : (iblk m c 1 t : S1024x1.Idx → Ideal .f32) (ix2 r 0) = m ((c : Thread nD τ).loc main_arg1) (ix1 (row t r)) := by
  obtain ⟨-, ⟨e0, e1⟩, -⟩ := idx_facts t
  refine Eq.trans ?_ (V_thr m c (row t r))
  show V m c main_v0 (((cfg0.win 1).blk t).view.emb (ix2 r 0)) = _
  refine congrArg (V m c main_v0) (funext fun a => Fin.ext ?_)
  match a with
  | ⟨0, _⟩ => show win0_1.index t (0 : Fin 2) * 1024 + 1 * r.val = t.val / 16 * 1024 + r.val; omega
  | ⟨1, _⟩ => show win0_1.index t (1 : Fin 2) * 1 + 1 * 0 = 0; omega

theorem wgt_at (t : Fin cfg0.N) (n : Fin 768) (k : Fin 1024) :
    (iblk m c 2 t : S768x1024.Idx → Ideal .f32) (ix2 n k) = m ((c : Thread nD τ).loc main_arg2) (ix2 n (col t k)) := by
  obtain ⟨-, -, ⟨e0, e1⟩, -⟩ := idx_facts t
  show V m c main_arg2 (((cfg0.win 2).blk t).view.emb (ix2 n k)) = _
  rw [V_main_arg2]
  refine congrArg (m ((c : Thread nD τ).loc main_arg2)) (funext fun a => Fin.ext ?_)
  match a with
  | ⟨0, _⟩ => show win0_2.index t (0 : Fin 2) * 768 + 1 * n.val = n.val; omega
  | ⟨1, _⟩ => show win0_2.index t (1 : Fin 2) * 1024 + 1 * k.val = t.val % 16 * 1024 + k.val; omega

theorem bias_at (t : Fin cfg0.N) (n : Fin 768) : (iblk m c 3 t : S768.Idx → Ideal .f32) (ix1 n) = m ((c : Thread nD τ).loc main_arg3) (ix1 n) := by
  obtain ⟨-, -, -, e0, -⟩ := idx_facts t
  show V m c main_arg3 (((cfg0.win 3).blk t).view.emb (ix1 n)) = _
  rw [V_main_arg3]
  refine congrArg (m ((c : Thread nD τ).loc main_arg3)) (funext fun a => Fin.ext ?_)
  match a with
  | ⟨0, _⟩ => show win0_3.index t (0 : Fin 1) * 768 + 1 * n.val = n.val; omega

/-! ## The sums along a row of the grid -/

abbrev acts : S8192x16384.Idx → Ideal .f32 := m ((c : Thread nD τ).loc main_arg0)
abbrev thrs : S8192.Idx → Ideal .f32 := m ((c : Thread nD τ).loc main_arg1)
abbrev wgts : S768x16384.Idx → Ideal .f32 := m ((c : Thread nD τ).loc main_arg2)
abbrev bias : S768.Idx → Ideal .f32 := m ((c : Thread nD τ).loc main_arg3)

/-- A point's product is the terms of its column block. -/
theorem prod_at (t : Fin cfg0.N) (r : Fin 1024) (n : Fin 768) :
    (∑ k : Fin 1024, keep ((iblk m c 0 t : S1024x1024.Idx → Ideal .f32) (ix2 r k)) ((iblk m c 1 t : S1024x1.Idx → Ideal .f32) (ix2 r 0))
        * (iblk m c 2 t : S768x1024.Idx → Ideal .f32) (ix2 n k))
      = ∑ k ∈ Finset.range 1024, term (acts m c) (thrs m c) (wgts m c) (row t r) n (t.val % 16 * 1024 + k) := by
  rw [Finset.sum_range]
  refine Finset.sum_congr rfl fun k _ => ?_
  rw [act_at, thr_at, wgt_at]
  unfold term
  rw [dif_pos (show t.val % 16 * 1024 + k.val < 16384 from (col t k).isLt)]
  rfl

theorem left_first (t : Fin cfg0.N) (h0 : t.val % 16 = 0) :
    outsAt0 m c t.val t.isLt = (k0_pay3 (iblk m c 0 t) (iblk m c 1 t) (iblk m c 0 t) (iblk m c 2 t) (iblk m c 3 t), k0_pay1 (iblk m c 0 t) (iblk m c 1 t) (iblk m c 0 t)) := by
  rw [outsAt0_A m c t h0 (by omega), sums_first, kept_first]

theorem left_next (t : Fin cfg0.N) (h0 : ¬t.val % 16 = 0) :
    outsAt0 m c t.val t.isLt = (k0_pay4 (iblk m c 0 t) (iblk m c 1 t) (iblk m c 0 t) (iblk m c 2 t)
      (outsAt0 m c (t.val - 1) (Nat.lt_of_le_of_lt (Nat.sub_le _ _) t.isLt)).1, k0_pay1 (iblk m c 0 t) (iblk m c 1 t) (iblk m c 0 t)) := by
  rw [outsAt0_B m c t h0 (by omega), sums_next, kept_next]

theorem sums_at_first (t : Fin cfg0.N) (h0 : t.val % 16 = 0) (r : Fin 1024) (n : Fin 768) : (outsAt0 m c t.val t.isLt).1 (ix2 r n)
    = (∑ k ∈ Finset.range 1024, term (acts m c) (thrs m c) (wgts m c) (row t r) n (t.val % 16 * 1024 + k)) + bias m c (ix1 n) := by
  rw [left_first m c t h0]
  exact (first_apply _ _ _ _ r n).trans (congrArg₂ (· + ·) (prod_at m c t r n) (bias_at m c t n))

theorem sums_at_next (t : Fin cfg0.N) (h0 : ¬t.val % 16 = 0) (r : Fin 1024) (n : Fin 768) : (outsAt0 m c t.val t.isLt).1 (ix2 r n)
    = (outsAt0 m c (t.val - 1) (Nat.lt_of_le_of_lt (Nat.sub_le _ _) t.isLt)).1 (ix2 r n)
      + ∑ k ∈ Finset.range 1024, term (acts m c) (thrs m c) (wgts m c) (row t r) n (t.val % 16 * 1024 + k) := by
  rw [left_next m c t h0]
  exact (next_apply _ _ _ _ r n).trans (congrArg _ (prod_at m c t r n))

/-- After a point the block holds the terms of the column blocks so far, and the bias. -/
theorem sums_at : ∀ (s : ℕ) (h : s < cfg0.N) (r : Fin 1024) (n : Fin 768), (outsAt0 m c s h).1 (ix2 r n)
    = (∑ k ∈ Finset.range ((s % 16 + 1) * 1024), term (acts m c) (thrs m c) (wgts m c) (row ⟨s, h⟩ r) n k) + bias m c (ix1 n) := by
  intro s
  induction s using Nat.strong_induction_on with
  | _ s ih =>
    intro h r n
    by_cases h0 : s % 16 = 0
    · refine (sums_at_first m c ⟨s, h⟩ h0 r n).trans (congrArg (· + bias m c (ix1 n)) ?_)
      have hk : (s % 16 + 1) * 1024 = 1024 := by omega
      rw [hk]
      refine Finset.sum_congr rfl fun k _ => congrArg _ ?_
      show s % 16 * 1024 + k = k
      omega
    · have hs : s - 1 < cfg0.N := Nat.lt_of_le_of_lt (Nat.sub_le _ _) h
      refine (sums_at_next m c ⟨s, h⟩ h0 r n).trans ?_
      have hr : row ⟨s - 1, hs⟩ r = row ⟨s, h⟩ r := Fin.ext (by show (s - 1) / 16 * 1024 + r.val = s / 16 * 1024 + r.val; omega)
      have hk : (s % 16 + 1) * 1024 = s % 16 * 1024 + 1024 := by omega
      have hp : (s - 1) % 16 + 1 = s % 16 := by omega
      rw [hk, Finset.sum_range_add, add_right_comm]
      refine congrArg (· + _) ((ih (s - 1) (by omega) hs r n).trans ?_)
      rw [hr, hp]

/-! ## The arrays at the end -/

theorem sums_written (t : Fin cfg0.N) (hf : (cfg0.win 4).flush t = true) : (dats m 0 c).flushed 4 t = ((cfg0.win 4).blk t).view.read (Elt Ideal)
    (recon (acts m c) (thrs m c) (wgts m c) (bias m c)) := by
  obtain ⟨-, -, -, -, ⟨e0, e1⟩, -⟩ := idx_facts t
  have h15 := (flush0_4 t).mp hf
  rw [Cert.DecodeIdeal.Value.flushed4]
  funext (j : S1024x768.Idx)
  show (outsAt0 m c t.val t.isLt).1 j = recon (acts m c) (thrs m c) (wgts m c) (bias m c) (((cfg0.win 4).blk t).view.emb j)
  have hj : ((cfg0.win 4).blk t).view.emb j = ix2 (row t (j 0)) (j 1) := funext fun a => Fin.ext (match a with
    | ⟨0, _⟩ => by show win0_4.index t (0 : Fin 2) * 1024 + 1 * (j 0).val = t.val / 16 * 1024 + (j 0).val; omega
    | ⟨1, _⟩ => by show win0_4.index t (1 : Fin 2) * 768 + 1 * (j 1).val = (j 1).val; omega)
  rw [hj]
  refine ((congrArg _ (eq_ix2 (n0 := 1024) (n1 := 768) j)).trans (sums_at m c t.val t.isLt (j 0) (j 1))).trans ?_
  rw [h15]
  rfl

theorem kept_written (t : Fin cfg0.N) : (dats m 0 c).flushed 5 t = ((cfg0.win 5).blk t).view.read (Elt Ideal) (kept (acts m c) (thrs m c)) := by
  obtain ⟨-, -, -, -, -, e0, e1⟩ := idx_facts t
  have hk : (outsAt0 m c t.val t.isLt).2 = k0_pay1 (iblk m c 0 t) (iblk m c 1 t) (iblk m c 0 t) := by
    by_cases h0 : t.val % 16 = 0
    · rw [left_first m c t h0]
    · rw [left_next m c t h0]
  rw [Cert.DecodeIdeal.Value.flushed5, hk]
  funext (j : S1024x1024.Idx)
  show k0_pay1 (iblk m c 0 t) (iblk m c 1 t) (iblk m c 0 t) j = kept (acts m c) (thrs m c) (((cfg0.win 5).blk t).view.emb j)
  have hj : ((cfg0.win 5).blk t).view.emb j = ix2 (row t (j 0)) (col t (j 1)) := funext fun a => Fin.ext (match a with
    | ⟨0, _⟩ => by show win0_5.index t (0 : Fin 2) * 1024 + 1 * (j 0).val = t.val / 16 * 1024 + (j 0).val; omega
    | ⟨1, _⟩ => by show win0_5.index t (1 : Fin 2) * 1024 + 1 * (j 1).val = t.val % 16 * 1024 + (j 1).val; omega)
  rw [hj]
  refine ((congrArg _ (eq_ix2 (n0 := 1024) (n1 := 1024) j)).trans (kept_apply _ _ (j 0) (j 1))).trans ?_
  exact congrArg₂ keep (act_at m c t (j 0) (j 1)) (thr_at m c t (j 0))

theorem mem_sums (t : Fin cfg0.N) (i : S8192x768.Idx) : i ∈ ((cfg0.win 4).blk t).view.set ↔
    ∀ a : Fin 2, win0_4.index t a * S1024x768.size a ≤ (i a).val ∧ (i a).val < win0_4.index t a * S1024x768.size a + S1024x768.size a := by
  show i ∈ ((View.whole main_v1_0).slice (win0_4.rect t)).set ↔ _
  rw [View.set_slice_whole, Rect.mem_set_unit]
  exact Iff.rfl

theorem mem_kept (t : Fin cfg0.N) (i : S8192x16384.Idx) : i ∈ ((cfg0.win 5).blk t).view.set ↔
    ∀ a : Fin 2, win0_5.index t a * S1024x1024.size a ≤ (i a).val ∧ (i a).val < win0_5.index t a * S1024x1024.size a + S1024x1024.size a := by
  show i ∈ ((View.whole main_v1_1).slice (win0_5.rect t)).set ↔ _
  rw [View.set_slice_whole, Rect.mem_set_unit]
  exact Iff.rfl

theorem sums_covered (i : S8192x768.Idx) : ∃ t : Fin cfg0.N, (cfg0.win 4).flush t = true ∧ i ∈ ((cfg0.win 4).blk t).view.set := by
  have h0 : (i 0).val < 8192 := (i 0).isLt
  have h1 : (i 1).val < 768 := (i 1).isLt
  have hN : cfg0.N = 128 := N_0
  refine ⟨⟨(i 0).val / 1024 * 16 + 15, by omega⟩, (flush0_4 _).mpr (by dsimp only; omega), ?_⟩
  obtain ⟨-, -, -, -, ⟨e0, e1⟩, -⟩ := idx_facts ⟨(i 0).val / 1024 * 16 + 15, by omega⟩
  rw [mem_sums]
  intro a
  match a with
  | ⟨0, _⟩ => show win0_4.index _ (0 : Fin 2) * 1024 ≤ (i 0).val ∧ (i 0).val < win0_4.index _ (0 : Fin 2) * 1024 + 1024; dsimp only at e0; omega
  | ⟨1, _⟩ => show win0_4.index _ (1 : Fin 2) * 768 ≤ (i 1).val ∧ (i 1).val < win0_4.index _ (1 : Fin 2) * 768 + 768; omega

theorem kept_covered (i : S8192x16384.Idx) : ∃ t : Fin cfg0.N, (cfg0.win 5).flush t = true ∧ i ∈ ((cfg0.win 5).blk t).view.set := by
  have h0 : (i 0).val < 8192 := (i 0).isLt
  have h1 : (i 1).val < 16384 := (i 1).isLt
  have hN : cfg0.N = 128 := N_0
  refine ⟨⟨(i 0).val / 1024 * 16 + (i 1).val / 1024, by omega⟩, flush0_5 _, ?_⟩
  obtain ⟨-, -, -, -, -, e0, e1⟩ := idx_facts ⟨(i 0).val / 1024 * 16 + (i 1).val / 1024, by omega⟩
  rw [mem_kept]
  intro a
  match a with
  | ⟨0, _⟩ => show win0_5.index _ (0 : Fin 2) * 1024 ≤ (i 0).val ∧ (i 0).val < win0_5.index _ (0 : Fin 2) * 1024 + 1024; dsimp only at e0; omega
  | ⟨1, _⟩ => show win0_5.index _ (1 : Fin 2) * 1024 ≤ (i 1).val ∧ (i 1).val < win0_5.index _ (1 : Fin 2) * 1024 + 1024; dsimp only at e1; omega

theorem final_sums : (dats m 0 c).arrAt 4 cfg0.N = recon (acts m c) (thrs m c) (wgts m c) (bias m c) :=
  (dats m 0 c).arrAt_eq_of_cover 4 _ (fun t hf => sums_written m c t hf) sums_covered

theorem final_kept : (dats m 0 c).arrAt 5 cfg0.N = kept (acts m c) (thrs m c) :=
  (dats m 0 c).arrAt_eq_of_cover 5 _ (fun t _ => kept_written m c t) kept_covered

end Cert.Dec
end
-- ==== Proof.Calls.lean ====
/-
  The encoder and the decoder return, in exact arithmetic, what their references return.
-/
module

public import proofs.«01_k».proof.Defs
public import proofs.«01_k».proof.Proof.EncValue
public import proofs.«01_k».proof.Proof.DecValue
public import proofs.«01_k».proof.Proof.Gen.EncodedIdeal.Run
public import proofs.«01_k».proof.Proof.Gen.DecodedIdeal.Run

@[expose] public section

noncomputable section

namespace Cert.Calls

open Idealize.ShloMosaic Idealize.SL.Sem

theorem encoded_quiescent : Cert.quiescent_EncodedIdeal := fun m g _ =>
  (θ_run _ _ _).mono (fun r h => ⟨fun c => (h c).2, sem_eq_zero_of_no_sems rfl r.2⟩) (Cert.EncodedIdeal.Value.run m g)

theorem decoded_quiescent : Cert.quiescent_DecodedIdeal := fun m g _ =>
  (θ_run _ _ _).mono (fun r h => ⟨fun c => (h c).2.2, sem_eq_zero_of_no_sems rfl r.2⟩) (Cert.DecodedIdeal.Value.run m g)

theorem encode_agrees : Cert.algebraic_EncodeIdeal_EncodedIdeal := fun m g m' g' _ ha =>
  ⟨fun c => Cert.Enc.pre (m ((c.tc : Thread Cert.EncodeIdeal.nD Cert.EncodeIdeal.τ).loc Cert.EncodeIdeal.main_arg0))
      (m ((c.tc : Thread Cert.EncodeIdeal.nD Cert.EncodeIdeal.τ).loc Cert.EncodeIdeal.main_arg1))
      (m ((c.tc : Thread Cert.EncodeIdeal.nD Cert.EncodeIdeal.τ).loc Cert.EncodeIdeal.main_arg2))
      (m ((c.tc : Thread Cert.EncodeIdeal.nD Cert.EncodeIdeal.τ).loc Cert.EncodeIdeal.main_arg3)),
    (θ_run _ _ _).mono (fun _ h c => ⟨(h c).1.trans (Cert.Enc.final m c), (h c).2⟩) (Cert.EncodeIdeal.Value.run_blocks m g),
    (θ_run _ _ _).mono (fun _ h c => ⟨(h c).1.trans (by
      rw [(ha c).1, (ha c).2.1, (ha c).2.2.1, (ha c).2.2.2]
      exact (Cert.EncodedIdeal.Read.val_main_v7_eq ..).trans (Cert.Enc.ref_eq ..)), (h c).2⟩) (Cert.EncodedIdeal.Value.run m' g')⟩

theorem decode_agrees : Cert.algebraic_DecodeIdeal_DecodedIdeal := fun m g m' g' _ ha =>
  ⟨fun c => Cert.Dec.recon (Cert.Dec.acts m c) (Cert.Dec.thrs m c) (Cert.Dec.wgts m c) (Cert.Dec.bias m c),
    fun c => Cert.Dec.kept (Cert.Dec.acts m c) (Cert.Dec.thrs m c),
    (θ_run _ _ _).mono (fun _ h c => ⟨(h c).1.trans (Cert.Dec.final_sums m c), (h c).2.1.trans (Cert.Dec.final_kept m c), (h c).2.2⟩)
      (Cert.DecodeIdeal.Value.run_blocks m g),
    (θ_run _ _ _).mono (fun _ h c => ⟨(h c).1.trans (by
        rw [(ha c).1, (ha c).2.1, (ha c).2.2.1, (ha c).2.2.2]
        exact (Cert.DecodedIdeal.Read.val_main_v8_eq ..).trans (Cert.Dec.ref_recon ..)),
      (h c).2.1.trans (by
        rw [(ha c).1, (ha c).2.1]
        exact (Cert.DecodedIdeal.Read.val_main_v3_eq ..).trans (Cert.Dec.ref_kept ..)), (h c).2.2⟩) (Cert.DecodedIdeal.Value.run m' g')⟩

end Cert.Calls
end
-- ==== Proof.lean ====
module

public import proofs.«01_k».proof.Defs
public import proofs.«01_k».proof.Proof.Gen.Select
public import proofs.«01_k».proof.Proof.Gen.Select.Skeleton
public import proofs.«01_k».proof.Proof.Gen.Threshold
public import proofs.«01_k».proof.Proof.Gen.Threshold.Run
public import proofs.«01_k».proof.Proof.Gen.Pre_admissible
public import proofs.«01_k».proof.Proof.Agree
public import proofs.«01_k».proof.Proof.Calls
public import proofs.«01_k».proof.Proof.Gen.Encode.Frame
public import proofs.«01_k».proof.Proof.Gen.EncodeIdeal.Frame
public import proofs.«01_k».proof.Proof.Gen.EncodeIdeal.Value
public import proofs.«01_k».proof.Proof.Gen.EncodedIdeal.Run
public import proofs.«01_k».proof.Proof.Gen.EncodedIdeal.Read
public import proofs.«01_k».proof.Proof.Gen.Decode.Frame
public import proofs.«01_k».proof.Proof.Gen.DecodeIdeal.Frame
public import proofs.«01_k».proof.Proof.Gen.DecodeIdeal.Value
public import proofs.«01_k».proof.Proof.Gen.DecodedIdeal.Run
public import proofs.«01_k».proof.Proof.Gen.DecodedIdeal.Read
public import Idealize.ShloMosaic.Adequacy
public import Idealize.ShloMosaic.Init

@[expose] public section

noncomputable section

namespace Cert.Proof

open Idealize.ShloMosaic Idealize.SL.Sem Cert.Select

theorem claim : Cert.Claim := ⟨Cert.Select.Gen.facts, Cert.Threshold.Gen.facts, Cert.Encode.Gen.facts, Cert.EncodeIdeal.Gen.facts,
  Cert.EncodedIdeal.Gen.facts, Cert.Decode.Gen.facts, Cert.DecodeIdeal.Gen.facts, Cert.DecodedIdeal.Gen.facts, Cert.Pre_admissible.Gen.facts,
  fun m g _ => (θ_run _ _ _).mono (fun _ h => ⟨fun c => (h.1 c).1, h.2⟩) (Cert.Topk.run_select m g),
  fun m g _ => (θ_run _ _ _).mono (fun _ h => ⟨fun c => (h.1 c).1, h.2⟩) (Cert.Topk.run_select m g),
  fun m g _ => Cert.Topk.run_threshold m g,
  fun m g _ => Cert.Topk.run_threshold m g,
  fun m g _ => Cert.Encode.Gen.frame m g,
  fun m g _ => Cert.EncodeIdeal.Gen.frame m g,
  Cert.Calls.encoded_quiescent,
  fun m g _ => Cert.Decode.Gen.frame m g,
  fun m g _ => Cert.DecodeIdeal.Gen.frame m g,
  Cert.Calls.decoded_quiescent,
  fun m g m' g' hp ha => ⟨fun c => Cert.Topk.refOut (m ((c.tc : Thread nD τ).loc main_arg0)),
    (θ_run _ _ _).mono (fun _ h c => ⟨Cert.Topk.res_eq (hp c) (h.1 c).2, (h.1 c).1⟩) (Cert.Topk.run_select m g),
    (θ_run _ _ _).mono (fun _ h c => ⟨(h c).1.trans (congrArg Cert.Topk.refOut (ha c)), (h c).2⟩) (Cert.Threshold.Value.run m' g')⟩,
  trivial, Cert.Calls.encode_agrees, trivial, Cert.Calls.decode_agrees⟩

end Cert.Proof

end
